-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnIdeal_ffn_finite [hPre_ffn_finite : Cert.Pre_ffn_finite.Facts] (m : (ℓ : Loc Cert.FfnIdeal.nD Cert.FfnIdeal.τ Cert.FfnIdeal.sig) → Buf (Elt Ideal) ℓ) : Prop :=
  ∀ c : Dev Cert.FfnIdeal.nD,
    (Cert.Pre_ffn_finite.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5))) = (fun _ => 1#1)

def Pre_FfnReferenceIdeal (m : (ℓ : Loc Cert.FfnReferenceIdeal.nD Cert.FfnReferenceIdeal.τ Cert.FfnReferenceIdeal.sig) → Buf (Elt Ideal) ℓ) : Prop :=
  True

def Pre_FfnReferenceIdeal_ffn_finite [hPre_ffn_finite : Cert.Pre_ffn_finite.Facts] (m : (ℓ : Loc Cert.FfnReferenceIdeal.nD Cert.FfnReferenceIdeal.τ Cert.FfnReferenceIdeal.sig) → Buf (Elt Ideal) ℓ) : Prop :=
  ∀ c : Dev Cert.FfnReferenceIdeal.nD,
    (Cert.Pre_ffn_finite.fn (F := Ideal) (m ((c.tc : Thread Cert.FfnReferenceIdeal.nD Cert.FfnReferenceIdeal.τ).loc Cert.FfnReferenceIdeal.main_arg0)) (m ((c.tc : Thread Cert.FfnReferenceIdeal.nD Cert.FfnReferenceIdeal.τ).loc Cert.FfnReferenceIdeal.main_arg1)) (m ((c.tc : Thread Cert.FfnReferenceIdeal.nD Cert.FfnReferenceIdeal.τ).loc Cert.FfnReferenceIdeal.main_arg2)) (m ((c.tc : Thread Cert.FfnReferenceIdeal.nD Cert.FfnReferenceIdeal.τ).loc Cert.FfnReferenceIdeal.main_arg3)) (m ((c.tc : Thread Cert.FfnReferenceIdeal.nD Cert.FfnReferenceIdeal.τ).loc Cert.FfnReferenceIdeal.main_arg4)) (m ((c.tc : Thread Cert.FfnReferenceIdeal.nD Cert.FfnReferenceIdeal.τ).loc Cert.FfnReferenceIdeal.main_arg5))) = (fun _ => 1#1)

def Pre_GateUp (m : (ℓ : Loc Cert.GateUp.nD Cert.GateUp.τ Cert.GateUp.sig) → Buf (Elt Bits) ℓ) : Prop :=
  True

def Pre_GateUpIdeal (m : (ℓ : Loc Cert.GateUpIdeal.nD Cert.GateUpIdeal.τ Cert.GateUpIdeal.sig) → Buf (Elt Ideal) ℓ) : Prop :=
  True

def Pre_GateUpReferenceIdeal (m : (ℓ : Loc Cert.GateUpReferenceIdeal.nD Cert.GateUpReferenceIdeal.τ Cert.GateUpReferenceIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownReferenceIdeal (m : (ℓ : Loc Cert.DownReferenceIdeal.nD Cert.DownReferenceIdeal.τ Cert.DownReferenceIdeal.sig) → Buf (Elt Ideal) ℓ) : Prop :=
  True

def Pre_Square (m : (ℓ : Loc Cert.Square.nD Cert.Square.τ Cert.Square.sig) → Buf (Elt Bits) ℓ) : Prop :=
  True

def Pre_SquareIdeal (m : (ℓ : Loc Cert.SquareIdeal.nD Cert.SquareIdeal.τ Cert.SquareIdeal.sig) → Buf (Elt Ideal) ℓ) : Prop :=
  True

def Pre_SquareReferenceIdeal (m : (ℓ : Loc Cert.SquareReferenceIdeal.nD Cert.SquareReferenceIdeal.τ Cert.SquareReferenceIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeReferenceIdeal (m : (ℓ : Loc Cert.MergeReferenceIdeal.nD Cert.MergeReferenceIdeal.τ Cert.MergeReferenceIdeal.sig) → Buf (Elt Ideal) ℓ) : Prop :=
  True

def Pre_Gating (m : (ℓ : Loc Cert.Gating.nD Cert.Gating.τ Cert.Gating.sig) → Buf (Elt Bits) ℓ) : Prop :=
  True

def Pre_GatingIdeal (m : (ℓ : Loc Cert.GatingIdeal.nD Cert.GatingIdeal.τ Cert.GatingIdeal.sig) → Buf (Elt Ideal) ℓ) : Prop :=
  True

def Pre_GatingReferenceIdeal (m : (ℓ : Loc Cert.GatingReferenceIdeal.nD Cert.GatingReferenceIdeal.τ Cert.GatingReferenceIdeal.sig) → Buf (Elt Ideal) ℓ) : Prop :=
  True

def Pre_AdamIn (m : (ℓ : Loc Cert.AdamIn.nD Cert.AdamIn.τ Cert.AdamIn.sig) → Buf (Elt Bits) ℓ) : Prop :=
  True

def Pre_AdamInIdeal (m : (ℓ : Loc Cert.AdamInIdeal.nD Cert.AdamInIdeal.τ Cert.AdamInIdeal.sig) → Buf (Elt Ideal) ℓ) : Prop :=
  True

def Pre_AdamInReferenceIdeal (m : (ℓ : Loc Cert.AdamInReferenceIdeal.nD Cert.AdamInReferenceIdeal.τ Cert.AdamInReferenceIdeal.sig) → Buf (Elt Ideal) ℓ) : Prop :=
  True

def Pre_ChipGateUp (m : (ℓ : Loc Cert.ChipGateUp.nD Cert.ChipGateUp.τ Cert.ChipGateUp.sig) → Buf (Elt Bits) ℓ) : Prop :=
  True

def Pre_ChipGateUpIdeal (m : (ℓ : Loc Cert.ChipGateUpIdeal.nD Cert.ChipGateUpIdeal.τ Cert.ChipGateUpIdeal.sig) → Buf (Elt Ideal) ℓ) : Prop :=
  True

def Pre_ChipGateUpReferenceIdeal (m : (ℓ : Loc Cert.ChipGateUpReferenceIdeal.nD Cert.ChipGateUpReferenceIdeal.τ Cert.ChipGateUpReferenceIdeal.sig) → Buf (Elt Ideal) ℓ) : Prop :=
  True

def Pre_ChipDown (m : (ℓ : Loc Cert.ChipDown.nD Cert.ChipDown.τ Cert.ChipDown.sig) → Buf (Elt Bits) ℓ) : Prop :=
  True

def Pre_ChipDownIdeal (m : (ℓ : Loc Cert.ChipDownIdeal.nD Cert.ChipDownIdeal.τ Cert.ChipDownIdeal.sig) → Buf (Elt Ideal) ℓ) : Prop :=
  True

def Pre_ChipDownReferenceIdeal (m : (ℓ : Loc Cert.ChipDownReferenceIdeal.nD Cert.ChipDownReferenceIdeal.τ Cert.ChipDownReferenceIdeal.sig) → Buf (Elt Ideal) ℓ) : Prop :=
  True

def Pre_ChipSquares (m : (ℓ : Loc Cert.ChipSquares.nD Cert.ChipSquares.τ Cert.ChipSquares.sig) → Buf (Elt Bits) ℓ) : Prop :=
  True

def Pre_ChipSquaresIdeal (m : (ℓ : Loc Cert.ChipSquaresIdeal.nD Cert.ChipSquaresIdeal.τ Cert.ChipSquaresIdeal.sig) → Buf (Elt Ideal) ℓ) : Prop :=
  True

def Pre_ChipSquaresReferenceIdeal (m : (ℓ : Loc Cert.ChipSquaresReferenceIdeal.nD Cert.ChipSquaresReferenceIdeal.τ Cert.ChipSquaresReferenceIdeal.sig) → Buf (Elt Ideal) ℓ) : Prop :=
  True

def Pre_ChipIn (m : (ℓ : Loc Cert.ChipIn.nD Cert.ChipIn.τ Cert.ChipIn.sig) → Buf (Elt Bits) ℓ) : Prop :=
  True

def Pre_ChipInIdeal (m : (ℓ : Loc Cert.ChipInIdeal.nD Cert.ChipInIdeal.τ Cert.ChipInIdeal.sig) → Buf (Elt Ideal) ℓ) : Prop :=
  True

def Pre_ChipInReferenceIdeal (m : (ℓ : Loc Cert.ChipInReferenceIdeal.nD Cert.ChipInReferenceIdeal.τ Cert.ChipInReferenceIdeal.sig) → Buf (Elt Ideal) ℓ) : Prop :=
  True

def Pre_AdamSquares (m : (ℓ : Loc Cert.AdamSquares.nD Cert.AdamSquares.τ Cert.AdamSquares.sig) → Buf (Elt Bits) ℓ) : Prop :=
  True

def Pre_AdamSquaresIdeal (m : (ℓ : Loc Cert.AdamSquaresIdeal.nD Cert.AdamSquaresIdeal.τ Cert.AdamSquaresIdeal.sig) → Buf (Elt Ideal) ℓ) : Prop :=
  True

def Pre_AdamSquaresReferenceIdeal (m : (ℓ : Loc Cert.AdamSquaresReferenceIdeal.nD Cert.AdamSquaresReferenceIdeal.τ Cert.AdamSquaresReferenceIdeal.sig) → Buf (Elt Ideal) ℓ) : Prop :=
  True

def Pre_PairDown [hPre_placed : Cert.Pre_placed.Facts] (m : (ℓ : Loc Cert.PairDown.nD Cert.PairDown.τ Cert.PairDown.sig) → Buf (Elt Bits) ℓ) : Prop :=
  ∀ c : Dev Cert.PairDown.nD,
    (Cert.Pre_placed.fn (F := Bits) (m ((c.tc : Thread Cert.PairDown.nD Cert.PairDown.τ).loc Cert.PairDown.main_arg0)) (m ((c.tc : Thread Cert.PairDown.nD Cert.PairDown.τ).loc Cert.PairDown.main_arg1)) (m ((c.tc : Thread Cert.PairDown.nD Cert.PairDown.τ).loc Cert.PairDown.main_arg2))) = (fun _ => 1#1)

def Pre_PairDownIdeal [hPre_placed : Cert.Pre_placed.Facts] (m : (ℓ : Loc Cert.PairDownIdeal.nD Cert.PairDownIdeal.τ Cert.PairDownIdeal.sig) → Buf (Elt Ideal) ℓ) : Prop :=
  ∀ c : Dev Cert.PairDownIdeal.nD,
    (Cert.Pre_placed.fn (F := Ideal) (m ((c.tc : Thread Cert.PairDownIdeal.nD Cert.PairDownIdeal.τ).loc Cert.PairDownIdeal.main_arg0)) (m ((c.tc : Thread Cert.PairDownIdeal.nD Cert.PairDownIdeal.τ).loc Cert.PairDownIdeal.main_arg1)) (m ((c.tc : Thread Cert.PairDownIdeal.nD Cert.PairDownIdeal.τ).loc Cert.PairDownIdeal.main_arg2))) = (fun _ => 1#1)

def Pre_PairDownReferenceIdeal (m : (ℓ : Loc Cert.PairDownReferenceIdeal.nD Cert.PairDownReferenceIdeal.τ Cert.PairDownReferenceIdeal.sig) → Buf (Elt Ideal) ℓ) : Prop :=
  True

def Pre_PairDownReferenceIdeal_placed [hPre_placed : Cert.Pre_placed.Facts] (m : (ℓ : Loc Cert.PairDownReferenceIdeal.nD Cert.PairDownReferenceIdeal.τ Cert.PairDownReferenceIdeal.sig) → Buf (Elt Ideal) ℓ) : Prop :=
  ∀ c : Dev Cert.PairDownReferenceIdeal.nD,
    (Cert.Pre_placed.fn (F := Ideal) (m ((c.tc : Thread Cert.PairDownReferenceIdeal.nD Cert.PairDownReferenceIdeal.τ).loc Cert.PairDownReferenceIdeal.main_arg0)) (m ((c.tc : Thread Cert.PairDownReferenceIdeal.nD Cert.PairDownReferenceIdeal.τ).loc Cert.PairDownReferenceIdeal.main_arg1)) (m ((c.tc : Thread Cert.PairDownReferenceIdeal.nD Cert.PairDownReferenceIdeal.τ).loc Cert.PairDownReferenceIdeal.main_arg2))) = (fun _ => 1#1)

def Pre_PairGateUp [hPre_placed_gate_up : Cert.Pre_placed_gate_up.Facts] (m : (ℓ : Loc Cert.PairGateUp.nD Cert.PairGateUp.τ Cert.PairGateUp.sig) → Buf (Elt Bits) ℓ) : Prop :=
  ∀ c : Dev Cert.PairGateUp.nD,
    (Cert.Pre_placed_gate_up.fn (F := Bits) (m ((c.tc : Thread Cert.PairGateUp.nD Cert.PairGateUp.τ).loc Cert.PairGateUp.main_arg0)) (m ((c.tc : Thread Cert.PairGateUp.nD Cert.PairGateUp.τ).loc Cert.PairGateUp.main_arg1)) (m ((c.tc : Thread Cert.PairGateUp.nD Cert.PairGateUp.τ).loc Cert.PairGateUp.main_arg2))) = (fun _ => 1#1)

def Pre_PairGateUpIdeal [hPre_placed_gate_up : Cert.Pre_placed_gate_up.Facts] (m : (ℓ : Loc Cert.PairGateUpIdeal.nD Cert.PairGateUpIdeal.τ Cert.PairGateUpIdeal.sig) → Buf (Elt Ideal) ℓ) : Prop :=
  ∀ c : Dev Cert.PairGateUpIdeal.nD,
    (Cert.Pre_placed_gate_up.fn (F := Ideal) (m ((c.tc : Thread Cert.PairGateUpIdeal.nD Cert.PairGateUpIdeal.τ).loc Cert.PairGateUpIdeal.main_arg0)) (m ((c.tc : Thread Cert.PairGateUpIdeal.nD Cert.PairGateUpIdeal.τ).loc Cert.PairGateUpIdeal.main_arg1)) (m ((c.tc : Thread Cert.PairGateUpIdeal.nD Cert.PairGateUpIdeal.τ).loc Cert.PairGateUpIdeal.main_arg2))) = (fun _ => 1#1)

def Pre_PairGateUpReferenceIdeal (m : (ℓ : Loc Cert.PairGateUpReferenceIdeal.nD Cert.PairGateUpReferenceIdeal.τ Cert.PairGateUpReferenceIdeal.sig) → Buf (Elt Ideal) ℓ) : Prop :=
  True

def Pre_PairGateUpReferenceIdeal_placed_gate_up [hPre_placed_gate_up : Cert.Pre_placed_gate_up.Facts] (m : (ℓ : Loc Cert.PairGateUpReferenceIdeal.nD Cert.PairGateUpReferenceIdeal.τ Cert.PairGateUpReferenceIdeal.sig) → Buf (Elt Ideal) ℓ) : Prop :=
  ∀ c : Dev Cert.PairGateUpReferenceIdeal.nD,
    (Cert.Pre_placed_gate_up.fn (F := Ideal) (m ((c.tc : Thread Cert.PairGateUpReferenceIdeal.nD Cert.PairGateUpReferenceIdeal.τ).loc Cert.PairGateUpReferenceIdeal.main_arg0)) (m ((c.tc : Thread Cert.PairGateUpReferenceIdeal.nD Cert.PairGateUpReferenceIdeal.τ).loc Cert.PairGateUpReferenceIdeal.main_arg1)) (m ((c.tc : Thread Cert.PairGateUpReferenceIdeal.nD Cert.PairGateUpReferenceIdeal.τ).loc Cert.PairGateUpReferenceIdeal.main_arg2))) = (fun _ => 1#1)

def Pre_PairIn [hPre_placed_in : Cert.Pre_placed_in.Facts] (m : (ℓ : Loc Cert.PairIn.nD Cert.PairIn.τ Cert.PairIn.sig) → Buf (Elt Bits) ℓ) : Prop :=
  ∀ c : Dev Cert.PairIn.nD,
    (Cert.Pre_placed_in.fn (F := Bits) (m ((c.tc : Thread Cert.PairIn.nD Cert.PairIn.τ).loc Cert.PairIn.main_arg0)) (m ((c.tc : Thread Cert.PairIn.nD Cert.PairIn.τ).loc Cert.PairIn.main_arg1)) (m ((c.tc : Thread Cert.PairIn.nD Cert.PairIn.τ).loc Cert.PairIn.main_arg2))) = (fun _ => 1#1)

def Pre_PairInIdeal [hPre_placed_in : Cert.Pre_placed_in.Facts] (m : (ℓ : Loc Cert.PairInIdeal.nD Cert.PairInIdeal.τ Cert.PairInIdeal.sig) → Buf (Elt Ideal) ℓ) : Prop :=
  ∀ c : Dev Cert.PairInIdeal.nD,
    (Cert.Pre_placed_in.fn (F := Ideal) (m ((c.tc : Thread Cert.PairInIdeal.nD Cert.PairInIdeal.τ).loc Cert.PairInIdeal.main_arg0)) (m ((c.tc : Thread Cert.PairInIdeal.nD Cert.PairInIdeal.τ).loc Cert.PairInIdeal.main_arg1)) (m ((c.tc : Thread Cert.PairInIdeal.nD Cert.PairInIdeal.τ).loc Cert.PairInIdeal.main_arg2))) = (fun _ => 1#1)

def Pre_PairInReferenceIdeal (m : (ℓ : Loc Cert.PairInReferenceIdeal.nD Cert.PairInReferenceIdeal.τ Cert.PairInReferenceIdeal.sig) → Buf (Elt Ideal) ℓ) : Prop :=
  True

def Pre_PairInReferenceIdeal_placed_in [hPre_placed_in : Cert.Pre_placed_in.Facts] (m : (ℓ : Loc Cert.PairInReferenceIdeal.nD Cert.PairInReferenceIdeal.τ Cert.PairInReferenceIdeal.sig) → Buf (Elt Ideal) ℓ) : Prop :=
  ∀ c : Dev Cert.PairInReferenceIdeal.nD,
    (Cert.Pre_placed_in.fn (F := Ideal) (m ((c.tc : Thread Cert.PairInReferenceIdeal.nD Cert.PairInReferenceIdeal.τ).loc Cert.PairInReferenceIdeal.main_arg0)) (m ((c.tc : Thread Cert.PairInReferenceIdeal.nD Cert.PairInReferenceIdeal.τ).loc Cert.PairInReferenceIdeal.main_arg1)) (m ((c.tc : Thread Cert.PairInReferenceIdeal.nD Cert.PairInReferenceIdeal.τ).loc Cert.PairInReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnIdeal_pre_ffn_finite [hFfnIdeal : Cert.FfnIdeal.Facts] [hPre_ffn_finite : Cert.Pre_ffn_finite.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal_ffn_finite m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4)
      ∧ r.2.mem ((c.tc : Thread Cert.FfnReferenceIdeal.nD Cert.FfnReferenceIdeal.τ).loc Cert.FfnReferenceIdeal.main_arg5) = m ((c.tc : Thread Cert.FfnReferenceIdeal.nD Cert.FfnReferenceIdeal.τ).loc Cert.FfnReferenceIdeal.main_arg5))
      ∧ r.2.sem = fun _ => 0)

def quiescent_FfnReferenceIdeal_pre_ffn_finite [hFfnReferenceIdeal : Cert.FfnReferenceIdeal.Facts] [hPre_ffn_finite : Cert.Pre_ffn_finite.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal_ffn_finite m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4)
      ∧ r.2.mem ((c.tc : Thread Cert.FfnReferenceIdeal.nD Cert.FfnReferenceIdeal.τ).loc Cert.FfnReferenceIdeal.main_arg5) = m ((c.tc : Thread Cert.FfnReferenceIdeal.nD Cert.FfnReferenceIdeal.τ).loc Cert.FfnReferenceIdeal.main_arg5))
      ∧ r.2.sem = fun _ => 0)

def quiescent_GateUp [hGateUp : Cert.GateUp.Facts] : Prop :=
  ∀ (m : (ℓ : Loc Cert.GateUp.nD Cert.GateUp.τ Cert.GateUp.sig) → Buf (Elt Bits) ℓ) (g : Dev Cert.GateUp.nD → PrngReg), Pre_GateUp m →
    θ_run (Cert.GateUp.defs (F := Bits)) (onTc (τ := Cert.GateUp.τ) (Cert.GateUp.main (F := Bits))) ⟨m, fun _ => 0, g⟩ (fun r => (∀ c : Dev Cert.GateUp.nD,
      r.2.mem ((c.tc : Thread Cert.GateUp.nD Cert.GateUp.τ).loc Cert.GateUp.main_arg0) = m ((c.tc : Thread Cert.GateUp.nD Cert.GateUp.τ).loc Cert.GateUp.main_arg0)
      ∧ r.2.mem ((c.tc : Thread Cert.GateUp.nD Cert.GateUp.τ).loc Cert.GateUp.main_arg1) = m ((c.tc : Thread Cert.GateUp.nD Cert.GateUp.τ).loc Cert.GateUp.main_arg1))
      ∧ r.2.sem = fun _ => 0)

def quiescent_GateUpIdeal [hGateUpIdeal : Cert.GateUpIdeal.Facts] : Prop :=
  ∀ (m : (ℓ : Loc Cert.GateUpIdeal.nD Cert.GateUpIdeal.τ Cert.GateUpIdeal.sig) → Buf (Elt Ideal) ℓ) (g : Dev Cert.GateUpIdeal.nD → PrngReg), Pre_GateUpIdeal m →
    θ_run (Cert.GateUpIdeal.defs (F := Ideal)) (onTc (τ := Cert.GateUpIdeal.τ) (Cert.GateUpIdeal.main (F := Ideal))) ⟨m, fun _ => 0, g⟩ (fun r => (∀ c : Dev Cert.GateUpIdeal.nD,
      r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
      ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1))
      ∧ r.2.sem = fun _ => 0)

def quiescent_GateUpReferenceIdeal [hGateUpReferenceIdeal : Cert.GateUpReferenceIdeal.Facts] : Prop :=
  ∀ (m : (ℓ : Loc Cert.GateUpReferenceIdeal.nD Cert.GateUpReferenceIdeal.τ Cert.GateUpReferenceIdeal.sig) → Buf (Elt Ideal) ℓ) (g : Dev Cert.GateUpReferenceIdeal.nD → PrngReg), Pre_GateUpReferenceIdeal m →
    θ_run (Cert.GateUpReferenceIdeal.defs (F := Ideal)) (onTc (τ := Cert.GateUpReferenceIdeal.τ) (Cert.GateUpReferenceIdeal.main (F := Ideal))) ⟨m, fun _ => 0, g⟩ (fun r => (∀ c : Dev Cert.GateUpReferenceIdeal.nD,
      r.2.mem ((c.tc : Thread Cert.GateUpReferenceIdeal.nD Cert.GateUpReferenceIdeal.τ).loc Cert.GateUpReferenceIdeal.main_arg0) = m ((c.tc : Thread Cert.GateUpReferenceIdeal.nD Cert.GateUpReferenceIdeal.τ).loc Cert.GateUpReferenceIdeal.main_arg0)
      ∧ r.2.mem ((c.tc : Thread Cert.GateUpReferenceIdeal.nD Cert.GateUpReferenceIdeal.τ).loc Cert.GateUpReferenceIdeal.main_arg1) = m ((c.tc : Thread Cert.GateUpReferenceIdeal.nD Cert.GateUpReferenceIdeal.τ).loc Cert.GateUpReferenceIdeal.main_arg1))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ r.2.sem = fun _ => 0)

def quiescent_DownReferenceIdeal [hDownReferenceIdeal : Cert.DownReferenceIdeal.Facts] : Prop :=
  ∀ (m : (ℓ : Loc Cert.DownReferenceIdeal.nD Cert.DownReferenceIdeal.τ Cert.DownReferenceIdeal.sig) → Buf (Elt Ideal) ℓ) (g : Dev Cert.DownReferenceIdeal.nD → PrngReg), Pre_DownReferenceIdeal m →
    θ_run (Cert.DownReferenceIdeal.defs (F := Ideal)) (onTc (τ := Cert.DownReferenceIdeal.τ) (Cert.DownReferenceIdeal.main (F := Ideal))) ⟨m, fun _ => 0, g⟩ (fun r => (∀ c : Dev Cert.DownReferenceIdeal.nD,
      r.2.mem ((c.tc : Thread Cert.DownReferenceIdeal.nD Cert.DownReferenceIdeal.τ).loc Cert.DownReferenceIdeal.main_arg0) = m ((c.tc : Thread Cert.DownReferenceIdeal.nD Cert.DownReferenceIdeal.τ).loc Cert.DownReferenceIdeal.main_arg0)
      ∧ r.2.mem ((c.tc : Thread Cert.DownReferenceIdeal.nD Cert.DownReferenceIdeal.τ).loc Cert.DownReferenceIdeal.main_arg1) = m ((c.tc : Thread Cert.DownReferenceIdeal.nD Cert.DownReferenceIdeal.τ).loc Cert.DownReferenceIdeal.main_arg1))
      ∧ r.2.sem = fun _ => 0)

def quiescent_Square [hSquare : Cert.Square.Facts] : Prop :=
  ∀ (m : (ℓ : Loc Cert.Square.nD Cert.Square.τ Cert.Square.sig) → Buf (Elt Bits) ℓ) (g : Dev Cert.Square.nD → PrngReg), Pre_Square m →
    θ_run (Cert.Square.defs (F := Bits)) (onTc (τ := Cert.Square.τ) (Cert.Square.main (F := Bits))) ⟨m, fun _ => 0, g⟩ (fun r => (∀ c : Dev Cert.Square.nD,
      r.2.mem ((c.tc : Thread Cert.Square.nD Cert.Square.τ).loc Cert.Square.main_arg0) = m ((c.tc : Thread Cert.Square.nD Cert.Square.τ).loc Cert.Square.main_arg0)
      ∧ r.2.mem ((c.tc : Thread Cert.Square.nD Cert.Square.τ).loc Cert.Square.main_arg1) = m ((c.tc : Thread Cert.Square.nD Cert.Square.τ).loc Cert.Square.main_arg1))
      ∧ r.2.sem = fun _ => 0)

def quiescent_SquareIdeal [hSquareIdeal : Cert.SquareIdeal.Facts] : Prop :=
  ∀ (m : (ℓ : Loc Cert.SquareIdeal.nD Cert.SquareIdeal.τ Cert.SquareIdeal.sig) → Buf (Elt Ideal) ℓ) (g : Dev Cert.SquareIdeal.nD → PrngReg), Pre_SquareIdeal m →
    θ_run (Cert.SquareIdeal.defs (F := Ideal)) (onTc (τ := Cert.SquareIdeal.τ) (Cert.SquareIdeal.main (F := Ideal))) ⟨m, fun _ => 0, g⟩ (fun r => (∀ c : Dev Cert.SquareIdeal.nD,
      r.2.mem ((c.tc : Thread Cert.SquareIdeal.nD Cert.SquareIdeal.τ).loc Cert.SquareIdeal.main_arg0) = m ((c.tc : Thread Cert.SquareIdeal.nD Cert.SquareIdeal.τ).loc Cert.SquareIdeal.main_arg0)
      ∧ r.2.mem ((c.tc : Thread Cert.SquareIdeal.nD Cert.SquareIdeal.τ).loc Cert.SquareIdeal.main_arg1) = m ((c.tc : Thread Cert.SquareIdeal.nD Cert.SquareIdeal.τ).loc Cert.SquareIdeal.main_arg1))
      ∧ r.2.sem = fun _ => 0)

def quiescent_SquareReferenceIdeal [hSquareReferenceIdeal : Cert.SquareReferenceIdeal.Facts] : Prop :=
  ∀ (m : (ℓ : Loc Cert.SquareReferenceIdeal.nD Cert.SquareReferenceIdeal.τ Cert.SquareReferenceIdeal.sig) → Buf (Elt Ideal) ℓ) (g : Dev Cert.SquareReferenceIdeal.nD → PrngReg), Pre_SquareReferenceIdeal m →
    θ_run (Cert.SquareReferenceIdeal.defs (F := Ideal)) (onTc (τ := Cert.SquareReferenceIdeal.τ) (Cert.SquareReferenceIdeal.main (F := Ideal))) ⟨m, fun _ => 0, g⟩ (fun r => (∀ c : Dev Cert.SquareReferenceIdeal.nD,
      r.2.mem ((c.tc : Thread Cert.SquareReferenceIdeal.nD Cert.SquareReferenceIdeal.τ).loc Cert.SquareReferenceIdeal.main_arg0) = m ((c.tc : Thread Cert.SquareReferenceIdeal.nD Cert.SquareReferenceIdeal.τ).loc Cert.SquareReferenceIdeal.main_arg0)
      ∧ r.2.mem ((c.tc : Thread Cert.SquareReferenceIdeal.nD Cert.SquareReferenceIdeal.τ).loc Cert.SquareReferenceIdeal.main_arg1) = m ((c.tc : Thread Cert.SquareReferenceIdeal.nD Cert.SquareReferenceIdeal.τ).loc Cert.SquareReferenceIdeal.main_arg1))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4)
      ∧ r.2.mem ((c.tc : Thread Cert.MergeReferenceIdeal.nD Cert.MergeReferenceIdeal.τ).loc Cert.MergeReferenceIdeal.main_arg5) = m ((c.tc : Thread Cert.MergeReferenceIdeal.nD Cert.MergeReferenceIdeal.τ).loc Cert.MergeReferenceIdeal.main_arg5)
      ∧ r.2.mem ((c.tc : Thread Cert.MergeReferenceIdeal.nD Cert.MergeReferenceIdeal.τ).loc Cert.MergeReferenceIdeal.main_arg6) = m ((c.tc : Thread Cert.MergeReferenceIdeal.nD Cert.MergeReferenceIdeal.τ).loc Cert.MergeReferenceIdeal.main_arg6))
      ∧ r.2.sem = fun _ => 0)

def quiescent_Gating [hGating : Cert.Gating.Facts] : Prop :=
  ∀ (m : (ℓ : Loc Cert.Gating.nD Cert.Gating.τ Cert.Gating.sig) → Buf (Elt Bits) ℓ) (g : Dev Cert.Gating.nD → PrngReg), Pre_Gating m →
    θ_run (Cert.Gating.defs (F := Bits)) (onTc (τ := Cert.Gating.τ) (Cert.Gating.main (F := Bits))) ⟨m, fun _ => 0, g⟩ (fun r => (∀ c : Dev Cert.Gating.nD,
      r.2.mem ((c.tc : Thread Cert.Gating.nD Cert.Gating.τ).loc Cert.Gating.main_arg0) = m ((c.tc : Thread Cert.Gating.nD Cert.Gating.τ).loc Cert.Gating.main_arg0)
      ∧ r.2.mem ((c.tc : Thread Cert.Gating.nD Cert.Gating.τ).loc Cert.Gating.main_arg1) = m ((c.tc : Thread Cert.Gating.nD Cert.Gating.τ).loc Cert.Gating.main_arg1)
      ∧ r.2.mem ((c.tc : Thread Cert.Gating.nD Cert.Gating.τ).loc Cert.Gating.main_arg2) = m ((c.tc : Thread Cert.Gating.nD Cert.Gating.τ).loc Cert.Gating.main_arg2)
      ∧ r.2.mem ((c.tc : Thread Cert.Gating.nD Cert.Gating.τ).loc Cert.Gating.main_arg3) = m ((c.tc : Thread Cert.Gating.nD Cert.Gating.τ).loc Cert.Gating.main_arg3)
      ∧ r.2.mem ((c.tc : Thread Cert.Gating.nD Cert.Gating.τ).loc Cert.Gating.main_arg4) = m ((c.tc : Thread Cert.Gating.nD Cert.Gating.τ).loc Cert.Gating.main_arg4))
      ∧ r.2.sem = fun _ => 0)

def quiescent_GatingIdeal [hGatingIdeal : Cert.GatingIdeal.Facts] : Prop :=
  ∀ (m : (ℓ : Loc Cert.GatingIdeal.nD Cert.GatingIdeal.τ Cert.GatingIdeal.sig) → Buf (Elt Ideal) ℓ) (g : Dev Cert.GatingIdeal.nD → PrngReg), Pre_GatingIdeal m →
    θ_run (Cert.GatingIdeal.defs (F := Ideal)) (onTc (τ := Cert.GatingIdeal.τ) (Cert.GatingIdeal.main (F := Ideal))) ⟨m, fun _ => 0, g⟩ (fun r => (∀ c : Dev Cert.GatingIdeal.nD,
      r.2.mem ((c.tc : Thread Cert.GatingIdeal.nD Cert.GatingIdeal.τ).loc Cert.GatingIdeal.main_arg0) = m ((c.tc : Thread Cert.GatingIdeal.nD Cert.GatingIdeal.τ).loc Cert.GatingIdeal.main_arg0)
      ∧ r.2.mem ((c.tc : Thread Cert.GatingIdeal.nD Cert.GatingIdeal.τ).loc Cert.GatingIdeal.main_arg1) = m ((c.tc : Thread Cert.GatingIdeal.nD Cert.GatingIdeal.τ).loc Cert.GatingIdeal.main_arg1)
      ∧ r.2.mem ((c.tc : Thread Cert.GatingIdeal.nD Cert.GatingIdeal.τ).loc Cert.GatingIdeal.main_arg2) = m ((c.tc : Thread Cert.GatingIdeal.nD Cert.GatingIdeal.τ).loc Cert.GatingIdeal.main_arg2)
      ∧ r.2.mem ((c.tc : Thread Cert.GatingIdeal.nD Cert.GatingIdeal.τ).loc Cert.GatingIdeal.main_arg3) = m ((c.tc : Thread Cert.GatingIdeal.nD Cert.GatingIdeal.τ).loc Cert.GatingIdeal.main_arg3)
      ∧ r.2.mem ((c.tc : Thread Cert.GatingIdeal.nD Cert.GatingIdeal.τ).loc Cert.GatingIdeal.main_arg4) = m ((c.tc : Thread Cert.GatingIdeal.nD Cert.GatingIdeal.τ).loc Cert.GatingIdeal.main_arg4))
      ∧ r.2.sem = fun _ => 0)

def quiescent_GatingReferenceIdeal [hGatingReferenceIdeal : Cert.GatingReferenceIdeal.Facts] : Prop :=
  ∀ (m : (ℓ : Loc Cert.GatingReferenceIdeal.nD Cert.GatingReferenceIdeal.τ Cert.GatingReferenceIdeal.sig) → Buf (Elt Ideal) ℓ) (g : Dev Cert.GatingReferenceIdeal.nD → PrngReg), Pre_GatingReferenceIdeal m →
    θ_run (Cert.GatingReferenceIdeal.defs (F := Ideal)) (onTc (τ := Cert.GatingReferenceIdeal.τ) (Cert.GatingReferenceIdeal.main (F := Ideal))) ⟨m, fun _ => 0, g⟩ (fun r => (∀ c : Dev Cert.GatingReferenceIdeal.nD,
      r.2.mem ((c.tc : Thread Cert.GatingReferenceIdeal.nD Cert.GatingReferenceIdeal.τ).loc Cert.GatingReferenceIdeal.main_arg0) = m ((c.tc : Thread Cert.GatingReferenceIdeal.nD Cert.GatingReferenceIdeal.τ).loc Cert.GatingReferenceIdeal.main_arg0)
      ∧ r.2.mem ((c.tc : Thread Cert.GatingReferenceIdeal.nD Cert.GatingReferenceIdeal.τ).loc Cert.GatingReferenceIdeal.main_arg1) = m ((c.tc : Thread Cert.GatingReferenceIdeal.nD Cert.GatingReferenceIdeal.τ).loc Cert.GatingReferenceIdeal.main_arg1)
      ∧ r.2.mem ((c.tc : Thread Cert.GatingReferenceIdeal.nD Cert.GatingReferenceIdeal.τ).loc Cert.GatingReferenceIdeal.main_arg2) = m ((c.tc : Thread Cert.GatingReferenceIdeal.nD Cert.GatingReferenceIdeal.τ).loc Cert.GatingReferenceIdeal.main_arg2)
      ∧ r.2.mem ((c.tc : Thread Cert.GatingReferenceIdeal.nD Cert.GatingReferenceIdeal.τ).loc Cert.GatingReferenceIdeal.main_arg3) = m ((c.tc : Thread Cert.GatingReferenceIdeal.nD Cert.GatingReferenceIdeal.τ).loc Cert.GatingReferenceIdeal.main_arg3)
      ∧ r.2.mem ((c.tc : Thread Cert.GatingReferenceIdeal.nD Cert.GatingReferenceIdeal.τ).loc Cert.GatingReferenceIdeal.main_arg4) = m ((c.tc : Thread Cert.GatingReferenceIdeal.nD Cert.GatingReferenceIdeal.τ).loc Cert.GatingReferenceIdeal.main_arg4))
      ∧ r.2.sem = fun _ => 0)

def quiescent_AdamIn [hAdamIn : Cert.AdamIn.Facts] : Prop :=
  ∀ (m : (ℓ : Loc Cert.AdamIn.nD Cert.AdamIn.τ Cert.AdamIn.sig) → Buf (Elt Bits) ℓ) (g : Dev Cert.AdamIn.nD → PrngReg), Pre_AdamIn m →
    θ_run (Cert.AdamIn.defs (F := Bits)) (onTc (τ := Cert.AdamIn.τ) (Cert.AdamIn.main (F := Bits))) ⟨m, fun _ => 0, g⟩ (fun r => (∀ c : Dev Cert.AdamIn.nD,
      r.2.mem ((c.tc : Thread Cert.AdamIn.nD Cert.AdamIn.τ).loc Cert.AdamIn.main_arg0) = m ((c.tc : Thread Cert.AdamIn.nD Cert.AdamIn.τ).loc Cert.AdamIn.main_arg0)
      ∧ r.2.mem ((c.tc : Thread Cert.AdamIn.nD Cert.AdamIn.τ).loc Cert.AdamIn.main_arg1) = m ((c.tc : Thread Cert.AdamIn.nD Cert.AdamIn.τ).loc Cert.AdamIn.main_arg1)
      ∧ r.2.mem ((c.tc : Thread Cert.AdamIn.nD Cert.AdamIn.τ).loc Cert.AdamIn.main_arg2) = m ((c.tc : Thread Cert.AdamIn.nD Cert.AdamIn.τ).loc Cert.AdamIn.main_arg2)
      ∧ r.2.mem ((c.tc : Thread Cert.AdamIn.nD Cert.AdamIn.τ).loc Cert.AdamIn.main_arg3) = m ((c.tc : Thread Cert.AdamIn.nD Cert.AdamIn.τ).loc Cert.AdamIn.main_arg3)
      ∧ r.2.mem ((c.tc : Thread Cert.AdamIn.nD Cert.AdamIn.τ).loc Cert.AdamIn.main_arg4) = m ((c.tc : Thread Cert.AdamIn.nD Cert.AdamIn.τ).loc Cert.AdamIn.main_arg4)
      ∧ r.2.mem ((c.tc : Thread Cert.AdamIn.nD Cert.AdamIn.τ).loc Cert.AdamIn.main_arg5) = m ((c.tc : Thread Cert.AdamIn.nD Cert.AdamIn.τ).loc Cert.AdamIn.main_arg5))
      ∧ r.2.sem = fun _ => 0)

def quiescent_AdamInIdeal [hAdamInIdeal : Cert.AdamInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg), Pre_AdamInIdeal m →
    θ_run (Cert.AdamInIdeal.defs (F := Ideal)) (onTc (τ := Cert.AdamInIdeal.τ) (Cert.AdamInIdeal.main (F := Ideal))) ⟨m, fun _ => 0, g⟩ (fun r => (∀ c : Dev Cert.AdamInIdeal.nD,
      r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
      ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
      ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
      ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3)
      ∧ r.2.mem ((c.tc : Thread Cert.AdamInIdeal.nD Cert.AdamInIdeal.τ).loc Cert.AdamInIdeal.main_arg4) = m ((c.tc : Thread Cert.AdamInIdeal.nD Cert.AdamInIdeal.τ).loc Cert.AdamInIdeal.main_arg4)
      ∧ r.2.mem ((c.tc : Thread Cert.AdamInIdeal.nD Cert.AdamInIdeal.τ).loc Cert.AdamInIdeal.main_arg5) = m ((c.tc : Thread Cert.AdamInIdeal.nD Cert.AdamInIdeal.τ).loc Cert.AdamInIdeal.main_arg5))
      ∧ r.2.sem = fun _ => 0)

def quiescent_AdamInReferenceIdeal [hAdamInReferenceIdeal : Cert.AdamInReferenceIdeal.Facts] : Prop :=
  ∀ (m : (ℓ : Loc Cert.AdamInReferenceIdeal.nD Cert.AdamInReferenceIdeal.τ Cert.AdamInReferenceIdeal.sig) → Buf (Elt Ideal) ℓ) (g : Dev Cert.AdamInReferenceIdeal.nD → PrngReg), Pre_AdamInReferenceIdeal m →
    θ_run (Cert.AdamInReferenceIdeal.defs (F := Ideal)) (onTc (τ := Cert.AdamInReferenceIdeal.τ) (Cert.AdamInReferenceIdeal.main (F := Ideal))) ⟨m, fun _ => 0, g⟩ (fun r => (∀ c : Dev Cert.AdamInReferenceIdeal.nD,
      r.2.mem ((c.tc : Thread Cert.AdamInReferenceIdeal.nD Cert.AdamInReferenceIdeal.τ).loc Cert.AdamInReferenceIdeal.main_arg0) = m ((c.tc : Thread Cert.AdamInReferenceIdeal.nD Cert.AdamInReferenceIdeal.τ).loc Cert.AdamInReferenceIdeal.main_arg0)
      ∧ r.2.mem ((c.tc : Thread Cert.AdamInReferenceIdeal.nD Cert.AdamInReferenceIdeal.τ).loc Cert.AdamInReferenceIdeal.main_arg1) = m ((c.tc : Thread Cert.AdamInReferenceIdeal.nD Cert.AdamInReferenceIdeal.τ).loc Cert.AdamInReferenceIdeal.main_arg1)
      ∧ r.2.mem ((c.tc : Thread Cert.AdamInReferenceIdeal.nD Cert.AdamInReferenceIdeal.τ).loc Cert.AdamInReferenceIdeal.main_arg2) = m ((c.tc : Thread Cert.AdamInReferenceIdeal.nD Cert.AdamInReferenceIdeal.τ).loc Cert.AdamInReferenceIdeal.main_arg2)
      ∧ r.2.mem ((c.tc : Thread Cert.AdamInReferenceIdeal.nD Cert.AdamInReferenceIdeal.τ).loc Cert.AdamInReferenceIdeal.main_arg3) = m ((c.tc : Thread Cert.AdamInReferenceIdeal.nD Cert.AdamInReferenceIdeal.τ).loc Cert.AdamInReferenceIdeal.main_arg3)
      ∧ r.2.mem ((c.tc : Thread Cert.AdamInReferenceIdeal.nD Cert.AdamInReferenceIdeal.τ).loc Cert.AdamInReferenceIdeal.main_arg4) = m ((c.tc : Thread Cert.AdamInReferenceIdeal.nD Cert.AdamInReferenceIdeal.τ).loc Cert.AdamInReferenceIdeal.main_arg4)
      ∧ r.2.mem ((c.tc : Thread Cert.AdamInReferenceIdeal.nD Cert.AdamInReferenceIdeal.τ).loc Cert.AdamInReferenceIdeal.main_arg5) = m ((c.tc : Thread Cert.AdamInReferenceIdeal.nD Cert.AdamInReferenceIdeal.τ).loc Cert.AdamInReferenceIdeal.main_arg5))
      ∧ r.2.sem = fun _ => 0)

def quiescent_ChipGateUp [hChipGateUp : Cert.ChipGateUp.Facts] : Prop :=
  ∀ (m : (ℓ : Loc Cert.ChipGateUp.nD Cert.ChipGateUp.τ Cert.ChipGateUp.sig) → Buf (Elt Bits) ℓ) (g : Dev Cert.ChipGateUp.nD → PrngReg), Pre_ChipGateUp m →
    θ_run (Cert.ChipGateUp.defs (F := Bits)) (onTc (τ := Cert.ChipGateUp.τ) (Cert.ChipGateUp.main (F := Bits))) ⟨m, fun _ => 0, g⟩ (fun r => (∀ c : Dev Cert.ChipGateUp.nD,
      r.2.mem ((c.tc : Thread Cert.ChipGateUp.nD Cert.ChipGateUp.τ).loc Cert.ChipGateUp.main_arg0) = m ((c.tc : Thread Cert.ChipGateUp.nD Cert.ChipGateUp.τ).loc Cert.ChipGateUp.main_arg0)
      ∧ r.2.mem ((c.tc : Thread Cert.ChipGateUp.nD Cert.ChipGateUp.τ).loc Cert.ChipGateUp.main_arg1) = m ((c.tc : Thread Cert.ChipGateUp.nD Cert.ChipGateUp.τ).loc Cert.ChipGateUp.main_arg1))
      ∧ r.2.sem = fun _ => 0)

def quiescent_ChipGateUpIdeal [hChipGateUpIdeal : Cert.ChipGateUpIdeal.Facts] : Prop :=
  ∀ (m : (ℓ : Loc Cert.ChipGateUpIdeal.nD Cert.ChipGateUpIdeal.τ Cert.ChipGateUpIdeal.sig) → Buf (Elt Ideal) ℓ) (g : Dev Cert.ChipGateUpIdeal.nD → PrngReg), Pre_ChipGateUpIdeal m →
    θ_run (Cert.ChipGateUpIdeal.defs (F := Ideal)) (onTc (τ := Cert.ChipGateUpIdeal.τ) (Cert.ChipGateUpIdeal.main (F := Ideal))) ⟨m, fun _ => 0, g⟩ (fun r => (∀ c : Dev Cert.ChipGateUpIdeal.nD,
      r.2.mem ((c.tc : Thread Cert.ChipGateUpIdeal.nD Cert.ChipGateUpIdeal.τ).loc Cert.ChipGateUpIdeal.main_arg0) = m ((c.tc : Thread Cert.ChipGateUpIdeal.nD Cert.ChipGateUpIdeal.τ).loc Cert.ChipGateUpIdeal.main_arg0)
      ∧ r.2.mem ((c.tc : Thread Cert.ChipGateUpIdeal.nD Cert.ChipGateUpIdeal.τ).loc Cert.ChipGateUpIdeal.main_arg1) = m ((c.tc : Thread Cert.ChipGateUpIdeal.nD Cert.ChipGateUpIdeal.τ).loc Cert.ChipGateUpIdeal.main_arg1))
      ∧ r.2.sem = fun _ => 0)

def quiescent_ChipGateUpReferenceIdeal [hChipGateUpReferenceIdeal : Cert.ChipGateUpReferenceIdeal.Facts] : Prop :=
  ∀ (m : (ℓ : Loc Cert.ChipGateUpReferenceIdeal.nD Cert.ChipGateUpReferenceIdeal.τ Cert.ChipGateUpReferenceIdeal.sig) → Buf (Elt Ideal) ℓ) (g : Dev Cert.ChipGateUpReferenceIdeal.nD → PrngReg), Pre_ChipGateUpReferenceIdeal m →
    θ_run (Cert.ChipGateUpReferenceIdeal.defs (F := Ideal)) (onTc (τ := Cert.ChipGateUpReferenceIdeal.τ) (Cert.ChipGateUpReferenceIdeal.main (F := Ideal))) ⟨m, fun _ => 0, g⟩ (fun r => (∀ c : Dev Cert.ChipGateUpReferenceIdeal.nD,
      r.2.mem ((c.tc : Thread Cert.ChipGateUpReferenceIdeal.nD Cert.ChipGateUpReferenceIdeal.τ).loc Cert.ChipGateUpReferenceIdeal.main_arg0) = m ((c.tc : Thread Cert.ChipGateUpReferenceIdeal.nD Cert.ChipGateUpReferenceIdeal.τ).loc Cert.ChipGateUpReferenceIdeal.main_arg0)
      ∧ r.2.mem ((c.tc : Thread Cert.ChipGateUpReferenceIdeal.nD Cert.ChipGateUpReferenceIdeal.τ).loc Cert.ChipGateUpReferenceIdeal.main_arg1) = m ((c.tc : Thread Cert.ChipGateUpReferenceIdeal.nD Cert.ChipGateUpReferenceIdeal.τ).loc Cert.ChipGateUpReferenceIdeal.main_arg1))
      ∧ r.2.sem = fun _ => 0)

def quiescent_ChipDown [hChipDown : Cert.ChipDown.Facts] : Prop :=
  ∀ (m : (ℓ : Loc Cert.ChipDown.nD Cert.ChipDown.τ Cert.ChipDown.sig) → Buf (Elt Bits) ℓ) (g : Dev Cert.ChipDown.nD → PrngReg), Pre_ChipDown m →
    θ_run (Cert.ChipDown.defs (F := Bits)) (onTc (τ := Cert.ChipDown.τ) (Cert.ChipDown.main (F := Bits))) ⟨m, fun _ => 0, g⟩ (fun r => (∀ c : Dev Cert.ChipDown.nD,
      r.2.mem ((c.tc : Thread Cert.ChipDown.nD Cert.ChipDown.τ).loc Cert.ChipDown.main_arg0) = m ((c.tc : Thread Cert.ChipDown.nD Cert.ChipDown.τ).loc Cert.ChipDown.main_arg0)
      ∧ r.2.mem ((c.tc : Thread Cert.ChipDown.nD Cert.ChipDown.τ).loc Cert.ChipDown.main_arg1) = m ((c.tc : Thread Cert.ChipDown.nD Cert.ChipDown.τ).loc Cert.ChipDown.main_arg1))
      ∧ r.2.sem = fun _ => 0)

def quiescent_ChipDownIdeal [hChipDownIdeal : Cert.ChipDownIdeal.Facts] : Prop :=
  ∀ (m : (ℓ : Loc Cert.ChipDownIdeal.nD Cert.ChipDownIdeal.τ Cert.ChipDownIdeal.sig) → Buf (Elt Ideal) ℓ) (g : Dev Cert.ChipDownIdeal.nD → PrngReg), Pre_ChipDownIdeal m →
    θ_run (Cert.ChipDownIdeal.defs (F := Ideal)) (onTc (τ := Cert.ChipDownIdeal.τ) (Cert.ChipDownIdeal.main (F := Ideal))) ⟨m, fun _ => 0, g⟩ (fun r => (∀ c : Dev Cert.ChipDownIdeal.nD,
      r.2.mem ((c.tc : Thread Cert.ChipDownIdeal.nD Cert.ChipDownIdeal.τ).loc Cert.ChipDownIdeal.main_arg0) = m ((c.tc : Thread Cert.ChipDownIdeal.nD Cert.ChipDownIdeal.τ).loc Cert.ChipDownIdeal.main_arg0)
      ∧ r.2.mem ((c.tc : Thread Cert.ChipDownIdeal.nD Cert.ChipDownIdeal.τ).loc Cert.ChipDownIdeal.main_arg1) = m ((c.tc : Thread Cert.ChipDownIdeal.nD Cert.ChipDownIdeal.τ).loc Cert.ChipDownIdeal.main_arg1))
      ∧ r.2.sem = fun _ => 0)

def quiescent_ChipDownReferenceIdeal [hChipDownReferenceIdeal : Cert.ChipDownReferenceIdeal.Facts] : Prop :=
  ∀ (m : (ℓ : Loc Cert.ChipDownReferenceIdeal.nD Cert.ChipDownReferenceIdeal.τ Cert.ChipDownReferenceIdeal.sig) → Buf (Elt Ideal) ℓ) (g : Dev Cert.ChipDownReferenceIdeal.nD → PrngReg), Pre_ChipDownReferenceIdeal m →
    θ_run (Cert.ChipDownReferenceIdeal.defs (F := Ideal)) (onTc (τ := Cert.ChipDownReferenceIdeal.τ) (Cert.ChipDownReferenceIdeal.main (F := Ideal))) ⟨m, fun _ => 0, g⟩ (fun r => (∀ c : Dev Cert.ChipDownReferenceIdeal.nD,
      r.2.mem ((c.tc : Thread Cert.ChipDownReferenceIdeal.nD Cert.ChipDownReferenceIdeal.τ).loc Cert.ChipDownReferenceIdeal.main_arg0) = m ((c.tc : Thread Cert.ChipDownReferenceIdeal.nD Cert.ChipDownReferenceIdeal.τ).loc Cert.ChipDownReferenceIdeal.main_arg0)
      ∧ r.2.mem ((c.tc : Thread Cert.ChipDownReferenceIdeal.nD Cert.ChipDownReferenceIdeal.τ).loc Cert.ChipDownReferenceIdeal.main_arg1) = m ((c.tc : Thread Cert.ChipDownReferenceIdeal.nD Cert.ChipDownReferenceIdeal.τ).loc Cert.ChipDownReferenceIdeal.main_arg1))
      ∧ r.2.sem = fun _ => 0)

def quiescent_ChipSquares [hChipSquares : Cert.ChipSquares.Facts] : Prop :=
  ∀ (m : (ℓ : Loc Cert.ChipSquares.nD Cert.ChipSquares.τ Cert.ChipSquares.sig) → Buf (Elt Bits) ℓ) (g : Dev Cert.ChipSquares.nD → PrngReg), Pre_ChipSquares m →
    θ_run (Cert.ChipSquares.defs (F := Bits)) (onTc (τ := Cert.ChipSquares.τ) (Cert.ChipSquares.main (F := Bits))) ⟨m, fun _ => 0, g⟩ (fun r => (∀ c : Dev Cert.ChipSquares.nD,
      r.2.mem ((c.tc : Thread Cert.ChipSquares.nD Cert.ChipSquares.τ).loc Cert.ChipSquares.main_arg0) = m ((c.tc : Thread Cert.ChipSquares.nD Cert.ChipSquares.τ).loc Cert.ChipSquares.main_arg0)
      ∧ r.2.mem ((c.tc : Thread Cert.ChipSquares.nD Cert.ChipSquares.τ).loc Cert.ChipSquares.main_arg1) = m ((c.tc : Thread Cert.ChipSquares.nD Cert.ChipSquares.τ).loc Cert.ChipSquares.main_arg1)
      ∧ r.2.mem ((c.tc : Thread Cert.ChipSquares.nD Cert.ChipSquares.τ).loc Cert.ChipSquares.main_arg2) = m ((c.tc : Thread Cert.ChipSquares.nD Cert.ChipSquares.τ).loc Cert.ChipSquares.main_arg2)
      ∧ r.2.mem ((c.tc : Thread Cert.ChipSquares.nD Cert.ChipSquares.τ).loc Cert.ChipSquares.main_arg3) = m ((c.tc : Thread Cert.ChipSquares.nD Cert.ChipSquares.τ).loc Cert.ChipSquares.main_arg3)
      ∧ r.2.mem ((c.tc : Thread Cert.ChipSquares.nD Cert.ChipSquares.τ).loc Cert.ChipSquares.main_arg4) = m ((c.tc : Thread Cert.ChipSquares.nD Cert.ChipSquares.τ).loc Cert.ChipSquares.main_arg4)
      ∧ r.2.mem ((c.tc : Thread Cert.ChipSquares.nD Cert.ChipSquares.τ).loc Cert.ChipSquares.main_arg5) = m ((c.tc : Thread Cert.ChipSquares.nD Cert.ChipSquares.τ).loc Cert.ChipSquares.main_arg5))
      ∧ r.2.sem = fun _ => 0)

def quiescent_ChipSquaresIdeal [hChipSquaresIdeal : Cert.ChipSquaresIdeal.Facts] : Prop :=
  ∀ (m : (ℓ : Loc Cert.ChipSquaresIdeal.nD Cert.ChipSquaresIdeal.τ Cert.ChipSquaresIdeal.sig) → Buf (Elt Ideal) ℓ) (g : Dev Cert.ChipSquaresIdeal.nD → PrngReg), Pre_ChipSquaresIdeal m →
    θ_run (Cert.ChipSquaresIdeal.defs (F := Ideal)) (onTc (τ := Cert.ChipSquaresIdeal.τ) (Cert.ChipSquaresIdeal.main (F := Ideal))) ⟨m, fun _ => 0, g⟩ (fun r => (∀ c : Dev Cert.ChipSquaresIdeal.nD,
      r.2.mem ((c.tc : Thread Cert.ChipSquaresIdeal.nD Cert.ChipSquaresIdeal.τ).loc Cert.ChipSquaresIdeal.main_arg0) = m ((c.tc : Thread Cert.ChipSquaresIdeal.nD Cert.ChipSquaresIdeal.τ).loc Cert.ChipSquaresIdeal.main_arg0)
      ∧ r.2.mem ((c.tc : Thread Cert.ChipSquaresIdeal.nD Cert.ChipSquaresIdeal.τ).loc Cert.ChipSquaresIdeal.main_arg1) = m ((c.tc : Thread Cert.ChipSquaresIdeal.nD Cert.ChipSquaresIdeal.τ).loc Cert.ChipSquaresIdeal.main_arg1)
      ∧ r.2.mem ((c.tc : Thread Cert.ChipSquaresIdeal.nD Cert.ChipSquaresIdeal.τ).loc Cert.ChipSquaresIdeal.main_arg2) = m ((c.tc : Thread Cert.ChipSquaresIdeal.nD Cert.ChipSquaresIdeal.τ).loc Cert.ChipSquaresIdeal.main_arg2)
      ∧ r.2.mem ((c.tc : Thread Cert.ChipSquaresIdeal.nD Cert.ChipSquaresIdeal.τ).loc Cert.ChipSquaresIdeal.main_arg3) = m ((c.tc : Thread Cert.ChipSquaresIdeal.nD Cert.ChipSquaresIdeal.τ).loc Cert.ChipSquaresIdeal.main_arg3)
      ∧ r.2.mem ((c.tc : Thread Cert.ChipSquaresIdeal.nD Cert.ChipSquaresIdeal.τ).loc Cert.ChipSquaresIdeal.main_arg4) = m ((c.tc : Thread Cert.ChipSquaresIdeal.nD Cert.ChipSquaresIdeal.τ).loc Cert.ChipSquaresIdeal.main_arg4)
      ∧ r.2.mem ((c.tc : Thread Cert.ChipSquaresIdeal.nD Cert.ChipSquaresIdeal.τ).loc Cert.ChipSquaresIdeal.main_arg5) = m ((c.tc : Thread Cert.ChipSquaresIdeal.nD Cert.ChipSquaresIdeal.τ).loc Cert.ChipSquaresIdeal.main_arg5))
      ∧ r.2.sem = fun _ => 0)

def quiescent_ChipSquaresReferenceIdeal [hChipSquaresReferenceIdeal : Cert.ChipSquaresReferenceIdeal.Facts] : Prop :=
  ∀ (m : (ℓ : Loc Cert.ChipSquaresReferenceIdeal.nD Cert.ChipSquaresReferenceIdeal.τ Cert.ChipSquaresReferenceIdeal.sig) → Buf (Elt Ideal) ℓ) (g : Dev Cert.ChipSquaresReferenceIdeal.nD → PrngReg), Pre_ChipSquaresReferenceIdeal m →
    θ_run (Cert.ChipSquaresReferenceIdeal.defs (F := Ideal)) (onTc (τ := Cert.ChipSquaresReferenceIdeal.τ) (Cert.ChipSquaresReferenceIdeal.main (F := Ideal))) ⟨m, fun _ => 0, g⟩ (fun r => (∀ c : Dev Cert.ChipSquaresReferenceIdeal.nD,
      r.2.mem ((c.tc : Thread Cert.ChipSquaresReferenceIdeal.nD Cert.ChipSquaresReferenceIdeal.τ).loc Cert.ChipSquaresReferenceIdeal.main_arg0) = m ((c.tc : Thread Cert.ChipSquaresReferenceIdeal.nD Cert.ChipSquaresReferenceIdeal.τ).loc Cert.ChipSquaresReferenceIdeal.main_arg0)
      ∧ r.2.mem ((c.tc : Thread Cert.ChipSquaresReferenceIdeal.nD Cert.ChipSquaresReferenceIdeal.τ).loc Cert.ChipSquaresReferenceIdeal.main_arg1) = m ((c.tc : Thread Cert.ChipSquaresReferenceIdeal.nD Cert.ChipSquaresReferenceIdeal.τ).loc Cert.ChipSquaresReferenceIdeal.main_arg1)
      ∧ r.2.mem ((c.tc : Thread Cert.ChipSquaresReferenceIdeal.nD Cert.ChipSquaresReferenceIdeal.τ).loc Cert.ChipSquaresReferenceIdeal.main_arg2) = m ((c.tc : Thread Cert.ChipSquaresReferenceIdeal.nD Cert.ChipSquaresReferenceIdeal.τ).loc Cert.ChipSquaresReferenceIdeal.main_arg2)
      ∧ r.2.mem ((c.tc : Thread Cert.ChipSquaresReferenceIdeal.nD Cert.ChipSquaresReferenceIdeal.τ).loc Cert.ChipSquaresReferenceIdeal.main_arg3) = m ((c.tc : Thread Cert.ChipSquaresReferenceIdeal.nD Cert.ChipSquaresReferenceIdeal.τ).loc Cert.ChipSquaresReferenceIdeal.main_arg3)
      ∧ r.2.mem ((c.tc : Thread Cert.ChipSquaresReferenceIdeal.nD Cert.ChipSquaresReferenceIdeal.τ).loc Cert.ChipSquaresReferenceIdeal.main_arg4) = m ((c.tc : Thread Cert.ChipSquaresReferenceIdeal.nD Cert.ChipSquaresReferenceIdeal.τ).loc Cert.ChipSquaresReferenceIdeal.main_arg4)
      ∧ r.2.mem ((c.tc : Thread Cert.ChipSquaresReferenceIdeal.nD Cert.ChipSquaresReferenceIdeal.τ).loc Cert.ChipSquaresReferenceIdeal.main_arg5) = m ((c.tc : Thread Cert.ChipSquaresReferenceIdeal.nD Cert.ChipSquaresReferenceIdeal.τ).loc Cert.ChipSquaresReferenceIdeal.main_arg5))
      ∧ r.2.sem = fun _ => 0)

def quiescent_ChipIn [hChipIn : Cert.ChipIn.Facts] : Prop :=
  ∀ (m : (ℓ : Loc Cert.ChipIn.nD Cert.ChipIn.τ Cert.ChipIn.sig) → Buf (Elt Bits) ℓ) (g : Dev Cert.ChipIn.nD → PrngReg), Pre_ChipIn m →
    θ_run (Cert.ChipIn.defs (F := Bits)) (onTc (τ := Cert.ChipIn.τ) (Cert.ChipIn.main (F := Bits))) ⟨m, fun _ => 0, g⟩ (fun r => (∀ c : Dev Cert.ChipIn.nD,
      r.2.mem ((c.tc : Thread Cert.ChipIn.nD Cert.ChipIn.τ).loc Cert.ChipIn.main_arg0) = m ((c.tc : Thread Cert.ChipIn.nD Cert.ChipIn.τ).loc Cert.ChipIn.main_arg0)
      ∧ r.2.mem ((c.tc : Thread Cert.ChipIn.nD Cert.ChipIn.τ).loc Cert.ChipIn.main_arg1) = m ((c.tc : Thread Cert.ChipIn.nD Cert.ChipIn.τ).loc Cert.ChipIn.main_arg1))
      ∧ r.2.sem = fun _ => 0)

def quiescent_ChipInIdeal [hChipInIdeal : Cert.ChipInIdeal.Facts] : Prop :=
  ∀ (m : (ℓ : Loc Cert.ChipInIdeal.nD Cert.ChipInIdeal.τ Cert.ChipInIdeal.sig) → Buf (Elt Ideal) ℓ) (g : Dev Cert.ChipInIdeal.nD → PrngReg), Pre_ChipInIdeal m →
    θ_run (Cert.ChipInIdeal.defs (F := Ideal)) (onTc (τ := Cert.ChipInIdeal.τ) (Cert.ChipInIdeal.main (F := Ideal))) ⟨m, fun _ => 0, g⟩ (fun r => (∀ c : Dev Cert.ChipInIdeal.nD,
      r.2.mem ((c.tc : Thread Cert.ChipInIdeal.nD Cert.ChipInIdeal.τ).loc Cert.ChipInIdeal.main_arg0) = m ((c.tc : Thread Cert.ChipInIdeal.nD Cert.ChipInIdeal.τ).loc Cert.ChipInIdeal.main_arg0)
      ∧ r.2.mem ((c.tc : Thread Cert.ChipInIdeal.nD Cert.ChipInIdeal.τ).loc Cert.ChipInIdeal.main_arg1) = m ((c.tc : Thread Cert.ChipInIdeal.nD Cert.ChipInIdeal.τ).loc Cert.ChipInIdeal.main_arg1))
      ∧ r.2.sem = fun _ => 0)

def quiescent_ChipInReferenceIdeal [hChipInReferenceIdeal : Cert.ChipInReferenceIdeal.Facts] : Prop :=
  ∀ (m : (ℓ : Loc Cert.ChipInReferenceIdeal.nD Cert.ChipInReferenceIdeal.τ Cert.ChipInReferenceIdeal.sig) → Buf (Elt Ideal) ℓ) (g : Dev Cert.ChipInReferenceIdeal.nD → PrngReg), Pre_ChipInReferenceIdeal m →
    θ_run (Cert.ChipInReferenceIdeal.defs (F := Ideal)) (onTc (τ := Cert.ChipInReferenceIdeal.τ) (Cert.ChipInReferenceIdeal.main (F := Ideal))) ⟨m, fun _ => 0, g⟩ (fun r => (∀ c : Dev Cert.ChipInReferenceIdeal.nD,
      r.2.mem ((c.tc : Thread Cert.ChipInReferenceIdeal.nD Cert.ChipInReferenceIdeal.τ).loc Cert.ChipInReferenceIdeal.main_arg0) = m ((c.tc : Thread Cert.ChipInReferenceIdeal.nD Cert.ChipInReferenceIdeal.τ).loc Cert.ChipInReferenceIdeal.main_arg0)
      ∧ r.2.mem ((c.tc : Thread Cert.ChipInReferenceIdeal.nD Cert.ChipInReferenceIdeal.τ).loc Cert.ChipInReferenceIdeal.main_arg1) = m ((c.tc : Thread Cert.ChipInReferenceIdeal.nD Cert.ChipInReferenceIdeal.τ).loc Cert.ChipInReferenceIdeal.main_arg1))
      ∧ r.2.sem = fun _ => 0)

def quiescent_AdamSquares [hAdamSquares : Cert.AdamSquares.Facts] : Prop :=
  ∀ (m : (ℓ : Loc Cert.AdamSquares.nD Cert.AdamSquares.τ Cert.AdamSquares.sig) → Buf (Elt Bits) ℓ) (g : Dev Cert.AdamSquares.nD → PrngReg), Pre_AdamSquares m →
    θ_run (Cert.AdamSquares.defs (F := Bits)) (onTc (τ := Cert.AdamSquares.τ) (Cert.AdamSquares.main (F := Bits))) ⟨m, fun _ => 0, g⟩ (fun r => (∀ c : Dev Cert.AdamSquares.nD,
      r.2.mem ((c.tc : Thread Cert.AdamSquares.nD Cert.AdamSquares.τ).loc Cert.AdamSquares.main_arg0) = m ((c.tc : Thread Cert.AdamSquares.nD Cert.AdamSquares.τ).loc Cert.AdamSquares.main_arg0)
      ∧ r.2.mem ((c.tc : Thread Cert.AdamSquares.nD Cert.AdamSquares.τ).loc Cert.AdamSquares.main_arg1) = m ((c.tc : Thread Cert.AdamSquares.nD Cert.AdamSquares.τ).loc Cert.AdamSquares.main_arg1)
      ∧ r.2.mem ((c.tc : Thread Cert.AdamSquares.nD Cert.AdamSquares.τ).loc Cert.AdamSquares.main_arg2) = m ((c.tc : Thread Cert.AdamSquares.nD Cert.AdamSquares.τ).loc Cert.AdamSquares.main_arg2)
      ∧ r.2.mem ((c.tc : Thread Cert.AdamSquares.nD Cert.AdamSquares.τ).loc Cert.AdamSquares.main_arg3) = m ((c.tc : Thread Cert.AdamSquares.nD Cert.AdamSquares.τ).loc Cert.AdamSquares.main_arg3)
      ∧ r.2.mem ((c.tc : Thread Cert.AdamSquares.nD Cert.AdamSquares.τ).loc Cert.AdamSquares.main_arg4) = m ((c.tc : Thread Cert.AdamSquares.nD Cert.AdamSquares.τ).loc Cert.AdamSquares.main_arg4)
      ∧ r.2.mem ((c.tc : Thread Cert.AdamSquares.nD Cert.AdamSquares.τ).loc Cert.AdamSquares.main_arg5) = m ((c.tc : Thread Cert.AdamSquares.nD Cert.AdamSquares.τ).loc Cert.AdamSquares.main_arg5)
      ∧ r.2.mem ((c.tc : Thread Cert.AdamSquares.nD Cert.AdamSquares.τ).loc Cert.AdamSquares.main_arg6) = m ((c.tc : Thread Cert.AdamSquares.nD Cert.AdamSquares.τ).loc Cert.AdamSquares.main_arg6)
      ∧ r.2.mem ((c.tc : Thread Cert.AdamSquares.nD Cert.AdamSquares.τ).loc Cert.AdamSquares.main_arg7) = m ((c.tc : Thread Cert.AdamSquares.nD Cert.AdamSquares.τ).loc Cert.AdamSquares.main_arg7)
      ∧ r.2.mem ((c.tc : Thread Cert.AdamSquares.nD Cert.AdamSquares.τ).loc Cert.AdamSquares.main_arg8) = m ((c.tc : Thread Cert.AdamSquares.nD Cert.AdamSquares.τ).loc Cert.AdamSquares.main_arg8)
      ∧ r.2.mem ((c.tc : Thread Cert.AdamSquares.nD Cert.AdamSquares.τ).loc Cert.AdamSquares.main_arg9) = m ((c.tc : Thread Cert.AdamSquares.nD Cert.AdamSquares.τ).loc Cert.AdamSquares.main_arg9)
      ∧ r.2.mem ((c.tc : Thread Cert.AdamSquares.nD Cert.AdamSquares.τ).loc Cert.AdamSquares.main_arg10) = m ((c.tc : Thread Cert.AdamSquares.nD Cert.AdamSquares.τ).loc Cert.AdamSquares.main_arg10)
      ∧ r.2.mem ((c.tc : Thread Cert.AdamSquares.nD Cert.AdamSquares.τ).loc Cert.AdamSquares.main_arg11) = m ((c.tc : Thread Cert.AdamSquares.nD Cert.AdamSquares.τ).loc Cert.AdamSquares.main_arg11)
      ∧ r.2.mem ((c.tc : Thread Cert.AdamSquares.nD Cert.AdamSquares.τ).loc Cert.AdamSquares.main_arg12) = m ((c.tc : Thread Cert.AdamSquares.nD Cert.AdamSquares.τ).loc Cert.AdamSquares.main_arg12)
      ∧ r.2.mem ((c.tc : Thread Cert.AdamSquares.nD Cert.AdamSquares.τ).loc Cert.AdamSquares.main_arg13) = m ((c.tc : Thread Cert.AdamSquares.nD Cert.AdamSquares.τ).loc Cert.AdamSquares.main_arg13)
      ∧ r.2.mem ((c.tc : Thread Cert.AdamSquares.nD Cert.AdamSquares.τ).loc Cert.AdamSquares.main_arg14) = m ((c.tc : Thread Cert.AdamSquares.nD Cert.AdamSquares.τ).loc Cert.AdamSquares.main_arg14)
      ∧ r.2.mem ((c.tc : Thread Cert.AdamSquares.nD Cert.AdamSquares.τ).loc Cert.AdamSquares.main_arg15) = m ((c.tc : Thread Cert.AdamSquares.nD Cert.AdamSquares.τ).loc Cert.AdamSquares.main_arg15))
      ∧ r.2.sem = fun _ => 0)

def quiescent_AdamSquaresIdeal [hAdamSquaresIdeal : Cert.AdamSquaresIdeal.Facts] : Prop :=
  ∀ (m : (ℓ : Loc Cert.AdamSquaresIdeal.nD Cert.AdamSquaresIdeal.τ Cert.AdamSquaresIdeal.sig) → Buf (Elt Ideal) ℓ) (g : Dev Cert.AdamSquaresIdeal.nD → PrngReg), Pre_AdamSquaresIdeal m →
    θ_run (Cert.AdamSquaresIdeal.defs (F := Ideal)) (onTc (τ := Cert.AdamSquaresIdeal.τ) (Cert.AdamSquaresIdeal.main (F := Ideal))) ⟨m, fun _ => 0, g⟩ (fun r => (∀ c : Dev Cert.AdamSquaresIdeal.nD,
      r.2.mem ((c.tc : Thread Cert.AdamSquaresIdeal.nD Cert.AdamSquaresIdeal.τ).loc Cert.AdamSquaresIdeal.main_arg0) = m ((c.tc : Thread Cert.AdamSquaresIdeal.nD Cert.AdamSquaresIdeal.τ).loc Cert.AdamSquaresIdeal.main_arg0)
      ∧ r.2.mem ((c.tc : Thread Cert.AdamSquaresIdeal.nD Cert.AdamSquaresIdeal.τ).loc Cert.AdamSquaresIdeal.main_arg1) = m ((c.tc : Thread Cert.AdamSquaresIdeal.nD Cert.AdamSquaresIdeal.τ).loc Cert.AdamSquaresIdeal.main_arg1)
      ∧ r.2.mem ((c.tc : Thread Cert.AdamSquaresIdeal.nD Cert.AdamSquaresIdeal.τ).loc Cert.AdamSquaresIdeal.main_arg2) = m ((c.tc : Thread Cert.AdamSquaresIdeal.nD Cert.AdamSquaresIdeal.τ).loc Cert.AdamSquaresIdeal.main_arg2)
      ∧ r.2.mem ((c.tc : Thread Cert.AdamSquaresIdeal.nD Cert.AdamSquaresIdeal.τ).loc Cert.AdamSquaresIdeal.main_arg3) = m ((c.tc : Thread Cert.AdamSquaresIdeal.nD Cert.AdamSquaresIdeal.τ).loc Cert.AdamSquaresIdeal.main_arg3)
      ∧ r.2.mem ((c.tc : Thread Cert.AdamSquaresIdeal.nD Cert.AdamSquaresIdeal.τ).loc Cert.AdamSquaresIdeal.main_arg4) = m ((c.tc : Thread Cert.AdamSquaresIdeal.nD Cert.AdamSquaresIdeal.τ).loc Cert.AdamSquaresIdeal.main_arg4)
      ∧ r.2.mem ((c.tc : Thread Cert.AdamSquaresIdeal.nD Cert.AdamSquaresIdeal.τ).loc Cert.AdamSquaresIdeal.main_arg5) = m ((c.tc : Thread Cert.AdamSquaresIdeal.nD Cert.AdamSquaresIdeal.τ).loc Cert.AdamSquaresIdeal.main_arg5)
      ∧ r.2.mem ((c.tc : Thread Cert.AdamSquaresIdeal.nD Cert.AdamSquaresIdeal.τ).loc Cert.AdamSquaresIdeal.main_arg6) = m ((c.tc : Thread Cert.AdamSquaresIdeal.nD Cert.AdamSquaresIdeal.τ).loc Cert.AdamSquaresIdeal.main_arg6)
      ∧ r.2.mem ((c.tc : Thread Cert.AdamSquaresIdeal.nD Cert.AdamSquaresIdeal.τ).loc Cert.AdamSquaresIdeal.main_arg7) = m ((c.tc : Thread Cert.AdamSquaresIdeal.nD Cert.AdamSquaresIdeal.τ).loc Cert.AdamSquaresIdeal.main_arg7)
      ∧ r.2.mem ((c.tc : Thread Cert.AdamSquaresIdeal.nD Cert.AdamSquaresIdeal.τ).loc Cert.AdamSquaresIdeal.main_arg8) = m ((c.tc : Thread Cert.AdamSquaresIdeal.nD Cert.AdamSquaresIdeal.τ).loc Cert.AdamSquaresIdeal.main_arg8)
      ∧ r.2.mem ((c.tc : Thread Cert.AdamSquaresIdeal.nD Cert.AdamSquaresIdeal.τ).loc Cert.AdamSquaresIdeal.main_arg9) = m ((c.tc : Thread Cert.AdamSquaresIdeal.nD Cert.AdamSquaresIdeal.τ).loc Cert.AdamSquaresIdeal.main_arg9)
      ∧ r.2.mem ((c.tc : Thread Cert.AdamSquaresIdeal.nD Cert.AdamSquaresIdeal.τ).loc Cert.AdamSquaresIdeal.main_arg10) = m ((c.tc : Thread Cert.AdamSquaresIdeal.nD Cert.AdamSquaresIdeal.τ).loc Cert.AdamSquaresIdeal.main_arg10)
      ∧ r.2.mem ((c.tc : Thread Cert.AdamSquaresIdeal.nD Cert.AdamSquaresIdeal.τ).loc Cert.AdamSquaresIdeal.main_arg11) = m ((c.tc : Thread Cert.AdamSquaresIdeal.nD Cert.AdamSquaresIdeal.τ).loc Cert.AdamSquaresIdeal.main_arg11)
      ∧ r.2.mem ((c.tc : Thread Cert.AdamSquaresIdeal.nD Cert.AdamSquaresIdeal.τ).loc Cert.AdamSquaresIdeal.main_arg12) = m ((c.tc : Thread Cert.AdamSquaresIdeal.nD Cert.AdamSquaresIdeal.τ).loc Cert.AdamSquaresIdeal.main_arg12)
      ∧ r.2.mem ((c.tc : Thread Cert.AdamSquaresIdeal.nD Cert.AdamSquaresIdeal.τ).loc Cert.AdamSquaresIdeal.main_arg13) = m ((c.tc : Thread Cert.AdamSquaresIdeal.nD Cert.AdamSquaresIdeal.τ).loc Cert.AdamSquaresIdeal.main_arg13)
      ∧ r.2.mem ((c.tc : Thread Cert.AdamSquaresIdeal.nD Cert.AdamSquaresIdeal.τ).loc Cert.AdamSquaresIdeal.main_arg14) = m ((c.tc : Thread Cert.AdamSquaresIdeal.nD Cert.AdamSquaresIdeal.τ).loc Cert.AdamSquaresIdeal.main_arg14)
      ∧ r.2.mem ((c.tc : Thread Cert.AdamSquaresIdeal.nD Cert.AdamSquaresIdeal.τ).loc Cert.AdamSquaresIdeal.main_arg15) = m ((c.tc : Thread Cert.AdamSquaresIdeal.nD Cert.AdamSquaresIdeal.τ).loc Cert.AdamSquaresIdeal.main_arg15))
      ∧ r.2.sem = fun _ => 0)

def quiescent_AdamSquaresReferenceIdeal [hAdamSquaresReferenceIdeal : Cert.AdamSquaresReferenceIdeal.Facts] : Prop :=
  ∀ (m : (ℓ : Loc Cert.AdamSquaresReferenceIdeal.nD Cert.AdamSquaresReferenceIdeal.τ Cert.AdamSquaresReferenceIdeal.sig) → Buf (Elt Ideal) ℓ) (g : Dev Cert.AdamSquaresReferenceIdeal.nD → PrngReg), Pre_AdamSquaresReferenceIdeal m →
    θ_run (Cert.AdamSquaresReferenceIdeal.defs (F := Ideal)) (onTc (τ := Cert.AdamSquaresReferenceIdeal.τ) (Cert.AdamSquaresReferenceIdeal.main (F := Ideal))) ⟨m, fun _ => 0, g⟩ (fun r => (∀ c : Dev Cert.AdamSquaresReferenceIdeal.nD,
      r.2.mem ((c.tc : Thread Cert.AdamSquaresReferenceIdeal.nD Cert.AdamSquaresReferenceIdeal.τ).loc Cert.AdamSquaresReferenceIdeal.main_arg0) = m ((c.tc : Thread Cert.AdamSquaresReferenceIdeal.nD Cert.AdamSquaresReferenceIdeal.τ).loc Cert.AdamSquaresReferenceIdeal.main_arg0)
      ∧ r.2.mem ((c.tc : Thread Cert.AdamSquaresReferenceIdeal.nD Cert.AdamSquaresReferenceIdeal.τ).loc Cert.AdamSquaresReferenceIdeal.main_arg1) = m ((c.tc : Thread Cert.AdamSquaresReferenceIdeal.nD Cert.AdamSquaresReferenceIdeal.τ).loc Cert.AdamSquaresReferenceIdeal.main_arg1)
      ∧ r.2.mem ((c.tc : Thread Cert.AdamSquaresReferenceIdeal.nD Cert.AdamSquaresReferenceIdeal.τ).loc Cert.AdamSquaresReferenceIdeal.main_arg2) = m ((c.tc : Thread Cert.AdamSquaresReferenceIdeal.nD Cert.AdamSquaresReferenceIdeal.τ).loc Cert.AdamSquaresReferenceIdeal.main_arg2)
      ∧ r.2.mem ((c.tc : Thread Cert.AdamSquaresReferenceIdeal.nD Cert.AdamSquaresReferenceIdeal.τ).loc Cert.AdamSquaresReferenceIdeal.main_arg3) = m ((c.tc : Thread Cert.AdamSquaresReferenceIdeal.nD Cert.AdamSquaresReferenceIdeal.τ).loc Cert.AdamSquaresReferenceIdeal.main_arg3)
      ∧ r.2.mem ((c.tc : Thread Cert.AdamSquaresReferenceIdeal.nD Cert.AdamSquaresReferenceIdeal.τ).loc Cert.AdamSquaresReferenceIdeal.main_arg4) = m ((c.tc : Thread Cert.AdamSquaresReferenceIdeal.nD Cert.AdamSquaresReferenceIdeal.τ).loc Cert.AdamSquaresReferenceIdeal.main_arg4)
      ∧ r.2.mem ((c.tc : Thread Cert.AdamSquaresReferenceIdeal.nD Cert.AdamSquaresReferenceIdeal.τ).loc Cert.AdamSquaresReferenceIdeal.main_arg5) = m ((c.tc : Thread Cert.AdamSquaresReferenceIdeal.nD Cert.AdamSquaresReferenceIdeal.τ).loc Cert.AdamSquaresReferenceIdeal.main_arg5)
      ∧ r.2.mem ((c.tc : Thread Cert.AdamSquaresReferenceIdeal.nD Cert.AdamSquaresReferenceIdeal.τ).loc Cert.AdamSquaresReferenceIdeal.main_arg6) = m ((c.tc : Thread Cert.AdamSquaresReferenceIdeal.nD Cert.AdamSquaresReferenceIdeal.τ).loc Cert.AdamSquaresReferenceIdeal.main_arg6)
      ∧ r.2.mem ((c.tc : Thread Cert.AdamSquaresReferenceIdeal.nD Cert.AdamSquaresReferenceIdeal.τ).loc Cert.AdamSquaresReferenceIdeal.main_arg7) = m ((c.tc : Thread Cert.AdamSquaresReferenceIdeal.nD Cert.AdamSquaresReferenceIdeal.τ).loc Cert.AdamSquaresReferenceIdeal.main_arg7)
      ∧ r.2.mem ((c.tc : Thread Cert.AdamSquaresReferenceIdeal.nD Cert.AdamSquaresReferenceIdeal.τ).loc Cert.AdamSquaresReferenceIdeal.main_arg8) = m ((c.tc : Thread Cert.AdamSquaresReferenceIdeal.nD Cert.AdamSquaresReferenceIdeal.τ).loc Cert.AdamSquaresReferenceIdeal.main_arg8)
      ∧ r.2.mem ((c.tc : Thread Cert.AdamSquaresReferenceIdeal.nD Cert.AdamSquaresReferenceIdeal.τ).loc Cert.AdamSquaresReferenceIdeal.main_arg9) = m ((c.tc : Thread Cert.AdamSquaresReferenceIdeal.nD Cert.AdamSquaresReferenceIdeal.τ).loc Cert.AdamSquaresReferenceIdeal.main_arg9)
      ∧ r.2.mem ((c.tc : Thread Cert.AdamSquaresReferenceIdeal.nD Cert.AdamSquaresReferenceIdeal.τ).loc Cert.AdamSquaresReferenceIdeal.main_arg10) = m ((c.tc : Thread Cert.AdamSquaresReferenceIdeal.nD Cert.AdamSquaresReferenceIdeal.τ).loc Cert.AdamSquaresReferenceIdeal.main_arg10)
      ∧ r.2.mem ((c.tc : Thread Cert.AdamSquaresReferenceIdeal.nD Cert.AdamSquaresReferenceIdeal.τ).loc Cert.AdamSquaresReferenceIdeal.main_arg11) = m ((c.tc : Thread Cert.AdamSquaresReferenceIdeal.nD Cert.AdamSquaresReferenceIdeal.τ).loc Cert.AdamSquaresReferenceIdeal.main_arg11)
      ∧ r.2.mem ((c.tc : Thread Cert.AdamSquaresReferenceIdeal.nD Cert.AdamSquaresReferenceIdeal.τ).loc Cert.AdamSquaresReferenceIdeal.main_arg12) = m ((c.tc : Thread Cert.AdamSquaresReferenceIdeal.nD Cert.AdamSquaresReferenceIdeal.τ).loc Cert.AdamSquaresReferenceIdeal.main_arg12)
      ∧ r.2.mem ((c.tc : Thread Cert.AdamSquaresReferenceIdeal.nD Cert.AdamSquaresReferenceIdeal.τ).loc Cert.AdamSquaresReferenceIdeal.main_arg13) = m ((c.tc : Thread Cert.AdamSquaresReferenceIdeal.nD Cert.AdamSquaresReferenceIdeal.τ).loc Cert.AdamSquaresReferenceIdeal.main_arg13)
      ∧ r.2.mem ((c.tc : Thread Cert.AdamSquaresReferenceIdeal.nD Cert.AdamSquaresReferenceIdeal.τ).loc Cert.AdamSquaresReferenceIdeal.main_arg14) = m ((c.tc : Thread Cert.AdamSquaresReferenceIdeal.nD Cert.AdamSquaresReferenceIdeal.τ).loc Cert.AdamSquaresReferenceIdeal.main_arg14)
      ∧ r.2.mem ((c.tc : Thread Cert.AdamSquaresReferenceIdeal.nD Cert.AdamSquaresReferenceIdeal.τ).loc Cert.AdamSquaresReferenceIdeal.main_arg15) = m ((c.tc : Thread Cert.AdamSquaresReferenceIdeal.nD Cert.AdamSquaresReferenceIdeal.τ).loc Cert.AdamSquaresReferenceIdeal.main_arg15))
      ∧ r.2.sem = fun _ => 0)

def quiescent_PairDown [hPairDown : Cert.PairDown.Facts] [hPre_placed : Cert.Pre_placed.Facts] : Prop :=
  ∀ (m : (ℓ : Loc Cert.PairDown.nD Cert.PairDown.τ Cert.PairDown.sig) → Buf (Elt Bits) ℓ) (g : Dev Cert.PairDown.nD → PrngReg), Pre_PairDown m →
    θ_run (Cert.PairDown.defs (F := Bits)) (onTc (τ := Cert.PairDown.τ) (Cert.PairDown.main (F := Bits))) ⟨m, fun _ => 0, g⟩ (fun r => (∀ c : Dev Cert.PairDown.nD,
      r.2.mem ((c.tc : Thread Cert.PairDown.nD Cert.PairDown.τ).loc Cert.PairDown.main_arg0) = m ((c.tc : Thread Cert.PairDown.nD Cert.PairDown.τ).loc Cert.PairDown.main_arg0)
      ∧ r.2.mem ((c.tc : Thread Cert.PairDown.nD Cert.PairDown.τ).loc Cert.PairDown.main_arg1) = m ((c.tc : Thread Cert.PairDown.nD Cert.PairDown.τ).loc Cert.PairDown.main_arg1)
      ∧ r.2.mem ((c.tc : Thread Cert.PairDown.nD Cert.PairDown.τ).loc Cert.PairDown.main_arg2) = m ((c.tc : Thread Cert.PairDown.nD Cert.PairDown.τ).loc Cert.PairDown.main_arg2))
      ∧ r.2.sem = fun _ => 0)

def quiescent_PairDownIdeal [hPairDownIdeal : Cert.PairDownIdeal.Facts] [hPre_placed : Cert.Pre_placed.Facts] : Prop :=
  ∀ (m : (ℓ : Loc Cert.PairDownIdeal.nD Cert.PairDownIdeal.τ Cert.PairDownIdeal.sig) → Buf (Elt Ideal) ℓ) (g : Dev Cert.PairDownIdeal.nD → PrngReg), Pre_PairDownIdeal m →
    θ_run (Cert.PairDownIdeal.defs (F := Ideal)) (onTc (τ := Cert.PairDownIdeal.τ) (Cert.PairDownIdeal.main (F := Ideal))) ⟨m, fun _ => 0, g⟩ (fun r => (∀ c : Dev Cert.PairDownIdeal.nD,
      r.2.mem ((c.tc : Thread Cert.PairDownIdeal.nD Cert.PairDownIdeal.τ).loc Cert.PairDownIdeal.main_arg0) = m ((c.tc : Thread Cert.PairDownIdeal.nD Cert.PairDownIdeal.τ).loc Cert.PairDownIdeal.main_arg0)
      ∧ r.2.mem ((c.tc : Thread Cert.PairDownIdeal.nD Cert.PairDownIdeal.τ).loc Cert.PairDownIdeal.main_arg1) = m ((c.tc : Thread Cert.PairDownIdeal.nD Cert.PairDownIdeal.τ).loc Cert.PairDownIdeal.main_arg1)
      ∧ r.2.mem ((c.tc : Thread Cert.PairDownIdeal.nD Cert.PairDownIdeal.τ).loc Cert.PairDownIdeal.main_arg2) = m ((c.tc : Thread Cert.PairDownIdeal.nD Cert.PairDownIdeal.τ).loc Cert.PairDownIdeal.main_arg2))
      ∧ r.2.sem = fun _ => 0)

def quiescent_PairDownReferenceIdeal [hPairDownReferenceIdeal : Cert.PairDownReferenceIdeal.Facts] : Prop :=
  ∀ (m : (ℓ : Loc Cert.PairDownReferenceIdeal.nD Cert.PairDownReferenceIdeal.τ Cert.PairDownReferenceIdeal.sig) → Buf (Elt Ideal) ℓ) (g : Dev Cert.PairDownReferenceIdeal.nD → PrngReg), Pre_PairDownReferenceIdeal m →
    θ_run (Cert.PairDownReferenceIdeal.defs (F := Ideal)) (onTc (τ := Cert.PairDownReferenceIdeal.τ) (Cert.PairDownReferenceIdeal.main (F := Ideal))) ⟨m, fun _ => 0, g⟩ (fun r => (∀ c : Dev Cert.PairDownReferenceIdeal.nD,
      r.2.mem ((c.tc : Thread Cert.PairDownReferenceIdeal.nD Cert.PairDownReferenceIdeal.τ).loc Cert.PairDownReferenceIdeal.main_arg0) = m ((c.tc : Thread Cert.PairDownReferenceIdeal.nD Cert.PairDownReferenceIdeal.τ).loc Cert.PairDownReferenceIdeal.main_arg0)
      ∧ r.2.mem ((c.tc : Thread Cert.PairDownReferenceIdeal.nD Cert.PairDownReferenceIdeal.τ).loc Cert.PairDownReferenceIdeal.main_arg1) = m ((c.tc : Thread Cert.PairDownReferenceIdeal.nD Cert.PairDownReferenceIdeal.τ).loc Cert.PairDownReferenceIdeal.main_arg1)
      ∧ r.2.mem ((c.tc : Thread Cert.PairDownReferenceIdeal.nD Cert.PairDownReferenceIdeal.τ).loc Cert.PairDownReferenceIdeal.main_arg2) = m ((c.tc : Thread Cert.PairDownReferenceIdeal.nD Cert.PairDownReferenceIdeal.τ).loc Cert.PairDownReferenceIdeal.main_arg2))
      ∧ r.2.sem = fun _ => 0)

def quiescent_PairDownReferenceIdeal_pre_placed [hPairDownReferenceIdeal : Cert.PairDownReferenceIdeal.Facts] [hPre_placed : Cert.Pre_placed.Facts] : Prop :=
  ∀ (m : (ℓ : Loc Cert.PairDownReferenceIdeal.nD Cert.PairDownReferenceIdeal.τ Cert.PairDownReferenceIdeal.sig) → Buf (Elt Ideal) ℓ) (g : Dev Cert.PairDownReferenceIdeal.nD → PrngReg), Pre_PairDownReferenceIdeal_placed m →
    θ_run (Cert.PairDownReferenceIdeal.defs (F := Ideal)) (onTc (τ := Cert.PairDownReferenceIdeal.τ) (Cert.PairDownReferenceIdeal.main (F := Ideal))) ⟨m, fun _ => 0, g⟩ (fun r => (∀ c : Dev Cert.PairDownReferenceIdeal.nD,
      r.2.mem ((c.tc : Thread Cert.PairDownReferenceIdeal.nD Cert.PairDownReferenceIdeal.τ).loc Cert.PairDownReferenceIdeal.main_arg0) = m ((c.tc : Thread Cert.PairDownReferenceIdeal.nD Cert.PairDownReferenceIdeal.τ).loc Cert.PairDownReferenceIdeal.main_arg0)
      ∧ r.2.mem ((c.tc : Thread Cert.PairDownReferenceIdeal.nD Cert.PairDownReferenceIdeal.τ).loc Cert.PairDownReferenceIdeal.main_arg1) = m ((c.tc : Thread Cert.PairDownReferenceIdeal.nD Cert.PairDownReferenceIdeal.τ).loc Cert.PairDownReferenceIdeal.main_arg1)
      ∧ r.2.mem ((c.tc : Thread Cert.PairDownReferenceIdeal.nD Cert.PairDownReferenceIdeal.τ).loc Cert.PairDownReferenceIdeal.main_arg2) = m ((c.tc : Thread Cert.PairDownReferenceIdeal.nD Cert.PairDownReferenceIdeal.τ).loc Cert.PairDownReferenceIdeal.main_arg2))
      ∧ r.2.sem = fun _ => 0)

def quiescent_PairGateUp [hPairGateUp : Cert.PairGateUp.Facts] [hPre_placed_gate_up : Cert.Pre_placed_gate_up.Facts] : Prop :=
  ∀ (m : (ℓ : Loc Cert.PairGateUp.nD Cert.PairGateUp.τ Cert.PairGateUp.sig) → Buf (Elt Bits) ℓ) (g : Dev Cert.PairGateUp.nD → PrngReg), Pre_PairGateUp m →
    θ_run (Cert.PairGateUp.defs (F := Bits)) (onTc (τ := Cert.PairGateUp.τ) (Cert.PairGateUp.main (F := Bits))) ⟨m, fun _ => 0, g⟩ (fun r => (∀ c : Dev Cert.PairGateUp.nD,
      r.2.mem ((c.tc : Thread Cert.PairGateUp.nD Cert.PairGateUp.τ).loc Cert.PairGateUp.main_arg0) = m ((c.tc : Thread Cert.PairGateUp.nD Cert.PairGateUp.τ).loc Cert.PairGateUp.main_arg0)
      ∧ r.2.mem ((c.tc : Thread Cert.PairGateUp.nD Cert.PairGateUp.τ).loc Cert.PairGateUp.main_arg1) = m ((c.tc : Thread Cert.PairGateUp.nD Cert.PairGateUp.τ).loc Cert.PairGateUp.main_arg1)
      ∧ r.2.mem ((c.tc : Thread Cert.PairGateUp.nD Cert.PairGateUp.τ).loc Cert.PairGateUp.main_arg2) = m ((c.tc : Thread Cert.PairGateUp.nD Cert.PairGateUp.τ).loc Cert.PairGateUp.main_arg2))
      ∧ r.2.sem = fun _ => 0)

def quiescent_PairGateUpIdeal [hPairGateUpIdeal : Cert.PairGateUpIdeal.Facts] [hPre_placed_gate_up : Cert.Pre_placed_gate_up.Facts] : Prop :=
  ∀ (m : (ℓ : Loc Cert.PairGateUpIdeal.nD Cert.PairGateUpIdeal.τ Cert.PairGateUpIdeal.sig) → Buf (Elt Ideal) ℓ) (g : Dev Cert.PairGateUpIdeal.nD → PrngReg), Pre_PairGateUpIdeal m →
    θ_run (Cert.PairGateUpIdeal.defs (F := Ideal)) (onTc (τ := Cert.PairGateUpIdeal.τ) (Cert.PairGateUpIdeal.main (F := Ideal))) ⟨m, fun _ => 0, g⟩ (fun r => (∀ c : Dev Cert.PairGateUpIdeal.nD,
      r.2.mem ((c.tc : Thread Cert.PairGateUpIdeal.nD Cert.PairGateUpIdeal.τ).loc Cert.PairGateUpIdeal.main_arg0) = m ((c.tc : Thread Cert.PairGateUpIdeal.nD Cert.PairGateUpIdeal.τ).loc Cert.PairGateUpIdeal.main_arg0)
      ∧ r.2.mem ((c.tc : Thread Cert.PairGateUpIdeal.nD Cert.PairGateUpIdeal.τ).loc Cert.PairGateUpIdeal.main_arg1) = m ((c.tc : Thread Cert.PairGateUpIdeal.nD Cert.PairGateUpIdeal.τ).loc Cert.PairGateUpIdeal.main_arg1)
      ∧ r.2.mem ((c.tc : Thread Cert.PairGateUpIdeal.nD Cert.PairGateUpIdeal.τ).loc Cert.PairGateUpIdeal.main_arg2) = m ((c.tc : Thread Cert.PairGateUpIdeal.nD Cert.PairGateUpIdeal.τ).loc Cert.PairGateUpIdeal.main_arg2))
      ∧ r.2.sem = fun _ => 0)

def quiescent_PairGateUpReferenceIdeal [hPairGateUpReferenceIdeal : Cert.PairGateUpReferenceIdeal.Facts] : Prop :=
  ∀ (m : (ℓ : Loc Cert.PairGateUpReferenceIdeal.nD Cert.PairGateUpReferenceIdeal.τ Cert.PairGateUpReferenceIdeal.sig) → Buf (Elt Ideal) ℓ) (g : Dev Cert.PairGateUpReferenceIdeal.nD → PrngReg), Pre_PairGateUpReferenceIdeal m →
    θ_run (Cert.PairGateUpReferenceIdeal.defs (F := Ideal)) (onTc (τ := Cert.PairGateUpReferenceIdeal.τ) (Cert.PairGateUpReferenceIdeal.main (F := Ideal))) ⟨m, fun _ => 0, g⟩ (fun r => (∀ c : Dev Cert.PairGateUpReferenceIdeal.nD,
      r.2.mem ((c.tc : Thread Cert.PairGateUpReferenceIdeal.nD Cert.PairGateUpReferenceIdeal.τ).loc Cert.PairGateUpReferenceIdeal.main_arg0) = m ((c.tc : Thread Cert.PairGateUpReferenceIdeal.nD Cert.PairGateUpReferenceIdeal.τ).loc Cert.PairGateUpReferenceIdeal.main_arg0)
      ∧ r.2.mem ((c.tc : Thread Cert.PairGateUpReferenceIdeal.nD Cert.PairGateUpReferenceIdeal.τ).loc Cert.PairGateUpReferenceIdeal.main_arg1) = m ((c.tc : Thread Cert.PairGateUpReferenceIdeal.nD Cert.PairGateUpReferenceIdeal.τ).loc Cert.PairGateUpReferenceIdeal.main_arg1)
      ∧ r.2.mem ((c.tc : Thread Cert.PairGateUpReferenceIdeal.nD Cert.PairGateUpReferenceIdeal.τ).loc Cert.PairGateUpReferenceIdeal.main_arg2) = m ((c.tc : Thread Cert.PairGateUpReferenceIdeal.nD Cert.PairGateUpReferenceIdeal.τ).loc Cert.PairGateUpReferenceIdeal.main_arg2))
      ∧ r.2.sem = fun _ => 0)

def quiescent_PairGateUpReferenceIdeal_pre_placed_gate_up [hPairGateUpReferenceIdeal : Cert.PairGateUpReferenceIdeal.Facts] [hPre_placed_gate_up : Cert.Pre_placed_gate_up.Facts] : Prop :=
  ∀ (m : (ℓ : Loc Cert.PairGateUpReferenceIdeal.nD Cert.PairGateUpReferenceIdeal.τ Cert.PairGateUpReferenceIdeal.sig) → Buf (Elt Ideal) ℓ) (g : Dev Cert.PairGateUpReferenceIdeal.nD → PrngReg), Pre_PairGateUpReferenceIdeal_placed_gate_up m →
    θ_run (Cert.PairGateUpReferenceIdeal.defs (F := Ideal)) (onTc (τ := Cert.PairGateUpReferenceIdeal.τ) (Cert.PairGateUpReferenceIdeal.main (F := Ideal))) ⟨m, fun _ => 0, g⟩ (fun r => (∀ c : Dev Cert.PairGateUpReferenceIdeal.nD,
      r.2.mem ((c.tc : Thread Cert.PairGateUpReferenceIdeal.nD Cert.PairGateUpReferenceIdeal.τ).loc Cert.PairGateUpReferenceIdeal.main_arg0) = m ((c.tc : Thread Cert.PairGateUpReferenceIdeal.nD Cert.PairGateUpReferenceIdeal.τ).loc Cert.PairGateUpReferenceIdeal.main_arg0)
      ∧ r.2.mem ((c.tc : Thread Cert.PairGateUpReferenceIdeal.nD Cert.PairGateUpReferenceIdeal.τ).loc Cert.PairGateUpReferenceIdeal.main_arg1) = m ((c.tc : Thread Cert.PairGateUpReferenceIdeal.nD Cert.PairGateUpReferenceIdeal.τ).loc Cert.PairGateUpReferenceIdeal.main_arg1)
      ∧ r.2.mem ((c.tc : Thread Cert.PairGateUpReferenceIdeal.nD Cert.PairGateUpReferenceIdeal.τ).loc Cert.PairGateUpReferenceIdeal.main_arg2) = m ((c.tc : Thread Cert.PairGateUpReferenceIdeal.nD Cert.PairGateUpReferenceIdeal.τ).loc Cert.PairGateUpReferenceIdeal.main_arg2))
      ∧ r.2.sem = fun _ => 0)

def quiescent_PairIn [hPairIn : Cert.PairIn.Facts] [hPre_placed_in : Cert.Pre_placed_in.Facts] : Prop :=
  ∀ (m : (ℓ : Loc Cert.PairIn.nD Cert.PairIn.τ Cert.PairIn.sig) → Buf (Elt Bits) ℓ) (g : Dev Cert.PairIn.nD → PrngReg), Pre_PairIn m →
    θ_run (Cert.PairIn.defs (F := Bits)) (onTc (τ := Cert.PairIn.τ) (Cert.PairIn.main (F := Bits))) ⟨m, fun _ => 0, g⟩ (fun r => (∀ c : Dev Cert.PairIn.nD,
      r.2.mem ((c.tc : Thread Cert.PairIn.nD Cert.PairIn.τ).loc Cert.PairIn.main_arg0) = m ((c.tc : Thread Cert.PairIn.nD Cert.PairIn.τ).loc Cert.PairIn.main_arg0)
      ∧ r.2.mem ((c.tc : Thread Cert.PairIn.nD Cert.PairIn.τ).loc Cert.PairIn.main_arg1) = m ((c.tc : Thread Cert.PairIn.nD Cert.PairIn.τ).loc Cert.PairIn.main_arg1)
      ∧ r.2.mem ((c.tc : Thread Cert.PairIn.nD Cert.PairIn.τ).loc Cert.PairIn.main_arg2) = m ((c.tc : Thread Cert.PairIn.nD Cert.PairIn.τ).loc Cert.PairIn.main_arg2))
      ∧ r.2.sem = fun _ => 0)

def quiescent_PairInIdeal [hPairInIdeal : Cert.PairInIdeal.Facts] [hPre_placed_in : Cert.Pre_placed_in.Facts] : Prop :=
  ∀ (m : (ℓ : Loc Cert.PairInIdeal.nD Cert.PairInIdeal.τ Cert.PairInIdeal.sig) → Buf (Elt Ideal) ℓ) (g : Dev Cert.PairInIdeal.nD → PrngReg), Pre_PairInIdeal m →
    θ_run (Cert.PairInIdeal.defs (F := Ideal)) (onTc (τ := Cert.PairInIdeal.τ) (Cert.PairInIdeal.main (F := Ideal))) ⟨m, fun _ => 0, g⟩ (fun r => (∀ c : Dev Cert.PairInIdeal.nD,
      r.2.mem ((c.tc : Thread Cert.PairInIdeal.nD Cert.PairInIdeal.τ).loc Cert.PairInIdeal.main_arg0) = m ((c.tc : Thread Cert.PairInIdeal.nD Cert.PairInIdeal.τ).loc Cert.PairInIdeal.main_arg0)
      ∧ r.2.mem ((c.tc : Thread Cert.PairInIdeal.nD Cert.PairInIdeal.τ).loc Cert.PairInIdeal.main_arg1) = m ((c.tc : Thread Cert.PairInIdeal.nD Cert.PairInIdeal.τ).loc Cert.PairInIdeal.main_arg1)
      ∧ r.2.mem ((c.tc : Thread Cert.PairInIdeal.nD Cert.PairInIdeal.τ).loc Cert.PairInIdeal.main_arg2) = m ((c.tc : Thread Cert.PairInIdeal.nD Cert.PairInIdeal.τ).loc Cert.PairInIdeal.main_arg2))
      ∧ r.2.sem = fun _ => 0)

def quiescent_PairInReferenceIdeal [hPairInReferenceIdeal : Cert.PairInReferenceIdeal.Facts] : Prop :=
  ∀ (m : (ℓ : Loc Cert.PairInReferenceIdeal.nD Cert.PairInReferenceIdeal.τ Cert.PairInReferenceIdeal.sig) → Buf (Elt Ideal) ℓ) (g : Dev Cert.PairInReferenceIdeal.nD → PrngReg), Pre_PairInReferenceIdeal m →
    θ_run (Cert.PairInReferenceIdeal.defs (F := Ideal)) (onTc (τ := Cert.PairInReferenceIdeal.τ) (Cert.PairInReferenceIdeal.main (F := Ideal))) ⟨m, fun _ => 0, g⟩ (fun r => (∀ c : Dev Cert.PairInReferenceIdeal.nD,
      r.2.mem ((c.tc : Thread Cert.PairInReferenceIdeal.nD Cert.PairInReferenceIdeal.τ).loc Cert.PairInReferenceIdeal.main_arg0) = m ((c.tc : Thread Cert.PairInReferenceIdeal.nD Cert.PairInReferenceIdeal.τ).loc Cert.PairInReferenceIdeal.main_arg0)
      ∧ r.2.mem ((c.tc : Thread Cert.PairInReferenceIdeal.nD Cert.PairInReferenceIdeal.τ).loc Cert.PairInReferenceIdeal.main_arg1) = m ((c.tc : Thread Cert.PairInReferenceIdeal.nD Cert.PairInReferenceIdeal.τ).loc Cert.PairInReferenceIdeal.main_arg1)
      ∧ r.2.mem ((c.tc : Thread Cert.PairInReferenceIdeal.nD Cert.PairInReferenceIdeal.τ).loc Cert.PairInReferenceIdeal.main_arg2) = m ((c.tc : Thread Cert.PairInReferenceIdeal.nD Cert.PairInReferenceIdeal.τ).loc Cert.PairInReferenceIdeal.main_arg2))
      ∧ r.2.sem = fun _ => 0)

def quiescent_PairInReferenceIdeal_pre_placed_in [hPairInReferenceIdeal : Cert.PairInReferenceIdeal.Facts] [hPre_placed_in : Cert.Pre_placed_in.Facts] : Prop :=
  ∀ (m : (ℓ : Loc Cert.PairInReferenceIdeal.nD Cert.PairInReferenceIdeal.τ Cert.PairInReferenceIdeal.sig) → Buf (Elt Ideal) ℓ) (g : Dev Cert.PairInReferenceIdeal.nD → PrngReg), Pre_PairInReferenceIdeal_placed_in m →
    θ_run (Cert.PairInReferenceIdeal.defs (F := Ideal)) (onTc (τ := Cert.PairInReferenceIdeal.τ) (Cert.PairInReferenceIdeal.main (F := Ideal))) ⟨m, fun _ => 0, g⟩ (fun r => (∀ c : Dev Cert.PairInReferenceIdeal.nD,
      r.2.mem ((c.tc : Thread Cert.PairInReferenceIdeal.nD Cert.PairInReferenceIdeal.τ).loc Cert.PairInReferenceIdeal.main_arg0) = m ((c.tc : Thread Cert.PairInReferenceIdeal.nD Cert.PairInReferenceIdeal.τ).loc Cert.PairInReferenceIdeal.main_arg0)
      ∧ r.2.mem ((c.tc : Thread Cert.PairInReferenceIdeal.nD Cert.PairInReferenceIdeal.τ).loc Cert.PairInReferenceIdeal.main_arg1) = m ((c.tc : Thread Cert.PairInReferenceIdeal.nD Cert.PairInReferenceIdeal.τ).loc Cert.PairInReferenceIdeal.main_arg1)
      ∧ r.2.mem ((c.tc : Thread Cert.PairInReferenceIdeal.nD Cert.PairInReferenceIdeal.τ).loc Cert.PairInReferenceIdeal.main_arg2) = m ((c.tc : Thread Cert.PairInReferenceIdeal.nD Cert.PairInReferenceIdeal.τ).loc Cert.PairInReferenceIdeal.main_arg2))
      ∧ r.2.sem = fun _ => 0)

def preserves_Kernel_KernelIdeal : Prop :=
  IdealRules.named_const.Statement Cert.KernelIdeal.κ "c1" .f32 0x3D372713#32 ((8943 / 200000 : ℝ) : EReal)
  ∧ IdealRules.named_const.Statement Cert.KernelIdeal.κ "c3" .f32 0x3E095D4F#32 ((26829 / 200000 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v8_0)) (v1 : (c : Dev Cert.KernelIdeal.nD) → Buf (Elt Ideal) ((c.tc : Thread Cert.KernelIdeal.nD Cert.KernelIdeal.τ).loc Cert.KernelIdeal.main_v8_1)) (v2 : (c : Dev Cert.KernelIdeal.nD) → Buf (Elt Ideal) ((c.tc : Thread Cert.KernelIdeal.nD Cert.KernelIdeal.τ).loc Cert.KernelIdeal.main_v8_2)) (v3 : (c : Dev Cert.KernelIdeal.nD) → Buf (Elt Ideal) ((c.tc : Thread Cert.KernelIdeal.nD Cert.KernelIdeal.τ).loc Cert.KernelIdeal.main_v8_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8_0) = v0 c
          ∧ r.2.mem ((c.tc : Thread Cert.KernelIdeal.nD Cert.KernelIdeal.τ).loc Cert.KernelIdeal.main_v8_1) = v1 c
          ∧ r.2.mem ((c.tc : Thread Cert.KernelIdeal.nD Cert.KernelIdeal.τ).loc Cert.KernelIdeal.main_v8_2) = v2 c
          ∧ r.2.mem ((c.tc : Thread Cert.KernelIdeal.nD Cert.KernelIdeal.τ).loc Cert.KernelIdeal.main_v8_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v193) = v0 c
          ∧ r.2.mem ((c.tc : Thread Cert.ReferenceIdeal.nD Cert.ReferenceIdeal.τ).loc Cert.ReferenceIdeal.main_v196) = v1 c
          ∧ r.2.mem ((c.tc : Thread Cert.ReferenceIdeal.nD Cert.ReferenceIdeal.τ).loc Cert.ReferenceIdeal.main_v198) = v2 c
          ∧ r.2.mem ((c.tc : Thread Cert.ReferenceIdeal.nD Cert.ReferenceIdeal.τ).loc Cert.ReferenceIdeal.main_v199) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Ffn_FfnIdeal : Prop :=
  True

def algebraic_FfnIdeal_FfnReferenceIdeal_pre_ffn_finite [hFfnIdeal : Cert.FfnIdeal.Facts] [hFfnReferenceIdeal : Cert.FfnReferenceIdeal.Facts] [hPre_ffn_finite : Cert.Pre_ffn_finite.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnIdeal_ffn_finite m →
    (∀ c : Dev Cert.FfnIdeal.nD,
      m' ((c.tc : Thread Cert.FfnReferenceIdeal.nD Cert.FfnReferenceIdeal.τ).loc Cert.FfnReferenceIdeal.main_arg0) = m ((c.tc : Thread Cert.FfnIdeal.nD Cert.FfnIdeal.τ).loc Cert.FfnIdeal.main_arg0)
      ∧ m' ((c.tc : Thread Cert.FfnReferenceIdeal.nD Cert.FfnReferenceIdeal.τ).loc Cert.FfnReferenceIdeal.main_arg1) = m ((c.tc : Thread Cert.FfnIdeal.nD Cert.FfnIdeal.τ).loc Cert.FfnIdeal.main_arg1)
      ∧ m' ((c.tc : Thread Cert.FfnReferenceIdeal.nD Cert.FfnReferenceIdeal.τ).loc Cert.FfnReferenceIdeal.main_arg2) = m ((c.tc : Thread Cert.FfnIdeal.nD Cert.FfnIdeal.τ).loc Cert.FfnIdeal.main_arg2)
      ∧ m' ((c.tc : Thread Cert.FfnReferenceIdeal.nD Cert.FfnReferenceIdeal.τ).loc Cert.FfnReferenceIdeal.main_arg3) = m ((c.tc : Thread Cert.FfnIdeal.nD Cert.FfnIdeal.τ).loc Cert.FfnIdeal.main_arg3)
      ∧ m' ((c.tc : Thread Cert.FfnReferenceIdeal.nD Cert.FfnReferenceIdeal.τ).loc Cert.FfnReferenceIdeal.main_arg4) = m ((c.tc : Thread Cert.FfnIdeal.nD Cert.FfnIdeal.τ).loc Cert.FfnIdeal.main_arg4)
      ∧ m' ((c.tc : Thread Cert.FfnReferenceIdeal.nD Cert.FfnReferenceIdeal.τ).loc Cert.FfnReferenceIdeal.main_arg5) = m ((c.tc : Thread Cert.FfnIdeal.nD Cert.FfnIdeal.τ).loc Cert.FfnIdeal.main_arg5)) →
    ∃ (v0 : (c : Dev Cert.FfnIdeal.nD) → Buf (Elt Ideal) ((c.tc : Thread Cert.FfnIdeal.nD Cert.FfnIdeal.τ).loc Cert.FfnIdeal.main_v0_0)) (v1 : (c : Dev Cert.FfnIdeal.nD) → Buf (Elt Ideal) ((c.tc : Thread Cert.FfnIdeal.nD Cert.FfnIdeal.τ).loc Cert.FfnIdeal.main_v0_1)) (v2 : (c : Dev Cert.FfnIdeal.nD) → Buf (Elt Ideal) ((c.tc : Thread Cert.FfnIdeal.nD Cert.FfnIdeal.τ).loc Cert.FfnIdeal.main_v0_2)) (v3 : (c : Dev Cert.FfnIdeal.nD) → Buf (Elt Ideal) ((c.tc : Thread Cert.FfnIdeal.nD Cert.FfnIdeal.τ).loc Cert.FfnIdeal.main_v0_3)) (v4 : (c : Dev Cert.FfnIdeal.nD) → Buf (Elt Ideal) ((c.tc : Thread Cert.FfnIdeal.nD Cert.FfnIdeal.τ).loc Cert.FfnIdeal.main_v0_4)) (v5 : (c : Dev Cert.FfnIdeal.nD) → Buf (Elt Ideal) ((c.tc : Thread Cert.FfnIdeal.nD Cert.FfnIdeal.τ).loc Cert.FfnIdeal.main_v0_5)) (v6 : (c : Dev Cert.FfnIdeal.nD) → Buf (Elt Ideal) ((c.tc : Thread Cert.FfnIdeal.nD Cert.FfnIdeal.τ).loc Cert.FfnIdeal.main_v0_6)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v0_0) = v0 c
          ∧ r.2.mem ((c.tc : Thread Cert.FfnIdeal.nD Cert.FfnIdeal.τ).loc Cert.FfnIdeal.main_v0_1) = v1 c
          ∧ r.2.mem ((c.tc : Thread Cert.FfnIdeal.nD Cert.FfnIdeal.τ).loc Cert.FfnIdeal.main_v0_2) = v2 c
          ∧ r.2.mem ((c.tc : Thread Cert.FfnIdeal.nD Cert.FfnIdeal.τ).loc Cert.FfnIdeal.main_v0_3) = v3 c
          ∧ r.2.mem ((c.tc : Thread Cert.FfnIdeal.nD Cert.FfnIdeal.τ).loc Cert.FfnIdeal.main_v0_4) = v4 c
          ∧ r.2.mem ((c.tc : Thread Cert.FfnIdeal.nD Cert.FfnIdeal.τ).loc Cert.FfnIdeal.main_v0_5) = v5 c
          ∧ r.2.mem ((c.tc : Thread Cert.FfnIdeal.nD Cert.FfnIdeal.τ).loc Cert.FfnIdeal.main_v0_6) = v6 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v135) = v0 c
          ∧ r.2.mem ((c.tc : Thread Cert.FfnReferenceIdeal.nD Cert.FfnReferenceIdeal.τ).loc Cert.FfnReferenceIdeal.main_v136) = v1 c
          ∧ r.2.mem ((c.tc : Thread Cert.FfnReferenceIdeal.nD Cert.FfnReferenceIdeal.τ).loc Cert.FfnReferenceIdeal.main_v137) = v2 c
          ∧ r.2.mem ((c.tc : Thread Cert.FfnReferenceIdeal.nD Cert.FfnReferenceIdeal.τ).loc Cert.FfnReferenceIdeal.main_v141) = v3 c
          ∧ r.2.mem ((c.tc : Thread Cert.FfnReferenceIdeal.nD Cert.FfnReferenceIdeal.τ).loc Cert.FfnReferenceIdeal.main_v132) = v4 c
          ∧ r.2.mem ((c.tc : Thread Cert.FfnReferenceIdeal.nD Cert.FfnReferenceIdeal.τ).loc Cert.FfnReferenceIdeal.main_v142) = v5 c
          ∧ r.2.mem ((c.tc : Thread Cert.FfnReferenceIdeal.nD Cert.FfnReferenceIdeal.τ).loc Cert.FfnReferenceIdeal.main_v146) = v6 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4)
          ∧ r.2.mem ((c.tc : Thread Cert.FfnReferenceIdeal.nD Cert.FfnReferenceIdeal.τ).loc Cert.FfnReferenceIdeal.main_arg5) = m' ((c.tc : Thread Cert.FfnReferenceIdeal.nD Cert.FfnReferenceIdeal.τ).loc Cert.FfnReferenceIdeal.main_arg5))

def preserves_GateUp_GateUpIdeal : Prop :=
  True

def algebraic_GateUpIdeal_GateUpReferenceIdeal [hGateUpIdeal : Cert.GateUpIdeal.Facts] [hGateUpReferenceIdeal : Cert.GateUpReferenceIdeal.Facts] : Prop :=
  ∀ (m : (ℓ : Loc Cert.GateUpIdeal.nD Cert.GateUpIdeal.τ Cert.GateUpIdeal.sig) → Buf (Elt Ideal) ℓ) (g : Dev Cert.GateUpIdeal.nD → PrngReg)
    (m' : (ℓ : Loc Cert.GateUpReferenceIdeal.nD Cert.GateUpReferenceIdeal.τ Cert.GateUpReferenceIdeal.sig) → Buf (Elt Ideal) ℓ) (g' : Dev Cert.GateUpReferenceIdeal.nD → PrngReg), Pre_GateUpIdeal m →
    (∀ c : Dev Cert.GateUpIdeal.nD,
      m' ((c.tc : Thread Cert.GateUpReferenceIdeal.nD Cert.GateUpReferenceIdeal.τ).loc Cert.GateUpReferenceIdeal.main_arg0) = m ((c.tc : Thread Cert.GateUpIdeal.nD Cert.GateUpIdeal.τ).loc Cert.GateUpIdeal.main_arg0)
      ∧ m' ((c.tc : Thread Cert.GateUpReferenceIdeal.nD Cert.GateUpReferenceIdeal.τ).loc Cert.GateUpReferenceIdeal.main_arg1) = m ((c.tc : Thread Cert.GateUpIdeal.nD Cert.GateUpIdeal.τ).loc Cert.GateUpIdeal.main_arg1)) →
    ∃ (v0 : (c : Dev Cert.GateUpIdeal.nD) → Buf (Elt Ideal) ((c.tc : Thread Cert.GateUpIdeal.nD Cert.GateUpIdeal.τ).loc Cert.GateUpIdeal.main_v0)),
      θ_run (Cert.GateUpIdeal.defs (F := Ideal)) (onTc (τ := Cert.GateUpIdeal.τ) (Cert.GateUpIdeal.main (F := Ideal))) ⟨m, fun _ => 0, g⟩ (fun r => ∀ c : Dev Cert.GateUpIdeal.nD,
          r.2.mem ((c.tc : Thread Cert.GateUpIdeal.nD Cert.GateUpIdeal.τ).loc Cert.GateUpIdeal.main_v0) = v0 c
          ∧ r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
          ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1))
      ∧ θ_run (Cert.GateUpReferenceIdeal.defs (F := Ideal)) (onTc (τ := Cert.GateUpReferenceIdeal.τ) (Cert.GateUpReferenceIdeal.main (F := Ideal))) ⟨m', fun _ => 0, g'⟩ (fun r => ∀ c : Dev Cert.GateUpReferenceIdeal.nD,
          r.2.mem ((c.tc : Thread Cert.GateUpReferenceIdeal.nD Cert.GateUpReferenceIdeal.τ).loc Cert.GateUpReferenceIdeal.main_v12) = v0 c
          ∧ r.2.mem ((c.tc : Thread Cert.GateUpReferenceIdeal.nD Cert.GateUpReferenceIdeal.τ).loc Cert.GateUpReferenceIdeal.main_arg0) = m' ((c.tc : Thread Cert.GateUpReferenceIdeal.nD Cert.GateUpReferenceIdeal.τ).loc Cert.GateUpReferenceIdeal.main_arg0)
          ∧ r.2.mem ((c.tc : Thread Cert.GateUpReferenceIdeal.nD Cert.GateUpReferenceIdeal.τ).loc Cert.GateUpReferenceIdeal.main_arg1) = m' ((c.tc : Thread Cert.GateUpReferenceIdeal.nD Cert.GateUpReferenceIdeal.τ).loc Cert.GateUpReferenceIdeal.main_arg1))

def preserves_Down_DownIdeal : Prop :=
  True

def algebraic_DownIdeal_DownReferenceIdeal [hDownIdeal : Cert.DownIdeal.Facts] [hDownReferenceIdeal : Cert.DownReferenceIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownReferenceIdeal.nD Cert.DownReferenceIdeal.τ Cert.DownReferenceIdeal.sig) → Buf (Elt Ideal) ℓ) (g' : Dev Cert.DownReferenceIdeal.nD → PrngReg), Pre_DownIdeal m →
    (∀ c : Dev Cert.DownIdeal.nD,
      m' ((c.tc : Thread Cert.DownReferenceIdeal.nD Cert.DownReferenceIdeal.τ).loc Cert.DownReferenceIdeal.main_arg0) = m ((c.tc : Thread Cert.DownIdeal.nD Cert.DownIdeal.τ).loc Cert.DownIdeal.main_arg0)
      ∧ m' ((c.tc : Thread Cert.DownReferenceIdeal.nD Cert.DownReferenceIdeal.τ).loc Cert.DownReferenceIdeal.main_arg1) = m ((c.tc : Thread Cert.DownIdeal.nD Cert.DownIdeal.τ).loc Cert.DownIdeal.main_arg1)) →
    ∃ (v0 : (c : Dev Cert.DownIdeal.nD) → Buf (Elt Ideal) ((c.tc : Thread Cert.DownIdeal.nD Cert.DownIdeal.τ).loc Cert.DownIdeal.main_v0)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ θ_run (Cert.DownReferenceIdeal.defs (F := Ideal)) (onTc (τ := Cert.DownReferenceIdeal.τ) (Cert.DownReferenceIdeal.main (F := Ideal))) ⟨m', fun _ => 0, g'⟩ (fun r => ∀ c : Dev Cert.DownReferenceIdeal.nD,
          r.2.mem ((c.tc : Thread Cert.DownReferenceIdeal.nD Cert.DownReferenceIdeal.τ).loc Cert.DownReferenceIdeal.main_v5) = v0 c
          ∧ r.2.mem ((c.tc : Thread Cert.DownReferenceIdeal.nD Cert.DownReferenceIdeal.τ).loc Cert.DownReferenceIdeal.main_arg0) = m' ((c.tc : Thread Cert.DownReferenceIdeal.nD Cert.DownReferenceIdeal.τ).loc Cert.DownReferenceIdeal.main_arg0)
          ∧ r.2.mem ((c.tc : Thread Cert.DownReferenceIdeal.nD Cert.DownReferenceIdeal.τ).loc Cert.DownReferenceIdeal.main_arg1) = m' ((c.tc : Thread Cert.DownReferenceIdeal.nD Cert.DownReferenceIdeal.τ).loc Cert.DownReferenceIdeal.main_arg1))

def preserves_Square_SquareIdeal : Prop :=
  True

def algebraic_SquareIdeal_SquareReferenceIdeal [hSquareIdeal : Cert.SquareIdeal.Facts] [hSquareReferenceIdeal : Cert.SquareReferenceIdeal.Facts] : Prop :=
  ∀ (m : (ℓ : Loc Cert.SquareIdeal.nD Cert.SquareIdeal.τ Cert.SquareIdeal.sig) → Buf (Elt Ideal) ℓ) (g : Dev Cert.SquareIdeal.nD → PrngReg)
    (m' : (ℓ : Loc Cert.SquareReferenceIdeal.nD Cert.SquareReferenceIdeal.τ Cert.SquareReferenceIdeal.sig) → Buf (Elt Ideal) ℓ) (g' : Dev Cert.SquareReferenceIdeal.nD → PrngReg), Pre_SquareIdeal m →
    (∀ c : Dev Cert.SquareIdeal.nD,
      m' ((c.tc : Thread Cert.SquareReferenceIdeal.nD Cert.SquareReferenceIdeal.τ).loc Cert.SquareReferenceIdeal.main_arg0) = m ((c.tc : Thread Cert.SquareIdeal.nD Cert.SquareIdeal.τ).loc Cert.SquareIdeal.main_arg0)
      ∧ m' ((c.tc : Thread Cert.SquareReferenceIdeal.nD Cert.SquareReferenceIdeal.τ).loc Cert.SquareReferenceIdeal.main_arg1) = m ((c.tc : Thread Cert.SquareIdeal.nD Cert.SquareIdeal.τ).loc Cert.SquareIdeal.main_arg1)) →
    ∃ (v0 : (c : Dev Cert.SquareIdeal.nD) → Buf (Elt Ideal) ((c.tc : Thread Cert.SquareIdeal.nD Cert.SquareIdeal.τ).loc Cert.SquareIdeal.main_v0)),
      θ_run (Cert.SquareIdeal.defs (F := Ideal)) (onTc (τ := Cert.SquareIdeal.τ) (Cert.SquareIdeal.main (F := Ideal))) ⟨m, fun _ => 0, g⟩ (fun r => ∀ c : Dev Cert.SquareIdeal.nD,
          r.2.mem ((c.tc : Thread Cert.SquareIdeal.nD Cert.SquareIdeal.τ).loc Cert.SquareIdeal.main_v0) = v0 c
          ∧ r.2.mem ((c.tc : Thread Cert.SquareIdeal.nD Cert.SquareIdeal.τ).loc Cert.SquareIdeal.main_arg0) = m ((c.tc : Thread Cert.SquareIdeal.nD Cert.SquareIdeal.τ).loc Cert.SquareIdeal.main_arg0)
          ∧ r.2.mem ((c.tc : Thread Cert.SquareIdeal.nD Cert.SquareIdeal.τ).loc Cert.SquareIdeal.main_arg1) = m ((c.tc : Thread Cert.SquareIdeal.nD Cert.SquareIdeal.τ).loc Cert.SquareIdeal.main_arg1))
      ∧ θ_run (Cert.SquareReferenceIdeal.defs (F := Ideal)) (onTc (τ := Cert.SquareReferenceIdeal.τ) (Cert.SquareReferenceIdeal.main (F := Ideal))) ⟨m', fun _ => 0, g'⟩ (fun r => ∀ c : Dev Cert.SquareReferenceIdeal.nD,
          r.2.mem ((c.tc : Thread Cert.SquareReferenceIdeal.nD Cert.SquareReferenceIdeal.τ).loc Cert.SquareReferenceIdeal.main_v5) = v0 c
          ∧ r.2.mem ((c.tc : Thread Cert.SquareReferenceIdeal.nD Cert.SquareReferenceIdeal.τ).loc Cert.SquareReferenceIdeal.main_arg0) = m' ((c.tc : Thread Cert.SquareReferenceIdeal.nD Cert.SquareReferenceIdeal.τ).loc Cert.SquareReferenceIdeal.main_arg0)
          ∧ r.2.mem ((c.tc : Thread Cert.SquareReferenceIdeal.nD Cert.SquareReferenceIdeal.τ).loc Cert.SquareReferenceIdeal.main_arg1) = m' ((c.tc : Thread Cert.SquareReferenceIdeal.nD Cert.SquareReferenceIdeal.τ).loc Cert.SquareReferenceIdeal.main_arg1))

def preserves_Merge_MergeIdeal : Prop :=
  True

def algebraic_MergeIdeal_MergeReferenceIdeal [hMergeIdeal : Cert.MergeIdeal.Facts] [hMergeReferenceIdeal : Cert.MergeReferenceIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeIdeal m →
    (∀ c : Dev Cert.MergeIdeal.nD,
      m' ((c.tc : Thread Cert.MergeReferenceIdeal.nD Cert.MergeReferenceIdeal.τ).loc Cert.MergeReferenceIdeal.main_arg0) = m ((c.tc : Thread Cert.MergeIdeal.nD Cert.MergeIdeal.τ).loc Cert.MergeIdeal.main_arg0)
      ∧ m' ((c.tc : Thread Cert.MergeReferenceIdeal.nD Cert.MergeReferenceIdeal.τ).loc Cert.MergeReferenceIdeal.main_arg1) = m ((c.tc : Thread Cert.MergeIdeal.nD Cert.MergeIdeal.τ).loc Cert.MergeIdeal.main_arg1)
      ∧ m' ((c.tc : Thread Cert.MergeReferenceIdeal.nD Cert.MergeReferenceIdeal.τ).loc Cert.MergeReferenceIdeal.main_arg2) = m ((c.tc : Thread Cert.MergeIdeal.nD Cert.MergeIdeal.τ).loc Cert.MergeIdeal.main_arg2)
      ∧ m' ((c.tc : Thread Cert.MergeReferenceIdeal.nD Cert.MergeReferenceIdeal.τ).loc Cert.MergeReferenceIdeal.main_arg3) = m ((c.tc : Thread Cert.MergeIdeal.nD Cert.MergeIdeal.τ).loc Cert.MergeIdeal.main_arg3)
      ∧ m' ((c.tc : Thread Cert.MergeReferenceIdeal.nD Cert.MergeReferenceIdeal.τ).loc Cert.MergeReferenceIdeal.main_arg4) = m ((c.tc : Thread Cert.MergeIdeal.nD Cert.MergeIdeal.τ).loc Cert.MergeIdeal.main_arg4)
      ∧ m' ((c.tc : Thread Cert.MergeReferenceIdeal.nD Cert.MergeReferenceIdeal.τ).loc Cert.MergeReferenceIdeal.main_arg5) = m ((c.tc : Thread Cert.MergeIdeal.nD Cert.MergeIdeal.τ).loc Cert.MergeIdeal.main_arg5)
      ∧ m' ((c.tc : Thread Cert.MergeReferenceIdeal.nD Cert.MergeReferenceIdeal.τ).loc Cert.MergeReferenceIdeal.main_arg6) = m ((c.tc : Thread Cert.MergeIdeal.nD Cert.MergeIdeal.τ).loc Cert.MergeIdeal.main_arg6)) →
    ∃ (v0 : (c : Dev Cert.MergeIdeal.nD) → Buf (Elt Ideal) ((c.tc : Thread Cert.MergeIdeal.nD Cert.MergeIdeal.τ).loc Cert.MergeIdeal.main_v0_0)) (v1 : (c : Dev Cert.MergeIdeal.nD) → Buf (Elt Ideal) ((c.tc : Thread Cert.MergeIdeal.nD Cert.MergeIdeal.τ).loc Cert.MergeIdeal.main_v0_1)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v0_0) = v0 c
          ∧ r.2.mem ((c.tc : Thread Cert.MergeIdeal.nD Cert.MergeIdeal.τ).loc Cert.MergeIdeal.main_v0_1) = v1 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v25) = v0 c
          ∧ r.2.mem ((c.tc : Thread Cert.MergeReferenceIdeal.nD Cert.MergeReferenceIdeal.τ).loc Cert.MergeReferenceIdeal.main_v28) = v1 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3)
          ∧ r.2.mem ((c.tc : Thread Cert.MergeReferenceIdeal.nD Cert.MergeReferenceIdeal.τ).loc Cert.MergeReferenceIdeal.main_arg4) = m' ((c.tc : Thread Cert.MergeReferenceIdeal.nD Cert.MergeReferenceIdeal.τ).loc Cert.MergeReferenceIdeal.main_arg4)
          ∧ r.2.mem ((c.tc : Thread Cert.MergeReferenceIdeal.nD Cert.MergeReferenceIdeal.τ).loc Cert.MergeReferenceIdeal.main_arg5) = m' ((c.tc : Thread Cert.MergeReferenceIdeal.nD Cert.MergeReferenceIdeal.τ).loc Cert.MergeReferenceIdeal.main_arg5)
          ∧ r.2.mem ((c.tc : Thread Cert.MergeReferenceIdeal.nD Cert.MergeReferenceIdeal.τ).loc Cert.MergeReferenceIdeal.main_arg6) = m' ((c.tc : Thread Cert.MergeReferenceIdeal.nD Cert.MergeReferenceIdeal.τ).loc Cert.MergeReferenceIdeal.main_arg6))

def preserves_Gating_GatingIdeal : Prop :=
  True

def algebraic_GatingIdeal_GatingReferenceIdeal [hGatingIdeal : Cert.GatingIdeal.Facts] [hGatingReferenceIdeal : Cert.GatingReferenceIdeal.Facts] : Prop :=
  ∀ (m : (ℓ : Loc Cert.GatingIdeal.nD Cert.GatingIdeal.τ Cert.GatingIdeal.sig) → Buf (Elt Ideal) ℓ) (g : Dev Cert.GatingIdeal.nD → PrngReg)
    (m' : (ℓ : Loc Cert.GatingReferenceIdeal.nD Cert.GatingReferenceIdeal.τ Cert.GatingReferenceIdeal.sig) → Buf (Elt Ideal) ℓ) (g' : Dev Cert.GatingReferenceIdeal.nD → PrngReg), Pre_GatingIdeal m →
    (∀ c : Dev Cert.GatingIdeal.nD,
      m' ((c.tc : Thread Cert.GatingReferenceIdeal.nD Cert.GatingReferenceIdeal.τ).loc Cert.GatingReferenceIdeal.main_arg0) = m ((c.tc : Thread Cert.GatingIdeal.nD Cert.GatingIdeal.τ).loc Cert.GatingIdeal.main_arg0)
      ∧ m' ((c.tc : Thread Cert.GatingReferenceIdeal.nD Cert.GatingReferenceIdeal.τ).loc Cert.GatingReferenceIdeal.main_arg1) = m ((c.tc : Thread Cert.GatingIdeal.nD Cert.GatingIdeal.τ).loc Cert.GatingIdeal.main_arg1)
      ∧ m' ((c.tc : Thread Cert.GatingReferenceIdeal.nD Cert.GatingReferenceIdeal.τ).loc Cert.GatingReferenceIdeal.main_arg2) = m ((c.tc : Thread Cert.GatingIdeal.nD Cert.GatingIdeal.τ).loc Cert.GatingIdeal.main_arg2)
      ∧ m' ((c.tc : Thread Cert.GatingReferenceIdeal.nD Cert.GatingReferenceIdeal.τ).loc Cert.GatingReferenceIdeal.main_arg3) = m ((c.tc : Thread Cert.GatingIdeal.nD Cert.GatingIdeal.τ).loc Cert.GatingIdeal.main_arg3)
      ∧ m' ((c.tc : Thread Cert.GatingReferenceIdeal.nD Cert.GatingReferenceIdeal.τ).loc Cert.GatingReferenceIdeal.main_arg4) = m ((c.tc : Thread Cert.GatingIdeal.nD Cert.GatingIdeal.τ).loc Cert.GatingIdeal.main_arg4)) →
    ∃ (v0 : (c : Dev Cert.GatingIdeal.nD) → Buf (Elt Ideal) ((c.tc : Thread Cert.GatingIdeal.nD Cert.GatingIdeal.τ).loc Cert.GatingIdeal.main_v7)),
      θ_run (Cert.GatingIdeal.defs (F := Ideal)) (onTc (τ := Cert.GatingIdeal.τ) (Cert.GatingIdeal.main (F := Ideal))) ⟨m, fun _ => 0, g⟩ (fun r => ∀ c : Dev Cert.GatingIdeal.nD,
          r.2.mem ((c.tc : Thread Cert.GatingIdeal.nD Cert.GatingIdeal.τ).loc Cert.GatingIdeal.main_v7) = v0 c
          ∧ r.2.mem ((c.tc : Thread Cert.GatingIdeal.nD Cert.GatingIdeal.τ).loc Cert.GatingIdeal.main_arg0) = m ((c.tc : Thread Cert.GatingIdeal.nD Cert.GatingIdeal.τ).loc Cert.GatingIdeal.main_arg0)
          ∧ r.2.mem ((c.tc : Thread Cert.GatingIdeal.nD Cert.GatingIdeal.τ).loc Cert.GatingIdeal.main_arg1) = m ((c.tc : Thread Cert.GatingIdeal.nD Cert.GatingIdeal.τ).loc Cert.GatingIdeal.main_arg1)
          ∧ r.2.mem ((c.tc : Thread Cert.GatingIdeal.nD Cert.GatingIdeal.τ).loc Cert.GatingIdeal.main_arg2) = m ((c.tc : Thread Cert.GatingIdeal.nD Cert.GatingIdeal.τ).loc Cert.GatingIdeal.main_arg2)
          ∧ r.2.mem ((c.tc : Thread Cert.GatingIdeal.nD Cert.GatingIdeal.τ).loc Cert.GatingIdeal.main_arg3) = m ((c.tc : Thread Cert.GatingIdeal.nD Cert.GatingIdeal.τ).loc Cert.GatingIdeal.main_arg3)
          ∧ r.2.mem ((c.tc : Thread Cert.GatingIdeal.nD Cert.GatingIdeal.τ).loc Cert.GatingIdeal.main_arg4) = m ((c.tc : Thread Cert.GatingIdeal.nD Cert.GatingIdeal.τ).loc Cert.GatingIdeal.main_arg4))
      ∧ θ_run (Cert.GatingReferenceIdeal.defs (F := Ideal)) (onTc (τ := Cert.GatingReferenceIdeal.τ) (Cert.GatingReferenceIdeal.main (F := Ideal))) ⟨m', fun _ => 0, g'⟩ (fun r => ∀ c : Dev Cert.GatingReferenceIdeal.nD,
          r.2.mem ((c.tc : Thread Cert.GatingReferenceIdeal.nD Cert.GatingReferenceIdeal.τ).loc Cert.GatingReferenceIdeal.main_v71) = v0 c
          ∧ r.2.mem ((c.tc : Thread Cert.GatingReferenceIdeal.nD Cert.GatingReferenceIdeal.τ).loc Cert.GatingReferenceIdeal.main_arg0) = m' ((c.tc : Thread Cert.GatingReferenceIdeal.nD Cert.GatingReferenceIdeal.τ).loc Cert.GatingReferenceIdeal.main_arg0)
          ∧ r.2.mem ((c.tc : Thread Cert.GatingReferenceIdeal.nD Cert.GatingReferenceIdeal.τ).loc Cert.GatingReferenceIdeal.main_arg1) = m' ((c.tc : Thread Cert.GatingReferenceIdeal.nD Cert.GatingReferenceIdeal.τ).loc Cert.GatingReferenceIdeal.main_arg1)
          ∧ r.2.mem ((c.tc : Thread Cert.GatingReferenceIdeal.nD Cert.GatingReferenceIdeal.τ).loc Cert.GatingReferenceIdeal.main_arg2) = m' ((c.tc : Thread Cert.GatingReferenceIdeal.nD Cert.GatingReferenceIdeal.τ).loc Cert.GatingReferenceIdeal.main_arg2)
          ∧ r.2.mem ((c.tc : Thread Cert.GatingReferenceIdeal.nD Cert.GatingReferenceIdeal.τ).loc Cert.GatingReferenceIdeal.main_arg3) = m' ((c.tc : Thread Cert.GatingReferenceIdeal.nD Cert.GatingReferenceIdeal.τ).loc Cert.GatingReferenceIdeal.main_arg3)
          ∧ r.2.mem ((c.tc : Thread Cert.GatingReferenceIdeal.nD Cert.GatingReferenceIdeal.τ).loc Cert.GatingReferenceIdeal.main_arg4) = m' ((c.tc : Thread Cert.GatingReferenceIdeal.nD Cert.GatingReferenceIdeal.τ).loc Cert.GatingReferenceIdeal.main_arg4))

def preserves_AdamIn_AdamInIdeal : Prop :=
  True

def algebraic_AdamInIdeal_AdamInReferenceIdeal [hAdamInIdeal : Cert.AdamInIdeal.Facts] [hAdamInReferenceIdeal : Cert.AdamInReferenceIdeal.Facts] : Prop :=
  ∀ (m : (ℓ : Loc Cert.AdamInIdeal.nD Cert.AdamInIdeal.τ Cert.AdamInIdeal.sig) → Buf (Elt Ideal) ℓ) (g : Dev Cert.AdamInIdeal.nD → PrngReg)
    (m' : (ℓ : Loc Cert.AdamInReferenceIdeal.nD Cert.AdamInReferenceIdeal.τ Cert.AdamInReferenceIdeal.sig) → Buf (Elt Ideal) ℓ) (g' : Dev Cert.AdamInReferenceIdeal.nD → PrngReg), Pre_AdamInIdeal m →
    (∀ c : Dev Cert.AdamInIdeal.nD,
      m' ((c.tc : Thread Cert.AdamInReferenceIdeal.nD Cert.AdamInReferenceIdeal.τ).loc Cert.AdamInReferenceIdeal.main_arg0) = m ((c.tc : Thread Cert.AdamInIdeal.nD Cert.AdamInIdeal.τ).loc Cert.AdamInIdeal.main_arg0)
      ∧ m' ((c.tc : Thread Cert.AdamInReferenceIdeal.nD Cert.AdamInReferenceIdeal.τ).loc Cert.AdamInReferenceIdeal.main_arg1) = m ((c.tc : Thread Cert.AdamInIdeal.nD Cert.AdamInIdeal.τ).loc Cert.AdamInIdeal.main_arg1)
      ∧ m' ((c.tc : Thread Cert.AdamInReferenceIdeal.nD Cert.AdamInReferenceIdeal.τ).loc Cert.AdamInReferenceIdeal.main_arg2) = m ((c.tc : Thread Cert.AdamInIdeal.nD Cert.AdamInIdeal.τ).loc Cert.AdamInIdeal.main_arg2)
      ∧ m' ((c.tc : Thread Cert.AdamInReferenceIdeal.nD Cert.AdamInReferenceIdeal.τ).loc Cert.AdamInReferenceIdeal.main_arg3) = m ((c.tc : Thread Cert.AdamInIdeal.nD Cert.AdamInIdeal.τ).loc Cert.AdamInIdeal.main_arg3)
      ∧ m' ((c.tc : Thread Cert.AdamInReferenceIdeal.nD Cert.AdamInReferenceIdeal.τ).loc Cert.AdamInReferenceIdeal.main_arg4) = m ((c.tc : Thread Cert.AdamInIdeal.nD Cert.AdamInIdeal.τ).loc Cert.AdamInIdeal.main_arg4)
      ∧ m' ((c.tc : Thread Cert.AdamInReferenceIdeal.nD Cert.AdamInReferenceIdeal.τ).loc Cert.AdamInReferenceIdeal.main_arg5) = m ((c.tc : Thread Cert.AdamInIdeal.nD Cert.AdamInIdeal.τ).loc Cert.AdamInIdeal.main_arg5)) →
    ∃ (v0 : (c : Dev Cert.AdamInIdeal.nD) → Buf (Elt Ideal) ((c.tc : Thread Cert.AdamInIdeal.nD Cert.AdamInIdeal.τ).loc Cert.AdamInIdeal.main_v0_0)) (v1 : (c : Dev Cert.AdamInIdeal.nD) → Buf (Elt Ideal) ((c.tc : Thread Cert.AdamInIdeal.nD Cert.AdamInIdeal.τ).loc Cert.AdamInIdeal.main_v0_1)) (v2 : (c : Dev Cert.AdamInIdeal.nD) → Buf (Elt Ideal) ((c.tc : Thread Cert.AdamInIdeal.nD Cert.AdamInIdeal.τ).loc Cert.AdamInIdeal.main_v0_2)) (v3 : (c : Dev Cert.AdamInIdeal.nD) → Buf (Elt Ideal) ((c.tc : Thread Cert.AdamInIdeal.nD Cert.AdamInIdeal.τ).loc Cert.AdamInIdeal.main_v0_3)),
      θ_run (Cert.AdamInIdeal.defs (F := Ideal)) (onTc (τ := Cert.AdamInIdeal.τ) (Cert.AdamInIdeal.main (F := Ideal))) ⟨m, fun _ => 0, g⟩ (fun r => ∀ c : Dev Cert.AdamInIdeal.nD,
          r.2.mem ((c.tc : Thread Cert.AdamInIdeal.nD Cert.AdamInIdeal.τ).loc Cert.AdamInIdeal.main_v0_0) = v0 c
          ∧ r.2.mem ((c.tc : Thread Cert.AdamInIdeal.nD Cert.AdamInIdeal.τ).loc Cert.AdamInIdeal.main_v0_1) = v1 c
          ∧ r.2.mem ((c.tc : Thread Cert.AdamInIdeal.nD Cert.AdamInIdeal.τ).loc Cert.AdamInIdeal.main_v0_2) = v2 c
          ∧ r.2.mem ((c.tc : Thread Cert.AdamInIdeal.nD Cert.AdamInIdeal.τ).loc Cert.AdamInIdeal.main_v0_3) = v3 c
          ∧ r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
          ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
          ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
          ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3)
          ∧ r.2.mem ((c.tc : Thread Cert.AdamInIdeal.nD Cert.AdamInIdeal.τ).loc Cert.AdamInIdeal.main_arg4) = m ((c.tc : Thread Cert.AdamInIdeal.nD Cert.AdamInIdeal.τ).loc Cert.AdamInIdeal.main_arg4)
          ∧ r.2.mem ((c.tc : Thread Cert.AdamInIdeal.nD Cert.AdamInIdeal.τ).loc Cert.AdamInIdeal.main_arg5) = m ((c.tc : Thread Cert.AdamInIdeal.nD Cert.AdamInIdeal.τ).loc Cert.AdamInIdeal.main_arg5))
      ∧ θ_run (Cert.AdamInReferenceIdeal.defs (F := Ideal)) (onTc (τ := Cert.AdamInReferenceIdeal.τ) (Cert.AdamInReferenceIdeal.main (F := Ideal))) ⟨m', fun _ => 0, g'⟩ (fun r => ∀ c : Dev Cert.AdamInReferenceIdeal.nD,
          r.2.mem ((c.tc : Thread Cert.AdamInReferenceIdeal.nD Cert.AdamInReferenceIdeal.τ).loc Cert.AdamInReferenceIdeal.main_v6) = v0 c
          ∧ r.2.mem ((c.tc : Thread Cert.AdamInReferenceIdeal.nD Cert.AdamInReferenceIdeal.τ).loc Cert.AdamInReferenceIdeal.main_v30) = v1 c
          ∧ r.2.mem ((c.tc : Thread Cert.AdamInReferenceIdeal.nD Cert.AdamInReferenceIdeal.τ).loc Cert.AdamInReferenceIdeal.main_v11) = v2 c
          ∧ r.2.mem ((c.tc : Thread Cert.AdamInReferenceIdeal.nD Cert.AdamInReferenceIdeal.τ).loc Cert.AdamInReferenceIdeal.main_v17) = v3 c
          ∧ r.2.mem ((c.tc : Thread Cert.AdamInReferenceIdeal.nD Cert.AdamInReferenceIdeal.τ).loc Cert.AdamInReferenceIdeal.main_arg0) = m' ((c.tc : Thread Cert.AdamInReferenceIdeal.nD Cert.AdamInReferenceIdeal.τ).loc Cert.AdamInReferenceIdeal.main_arg0)
          ∧ r.2.mem ((c.tc : Thread Cert.AdamInReferenceIdeal.nD Cert.AdamInReferenceIdeal.τ).loc Cert.AdamInReferenceIdeal.main_arg1) = m' ((c.tc : Thread Cert.AdamInReferenceIdeal.nD Cert.AdamInReferenceIdeal.τ).loc Cert.AdamInReferenceIdeal.main_arg1)
          ∧ r.2.mem ((c.tc : Thread Cert.AdamInReferenceIdeal.nD Cert.AdamInReferenceIdeal.τ).loc Cert.AdamInReferenceIdeal.main_arg2) = m' ((c.tc : Thread Cert.AdamInReferenceIdeal.nD Cert.AdamInReferenceIdeal.τ).loc Cert.AdamInReferenceIdeal.main_arg2)
          ∧ r.2.mem ((c.tc : Thread Cert.AdamInReferenceIdeal.nD Cert.AdamInReferenceIdeal.τ).loc Cert.AdamInReferenceIdeal.main_arg3) = m' ((c.tc : Thread Cert.AdamInReferenceIdeal.nD Cert.AdamInReferenceIdeal.τ).loc Cert.AdamInReferenceIdeal.main_arg3)
          ∧ r.2.mem ((c.tc : Thread Cert.AdamInReferenceIdeal.nD Cert.AdamInReferenceIdeal.τ).loc Cert.AdamInReferenceIdeal.main_arg4) = m' ((c.tc : Thread Cert.AdamInReferenceIdeal.nD Cert.AdamInReferenceIdeal.τ).loc Cert.AdamInReferenceIdeal.main_arg4)
          ∧ r.2.mem ((c.tc : Thread Cert.AdamInReferenceIdeal.nD Cert.AdamInReferenceIdeal.τ).loc Cert.AdamInReferenceIdeal.main_arg5) = m' ((c.tc : Thread Cert.AdamInReferenceIdeal.nD Cert.AdamInReferenceIdeal.τ).loc Cert.AdamInReferenceIdeal.main_arg5))

def preserves_ChipGateUp_ChipGateUpIdeal : Prop :=
  True

def algebraic_ChipGateUpIdeal_ChipGateUpReferenceIdeal [hChipGateUpIdeal : Cert.ChipGateUpIdeal.Facts] [hChipGateUpReferenceIdeal : Cert.ChipGateUpReferenceIdeal.Facts] : Prop :=
  ∀ (m : (ℓ : Loc Cert.ChipGateUpIdeal.nD Cert.ChipGateUpIdeal.τ Cert.ChipGateUpIdeal.sig) → Buf (Elt Ideal) ℓ) (g : Dev Cert.ChipGateUpIdeal.nD → PrngReg)
    (m' : (ℓ : Loc Cert.ChipGateUpReferenceIdeal.nD Cert.ChipGateUpReferenceIdeal.τ Cert.ChipGateUpReferenceIdeal.sig) → Buf (Elt Ideal) ℓ) (g' : Dev Cert.ChipGateUpReferenceIdeal.nD → PrngReg), Pre_ChipGateUpIdeal m →
    (∀ c : Dev Cert.ChipGateUpIdeal.nD,
      m' ((c.tc : Thread Cert.ChipGateUpReferenceIdeal.nD Cert.ChipGateUpReferenceIdeal.τ).loc Cert.ChipGateUpReferenceIdeal.main_arg0) = m ((c.tc : Thread Cert.ChipGateUpIdeal.nD Cert.ChipGateUpIdeal.τ).loc Cert.ChipGateUpIdeal.main_arg0)
      ∧ m' ((c.tc : Thread Cert.ChipGateUpReferenceIdeal.nD Cert.ChipGateUpReferenceIdeal.τ).loc Cert.ChipGateUpReferenceIdeal.main_arg1) = m ((c.tc : Thread Cert.ChipGateUpIdeal.nD Cert.ChipGateUpIdeal.τ).loc Cert.ChipGateUpIdeal.main_arg1)) →
    ∃ (v0 : (c : Dev Cert.ChipGateUpIdeal.nD) → Buf (Elt Ideal) ((c.tc : Thread Cert.ChipGateUpIdeal.nD Cert.ChipGateUpIdeal.τ).loc Cert.ChipGateUpIdeal.main_v0)),
      θ_run (Cert.ChipGateUpIdeal.defs (F := Ideal)) (onTc (τ := Cert.ChipGateUpIdeal.τ) (Cert.ChipGateUpIdeal.main (F := Ideal))) ⟨m, fun _ => 0, g⟩ (fun r => ∀ c : Dev Cert.ChipGateUpIdeal.nD,
          r.2.mem ((c.tc : Thread Cert.ChipGateUpIdeal.nD Cert.ChipGateUpIdeal.τ).loc Cert.ChipGateUpIdeal.main_v0) = v0 c
          ∧ r.2.mem ((c.tc : Thread Cert.ChipGateUpIdeal.nD Cert.ChipGateUpIdeal.τ).loc Cert.ChipGateUpIdeal.main_arg0) = m ((c.tc : Thread Cert.ChipGateUpIdeal.nD Cert.ChipGateUpIdeal.τ).loc Cert.ChipGateUpIdeal.main_arg0)
          ∧ r.2.mem ((c.tc : Thread Cert.ChipGateUpIdeal.nD Cert.ChipGateUpIdeal.τ).loc Cert.ChipGateUpIdeal.main_arg1) = m ((c.tc : Thread Cert.ChipGateUpIdeal.nD Cert.ChipGateUpIdeal.τ).loc Cert.ChipGateUpIdeal.main_arg1))
      ∧ θ_run (Cert.ChipGateUpReferenceIdeal.defs (F := Ideal)) (onTc (τ := Cert.ChipGateUpReferenceIdeal.τ) (Cert.ChipGateUpReferenceIdeal.main (F := Ideal))) ⟨m', fun _ => 0, g'⟩ (fun r => ∀ c : Dev Cert.ChipGateUpReferenceIdeal.nD,
          r.2.mem ((c.tc : Thread Cert.ChipGateUpReferenceIdeal.nD Cert.ChipGateUpReferenceIdeal.τ).loc Cert.ChipGateUpReferenceIdeal.main_v2) = v0 c
          ∧ r.2.mem ((c.tc : Thread Cert.ChipGateUpReferenceIdeal.nD Cert.ChipGateUpReferenceIdeal.τ).loc Cert.ChipGateUpReferenceIdeal.main_arg0) = m' ((c.tc : Thread Cert.ChipGateUpReferenceIdeal.nD Cert.ChipGateUpReferenceIdeal.τ).loc Cert.ChipGateUpReferenceIdeal.main_arg0)
          ∧ r.2.mem ((c.tc : Thread Cert.ChipGateUpReferenceIdeal.nD Cert.ChipGateUpReferenceIdeal.τ).loc Cert.ChipGateUpReferenceIdeal.main_arg1) = m' ((c.tc : Thread Cert.ChipGateUpReferenceIdeal.nD Cert.ChipGateUpReferenceIdeal.τ).loc Cert.ChipGateUpReferenceIdeal.main_arg1))

def preserves_ChipDown_ChipDownIdeal : Prop :=
  True

def algebraic_ChipDownIdeal_ChipDownReferenceIdeal [hChipDownIdeal : Cert.ChipDownIdeal.Facts] [hChipDownReferenceIdeal : Cert.ChipDownReferenceIdeal.Facts] : Prop :=
  ∀ (m : (ℓ : Loc Cert.ChipDownIdeal.nD Cert.ChipDownIdeal.τ Cert.ChipDownIdeal.sig) → Buf (Elt Ideal) ℓ) (g : Dev Cert.ChipDownIdeal.nD → PrngReg)
    (m' : (ℓ : Loc Cert.ChipDownReferenceIdeal.nD Cert.ChipDownReferenceIdeal.τ Cert.ChipDownReferenceIdeal.sig) → Buf (Elt Ideal) ℓ) (g' : Dev Cert.ChipDownReferenceIdeal.nD → PrngReg), Pre_ChipDownIdeal m →
    (∀ c : Dev Cert.ChipDownIdeal.nD,
      m' ((c.tc : Thread Cert.ChipDownReferenceIdeal.nD Cert.ChipDownReferenceIdeal.τ).loc Cert.ChipDownReferenceIdeal.main_arg0) = m ((c.tc : Thread Cert.ChipDownIdeal.nD Cert.ChipDownIdeal.τ).loc Cert.ChipDownIdeal.main_arg0)
      ∧ m' ((c.tc : Thread Cert.ChipDownReferenceIdeal.nD Cert.ChipDownReferenceIdeal.τ).loc Cert.ChipDownReferenceIdeal.main_arg1) = m ((c.tc : Thread Cert.ChipDownIdeal.nD Cert.ChipDownIdeal.τ).loc Cert.ChipDownIdeal.main_arg1)) →
    ∃ (v0 : (c : Dev Cert.ChipDownIdeal.nD) → Buf (Elt Ideal) ((c.tc : Thread Cert.ChipDownIdeal.nD Cert.ChipDownIdeal.τ).loc Cert.ChipDownIdeal.main_v0)),
      θ_run (Cert.ChipDownIdeal.defs (F := Ideal)) (onTc (τ := Cert.ChipDownIdeal.τ) (Cert.ChipDownIdeal.main (F := Ideal))) ⟨m, fun _ => 0, g⟩ (fun r => ∀ c : Dev Cert.ChipDownIdeal.nD,
          r.2.mem ((c.tc : Thread Cert.ChipDownIdeal.nD Cert.ChipDownIdeal.τ).loc Cert.ChipDownIdeal.main_v0) = v0 c
          ∧ r.2.mem ((c.tc : Thread Cert.ChipDownIdeal.nD Cert.ChipDownIdeal.τ).loc Cert.ChipDownIdeal.main_arg0) = m ((c.tc : Thread Cert.ChipDownIdeal.nD Cert.ChipDownIdeal.τ).loc Cert.ChipDownIdeal.main_arg0)
          ∧ r.2.mem ((c.tc : Thread Cert.ChipDownIdeal.nD Cert.ChipDownIdeal.τ).loc Cert.ChipDownIdeal.main_arg1) = m ((c.tc : Thread Cert.ChipDownIdeal.nD Cert.ChipDownIdeal.τ).loc Cert.ChipDownIdeal.main_arg1))
      ∧ θ_run (Cert.ChipDownReferenceIdeal.defs (F := Ideal)) (onTc (τ := Cert.ChipDownReferenceIdeal.τ) (Cert.ChipDownReferenceIdeal.main (F := Ideal))) ⟨m', fun _ => 0, g'⟩ (fun r => ∀ c : Dev Cert.ChipDownReferenceIdeal.nD,
          r.2.mem ((c.tc : Thread Cert.ChipDownReferenceIdeal.nD Cert.ChipDownReferenceIdeal.τ).loc Cert.ChipDownReferenceIdeal.main_v2) = v0 c
          ∧ r.2.mem ((c.tc : Thread Cert.ChipDownReferenceIdeal.nD Cert.ChipDownReferenceIdeal.τ).loc Cert.ChipDownReferenceIdeal.main_arg0) = m' ((c.tc : Thread Cert.ChipDownReferenceIdeal.nD Cert.ChipDownReferenceIdeal.τ).loc Cert.ChipDownReferenceIdeal.main_arg0)
          ∧ r.2.mem ((c.tc : Thread Cert.ChipDownReferenceIdeal.nD Cert.ChipDownReferenceIdeal.τ).loc Cert.ChipDownReferenceIdeal.main_arg1) = m' ((c.tc : Thread Cert.ChipDownReferenceIdeal.nD Cert.ChipDownReferenceIdeal.τ).loc Cert.ChipDownReferenceIdeal.main_arg1))

def preserves_ChipSquares_ChipSquaresIdeal : Prop :=
  True

def algebraic_ChipSquaresIdeal_ChipSquaresReferenceIdeal [hChipSquaresIdeal : Cert.ChipSquaresIdeal.Facts] [hChipSquaresReferenceIdeal : Cert.ChipSquaresReferenceIdeal.Facts] : Prop :=
  ∀ (m : (ℓ : Loc Cert.ChipSquaresIdeal.nD Cert.ChipSquaresIdeal.τ Cert.ChipSquaresIdeal.sig) → Buf (Elt Ideal) ℓ) (g : Dev Cert.ChipSquaresIdeal.nD → PrngReg)
    (m' : (ℓ : Loc Cert.ChipSquaresReferenceIdeal.nD Cert.ChipSquaresReferenceIdeal.τ Cert.ChipSquaresReferenceIdeal.sig) → Buf (Elt Ideal) ℓ) (g' : Dev Cert.ChipSquaresReferenceIdeal.nD → PrngReg), Pre_ChipSquaresIdeal m →
    (∀ c : Dev Cert.ChipSquaresIdeal.nD,
      m' ((c.tc : Thread Cert.ChipSquaresReferenceIdeal.nD Cert.ChipSquaresReferenceIdeal.τ).loc Cert.ChipSquaresReferenceIdeal.main_arg0) = m ((c.tc : Thread Cert.ChipSquaresIdeal.nD Cert.ChipSquaresIdeal.τ).loc Cert.ChipSquaresIdeal.main_arg0)
      ∧ m' ((c.tc : Thread Cert.ChipSquaresReferenceIdeal.nD Cert.ChipSquaresReferenceIdeal.τ).loc Cert.ChipSquaresReferenceIdeal.main_arg1) = m ((c.tc : Thread Cert.ChipSquaresIdeal.nD Cert.ChipSquaresIdeal.τ).loc Cert.ChipSquaresIdeal.main_arg1)
      ∧ m' ((c.tc : Thread Cert.ChipSquaresReferenceIdeal.nD Cert.ChipSquaresReferenceIdeal.τ).loc Cert.ChipSquaresReferenceIdeal.main_arg2) = m ((c.tc : Thread Cert.ChipSquaresIdeal.nD Cert.ChipSquaresIdeal.τ).loc Cert.ChipSquaresIdeal.main_arg2)
      ∧ m' ((c.tc : Thread Cert.ChipSquaresReferenceIdeal.nD Cert.ChipSquaresReferenceIdeal.τ).loc Cert.ChipSquaresReferenceIdeal.main_arg3) = m ((c.tc : Thread Cert.ChipSquaresIdeal.nD Cert.ChipSquaresIdeal.τ).loc Cert.ChipSquaresIdeal.main_arg3)
      ∧ m' ((c.tc : Thread Cert.ChipSquaresReferenceIdeal.nD Cert.ChipSquaresReferenceIdeal.τ).loc Cert.ChipSquaresReferenceIdeal.main_arg4) = m ((c.tc : Thread Cert.ChipSquaresIdeal.nD Cert.ChipSquaresIdeal.τ).loc Cert.ChipSquaresIdeal.main_arg4)
      ∧ m' ((c.tc : Thread Cert.ChipSquaresReferenceIdeal.nD Cert.ChipSquaresReferenceIdeal.τ).loc Cert.ChipSquaresReferenceIdeal.main_arg5) = m ((c.tc : Thread Cert.ChipSquaresIdeal.nD Cert.ChipSquaresIdeal.τ).loc Cert.ChipSquaresIdeal.main_arg5)) →
    ∃ (v0 : (c : Dev Cert.ChipSquaresIdeal.nD) → Buf (Elt Ideal) ((c.tc : Thread Cert.ChipSquaresIdeal.nD Cert.ChipSquaresIdeal.τ).loc Cert.ChipSquaresIdeal.main_v0_0)) (v1 : (c : Dev Cert.ChipSquaresIdeal.nD) → Buf (Elt Ideal) ((c.tc : Thread Cert.ChipSquaresIdeal.nD Cert.ChipSquaresIdeal.τ).loc Cert.ChipSquaresIdeal.main_v0_1)) (v2 : (c : Dev Cert.ChipSquaresIdeal.nD) → Buf (Elt Ideal) ((c.tc : Thread Cert.ChipSquaresIdeal.nD Cert.ChipSquaresIdeal.τ).loc Cert.ChipSquaresIdeal.main_v0_2)),
      θ_run (Cert.ChipSquaresIdeal.defs (F := Ideal)) (onTc (τ := Cert.ChipSquaresIdeal.τ) (Cert.ChipSquaresIdeal.main (F := Ideal))) ⟨m, fun _ => 0, g⟩ (fun r => ∀ c : Dev Cert.ChipSquaresIdeal.nD,
          r.2.mem ((c.tc : Thread Cert.ChipSquaresIdeal.nD Cert.ChipSquaresIdeal.τ).loc Cert.ChipSquaresIdeal.main_v0_0) = v0 c
          ∧ r.2.mem ((c.tc : Thread Cert.ChipSquaresIdeal.nD Cert.ChipSquaresIdeal.τ).loc Cert.ChipSquaresIdeal.main_v0_1) = v1 c
          ∧ r.2.mem ((c.tc : Thread Cert.ChipSquaresIdeal.nD Cert.ChipSquaresIdeal.τ).loc Cert.ChipSquaresIdeal.main_v0_2) = v2 c
          ∧ r.2.mem ((c.tc : Thread Cert.ChipSquaresIdeal.nD Cert.ChipSquaresIdeal.τ).loc Cert.ChipSquaresIdeal.main_arg0) = m ((c.tc : Thread Cert.ChipSquaresIdeal.nD Cert.ChipSquaresIdeal.τ).loc Cert.ChipSquaresIdeal.main_arg0)
          ∧ r.2.mem ((c.tc : Thread Cert.ChipSquaresIdeal.nD Cert.ChipSquaresIdeal.τ).loc Cert.ChipSquaresIdeal.main_arg1) = m ((c.tc : Thread Cert.ChipSquaresIdeal.nD Cert.ChipSquaresIdeal.τ).loc Cert.ChipSquaresIdeal.main_arg1)
          ∧ r.2.mem ((c.tc : Thread Cert.ChipSquaresIdeal.nD Cert.ChipSquaresIdeal.τ).loc Cert.ChipSquaresIdeal.main_arg2) = m ((c.tc : Thread Cert.ChipSquaresIdeal.nD Cert.ChipSquaresIdeal.τ).loc Cert.ChipSquaresIdeal.main_arg2)
          ∧ r.2.mem ((c.tc : Thread Cert.ChipSquaresIdeal.nD Cert.ChipSquaresIdeal.τ).loc Cert.ChipSquaresIdeal.main_arg3) = m ((c.tc : Thread Cert.ChipSquaresIdeal.nD Cert.ChipSquaresIdeal.τ).loc Cert.ChipSquaresIdeal.main_arg3)
          ∧ r.2.mem ((c.tc : Thread Cert.ChipSquaresIdeal.nD Cert.ChipSquaresIdeal.τ).loc Cert.ChipSquaresIdeal.main_arg4) = m ((c.tc : Thread Cert.ChipSquaresIdeal.nD Cert.ChipSquaresIdeal.τ).loc Cert.ChipSquaresIdeal.main_arg4)
          ∧ r.2.mem ((c.tc : Thread Cert.ChipSquaresIdeal.nD Cert.ChipSquaresIdeal.τ).loc Cert.ChipSquaresIdeal.main_arg5) = m ((c.tc : Thread Cert.ChipSquaresIdeal.nD Cert.ChipSquaresIdeal.τ).loc Cert.ChipSquaresIdeal.main_arg5))
      ∧ θ_run (Cert.ChipSquaresReferenceIdeal.defs (F := Ideal)) (onTc (τ := Cert.ChipSquaresReferenceIdeal.τ) (Cert.ChipSquaresReferenceIdeal.main (F := Ideal))) ⟨m', fun _ => 0, g'⟩ (fun r => ∀ c : Dev Cert.ChipSquaresReferenceIdeal.nD,
          r.2.mem ((c.tc : Thread Cert.ChipSquaresReferenceIdeal.nD Cert.ChipSquaresReferenceIdeal.τ).loc Cert.ChipSquaresReferenceIdeal.main_v2) = v0 c
          ∧ r.2.mem ((c.tc : Thread Cert.ChipSquaresReferenceIdeal.nD Cert.ChipSquaresReferenceIdeal.τ).loc Cert.ChipSquaresReferenceIdeal.main_v5) = v1 c
          ∧ r.2.mem ((c.tc : Thread Cert.ChipSquaresReferenceIdeal.nD Cert.ChipSquaresReferenceIdeal.τ).loc Cert.ChipSquaresReferenceIdeal.main_v8) = v2 c
          ∧ r.2.mem ((c.tc : Thread Cert.ChipSquaresReferenceIdeal.nD Cert.ChipSquaresReferenceIdeal.τ).loc Cert.ChipSquaresReferenceIdeal.main_arg0) = m' ((c.tc : Thread Cert.ChipSquaresReferenceIdeal.nD Cert.ChipSquaresReferenceIdeal.τ).loc Cert.ChipSquaresReferenceIdeal.main_arg0)
          ∧ r.2.mem ((c.tc : Thread Cert.ChipSquaresReferenceIdeal.nD Cert.ChipSquaresReferenceIdeal.τ).loc Cert.ChipSquaresReferenceIdeal.main_arg1) = m' ((c.tc : Thread Cert.ChipSquaresReferenceIdeal.nD Cert.ChipSquaresReferenceIdeal.τ).loc Cert.ChipSquaresReferenceIdeal.main_arg1)
          ∧ r.2.mem ((c.tc : Thread Cert.ChipSquaresReferenceIdeal.nD Cert.ChipSquaresReferenceIdeal.τ).loc Cert.ChipSquaresReferenceIdeal.main_arg2) = m' ((c.tc : Thread Cert.ChipSquaresReferenceIdeal.nD Cert.ChipSquaresReferenceIdeal.τ).loc Cert.ChipSquaresReferenceIdeal.main_arg2)
          ∧ r.2.mem ((c.tc : Thread Cert.ChipSquaresReferenceIdeal.nD Cert.ChipSquaresReferenceIdeal.τ).loc Cert.ChipSquaresReferenceIdeal.main_arg3) = m' ((c.tc : Thread Cert.ChipSquaresReferenceIdeal.nD Cert.ChipSquaresReferenceIdeal.τ).loc Cert.ChipSquaresReferenceIdeal.main_arg3)
          ∧ r.2.mem ((c.tc : Thread Cert.ChipSquaresReferenceIdeal.nD Cert.ChipSquaresReferenceIdeal.τ).loc Cert.ChipSquaresReferenceIdeal.main_arg4) = m' ((c.tc : Thread Cert.ChipSquaresReferenceIdeal.nD Cert.ChipSquaresReferenceIdeal.τ).loc Cert.ChipSquaresReferenceIdeal.main_arg4)
          ∧ r.2.mem ((c.tc : Thread Cert.ChipSquaresReferenceIdeal.nD Cert.ChipSquaresReferenceIdeal.τ).loc Cert.ChipSquaresReferenceIdeal.main_arg5) = m' ((c.tc : Thread Cert.ChipSquaresReferenceIdeal.nD Cert.ChipSquaresReferenceIdeal.τ).loc Cert.ChipSquaresReferenceIdeal.main_arg5))

def preserves_ChipIn_ChipInIdeal : Prop :=
  True

def algebraic_ChipInIdeal_ChipInReferenceIdeal [hChipInIdeal : Cert.ChipInIdeal.Facts] [hChipInReferenceIdeal : Cert.ChipInReferenceIdeal.Facts] : Prop :=
  ∀ (m : (ℓ : Loc Cert.ChipInIdeal.nD Cert.ChipInIdeal.τ Cert.ChipInIdeal.sig) → Buf (Elt Ideal) ℓ) (g : Dev Cert.ChipInIdeal.nD → PrngReg)
    (m' : (ℓ : Loc Cert.ChipInReferenceIdeal.nD Cert.ChipInReferenceIdeal.τ Cert.ChipInReferenceIdeal.sig) → Buf (Elt Ideal) ℓ) (g' : Dev Cert.ChipInReferenceIdeal.nD → PrngReg), Pre_ChipInIdeal m →
    (∀ c : Dev Cert.ChipInIdeal.nD,
      m' ((c.tc : Thread Cert.ChipInReferenceIdeal.nD Cert.ChipInReferenceIdeal.τ).loc Cert.ChipInReferenceIdeal.main_arg0) = m ((c.tc : Thread Cert.ChipInIdeal.nD Cert.ChipInIdeal.τ).loc Cert.ChipInIdeal.main_arg0)
      ∧ m' ((c.tc : Thread Cert.ChipInReferenceIdeal.nD Cert.ChipInReferenceIdeal.τ).loc Cert.ChipInReferenceIdeal.main_arg1) = m ((c.tc : Thread Cert.ChipInIdeal.nD Cert.ChipInIdeal.τ).loc Cert.ChipInIdeal.main_arg1)) →
    ∃ (v0 : (c : Dev Cert.ChipInIdeal.nD) → Buf (Elt Ideal) ((c.tc : Thread Cert.ChipInIdeal.nD Cert.ChipInIdeal.τ).loc Cert.ChipInIdeal.main_v0)),
      θ_run (Cert.ChipInIdeal.defs (F := Ideal)) (onTc (τ := Cert.ChipInIdeal.τ) (Cert.ChipInIdeal.main (F := Ideal))) ⟨m, fun _ => 0, g⟩ (fun r => ∀ c : Dev Cert.ChipInIdeal.nD,
          r.2.mem ((c.tc : Thread Cert.ChipInIdeal.nD Cert.ChipInIdeal.τ).loc Cert.ChipInIdeal.main_v0) = v0 c
          ∧ r.2.mem ((c.tc : Thread Cert.ChipInIdeal.nD Cert.ChipInIdeal.τ).loc Cert.ChipInIdeal.main_arg0) = m ((c.tc : Thread Cert.ChipInIdeal.nD Cert.ChipInIdeal.τ).loc Cert.ChipInIdeal.main_arg0)
          ∧ r.2.mem ((c.tc : Thread Cert.ChipInIdeal.nD Cert.ChipInIdeal.τ).loc Cert.ChipInIdeal.main_arg1) = m ((c.tc : Thread Cert.ChipInIdeal.nD Cert.ChipInIdeal.τ).loc Cert.ChipInIdeal.main_arg1))
      ∧ θ_run (Cert.ChipInReferenceIdeal.defs (F := Ideal)) (onTc (τ := Cert.ChipInReferenceIdeal.τ) (Cert.ChipInReferenceIdeal.main (F := Ideal))) ⟨m', fun _ => 0, g'⟩ (fun r => ∀ c : Dev Cert.ChipInReferenceIdeal.nD,
          r.2.mem ((c.tc : Thread Cert.ChipInReferenceIdeal.nD Cert.ChipInReferenceIdeal.τ).loc Cert.ChipInReferenceIdeal.main_v2) = v0 c
          ∧ r.2.mem ((c.tc : Thread Cert.ChipInReferenceIdeal.nD Cert.ChipInReferenceIdeal.τ).loc Cert.ChipInReferenceIdeal.main_arg0) = m' ((c.tc : Thread Cert.ChipInReferenceIdeal.nD Cert.ChipInReferenceIdeal.τ).loc Cert.ChipInReferenceIdeal.main_arg0)
          ∧ r.2.mem ((c.tc : Thread Cert.ChipInReferenceIdeal.nD Cert.ChipInReferenceIdeal.τ).loc Cert.ChipInReferenceIdeal.main_arg1) = m' ((c.tc : Thread Cert.ChipInReferenceIdeal.nD Cert.ChipInReferenceIdeal.τ).loc Cert.ChipInReferenceIdeal.main_arg1))

def preserves_AdamSquares_AdamSquaresIdeal : Prop :=
  True

def algebraic_AdamSquaresIdeal_AdamSquaresReferenceIdeal [hAdamSquaresIdeal : Cert.AdamSquaresIdeal.Facts] [hAdamSquaresReferenceIdeal : Cert.AdamSquaresReferenceIdeal.Facts] : Prop :=
  ∀ (m : (ℓ : Loc Cert.AdamSquaresIdeal.nD Cert.AdamSquaresIdeal.τ Cert.AdamSquaresIdeal.sig) → Buf (Elt Ideal) ℓ) (g : Dev Cert.AdamSquaresIdeal.nD → PrngReg)
    (m' : (ℓ : Loc Cert.AdamSquaresReferenceIdeal.nD Cert.AdamSquaresReferenceIdeal.τ Cert.AdamSquaresReferenceIdeal.sig) → Buf (Elt Ideal) ℓ) (g' : Dev Cert.AdamSquaresReferenceIdeal.nD → PrngReg), Pre_AdamSquaresIdeal m →
    (∀ c : Dev Cert.AdamSquaresIdeal.nD,
      m' ((c.tc : Thread Cert.AdamSquaresReferenceIdeal.nD Cert.AdamSquaresReferenceIdeal.τ).loc Cert.AdamSquaresReferenceIdeal.main_arg0) = m ((c.tc : Thread Cert.AdamSquaresIdeal.nD Cert.AdamSquaresIdeal.τ).loc Cert.AdamSquaresIdeal.main_arg0)
      ∧ m' ((c.tc : Thread Cert.AdamSquaresReferenceIdeal.nD Cert.AdamSquaresReferenceIdeal.τ).loc Cert.AdamSquaresReferenceIdeal.main_arg1) = m ((c.tc : Thread Cert.AdamSquaresIdeal.nD Cert.AdamSquaresIdeal.τ).loc Cert.AdamSquaresIdeal.main_arg1)
      ∧ m' ((c.tc : Thread Cert.AdamSquaresReferenceIdeal.nD Cert.AdamSquaresReferenceIdeal.τ).loc Cert.AdamSquaresReferenceIdeal.main_arg2) = m ((c.tc : Thread Cert.AdamSquaresIdeal.nD Cert.AdamSquaresIdeal.τ).loc Cert.AdamSquaresIdeal.main_arg2)
      ∧ m' ((c.tc : Thread Cert.AdamSquaresReferenceIdeal.nD Cert.AdamSquaresReferenceIdeal.τ).loc Cert.AdamSquaresReferenceIdeal.main_arg3) = m ((c.tc : Thread Cert.AdamSquaresIdeal.nD Cert.AdamSquaresIdeal.τ).loc Cert.AdamSquaresIdeal.main_arg3)
      ∧ m' ((c.tc : Thread Cert.AdamSquaresReferenceIdeal.nD Cert.AdamSquaresReferenceIdeal.τ).loc Cert.AdamSquaresReferenceIdeal.main_arg4) = m ((c.tc : Thread Cert.AdamSquaresIdeal.nD Cert.AdamSquaresIdeal.τ).loc Cert.AdamSquaresIdeal.main_arg4)
      ∧ m' ((c.tc : Thread Cert.AdamSquaresReferenceIdeal.nD Cert.AdamSquaresReferenceIdeal.τ).loc Cert.AdamSquaresReferenceIdeal.main_arg5) = m ((c.tc : Thread Cert.AdamSquaresIdeal.nD Cert.AdamSquaresIdeal.τ).loc Cert.AdamSquaresIdeal.main_arg5)
      ∧ m' ((c.tc : Thread Cert.AdamSquaresReferenceIdeal.nD Cert.AdamSquaresReferenceIdeal.τ).loc Cert.AdamSquaresReferenceIdeal.main_arg6) = m ((c.tc : Thread Cert.AdamSquaresIdeal.nD Cert.AdamSquaresIdeal.τ).loc Cert.AdamSquaresIdeal.main_arg6)
      ∧ m' ((c.tc : Thread Cert.AdamSquaresReferenceIdeal.nD Cert.AdamSquaresReferenceIdeal.τ).loc Cert.AdamSquaresReferenceIdeal.main_arg7) = m ((c.tc : Thread Cert.AdamSquaresIdeal.nD Cert.AdamSquaresIdeal.τ).loc Cert.AdamSquaresIdeal.main_arg7)
      ∧ m' ((c.tc : Thread Cert.AdamSquaresReferenceIdeal.nD Cert.AdamSquaresReferenceIdeal.τ).loc Cert.AdamSquaresReferenceIdeal.main_arg8) = m ((c.tc : Thread Cert.AdamSquaresIdeal.nD Cert.AdamSquaresIdeal.τ).loc Cert.AdamSquaresIdeal.main_arg8)
      ∧ m' ((c.tc : Thread Cert.AdamSquaresReferenceIdeal.nD Cert.AdamSquaresReferenceIdeal.τ).loc Cert.AdamSquaresReferenceIdeal.main_arg9) = m ((c.tc : Thread Cert.AdamSquaresIdeal.nD Cert.AdamSquaresIdeal.τ).loc Cert.AdamSquaresIdeal.main_arg9)
      ∧ m' ((c.tc : Thread Cert.AdamSquaresReferenceIdeal.nD Cert.AdamSquaresReferenceIdeal.τ).loc Cert.AdamSquaresReferenceIdeal.main_arg10) = m ((c.tc : Thread Cert.AdamSquaresIdeal.nD Cert.AdamSquaresIdeal.τ).loc Cert.AdamSquaresIdeal.main_arg10)
      ∧ m' ((c.tc : Thread Cert.AdamSquaresReferenceIdeal.nD Cert.AdamSquaresReferenceIdeal.τ).loc Cert.AdamSquaresReferenceIdeal.main_arg11) = m ((c.tc : Thread Cert.AdamSquaresIdeal.nD Cert.AdamSquaresIdeal.τ).loc Cert.AdamSquaresIdeal.main_arg11)
      ∧ m' ((c.tc : Thread Cert.AdamSquaresReferenceIdeal.nD Cert.AdamSquaresReferenceIdeal.τ).loc Cert.AdamSquaresReferenceIdeal.main_arg12) = m ((c.tc : Thread Cert.AdamSquaresIdeal.nD Cert.AdamSquaresIdeal.τ).loc Cert.AdamSquaresIdeal.main_arg12)
      ∧ m' ((c.tc : Thread Cert.AdamSquaresReferenceIdeal.nD Cert.AdamSquaresReferenceIdeal.τ).loc Cert.AdamSquaresReferenceIdeal.main_arg13) = m ((c.tc : Thread Cert.AdamSquaresIdeal.nD Cert.AdamSquaresIdeal.τ).loc Cert.AdamSquaresIdeal.main_arg13)
      ∧ m' ((c.tc : Thread Cert.AdamSquaresReferenceIdeal.nD Cert.AdamSquaresReferenceIdeal.τ).loc Cert.AdamSquaresReferenceIdeal.main_arg14) = m ((c.tc : Thread Cert.AdamSquaresIdeal.nD Cert.AdamSquaresIdeal.τ).loc Cert.AdamSquaresIdeal.main_arg14)
      ∧ m' ((c.tc : Thread Cert.AdamSquaresReferenceIdeal.nD Cert.AdamSquaresReferenceIdeal.τ).loc Cert.AdamSquaresReferenceIdeal.main_arg15) = m ((c.tc : Thread Cert.AdamSquaresIdeal.nD Cert.AdamSquaresIdeal.τ).loc Cert.AdamSquaresIdeal.main_arg15)) →
    ∃ (v0 : (c : Dev Cert.AdamSquaresIdeal.nD) → Buf (Elt Ideal) ((c.tc : Thread Cert.AdamSquaresIdeal.nD Cert.AdamSquaresIdeal.τ).loc Cert.AdamSquaresIdeal.main_v0_0)) (v1 : (c : Dev Cert.AdamSquaresIdeal.nD) → Buf (Elt Ideal) ((c.tc : Thread Cert.AdamSquaresIdeal.nD Cert.AdamSquaresIdeal.τ).loc Cert.AdamSquaresIdeal.main_v0_1)) (v2 : (c : Dev Cert.AdamSquaresIdeal.nD) → Buf (Elt Ideal) ((c.tc : Thread Cert.AdamSquaresIdeal.nD Cert.AdamSquaresIdeal.τ).loc Cert.AdamSquaresIdeal.main_v0_2)) (v3 : (c : Dev Cert.AdamSquaresIdeal.nD) → Buf (Elt Ideal) ((c.tc : Thread Cert.AdamSquaresIdeal.nD Cert.AdamSquaresIdeal.τ).loc Cert.AdamSquaresIdeal.main_v0_3)) (v4 : (c : Dev Cert.AdamSquaresIdeal.nD) → Buf (Elt Ideal) ((c.tc : Thread Cert.AdamSquaresIdeal.nD Cert.AdamSquaresIdeal.τ).loc Cert.AdamSquaresIdeal.main_v0_4)) (v5 : (c : Dev Cert.AdamSquaresIdeal.nD) → Buf (Elt Ideal) ((c.tc : Thread Cert.AdamSquaresIdeal.nD Cert.AdamSquaresIdeal.τ).loc Cert.AdamSquaresIdeal.main_v0_5)) (v6 : (c : Dev Cert.AdamSquaresIdeal.nD) → Buf (Elt Ideal) ((c.tc : Thread Cert.AdamSquaresIdeal.nD Cert.AdamSquaresIdeal.τ).loc Cert.AdamSquaresIdeal.main_v0_6)) (v7 : (c : Dev Cert.AdamSquaresIdeal.nD) → Buf (Elt Ideal) ((c.tc : Thread Cert.AdamSquaresIdeal.nD Cert.AdamSquaresIdeal.τ).loc Cert.AdamSquaresIdeal.main_v0_7)) (v8 : (c : Dev Cert.AdamSquaresIdeal.nD) → Buf (Elt Ideal) ((c.tc : Thread Cert.AdamSquaresIdeal.nD Cert.AdamSquaresIdeal.τ).loc Cert.AdamSquaresIdeal.main_v0_8)) (v9 : (c : Dev Cert.AdamSquaresIdeal.nD) → Buf (Elt Ideal) ((c.tc : Thread Cert.AdamSquaresIdeal.nD Cert.AdamSquaresIdeal.τ).loc Cert.AdamSquaresIdeal.main_v0_9)) (v10 : (c : Dev Cert.AdamSquaresIdeal.nD) → Buf (Elt Ideal) ((c.tc : Thread Cert.AdamSquaresIdeal.nD Cert.AdamSquaresIdeal.τ).loc Cert.AdamSquaresIdeal.main_v0_10)) (v11 : (c : Dev Cert.AdamSquaresIdeal.nD) → Buf (Elt Ideal) ((c.tc : Thread Cert.AdamSquaresIdeal.nD Cert.AdamSquaresIdeal.τ).loc Cert.AdamSquaresIdeal.main_v0_11)),
      θ_run (Cert.AdamSquaresIdeal.defs (F := Ideal)) (onTc (τ := Cert.AdamSquaresIdeal.τ) (Cert.AdamSquaresIdeal.main (F := Ideal))) ⟨m, fun _ => 0, g⟩ (fun r => ∀ c : Dev Cert.AdamSquaresIdeal.nD,
          r.2.mem ((c.tc : Thread Cert.AdamSquaresIdeal.nD Cert.AdamSquaresIdeal.τ).loc Cert.AdamSquaresIdeal.main_v0_0) = v0 c
          ∧ r.2.mem ((c.tc : Thread Cert.AdamSquaresIdeal.nD Cert.AdamSquaresIdeal.τ).loc Cert.AdamSquaresIdeal.main_v0_1) = v1 c
          ∧ r.2.mem ((c.tc : Thread Cert.AdamSquaresIdeal.nD Cert.AdamSquaresIdeal.τ).loc Cert.AdamSquaresIdeal.main_v0_2) = v2 c
          ∧ r.2.mem ((c.tc : Thread Cert.AdamSquaresIdeal.nD Cert.AdamSquaresIdeal.τ).loc Cert.AdamSquaresIdeal.main_v0_3) = v3 c
          ∧ r.2.mem ((c.tc : Thread Cert.AdamSquaresIdeal.nD Cert.AdamSquaresIdeal.τ).loc Cert.AdamSquaresIdeal.main_v0_4) = v4 c
          ∧ r.2.mem ((c.tc : Thread Cert.AdamSquaresIdeal.nD Cert.AdamSquaresIdeal.τ).loc Cert.AdamSquaresIdeal.main_v0_5) = v5 c
          ∧ r.2.mem ((c.tc : Thread Cert.AdamSquaresIdeal.nD Cert.AdamSquaresIdeal.τ).loc Cert.AdamSquaresIdeal.main_v0_6) = v6 c
          ∧ r.2.mem ((c.tc : Thread Cert.AdamSquaresIdeal.nD Cert.AdamSquaresIdeal.τ).loc Cert.AdamSquaresIdeal.main_v0_7) = v7 c
          ∧ r.2.mem ((c.tc : Thread Cert.AdamSquaresIdeal.nD Cert.AdamSquaresIdeal.τ).loc Cert.AdamSquaresIdeal.main_v0_8) = v8 c
          ∧ r.2.mem ((c.tc : Thread Cert.AdamSquaresIdeal.nD Cert.AdamSquaresIdeal.τ).loc Cert.AdamSquaresIdeal.main_v0_9) = v9 c
          ∧ r.2.mem ((c.tc : Thread Cert.AdamSquaresIdeal.nD Cert.AdamSquaresIdeal.τ).loc Cert.AdamSquaresIdeal.main_v0_10) = v10 c
          ∧ r.2.mem ((c.tc : Thread Cert.AdamSquaresIdeal.nD Cert.AdamSquaresIdeal.τ).loc Cert.AdamSquaresIdeal.main_v0_11) = v11 c
          ∧ r.2.mem ((c.tc : Thread Cert.AdamSquaresIdeal.nD Cert.AdamSquaresIdeal.τ).loc Cert.AdamSquaresIdeal.main_arg0) = m ((c.tc : Thread Cert.AdamSquaresIdeal.nD Cert.AdamSquaresIdeal.τ).loc Cert.AdamSquaresIdeal.main_arg0)
          ∧ r.2.mem ((c.tc : Thread Cert.AdamSquaresIdeal.nD Cert.AdamSquaresIdeal.τ).loc Cert.AdamSquaresIdeal.main_arg1) = m ((c.tc : Thread Cert.AdamSquaresIdeal.nD Cert.AdamSquaresIdeal.τ).loc Cert.AdamSquaresIdeal.main_arg1)
          ∧ r.2.mem ((c.tc : Thread Cert.AdamSquaresIdeal.nD Cert.AdamSquaresIdeal.τ).loc Cert.AdamSquaresIdeal.main_arg2) = m ((c.tc : Thread Cert.AdamSquaresIdeal.nD Cert.AdamSquaresIdeal.τ).loc Cert.AdamSquaresIdeal.main_arg2)
          ∧ r.2.mem ((c.tc : Thread Cert.AdamSquaresIdeal.nD Cert.AdamSquaresIdeal.τ).loc Cert.AdamSquaresIdeal.main_arg3) = m ((c.tc : Thread Cert.AdamSquaresIdeal.nD Cert.AdamSquaresIdeal.τ).loc Cert.AdamSquaresIdeal.main_arg3)
          ∧ r.2.mem ((c.tc : Thread Cert.AdamSquaresIdeal.nD Cert.AdamSquaresIdeal.τ).loc Cert.AdamSquaresIdeal.main_arg4) = m ((c.tc : Thread Cert.AdamSquaresIdeal.nD Cert.AdamSquaresIdeal.τ).loc Cert.AdamSquaresIdeal.main_arg4)
          ∧ r.2.mem ((c.tc : Thread Cert.AdamSquaresIdeal.nD Cert.AdamSquaresIdeal.τ).loc Cert.AdamSquaresIdeal.main_arg5) = m ((c.tc : Thread Cert.AdamSquaresIdeal.nD Cert.AdamSquaresIdeal.τ).loc Cert.AdamSquaresIdeal.main_arg5)
          ∧ r.2.mem ((c.tc : Thread Cert.AdamSquaresIdeal.nD Cert.AdamSquaresIdeal.τ).loc Cert.AdamSquaresIdeal.main_arg6) = m ((c.tc : Thread Cert.AdamSquaresIdeal.nD Cert.AdamSquaresIdeal.τ).loc Cert.AdamSquaresIdeal.main_arg6)
          ∧ r.2.mem ((c.tc : Thread Cert.AdamSquaresIdeal.nD Cert.AdamSquaresIdeal.τ).loc Cert.AdamSquaresIdeal.main_arg7) = m ((c.tc : Thread Cert.AdamSquaresIdeal.nD Cert.AdamSquaresIdeal.τ).loc Cert.AdamSquaresIdeal.main_arg7)
          ∧ r.2.mem ((c.tc : Thread Cert.AdamSquaresIdeal.nD Cert.AdamSquaresIdeal.τ).loc Cert.AdamSquaresIdeal.main_arg8) = m ((c.tc : Thread Cert.AdamSquaresIdeal.nD Cert.AdamSquaresIdeal.τ).loc Cert.AdamSquaresIdeal.main_arg8)
          ∧ r.2.mem ((c.tc : Thread Cert.AdamSquaresIdeal.nD Cert.AdamSquaresIdeal.τ).loc Cert.AdamSquaresIdeal.main_arg9) = m ((c.tc : Thread Cert.AdamSquaresIdeal.nD Cert.AdamSquaresIdeal.τ).loc Cert.AdamSquaresIdeal.main_arg9)
          ∧ r.2.mem ((c.tc : Thread Cert.AdamSquaresIdeal.nD Cert.AdamSquaresIdeal.τ).loc Cert.AdamSquaresIdeal.main_arg10) = m ((c.tc : Thread Cert.AdamSquaresIdeal.nD Cert.AdamSquaresIdeal.τ).loc Cert.AdamSquaresIdeal.main_arg10)
          ∧ r.2.mem ((c.tc : Thread Cert.AdamSquaresIdeal.nD Cert.AdamSquaresIdeal.τ).loc Cert.AdamSquaresIdeal.main_arg11) = m ((c.tc : Thread Cert.AdamSquaresIdeal.nD Cert.AdamSquaresIdeal.τ).loc Cert.AdamSquaresIdeal.main_arg11)
          ∧ r.2.mem ((c.tc : Thread Cert.AdamSquaresIdeal.nD Cert.AdamSquaresIdeal.τ).loc Cert.AdamSquaresIdeal.main_arg12) = m ((c.tc : Thread Cert.AdamSquaresIdeal.nD Cert.AdamSquaresIdeal.τ).loc Cert.AdamSquaresIdeal.main_arg12)
          ∧ r.2.mem ((c.tc : Thread Cert.AdamSquaresIdeal.nD Cert.AdamSquaresIdeal.τ).loc Cert.AdamSquaresIdeal.main_arg13) = m ((c.tc : Thread Cert.AdamSquaresIdeal.nD Cert.AdamSquaresIdeal.τ).loc Cert.AdamSquaresIdeal.main_arg13)
          ∧ r.2.mem ((c.tc : Thread Cert.AdamSquaresIdeal.nD Cert.AdamSquaresIdeal.τ).loc Cert.AdamSquaresIdeal.main_arg14) = m ((c.tc : Thread Cert.AdamSquaresIdeal.nD Cert.AdamSquaresIdeal.τ).loc Cert.AdamSquaresIdeal.main_arg14)
          ∧ r.2.mem ((c.tc : Thread Cert.AdamSquaresIdeal.nD Cert.AdamSquaresIdeal.τ).loc Cert.AdamSquaresIdeal.main_arg15) = m ((c.tc : Thread Cert.AdamSquaresIdeal.nD Cert.AdamSquaresIdeal.τ).loc Cert.AdamSquaresIdeal.main_arg15))
      ∧ θ_run (Cert.AdamSquaresReferenceIdeal.defs (F := Ideal)) (onTc (τ := Cert.AdamSquaresReferenceIdeal.τ) (Cert.AdamSquaresReferenceIdeal.main (F := Ideal))) ⟨m', fun _ => 0, g'⟩ (fun r => ∀ c : Dev Cert.AdamSquaresReferenceIdeal.nD,
          r.2.mem ((c.tc : Thread Cert.AdamSquaresReferenceIdeal.nD Cert.AdamSquaresReferenceIdeal.τ).loc Cert.AdamSquaresReferenceIdeal.main_v6) = v0 c
          ∧ r.2.mem ((c.tc : Thread Cert.AdamSquaresReferenceIdeal.nD Cert.AdamSquaresReferenceIdeal.τ).loc Cert.AdamSquaresReferenceIdeal.main_v30) = v1 c
          ∧ r.2.mem ((c.tc : Thread Cert.AdamSquaresReferenceIdeal.nD Cert.AdamSquaresReferenceIdeal.τ).loc Cert.AdamSquaresReferenceIdeal.main_v11) = v2 c
          ∧ r.2.mem ((c.tc : Thread Cert.AdamSquaresReferenceIdeal.nD Cert.AdamSquaresReferenceIdeal.τ).loc Cert.AdamSquaresReferenceIdeal.main_v17) = v3 c
          ∧ r.2.mem ((c.tc : Thread Cert.AdamSquaresReferenceIdeal.nD Cert.AdamSquaresReferenceIdeal.τ).loc Cert.AdamSquaresReferenceIdeal.main_v37) = v4 c
          ∧ r.2.mem ((c.tc : Thread Cert.AdamSquaresReferenceIdeal.nD Cert.AdamSquaresReferenceIdeal.τ).loc Cert.AdamSquaresReferenceIdeal.main_v61) = v5 c
          ∧ r.2.mem ((c.tc : Thread Cert.AdamSquaresReferenceIdeal.nD Cert.AdamSquaresReferenceIdeal.τ).loc Cert.AdamSquaresReferenceIdeal.main_v42) = v6 c
          ∧ r.2.mem ((c.tc : Thread Cert.AdamSquaresReferenceIdeal.nD Cert.AdamSquaresReferenceIdeal.τ).loc Cert.AdamSquaresReferenceIdeal.main_v48) = v7 c
          ∧ r.2.mem ((c.tc : Thread Cert.AdamSquaresReferenceIdeal.nD Cert.AdamSquaresReferenceIdeal.τ).loc Cert.AdamSquaresReferenceIdeal.main_v68) = v8 c
          ∧ r.2.mem ((c.tc : Thread Cert.AdamSquaresReferenceIdeal.nD Cert.AdamSquaresReferenceIdeal.τ).loc Cert.AdamSquaresReferenceIdeal.main_v92) = v9 c
          ∧ r.2.mem ((c.tc : Thread Cert.AdamSquaresReferenceIdeal.nD Cert.AdamSquaresReferenceIdeal.τ).loc Cert.AdamSquaresReferenceIdeal.main_v73) = v10 c
          ∧ r.2.mem ((c.tc : Thread Cert.AdamSquaresReferenceIdeal.nD Cert.AdamSquaresReferenceIdeal.τ).loc Cert.AdamSquaresReferenceIdeal.main_v79) = v11 c
          ∧ r.2.mem ((c.tc : Thread Cert.AdamSquaresReferenceIdeal.nD Cert.AdamSquaresReferenceIdeal.τ).loc Cert.AdamSquaresReferenceIdeal.main_arg0) = m' ((c.tc : Thread Cert.AdamSquaresReferenceIdeal.nD Cert.AdamSquaresReferenceIdeal.τ).loc Cert.AdamSquaresReferenceIdeal.main_arg0)
          ∧ r.2.mem ((c.tc : Thread Cert.AdamSquaresReferenceIdeal.nD Cert.AdamSquaresReferenceIdeal.τ).loc Cert.AdamSquaresReferenceIdeal.main_arg1) = m' ((c.tc : Thread Cert.AdamSquaresReferenceIdeal.nD Cert.AdamSquaresReferenceIdeal.τ).loc Cert.AdamSquaresReferenceIdeal.main_arg1)
          ∧ r.2.mem ((c.tc : Thread Cert.AdamSquaresReferenceIdeal.nD Cert.AdamSquaresReferenceIdeal.τ).loc Cert.AdamSquaresReferenceIdeal.main_arg2) = m' ((c.tc : Thread Cert.AdamSquaresReferenceIdeal.nD Cert.AdamSquaresReferenceIdeal.τ).loc Cert.AdamSquaresReferenceIdeal.main_arg2)
          ∧ r.2.mem ((c.tc : Thread Cert.AdamSquaresReferenceIdeal.nD Cert.AdamSquaresReferenceIdeal.τ).loc Cert.AdamSquaresReferenceIdeal.main_arg3) = m' ((c.tc : Thread Cert.AdamSquaresReferenceIdeal.nD Cert.AdamSquaresReferenceIdeal.τ).loc Cert.AdamSquaresReferenceIdeal.main_arg3)
          ∧ r.2.mem ((c.tc : Thread Cert.AdamSquaresReferenceIdeal.nD Cert.AdamSquaresReferenceIdeal.τ).loc Cert.AdamSquaresReferenceIdeal.main_arg4) = m' ((c.tc : Thread Cert.AdamSquaresReferenceIdeal.nD Cert.AdamSquaresReferenceIdeal.τ).loc Cert.AdamSquaresReferenceIdeal.main_arg4)
          ∧ r.2.mem ((c.tc : Thread Cert.AdamSquaresReferenceIdeal.nD Cert.AdamSquaresReferenceIdeal.τ).loc Cert.AdamSquaresReferenceIdeal.main_arg5) = m' ((c.tc : Thread Cert.AdamSquaresReferenceIdeal.nD Cert.AdamSquaresReferenceIdeal.τ).loc Cert.AdamSquaresReferenceIdeal.main_arg5)
          ∧ r.2.mem ((c.tc : Thread Cert.AdamSquaresReferenceIdeal.nD Cert.AdamSquaresReferenceIdeal.τ).loc Cert.AdamSquaresReferenceIdeal.main_arg6) = m' ((c.tc : Thread Cert.AdamSquaresReferenceIdeal.nD Cert.AdamSquaresReferenceIdeal.τ).loc Cert.AdamSquaresReferenceIdeal.main_arg6)
          ∧ r.2.mem ((c.tc : Thread Cert.AdamSquaresReferenceIdeal.nD Cert.AdamSquaresReferenceIdeal.τ).loc Cert.AdamSquaresReferenceIdeal.main_arg7) = m' ((c.tc : Thread Cert.AdamSquaresReferenceIdeal.nD Cert.AdamSquaresReferenceIdeal.τ).loc Cert.AdamSquaresReferenceIdeal.main_arg7)
          ∧ r.2.mem ((c.tc : Thread Cert.AdamSquaresReferenceIdeal.nD Cert.AdamSquaresReferenceIdeal.τ).loc Cert.AdamSquaresReferenceIdeal.main_arg8) = m' ((c.tc : Thread Cert.AdamSquaresReferenceIdeal.nD Cert.AdamSquaresReferenceIdeal.τ).loc Cert.AdamSquaresReferenceIdeal.main_arg8)
          ∧ r.2.mem ((c.tc : Thread Cert.AdamSquaresReferenceIdeal.nD Cert.AdamSquaresReferenceIdeal.τ).loc Cert.AdamSquaresReferenceIdeal.main_arg9) = m' ((c.tc : Thread Cert.AdamSquaresReferenceIdeal.nD Cert.AdamSquaresReferenceIdeal.τ).loc Cert.AdamSquaresReferenceIdeal.main_arg9)
          ∧ r.2.mem ((c.tc : Thread Cert.AdamSquaresReferenceIdeal.nD Cert.AdamSquaresReferenceIdeal.τ).loc Cert.AdamSquaresReferenceIdeal.main_arg10) = m' ((c.tc : Thread Cert.AdamSquaresReferenceIdeal.nD Cert.AdamSquaresReferenceIdeal.τ).loc Cert.AdamSquaresReferenceIdeal.main_arg10)
          ∧ r.2.mem ((c.tc : Thread Cert.AdamSquaresReferenceIdeal.nD Cert.AdamSquaresReferenceIdeal.τ).loc Cert.AdamSquaresReferenceIdeal.main_arg11) = m' ((c.tc : Thread Cert.AdamSquaresReferenceIdeal.nD Cert.AdamSquaresReferenceIdeal.τ).loc Cert.AdamSquaresReferenceIdeal.main_arg11)
          ∧ r.2.mem ((c.tc : Thread Cert.AdamSquaresReferenceIdeal.nD Cert.AdamSquaresReferenceIdeal.τ).loc Cert.AdamSquaresReferenceIdeal.main_arg12) = m' ((c.tc : Thread Cert.AdamSquaresReferenceIdeal.nD Cert.AdamSquaresReferenceIdeal.τ).loc Cert.AdamSquaresReferenceIdeal.main_arg12)
          ∧ r.2.mem ((c.tc : Thread Cert.AdamSquaresReferenceIdeal.nD Cert.AdamSquaresReferenceIdeal.τ).loc Cert.AdamSquaresReferenceIdeal.main_arg13) = m' ((c.tc : Thread Cert.AdamSquaresReferenceIdeal.nD Cert.AdamSquaresReferenceIdeal.τ).loc Cert.AdamSquaresReferenceIdeal.main_arg13)
          ∧ r.2.mem ((c.tc : Thread Cert.AdamSquaresReferenceIdeal.nD Cert.AdamSquaresReferenceIdeal.τ).loc Cert.AdamSquaresReferenceIdeal.main_arg14) = m' ((c.tc : Thread Cert.AdamSquaresReferenceIdeal.nD Cert.AdamSquaresReferenceIdeal.τ).loc Cert.AdamSquaresReferenceIdeal.main_arg14)
          ∧ r.2.mem ((c.tc : Thread Cert.AdamSquaresReferenceIdeal.nD Cert.AdamSquaresReferenceIdeal.τ).loc Cert.AdamSquaresReferenceIdeal.main_arg15) = m' ((c.tc : Thread Cert.AdamSquaresReferenceIdeal.nD Cert.AdamSquaresReferenceIdeal.τ).loc Cert.AdamSquaresReferenceIdeal.main_arg15))

def preserves_PairDown_PairDownIdeal : Prop :=
  True

def algebraic_PairDownIdeal_PairDownReferenceIdeal [hPairDownIdeal : Cert.PairDownIdeal.Facts] [hPairDownReferenceIdeal : Cert.PairDownReferenceIdeal.Facts] [hPre_placed : Cert.Pre_placed.Facts] : Prop :=
  ∀ (m : (ℓ : Loc Cert.PairDownIdeal.nD Cert.PairDownIdeal.τ Cert.PairDownIdeal.sig) → Buf (Elt Ideal) ℓ) (g : Dev Cert.PairDownIdeal.nD → PrngReg)
    (m' : (ℓ : Loc Cert.PairDownReferenceIdeal.nD Cert.PairDownReferenceIdeal.τ Cert.PairDownReferenceIdeal.sig) → Buf (Elt Ideal) ℓ) (g' : Dev Cert.PairDownReferenceIdeal.nD → PrngReg), Pre_PairDownIdeal m →
    (∀ c : Dev Cert.PairDownIdeal.nD,
      m' ((c.tc : Thread Cert.PairDownReferenceIdeal.nD Cert.PairDownReferenceIdeal.τ).loc Cert.PairDownReferenceIdeal.main_arg0) = m ((c.tc : Thread Cert.PairDownIdeal.nD Cert.PairDownIdeal.τ).loc Cert.PairDownIdeal.main_arg0)
      ∧ m' ((c.tc : Thread Cert.PairDownReferenceIdeal.nD Cert.PairDownReferenceIdeal.τ).loc Cert.PairDownReferenceIdeal.main_arg1) = m ((c.tc : Thread Cert.PairDownIdeal.nD Cert.PairDownIdeal.τ).loc Cert.PairDownIdeal.main_arg1)
      ∧ m' ((c.tc : Thread Cert.PairDownReferenceIdeal.nD Cert.PairDownReferenceIdeal.τ).loc Cert.PairDownReferenceIdeal.main_arg2) = m ((c.tc : Thread Cert.PairDownIdeal.nD Cert.PairDownIdeal.τ).loc Cert.PairDownIdeal.main_arg2)) →
    ∃ (v0 : (c : Dev Cert.PairDownIdeal.nD) → Buf (Elt Ideal) ((c.tc : Thread Cert.PairDownIdeal.nD Cert.PairDownIdeal.τ).loc Cert.PairDownIdeal.main_v0_0)) (v1 : (c : Dev Cert.PairDownIdeal.nD) → Buf (Elt Ideal) ((c.tc : Thread Cert.PairDownIdeal.nD Cert.PairDownIdeal.τ).loc Cert.PairDownIdeal.main_v0_1)),
      θ_run (Cert.PairDownIdeal.defs (F := Ideal)) (onTc (τ := Cert.PairDownIdeal.τ) (Cert.PairDownIdeal.main (F := Ideal))) ⟨m, fun _ => 0, g⟩ (fun r => ∀ c : Dev Cert.PairDownIdeal.nD,
          r.2.mem ((c.tc : Thread Cert.PairDownIdeal.nD Cert.PairDownIdeal.τ).loc Cert.PairDownIdeal.main_v0_0) = v0 c
          ∧ r.2.mem ((c.tc : Thread Cert.PairDownIdeal.nD Cert.PairDownIdeal.τ).loc Cert.PairDownIdeal.main_v0_1) = v1 c
          ∧ r.2.mem ((c.tc : Thread Cert.PairDownIdeal.nD Cert.PairDownIdeal.τ).loc Cert.PairDownIdeal.main_arg0) = m ((c.tc : Thread Cert.PairDownIdeal.nD Cert.PairDownIdeal.τ).loc Cert.PairDownIdeal.main_arg0)
          ∧ r.2.mem ((c.tc : Thread Cert.PairDownIdeal.nD Cert.PairDownIdeal.τ).loc Cert.PairDownIdeal.main_arg1) = m ((c.tc : Thread Cert.PairDownIdeal.nD Cert.PairDownIdeal.τ).loc Cert.PairDownIdeal.main_arg1)
          ∧ r.2.mem ((c.tc : Thread Cert.PairDownIdeal.nD Cert.PairDownIdeal.τ).loc Cert.PairDownIdeal.main_arg2) = m ((c.tc : Thread Cert.PairDownIdeal.nD Cert.PairDownIdeal.τ).loc Cert.PairDownIdeal.main_arg2))
      ∧ θ_run (Cert.PairDownReferenceIdeal.defs (F := Ideal)) (onTc (τ := Cert.PairDownReferenceIdeal.τ) (Cert.PairDownReferenceIdeal.main (F := Ideal))) ⟨m', fun _ => 0, g'⟩ (fun r => ∀ c : Dev Cert.PairDownReferenceIdeal.nD,
          r.2.mem ((c.tc : Thread Cert.PairDownReferenceIdeal.nD Cert.PairDownReferenceIdeal.τ).loc Cert.PairDownReferenceIdeal.main_v22) = v0 c
          ∧ r.2.mem ((c.tc : Thread Cert.PairDownReferenceIdeal.nD Cert.PairDownReferenceIdeal.τ).loc Cert.PairDownReferenceIdeal.main_v78) = v1 c
          ∧ r.2.mem ((c.tc : Thread Cert.PairDownReferenceIdeal.nD Cert.PairDownReferenceIdeal.τ).loc Cert.PairDownReferenceIdeal.main_arg0) = m' ((c.tc : Thread Cert.PairDownReferenceIdeal.nD Cert.PairDownReferenceIdeal.τ).loc Cert.PairDownReferenceIdeal.main_arg0)
          ∧ r.2.mem ((c.tc : Thread Cert.PairDownReferenceIdeal.nD Cert.PairDownReferenceIdeal.τ).loc Cert.PairDownReferenceIdeal.main_arg1) = m' ((c.tc : Thread Cert.PairDownReferenceIdeal.nD Cert.PairDownReferenceIdeal.τ).loc Cert.PairDownReferenceIdeal.main_arg1)
          ∧ r.2.mem ((c.tc : Thread Cert.PairDownReferenceIdeal.nD Cert.PairDownReferenceIdeal.τ).loc Cert.PairDownReferenceIdeal.main_arg2) = m' ((c.tc : Thread Cert.PairDownReferenceIdeal.nD Cert.PairDownReferenceIdeal.τ).loc Cert.PairDownReferenceIdeal.main_arg2))

def preserves_PairGateUp_PairGateUpIdeal : Prop :=
  True

def algebraic_PairGateUpIdeal_PairGateUpReferenceIdeal [hPairGateUpIdeal : Cert.PairGateUpIdeal.Facts] [hPairGateUpReferenceIdeal : Cert.PairGateUpReferenceIdeal.Facts] [hPre_placed_gate_up : Cert.Pre_placed_gate_up.Facts] : Prop :=
  ∀ (m : (ℓ : Loc Cert.PairGateUpIdeal.nD Cert.PairGateUpIdeal.τ Cert.PairGateUpIdeal.sig) → Buf (Elt Ideal) ℓ) (g : Dev Cert.PairGateUpIdeal.nD → PrngReg)
    (m' : (ℓ : Loc Cert.PairGateUpReferenceIdeal.nD Cert.PairGateUpReferenceIdeal.τ Cert.PairGateUpReferenceIdeal.sig) → Buf (Elt Ideal) ℓ) (g' : Dev Cert.PairGateUpReferenceIdeal.nD → PrngReg), Pre_PairGateUpIdeal m →
    (∀ c : Dev Cert.PairGateUpIdeal.nD,
      m' ((c.tc : Thread Cert.PairGateUpReferenceIdeal.nD Cert.PairGateUpReferenceIdeal.τ).loc Cert.PairGateUpReferenceIdeal.main_arg0) = m ((c.tc : Thread Cert.PairGateUpIdeal.nD Cert.PairGateUpIdeal.τ).loc Cert.PairGateUpIdeal.main_arg0)
      ∧ m' ((c.tc : Thread Cert.PairGateUpReferenceIdeal.nD Cert.PairGateUpReferenceIdeal.τ).loc Cert.PairGateUpReferenceIdeal.main_arg1) = m ((c.tc : Thread Cert.PairGateUpIdeal.nD Cert.PairGateUpIdeal.τ).loc Cert.PairGateUpIdeal.main_arg1)
      ∧ m' ((c.tc : Thread Cert.PairGateUpReferenceIdeal.nD Cert.PairGateUpReferenceIdeal.τ).loc Cert.PairGateUpReferenceIdeal.main_arg2) = m ((c.tc : Thread Cert.PairGateUpIdeal.nD Cert.PairGateUpIdeal.τ).loc Cert.PairGateUpIdeal.main_arg2)) →
    ∃ (v0 : (c : Dev Cert.PairGateUpIdeal.nD) → Buf (Elt Ideal) ((c.tc : Thread Cert.PairGateUpIdeal.nD Cert.PairGateUpIdeal.τ).loc Cert.PairGateUpIdeal.main_v0_0)) (v1 : (c : Dev Cert.PairGateUpIdeal.nD) → Buf (Elt Ideal) ((c.tc : Thread Cert.PairGateUpIdeal.nD Cert.PairGateUpIdeal.τ).loc Cert.PairGateUpIdeal.main_v0_1)),
      θ_run (Cert.PairGateUpIdeal.defs (F := Ideal)) (onTc (τ := Cert.PairGateUpIdeal.τ) (Cert.PairGateUpIdeal.main (F := Ideal))) ⟨m, fun _ => 0, g⟩ (fun r => ∀ c : Dev Cert.PairGateUpIdeal.nD,
          r.2.mem ((c.tc : Thread Cert.PairGateUpIdeal.nD Cert.PairGateUpIdeal.τ).loc Cert.PairGateUpIdeal.main_v0_0) = v0 c
          ∧ r.2.mem ((c.tc : Thread Cert.PairGateUpIdeal.nD Cert.PairGateUpIdeal.τ).loc Cert.PairGateUpIdeal.main_v0_1) = v1 c
          ∧ r.2.mem ((c.tc : Thread Cert.PairGateUpIdeal.nD Cert.PairGateUpIdeal.τ).loc Cert.PairGateUpIdeal.main_arg0) = m ((c.tc : Thread Cert.PairGateUpIdeal.nD Cert.PairGateUpIdeal.τ).loc Cert.PairGateUpIdeal.main_arg0)
          ∧ r.2.mem ((c.tc : Thread Cert.PairGateUpIdeal.nD Cert.PairGateUpIdeal.τ).loc Cert.PairGateUpIdeal.main_arg1) = m ((c.tc : Thread Cert.PairGateUpIdeal.nD Cert.PairGateUpIdeal.τ).loc Cert.PairGateUpIdeal.main_arg1)
          ∧ r.2.mem ((c.tc : Thread Cert.PairGateUpIdeal.nD Cert.PairGateUpIdeal.τ).loc Cert.PairGateUpIdeal.main_arg2) = m ((c.tc : Thread Cert.PairGateUpIdeal.nD Cert.PairGateUpIdeal.τ).loc Cert.PairGateUpIdeal.main_arg2))
      ∧ θ_run (Cert.PairGateUpReferenceIdeal.defs (F := Ideal)) (onTc (τ := Cert.PairGateUpReferenceIdeal.τ) (Cert.PairGateUpReferenceIdeal.main (F := Ideal))) ⟨m', fun _ => 0, g'⟩ (fun r => ∀ c : Dev Cert.PairGateUpReferenceIdeal.nD,
          r.2.mem ((c.tc : Thread Cert.PairGateUpReferenceIdeal.nD Cert.PairGateUpReferenceIdeal.τ).loc Cert.PairGateUpReferenceIdeal.main_v22) = v0 c
          ∧ r.2.mem ((c.tc : Thread Cert.PairGateUpReferenceIdeal.nD Cert.PairGateUpReferenceIdeal.τ).loc Cert.PairGateUpReferenceIdeal.main_v78) = v1 c
          ∧ r.2.mem ((c.tc : Thread Cert.PairGateUpReferenceIdeal.nD Cert.PairGateUpReferenceIdeal.τ).loc Cert.PairGateUpReferenceIdeal.main_arg0) = m' ((c.tc : Thread Cert.PairGateUpReferenceIdeal.nD Cert.PairGateUpReferenceIdeal.τ).loc Cert.PairGateUpReferenceIdeal.main_arg0)
          ∧ r.2.mem ((c.tc : Thread Cert.PairGateUpReferenceIdeal.nD Cert.PairGateUpReferenceIdeal.τ).loc Cert.PairGateUpReferenceIdeal.main_arg1) = m' ((c.tc : Thread Cert.PairGateUpReferenceIdeal.nD Cert.PairGateUpReferenceIdeal.τ).loc Cert.PairGateUpReferenceIdeal.main_arg1)
          ∧ r.2.mem ((c.tc : Thread Cert.PairGateUpReferenceIdeal.nD Cert.PairGateUpReferenceIdeal.τ).loc Cert.PairGateUpReferenceIdeal.main_arg2) = m' ((c.tc : Thread Cert.PairGateUpReferenceIdeal.nD Cert.PairGateUpReferenceIdeal.τ).loc Cert.PairGateUpReferenceIdeal.main_arg2))

def preserves_PairIn_PairInIdeal : Prop :=
  True

def algebraic_PairInIdeal_PairInReferenceIdeal [hPairInIdeal : Cert.PairInIdeal.Facts] [hPairInReferenceIdeal : Cert.PairInReferenceIdeal.Facts] [hPre_placed_in : Cert.Pre_placed_in.Facts] : Prop :=
  ∀ (m : (ℓ : Loc Cert.PairInIdeal.nD Cert.PairInIdeal.τ Cert.PairInIdeal.sig) → Buf (Elt Ideal) ℓ) (g : Dev Cert.PairInIdeal.nD → PrngReg)
    (m' : (ℓ : Loc Cert.PairInReferenceIdeal.nD Cert.PairInReferenceIdeal.τ Cert.PairInReferenceIdeal.sig) → Buf (Elt Ideal) ℓ) (g' : Dev Cert.PairInReferenceIdeal.nD → PrngReg), Pre_PairInIdeal m →
    (∀ c : Dev Cert.PairInIdeal.nD,
      m' ((c.tc : Thread Cert.PairInReferenceIdeal.nD Cert.PairInReferenceIdeal.τ).loc Cert.PairInReferenceIdeal.main_arg0) = m ((c.tc : Thread Cert.PairInIdeal.nD Cert.PairInIdeal.τ).loc Cert.PairInIdeal.main_arg0)
      ∧ m' ((c.tc : Thread Cert.PairInReferenceIdeal.nD Cert.PairInReferenceIdeal.τ).loc Cert.PairInReferenceIdeal.main_arg1) = m ((c.tc : Thread Cert.PairInIdeal.nD Cert.PairInIdeal.τ).loc Cert.PairInIdeal.main_arg1)
      ∧ m' ((c.tc : Thread Cert.PairInReferenceIdeal.nD Cert.PairInReferenceIdeal.τ).loc Cert.PairInReferenceIdeal.main_arg2) = m ((c.tc : Thread Cert.PairInIdeal.nD Cert.PairInIdeal.τ).loc Cert.PairInIdeal.main_arg2)) →
    ∃ (v0 : (c : Dev Cert.PairInIdeal.nD) → Buf (Elt Ideal) ((c.tc : Thread Cert.PairInIdeal.nD Cert.PairInIdeal.τ).loc Cert.PairInIdeal.main_v0_0)) (v1 : (c : Dev Cert.PairInIdeal.nD) → Buf (Elt Ideal) ((c.tc : Thread Cert.PairInIdeal.nD Cert.PairInIdeal.τ).loc Cert.PairInIdeal.main_v0_1)),
      θ_run (Cert.PairInIdeal.defs (F := Ideal)) (onTc (τ := Cert.PairInIdeal.τ) (Cert.PairInIdeal.main (F := Ideal))) ⟨m, fun _ => 0, g⟩ (fun r => ∀ c : Dev Cert.PairInIdeal.nD,
          r.2.mem ((c.tc : Thread Cert.PairInIdeal.nD Cert.PairInIdeal.τ).loc Cert.PairInIdeal.main_v0_0) = v0 c
          ∧ r.2.mem ((c.tc : Thread Cert.PairInIdeal.nD Cert.PairInIdeal.τ).loc Cert.PairInIdeal.main_v0_1) = v1 c
          ∧ r.2.mem ((c.tc : Thread Cert.PairInIdeal.nD Cert.PairInIdeal.τ).loc Cert.PairInIdeal.main_arg0) = m ((c.tc : Thread Cert.PairInIdeal.nD Cert.PairInIdeal.τ).loc Cert.PairInIdeal.main_arg0)
          ∧ r.2.mem ((c.tc : Thread Cert.PairInIdeal.nD Cert.PairInIdeal.τ).loc Cert.PairInIdeal.main_arg1) = m ((c.tc : Thread Cert.PairInIdeal.nD Cert.PairInIdeal.τ).loc Cert.PairInIdeal.main_arg1)
          ∧ r.2.mem ((c.tc : Thread Cert.PairInIdeal.nD Cert.PairInIdeal.τ).loc Cert.PairInIdeal.main_arg2) = m ((c.tc : Thread Cert.PairInIdeal.nD Cert.PairInIdeal.τ).loc Cert.PairInIdeal.main_arg2))
      ∧ θ_run (Cert.PairInReferenceIdeal.defs (F := Ideal)) (onTc (τ := Cert.PairInReferenceIdeal.τ) (Cert.PairInReferenceIdeal.main (F := Ideal))) ⟨m', fun _ => 0, g'⟩ (fun r => ∀ c : Dev Cert.PairInReferenceIdeal.nD,
          r.2.mem ((c.tc : Thread Cert.PairInReferenceIdeal.nD Cert.PairInReferenceIdeal.τ).loc Cert.PairInReferenceIdeal.main_v16) = v0 c
          ∧ r.2.mem ((c.tc : Thread Cert.PairInReferenceIdeal.nD Cert.PairInReferenceIdeal.τ).loc Cert.PairInReferenceIdeal.main_v72) = v1 c
          ∧ r.2.mem ((c.tc : Thread Cert.PairInReferenceIdeal.nD Cert.PairInReferenceIdeal.τ).loc Cert.PairInReferenceIdeal.main_arg0) = m' ((c.tc : Thread Cert.PairInReferenceIdeal.nD Cert.PairInReferenceIdeal.τ).loc Cert.PairInReferenceIdeal.main_arg0)
          ∧ r.2.mem ((c.tc : Thread Cert.PairInReferenceIdeal.nD Cert.PairInReferenceIdeal.τ).loc Cert.PairInReferenceIdeal.main_arg1) = m' ((c.tc : Thread Cert.PairInReferenceIdeal.nD Cert.PairInReferenceIdeal.τ).loc Cert.PairInReferenceIdeal.main_arg1)
          ∧ r.2.mem ((c.tc : Thread Cert.PairInReferenceIdeal.nD Cert.PairInReferenceIdeal.τ).loc Cert.PairInReferenceIdeal.main_arg2) = m' ((c.tc : Thread Cert.PairInReferenceIdeal.nD Cert.PairInReferenceIdeal.τ).loc Cert.PairInReferenceIdeal.main_arg2))

def Claim : Prop :=
  ∃ (hKernel : Cert.Kernel.Facts) (hKernelIdeal : Cert.KernelIdeal.Facts) (hReferenceIdeal : Cert.ReferenceIdeal.Facts) (hFfn : Cert.Ffn.Facts) (hFfnIdeal : Cert.FfnIdeal.Facts) (hFfnReferenceIdeal : Cert.FfnReferenceIdeal.Facts) (hGateUp : Cert.GateUp.Facts) (hGateUpIdeal : Cert.GateUpIdeal.Facts) (hGateUpReferenceIdeal : Cert.GateUpReferenceIdeal.Facts) (hDown : Cert.Down.Facts) (hDownIdeal : Cert.DownIdeal.Facts) (hDownReferenceIdeal : Cert.DownReferenceIdeal.Facts) (hSquare : Cert.Square.Facts) (hSquareIdeal : Cert.SquareIdeal.Facts) (hSquareReferenceIdeal : Cert.SquareReferenceIdeal.Facts) (hMerge : Cert.Merge.Facts) (hMergeIdeal : Cert.MergeIdeal.Facts) (hMergeReferenceIdeal : Cert.MergeReferenceIdeal.Facts) (hGating : Cert.Gating.Facts) (hGatingIdeal : Cert.GatingIdeal.Facts) (hGatingReferenceIdeal : Cert.GatingReferenceIdeal.Facts) (hAdamIn : Cert.AdamIn.Facts) (hAdamInIdeal : Cert.AdamInIdeal.Facts) (hAdamInReferenceIdeal : Cert.AdamInReferenceIdeal.Facts) (hChipGateUp : Cert.ChipGateUp.Facts) (hChipGateUpIdeal : Cert.ChipGateUpIdeal.Facts) (hChipGateUpReferenceIdeal : Cert.ChipGateUpReferenceIdeal.Facts) (hChipDown : Cert.ChipDown.Facts) (hChipDownIdeal : Cert.ChipDownIdeal.Facts) (hChipDownReferenceIdeal : Cert.ChipDownReferenceIdeal.Facts) (hChipSquares : Cert.ChipSquares.Facts) (hChipSquaresIdeal : Cert.ChipSquaresIdeal.Facts) (hChipSquaresReferenceIdeal : Cert.ChipSquaresReferenceIdeal.Facts) (hChipIn : Cert.ChipIn.Facts) (hChipInIdeal : Cert.ChipInIdeal.Facts) (hChipInReferenceIdeal : Cert.ChipInReferenceIdeal.Facts) (hAdamSquares : Cert.AdamSquares.Facts) (hAdamSquaresIdeal : Cert.AdamSquaresIdeal.Facts) (hAdamSquaresReferenceIdeal : Cert.AdamSquaresReferenceIdeal.Facts) (hPairDown : Cert.PairDown.Facts) (hPairDownIdeal : Cert.PairDownIdeal.Facts) (hPairDownReferenceIdeal : Cert.PairDownReferenceIdeal.Facts) (hPairGateUp : Cert.PairGateUp.Facts) (hPairGateUpIdeal : Cert.PairGateUpIdeal.Facts) (hPairGateUpReferenceIdeal : Cert.PairGateUpReferenceIdeal.Facts) (hPairIn : Cert.PairIn.Facts) (hPairInIdeal : Cert.PairInIdeal.Facts) (hPairInReferenceIdeal : Cert.PairInReferenceIdeal.Facts) (hPre_finite : Cert.Pre_finite.Facts) (hPre_ffn_finite : Cert.Pre_ffn_finite.Facts) (hPre_placed : Cert.Pre_placed.Facts) (hPre_placed_gate_up : Cert.Pre_placed_gate_up.Facts) (hPre_placed_in : Cert.Pre_placed_in.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Ffn (hFfn := hFfn)
    ∧ quiescent_FfnIdeal (hFfnIdeal := hFfnIdeal)
    ∧ quiescent_FfnIdeal_pre_ffn_finite (hFfnIdeal := hFfnIdeal) (hPre_ffn_finite := hPre_ffn_finite)
    ∧ quiescent_FfnReferenceIdeal (hFfnReferenceIdeal := hFfnReferenceIdeal)
    ∧ quiescent_FfnReferenceIdeal_pre_ffn_finite (hFfnReferenceIdeal := hFfnReferenceIdeal) (hPre_ffn_finite := hPre_ffn_finite)
    ∧ quiescent_GateUp (hGateUp := hGateUp)
    ∧ quiescent_GateUpIdeal (hGateUpIdeal := hGateUpIdeal)
    ∧ quiescent_GateUpReferenceIdeal (hGateUpReferenceIdeal := hGateUpReferenceIdeal)
    ∧ quiescent_Down (hDown := hDown)
    ∧ quiescent_DownIdeal (hDownIdeal := hDownIdeal)
    ∧ quiescent_DownReferenceIdeal (hDownReferenceIdeal := hDownReferenceIdeal)
    ∧ quiescent_Square (hSquare := hSquare)
    ∧ quiescent_SquareIdeal (hSquareIdeal := hSquareIdeal)
    ∧ quiescent_SquareReferenceIdeal (hSquareReferenceIdeal := hSquareReferenceIdeal)
    ∧ quiescent_Merge (hMerge := hMerge)
    ∧ quiescent_MergeIdeal (hMergeIdeal := hMergeIdeal)
    ∧ quiescent_MergeReferenceIdeal (hMergeReferenceIdeal := hMergeReferenceIdeal)
    ∧ quiescent_Gating (hGating := hGating)
    ∧ quiescent_GatingIdeal (hGatingIdeal := hGatingIdeal)
    ∧ quiescent_GatingReferenceIdeal (hGatingReferenceIdeal := hGatingReferenceIdeal)
    ∧ quiescent_AdamIn (hAdamIn := hAdamIn)
    ∧ quiescent_AdamInIdeal (hAdamInIdeal := hAdamInIdeal)
    ∧ quiescent_AdamInReferenceIdeal (hAdamInReferenceIdeal := hAdamInReferenceIdeal)
    ∧ quiescent_ChipGateUp (hChipGateUp := hChipGateUp)
    ∧ quiescent_ChipGateUpIdeal (hChipGateUpIdeal := hChipGateUpIdeal)
    ∧ quiescent_ChipGateUpReferenceIdeal (hChipGateUpReferenceIdeal := hChipGateUpReferenceIdeal)
    ∧ quiescent_ChipDown (hChipDown := hChipDown)
    ∧ quiescent_ChipDownIdeal (hChipDownIdeal := hChipDownIdeal)
    ∧ quiescent_ChipDownReferenceIdeal (hChipDownReferenceIdeal := hChipDownReferenceIdeal)
    ∧ quiescent_ChipSquares (hChipSquares := hChipSquares)
    ∧ quiescent_ChipSquaresIdeal (hChipSquaresIdeal := hChipSquaresIdeal)
    ∧ quiescent_ChipSquaresReferenceIdeal (hChipSquaresReferenceIdeal := hChipSquaresReferenceIdeal)
    ∧ quiescent_ChipIn (hChipIn := hChipIn)
    ∧ quiescent_ChipInIdeal (hChipInIdeal := hChipInIdeal)
    ∧ quiescent_ChipInReferenceIdeal (hChipInReferenceIdeal := hChipInReferenceIdeal)
    ∧ quiescent_AdamSquares (hAdamSquares := hAdamSquares)
    ∧ quiescent_AdamSquaresIdeal (hAdamSquaresIdeal := hAdamSquaresIdeal)
    ∧ quiescent_AdamSquaresReferenceIdeal (hAdamSquaresReferenceIdeal := hAdamSquaresReferenceIdeal)
    ∧ quiescent_PairDown (hPairDown := hPairDown) (hPre_placed := hPre_placed)
    ∧ quiescent_PairDownIdeal (hPairDownIdeal := hPairDownIdeal) (hPre_placed := hPre_placed)
    ∧ quiescent_PairDownReferenceIdeal (hPairDownReferenceIdeal := hPairDownReferenceIdeal)
    ∧ quiescent_PairDownReferenceIdeal_pre_placed (hPairDownReferenceIdeal := hPairDownReferenceIdeal) (hPre_placed := hPre_placed)
    ∧ quiescent_PairGateUp (hPairGateUp := hPairGateUp) (hPre_placed_gate_up := hPre_placed_gate_up)
    ∧ quiescent_PairGateUpIdeal (hPairGateUpIdeal := hPairGateUpIdeal) (hPre_placed_gate_up := hPre_placed_gate_up)
    ∧ quiescent_PairGateUpReferenceIdeal (hPairGateUpReferenceIdeal := hPairGateUpReferenceIdeal)
    ∧ quiescent_PairGateUpReferenceIdeal_pre_placed_gate_up (hPairGateUpReferenceIdeal := hPairGateUpReferenceIdeal) (hPre_placed_gate_up := hPre_placed_gate_up)
    ∧ quiescent_PairIn (hPairIn := hPairIn) (hPre_placed_in := hPre_placed_in)
    ∧ quiescent_PairInIdeal (hPairInIdeal := hPairInIdeal) (hPre_placed_in := hPre_placed_in)
    ∧ quiescent_PairInReferenceIdeal (hPairInReferenceIdeal := hPairInReferenceIdeal)
    ∧ quiescent_PairInReferenceIdeal_pre_placed_in (hPairInReferenceIdeal := hPairInReferenceIdeal) (hPre_placed_in := hPre_placed_in)
    ∧ preserves_Kernel_KernelIdeal
    ∧ algebraic_KernelIdeal_ReferenceIdeal_pre_finite (hKernelIdeal := hKernelIdeal) (hReferenceIdeal := hReferenceIdeal) (hPre_finite := hPre_finite)
    ∧ preserves_Ffn_FfnIdeal
    ∧ algebraic_FfnIdeal_FfnReferenceIdeal_pre_ffn_finite (hFfnIdeal := hFfnIdeal) (hFfnReferenceIdeal := hFfnReferenceIdeal) (hPre_ffn_finite := hPre_ffn_finite)
    ∧ preserves_GateUp_GateUpIdeal
    ∧ algebraic_GateUpIdeal_GateUpReferenceIdeal (hGateUpIdeal := hGateUpIdeal) (hGateUpReferenceIdeal := hGateUpReferenceIdeal)
    ∧ preserves_Down_DownIdeal
    ∧ algebraic_DownIdeal_DownReferenceIdeal (hDownIdeal := hDownIdeal) (hDownReferenceIdeal := hDownReferenceIdeal)
    ∧ preserves_Square_SquareIdeal
    ∧ algebraic_SquareIdeal_SquareReferenceIdeal (hSquareIdeal := hSquareIdeal) (hSquareReferenceIdeal := hSquareReferenceIdeal)
    ∧ preserves_Merge_MergeIdeal
    ∧ algebraic_MergeIdeal_MergeReferenceIdeal (hMergeIdeal := hMergeIdeal) (hMergeReferenceIdeal := hMergeReferenceIdeal)
    ∧ preserves_Gating_GatingIdeal
    ∧ algebraic_GatingIdeal_GatingReferenceIdeal (hGatingIdeal := hGatingIdeal) (hGatingReferenceIdeal := hGatingReferenceIdeal)
    ∧ preserves_AdamIn_AdamInIdeal
    ∧ algebraic_AdamInIdeal_AdamInReferenceIdeal (hAdamInIdeal := hAdamInIdeal) (hAdamInReferenceIdeal := hAdamInReferenceIdeal)
    ∧ preserves_ChipGateUp_ChipGateUpIdeal
    ∧ algebraic_ChipGateUpIdeal_ChipGateUpReferenceIdeal (hChipGateUpIdeal := hChipGateUpIdeal) (hChipGateUpReferenceIdeal := hChipGateUpReferenceIdeal)
    ∧ preserves_ChipDown_ChipDownIdeal
    ∧ algebraic_ChipDownIdeal_ChipDownReferenceIdeal (hChipDownIdeal := hChipDownIdeal) (hChipDownReferenceIdeal := hChipDownReferenceIdeal)
    ∧ preserves_ChipSquares_ChipSquaresIdeal
    ∧ algebraic_ChipSquaresIdeal_ChipSquaresReferenceIdeal (hChipSquaresIdeal := hChipSquaresIdeal) (hChipSquaresReferenceIdeal := hChipSquaresReferenceIdeal)
    ∧ preserves_ChipIn_ChipInIdeal
    ∧ algebraic_ChipInIdeal_ChipInReferenceIdeal (hChipInIdeal := hChipInIdeal) (hChipInReferenceIdeal := hChipInReferenceIdeal)
    ∧ preserves_AdamSquares_AdamSquaresIdeal
    ∧ algebraic_AdamSquaresIdeal_AdamSquaresReferenceIdeal (hAdamSquaresIdeal := hAdamSquaresIdeal) (hAdamSquaresReferenceIdeal := hAdamSquaresReferenceIdeal)
    ∧ preserves_PairDown_PairDownIdeal
    ∧ algebraic_PairDownIdeal_PairDownReferenceIdeal (hPairDownIdeal := hPairDownIdeal) (hPairDownReferenceIdeal := hPairDownReferenceIdeal) (hPre_placed := hPre_placed)
    ∧ preserves_PairGateUp_PairGateUpIdeal
    ∧ algebraic_PairGateUpIdeal_PairGateUpReferenceIdeal (hPairGateUpIdeal := hPairGateUpIdeal) (hPairGateUpReferenceIdeal := hPairGateUpReferenceIdeal) (hPre_placed_gate_up := hPre_placed_gate_up)
    ∧ preserves_PairIn_PairInIdeal
    ∧ algebraic_PairInIdeal_PairInReferenceIdeal (hPairInIdeal := hPairInIdeal) (hPairInReferenceIdeal := hPairInReferenceIdeal) (hPre_placed_in := hPre_placed_in)
-- ==== Pre_ffn_finite.lean ====
abbrev S4096x1024 : Shape := ⟨2, ![4096, 1024]⟩
abbrev S1x1024 : Shape := ⟨2, ![1, 1024]⟩
abbrev S2x1024x2816 : Shape := ⟨3, ![2, 1024, 2816]⟩
abbrev S2816x1024 : Shape := ⟨2, ![2816, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S2x1024x2816 : S_.BroadcastsInDim S2x1024x2816 (![] : Fin 0 → Fin S2x1024x2816.rank)
  reducesTo_S2x1024x2816_S_d0_1_2 : S2x1024x2816.ReducesTo [0, 1, 2] S_
  bcast_S_S2816x1024 : S_.BroadcastsInDim S2816x1024 (![] : Fin 0 → Fin S2816x1024.rank)
  reducesTo_S2816x1024_S_d0_1 : S2816x1024.ReducesTo [0, 1] S_

variable [Facts]

def fn_part1 {F : FTy → Type} [FloatOps F] (main_arg4 : FVec F S2x1024x2816 .bf16) (main_arg5 : FVec F S2816x1024 .bf16) (main_v13 : IVec S_ 1) (main_v16 : IVec S1x1024 1) : IVec S_ 1 :=
  let main_c_5 : IVec S_ 1 := constantI S_ 1 1#1
  let main_v17 : IVec S_ 1 := (fun x v => Host.reduce IntOp.andi x v reducesTo_S1x1024_S_d0_1 h_S_) main_v16 main_c_5
  let main_v18 : IVec S_ 1 := andi main_v13 main_v17
  let main_v19 : FVec F S2x1024x2816 .bf16 := Host.absf main_arg4
  let main_cst_6 : FVec F S_ .bf16 := constant S_ .bf16 0x7F80#16
  let main_v20 : FVec F S2x1024x2816 .bf16 := broadcastInDim S2x1024x2816 ![] bcast_S_S2x1024x2816 main_cst_6
  let main_v21 : IVec S2x1024x2816 1 := cmpf .olt main_v19 main_v20
  let main_c_7 : IVec S_ 1 := constantI S_ 1 1#1
  let main_v22 : IVec S_ 1 := (fun x v => Host.reduce IntOp.andi x v reducesTo_S2x1024x2816_S_d0_1_2 h_S_) main_v21 main_c_7
  let main_v23 : IVec S_ 1 := andi main_v18 main_v22
  let main_v24 : FVec F S2816x1024 .bf16 := Host.absf main_arg5
  let main_cst_8 : FVec F S_ .bf16 := constant S_ .bf16 0x7F80#16
  let main_v25 : FVec F S2816x1024 .bf16 := broadcastInDim S2816x1024 ![] bcast_S_S2816x1024 main_cst_8
  let main_v26 : IVec S2816x1024 1 := cmpf .olt main_v24 main_v25
  let main_c_9 : IVec S_ 1 := constantI S_ 1 1#1
  let main_v27 : IVec S_ 1 := (fun x v => Host.reduce IntOp.andi x v reducesTo_S2816x1024_S_d0_1 h_S_) main_v26 main_c_9
  let main_v28 : IVec S_ 1 := andi main_v23 main_v27
  main_v28

def fn {F : FTy → Type} [FloatOps F] (main_arg0 : FVec F S4096x1024 .f32) (main_arg1 : FVec F S4096x1024 .f32) (main_arg2 : FVec F S1x1024 .f32) (main_arg3 : FVec F S1x1024 .f32) (main_arg4 : FVec F S2x1024x2816 .bf16) (main_arg5 : FVec F S2816x1024 .bf16) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S1x1024 .f32 := Host.absf main_arg2
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_c_3 : IVec S_ 1 := constantI S_ 1 1#1
  let main_v12 : IVec S_ 1 := (fun x v => Host.reduce IntOp.andi x v reducesTo_S1x1024_S_d0_1 h_S_) main_v11 main_c_3
  let main_v13 : IVec S_ 1 := andi main_v8 main_v12
  let main_v14 : FVec F S1x1024 .f32 := Host.absf main_arg3
  let main_cst_4 : FVec F S_ .f32 := constant S_ .f32 0x7F800000#32
  let main_v15 : FVec F S1x1024 .f32 := broadcastInDim S1x1024 ![] bcast_S_S1x1024 main_cst_4
  let main_v16 : IVec S1x1024 1 := cmpf .olt main_v14 main_v15
  fn_part1 (F := F) main_arg4 main_arg5 main_v13 main_v16
-- ==== Pre_finite.lean ====
abbrev S8x4096x1024 : Shape := ⟨3, ![8, 4096, 1024]⟩
abbrev S4096x1024 : Shape := ⟨2, ![4096, 1024]⟩
abbrev S1024x1024 : Shape := ⟨2, ![1024, 1024]⟩
abbrev S1x1024 : Shape := ⟨2, ![1, 1024]⟩
abbrev S1x8x128x128 : Shape := ⟨4, ![1, 8, 128, 128]⟩
abbrev S1x8x128 : Shape := ⟨3, ![1, 8, 128]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S8x4096x1024 : S_.BroadcastsInDim S8x4096x1024 (![] : Fin 0 → Fin S8x4096x1024.rank)
  reducesTo_S8x4096x1024_S_d0_1_2 : S8x4096x1024.ReducesTo [0, 1, 2] S_
  bcast_S_S1x1024 : S_.BroadcastsInDim S1x1024 (![] : Fin 0 → Fin S1x1024.rank)
  reducesTo_S1x1024_S_d0_1 : S1x1024.ReducesTo [0, 1] S_
  bcast_S_S1x8x128x128 : S_.BroadcastsInDim S1x8x128x128 (![] : Fin 0 → Fin S1x8x128x128.rank)
  reducesTo_S1x8x128x128_S_d0_1_2_3 : S1x8x128x128.ReducesTo [0, 1, 2, 3] S_
  bcast_S_S1x8x128 : S_.BroadcastsInDim S1x8x128 (![] : Fin 0 → Fin S1x8x128.rank)
  reducesTo_S1x8x128_S_d0_1_2 : S1x8x128.ReducesTo [0, 1, 2] S_

variable [Facts]

def fn_part1 {F : FTy → Type} [FloatOps F] (main_arg5 : FVec F S1x1024 .f32) (main_arg6 : FVec F S1x8x128x128 .f32) (main_arg7 : FVec F S1x8x128 .f32) (main_v13 : IVec S_ 1) (main_v16 : IVec S1x1024 1) : IVec S_ 1 :=
  let main_c_5 : IVec S_ 1 := constantI S_ 1 1#1
  let main_v17 : IVec S_ 1 := (fun x v => Host.reduce IntOp.andi x v reducesTo_S1x1024_S_d0_1 h_S_) main_v16 main_c_5
  let main_v18 : IVec S_ 1 := andi main_v13 main_v17
  let main_v19 : FVec F S1x1024 .f32 := Host.absf main_arg5
  let main_cst_6 : FVec F S_ .f32 := constant S_ .f32 0x7F800000#32
  let main_v20 : FVec F S1x1024 .f32 := broadcastInDim S1x1024 ![] bcast_S_S1x1024 main_cst_6
  let main_v21 : IVec S1x1024 1 := cmpf .olt main_v19 main_v20
  let main_c_7 : IVec S_ 1 := constantI S_ 1 1#1
  let main_v22 : IVec S_ 1 := (fun x v => Host.reduce IntOp.andi x v reducesTo_S1x1024_S_d0_1 h_S_) main_v21 main_c_7
  let main_v23 : IVec S_ 1 := andi main_v18 main_v22
  let main_v24 : FVec F S1x8x128x128 .f32 := Host.absf main_arg6
  let main_cst_8 : FVec F S_ .f32 := constant S_ .f32 0x7F800000#32
  let main_v25 : FVec F S1x8x128x128 .f32 := broadcastInDim S1x8x128x128 ![] bcast_S_S1x8x128x128 main_cst_8
  let main_v26 : IVec S1x8x128x128 1 := cmpf .olt main_v24 main_v25
  let main_c_9 : IVec S_ 1 := constantI S_ 1 1#1
  let main_v27 : IVec S_ 1 := (fun x v => Host.reduce IntOp.andi x v reducesTo_S1x8x128x128_S_d0_1_2_3 h_S_) main_v26 main_c_9
  let main_v28 : IVec S_ 1 := andi main_v23 main_v27
  let main_v29 : FVec F S1x8x128 .f32 := Host.absf main_arg7
  let main_cst_10 : FVec F S_ .f32 := constant S_ .f32 0x7F800000#32
  let main_v30 : FVec F S1x8x128 .f32 := broadcastInDim S1x8x128 ![] bcast_S_S1x8x128 main_cst_10
  let main_v31 : IVec S1x8x128 1 := cmpf .olt main_v29 main_v30
  let main_c_11 : IVec S_ 1 := constantI S_ 1 1#1
  let main_v32 : IVec S_ 1 := (fun x v => Host.reduce IntOp.andi x v reducesTo_S1x8x128_S_d0_1_2 h_S_) main_v31 main_c_11
  let main_v33 : IVec S_ 1 := andi main_v28 main_v32
  main_v33

def fn {F : FTy → Type} [FloatOps F] (main_arg0 : FVec F S8x4096x1024 .bf16) (main_arg1 : FVec F S4096x1024 .bf16) (main_arg2 : FVec F S1024x1024 .bf16) (main_arg3 : FVec F S8x4096x1024 .f32) (main_arg4 : FVec F S1x1024 .f32) (main_arg5 : FVec F S1x1024 .f32) (main_arg6 : FVec F S1x8x128x128 .f32) (main_arg7 : FVec F S1x8x128 .f32) : IVec S_ 1 :=
  let main_v0 : FVec F S4096x1024 .bf16 := Host.absf main_arg1
  let main_cst : FVec F S_ .bf16 := constant S_ .bf16 0x7F80#16
  let main_v1 : FVec F S4096x1024 .bf16 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S1024x1024 .bf16 := Host.absf main_arg2
  let main_cst_0 : FVec F S_ .bf16 := constant S_ .bf16 0x7F80#16
  let main_v5 : FVec F S1024x1024 .bf16 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S8x4096x1024 .f32 := Host.absf main_arg3
  let main_cst_2 : FVec F S_ .f32 := constant S_ .f32 0x7F800000#32
  let main_v10 : FVec F S8x4096x1024 .f32 := broadcastInDim S8x4096x1024 ![] bcast_S_S8x4096x1024 main_cst_2
  let main_v11 : IVec S8x4096x1024 1 := cmpf .olt main_v9 main_v10
  let main_c_3 : IVec S_ 1 := constantI S_ 1 1#1
  let main_v12 : IVec S_ 1 := (fun x v => Host.reduce IntOp.andi x v reducesTo_S8x4096x1024_S_d0_1_2 h_S_) main_v11 main_c_3
  let main_v13 : IVec S_ 1 := andi main_v8 main_v12
  let main_v14 : FVec F S1x1024 .f32 := Host.absf main_arg4
  let main_cst_4 : FVec F S_ .f32 := constant S_ .f32 0x7F800000#32
  let main_v15 : FVec F S1x1024 .f32 := broadcastInDim S1x1024 ![] bcast_S_S1x1024 main_cst_4
  let main_v16 : IVec S1x1024 1 := cmpf .olt main_v14 main_v15
  fn_part1 (F := F) main_arg5 main_arg6 main_arg7 main_v13 main_v16
-- ==== Pre_placed.lean ====
abbrev S2 : Shape := ⟨1, ![2]⟩
abbrev S4x704x1024 : Shape := ⟨3, ![4, 704, 1024]⟩
abbrev S4x352x1024 : Shape := ⟨3, ![4, 352, 1024]⟩
abbrev S1 : Shape := ⟨1, ![1]⟩
abbrev S_ : Shape := ⟨0, ![]⟩

class Facts : Prop where
  slices_S2_S1_0 : S2.Slices ![0] S1
  shapeCasts_S1_S_ : S1.ShapeCasts S_
  slices_S2_S1_1 : S2.Slices ![1] S1

variable [Facts]

def fn {F : FTy → Type} [FloatOps F] (main_arg0 : IVec S2 32) (main_arg1 : FVec F S4x704x1024 .f32) (main_arg2 : FVec F S4x352x1024 .f32) : IVec S_ 1 :=
  let main_v0 : IVec S1 32 := (extractStridedSlice S1 ![0] · slices_S2_S1_0) main_arg0
  let main_v1 : IVec S_ 32 := shapeCast S_ main_v0 shapeCasts_S1_S_
  let main_c : IVec S_ 32 := constantI S_ 32 0#32
  let main_v2 : IVec S_ 1 := cmpi .sge main_v1 main_c
  let main_v3 : IVec S1 32 := (extractStridedSlice S1 ![0] · slices_S2_S1_0) main_arg0
  let main_v4 : IVec S_ 32 := shapeCast S_ main_v3 shapeCasts_S1_S_
  let main_c_0 : IVec S_ 32 := constantI S_ 32 4#32
  let main_v5 : IVec S_ 1 := cmpi .slt main_v4 main_c_0
  let main_v6 : IVec S_ 1 := andi main_v2 main_v5
  let main_v7 : IVec S1 32 := (extractStridedSlice S1 ![1] · slices_S2_S1_1) main_arg0
  let main_v8 : IVec S_ 32 := shapeCast S_ main_v7 shapeCasts_S1_S_
  let main_c_1 : IVec S_ 32 := constantI S_ 32 0#32
  let main_v9 : IVec S_ 1 := cmpi .sge main_v8 main_c_1
  let main_v10 : IVec S_ 1 := andi main_v6 main_v9
  let main_v11 : IVec S1 32 := (extractStridedSlice S1 ![1] · slices_S2_S1_1) main_arg0
  let main_v12 : IVec S_ 32 := shapeCast S_ main_v11 shapeCasts_S1_S_
  let main_c_2 : IVec S_ 32 := constantI S_ 32 2#32
  let main_v13 : IVec S_ 1 := cmpi .slt main_v12 main_c_2
  let main_v14 : IVec S_ 1 := andi main_v10 main_v13
  main_v14
-- ==== Pre_placed_gate_up.lean ====
abbrev S2 : Shape := ⟨1, ![2]⟩
abbrev S4x1024x1408 : Shape := ⟨3, ![4, 1024, 1408]⟩
abbrev S4x512x1408 : Shape := ⟨3, ![4, 512, 1408]⟩
abbrev S1 : Shape := ⟨1, ![1]⟩
abbrev S_ : Shape := ⟨0, ![]⟩

class Facts : Prop where
  slices_S2_S1_0 : S2.Slices ![0] S1
  shapeCasts_S1_S_ : S1.ShapeCasts S_
  slices_S2_S1_1 : S2.Slices ![1] S1

variable [Facts]

def fn {F : FTy → Type} [FloatOps F] (main_arg0 : IVec S2 32) (main_arg1 : FVec F S4x1024x1408 .f32) (main_arg2 : FVec F S4x512x1408 .f32) : IVec S_ 1 :=
  let main_v0 : IVec S1 32 := (extractStridedSlice S1 ![0] · slices_S2_S1_0) main_arg0
  let main_v1 : IVec S_ 32 := shapeCast S_ main_v0 shapeCasts_S1_S_
  let main_c : IVec S_ 32 := constantI S_ 32 0#32
  let main_v2 : IVec S_ 1 := cmpi .sge main_v1 main_c
  let main_v3 : IVec S1 32 := (extractStridedSlice S1 ![0] · slices_S2_S1_0) main_arg0
  let main_v4 : IVec S_ 32 := shapeCast S_ main_v3 shapeCasts_S1_S_
  let main_c_0 : IVec S_ 32 := constantI S_ 32 4#32
  let main_v5 : IVec S_ 1 := cmpi .slt main_v4 main_c_0
  let main_v6 : IVec S_ 1 := andi main_v2 main_v5
  let main_v7 : IVec S1 32 := (extractStridedSlice S1 ![1] · slices_S2_S1_1) main_arg0
  let main_v8 : IVec S_ 32 := shapeCast S_ main_v7 shapeCasts_S1_S_
  let main_c_1 : IVec S_ 32 := constantI S_ 32 0#32
  let main_v9 : IVec S_ 1 := cmpi .sge main_v8 main_c_1
  let main_v10 : IVec S_ 1 := andi main_v6 main_v9
  let main_v11 : IVec S1 32 := (extractStridedSlice S1 ![1] · slices_S2_S1_1) main_arg0
  let main_v12 : IVec S_ 32 := shapeCast S_ main_v11 shapeCasts_S1_S_
  let main_c_2 : IVec S_ 32 := constantI S_ 32 2#32
  let main_v13 : IVec S_ 1 := cmpi .slt main_v12 main_c_2
  let main_v14 : IVec S_ 1 := andi main_v10 main_v13
  main_v14
-- ==== Pre_placed_in.lean ====
abbrev S2 : Shape := ⟨1, ![2]⟩
abbrev S4x1024x1024 : Shape := ⟨3, ![4, 1024, 1024]⟩
abbrev S1 : Shape := ⟨1, ![1]⟩
abbrev S_ : Shape := ⟨0, ![]⟩

class Facts : Prop where
  slices_S2_S1_0 : S2.Slices ![0] S1
  shapeCasts_S1_S_ : S1.ShapeCasts S_
  slices_S2_S1_1 : S2.Slices ![1] S1

variable [Facts]

def fn {F : FTy → Type} [FloatOps F] (main_arg0 : IVec S2 32) (main_arg1 : FVec F S4x1024x1024 .f32) (main_arg2 : FVec F S4x1024x1024 .f32) : IVec S_ 1 :=
  let main_v0 : IVec S1 32 := (extractStridedSlice S1 ![0] · slices_S2_S1_0) main_arg0
  let main_v1 : IVec S_ 32 := shapeCast S_ main_v0 shapeCasts_S1_S_
  let main_c : IVec S_ 32 := constantI S_ 32 0#32
  let main_v2 : IVec S_ 1 := cmpi .sge main_v1 main_c
  let main_v3 : IVec S1 32 := (extractStridedSlice S1 ![0] · slices_S2_S1_0) main_arg0
  let main_v4 : IVec S_ 32 := shapeCast S_ main_v3 shapeCasts_S1_S_
  let main_c_0 : IVec S_ 32 := constantI S_ 32 4#32
  let main_v5 : IVec S_ 1 := cmpi .slt main_v4 main_c_0
  let main_v6 : IVec S_ 1 := andi main_v2 main_v5
  let main_v7 : IVec S1 32 := (extractStridedSlice S1 ![1] · slices_S2_S1_1) main_arg0
  let main_v8 : IVec S_ 32 := shapeCast S_ main_v7 shapeCasts_S1_S_
  let main_c_1 : IVec S_ 32 := constantI S_ 32 0#32
  let main_v9 : IVec S_ 1 := cmpi .sge main_v8 main_c_1
  let main_v10 : IVec S_ 1 := andi main_v6 main_v9
  let main_v11 : IVec S1 32 := (extractStridedSlice S1 ![1] · slices_S2_S1_1) main_arg0
  let main_v12 : IVec S_ 32 := shapeCast S_ main_v11 shapeCasts_S1_S_
  let main_c_2 : IVec S_ 32 := constantI S_ 32 2#32
  let main_v13 : IVec S_ 1 := cmpi .slt main_v12 main_c_2
  let main_v14 : IVec S_ 1 := andi main_v10 main_v13
  main_v14
-- ==== Kernel.lean ====
abbrev S8x4096x1024 : Shape := ⟨3, ![8, 4096, 1024]⟩
abbrev S4096x1024 : Shape := ⟨2, ![4096, 1024]⟩
abbrev S1024x1024 : Shape := ⟨2, ![1024, 1024]⟩
abbrev S1x1024 : Shape := ⟨2, ![1, 1024]⟩
abbrev S1x8x128x128 : Shape := ⟨4, ![1, 8, 128, 128]⟩
abbrev S1x8x128 : Shape := ⟨3, ![1, 8, 128]⟩
abbrev S_ : Shape := ⟨0, ![]⟩
abbrev S128x128 : Shape := ⟨2, ![128, 128]⟩
abbrev S8x128x128 : Shape := ⟨3, ![8, 128, 128]⟩
abbrev S8x128 : Shape := ⟨2, ![8, 128]⟩
abbrev S128x8 : Shape := ⟨2, ![128, 8]⟩
abbrev S2x8x1024 : Shape := ⟨3, ![2, 8, 1024]⟩
abbrev S128x1024 : Shape := ⟨2, ![128, 1024]⟩
abbrev S256x1024 : Shape := ⟨2, ![256, 1024]⟩
abbrev S1x256x1024 : Shape := ⟨3, ![1, 256, 1024]⟩
abbrev S2x256x1024 : Shape := ⟨3, ![2, 256, 1024]⟩
abbrev S256 : Shape := ⟨1, ![256]⟩
abbrev S256x1 : Shape := ⟨2, ![256, 1]⟩
abbrev S256x128 : Shape := ⟨2, ![256, 128]⟩
abbrev S128x256 : Shape := ⟨2, ![128, 256]⟩
abbrev S1x128x128 : Shape := ⟨3, ![1, 128, 128]⟩
abbrev S128x1 : Shape := ⟨2, ![128, 1]⟩
abbrev S1x8x1024 : Shape := ⟨3, ![1, 8, 1024]⟩
abbrev S8x1024 : Shape := ⟨2, ![8, 1024]⟩
abbrev S32x8x1024 : Shape := ⟨3, ![32, 8, 1024]⟩

abbrev nBuf : Space → Nat
  | .hbm => 33
  | .vmem => 19
  | .smem => 0
  | _ => 0

abbrev bufTy : (tb : Table) → Fin (tcTables nBuf tb) → BufTy
  | .hbm, ⟨0, _⟩ => ⟨S8x4096x1024, .bf16⟩
  | .hbm, ⟨1, _⟩ => ⟨S4096x1024, .bf16⟩
  | .hbm, ⟨2, _⟩ => ⟨S1024x1024, .bf16⟩
  | .hbm, ⟨3, _⟩ => ⟨S8x4096x1024, .f32⟩
  | .hbm, ⟨4, _⟩ => ⟨S1x1024, .f32⟩
  | .hbm, ⟨5, _⟩ => ⟨S1x1024, .f32⟩
  | .hbm, ⟨6, _⟩ => ⟨S1x8x128x128, .f32⟩
  | .hbm, ⟨7, _⟩ => ⟨S1x8x128, .f32⟩
  | .hbm, ⟨8, _⟩ => ⟨S_, .i1⟩
  | .hbm, ⟨9, _⟩ => ⟨S128x128, .i1⟩
  | .hbm, ⟨10, _⟩ => ⟨S128x128, .i32⟩
  | .hbm, ⟨11, _⟩ => ⟨S_, .i32⟩
  | .hbm, ⟨12, _⟩ => ⟨S128x128, .i32⟩
  | .hbm, ⟨13, _⟩ => ⟨S128x128, .i32⟩
  | .hbm, ⟨14, _⟩ => ⟨S128x128, .i32⟩
  | .hbm, ⟨15, _⟩ => ⟨S128x128, .i1⟩
  | .hbm, ⟨16, _⟩ => ⟨S_, .i1⟩
  | .hbm, ⟨17, _⟩ => ⟨S128x128, .i1⟩
  | .hbm, ⟨18, _⟩ => ⟨S128x128, .i1⟩
  | .hbm, ⟨19, _⟩ => ⟨S8x128x128, .f32⟩
  | .hbm, ⟨20, _⟩ => ⟨S_, .f32⟩
  | .hbm, ⟨21, _⟩ => ⟨S_, .f32⟩
  | .hbm, ⟨22, _⟩ => ⟨S8x128x128, .i1⟩
  | .hbm, ⟨23, _⟩ => ⟨S8x128x128, .f32⟩
  | .hbm, ⟨24, _⟩ => ⟨S8x128x128, .f32⟩
  | .hbm, ⟨25, _⟩ => ⟨S8x128x128, .bf16⟩
  | .hbm, ⟨26, _⟩ => ⟨S8x128x128, .bf16⟩
  | .hbm, ⟨27, _⟩ => ⟨S8x128, .f32⟩
  | .hbm, ⟨28, _⟩ => ⟨S128x8, .f32⟩
  | .hbm, ⟨29, _⟩ => ⟨S8x4096x1024, .bf16⟩
  | .hbm, ⟨30, _⟩ => ⟨S2x8x1024, .f32⟩
  | .hbm, ⟨31, _⟩ => ⟨S128x1024, .f32⟩
  | .hbm, ⟨32, _⟩ => ⟨S128x1024, .f32⟩
  | .local _ .vmem, ⟨0, _⟩ => ⟨S256x1024, .bf16⟩
  | .local _ .vmem, ⟨1, _⟩ => ⟨S256x1024, .bf16⟩
  | .local _ .vmem, ⟨2, _⟩ => ⟨S1024x1024, .bf16⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x256x1024, .f32⟩
  | .local _ .vmem, ⟨7, _⟩ => ⟨S1x1024, .f32⟩
  | .local _ .vmem, ⟨8, _⟩ => ⟨S1x1024, .f32⟩
  | .local _ .vmem, ⟨9, _⟩ => ⟨S8x128x128, .bf16⟩
  | .local _ .vmem, ⟨10, _⟩ => ⟨S8x128x128, .bf16⟩
  | .local _ .vmem, ⟨11, _⟩ => ⟨S128x8, .f32⟩
  | .local _ .vmem, ⟨12, _⟩ => ⟨S2x256x1024, .bf16⟩
  | .local _ .vmem, ⟨13, _⟩ => ⟨S2x256x1024, .bf16⟩
  | .local _ .vmem, ⟨14, _⟩ => ⟨S2x8x1024, .f32⟩
  | .local _ .vmem, ⟨15, _⟩ => ⟨S128x1024, .f32⟩
  | .local _ .vmem, ⟨16, _⟩ => ⟨S128x1024, .f32⟩
  | .local _ .vmem, ⟨17, _⟩ => ⟨S256x1024, .f32⟩
  | .local _ .vmem, ⟨18, _⟩ => ⟨S256x1024, .f32⟩
  | _, _ => ⟨S8x4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_call0_v0 : Ref sig .tc := ⟨.hbm, 10, rfl⟩
abbrev main_call0_c : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_c_0 : Ref sig .tc := ⟨.hbm, 16, rfl⟩
abbrev main_call0_v5 : Ref sig .tc := ⟨.hbm, 17, rfl⟩
abbrev main_v1 : Ref sig .tc := ⟨.hbm, 18, rfl⟩
abbrev main_v2 : Ref sig .tc := ⟨.hbm, 19, rfl⟩
abbrev main_cst : Ref sig .tc := ⟨.hbm, 20, rfl⟩
abbrev main_call1_v0 : Ref sig .tc := ⟨.hbm, 21, rfl⟩
abbrev main_call1_v1 : Ref sig .tc := ⟨.hbm, 22, rfl⟩
abbrev main_call1_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8_0 : Ref sig .tc := ⟨.hbm, 29, rfl⟩
abbrev main_v8_1 : Ref sig .tc := ⟨.hbm, 30, rfl⟩
abbrev main_v8_2 : Ref sig .tc := ⟨.hbm, 31, rfl⟩
abbrev main_v8_3 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_scratch0 : Ref sig .tc := ⟨.vmem, 17, rfl⟩
abbrev cc0_scratch1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem11_0 : DmaSem sig := 15
abbrev cc0_sem12_0 : DmaSem sig := 16

abbrev nD : Nat := 1
abbrev τ : Topo := Topo.v7x

variable {F : FTy → Type} [FloatOps F]

abbrev grid0 : Pipeline.Grid := ⟨1, ![16], ![false]⟩

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x128x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x128x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x8 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S2x256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S2x8x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S128x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== KernelIdeal.lean ====
variable {F : FTy → Type} [FloatOps F] [Named F]
def κ : String → Option EReal := fun
  | "c1" => some ((8943 / 200000 : ℝ) : EReal)
  | "c3" => some ((26829 / 200000 : ℝ) : EReal)
  | _ => none
-- ==== ReferenceIdeal.lean ====
abbrev S8x4096x1024 : Shape := ⟨3, ![8, 4096, 1024]⟩
abbrev S4096x1024 : Shape := ⟨2, ![4096, 1024]⟩
abbrev S1024x1024 : Shape := ⟨2, ![1024, 1024]⟩
abbrev S1x1024 : Shape := ⟨2, ![1, 1024]⟩
abbrev S1x8x128x128 : Shape := ⟨4, ![1, 8, 128, 128]⟩
abbrev S1x8x128 : Shape := ⟨3, ![1, 8, 128]⟩
abbrev S_ : Shape := ⟨0, ![]⟩
abbrev S128x128 : Shape := ⟨2, ![128, 128]⟩
abbrev S8x128x128 : Shape := ⟨3, ![8, 128, 128]⟩
abbrev S8x1024 : Shape := ⟨2, ![8, 1024]⟩
abbrev S8x128 : Shape := ⟨2, ![8, 128]⟩
abbrev S128x8 : Shape := ⟨2, ![128, 8]⟩
abbrev S128x8x1 : Shape := ⟨3, ![128, 8, 1]⟩
abbrev S128x8x128 : Shape := ⟨3, ![128, 8, 128]⟩
abbrev S1x4096x1024 : Shape := ⟨3, ![1, 4096, 1024]⟩
abbrev S4096 : Shape := ⟨1, ![4096]⟩
abbrev S4096x1 : Shape := ⟨2, ![4096, 1]⟩
abbrev S512x8x1024 : Shape := ⟨3, ![512, 8, 1024]⟩
abbrev S1x8x1024 : Shape := ⟨3, ![1, 8, 1024]⟩
abbrev S32x128x8x128 : Shape := ⟨4, ![32, 128, 8, 128]⟩
abbrev S8x32x128x128 : Shape := ⟨4, ![8, 32, 128, 128]⟩
abbrev S1x128x8x128 : Shape := ⟨4, ![1, 128, 8, 128]⟩
abbrev S2x8x1024 : Shape := ⟨3, ![2, 8, 1024]⟩
abbrev S128x1024 : Shape := ⟨2, ![128, 1024]⟩

abbrev nBuf : Space → Nat
  | .hbm => 266
  | .vmem => 0
  | .smem => 0
  | _ => 0

abbrev hbmTy0_0 (i : Nat) : BufTy := match i % 128 with
  | 0 => ⟨S8x4096x1024, .bf16⟩
  | 1 => ⟨S4096x1024, .bf16⟩
  | 2 => ⟨S1024x1024, .bf16⟩
  | 3 => ⟨S8x4096x1024, .f32⟩
  | 4 => ⟨S1x1024, .f32⟩
  | 5 => ⟨S1x1024, .f32⟩
  | 6 => ⟨S1x8x128x128, .f32⟩
  | 7 => ⟨S1x8x128, .f32⟩
  | 8 => ⟨S_, .i1⟩
  | 9 => ⟨S128x128, .i1⟩
  | 10 => ⟨S128x128, .i32⟩
  | 11 => ⟨S_, .i32⟩
  | 12 => ⟨S128x128, .i32⟩
  | 13 => ⟨S128x128, .i32⟩
  | 14 => ⟨S128x128, .i32⟩
  | 15 => ⟨S128x128, .i1⟩
  | 16 => ⟨S_, .i1⟩
  | 17 => ⟨S128x128, .i1⟩
  | 18 => ⟨S128x128, .i1⟩
  | 19 => ⟨S8x128x128, .f32⟩
  | 20 => ⟨S_, .f32⟩
  | 21 => ⟨S8x128x128, .i1⟩
  | 22 => ⟨S8x128x128, .f32⟩
  | 23 => ⟨S8x128x128, .f32⟩
  | 24 => ⟨S8x1024, .f32⟩
  | 25 => ⟨S8x1024, .f32⟩
  | 26 => ⟨S8x128, .f32⟩
  | 27 => ⟨S128x8, .f32⟩
  | 28 => ⟨S128x8x1, .f32⟩
  | 29 => ⟨S128x8x128, .f32⟩
  | 30 => ⟨S1x4096x1024, .f32⟩
  | 31 => ⟨S4096x1024, .f32⟩
  | 32 => ⟨S1x4096x1024, .f32⟩
  | 33 => ⟨S4096x1024, .f32⟩
  | 34 => ⟨S1024x1024, .f32⟩
  | 35 => ⟨S_, .f32⟩
  | 36 => ⟨S4096x1024, .f32⟩
  | 37 => ⟨S4096x1024, .f32⟩
  | 38 => ⟨S4096x1024, .f32⟩
  | 39 => ⟨S4096x1024, .f32⟩
  | 40 => ⟨S_, .f32⟩
  | 41 => ⟨S4096x1024, .f32⟩
  | 42 => ⟨S4096x1024, .f32⟩
  | 43 => ⟨S_, .f32⟩
  | 44 => ⟨S4096x1024, .f32⟩
  | 45 => ⟨S4096x1024, .f32⟩
  | 46 => ⟨S4096x1024, .f32⟩
  | 47 => ⟨S_, .f32⟩
  | 48 => ⟨S4096x1024, .f32⟩
  | 49 => ⟨S4096x1024, .f32⟩
  | 50 => ⟨S4096x1024, .f32⟩
  | 51 => ⟨S_, .f32⟩
  | 52 => ⟨S4096x1024, .f32⟩
  | 53 => ⟨S4096x1024, .f32⟩
  | 54 => ⟨S_, .f32⟩
  | 55 => ⟨S4096x1024, .f32⟩
  | 56 => ⟨S4096x1024, .f32⟩
  | 57 => ⟨S4096x1024, .f32⟩
  | 58 => ⟨S_, .f32⟩
  | 59 => ⟨S4096x1024, .f32⟩
  | 60 => ⟨S4096x1024, .f32⟩
  | 61 => ⟨S4096x1024, .f32⟩
  | 62 => ⟨S_, .f32⟩
  | 63 => ⟨S4096, .f32⟩
  | 64 => ⟨S4096x1, .f32⟩
  | 65 => ⟨S_, .f32⟩
  | 66 => ⟨S4096x1, .f32⟩
  | 67 => ⟨S4096x1, .f32⟩
  | 68 => ⟨S4096x1024, .f32⟩
  | 69 => ⟨S4096x1024, .f32⟩
  | 70 => ⟨S4096x1024, .f32⟩
  | 71 => ⟨S_, .f32⟩
  | 72 => ⟨S4096x1024, .f32⟩
  | 73 => ⟨S4096x1024, .f32⟩
  | 74 => ⟨S_, .f32⟩
  | 75 => ⟨S4096, .f32⟩
  | 76 => ⟨S4096x1, .f32⟩
  | 77 => ⟨S_, .f32⟩
  | 78 => ⟨S4096x1, .f32⟩
  | 79 => ⟨S4096x1, .f32⟩
  | 80 => ⟨S4096x1024, .f32⟩
  | 81 => ⟨S4096x1024, .f32⟩
  | 82 => ⟨S_, .f32⟩
  | 83 => ⟨S4096x1, .f32⟩
  | 84 => ⟨S4096x1, .f32⟩
  | 85 => ⟨S4096x1, .f32⟩
  | 86 => ⟨S4096x1, .f32⟩
  | 87 => ⟨S_, .f32⟩
  | 88 => ⟨S4096x1, .f32⟩
  | 89 => ⟨S4096x1, .f32⟩
  | 90 => ⟨S4096x1024, .f32⟩
  | 91 => ⟨S4096x1024, .f32⟩
  | 92 => ⟨S512x8x1024, .f32⟩
  | 93 => ⟨S1x8x1024, .f32⟩
  | 94 => ⟨S512x8x1024, .f32⟩
  | 95 => ⟨S512x8x1024, .f32⟩
  | 96 => ⟨S1x8x1024, .f32⟩
  | 97 => ⟨S512x8x1024, .f32⟩
  | 98 => ⟨S512x8x1024, .f32⟩
  | 99 => ⟨S4096x1024, .f32⟩
  | 100 => ⟨S32x128x8x128, .f32⟩
  | 101 => ⟨S8x32x128x128, .f32⟩
  | 102 => ⟨S32x128x8x128, .f32⟩
  | 103 => ⟨S1x128x8x128, .f32⟩
  | 104 => ⟨S32x128x8x128, .f32⟩
  | 105 => ⟨S32x128x8x128, .f32⟩
  | 106 => ⟨S_, .f32⟩
  | 107 => ⟨S4096x1024, .f32⟩
  | 108 => ⟨S4096x1024, .f32⟩
  | 109 => ⟨S4096x1024, .f32⟩
  | 110 => ⟨S4096x1024, .f32⟩
  | 111 => ⟨S_, .f32⟩
  | 112 => ⟨S4096x1024, .f32⟩
  | 113 => ⟨S4096x1024, .f32⟩
  | 114 => ⟨S_, .f32⟩
  | 115 => ⟨S4096x1024, .f32⟩
  | 116 => ⟨S4096x1024, .f32⟩
  | 117 => ⟨S4096x1024, .f32⟩
  | 118 => ⟨S_, .f32⟩
  | 119 => ⟨S4096x1024, .f32⟩
  | 120 => ⟨S4096x1024, .f32⟩
  | 121 => ⟨S4096x1024, .f32⟩
  | 122 => ⟨S_, .f32⟩
  | 123 => ⟨S4096x1024, .f32⟩
  | 124 => ⟨S4096x1024, .f32⟩
  | 125 => ⟨S_, .f32⟩
  | 126 => ⟨S4096x1024, .f32⟩
  | 127 => ⟨S4096x1024, .f32⟩
  | _ => ⟨S8x4096x1024, .bf16⟩

abbrev hbmTy0_1 (i : Nat) : BufTy := match i % 128 with
  | 0 => ⟨S4096x1024, .f32⟩
  | 1 => ⟨S_, .f32⟩
  | 2 => ⟨S4096x1024, .f32⟩
  | 3 => ⟨S4096x1024, .f32⟩
  | 4 => ⟨S4096x1024, .f32⟩
  | 5 => ⟨S4096x1024, .f32⟩
  | 6 => ⟨S4096x1024, .f32⟩
  | 7 => ⟨S4096x1024, .f32⟩
  | 8 => ⟨S4096x1024, .f32⟩
  | 9 => ⟨S1024x1024, .f32⟩
  | 10 => ⟨S1024x1024, .f32⟩
  | 11 => ⟨S4096x1024, .f32⟩
  | 12 => ⟨S4096x1024, .f32⟩
  | 13 => ⟨S4096x1024, .f32⟩
  | 14 => ⟨S32x128x8x128, .f32⟩
  | 15 => ⟨S4096x1024, .f32⟩
  | 16 => ⟨S4096x1024, .f32⟩
  | 17 => ⟨S4096x1024, .f32⟩
  | 18 => ⟨S_, .f32⟩
  | 19 => ⟨S4096x1024, .f32⟩
  | 20 => ⟨S4096x1024, .f32⟩
  | 21 => ⟨S_, .f32⟩
  | 22 => ⟨S4096x1024, .f32⟩
  | 23 => ⟨S4096x1024, .f32⟩
  | 24 => ⟨S_, .f32⟩
  | 25 => ⟨S4096x1024, .f32⟩
  | 26 => ⟨S4096x1024, .f32⟩
  | 27 => ⟨S4096x1024, .f32⟩
  | 28 => ⟨S4096x1024, .f32⟩
  | 29 => ⟨S4096x1024, .f32⟩
  | 30 => ⟨S4096x1024, .f32⟩
  | 31 => ⟨S4096x1024, .f32⟩
  | 32 => ⟨S4096x1024, .f32⟩
  | 33 => ⟨S4096x1024, .f32⟩
  | 34 => ⟨S_, .f32⟩
  | 35 => ⟨S4096x1024, .f32⟩
  | 36 => ⟨S4096x1024, .f32⟩
  | 37 => ⟨S4096x1024, .f32⟩
  | 38 => ⟨S_, .f32⟩
  | 39 => ⟨S128x8x128, .f32⟩
  | 40 => ⟨S1x128x8x128, .f32⟩
  | 41 => ⟨S_, .f32⟩
  | 42 => ⟨S128x8x128, .f32⟩
  | 43 => ⟨S8x32x128x128, .f32⟩
  | 44 => ⟨S8x128x128, .f32⟩
  | 45 => ⟨S8x32x128x128, .f32⟩
  | 46 => ⟨S32x128x8x128, .f32⟩
  | 47 => ⟨S4096x1024, .f32⟩
  | 48 => ⟨S512x8x1024, .f32⟩
  | 49 => ⟨S_, .f32⟩
  | 50 => ⟨S8x1024, .f32⟩
  | 51 => ⟨S1x8x1024, .f32⟩
  | 52 => ⟨S_, .f32⟩
  | 53 => ⟨S8x1024, .f32⟩
  | 54 => ⟨S512x8x1024, .f32⟩
  | 55 => ⟨S_, .f32⟩
  | 56 => ⟨S8x1024, .f32⟩
  | 57 => ⟨S1x8x1024, .f32⟩
  | 58 => ⟨S512x8x1024, .f32⟩
  | 59 => ⟨S512x8x1024, .f32⟩
  | 60 => ⟨S_, .f32⟩
  | 61 => ⟨S8x1024, .f32⟩
  | 62 => ⟨S4096x1024, .f32⟩
  | 63 => ⟨S4096x1024, .f32⟩
  | 64 => ⟨S_, .f32⟩
  | 65 => ⟨S4096, .f32⟩
  | 66 => ⟨S4096x1, .f32⟩
  | 67 => ⟨S4096x1024, .f32⟩
  | 68 => ⟨S4096x1024, .f32⟩
  | 69 => ⟨S4096x1, .f32⟩
  | 70 => ⟨S4096x1024, .f32⟩
  | 71 => ⟨S_, .f32⟩
  | 72 => ⟨S4096, .f32⟩
  | 73 => ⟨S4096x1, .f32⟩
  | 74 => ⟨S_, .f32⟩
  | 75 => ⟨S4096x1, .f32⟩
  | 76 => ⟨S4096x1, .f32⟩
  | 77 => ⟨S_, .f32⟩
  | 78 => ⟨S4096, .f32⟩
  | 79 => ⟨S4096x1024, .f32⟩
  | 80 => ⟨S4096x1024, .f32⟩
  | 81 => ⟨S4096x1024, .f32⟩
  | 82 => ⟨S_, .f32⟩
  | 83 => ⟨S4096, .f32⟩
  | 84 => ⟨S4096x1, .f32⟩
  | 85 => ⟨S4096x1024, .f32⟩
  | 86 => ⟨S4096x1, .f32⟩
  | 87 => ⟨S_, .f32⟩
  | 88 => ⟨S4096x1, .f32⟩
  | 89 => ⟨S4096x1, .f32⟩
  | 90 => ⟨S_, .f32⟩
  | 91 => ⟨S4096, .f32⟩
  | 92 => ⟨S4096x1024, .f32⟩
  | 93 => ⟨S4096x1024, .f32⟩
  | 94 => ⟨S4096x1024, .f32⟩
  | 95 => ⟨S4096x1024, .f32⟩
  | 96 => ⟨S4096x1024, .f32⟩
  | 97 => ⟨S_, .f32⟩
  | 98 => ⟨S4096x1024, .f32⟩
  | 99 => ⟨S4096x1024, .f32⟩
  | 100 => ⟨S_, .f32⟩
  | 101 => ⟨S4096x1024, .f32⟩
  | 102 => ⟨S4096x1024, .f32⟩
  | 103 => ⟨S_, .f32⟩
  | 104 => ⟨S4096x1024, .f32⟩
  | 105 => ⟨S4096x1024, .f32⟩
  | 106 => ⟨S4096x1024, .f32⟩
  | 107 => ⟨S4096x1024, .f32⟩
  | 108 => ⟨S4096x1024, .f32⟩
  | 109 => ⟨S4096x1024, .f32⟩
  | 110 => ⟨S4096x1024, .f32⟩
  | 111 => ⟨S4096x1024, .f32⟩
  | 112 => ⟨S4096x1024, .f32⟩
  | 113 => ⟨S_, .f32⟩
  | 114 => ⟨S4096x1024, .f32⟩
  | 115 => ⟨S4096x1024, .f32⟩
  | 116 => ⟨S4096x1024, .f32⟩
  | 117 => ⟨S8x4096x1024, .i32⟩
  | 118 => ⟨S_, .i32⟩
  | 119 => ⟨S8x4096x1024, .i32⟩
  | 120 => ⟨S8x4096x1024, .i1⟩
  | 121 => ⟨S1x4096x1024, .f32⟩
  | 122 => ⟨S1x4096x1024, .bf16⟩
  | 123 => ⟨S_, .i32⟩
  | 124 => ⟨S8x4096x1024, .i32⟩
  | 125 => ⟨S8x4096x1024, .i1⟩
  | 126 => ⟨S1x4096x1024, .f32⟩
  | 127 => ⟨S1x4096x1024, .bf16⟩
  | _ => ⟨S8x4096x1024, .bf16⟩

abbrev hbmTy0_2 (i : Nat) : BufTy := match i % 128 with
  | 0 => ⟨S8x4096x1024, .bf16⟩
  | 1 => ⟨S8x4096x1024, .bf16⟩
  | 2 => ⟨S8x4096x1024, .bf16⟩
  | 3 => ⟨S8x4096x1024, .bf16⟩
  | 4 => ⟨S1x8x1024, .f32⟩
  | 5 => ⟨S1x8x1024, .f32⟩
  | 6 => ⟨S2x8x1024, .f32⟩
  | 7 => ⟨S128x8x128, .f32⟩
  | 8 => ⟨S128x1024, .f32⟩
  | 9 => ⟨S128x1024, .f32⟩
  | _ => ⟨S8x4096x1024, .bf16⟩

abbrev hbmTy (i : Nat) : BufTy := match i / 128 with
  | 0 => hbmTy0_0 i
  | 1 => hbmTy0_1 i
  | 2 => hbmTy0_2 i
  | _ => ⟨S8x4096x1024, .bf16⟩

abbrev bufTy : (tb : Table) → Fin (tcTables nBuf tb) → BufTy
  | .hbm, ⟨i, _⟩ => hbmTy i
  | _, _ => ⟨S8x4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_call0_v0 : Ref sig .tc := ⟨.hbm, 10, rfl⟩
abbrev main_call0_c : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_c_0 : Ref sig .tc := ⟨.hbm, 16, rfl⟩
abbrev main_call0_v5 : Ref sig .tc := ⟨.hbm, 17, rfl⟩
abbrev main_v1 : Ref sig .tc := ⟨.hbm, 18, rfl⟩
abbrev main_v2 : Ref sig .tc := ⟨.hbm, 19, rfl⟩
abbrev main_cst : Ref sig .tc := ⟨.hbm, 20, rfl⟩
abbrev main_call1_v0 : Ref sig .tc := ⟨.hbm, 21, rfl⟩
abbrev main_call1_v1 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_cst_0 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_cst_1 : Ref sig .tc := ⟨.hbm, 40, rfl⟩
abbrev main_v19 : Ref sig .tc := ⟨.hbm, 41, rfl⟩
abbrev main_v20 : Ref sig .tc := ⟨.hbm, 42, rfl⟩
abbrev main_cst_2 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_cst_3 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_cst_4 : Ref sig .tc := ⟨.hbm, 51, rfl⟩
abbrev main_v27 : Ref sig .tc := ⟨.hbm, 52, rfl⟩
abbrev main_v28 : Ref sig .tc := ⟨.hbm, 53, rfl⟩
abbrev main_cst_5 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_cst_6 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_cst_7 : Ref sig .tc := ⟨.hbm, 62, rfl⟩
abbrev main_v35 : Ref sig .tc := ⟨.hbm, 63, rfl⟩
abbrev main_v36 : Ref sig .tc := ⟨.hbm, 64, rfl⟩
abbrev main_cst_8 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_cst_9 : Ref sig .tc := ⟨.hbm, 71, rfl⟩
abbrev main_v42 : Ref sig .tc := ⟨.hbm, 72, rfl⟩
abbrev main_v43 : Ref sig .tc := ⟨.hbm, 73, rfl⟩
abbrev main_cst_10 : Ref sig .tc := ⟨.hbm, 74, rfl⟩
abbrev main_v44 : Ref sig .tc := ⟨.hbm, 75, rfl⟩
abbrev main_v45 : Ref sig .tc := ⟨.hbm, 76, rfl⟩
abbrev main_cst_11 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_cst_12 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_cst_13 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_cst_14 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_cst_15 : Ref sig .tc := ⟨.hbm, 111, rfl⟩
abbrev main_v76 : Ref sig .tc := ⟨.hbm, 112, rfl⟩
abbrev main_v77 : Ref sig .tc := ⟨.hbm, 113, rfl⟩
abbrev main_cst_16 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_cst_17 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_cst_18 : Ref sig .tc := ⟨.hbm, 122, rfl⟩
abbrev main_v84 : Ref sig .tc := ⟨.hbm, 123, rfl⟩
abbrev main_v85 : Ref sig .tc := ⟨.hbm, 124, rfl⟩
abbrev main_cst_19 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_cst_20 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev main_cst_21 : Ref sig .tc := ⟨.hbm, 146, rfl⟩
abbrev main_v105 : Ref sig .tc := ⟨.hbm, 147, rfl⟩
abbrev main_v106 : Ref sig .tc := ⟨.hbm, 148, rfl⟩
abbrev main_cst_22 : Ref sig .tc := ⟨.hbm, 149, rfl⟩
abbrev main_v107 : Ref sig .tc := ⟨.hbm, 150, rfl⟩
abbrev main_v108 : Ref sig .tc := ⟨.hbm, 151, rfl⟩
abbrev main_cst_23 : Ref sig .tc := ⟨.hbm, 152, rfl⟩
abbrev main_v109 : Ref sig .tc := ⟨.hbm, 153, rfl⟩
abbrev main_v110 : Ref sig .tc := ⟨.hbm, 154, rfl⟩
abbrev main_v111 : Ref sig .tc := ⟨.hbm, 155, rfl⟩
abbrev main_v112 : Ref sig .tc := ⟨.hbm, 156, rfl⟩
abbrev main_v113 : Ref sig .tc := ⟨.hbm, 157, rfl⟩
abbrev main_v114 : Ref sig .tc := ⟨.hbm, 158, rfl⟩
abbrev main_v115 : Ref sig .tc := ⟨.hbm, 159, rfl⟩
abbrev main_v116 : Ref sig .tc := ⟨.hbm, 160, rfl⟩
abbrev main_v117 : Ref sig .tc := ⟨.hbm, 161, rfl⟩
abbrev main_cst_24 : Ref sig .tc := ⟨.hbm, 162, rfl⟩
abbrev main_v118 : Ref sig .tc := ⟨.hbm, 163, rfl⟩
abbrev main_v119 : Ref sig .tc := ⟨.hbm, 164, rfl⟩
abbrev main_v120 : Ref sig .tc := ⟨.hbm, 165, rfl⟩
abbrev main_cst_25 : Ref sig .tc := ⟨.hbm, 166, rfl⟩
abbrev main_v121 : Ref sig .tc := ⟨.hbm, 167, rfl⟩
abbrev main_v122 : Ref sig .tc := ⟨.hbm, 168, rfl⟩
abbrev main_cst_26 : Ref sig .tc := ⟨.hbm, 169, rfl⟩
abbrev main_v123 : Ref sig .tc := ⟨.hbm, 170, rfl⟩
abbrev main_v124 : Ref sig .tc := ⟨.hbm, 171, rfl⟩
abbrev main_v125 : Ref sig .tc := ⟨.hbm, 172, rfl⟩
abbrev main_v126 : Ref sig .tc := ⟨.hbm, 173, rfl⟩
abbrev main_v127 : Ref sig .tc := ⟨.hbm, 174, rfl⟩
abbrev main_v128 : Ref sig .tc := ⟨.hbm, 175, rfl⟩
abbrev main_v129 : Ref sig .tc := ⟨.hbm, 176, rfl⟩
abbrev main_cst_27 : Ref sig .tc := ⟨.hbm, 177, rfl⟩
abbrev main_v130 : Ref sig .tc := ⟨.hbm, 178, rfl⟩
abbrev main_v131 : Ref sig .tc := ⟨.hbm, 179, rfl⟩
abbrev main_cst_28 : Ref sig .tc := ⟨.hbm, 180, rfl⟩
abbrev main_v132 : Ref sig .tc := ⟨.hbm, 181, rfl⟩
abbrev main_v133 : Ref sig .tc := ⟨.hbm, 182, rfl⟩
abbrev main_cst_29 : Ref sig .tc := ⟨.hbm, 183, rfl⟩
abbrev main_v134 : Ref sig .tc := ⟨.hbm, 184, rfl⟩
abbrev main_v135 : Ref sig .tc := ⟨.hbm, 185, rfl⟩
abbrev main_v136 : Ref sig .tc := ⟨.hbm, 186, rfl⟩
abbrev main_v137 : Ref sig .tc := ⟨.hbm, 187, rfl⟩
abbrev main_cst_30 : Ref sig .tc := ⟨.hbm, 188, rfl⟩
abbrev main_v138 : Ref sig .tc := ⟨.hbm, 189, rfl⟩
abbrev main_v139 : Ref sig .tc := ⟨.hbm, 190, rfl⟩
abbrev main_v140 : Ref sig .tc := ⟨.hbm, 191, rfl⟩
abbrev main_cst_31 : Ref sig .tc := ⟨.hbm, 192, rfl⟩
abbrev main_v141 : Ref sig .tc := ⟨.hbm, 193, rfl⟩
abbrev main_v142 : Ref sig .tc := ⟨.hbm, 194, rfl⟩
abbrev main_v143 : Ref sig .tc := ⟨.hbm, 195, rfl⟩
abbrev main_v144 : Ref sig .tc := ⟨.hbm, 196, rfl⟩
abbrev main_v145 : Ref sig .tc := ⟨.hbm, 197, rfl⟩
abbrev main_v146 : Ref sig .tc := ⟨.hbm, 198, rfl⟩
abbrev main_cst_32 : Ref sig .tc := ⟨.hbm, 199, rfl⟩
abbrev main_v147 : Ref sig .tc := ⟨.hbm, 200, rfl⟩
abbrev main_v148 : Ref sig .tc := ⟨.hbm, 201, rfl⟩
abbrev main_cst_33 : Ref sig .tc := ⟨.hbm, 202, rfl⟩
abbrev main_v149 : Ref sig .tc := ⟨.hbm, 203, rfl⟩
abbrev main_v150 : Ref sig .tc := ⟨.hbm, 204, rfl⟩
abbrev main_cst_34 : Ref sig .tc := ⟨.hbm, 205, rfl⟩
abbrev main_v151 : Ref sig .tc := ⟨.hbm, 206, rfl⟩
abbrev main_v152 : Ref sig .tc := ⟨.hbm, 207, rfl⟩
abbrev main_v153 : Ref sig .tc := ⟨.hbm, 208, rfl⟩
abbrev main_v154 : Ref sig .tc := ⟨.hbm, 209, rfl⟩
abbrev main_cst_35 : Ref sig .tc := ⟨.hbm, 210, rfl⟩
abbrev main_v155 : Ref sig .tc := ⟨.hbm, 211, rfl⟩
abbrev main_v156 : Ref sig .tc := ⟨.hbm, 212, rfl⟩
abbrev main_v157 : Ref sig .tc := ⟨.hbm, 213, rfl⟩
abbrev main_v158 : Ref sig .tc := ⟨.hbm, 214, rfl⟩
abbrev main_cst_36 : Ref sig .tc := ⟨.hbm, 215, rfl⟩
abbrev main_v159 : Ref sig .tc := ⟨.hbm, 216, rfl⟩
abbrev main_v160 : Ref sig .tc := ⟨.hbm, 217, rfl⟩
abbrev main_cst_37 : Ref sig .tc := ⟨.hbm, 218, rfl⟩
abbrev main_v161 : Ref sig .tc := ⟨.hbm, 219, rfl⟩
abbrev main_v162 : Ref sig .tc := ⟨.hbm, 220, rfl⟩
abbrev main_v163 : Ref sig .tc := ⟨.hbm, 221, rfl⟩
abbrev main_v164 : Ref sig .tc := ⟨.hbm, 222, rfl⟩
abbrev main_v165 : Ref sig .tc := ⟨.hbm, 223, rfl⟩
abbrev main_v166 : Ref sig .tc := ⟨.hbm, 224, rfl⟩
abbrev main_cst_38 : Ref sig .tc := ⟨.hbm, 225, rfl⟩
abbrev main_v167 : Ref sig .tc := ⟨.hbm, 226, rfl⟩
abbrev main_v168 : Ref sig .tc := ⟨.hbm, 227, rfl⟩
abbrev main_cst_39 : Ref sig .tc := ⟨.hbm, 228, rfl⟩
abbrev main_v169 : Ref sig .tc := ⟨.hbm, 229, rfl⟩
abbrev main_v170 : Ref sig .tc := ⟨.hbm, 230, rfl⟩
abbrev main_cst_40 : Ref sig .tc := ⟨.hbm, 231, rfl⟩
abbrev main_v171 : Ref sig .tc := ⟨.hbm, 232, rfl⟩
abbrev main_v172 : Ref sig .tc := ⟨.hbm, 233, rfl⟩
abbrev main_v173 : Ref sig .tc := ⟨.hbm, 234, rfl⟩
abbrev main_v174 : Ref sig .tc := ⟨.hbm, 235, rfl⟩
abbrev main_v175 : Ref sig .tc := ⟨.hbm, 236, rfl⟩
abbrev main_v176 : Ref sig .tc := ⟨.hbm, 237, rfl⟩
abbrev main_v177 : Ref sig .tc := ⟨.hbm, 238, rfl⟩
abbrev main_v178 : Ref sig .tc := ⟨.hbm, 239, rfl⟩
abbrev main_v179 : Ref sig .tc := ⟨.hbm, 240, rfl⟩
abbrev main_cst_41 : Ref sig .tc := ⟨.hbm, 241, rfl⟩
abbrev main_v180 : Ref sig .tc := ⟨.hbm, 242, rfl⟩
abbrev main_v181 : Ref sig .tc := ⟨.hbm, 243, rfl⟩
abbrev main_v182 : Ref sig .tc := ⟨.hbm, 244, rfl⟩
abbrev main_v183 : Ref sig .tc := ⟨.hbm, 245, rfl⟩
abbrev main_c_42 : Ref sig .tc := ⟨.hbm, 246, rfl⟩
abbrev main_v184 : Ref sig .tc := ⟨.hbm, 247, rfl⟩
abbrev main_v185 : Ref sig .tc := ⟨.hbm, 248, rfl⟩
abbrev main_v186 : Ref sig .tc := ⟨.hbm, 249, rfl⟩
abbrev main_v187 : Ref sig .tc := ⟨.hbm, 250, rfl⟩
abbrev main_c_43 : Ref sig .tc := ⟨.hbm, 251, rfl⟩
abbrev main_v188 : Ref sig .tc := ⟨.hbm, 252, rfl⟩
abbrev main_v189 : Ref sig .tc := ⟨.hbm, 253, rfl⟩
abbrev main_v190 : Ref sig .tc := ⟨.hbm, 254, rfl⟩
abbrev main_v191 : Ref sig .tc := ⟨.hbm, 255, rfl⟩
abbrev main_call2_v0 : Ref sig .tc := ⟨.hbm, 256, rfl⟩
abbrev main_v192 : Ref sig .tc := ⟨.hbm, 257, rfl⟩
abbrev main_call3_v0 : Ref sig .tc := ⟨.hbm, 258, rfl⟩
abbrev main_v193 : Ref sig .tc := ⟨.hbm, 259, rfl⟩
abbrev main_v194 : Ref sig .tc := ⟨.hbm, 260, rfl⟩
abbrev main_v195 : Ref sig .tc := ⟨.hbm, 261, rfl⟩
abbrev main_v196 : Ref sig .tc := ⟨.hbm, 262, rfl⟩
abbrev main_v197 : Ref sig .tc := ⟨.hbm, 263, rfl⟩
abbrev main_v198 : Ref sig .tc := ⟨.hbm, 264, rfl⟩
abbrev main_v199 : Ref sig .tc := ⟨.hbm, 265, rfl⟩

abbrev nD : Nat := 1
abbrev τ : Topo := Topo.v7x

variable {F : FTy → Type} [FloatOps F]
-- ==== Ffn.lean ====
abbrev S4096x1024 : Shape := ⟨2, ![4096, 1024]⟩
abbrev S1x1024 : Shape := ⟨2, ![1, 1024]⟩
abbrev S2x1024x2816 : Shape := ⟨3, ![2, 1024, 2816]⟩
abbrev S2816x1024 : Shape := ⟨2, ![2816, 1024]⟩
abbrev S4096x2816 : Shape := ⟨2, ![4096, 2816]⟩
abbrev S2x4096x2816 : Shape := ⟨3, ![2, 4096, 2816]⟩
abbrev S3x8x1024 : Shape := ⟨3, ![3, 8, 1024]⟩
abbrev S256x1024 : Shape := ⟨2, ![256, 1024]⟩
abbrev S256x2816 : Shape := ⟨2, ![256, 2816]⟩
abbrev S2x256x2816 : Shape := ⟨3, ![2, 256, 2816]⟩
abbrev S256 : Shape := ⟨1, ![256]⟩
abbrev S256x1 : Shape := ⟨2, ![256, 1]⟩
abbrev S1x1024x2816 : Shape := ⟨3, ![1, 1024, 2816]⟩
abbrev S1024x2816 : Shape := ⟨2, ![1024, 2816]⟩
abbrev S1x8x1024 : Shape := ⟨3, ![1, 8, 1024]⟩
abbrev S8x1024 : Shape := ⟨2, ![8, 1024]⟩
abbrev S32x8x1024 : Shape := ⟨3, ![32, 8, 1024]⟩
abbrev S1x256x2816 : Shape := ⟨3, ![1, 256, 2816]⟩

abbrev nBuf : Space → Nat
  | .hbm => 13
  | .vmem => 21
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S1x1024, .f32⟩
  | .hbm, ⟨4, _⟩ => ⟨S2x1024x2816, .bf16⟩
  | .hbm, ⟨5, _⟩ => ⟨S2816x1024, .bf16⟩
  | .hbm, ⟨6, _⟩ => ⟨S4096x2816, .bf16⟩
  | .hbm, ⟨7, _⟩ => ⟨S4096x1024, .bf16⟩
  | .hbm, ⟨8, _⟩ => ⟨S4096x1024, .bf16⟩
  | .hbm, ⟨9, _⟩ => ⟨S2x4096x2816, .bf16⟩
  | .hbm, ⟨10, _⟩ => ⟨S4096x1024, .f32⟩
  | .hbm, ⟨11, _⟩ => ⟨S4096x1024, .bf16⟩
  | .hbm, ⟨12, _⟩ => ⟨S3x8x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S1x1024, .f32⟩
  | .local _ .vmem, ⟨6, _⟩ => ⟨S2x1024x2816, .bf16⟩
  | .local _ .vmem, ⟨7, _⟩ => ⟨S2816x1024, .bf16⟩
  | .local _ .vmem, ⟨8, _⟩ => ⟨S256x2816, .bf16⟩
  | .local _ .vmem, ⟨9, _⟩ => ⟨S256x2816, .bf16⟩
  | .local _ .vmem, ⟨10, _⟩ => ⟨S256x1024, .bf16⟩
  | .local _ .vmem, ⟨11, _⟩ => ⟨S256x1024, .bf16⟩
  | .local _ .vmem, ⟨12, _⟩ => ⟨S256x1024, .bf16⟩
  | .local _ .vmem, ⟨13, _⟩ => ⟨S256x1024, .bf16⟩
  | .local _ .vmem, ⟨14, _⟩ => ⟨S2x256x2816, .bf16⟩
  | .local _ .vmem, ⟨15, _⟩ => ⟨S2x256x2816, .bf16⟩
  | .local _ .vmem, ⟨16, _⟩ => ⟨S256x1024, .f32⟩
  | .local _ .vmem, ⟨17, _⟩ => ⟨S256x1024, .f32⟩
  | .local _ .vmem, ⟨18, _⟩ => ⟨S256x1024, .bf16⟩
  | .local _ .vmem, ⟨19, _⟩ => ⟨S256x1024, .bf16⟩
  | .local _ .vmem, ⟨20, _⟩ => ⟨S3x8x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v0_4 : Ref sig .tc := ⟨.hbm, 10, rfl⟩
abbrev main_v0_5 : Ref sig .tc := ⟨.hbm, 11, rfl⟩
abbrev main_v0_6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2x1024x2816 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x2816 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S2x256x2816 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S3x8x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== FfnReferenceIdeal.lean ====
abbrev S4096x1024 : Shape := ⟨2, ![4096, 1024]⟩
abbrev S1x1024 : Shape := ⟨2, ![1, 1024]⟩
abbrev S2x1024x2816 : Shape := ⟨3, ![2, 1024, 2816]⟩
abbrev S2816x1024 : Shape := ⟨2, ![2816, 1024]⟩
abbrev S8x1024 : Shape := ⟨2, ![8, 1024]⟩
abbrev S_ : Shape := ⟨0, ![]⟩
abbrev S4096 : Shape := ⟨1, ![4096]⟩
abbrev S4096x1 : Shape := ⟨2, ![4096, 1]⟩
abbrev S512x8x1024 : Shape := ⟨3, ![512, 8, 1024]⟩
abbrev S1x8x1024 : Shape := ⟨3, ![1, 8, 1024]⟩
abbrev S1x1024x2816 : Shape := ⟨3, ![1, 1024, 2816]⟩
abbrev S1024x2816 : Shape := ⟨2, ![1024, 2816]⟩
abbrev S4096x2816 : Shape := ⟨2, ![4096, 2816]⟩
abbrev S1x4096x2816 : Shape := ⟨3, ![1, 4096, 2816]⟩
abbrev S2x4096x2816 : Shape := ⟨3, ![2, 4096, 2816]⟩
abbrev S3x8x1024 : Shape := ⟨3, ![3, 8, 1024]⟩

abbrev nBuf : Space → Nat
  | .hbm => 182
  | .vmem => 0
  | .smem => 0
  | _ => 0

abbrev hbmTy0_0 (i : Nat) : BufTy := match i % 128 with
  | 0 => ⟨S4096x1024, .f32⟩
  | 1 => ⟨S4096x1024, .f32⟩
  | 2 => ⟨S1x1024, .f32⟩
  | 3 => ⟨S1x1024, .f32⟩
  | 4 => ⟨S2x1024x2816, .bf16⟩
  | 5 => ⟨S2816x1024, .bf16⟩
  | 6 => ⟨S8x1024, .f32⟩
  | 7 => ⟨S8x1024, .f32⟩
  | 8 => ⟨S4096x1024, .f32⟩
  | 9 => ⟨S_, .f32⟩
  | 10 => ⟨S4096, .f32⟩
  | 11 => ⟨S4096x1, .f32⟩
  | 12 => ⟨S_, .f32⟩
  | 13 => ⟨S4096x1, .f32⟩
  | 14 => ⟨S4096x1, .f32⟩
  | 15 => ⟨S_, .f32⟩
  | 16 => ⟨S4096x1, .f32⟩
  | 17 => ⟨S4096x1, .f32⟩
  | 18 => ⟨S4096x1, .f32⟩
  | 19 => ⟨S4096x1, .f32⟩
  | 20 => ⟨S_, .f32⟩
  | 21 => ⟨S4096x1, .f32⟩
  | 22 => ⟨S4096x1, .f32⟩
  | 23 => ⟨S4096x1024, .f32⟩
  | 24 => ⟨S4096x1024, .f32⟩
  | 25 => ⟨S512x8x1024, .f32⟩
  | 26 => ⟨S1x8x1024, .f32⟩
  | 27 => ⟨S512x8x1024, .f32⟩
  | 28 => ⟨S512x8x1024, .f32⟩
  | 29 => ⟨S4096x1024, .f32⟩
  | 30 => ⟨S2x1024x2816, .f32⟩
  | 31 => ⟨S1x1024x2816, .f32⟩
  | 32 => ⟨S1024x2816, .f32⟩
  | 33 => ⟨S4096x2816, .f32⟩
  | 34 => ⟨S1x1024x2816, .f32⟩
  | 35 => ⟨S1024x2816, .f32⟩
  | 36 => ⟨S4096x2816, .f32⟩
  | 37 => ⟨S4096x2816, .f32⟩
  | 38 => ⟨S4096x2816, .f32⟩
  | 39 => ⟨S_, .f32⟩
  | 40 => ⟨S4096x2816, .f32⟩
  | 41 => ⟨S4096x2816, .f32⟩
  | 42 => ⟨S_, .f32⟩
  | 43 => ⟨S4096x2816, .f32⟩
  | 44 => ⟨S4096x2816, .f32⟩
  | 45 => ⟨S4096x2816, .f32⟩
  | 46 => ⟨S_, .f32⟩
  | 47 => ⟨S4096x2816, .f32⟩
  | 48 => ⟨S4096x2816, .f32⟩
  | 49 => ⟨S4096x2816, .f32⟩
  | 50 => ⟨S4096x2816, .f32⟩
  | 51 => ⟨S2816x1024, .f32⟩
  | 52 => ⟨S4096x1024, .f32⟩
  | 53 => ⟨S4096x1024, .f32⟩
  | 54 => ⟨S4096x1024, .f32⟩
  | 55 => ⟨S_, .f32⟩
  | 56 => ⟨S4096, .f32⟩
  | 57 => ⟨S4096x1, .f32⟩
  | 58 => ⟨S_, .f32⟩
  | 59 => ⟨S4096x1, .f32⟩
  | 60 => ⟨S4096x1, .f32⟩
  | 61 => ⟨S_, .f32⟩
  | 62 => ⟨S4096x1, .f32⟩
  | 63 => ⟨S4096x1, .f32⟩
  | 64 => ⟨S4096x1, .f32⟩
  | 65 => ⟨S4096x1, .f32⟩
  | 66 => ⟨S_, .f32⟩
  | 67 => ⟨S4096x1, .f32⟩
  | 68 => ⟨S4096x1, .f32⟩
  | 69 => ⟨S4096x1024, .f32⟩
  | 70 => ⟨S4096x1024, .f32⟩
  | 71 => ⟨S512x8x1024, .f32⟩
  | 72 => ⟨S1x8x1024, .f32⟩
  | 73 => ⟨S512x8x1024, .f32⟩
  | 74 => ⟨S512x8x1024, .f32⟩
  | 75 => ⟨S4096x1024, .f32⟩
  | 76 => ⟨S4096x1024, .f32⟩
  | 77 => ⟨S4096x1024, .f32⟩
  | 78 => ⟨S_, .f32⟩
  | 79 => ⟨S4096x1024, .f32⟩
  | 80 => ⟨S4096x1024, .f32⟩
  | 81 => ⟨S_, .f32⟩
  | 82 => ⟨S4096x1024, .f32⟩
  | 83 => ⟨S4096x1024, .f32⟩
  | 84 => ⟨S_, .f32⟩
  | 85 => ⟨S4096x1024, .f32⟩
  | 86 => ⟨S4096x1024, .f32⟩
  | 87 => ⟨S_, .f32⟩
  | 88 => ⟨S4096x1024, .f32⟩
  | 89 => ⟨S_, .f32⟩
  | 90 => ⟨S4096x1024, .f32⟩
  | 91 => ⟨S4096x1024, .f32⟩
  | 92 => ⟨S_, .f32⟩
  | 93 => ⟨S4096x1024, .f32⟩
  | 94 => ⟨S4096x1024, .f32⟩
  | 95 => ⟨S4096x1024, .f32⟩
  | 96 => ⟨S512x8x1024, .f32⟩
  | 97 => ⟨S512x8x1024, .f32⟩
  | 98 => ⟨S_, .f32⟩
  | 99 => ⟨S8x1024, .f32⟩
  | 100 => ⟨S1x8x1024, .f32⟩
  | 101 => ⟨S512x8x1024, .f32⟩
  | 102 => ⟨S512x8x1024, .f32⟩
  | 103 => ⟨S_, .f32⟩
  | 104 => ⟨S8x1024, .f32⟩
  | 105 => ⟨S4096x1024, .f32⟩
  | 106 => ⟨S4096x1024, .f32⟩
  | 107 => ⟨S_, .f32⟩
  | 108 => ⟨S4096, .f32⟩
  | 109 => ⟨S4096x1, .f32⟩
  | 110 => ⟨S4096x1024, .f32⟩
  | 111 => ⟨S4096x1024, .f32⟩
  | 112 => ⟨S4096x1, .f32⟩
  | 113 => ⟨S_, .f32⟩
  | 114 => ⟨S4096x1, .f32⟩
  | 115 => ⟨S4096x1, .f32⟩
  | 116 => ⟨S_, .f32⟩
  | 117 => ⟨S4096, .f32⟩
  | 118 => ⟨S4096x1024, .f32⟩
  | 119 => ⟨S4096x1024, .f32⟩
  | 120 => ⟨S4096x1024, .f32⟩
  | 121 => ⟨S4096x1024, .f32⟩
  | 122 => ⟨S4096x1024, .f32⟩
  | 123 => ⟨S4096x2816, .f32⟩
  | 124 => ⟨S4096x2816, .f32⟩
  | 125 => ⟨S4096x2816, .f32⟩
  | 126 => ⟨S4096x2816, .f32⟩
  | 127 => ⟨S4096x2816, .f32⟩
  | _ => ⟨S4096x1024, .f32⟩

abbrev hbmTy0_1 (i : Nat) : BufTy := match i % 128 with
  | 0 => ⟨S4096x2816, .f32⟩
  | 1 => ⟨S_, .f32⟩
  | 2 => ⟨S4096x2816, .f32⟩
  | 3 => ⟨S4096x2816, .f32⟩
  | 4 => ⟨S4096x2816, .f32⟩
  | 5 => ⟨S4096x2816, .f32⟩
  | 6 => ⟨S4096x2816, .f32⟩
  | 7 => ⟨S4096x2816, .f32⟩
  | 8 => ⟨S4096x1024, .f32⟩
  | 9 => ⟨S4096x1024, .f32⟩
  | 10 => ⟨S4096x1024, .f32⟩
  | 11 => ⟨S512x8x1024, .f32⟩
  | 12 => ⟨S512x8x1024, .f32⟩
  | 13 => ⟨S_, .f32⟩
  | 14 => ⟨S8x1024, .f32⟩
  | 15 => ⟨S1x8x1024, .f32⟩
  | 16 => ⟨S512x8x1024, .f32⟩
  | 17 => ⟨S512x8x1024, .f32⟩
  | 18 => ⟨S_, .f32⟩
  | 19 => ⟨S8x1024, .f32⟩
  | 20 => ⟨S4096x1024, .f32⟩
  | 21 => ⟨S4096x1024, .f32⟩
  | 22 => ⟨S_, .f32⟩
  | 23 => ⟨S4096, .f32⟩
  | 24 => ⟨S4096x1, .f32⟩
  | 25 => ⟨S4096x1024, .f32⟩
  | 26 => ⟨S4096x1024, .f32⟩
  | 27 => ⟨S4096x1, .f32⟩
  | 28 => ⟨S_, .f32⟩
  | 29 => ⟨S4096x1, .f32⟩
  | 30 => ⟨S4096x1, .f32⟩
  | 31 => ⟨S_, .f32⟩
  | 32 => ⟨S4096, .f32⟩
  | 33 => ⟨S4096x1024, .f32⟩
  | 34 => ⟨S4096x1024, .f32⟩
  | 35 => ⟨S4096x1024, .f32⟩
  | 36 => ⟨S4096x1024, .f32⟩
  | 37 => ⟨S4096x1024, .f32⟩
  | 38 => ⟨S4096x1024, .f32⟩
  | 39 => ⟨S512x8x1024, .f32⟩
  | 40 => ⟨S_, .f32⟩
  | 41 => ⟨S8x1024, .f32⟩
  | 42 => ⟨S4096x2816, .bf16⟩
  | 43 => ⟨S4096x1024, .bf16⟩
  | 44 => ⟨S4096x1024, .bf16⟩
  | 45 => ⟨S1x4096x2816, .f32⟩
  | 46 => ⟨S1x4096x2816, .f32⟩
  | 47 => ⟨S2x4096x2816, .f32⟩
  | 48 => ⟨S2x4096x2816, .bf16⟩
  | 49 => ⟨S4096x1024, .bf16⟩
  | 50 => ⟨S1x8x1024, .f32⟩
  | 51 => ⟨S1x8x1024, .f32⟩
  | 52 => ⟨S1x8x1024, .f32⟩
  | 53 => ⟨S3x8x1024, .f32⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_3 : Ref sig .tc := ⟨.hbm, 39, rfl⟩
abbrev main_v29 : Ref sig .tc := ⟨.hbm, 40, rfl⟩
abbrev main_v30 : Ref sig .tc := ⟨.hbm, 41, rfl⟩
abbrev main_cst_4 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_5 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_cst_6 : Ref sig .tc := ⟨.hbm, 55, rfl⟩
abbrev main_v42 : Ref sig .tc := ⟨.hbm, 56, rfl⟩
abbrev main_v43 : Ref sig .tc := ⟨.hbm, 57, rfl⟩
abbrev main_cst_7 : Ref sig .tc := ⟨.hbm, 58, rfl⟩
abbrev main_v44 : Ref sig .tc := ⟨.hbm, 59, rfl⟩
abbrev main_v45 : Ref sig .tc := ⟨.hbm, 60, rfl⟩
abbrev main_cst_8 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_cst_9 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_cst_10 : Ref sig .tc := ⟨.hbm, 78, rfl⟩
abbrev main_v61 : Ref sig .tc := ⟨.hbm, 79, rfl⟩
abbrev main_v62 : Ref sig .tc := ⟨.hbm, 80, rfl⟩
abbrev main_cst_11 : Ref sig .tc := ⟨.hbm, 81, rfl⟩
abbrev main_v63 : Ref sig .tc := ⟨.hbm, 82, rfl⟩
abbrev main_v64 : Ref sig .tc := ⟨.hbm, 83, rfl⟩
abbrev main_cst_12 : Ref sig .tc := ⟨.hbm, 84, rfl⟩
abbrev main_v65 : Ref sig .tc := ⟨.hbm, 85, rfl⟩
abbrev main_v66 : Ref sig .tc := ⟨.hbm, 86, rfl⟩
abbrev main_cst_13 : Ref sig .tc := ⟨.hbm, 87, rfl⟩
abbrev main_v67 : Ref sig .tc := ⟨.hbm, 88, rfl⟩
abbrev main_cst_14 : Ref sig .tc := ⟨.hbm, 89, rfl⟩
abbrev main_v68 : Ref sig .tc := ⟨.hbm, 90, rfl⟩
abbrev main_v69 : Ref sig .tc := ⟨.hbm, 91, rfl⟩
abbrev main_cst_15 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_cst_16 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_cst_17 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_cst_18 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_cst_19 : Ref sig .tc := ⟨.hbm, 113, rfl⟩
abbrev main_v87 : Ref sig .tc := ⟨.hbm, 114, rfl⟩
abbrev main_v88 : Ref sig .tc := ⟨.hbm, 115, rfl⟩
abbrev main_cst_20 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_cst_21 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_v106 : Ref sig .tc := ⟨.hbm, 135, rfl⟩
abbrev main_v107 : Ref sig .tc := ⟨.hbm, 136, rfl⟩
abbrev main_v108 : Ref sig .tc := ⟨.hbm, 137, rfl⟩
abbrev main_v109 : Ref sig .tc := ⟨.hbm, 138, rfl⟩
abbrev main_v110 : Ref sig .tc := ⟨.hbm, 139, rfl⟩
abbrev main_v111 : Ref sig .tc := ⟨.hbm, 140, rfl⟩
abbrev main_cst_22 : Ref sig .tc := ⟨.hbm, 141, rfl⟩
abbrev main_v112 : Ref sig .tc := ⟨.hbm, 142, rfl⟩
abbrev main_v113 : Ref sig .tc := ⟨.hbm, 143, rfl⟩
abbrev main_v114 : Ref sig .tc := ⟨.hbm, 144, rfl⟩
abbrev main_v115 : Ref sig .tc := ⟨.hbm, 145, rfl⟩
abbrev main_cst_23 : Ref sig .tc := ⟨.hbm, 146, rfl⟩
abbrev main_v116 : Ref sig .tc := ⟨.hbm, 147, rfl⟩
abbrev main_v117 : Ref sig .tc := ⟨.hbm, 148, rfl⟩
abbrev main_v118 : Ref sig .tc := ⟨.hbm, 149, rfl⟩
abbrev main_cst_24 : Ref sig .tc := ⟨.hbm, 150, rfl⟩
abbrev main_v119 : Ref sig .tc := ⟨.hbm, 151, rfl⟩
abbrev main_v120 : Ref sig .tc := ⟨.hbm, 152, rfl⟩
abbrev main_v121 : Ref sig .tc := ⟨.hbm, 153, rfl⟩
abbrev main_v122 : Ref sig .tc := ⟨.hbm, 154, rfl⟩
abbrev main_v123 : Ref sig .tc := ⟨.hbm, 155, rfl⟩
abbrev main_cst_25 : Ref sig .tc := ⟨.hbm, 156, rfl⟩
abbrev main_v124 : Ref sig .tc := ⟨.hbm, 157, rfl⟩
abbrev main_v125 : Ref sig .tc := ⟨.hbm, 158, rfl⟩
abbrev main_cst_26 : Ref sig .tc := ⟨.hbm, 159, rfl⟩
abbrev main_v126 : Ref sig .tc := ⟨.hbm, 160, rfl⟩
abbrev main_v127 : Ref sig .tc := ⟨.hbm, 161, rfl⟩
abbrev main_v128 : Ref sig .tc := ⟨.hbm, 162, rfl⟩
abbrev main_v129 : Ref sig .tc := ⟨.hbm, 163, rfl⟩
abbrev main_v130 : Ref sig .tc := ⟨.hbm, 164, rfl⟩
abbrev main_v131 : Ref sig .tc := ⟨.hbm, 165, rfl⟩
abbrev main_v132 : Ref sig .tc := ⟨.hbm, 166, rfl⟩
abbrev main_v133 : Ref sig .tc := ⟨.hbm, 167, rfl⟩
abbrev main_cst_27 : Ref sig .tc := ⟨.hbm, 168, rfl⟩
abbrev main_v134 : Ref sig .tc := ⟨.hbm, 169, rfl⟩
abbrev main_v135 : Ref sig .tc := ⟨.hbm, 170, rfl⟩
abbrev main_v136 : Ref sig .tc := ⟨.hbm, 171, rfl⟩
abbrev main_v137 : Ref sig .tc := ⟨.hbm, 172, rfl⟩
abbrev main_v138 : Ref sig .tc := ⟨.hbm, 173, rfl⟩
abbrev main_v139 : Ref sig .tc := ⟨.hbm, 174, rfl⟩
abbrev main_v140 : Ref sig .tc := ⟨.hbm, 175, rfl⟩
abbrev main_v141 : Ref sig .tc := ⟨.hbm, 176, rfl⟩
abbrev main_v142 : Ref sig .tc := ⟨.hbm, 177, rfl⟩
abbrev main_v143 : Ref sig .tc := ⟨.hbm, 178, rfl⟩
abbrev main_v144 : Ref sig .tc := ⟨.hbm, 179, rfl⟩
abbrev main_v145 : Ref sig .tc := ⟨.hbm, 180, rfl⟩
abbrev main_v146 : Ref sig .tc := ⟨.hbm, 181, rfl⟩

abbrev nD : Nat := 1
abbrev τ : Topo := Topo.v7x

variable {F : FTy → Type} [FloatOps F]
-- ==== GateUp.lean ====
abbrev S4096x1024 : Shape := ⟨2, ![4096, 1024]⟩
abbrev S2x4096x2816 : Shape := ⟨3, ![2, 4096, 2816]⟩
abbrev S4x1024x1408 : Shape := ⟨3, ![4, 1024, 1408]⟩
abbrev S2048x1024 : Shape := ⟨2, ![2048, 1024]⟩
abbrev S1x2048x1408 : Shape := ⟨3, ![1, 2048, 1408]⟩
abbrev S1x1024x1408 : Shape := ⟨3, ![1, 1024, 1408]⟩
abbrev S1024x1408 : Shape := ⟨2, ![1024, 1408]⟩
abbrev S2048x1408 : Shape := ⟨2, ![2048, 1408]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S2x4096x2816, .bf16⟩
  | .hbm, ⟨2, _⟩ => ⟨S4x1024x1408, .f32⟩
  | .local _ .vmem, ⟨0, _⟩ => ⟨S2048x1024, .bf16⟩
  | .local _ .vmem, ⟨1, _⟩ => ⟨S2048x1024, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S1x1024x1408, .f32⟩
  | .local _ .vmem, ⟨5, _⟩ => ⟨S1x1024x1408, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg1.toNat, v26.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== GateUpReferenceIdeal.lean ====
abbrev S4096x1024 : Shape := ⟨2, ![4096, 1024]⟩
abbrev S2x4096x2816 : Shape := ⟨3, ![2, 4096, 2816]⟩
abbrev S1x4096x2816 : Shape := ⟨3, ![1, 4096, 2816]⟩
abbrev S4096x2816 : Shape := ⟨2, ![4096, 2816]⟩
abbrev S4096x5632 : Shape := ⟨2, ![4096, 5632]⟩
abbrev S_ : Shape := ⟨0, ![]⟩
abbrev S1024x5632 : Shape := ⟨2, ![1024, 5632]⟩
abbrev S5632x1024 : Shape := ⟨2, ![5632, 1024]⟩
abbrev S1024x4x1408 : Shape := ⟨3, ![1024, 4, 1408]⟩
abbrev S4x1024x1408 : Shape := ⟨3, ![4, 1024, 1408]⟩

abbrev nBuf : Space → Nat
  | .hbm => 16
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S2x4096x2816, .bf16⟩
  | .hbm, ⟨2, _⟩ => ⟨S1x4096x2816, .bf16⟩
  | .hbm, ⟨3, _⟩ => ⟨S4096x2816, .bf16⟩
  | .hbm, ⟨4, _⟩ => ⟨S1x4096x2816, .bf16⟩
  | .hbm, ⟨5, _⟩ => ⟨S4096x2816, .bf16⟩
  | .hbm, ⟨6, _⟩ => ⟨S4096x5632, .bf16⟩
  | .hbm, ⟨7, _⟩ => ⟨S_, .f32⟩
  | .hbm, ⟨8, _⟩ => ⟨S1024x5632, .f32⟩
  | .hbm, ⟨9, _⟩ => ⟨S4096x1024, .f32⟩
  | .hbm, ⟨10, _⟩ => ⟨S4096x5632, .f32⟩
  | .hbm, ⟨11, _⟩ => ⟨S4096x5632, .f32⟩
  | .hbm, ⟨12, _⟩ => ⟨S5632x1024, .f32⟩
  | .hbm, ⟨13, _⟩ => ⟨S1024x5632, .f32⟩
  | .hbm, ⟨14, _⟩ => ⟨S1024x4x1408, .f32⟩
  | .hbm, ⟨15, _⟩ => ⟨S4x1024x1408, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩

abbrev nD : Nat := 1
abbrev τ : Topo := Topo.v7x

variable {F : FTy → Type} [FloatOps F]
-- ==== Down.lean ====
abbrev S4096x2816 : Shape := ⟨2, ![4096, 2816]⟩
abbrev S4096x1024 : Shape := ⟨2, ![4096, 1024]⟩
abbrev S2816x1024 : Shape := ⟨2, ![2816, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S2816x1024, .f32⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .f32⟩
  | .local _ .vmem, ⟨5, _⟩ => ⟨S1408x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== DownReferenceIdeal.lean ====
abbrev S4096x2816 : Shape := ⟨2, ![4096, 2816]⟩
abbrev S4096x1024 : Shape := ⟨2, ![4096, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 9
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S_, .f32⟩
  | .hbm, ⟨3, _⟩ => ⟨S2816x1024, .f32⟩
  | .hbm, ⟨4, _⟩ => ⟨S4096x2816, .f32⟩
  | .hbm, ⟨5, _⟩ => ⟨S4096x1024, .f32⟩
  | .hbm, ⟨6, _⟩ => ⟨S4096x1024, .f32⟩
  | .hbm, ⟨7, _⟩ => ⟨S1024x2816, .f32⟩
  | .hbm, ⟨8, _⟩ => ⟨S2816x1024, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Square.lean ====
abbrev S4096x1024 : Shape := ⟨2, ![4096, 1024]⟩
abbrev S1024x1024 : Shape := ⟨2, ![1024, 1024]⟩
abbrev S2048x1024 : Shape := ⟨2, ![2048, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]
-- ==== SquareReferenceIdeal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S1024x1024, .f32⟩
  | .hbm, ⟨8, _⟩ => ⟨S1024x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Merge.lean ====
abbrev S4096x1024 : Shape := ⟨2, ![4096, 1024]⟩
abbrev S8x4096x1024 : Shape := ⟨3, ![8, 4096, 1024]⟩
abbrev S1024x1024 : Shape := ⟨2, ![1024, 1024]⟩
abbrev S512x1024 : Shape := ⟨2, ![512, 1024]⟩
abbrev S1x512x1024 : Shape := ⟨3, ![1, 512, 1024]⟩

abbrev nBuf : Space → Nat
  | .hbm => 9
  | .vmem => 17
  | .smem => 0
  | _ => 0

abbrev bufTy : (tb : Table) → Fin (tcTables nBuf tb) → BufTy
  | .hbm, ⟨0, _⟩ => ⟨S4096x1024, .f32⟩
  | .hbm, ⟨1, _⟩ => ⟨S4096x1024, .bf16⟩
  | .hbm, ⟨2, _⟩ => ⟨S4096x1024, .bf16⟩
  | .hbm, ⟨3, _⟩ => ⟨S8x4096x1024, .f32⟩
  | .hbm, ⟨4, _⟩ => ⟨S1024x1024, .bf16⟩
  | .hbm, ⟨5, _⟩ => ⟨S1024x1024, .bf16⟩
  | .hbm, ⟨6, _⟩ => ⟨S1024x1024, .bf16⟩
  | .hbm, ⟨7, _⟩ => ⟨S4096x1024, .bf16⟩
  | .hbm, ⟨8, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S1x512x1024, .f32⟩
  | .local _ .vmem, ⟨7, _⟩ => ⟨S1x512x1024, .f32⟩
  | .local _ .vmem, ⟨8, _⟩ => ⟨S1x512x1024, .f32⟩
  | .local _ .vmem, ⟨9, _⟩ => ⟨S1x512x1024, .f32⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .f32⟩
  | .local _ .vmem, ⟨16, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c6_i32 : BitVec 32 := 6#32
  let c0_i32 : BitVec 32 := 0#32
  let c0_i32_0 : BitVec 32 := 0#32
  ![c6_i32.toNat, arg0.toNat, c0_i32.toNat]

def cc0_transform_4 (i : grid0.Coords) : Fin 3 → Nat :=
  let arg0 : BitVec 32 := BitVec.ofNat 32 (i 0).val
  let c7_i32 : BitVec 32 := 7#32
  let c0_i32 : BitVec 32 := 0#32
  let c0_i32_0 : BitVec 32 := 0#32
  ![c7_i32.toNat, arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== MergeReferenceIdeal.lean ====
abbrev S4096x1024 : Shape := ⟨2, ![4096, 1024]⟩
abbrev S8x4096x1024 : Shape := ⟨3, ![8, 4096, 1024]⟩
abbrev S1024x1024 : Shape := ⟨2, ![1024, 1024]⟩
abbrev S1x4096x1024 : Shape := ⟨3, ![1, 4096, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .bf16⟩
  | .hbm, ⟨2, _⟩ => ⟨S4096x1024, .bf16⟩
  | .hbm, ⟨3, _⟩ => ⟨S8x4096x1024, .f32⟩
  | .hbm, ⟨4, _⟩ => ⟨S1024x1024, .bf16⟩
  | .hbm, ⟨5, _⟩ => ⟨S1024x1024, .bf16⟩
  | .hbm, ⟨6, _⟩ => ⟨S1024x1024, .bf16⟩
  | .hbm, ⟨7, _⟩ => ⟨S4096x1024, .f32⟩
  | .hbm, ⟨8, _⟩ => ⟨S1024x1024, .f32⟩
  | .hbm, ⟨9, _⟩ => ⟨S4096x1024, .f32⟩
  | .hbm, ⟨10, _⟩ => ⟨S4096x1024, .f32⟩
  | .hbm, ⟨11, _⟩ => ⟨S1024x1024, .f32⟩
  | .hbm, ⟨12, _⟩ => ⟨S4096x1024, .f32⟩
  | .hbm, ⟨13, _⟩ => ⟨S1x4096x1024, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S_, .f32⟩
  | .hbm, ⟨18, _⟩ => ⟨S4096x1024, .f32⟩
  | .hbm, ⟨19, _⟩ => ⟨S4096x1024, .f32⟩
  | .hbm, ⟨20, _⟩ => ⟨S_, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S1x4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S4096x1024, .f32⟩
  | .hbm, ⟨30, _⟩ => ⟨S4096x1024, .f32⟩
  | .hbm, ⟨31, _⟩ => ⟨S_, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S4096x1024, .bf16⟩
  | .hbm, ⟨37, _⟩ => ⟨S1024x1024, .f32⟩
  | .hbm, ⟨38, _⟩ => ⟨S4096x1024, .f32⟩
  | .hbm, ⟨39, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_v10 : Ref sig .tc := ⟨.hbm, 18, rfl⟩
abbrev main_v11 : Ref sig .tc := ⟨.hbm, 19, rfl⟩
abbrev main_cst_0 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_1 : Ref sig .tc := ⟨.hbm, 28, rfl⟩
abbrev main_v19 : Ref sig .tc := ⟨.hbm, 29, rfl⟩
abbrev main_v20 : Ref sig .tc := ⟨.hbm, 30, rfl⟩
abbrev main_cst_2 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩

abbrev nD : Nat := 1
abbrev τ : Topo := Topo.v7x

variable {F : FTy → Type} [FloatOps F]
-- ==== Gating.lean ====
abbrev S8x4096x1024 : Shape := ⟨3, ![8, 4096, 1024]⟩
abbrev S1x1024 : Shape := ⟨2, ![1, 1024]⟩
abbrev S1x8x128x128 : Shape := ⟨4, ![1, 8, 128, 128]⟩
abbrev S1x8x128 : Shape := ⟨3, ![1, 8, 128]⟩
abbrev S_ : Shape := ⟨0, ![]⟩
abbrev S128x128 : Shape := ⟨2, ![128, 128]⟩
abbrev S8x128x128 : Shape := ⟨3, ![8, 128, 128]⟩
abbrev S8x128 : Shape := ⟨2, ![8, 128]⟩
abbrev S128x8 : Shape := ⟨2, ![128, 8]⟩
abbrev S4096x1024 : Shape := ⟨2, ![4096, 1024]⟩
abbrev S1x512x1024 : Shape := ⟨3, ![1, 512, 1024]⟩
abbrev S512x1024 : Shape := ⟨2, ![512, 1024]⟩
abbrev S512 : Shape := ⟨1, ![512]⟩
abbrev S512x1 : Shape := ⟨2, ![512, 1]⟩
abbrev S1x128x128 : Shape := ⟨3, ![1, 128, 128]⟩
abbrev S512x128 : Shape := ⟨2, ![512, 128]⟩
abbrev S128x512 : Shape := ⟨2, ![128, 512]⟩
abbrev S128x1 : Shape := ⟨2, ![128, 1]⟩

abbrev nBuf : Space → Nat
  | .hbm => 26
  | .vmem => 11
  | .smem => 0
  | _ => 0

abbrev bufTy : (tb : Table) → Fin (tcTables nBuf tb) → BufTy
  | .hbm, ⟨0, _⟩ => ⟨S8x4096x1024, .f32⟩
  | .hbm, ⟨1, _⟩ => ⟨S1x1024, .f32⟩
  | .hbm, ⟨2, _⟩ => ⟨S1x1024, .f32⟩
  | .hbm, ⟨3, _⟩ => ⟨S1x8x128x128, .f32⟩
  | .hbm, ⟨4, _⟩ => ⟨S1x8x128, .f32⟩
  | .hbm, ⟨5, _⟩ => ⟨S_, .i1⟩
  | .hbm, ⟨6, _⟩ => ⟨S128x128, .i1⟩
  | .hbm, ⟨7, _⟩ => ⟨S128x128, .i32⟩
  | .hbm, ⟨8, _⟩ => ⟨S_, .i32⟩
  | .hbm, ⟨9, _⟩ => ⟨S128x128, .i32⟩
  | .hbm, ⟨10, _⟩ => ⟨S128x128, .i32⟩
  | .hbm, ⟨11, _⟩ => ⟨S128x128, .i32⟩
  | .hbm, ⟨12, _⟩ => ⟨S128x128, .i1⟩
  | .hbm, ⟨13, _⟩ => ⟨S_, .i1⟩
  | .hbm, ⟨14, _⟩ => ⟨S128x128, .i1⟩
  | .hbm, ⟨15, _⟩ => ⟨S128x128, .i1⟩
  | .hbm, ⟨16, _⟩ => ⟨S8x128x128, .f32⟩
  | .hbm, ⟨17, _⟩ => ⟨S_, .f32⟩
  | .hbm, ⟨18, _⟩ => ⟨S_, .f32⟩
  | .hbm, ⟨19, _⟩ => ⟨S8x128x128, .i1⟩
  | .hbm, ⟨20, _⟩ => ⟨S8x128x128, .f32⟩
  | .hbm, ⟨21, _⟩ => ⟨S8x128x128, .f32⟩
  | .hbm, ⟨22, _⟩ => ⟨S8x128x128, .bf16⟩
  | .hbm, ⟨23, _⟩ => ⟨S8x128, .f32⟩
  | .hbm, ⟨24, _⟩ => ⟨S128x8, .f32⟩
  | .hbm, ⟨25, _⟩ => ⟨S4096x1024, .bf16⟩
  | .local _ .vmem, ⟨0, _⟩ => ⟨S1x512x1024, .f32⟩
  | .local _ .vmem, ⟨1, _⟩ => ⟨S1x512x1024, .f32⟩
  | .local _ .vmem, ⟨2, _⟩ => ⟨S1x512x1024, .f32⟩
  | .local _ .vmem, ⟨3, _⟩ => ⟨S1x512x1024, .f32⟩
  | .local _ .vmem, ⟨4, _⟩ => ⟨S1x1024, .f32⟩
  | .local _ .vmem, ⟨5, _⟩ => ⟨S1x1024, .f32⟩
  | .local _ .vmem, ⟨6, _⟩ => ⟨S8x128x128, .bf16⟩
  | .local _ .vmem, ⟨7, _⟩ => ⟨S128x8, .f32⟩
  | .local _ .vmem, ⟨8, _⟩ => ⟨S512x1024, .bf16⟩
  | .local _ .vmem, ⟨9, _⟩ => ⟨S512x1024, .bf16⟩
  | .local _ .vmem, ⟨10, _⟩ => ⟨S512x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_call0_v0 : Ref sig .tc := ⟨.hbm, 7, rfl⟩
abbrev main_call0_c : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_c_0 : Ref sig .tc := ⟨.hbm, 13, rfl⟩
abbrev main_call0_v5 : Ref sig .tc := ⟨.hbm, 14, rfl⟩
abbrev main_v1 : Ref sig .tc := ⟨.hbm, 15, rfl⟩
abbrev main_v2 : Ref sig .tc := ⟨.hbm, 16, rfl⟩
abbrev main_cst : Ref sig .tc := ⟨.hbm, 17, rfl⟩
abbrev main_call1_v0 : Ref sig .tc := ⟨.hbm, 18, rfl⟩
abbrev main_call1_v1 : Ref sig .tc := ⟨.hbm, 19, rfl⟩
abbrev main_call1_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== GatingReferenceIdeal.lean ====
abbrev S8x4096x1024 : Shape := ⟨3, ![8, 4096, 1024]⟩
abbrev S1x1024 : Shape := ⟨2, ![1, 1024]⟩
abbrev S1x8x128x128 : Shape := ⟨4, ![1, 8, 128, 128]⟩
abbrev S1x8x128 : Shape := ⟨3, ![1, 8, 128]⟩
abbrev S1x4096x1024 : Shape := ⟨3, ![1, 4096, 1024]⟩
abbrev S4096x1024 : Shape := ⟨2, ![4096, 1024]⟩
abbrev S_ : Shape := ⟨0, ![]⟩
abbrev S4096 : Shape := ⟨1, ![4096]⟩
abbrev S4096x1 : Shape := ⟨2, ![4096, 1]⟩
abbrev S1024 : Shape := ⟨1, ![1024]⟩
abbrev S32x128x8x128 : Shape := ⟨4, ![32, 128, 8, 128]⟩
abbrev S128x128 : Shape := ⟨2, ![128, 128]⟩
abbrev S8x128x128 : Shape := ⟨3, ![8, 128, 128]⟩
abbrev S8x32x128x128 : Shape := ⟨4, ![8, 32, 128, 128]⟩
abbrev S8x128 : Shape := ⟨2, ![8, 128]⟩
abbrev S128x8 : Shape := ⟨2, ![128, 8]⟩
abbrev S128x8x1 : Shape := ⟨3, ![128, 8, 1]⟩
abbrev S1x128x8x1 : Shape := ⟨4, ![1, 128, 8, 1]⟩

abbrev nBuf : Space → Nat
  | .hbm => 102
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1x1024, .f32⟩
  | .hbm, ⟨2, _⟩ => ⟨S1x1024, .f32⟩
  | .hbm, ⟨3, _⟩ => ⟨S1x8x128x128, .f32⟩
  | .hbm, ⟨4, _⟩ => ⟨S1x8x128, .f32⟩
  | .hbm, ⟨5, _⟩ => ⟨S1x4096x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S_, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S_, .f32⟩
  | .hbm, ⟨18, _⟩ => ⟨S4096x1024, .f32⟩
  | .hbm, ⟨19, _⟩ => ⟨S4096x1024, .f32⟩
  | .hbm, ⟨20, _⟩ => ⟨S_, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S1x4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S_, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S_, .f32⟩
  | .hbm, ⟨37, _⟩ => ⟨S4096x1024, .f32⟩
  | .hbm, ⟨38, _⟩ => ⟨S4096x1024, .f32⟩
  | .hbm, ⟨39, _⟩ => ⟨S_, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S_, .f32⟩
  | .hbm, ⟨44, _⟩ => ⟨S4096, .f32⟩
  | .hbm, ⟨45, _⟩ => ⟨S4096x1, .f32⟩
  | .hbm, ⟨46, _⟩ => ⟨S_, .f32⟩
  | .hbm, ⟨47, _⟩ => ⟨S4096x1, .f32⟩
  | .hbm, ⟨48, _⟩ => ⟨S4096x1, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S_, .f32⟩
  | .hbm, ⟨53, _⟩ => ⟨S4096, .f32⟩
  | .hbm, ⟨54, _⟩ => ⟨S4096x1, .f32⟩
  | .hbm, ⟨55, _⟩ => ⟨S_, .f32⟩
  | .hbm, ⟨56, _⟩ => ⟨S4096x1, .f32⟩
  | .hbm, ⟨57, _⟩ => ⟨S4096x1, .f32⟩
  | .hbm, ⟨58, _⟩ => ⟨S4096x1024, .f32⟩
  | .hbm, ⟨59, _⟩ => ⟨S4096x1024, .f32⟩
  | .hbm, ⟨60, _⟩ => ⟨S_, .f32⟩
  | .hbm, ⟨61, _⟩ => ⟨S4096x1, .f32⟩
  | .hbm, ⟨62, _⟩ => ⟨S4096x1, .f32⟩
  | .hbm, ⟨63, _⟩ => ⟨S4096x1, .f32⟩
  | .hbm, ⟨64, _⟩ => ⟨S4096x1024, .f32⟩
  | .hbm, ⟨65, _⟩ => ⟨S4096x1024, .f32⟩
  | .hbm, ⟨66, _⟩ => ⟨S1024, .f32⟩
  | .hbm, ⟨67, _⟩ => ⟨S1x1024, .f32⟩
  | .hbm, ⟨68, _⟩ => ⟨S4096x1024, .f32⟩
  | .hbm, ⟨69, _⟩ => ⟨S4096x1024, .f32⟩
  | .hbm, ⟨70, _⟩ => ⟨S1024, .f32⟩
  | .hbm, ⟨71, _⟩ => ⟨S1x1024, .f32⟩
  | .hbm, ⟨72, _⟩ => ⟨S4096x1024, .f32⟩
  | .hbm, ⟨73, _⟩ => ⟨S4096x1024, .f32⟩
  | .hbm, ⟨74, _⟩ => ⟨S32x128x8x128, .f32⟩
  | .hbm, ⟨75, _⟩ => ⟨S_, .i1⟩
  | .hbm, ⟨76, _⟩ => ⟨S128x128, .i1⟩
  | .hbm, ⟨77, _⟩ => ⟨S128x128, .i32⟩
  | .hbm, ⟨78, _⟩ => ⟨S_, .i32⟩
  | .hbm, ⟨79, _⟩ => ⟨S128x128, .i32⟩
  | .hbm, ⟨80, _⟩ => ⟨S128x128, .i32⟩
  | .hbm, ⟨81, _⟩ => ⟨S128x128, .i32⟩
  | .hbm, ⟨82, _⟩ => ⟨S128x128, .i1⟩
  | .hbm, ⟨83, _⟩ => ⟨S_, .i1⟩
  | .hbm, ⟨84, _⟩ => ⟨S128x128, .i1⟩
  | .hbm, ⟨85, _⟩ => ⟨S128x128, .i1⟩
  | .hbm, ⟨86, _⟩ => ⟨S8x128x128, .f32⟩
  | .hbm, ⟨87, _⟩ => ⟨S_, .f32⟩
  | .hbm, ⟨88, _⟩ => ⟨S8x128x128, .i1⟩
  | .hbm, ⟨89, _⟩ => ⟨S8x128x128, .f32⟩
  | .hbm, ⟨90, _⟩ => ⟨S8x128x128, .f32⟩
  | .hbm, ⟨91, _⟩ => ⟨S8x32x128x128, .f32⟩
  | .hbm, ⟨92, _⟩ => ⟨S32x128x8x128, .f32⟩
  | .hbm, ⟨93, _⟩ => ⟨S8x128, .f32⟩
  | .hbm, ⟨94, _⟩ => ⟨S128x8, .f32⟩
  | .hbm, ⟨95, _⟩ => ⟨S128x8x1, .f32⟩
  | .hbm, ⟨96, _⟩ => ⟨S1x128x8x1, .f32⟩
  | .hbm, ⟨97, _⟩ => ⟨S32x128x8x128, .f32⟩
  | .hbm, ⟨98, _⟩ => ⟨S32x128x8x128, .f32⟩
  | .hbm, ⟨99, _⟩ => ⟨S4096x1024, .f32⟩
  | .hbm, ⟨100, _⟩ => ⟨S4096x1024, .f32⟩
  | .hbm, ⟨101, _⟩ => ⟨S4096x1024, .bf16⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_cst_6 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_7 : Ref sig .tc := ⟨.hbm, 43, rfl⟩
abbrev main_v30 : Ref sig .tc := ⟨.hbm, 44, rfl⟩
abbrev main_v31 : Ref sig .tc := ⟨.hbm, 45, rfl⟩
abbrev main_cst_8 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_9 : Ref sig .tc := ⟨.hbm, 52, rfl⟩
abbrev main_v37 : Ref sig .tc := ⟨.hbm, 53, rfl⟩
abbrev main_v38 : Ref sig .tc := ⟨.hbm, 54, rfl⟩
abbrev main_cst_10 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_11 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_c : Ref sig .tc := ⟨.hbm, 75, rfl⟩
abbrev main_v57 : Ref sig .tc := ⟨.hbm, 76, rfl⟩
abbrev main_call0_v0 : Ref sig .tc := ⟨.hbm, 77, rfl⟩
abbrev main_call0_c : Ref sig .tc := ⟨.hbm, 78, rfl⟩
abbrev main_call0_v1 : Ref sig .tc := ⟨.hbm, 79, rfl⟩
abbrev main_call0_v2 : Ref sig .tc := ⟨.hbm, 80, rfl⟩
abbrev main_call0_v3 : Ref sig .tc := ⟨.hbm, 81, rfl⟩
abbrev main_call0_v4 : Ref sig .tc := ⟨.hbm, 82, rfl⟩
abbrev main_call0_c_0 : Ref sig .tc := ⟨.hbm, 83, rfl⟩
abbrev main_call0_v5 : Ref sig .tc := ⟨.hbm, 84, rfl⟩
abbrev main_v58 : Ref sig .tc := ⟨.hbm, 85, rfl⟩
abbrev main_v59 : Ref sig .tc := ⟨.hbm, 86, rfl⟩
abbrev main_cst_12 : Ref sig .tc := ⟨.hbm, 87, rfl⟩
abbrev main_call1_v0 : Ref sig .tc := ⟨.hbm, 88, rfl⟩
abbrev main_call1_v1 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩

abbrev nD : Nat := 1
abbrev τ : Topo := Topo.v7x

variable {F : FTy → Type} [FloatOps F]
-- ==== AdamIn.lean ====
abbrev S2 : Shape := ⟨1, ![2]⟩
abbrev S1024x2048 : Shape := ⟨2, ![1024, 2048]⟩
abbrev S1024x1024 : Shape := ⟨2, ![1024, 1024]⟩
abbrev S512x1024 : Shape := ⟨2, ![512, 1024]⟩
abbrev S1 : Shape := ⟨1, ![1]⟩

abbrev nBuf : Space → Nat
  | .hbm => 9
  | .vmem => 18
  | .smem => 1
  | _ => 0

abbrev bufTy : (tb : Table) → Fin (tcTables nBuf tb) → BufTy
  | .hbm, ⟨0, _⟩ => ⟨S1024x2048, .f32⟩
  | .hbm, ⟨1, _⟩ => ⟨S1024x1024, .f32⟩
  | .hbm, ⟨2, _⟩ => ⟨S1024x1024, .f32⟩
  | .hbm, ⟨3, _⟩ => ⟨S1024x2048, .f32⟩
  | .hbm, ⟨4, _⟩ => ⟨S1024x2048, .f32⟩
  | .hbm, ⟨5, _⟩ => ⟨S1024x2048, .f32⟩
  | .hbm, ⟨6, _⟩ => ⟨S1024x2048, .f32⟩
  | .hbm, ⟨7, _⟩ => ⟨S1024x2048, .f32⟩
  | .hbm, ⟨8, _⟩ => ⟨S1024x2048, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .f32⟩
  | .local _ .vmem, ⟨17, _⟩ => ⟨S512x1024, .f32⟩
  | .local _ .smem, ⟨0, _⟩ => ⟨S2, .i32⟩
  | _, _ => ⟨S1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 2], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamInReferenceIdeal.lean ====
abbrev S2 : Shape := ⟨1, ![2]⟩
abbrev S1024x2048 : Shape := ⟨2, ![1024, 2048]⟩
abbrev S1024x1024 : Shape := ⟨2, ![1024, 1024]⟩
abbrev S1 : Shape := ⟨1, ![1]⟩
abbrev S_ : Shape := ⟨0, ![]⟩

abbrev nBuf : Space → Nat
  | .hbm => 48
  | .vmem => 0
  | .smem => 0
  | _ => 0

abbrev bufTy : (tb : Table) → Fin (tcTables nBuf tb) → BufTy
  | .hbm, ⟨0, _⟩ => ⟨S2, .i32⟩
  | .hbm, ⟨1, _⟩ => ⟨S1024x2048, .f32⟩
  | .hbm, ⟨2, _⟩ => ⟨S1024x1024, .f32⟩
  | .hbm, ⟨3, _⟩ => ⟨S1024x1024, .f32⟩
  | .hbm, ⟨4, _⟩ => ⟨S1024x2048, .f32⟩
  | .hbm, ⟨5, _⟩ => ⟨S1024x2048, .f32⟩
  | .hbm, ⟨6, _⟩ => ⟨S1, .i32⟩
  | .hbm, ⟨7, _⟩ => ⟨S_, .i32⟩
  | .hbm, ⟨8, _⟩ => ⟨S_, .i32⟩
  | .hbm, ⟨9, _⟩ => ⟨S_, .i1⟩
  | .hbm, ⟨10, _⟩ => ⟨S1024x1024, .f32⟩
  | .hbm, ⟨11, _⟩ => ⟨S_, .i32⟩
  | .hbm, ⟨12, _⟩ => ⟨S_, .i1⟩
  | .hbm, ⟨13, _⟩ => ⟨S1024x1024, .f32⟩
  | .hbm, ⟨14, _⟩ => ⟨S1024x2048, .f32⟩
  | .hbm, ⟨15, _⟩ => ⟨S_, .f32⟩
  | .hbm, ⟨16, _⟩ => ⟨S1024x2048, .f32⟩
  | .hbm, ⟨17, _⟩ => ⟨S1024x2048, .f32⟩
  | .hbm, ⟨18, _⟩ => ⟨S_, .f32⟩
  | .hbm, ⟨19, _⟩ => ⟨S1024x2048, .f32⟩
  | .hbm, ⟨20, _⟩ => ⟨S1024x2048, .f32⟩
  | .hbm, ⟨21, _⟩ => ⟨S1024x2048, .f32⟩
  | .hbm, ⟨22, _⟩ => ⟨S_, .f32⟩
  | .hbm, ⟨23, _⟩ => ⟨S1024x2048, .f32⟩
  | .hbm, ⟨24, _⟩ => ⟨S1024x2048, .f32⟩
  | .hbm, ⟨25, _⟩ => ⟨S1024x2048, .f32⟩
  | .hbm, ⟨26, _⟩ => ⟨S_, .f32⟩
  | .hbm, ⟨27, _⟩ => ⟨S1024x2048, .f32⟩
  | .hbm, ⟨28, _⟩ => ⟨S1024x2048, .f32⟩
  | .hbm, ⟨29, _⟩ => ⟨S1024x2048, .f32⟩
  | .hbm, ⟨30, _⟩ => ⟨S_, .f32⟩
  | .hbm, ⟨31, _⟩ => ⟨S1024x2048, .f32⟩
  | .hbm, ⟨32, _⟩ => ⟨S1024x2048, .f32⟩
  | .hbm, ⟨33, _⟩ => ⟨S_, .f32⟩
  | .hbm, ⟨34, _⟩ => ⟨S1024x2048, .f32⟩
  | .hbm, ⟨35, _⟩ => ⟨S1024x2048, .f32⟩
  | .hbm, ⟨36, _⟩ => ⟨S1024x2048, .f32⟩
  | .hbm, ⟨37, _⟩ => ⟨S_, .f32⟩
  | .hbm, ⟨38, _⟩ => ⟨S1024x2048, .f32⟩
  | .hbm, ⟨39, _⟩ => ⟨S1024x2048, .f32⟩
  | .hbm, ⟨40, _⟩ => ⟨S1024x2048, .f32⟩
  | .hbm, ⟨41, _⟩ => ⟨S_, .f32⟩
  | .hbm, ⟨42, _⟩ => ⟨S1024x2048, .f32⟩
  | .hbm, ⟨43, _⟩ => ⟨S1024x2048, .f32⟩
  | .hbm, ⟨44, _⟩ => ⟨S1024x2048, .f32⟩
  | .hbm, ⟨45, _⟩ => ⟨S_, .f32⟩
  | .hbm, ⟨46, _⟩ => ⟨S1024x2048, .f32⟩
  | .hbm, ⟨47, _⟩ => ⟨S1024x2048, .f32⟩
  | _, _ => ⟨S2, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_3 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_cst_5 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_6 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_7 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_8 : Ref sig .tc := ⟨.hbm, 45, rfl⟩
abbrev main_v29 : Ref sig .tc := ⟨.hbm, 46, rfl⟩
abbrev main_v30 : Ref sig .tc := ⟨.hbm, 47, rfl⟩

abbrev nD : Nat := 1
abbrev τ : Topo := Topo.v7x

variable {F : FTy → Type} [FloatOps F]
-- ==== ChipGateUp.lean ====
abbrev S512x1408 : Shape := ⟨2, ![512, 1408]⟩
abbrev S3x512x1408 : Shape := ⟨3, ![3, 512, 1408]⟩
abbrev S256x1408 : Shape := ⟨2, ![256, 1408]⟩
abbrev S3x256x1408 : Shape := ⟨3, ![3, 256, 1408]⟩
abbrev S1x256x1408 : Shape := ⟨3, ![1, 256, 1408]⟩

abbrev nBuf : Space → Nat
  | .hbm => 3
  | .vmem => 6
  | .smem => 0
  | _ => 0

abbrev bufTy : (tb : Table) → Fin (tcTables nBuf tb) → BufTy
  | .hbm, ⟨0, _⟩ => ⟨S512x1408, .f32⟩
  | .hbm, ⟨1, _⟩ => ⟨S3x512x1408, .bf16⟩
  | .hbm, ⟨2, _⟩ => ⟨S512x1408, .f32⟩
  | .local _ .vmem, ⟨0, _⟩ => ⟨S256x1408, .f32⟩
  | .local _ .vmem, ⟨1, _⟩ => ⟨S256x1408, .f32⟩
  | .local _ .vmem, ⟨2, _⟩ => ⟨S3x256x1408, .bf16⟩
  | .local _ .vmem, ⟨3, _⟩ => ⟨S3x256x1408, .bf16⟩
  | .local _ .vmem, ⟨4, _⟩ => ⟨S256x1408, .f32⟩
  | .local _ .vmem, ⟨5, _⟩ => ⟨S256x1408, .f32⟩
  | _, _ => ⟨S512x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x256x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ChipGateUpReferenceIdeal.lean ====
abbrev S512x1408 : Shape := ⟨2, ![512, 1408]⟩
abbrev S3x512x1408 : Shape := ⟨3, ![3, 512, 1408]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S512x1408, .f32⟩
  | .hbm, ⟨1, _⟩ => ⟨S3x512x1408, .bf16⟩
  | .hbm, ⟨2, _⟩ => ⟨S3x512x1408, .f32⟩
  | .hbm, ⟨3, _⟩ => ⟨S_, .f32⟩
  | .hbm, ⟨4, _⟩ => ⟨S512x1408, .f32⟩
  | .hbm, ⟨5, _⟩ => ⟨S512x1408, .f32⟩
  | _, _ => ⟨S512x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== ChipDown.lean ====
abbrev S352x1024 : Shape := ⟨2, ![352, 1024]⟩
abbrev S3x352x1024 : Shape := ⟨3, ![3, 352, 1024]⟩
abbrev S1x352x1024 : Shape := ⟨3, ![1, 352, 1024]⟩

abbrev nBuf : Space → Nat
  | .hbm => 3
  | .vmem => 3
  | .smem => 0
  | _ => 0

abbrev bufTy : (tb : Table) → Fin (tcTables nBuf tb) → BufTy
  | .hbm, ⟨0, _⟩ => ⟨S352x1024, .f32⟩
  | .hbm, ⟨1, _⟩ => ⟨S3x352x1024, .bf16⟩
  | .hbm, ⟨2, _⟩ => ⟨S352x1024, .f32⟩
  | .local _ .vmem, ⟨0, _⟩ => ⟨S352x1024, .f32⟩
  | .local _ .vmem, ⟨1, _⟩ => ⟨S3x352x1024, .bf16⟩
  | .local _ .vmem, ⟨2, _⟩ => ⟨S352x1024, .f32⟩
  | _, _ => ⟨S352x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S352x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S3x352x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S352x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== ChipDownReferenceIdeal.lean ====
abbrev S352x1024 : Shape := ⟨2, ![352, 1024]⟩
abbrev S3x352x1024 : Shape := ⟨3, ![3, 352, 1024]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S352x1024, .f32⟩
  | .hbm, ⟨1, _⟩ => ⟨S3x352x1024, .bf16⟩
  | .hbm, ⟨2, _⟩ => ⟨S3x352x1024, .f32⟩
  | .hbm, ⟨3, _⟩ => ⟨S_, .f32⟩
  | .hbm, ⟨4, _⟩ => ⟨S352x1024, .f32⟩
  | .hbm, ⟨5, _⟩ => ⟨S352x1024, .f32⟩
  | _, _ => ⟨S352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== ChipSquares.lean ====
abbrev S128x1024 : Shape := ⟨2, ![128, 1024]⟩
abbrev S3x128x1024 : Shape := ⟨3, ![3, 128, 1024]⟩
abbrev S1x128x1024 : Shape := ⟨3, ![1, 128, 1024]⟩

abbrev nBuf : Space → Nat
  | .hbm => 9
  | .vmem => 9
  | .smem => 0
  | _ => 0

abbrev bufTy : (tb : Table) → Fin (tcTables nBuf tb) → BufTy
  | .hbm, ⟨0, _⟩ => ⟨S128x1024, .f32⟩
  | .hbm, ⟨1, _⟩ => ⟨S128x1024, .f32⟩
  | .hbm, ⟨2, _⟩ => ⟨S128x1024, .f32⟩
  | .hbm, ⟨3, _⟩ => ⟨S3x128x1024, .bf16⟩
  | .hbm, ⟨4, _⟩ => ⟨S3x128x1024, .bf16⟩
  | .hbm, ⟨5, _⟩ => ⟨S3x128x1024, .bf16⟩
  | .hbm, ⟨6, _⟩ => ⟨S128x1024, .f32⟩
  | .hbm, ⟨7, _⟩ => ⟨S128x1024, .f32⟩
  | .hbm, ⟨8, _⟩ => ⟨S128x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S3x128x1024, .bf16⟩
  | .local _ .vmem, ⟨4, _⟩ => ⟨S3x128x1024, .bf16⟩
  | .local _ .vmem, ⟨5, _⟩ => ⟨S3x128x1024, .bf16⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S3x128x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S3x128x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S3x128x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S128x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== ChipSquaresReferenceIdeal.lean ====
abbrev S128x1024 : Shape := ⟨2, ![128, 1024]⟩
abbrev S3x128x1024 : Shape := ⟨3, ![3, 128, 1024]⟩
abbrev S_ : Shape := ⟨0, ![]⟩

abbrev nBuf : Space → Nat
  | .hbm => 18
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S128x1024, .f32⟩
  | .hbm, ⟨2, _⟩ => ⟨S128x1024, .f32⟩
  | .hbm, ⟨3, _⟩ => ⟨S3x128x1024, .bf16⟩
  | .hbm, ⟨4, _⟩ => ⟨S3x128x1024, .bf16⟩
  | .hbm, ⟨5, _⟩ => ⟨S3x128x1024, .bf16⟩
  | .hbm, ⟨6, _⟩ => ⟨S3x128x1024, .f32⟩
  | .hbm, ⟨7, _⟩ => ⟨S_, .f32⟩
  | .hbm, ⟨8, _⟩ => ⟨S128x1024, .f32⟩
  | .hbm, ⟨9, _⟩ => ⟨S128x1024, .f32⟩
  | .hbm, ⟨10, _⟩ => ⟨S3x128x1024, .f32⟩
  | .hbm, ⟨11, _⟩ => ⟨S_, .f32⟩
  | .hbm, ⟨12, _⟩ => ⟨S128x1024, .f32⟩
  | .hbm, ⟨13, _⟩ => ⟨S128x1024, .f32⟩
  | .hbm, ⟨14, _⟩ => ⟨S3x128x1024, .f32⟩
  | .hbm, ⟨15, _⟩ => ⟨S_, .f32⟩
  | .hbm, ⟨16, _⟩ => ⟨S128x1024, .f32⟩
  | .hbm, ⟨17, _⟩ => ⟨S128x1024, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩

abbrev nD : Nat := 1
abbrev τ : Topo := Topo.v7x

variable {F : FTy → Type} [FloatOps F]
-- ==== ChipIn.lean ====
abbrev S1024x1024 : Shape := ⟨2, ![1024, 1024]⟩
abbrev S3x1024x1024 : Shape := ⟨3, ![3, 1024, 1024]⟩
abbrev S512x1024 : Shape := ⟨2, ![512, 1024]⟩
abbrev S3x512x1024 : Shape := ⟨3, ![3, 512, 1024]⟩
abbrev S1x512x1024 : Shape := ⟨3, ![1, 512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S1024x1024, .f32⟩
  | .hbm, ⟨1, _⟩ => ⟨S3x1024x1024, .bf16⟩
  | .hbm, ⟨2, _⟩ => ⟨S1024x1024, .f32⟩
  | .local _ .vmem, ⟨0, _⟩ => ⟨S512x1024, .f32⟩
  | .local _ .vmem, ⟨1, _⟩ => ⟨S512x1024, .f32⟩
  | .local _ .vmem, ⟨2, _⟩ => ⟨S3x512x1024, .bf16⟩
  | .local _ .vmem, ⟨3, _⟩ => ⟨S3x512x1024, .bf16⟩
  | .local _ .vmem, ⟨4, _⟩ => ⟨S512x1024, .f32⟩
  | .local _ .vmem, ⟨5, _⟩ => ⟨S512x1024, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ChipInReferenceIdeal.lean ====
abbrev S1024x1024 : Shape := ⟨2, ![1024, 1024]⟩
abbrev S3x1024x1024 : Shape := ⟨3, ![3, 1024, 1024]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S3x1024x1024, .bf16⟩
  | .hbm, ⟨2, _⟩ => ⟨S3x1024x1024, .f32⟩
  | .hbm, ⟨3, _⟩ => ⟨S_, .f32⟩
  | .hbm, ⟨4, _⟩ => ⟨S1024x1024, .f32⟩
  | .hbm, ⟨5, _⟩ => ⟨S1024x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== AdamSquares.lean ====
abbrev S2 : Shape := ⟨1, ![2]⟩
abbrev S256x1024 : Shape := ⟨2, ![256, 1024]⟩
abbrev S128x1024 : Shape := ⟨2, ![128, 1024]⟩
abbrev S1 : Shape := ⟨1, ![1]⟩

abbrev nBuf : Space → Nat
  | .hbm => 27
  | .vmem => 48
  | .smem => 1
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S128x1024, .f32⟩
  | .hbm, ⟨4, _⟩ => ⟨S128x1024, .f32⟩
  | .hbm, ⟨5, _⟩ => ⟨S128x1024, .f32⟩
  | .hbm, ⟨6, _⟩ => ⟨S128x1024, .f32⟩
  | .hbm, ⟨7, _⟩ => ⟨S128x1024, .f32⟩
  | .hbm, ⟨8, _⟩ => ⟨S128x1024, .f32⟩
  | .hbm, ⟨9, _⟩ => ⟨S256x1024, .f32⟩
  | .hbm, ⟨10, _⟩ => ⟨S256x1024, .f32⟩
  | .hbm, ⟨11, _⟩ => ⟨S256x1024, .f32⟩
  | .hbm, ⟨12, _⟩ => ⟨S256x1024, .f32⟩
  | .hbm, ⟨13, _⟩ => ⟨S256x1024, .f32⟩
  | .hbm, ⟨14, _⟩ => ⟨S256x1024, .f32⟩
  | .hbm, ⟨15, _⟩ => ⟨S256x1024, .f32⟩
  | .hbm, ⟨16, _⟩ => ⟨S256x1024, .f32⟩
  | .hbm, ⟨17, _⟩ => ⟨S256x1024, .f32⟩
  | .hbm, ⟨18, _⟩ => ⟨S256x1024, .f32⟩
  | .hbm, ⟨19, _⟩ => ⟨S256x1024, .f32⟩
  | .hbm, ⟨20, _⟩ => ⟨S256x1024, .f32⟩
  | .hbm, ⟨21, _⟩ => ⟨S256x1024, .f32⟩
  | .hbm, ⟨22, _⟩ => ⟨S256x1024, .f32⟩
  | .hbm, ⟨23, _⟩ => ⟨S256x1024, .f32⟩
  | .hbm, ⟨24, _⟩ => ⟨S256x1024, .f32⟩
  | .hbm, ⟨25, _⟩ => ⟨S256x1024, .f32⟩
  | .hbm, ⟨26, _⟩ => ⟨S256x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | .local _ .vmem, ⟨14, _⟩ => ⟨S128x1024, .f32⟩
  | .local _ .vmem, ⟨15, _⟩ => ⟨S128x1024, .f32⟩
  | .local _ .vmem, ⟨16, _⟩ => ⟨S128x1024, .f32⟩
  | .local _ .vmem, ⟨17, _⟩ => ⟨S128x1024, .f32⟩
  | .local _ .vmem, ⟨18, _⟩ => ⟨S128x1024, .f32⟩
  | .local _ .vmem, ⟨19, _⟩ => ⟨S128x1024, .f32⟩
  | .local _ .vmem, ⟨20, _⟩ => ⟨S128x1024, .f32⟩
  | .local _ .vmem, ⟨21, _⟩ => ⟨S128x1024, .f32⟩
  | .local _ .vmem, ⟨22, _⟩ => ⟨S128x1024, .f32⟩
  | .local _ .vmem, ⟨23, _⟩ => ⟨S128x1024, .f32⟩
  | .local _ .vmem, ⟨24, _⟩ => ⟨S128x1024, .f32⟩
  | .local _ .vmem, ⟨25, _⟩ => ⟨S128x1024, .f32⟩
  | .local _ .vmem, ⟨26, _⟩ => ⟨S128x1024, .f32⟩
  | .local _ .vmem, ⟨27, _⟩ => ⟨S128x1024, .f32⟩
  | .local _ .vmem, ⟨28, _⟩ => ⟨S128x1024, .f32⟩
  | .local _ .vmem, ⟨29, _⟩ => ⟨S128x1024, .f32⟩
  | .local _ .vmem, ⟨30, _⟩ => ⟨S128x1024, .f32⟩
  | .local _ .vmem, ⟨31, _⟩ => ⟨S128x1024, .f32⟩
  | .local _ .vmem, ⟨32, _⟩ => ⟨S128x1024, .f32⟩
  | .local _ .vmem, ⟨33, _⟩ => ⟨S128x1024, .f32⟩
  | .local _ .vmem, ⟨34, _⟩ => ⟨S128x1024, .f32⟩
  | .local _ .vmem, ⟨35, _⟩ => ⟨S128x1024, .f32⟩
  | .local _ .vmem, ⟨36, _⟩ => ⟨S128x1024, .f32⟩
  | .local _ .vmem, ⟨37, _⟩ => ⟨S128x1024, .f32⟩
  | .local _ .vmem, ⟨38, _⟩ => ⟨S128x1024, .f32⟩
  | .local _ .vmem, ⟨39, _⟩ => ⟨S128x1024, .f32⟩
  | .local _ .vmem, ⟨40, _⟩ => ⟨S128x1024, .f32⟩
  | .local _ .vmem, ⟨41, _⟩ => ⟨S128x1024, .f32⟩
  | .local _ .vmem, ⟨42, _⟩ => ⟨S128x1024, .f32⟩
  | .local _ .vmem, ⟨43, _⟩ => ⟨S128x1024, .f32⟩
  | .local _ .vmem, ⟨44, _⟩ => ⟨S128x1024, .f32⟩
  | .local _ .vmem, ⟨45, _⟩ => ⟨S128x1024, .f32⟩
  | .local _ .vmem, ⟨46, _⟩ => ⟨S128x1024, .f32⟩
  | .local _ .vmem, ⟨47, _⟩ => ⟨S128x1024, .f32⟩
  | .local _ .smem, ⟨0, _⟩ => ⟨S2, .i32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_arg8 : Ref sig .tc := ⟨.hbm, 7, rfl⟩
abbrev main_arg9 : Ref sig .tc := ⟨.hbm, 8, rfl⟩
abbrev main_arg10 : Ref sig .tc := ⟨.hbm, 9, rfl⟩
abbrev main_arg11 : Ref sig .tc := ⟨.hbm, 10, rfl⟩
abbrev main_arg12 : Ref sig .tc := ⟨.hbm, 11, rfl⟩
abbrev main_arg13 : Ref sig .tc := ⟨.hbm, 12, rfl⟩
abbrev main_arg14 : Ref sig .tc := ⟨.hbm, 13, rfl⟩
abbrev main_arg15 : Ref sig .tc := ⟨.hbm, 14, rfl⟩
abbrev main_v0_0 : Ref sig .tc := ⟨.hbm, 15, rfl⟩
abbrev main_v0_1 : Ref sig .tc := ⟨.hbm, 16, rfl⟩
abbrev main_v0_2 : Ref sig .tc := ⟨.hbm, 17, rfl⟩
abbrev main_v0_3 : Ref sig .tc := ⟨.hbm, 18, rfl⟩
abbrev main_v0_4 : Ref sig .tc := ⟨.hbm, 19, rfl⟩
abbrev main_v0_5 : Ref sig .tc := ⟨.hbm, 20, rfl⟩
abbrev main_v0_6 : Ref sig .tc := ⟨.hbm, 21, rfl⟩
abbrev main_v0_7 : Ref sig .tc := ⟨.hbm, 22, rfl⟩
abbrev main_v0_8 : Ref sig .tc := ⟨.hbm, 23, rfl⟩
abbrev main_v0_9 : Ref sig .tc := ⟨.hbm, 24, rfl⟩
abbrev main_v0_10 : Ref sig .tc := ⟨.hbm, 25, rfl⟩
abbrev main_v0_11 : Ref sig .tc := ⟨.hbm, 26, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg16_1 : Ref sig .tc := ⟨.vmem, 27, rfl⟩
abbrev cc0_stg17_0 : Ref sig .tc := ⟨.vmem, 28, rfl⟩
abbrev cc0_stg17_1 : Ref sig .tc := ⟨.vmem, 29, rfl⟩
abbrev cc0_stg18_0 : Ref sig .tc := ⟨.vmem, 30, rfl⟩
abbrev cc0_stg18_1 : Ref sig .tc := ⟨.vmem, 31, rfl⟩
abbrev cc0_stg19_0 : Ref sig .tc := ⟨.vmem, 32, rfl⟩
abbrev cc0_stg19_1 : Ref sig .tc := ⟨.vmem, 33, rfl⟩
abbrev cc0_stg20_0 : Ref sig .tc := ⟨.vmem, 34, rfl⟩
abbrev cc0_stg20_1 : Ref sig .tc := ⟨.vmem, 35, rfl⟩
abbrev cc0_stg21_0 : Ref sig .tc := ⟨.vmem, 36, rfl⟩
abbrev cc0_stg21_1 : Ref sig .tc := ⟨.vmem, 37, rfl⟩
abbrev cc0_stg22_0 : Ref sig .tc := ⟨.vmem, 38, rfl⟩
abbrev cc0_stg22_1 : Ref sig .tc := ⟨.vmem, 39, rfl⟩
abbrev cc0_stg23_0 : Ref sig .tc := ⟨.vmem, 40, rfl⟩
abbrev cc0_stg23_1 : Ref sig .tc := ⟨.vmem, 41, rfl⟩
abbrev cc0_stg24_0 : Ref sig .tc := ⟨.vmem, 42, rfl⟩
abbrev cc0_stg24_1 : Ref sig .tc := ⟨.vmem, 43, rfl⟩
abbrev cc0_stg25_0 : Ref sig .tc := ⟨.vmem, 44, rfl⟩
abbrev cc0_stg25_1 : Ref sig .tc := ⟨.vmem, 45, rfl⟩
abbrev cc0_stg26_0 : Ref sig .tc := ⟨.vmem, 46, rfl⟩
abbrev cc0_stg26_1 : Ref sig .tc := ⟨.vmem, 47, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem12_0 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25
abbrev cc0_sem16_0 : DmaSem sig := 26
abbrev cc0_sem16_1 : DmaSem sig := 27
abbrev cc0_sem17_0 : DmaSem sig := 28
abbrev cc0_sem17_1 : DmaSem sig := 29
abbrev cc0_sem18_0 : DmaSem sig := 30
abbrev cc0_sem18_1 : DmaSem sig := 31
abbrev cc0_sem19_0 : DmaSem sig := 32
abbrev cc0_sem19_1 : DmaSem sig := 33
abbrev cc0_sem20_0 : DmaSem sig := 34
abbrev cc0_sem20_1 : DmaSem sig := 35
abbrev cc0_sem21_0 : DmaSem sig := 36
abbrev cc0_sem21_1 : DmaSem sig := 37
abbrev cc0_sem22_0 : DmaSem sig := 38
abbrev cc0_sem22_1 : DmaSem sig := 39
abbrev cc0_sem23_0 : DmaSem sig := 40
abbrev cc0_sem23_1 : DmaSem sig := 41
abbrev cc0_sem24_0 : DmaSem sig := 42
abbrev cc0_sem24_1 : DmaSem sig := 43
abbrev cc0_sem25_0 : DmaSem sig := 44
abbrev cc0_sem25_1 : DmaSem sig := 45
abbrev cc0_sem26_0 : DmaSem sig := 46
abbrev cc0_sem26_1 : DmaSem sig := 47

abbrev nD : Nat := 1
abbrev τ : Topo := Topo.v7x

variable {F : FTy → Type} [FloatOps F]

abbrev grid0 : Pipeline.Grid := ⟨2, ![2, 1], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_9 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_10 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_13 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_14 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_15 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_16 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_17 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_18 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_19 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_20 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_21 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_22 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_23 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_24 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_25 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_26 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, true]

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, true]

abbrev stage0_8 : Fin 2 → Memref sig .tc .vmem S128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S128x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S128x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 1 → Memref sig .tc .vmem S128x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, true]

abbrev stage0_12 : Fin 1 → Memref sig .tc .vmem S128x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, true]

abbrev stage0_13 : Fin 2 → Memref sig .tc .vmem S128x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S128x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S128x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S128x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S128x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S128x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S128x1024 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S128x1024 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]

abbrev stage0_21 : Fin 2 → Memref sig .tc .vmem S128x1024 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, true]

abbrev stage0_22 : Fin 2 → Memref sig .tc .vmem S128x1024 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true, true]

abbrev stage0_23 : Fin 2 → Memref sig .tc .vmem S128x1024 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true, true]

abbrev stage0_24 : Fin 2 → Memref sig .tc .vmem S128x1024 .f32 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true, true]

abbrev stage0_25 : Fin 2 → Memref sig .tc .vmem S128x1024 .f32 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true, true]

abbrev stage0_26 : Fin 2 → Memref sig .tc .vmem S128x1024 .f32 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true, true]
-- ==== AdamSquaresReferenceIdeal.lean ====
abbrev S2 : Shape := ⟨1, ![2]⟩
abbrev S256x1024 : Shape := ⟨2, ![256, 1024]⟩
abbrev S128x1024 : Shape := ⟨2, ![128, 1024]⟩
abbrev S1 : Shape := ⟨1, ![1]⟩
abbrev S_ : Shape := ⟨0, ![]⟩

abbrev nBuf : Space → Nat
  | .hbm => 142
  | .vmem => 0
  | .smem => 0
  | _ => 0

abbrev hbmTy0_0 (i : Nat) : BufTy := match i % 128 with
  | 0 => ⟨S2, .i32⟩
  | 1 => ⟨S256x1024, .f32⟩
  | 2 => ⟨S256x1024, .f32⟩
  | 3 => ⟨S256x1024, .f32⟩
  | 4 => ⟨S128x1024, .f32⟩
  | 5 => ⟨S128x1024, .f32⟩
  | 6 => ⟨S128x1024, .f32⟩
  | 7 => ⟨S128x1024, .f32⟩
  | 8 => ⟨S128x1024, .f32⟩
  | 9 => ⟨S128x1024, .f32⟩
  | 10 => ⟨S256x1024, .f32⟩
  | 11 => ⟨S256x1024, .f32⟩
  | 12 => ⟨S256x1024, .f32⟩
  | 13 => ⟨S256x1024, .f32⟩
  | 14 => ⟨S256x1024, .f32⟩
  | 15 => ⟨S256x1024, .f32⟩
  | 16 => ⟨S1, .i32⟩
  | 17 => ⟨S_, .i32⟩
  | 18 => ⟨S_, .i32⟩
  | 19 => ⟨S_, .i1⟩
  | 20 => ⟨S128x1024, .f32⟩
  | 21 => ⟨S_, .i32⟩
  | 22 => ⟨S_, .i1⟩
  | 23 => ⟨S128x1024, .f32⟩
  | 24 => ⟨S256x1024, .f32⟩
  | 25 => ⟨S_, .f32⟩
  | 26 => ⟨S256x1024, .f32⟩
  | 27 => ⟨S256x1024, .f32⟩
  | 28 => ⟨S_, .f32⟩
  | 29 => ⟨S256x1024, .f32⟩
  | 30 => ⟨S256x1024, .f32⟩
  | 31 => ⟨S256x1024, .f32⟩
  | 32 => ⟨S_, .f32⟩
  | 33 => ⟨S256x1024, .f32⟩
  | 34 => ⟨S256x1024, .f32⟩
  | 35 => ⟨S256x1024, .f32⟩
  | 36 => ⟨S_, .f32⟩
  | 37 => ⟨S256x1024, .f32⟩
  | 38 => ⟨S256x1024, .f32⟩
  | 39 => ⟨S256x1024, .f32⟩
  | 40 => ⟨S_, .f32⟩
  | 41 => ⟨S256x1024, .f32⟩
  | 42 => ⟨S256x1024, .f32⟩
  | 43 => ⟨S_, .f32⟩
  | 44 => ⟨S256x1024, .f32⟩
  | 45 => ⟨S256x1024, .f32⟩
  | 46 => ⟨S256x1024, .f32⟩
  | 47 => ⟨S_, .f32⟩
  | 48 => ⟨S256x1024, .f32⟩
  | 49 => ⟨S256x1024, .f32⟩
  | 50 => ⟨S256x1024, .f32⟩
  | 51 => ⟨S_, .f32⟩
  | 52 => ⟨S256x1024, .f32⟩
  | 53 => ⟨S256x1024, .f32⟩
  | 54 => ⟨S256x1024, .f32⟩
  | 55 => ⟨S_, .f32⟩
  | 56 => ⟨S256x1024, .f32⟩
  | 57 => ⟨S256x1024, .f32⟩
  | 58 => ⟨S1, .i32⟩
  | 59 => ⟨S_, .i32⟩
  | 60 => ⟨S_, .i32⟩
  | 61 => ⟨S_, .i1⟩
  | 62 => ⟨S128x1024, .f32⟩
  | 63 => ⟨S_, .i32⟩
  | 64 => ⟨S_, .i1⟩
  | 65 => ⟨S128x1024, .f32⟩
  | 66 => ⟨S256x1024, .f32⟩
  | 67 => ⟨S_, .f32⟩
  | 68 => ⟨S256x1024, .f32⟩
  | 69 => ⟨S256x1024, .f32⟩
  | 70 => ⟨S_, .f32⟩
  | 71 => ⟨S256x1024, .f32⟩
  | 72 => ⟨S256x1024, .f32⟩
  | 73 => ⟨S256x1024, .f32⟩
  | 74 => ⟨S_, .f32⟩
  | 75 => ⟨S256x1024, .f32⟩
  | 76 => ⟨S256x1024, .f32⟩
  | 77 => ⟨S256x1024, .f32⟩
  | 78 => ⟨S_, .f32⟩
  | 79 => ⟨S256x1024, .f32⟩
  | 80 => ⟨S256x1024, .f32⟩
  | 81 => ⟨S256x1024, .f32⟩
  | 82 => ⟨S_, .f32⟩
  | 83 => ⟨S256x1024, .f32⟩
  | 84 => ⟨S256x1024, .f32⟩
  | 85 => ⟨S_, .f32⟩
  | 86 => ⟨S256x1024, .f32⟩
  | 87 => ⟨S256x1024, .f32⟩
  | 88 => ⟨S256x1024, .f32⟩
  | 89 => ⟨S_, .f32⟩
  | 90 => ⟨S256x1024, .f32⟩
  | 91 => ⟨S256x1024, .f32⟩
  | 92 => ⟨S256x1024, .f32⟩
  | 93 => ⟨S_, .f32⟩
  | 94 => ⟨S256x1024, .f32⟩
  | 95 => ⟨S256x1024, .f32⟩
  | 96 => ⟨S256x1024, .f32⟩
  | 97 => ⟨S_, .f32⟩
  | 98 => ⟨S256x1024, .f32⟩
  | 99 => ⟨S256x1024, .f32⟩
  | 100 => ⟨S1, .i32⟩
  | 101 => ⟨S_, .i32⟩
  | 102 => ⟨S_, .i32⟩
  | 103 => ⟨S_, .i1⟩
  | 104 => ⟨S128x1024, .f32⟩
  | 105 => ⟨S_, .i32⟩
  | 106 => ⟨S_, .i1⟩
  | 107 => ⟨S128x1024, .f32⟩
  | 108 => ⟨S256x1024, .f32⟩
  | 109 => ⟨S_, .f32⟩
  | 110 => ⟨S256x1024, .f32⟩
  | 111 => ⟨S256x1024, .f32⟩
  | 112 => ⟨S_, .f32⟩
  | 113 => ⟨S256x1024, .f32⟩
  | 114 => ⟨S256x1024, .f32⟩
  | 115 => ⟨S256x1024, .f32⟩
  | 116 => ⟨S_, .f32⟩
  | 117 => ⟨S256x1024, .f32⟩
  | 118 => ⟨S256x1024, .f32⟩
  | 119 => ⟨S256x1024, .f32⟩
  | 120 => ⟨S_, .f32⟩
  | 121 => ⟨S256x1024, .f32⟩
  | 122 => ⟨S256x1024, .f32⟩
  | 123 => ⟨S256x1024, .f32⟩
  | 124 => ⟨S_, .f32⟩
  | 125 => ⟨S256x1024, .f32⟩
  | 126 => ⟨S256x1024, .f32⟩
  | 127 => ⟨S_, .f32⟩
  | _ => ⟨S2, .i32⟩

abbrev hbmTy0_1 (i : Nat) : BufTy := match i % 128 with
  | 0 => ⟨S256x1024, .f32⟩
  | 1 => ⟨S256x1024, .f32⟩
  | 2 => ⟨S256x1024, .f32⟩
  | 3 => ⟨S_, .f32⟩
  | 4 => ⟨S256x1024, .f32⟩
  | 5 => ⟨S256x1024, .f32⟩
  | 6 => ⟨S256x1024, .f32⟩
  | 7 => ⟨S_, .f32⟩
  | 8 => ⟨S256x1024, .f32⟩
  | 9 => ⟨S256x1024, .f32⟩
  | 10 => ⟨S256x1024, .f32⟩
  | 11 => ⟨S_, .f32⟩
  | 12 => ⟨S256x1024, .f32⟩
  | 13 => ⟨S256x1024, .f32⟩
  | _ => ⟨S2, .i32⟩

abbrev hbmTy (i : Nat) : BufTy := match i / 128 with
  | 0 => hbmTy0_0 i
  | 1 => hbmTy0_1 i
  | _ => ⟨S2, .i32⟩

abbrev bufTy : (tb : Table) → Fin (tcTables nBuf tb) → BufTy
  | .hbm, ⟨i, _⟩ => hbmTy i
  | _, _ => ⟨S2, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_c : Ref sig .tc := ⟨.hbm, 18, rfl⟩
abbrev main_v2 : Ref sig .tc := ⟨.hbm, 19, rfl⟩
abbrev main_v3 : Ref sig .tc := ⟨.hbm, 20, rfl⟩
abbrev main_c_0 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_cst : Ref sig .tc := ⟨.hbm, 25, rfl⟩
abbrev main_v7 : Ref sig .tc := ⟨.hbm, 26, rfl⟩
abbrev main_v8 : Ref sig .tc := ⟨.hbm, 27, rfl⟩
abbrev main_cst_1 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_cst_2 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_cst_3 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_cst_4 : Ref sig .tc := ⟨.hbm, 40, rfl⟩
abbrev main_v18 : Ref sig .tc := ⟨.hbm, 41, rfl⟩
abbrev main_v19 : Ref sig .tc := ⟨.hbm, 42, rfl⟩
abbrev main_cst_5 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_cst_6 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_cst_7 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_cst_8 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_c_9 : Ref sig .tc := ⟨.hbm, 60, rfl⟩
abbrev main_v33 : Ref sig .tc := ⟨.hbm, 61, rfl⟩
abbrev main_v34 : Ref sig .tc := ⟨.hbm, 62, rfl⟩
abbrev main_c_10 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_cst_11 : Ref sig .tc := ⟨.hbm, 67, rfl⟩
abbrev main_v38 : Ref sig .tc := ⟨.hbm, 68, rfl⟩
abbrev main_v39 : Ref sig .tc := ⟨.hbm, 69, rfl⟩
abbrev main_cst_12 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_cst_13 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_cst_14 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_cst_15 : Ref sig .tc := ⟨.hbm, 82, rfl⟩
abbrev main_v49 : Ref sig .tc := ⟨.hbm, 83, rfl⟩
abbrev main_v50 : Ref sig .tc := ⟨.hbm, 84, rfl⟩
abbrev main_cst_16 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_cst_17 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_cst_18 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_cst_19 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_c_20 : Ref sig .tc := ⟨.hbm, 102, rfl⟩
abbrev main_v64 : Ref sig .tc := ⟨.hbm, 103, rfl⟩
abbrev main_v65 : Ref sig .tc := ⟨.hbm, 104, rfl⟩
abbrev main_c_21 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_cst_22 : Ref sig .tc := ⟨.hbm, 109, rfl⟩
abbrev main_v69 : Ref sig .tc := ⟨.hbm, 110, rfl⟩
abbrev main_v70 : Ref sig .tc := ⟨.hbm, 111, rfl⟩
abbrev main_cst_23 : Ref sig .tc := ⟨.hbm, 112, rfl⟩
abbrev main_v71 : Ref sig .tc := ⟨.hbm, 113, rfl⟩
abbrev main_v72 : Ref sig .tc := ⟨.hbm, 114, rfl⟩
abbrev main_v73 : Ref sig .tc := ⟨.hbm, 115, rfl⟩
abbrev main_cst_24 : Ref sig .tc := ⟨.hbm, 116, rfl⟩
abbrev main_v74 : Ref sig .tc := ⟨.hbm, 117, rfl⟩
abbrev main_v75 : Ref sig .tc := ⟨.hbm, 118, rfl⟩
abbrev main_v76 : Ref sig .tc := ⟨.hbm, 119, rfl⟩
abbrev main_cst_25 : Ref sig .tc := ⟨.hbm, 120, rfl⟩
abbrev main_v77 : Ref sig .tc := ⟨.hbm, 121, rfl⟩
abbrev main_v78 : Ref sig .tc := ⟨.hbm, 122, rfl⟩
abbrev main_v79 : Ref sig .tc := ⟨.hbm, 123, rfl⟩
abbrev main_cst_26 : Ref sig .tc := ⟨.hbm, 124, rfl⟩
abbrev main_v80 : Ref sig .tc := ⟨.hbm, 125, rfl⟩
abbrev main_v81 : Ref sig .tc := ⟨.hbm, 126, rfl⟩
abbrev main_cst_27 : Ref sig .tc := ⟨.hbm, 127, rfl⟩
abbrev main_v82 : Ref sig .tc := ⟨.hbm, 128, rfl⟩
abbrev main_v83 : Ref sig .tc := ⟨.hbm, 129, rfl⟩
abbrev main_v84 : Ref sig .tc := ⟨.hbm, 130, rfl⟩
abbrev main_cst_28 : Ref sig .tc := ⟨.hbm, 131, rfl⟩
abbrev main_v85 : Ref sig .tc := ⟨.hbm, 132, rfl⟩
abbrev main_v86 : Ref sig .tc := ⟨.hbm, 133, rfl⟩
abbrev main_v87 : Ref sig .tc := ⟨.hbm, 134, rfl⟩
abbrev main_cst_29 : Ref sig .tc := ⟨.hbm, 135, rfl⟩
abbrev main_v88 : Ref sig .tc := ⟨.hbm, 136, rfl⟩
abbrev main_v89 : Ref sig .tc := ⟨.hbm, 137, rfl⟩
abbrev main_v90 : Ref sig .tc := ⟨.hbm, 138, rfl⟩
abbrev main_cst_30 : Ref sig .tc := ⟨.hbm, 139, rfl⟩
abbrev main_v91 : Ref sig .tc := ⟨.hbm, 140, rfl⟩
abbrev main_v92 : Ref sig .tc := ⟨.hbm, 141, rfl⟩

abbrev nD : Nat := 1
abbrev τ : Topo := Topo.v7x

variable {F : FTy → Type} [FloatOps F]
-- ==== PairDown.lean ====
abbrev S2 : Shape := ⟨1, ![2]⟩
abbrev S4x704x1024 : Shape := ⟨3, ![4, 704, 1024]⟩
abbrev S4x352x1024 : Shape := ⟨3, ![4, 352, 1024]⟩
abbrev S352x1024 : Shape := ⟨2, ![352, 1024]⟩
abbrev S3x352x1024 : Shape := ⟨3, ![3, 352, 1024]⟩
abbrev S1x352x1024 : Shape := ⟨3, ![1, 352, 1024]⟩
abbrev S1 : Shape := ⟨1, ![1]⟩

abbrev nBuf : Space → Nat
  | .hbm => 4
  | .vmem => 7
  | .smem => 1
  | _ => 0

abbrev bufTy : (tb : Table) → Fin (tcTables nBuf tb) → BufTy
  | .hbm, ⟨0, _⟩ => ⟨S4x704x1024, .f32⟩
  | .hbm, ⟨1, _⟩ => ⟨S4x352x1024, .f32⟩
  | .hbm, ⟨2, _⟩ => ⟨S352x1024, .f32⟩
  | .hbm, ⟨3, _⟩ => ⟨S3x352x1024, .bf16⟩
  | .local _ .vmem, ⟨0, _⟩ => ⟨S1x352x1024, .f32⟩
  | .local _ .vmem, ⟨1, _⟩ => ⟨S1x352x1024, .f32⟩
  | .local _ .vmem, ⟨2, _⟩ => ⟨S1x352x1024, .f32⟩
  | .local _ .vmem, ⟨3, _⟩ => ⟨S1x352x1024, .f32⟩
  | .local _ .vmem, ⟨4, _⟩ => ⟨S352x1024, .f32⟩
  | .local _ .vmem, ⟨5, _⟩ => ⟨S1x352x1024, .bf16⟩
  | .local _ .vmem, ⟨6, _⟩ => ⟨S1x352x1024, .bf16⟩
  | .local _ .smem, ⟨0, _⟩ => ⟨S2, .i32⟩
  | _, _ => ⟨S4x704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_v0_0 : Ref sig .tc := ⟨.hbm, 2, rfl⟩
abbrev main_v0_1 : Ref sig .tc := ⟨.hbm, 3, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![1, 4], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_cond1 (i : grid0.Coords) : BitVec 1 :=
  let arg1 : BitVec 32 := BitVec.ofNat 32 (i 1).val
  let c0_i32 : BitVec 32 := 0#32
  let v5 : BitVec 1 := Scalar.cmpi .eq arg1 c0_i32
  let v6 : BitVec 32 := Scalar.extui v5
  let c0_i32_5 : BitVec 32 := 0#32
  let v7 : BitVec 1 := Scalar.cmpi .ne v6 c0_i32_5
  v7

def k0_cond2 (i : grid0.Coords) : BitVec 1 :=
  let arg1 : BitVec 32 := BitVec.ofNat 32 (i 1).val
  let c0_i32_6 : BitVec 32 := 0#32
  let v8 : BitVec 1 := Scalar.cmpi .sgt arg1 c0_i32_6
  let v9 : BitVec 32 := Scalar.extui v8
  let c0_i32_7 : BitVec 32 := 0#32
  let v10 : BitVec 1 := Scalar.cmpi .ne v9 c0_i32_7
  v10

def cc0_transform_0 (inb_S2_S1_0 : ∀ a, (![0] : Fin 1 → Nat) a + S1.size a ≤ S2.size a) (numel1_S1 : S1.numel = 1) (inb_S2_S1_1 : ∀ a, (![1] : Fin 1 → Nat) a + S1.size a ≤ S2.size a) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S2) ![0] S1.size inb_S2_S1_0) numel1_S1
  let v1 : BitVec 32 := Scalar.xori v0 arg1
  let c1 : Index := 1#32
  let v2 : BitVec 32 := pf.at 0 (Rect.unit (s := S2) ![1] S1.size inb_S2_S1_1) numel1_S1
  let c1_i32 : BitVec 32 := 1#32
  let v3 : BitVec 32 := Scalar.muli v2 c1_i32
  let v4 : BitVec 32 := Scalar.addi v3 arg0
  let c0_i32 : BitVec 32 := 0#32
  let c0_i32_0 : BitVec 32 := 0#32
  ![v1.toNat, v4.toNat, c0_i32.toNat]

def cc0_transform_1 (inb_S2_S1_0 : ∀ a, (![0] : Fin 1 → Nat) a + S1.size a ≤ S2.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S2) ![0] S1.size inb_S2_S1_0) numel1_S1
  let v1 : BitVec 32 := Scalar.xori v0 arg1
  let c0_i32 : BitVec 32 := 0#32
  let c0_i32_0 : BitVec 32 := 0#32
  ![v1.toNat, arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![v1.toNat, arg0.toNat, c0_i32_0.toNat]

abbrev stage0_0 : Fin 2 → Memref sig .tc .vmem S1x352x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x352x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S352x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S1x352x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== PairDownReferenceIdeal.lean ====
abbrev S2 : Shape := ⟨1, ![2]⟩
abbrev S4x704x1024 : Shape := ⟨3, ![4, 704, 1024]⟩
abbrev S4x352x1024 : Shape := ⟨3, ![4, 352, 1024]⟩
abbrev S1 : Shape := ⟨1, ![1]⟩
abbrev S_ : Shape := ⟨0, ![]⟩
abbrev S1x352x1024 : Shape := ⟨3, ![1, 352, 1024]⟩
abbrev S352x1024 : Shape := ⟨2, ![352, 1024]⟩
abbrev S3x352x1024 : Shape := ⟨3, ![3, 352, 1024]⟩

abbrev nBuf : Space → Nat
  | .hbm => 98
  | .vmem => 0
  | .smem => 0
  | _ => 0

abbrev bufTy : (tb : Table) → Fin (tcTables nBuf tb) → BufTy
  | .hbm, ⟨0, _⟩ => ⟨S2, .i32⟩
  | .hbm, ⟨1, _⟩ => ⟨S4x704x1024, .f32⟩
  | .hbm, ⟨2, _⟩ => ⟨S4x352x1024, .f32⟩
  | .hbm, ⟨3, _⟩ => ⟨S1, .i32⟩
  | .hbm, ⟨4, _⟩ => ⟨S_, .i32⟩
  | .hbm, ⟨5, _⟩ => ⟨S_, .i32⟩
  | .hbm, ⟨6, _⟩ => ⟨S_, .i1⟩
  | .hbm, ⟨7, _⟩ => ⟨S4x352x1024, .f32⟩
  | .hbm, ⟨8, _⟩ => ⟨S4x352x1024, .f32⟩
  | .hbm, ⟨9, _⟩ => ⟨S4x352x1024, .f32⟩
  | .hbm, ⟨10, _⟩ => ⟨S4x352x1024, .f32⟩
  | .hbm, ⟨11, _⟩ => ⟨S1, .i32⟩
  | .hbm, ⟨12, _⟩ => ⟨S_, .i32⟩
  | .hbm, ⟨13, _⟩ => ⟨S_, .i32⟩
  | .hbm, ⟨14, _⟩ => ⟨S_, .i1⟩
  | .hbm, ⟨15, _⟩ => ⟨S1x352x1024, .f32⟩
  | .hbm, ⟨16, _⟩ => ⟨S352x1024, .f32⟩
  | .hbm, ⟨17, _⟩ => ⟨S_, .i32⟩
  | .hbm, ⟨18, _⟩ => ⟨S_, .i1⟩
  | .hbm, ⟨19, _⟩ => ⟨S1x352x1024, .f32⟩
  | .hbm, ⟨20, _⟩ => ⟨S352x1024, .f32⟩
  | .hbm, ⟨21, _⟩ => ⟨S_, .i32⟩
  | .hbm, ⟨22, _⟩ => ⟨S_, .i1⟩
  | .hbm, ⟨23, _⟩ => ⟨S1x352x1024, .f32⟩
  | .hbm, ⟨24, _⟩ => ⟨S352x1024, .f32⟩
  | .hbm, ⟨25, _⟩ => ⟨S1x352x1024, .f32⟩
  | .hbm, ⟨26, _⟩ => ⟨S352x1024, .f32⟩
  | .hbm, ⟨27, _⟩ => ⟨S352x1024, .f32⟩
  | .hbm, ⟨28, _⟩ => ⟨S352x1024, .f32⟩
  | .hbm, ⟨29, _⟩ => ⟨S352x1024, .f32⟩
  | .hbm, ⟨30, _⟩ => ⟨S1, .i32⟩
  | .hbm, ⟨31, _⟩ => ⟨S_, .i32⟩
  | .hbm, ⟨32, _⟩ => ⟨S_, .i32⟩
  | .hbm, ⟨33, _⟩ => ⟨S_, .i32⟩
  | .hbm, ⟨34, _⟩ => ⟨S_, .i32⟩
  | .hbm, ⟨35, _⟩ => ⟨S_, .i1⟩
  | .hbm, ⟨36, _⟩ => ⟨S1x352x1024, .f32⟩
  | .hbm, ⟨37, _⟩ => ⟨S352x1024, .f32⟩
  | .hbm, ⟨38, _⟩ => ⟨S_, .i32⟩
  | .hbm, ⟨39, _⟩ => ⟨S_, .i1⟩
  | .hbm, ⟨40, _⟩ => ⟨S1x352x1024, .f32⟩
  | .hbm, ⟨41, _⟩ => ⟨S352x1024, .f32⟩
  | .hbm, ⟨42, _⟩ => ⟨S_, .i32⟩
  | .hbm, ⟨43, _⟩ => ⟨S_, .i1⟩
  | .hbm, ⟨44, _⟩ => ⟨S1x352x1024, .f32⟩
  | .hbm, ⟨45, _⟩ => ⟨S352x1024, .f32⟩
  | .hbm, ⟨46, _⟩ => ⟨S1x352x1024, .f32⟩
  | .hbm, ⟨47, _⟩ => ⟨S352x1024, .f32⟩
  | .hbm, ⟨48, _⟩ => ⟨S352x1024, .f32⟩
  | .hbm, ⟨49, _⟩ => ⟨S352x1024, .f32⟩
  | .hbm, ⟨50, _⟩ => ⟨S352x1024, .f32⟩
  | .hbm, ⟨51, _⟩ => ⟨S1, .i32⟩
  | .hbm, ⟨52, _⟩ => ⟨S_, .i32⟩
  | .hbm, ⟨53, _⟩ => ⟨S_, .i32⟩
  | .hbm, ⟨54, _⟩ => ⟨S_, .i32⟩
  | .hbm, ⟨55, _⟩ => ⟨S_, .i32⟩
  | .hbm, ⟨56, _⟩ => ⟨S_, .i1⟩
  | .hbm, ⟨57, _⟩ => ⟨S1x352x1024, .f32⟩
  | .hbm, ⟨58, _⟩ => ⟨S352x1024, .f32⟩
  | .hbm, ⟨59, _⟩ => ⟨S_, .i32⟩
  | .hbm, ⟨60, _⟩ => ⟨S_, .i1⟩
  | .hbm, ⟨61, _⟩ => ⟨S1x352x1024, .f32⟩
  | .hbm, ⟨62, _⟩ => ⟨S352x1024, .f32⟩
  | .hbm, ⟨63, _⟩ => ⟨S_, .i32⟩
  | .hbm, ⟨64, _⟩ => ⟨S_, .i1⟩
  | .hbm, ⟨65, _⟩ => ⟨S1x352x1024, .f32⟩
  | .hbm, ⟨66, _⟩ => ⟨S352x1024, .f32⟩
  | .hbm, ⟨67, _⟩ => ⟨S1x352x1024, .f32⟩
  | .hbm, ⟨68, _⟩ => ⟨S352x1024, .f32⟩
  | .hbm, ⟨69, _⟩ => ⟨S352x1024, .f32⟩
  | .hbm, ⟨70, _⟩ => ⟨S352x1024, .f32⟩
  | .hbm, ⟨71, _⟩ => ⟨S352x1024, .f32⟩
  | .hbm, ⟨72, _⟩ => ⟨S1, .i32⟩
  | .hbm, ⟨73, _⟩ => ⟨S_, .i32⟩
  | .hbm, ⟨74, _⟩ => ⟨S_, .i32⟩
  | .hbm, ⟨75, _⟩ => ⟨S_, .i32⟩
  | .hbm, ⟨76, _⟩ => ⟨S_, .i32⟩
  | .hbm, ⟨77, _⟩ => ⟨S_, .i1⟩
  | .hbm, ⟨78, _⟩ => ⟨S1x352x1024, .f32⟩
  | .hbm, ⟨79, _⟩ => ⟨S352x1024, .f32⟩
  | .hbm, ⟨80, _⟩ => ⟨S_, .i32⟩
  | .hbm, ⟨81, _⟩ => ⟨S_, .i1⟩
  | .hbm, ⟨82, _⟩ => ⟨S1x352x1024, .f32⟩
  | .hbm, ⟨83, _⟩ => ⟨S352x1024, .f32⟩
  | .hbm, ⟨84, _⟩ => ⟨S_, .i32⟩
  | .hbm, ⟨85, _⟩ => ⟨S_, .i1⟩
  | .hbm, ⟨86, _⟩ => ⟨S1x352x1024, .f32⟩
  | .hbm, ⟨87, _⟩ => ⟨S352x1024, .f32⟩
  | .hbm, ⟨88, _⟩ => ⟨S1x352x1024, .f32⟩
  | .hbm, ⟨89, _⟩ => ⟨S352x1024, .f32⟩
  | .hbm, ⟨90, _⟩ => ⟨S352x1024, .f32⟩
  | .hbm, ⟨91, _⟩ => ⟨S352x1024, .f32⟩
  | .hbm, ⟨92, _⟩ => ⟨S352x1024, .f32⟩
  | .hbm, ⟨93, _⟩ => ⟨S1x352x1024, .f32⟩
  | .hbm, ⟨94, _⟩ => ⟨S1x352x1024, .f32⟩
  | .hbm, ⟨95, _⟩ => ⟨S1x352x1024, .f32⟩
  | .hbm, ⟨96, _⟩ => ⟨S3x352x1024, .f32⟩
  | .hbm, ⟨97, _⟩ => ⟨S3x352x1024, .bf16⟩
  | _, _ => ⟨S2, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_c_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_c_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_c_2 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_c_3 : Ref sig .tc := ⟨.hbm, 32, rfl⟩
abbrev main_v25 : Ref sig .tc := ⟨.hbm, 33, rfl⟩
abbrev main_c_4 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_c_5 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_c_6 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_c_7 : Ref sig .tc := ⟨.hbm, 53, rfl⟩
abbrev main_v42 : Ref sig .tc := ⟨.hbm, 54, rfl⟩
abbrev main_c_8 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_c_9 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_c_10 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_c_11 : Ref sig .tc := ⟨.hbm, 74, rfl⟩
abbrev main_v59 : Ref sig .tc := ⟨.hbm, 75, rfl⟩
abbrev main_c_12 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_c_13 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_c_14 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩

abbrev nD : Nat := 1
abbrev τ : Topo := Topo.v7x

variable {F : FTy → Type} [FloatOps F]
-- ==== PairGateUp.lean ====
abbrev S2 : Shape := ⟨1, ![2]⟩
abbrev S4x1024x1408 : Shape := ⟨3, ![4, 1024, 1408]⟩
abbrev S4x512x1408 : Shape := ⟨3, ![4, 512, 1408]⟩
abbrev S512x1408 : Shape := ⟨2, ![512, 1408]⟩
abbrev S3x512x1408 : Shape := ⟨3, ![3, 512, 1408]⟩
abbrev S1x256x1408 : Shape := ⟨3, ![1, 256, 1408]⟩
abbrev S1 : Shape := ⟨1, ![1]⟩
abbrev S256x1408 : Shape := ⟨2, ![256, 1408]⟩

abbrev nBuf : Space → Nat
  | .hbm => 4
  | .vmem => 8
  | .smem => 1
  | _ => 0

abbrev bufTy : (tb : Table) → Fin (tcTables nBuf tb) → BufTy
  | .hbm, ⟨0, _⟩ => ⟨S4x1024x1408, .f32⟩
  | .hbm, ⟨1, _⟩ => ⟨S4x512x1408, .f32⟩
  | .hbm, ⟨2, _⟩ => ⟨S512x1408, .f32⟩
  | .hbm, ⟨3, _⟩ => ⟨S3x512x1408, .bf16⟩
  | .local _ .vmem, ⟨0, _⟩ => ⟨S1x256x1408, .f32⟩
  | .local _ .vmem, ⟨1, _⟩ => ⟨S1x256x1408, .f32⟩
  | .local _ .vmem, ⟨2, _⟩ => ⟨S1x256x1408, .f32⟩
  | .local _ .vmem, ⟨3, _⟩ => ⟨S1x256x1408, .f32⟩
  | .local _ .vmem, ⟨4, _⟩ => ⟨S256x1408, .f32⟩
  | .local _ .vmem, ⟨5, _⟩ => ⟨S256x1408, .f32⟩
  | .local _ .vmem, ⟨6, _⟩ => ⟨S1x256x1408, .bf16⟩
  | .local _ .vmem, ⟨7, _⟩ => ⟨S1x256x1408, .bf16⟩
  | .local _ .smem, ⟨0, _⟩ => ⟨S2, .i32⟩
  | _, _ => ⟨S4x1024x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_v0_0 : Ref sig .tc := ⟨.hbm, 2, rfl⟩
abbrev main_v0_1 : Ref sig .tc := ⟨.hbm, 3, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 4], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_cond1 (i : grid0.Coords) : BitVec 1 :=
  let arg1 : BitVec 32 := BitVec.ofNat 32 (i 1).val
  let c0_i32 : BitVec 32 := 0#32
  let v5 : BitVec 1 := Scalar.cmpi .eq arg1 c0_i32
  let v6 : BitVec 32 := Scalar.extui v5
  let c0_i32_5 : BitVec 32 := 0#32
  let v7 : BitVec 1 := Scalar.cmpi .ne v6 c0_i32_5
  v7

def k0_cond2 (i : grid0.Coords) : BitVec 1 :=
  let arg1 : BitVec 32 := BitVec.ofNat 32 (i 1).val
  let c0_i32_6 : BitVec 32 := 0#32
  let v8 : BitVec 1 := Scalar.cmpi .sgt arg1 c0_i32_6
  let v9 : BitVec 32 := Scalar.extui v8
  let c0_i32_7 : BitVec 32 := 0#32
  let v10 : BitVec 1 := Scalar.cmpi .ne v9 c0_i32_7
  v10

def cc0_transform_0 (inb_S2_S1_0 : ∀ a, (![0] : Fin 1 → Nat) a + S1.size a ≤ S2.size a) (numel1_S1 : S1.numel = 1) (inb_S2_S1_1 : ∀ a, (![1] : Fin 1 → Nat) a + S1.size a ≤ S2.size a) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S2) ![0] S1.size inb_S2_S1_0) numel1_S1
  let v1 : BitVec 32 := Scalar.xori v0 arg1
  let c1 : Index := 1#32
  let v2 : BitVec 32 := pf.at 0 (Rect.unit (s := S2) ![1] S1.size inb_S2_S1_1) numel1_S1
  let c2_i32 : BitVec 32 := 2#32
  let v3 : BitVec 32 := Scalar.muli v2 c2_i32
  let v4 : BitVec 32 := Scalar.addi v3 arg0
  let c0_i32 : BitVec 32 := 0#32
  let c0_i32_0 : BitVec 32 := 0#32
  ![v1.toNat, v4.toNat, c0_i32.toNat]

def cc0_transform_1 (inb_S2_S1_0 : ∀ a, (![0] : Fin 1 → Nat) a + S1.size a ≤ S2.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S2) ![0] S1.size inb_S2_S1_0) numel1_S1
  let v1 : BitVec 32 := Scalar.xori v0 arg1
  let c0_i32 : BitVec 32 := 0#32
  let c0_i32_0 : BitVec 32 := 0#32
  ![v1.toNat, arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![v1.toNat, arg0.toNat, c0_i32_0.toNat]

abbrev stage0_0 : Fin 2 → Memref sig .tc .vmem S1x256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== PairGateUpReferenceIdeal.lean ====
abbrev S2 : Shape := ⟨1, ![2]⟩
abbrev S4x1024x1408 : Shape := ⟨3, ![4, 1024, 1408]⟩
abbrev S4x512x1408 : Shape := ⟨3, ![4, 512, 1408]⟩
abbrev S1 : Shape := ⟨1, ![1]⟩
abbrev S_ : Shape := ⟨0, ![]⟩
abbrev S1x512x1408 : Shape := ⟨3, ![1, 512, 1408]⟩
abbrev S512x1408 : Shape := ⟨2, ![512, 1408]⟩
abbrev S3x512x1408 : Shape := ⟨3, ![3, 512, 1408]⟩

abbrev nBuf : Space → Nat
  | .hbm => 98
  | .vmem => 0
  | .smem => 0
  | _ => 0

abbrev bufTy : (tb : Table) → Fin (tcTables nBuf tb) → BufTy
  | .hbm, ⟨0, _⟩ => ⟨S2, .i32⟩
  | .hbm, ⟨1, _⟩ => ⟨S4x1024x1408, .f32⟩
  | .hbm, ⟨2, _⟩ => ⟨S4x512x1408, .f32⟩
  | .hbm, ⟨3, _⟩ => ⟨S1, .i32⟩
  | .hbm, ⟨4, _⟩ => ⟨S_, .i32⟩
  | .hbm, ⟨5, _⟩ => ⟨S_, .i32⟩
  | .hbm, ⟨6, _⟩ => ⟨S_, .i1⟩
  | .hbm, ⟨7, _⟩ => ⟨S4x512x1408, .f32⟩
  | .hbm, ⟨8, _⟩ => ⟨S4x512x1408, .f32⟩
  | .hbm, ⟨9, _⟩ => ⟨S4x512x1408, .f32⟩
  | .hbm, ⟨10, _⟩ => ⟨S4x512x1408, .f32⟩
  | .hbm, ⟨11, _⟩ => ⟨S1, .i32⟩
  | .hbm, ⟨12, _⟩ => ⟨S_, .i32⟩
  | .hbm, ⟨13, _⟩ => ⟨S_, .i32⟩
  | .hbm, ⟨14, _⟩ => ⟨S_, .i1⟩
  | .hbm, ⟨15, _⟩ => ⟨S1x512x1408, .f32⟩
  | .hbm, ⟨16, _⟩ => ⟨S512x1408, .f32⟩
  | .hbm, ⟨17, _⟩ => ⟨S_, .i32⟩
  | .hbm, ⟨18, _⟩ => ⟨S_, .i1⟩
  | .hbm, ⟨19, _⟩ => ⟨S1x512x1408, .f32⟩
  | .hbm, ⟨20, _⟩ => ⟨S512x1408, .f32⟩
  | .hbm, ⟨21, _⟩ => ⟨S_, .i32⟩
  | .hbm, ⟨22, _⟩ => ⟨S_, .i1⟩
  | .hbm, ⟨23, _⟩ => ⟨S1x512x1408, .f32⟩
  | .hbm, ⟨24, _⟩ => ⟨S512x1408, .f32⟩
  | .hbm, ⟨25, _⟩ => ⟨S1x512x1408, .f32⟩
  | .hbm, ⟨26, _⟩ => ⟨S512x1408, .f32⟩
  | .hbm, ⟨27, _⟩ => ⟨S512x1408, .f32⟩
  | .hbm, ⟨28, _⟩ => ⟨S512x1408, .f32⟩
  | .hbm, ⟨29, _⟩ => ⟨S512x1408, .f32⟩
  | .hbm, ⟨30, _⟩ => ⟨S1, .i32⟩
  | .hbm, ⟨31, _⟩ => ⟨S_, .i32⟩
  | .hbm, ⟨32, _⟩ => ⟨S_, .i32⟩
  | .hbm, ⟨33, _⟩ => ⟨S_, .i32⟩
  | .hbm, ⟨34, _⟩ => ⟨S_, .i32⟩
  | .hbm, ⟨35, _⟩ => ⟨S_, .i1⟩
  | .hbm, ⟨36, _⟩ => ⟨S1x512x1408, .f32⟩
  | .hbm, ⟨37, _⟩ => ⟨S512x1408, .f32⟩
  | .hbm, ⟨38, _⟩ => ⟨S_, .i32⟩
  | .hbm, ⟨39, _⟩ => ⟨S_, .i1⟩
  | .hbm, ⟨40, _⟩ => ⟨S1x512x1408, .f32⟩
  | .hbm, ⟨41, _⟩ => ⟨S512x1408, .f32⟩
  | .hbm, ⟨42, _⟩ => ⟨S_, .i32⟩
  | .hbm, ⟨43, _⟩ => ⟨S_, .i1⟩
  | .hbm, ⟨44, _⟩ => ⟨S1x512x1408, .f32⟩
  | .hbm, ⟨45, _⟩ => ⟨S512x1408, .f32⟩
  | .hbm, ⟨46, _⟩ => ⟨S1x512x1408, .f32⟩
  | .hbm, ⟨47, _⟩ => ⟨S512x1408, .f32⟩
  | .hbm, ⟨48, _⟩ => ⟨S512x1408, .f32⟩
  | .hbm, ⟨49, _⟩ => ⟨S512x1408, .f32⟩
  | .hbm, ⟨50, _⟩ => ⟨S512x1408, .f32⟩
  | .hbm, ⟨51, _⟩ => ⟨S1, .i32⟩
  | .hbm, ⟨52, _⟩ => ⟨S_, .i32⟩
  | .hbm, ⟨53, _⟩ => ⟨S_, .i32⟩
  | .hbm, ⟨54, _⟩ => ⟨S_, .i32⟩
  | .hbm, ⟨55, _⟩ => ⟨S_, .i32⟩
  | .hbm, ⟨56, _⟩ => ⟨S_, .i1⟩
  | .hbm, ⟨57, _⟩ => ⟨S1x512x1408, .f32⟩
  | .hbm, ⟨58, _⟩ => ⟨S512x1408, .f32⟩
  | .hbm, ⟨59, _⟩ => ⟨S_, .i32⟩
  | .hbm, ⟨60, _⟩ => ⟨S_, .i1⟩
  | .hbm, ⟨61, _⟩ => ⟨S1x512x1408, .f32⟩
  | .hbm, ⟨62, _⟩ => ⟨S512x1408, .f32⟩
  | .hbm, ⟨63, _⟩ => ⟨S_, .i32⟩
  | .hbm, ⟨64, _⟩ => ⟨S_, .i1⟩
  | .hbm, ⟨65, _⟩ => ⟨S1x512x1408, .f32⟩
  | .hbm, ⟨66, _⟩ => ⟨S512x1408, .f32⟩
  | .hbm, ⟨67, _⟩ => ⟨S1x512x1408, .f32⟩
  | .hbm, ⟨68, _⟩ => ⟨S512x1408, .f32⟩
  | .hbm, ⟨69, _⟩ => ⟨S512x1408, .f32⟩
  | .hbm, ⟨70, _⟩ => ⟨S512x1408, .f32⟩
  | .hbm, ⟨71, _⟩ => ⟨S512x1408, .f32⟩
  | .hbm, ⟨72, _⟩ => ⟨S1, .i32⟩
  | .hbm, ⟨73, _⟩ => ⟨S_, .i32⟩
  | .hbm, ⟨74, _⟩ => ⟨S_, .i32⟩
  | .hbm, ⟨75, _⟩ => ⟨S_, .i32⟩
  | .hbm, ⟨76, _⟩ => ⟨S_, .i32⟩
  | .hbm, ⟨77, _⟩ => ⟨S_, .i1⟩
  | .hbm, ⟨78, _⟩ => ⟨S1x512x1408, .f32⟩
  | .hbm, ⟨79, _⟩ => ⟨S512x1408, .f32⟩
  | .hbm, ⟨80, _⟩ => ⟨S_, .i32⟩
  | .hbm, ⟨81, _⟩ => ⟨S_, .i1⟩
  | .hbm, ⟨82, _⟩ => ⟨S1x512x1408, .f32⟩
  | .hbm, ⟨83, _⟩ => ⟨S512x1408, .f32⟩
  | .hbm, ⟨84, _⟩ => ⟨S_, .i32⟩
  | .hbm, ⟨85, _⟩ => ⟨S_, .i1⟩
  | .hbm, ⟨86, _⟩ => ⟨S1x512x1408, .f32⟩
  | .hbm, ⟨87, _⟩ => ⟨S512x1408, .f32⟩
  | .hbm, ⟨88, _⟩ => ⟨S1x512x1408, .f32⟩
  | .hbm, ⟨89, _⟩ => ⟨S512x1408, .f32⟩
  | .hbm, ⟨90, _⟩ => ⟨S512x1408, .f32⟩
  | .hbm, ⟨91, _⟩ => ⟨S512x1408, .f32⟩
  | .hbm, ⟨92, _⟩ => ⟨S512x1408, .f32⟩
  | .hbm, ⟨93, _⟩ => ⟨S1x512x1408, .f32⟩
  | .hbm, ⟨94, _⟩ => ⟨S1x512x1408, .f32⟩
  | .hbm, ⟨95, _⟩ => ⟨S1x512x1408, .f32⟩
  | .hbm, ⟨96, _⟩ => ⟨S3x512x1408, .f32⟩
  | .hbm, ⟨97, _⟩ => ⟨S3x512x1408, .bf16⟩
  | _, _ => ⟨S2, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_c_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_c_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_c_2 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_c_3 : Ref sig .tc := ⟨.hbm, 32, rfl⟩
abbrev main_v25 : Ref sig .tc := ⟨.hbm, 33, rfl⟩
abbrev main_c_4 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_c_5 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_c_6 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_c_7 : Ref sig .tc := ⟨.hbm, 53, rfl⟩
abbrev main_v42 : Ref sig .tc := ⟨.hbm, 54, rfl⟩
abbrev main_c_8 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_c_9 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_c_10 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_c_11 : Ref sig .tc := ⟨.hbm, 74, rfl⟩
abbrev main_v59 : Ref sig .tc := ⟨.hbm, 75, rfl⟩
abbrev main_c_12 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_c_13 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_c_14 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩

abbrev nD : Nat := 1
abbrev τ : Topo := Topo.v7x

variable {F : FTy → Type} [FloatOps F]
-- ==== PairIn.lean ====
abbrev S2 : Shape := ⟨1, ![2]⟩
abbrev S4x1024x1024 : Shape := ⟨3, ![4, 1024, 1024]⟩
abbrev S1024x1024 : Shape := ⟨2, ![1024, 1024]⟩
abbrev S3x1024x1024 : Shape := ⟨3, ![3, 1024, 1024]⟩
abbrev S1x512x1024 : Shape := ⟨3, ![1, 512, 1024]⟩
abbrev S1 : Shape := ⟨1, ![1]⟩
abbrev S512x1024 : Shape := ⟨2, ![512, 1024]⟩

abbrev nBuf : Space → Nat
  | .hbm => 4
  | .vmem => 8
  | .smem => 1
  | _ => 0

abbrev bufTy : (tb : Table) → Fin (tcTables nBuf tb) → BufTy
  | .hbm, ⟨0, _⟩ => ⟨S4x1024x1024, .f32⟩
  | .hbm, ⟨1, _⟩ => ⟨S4x1024x1024, .f32⟩
  | .hbm, ⟨2, _⟩ => ⟨S1024x1024, .f32⟩
  | .hbm, ⟨3, _⟩ => ⟨S3x1024x1024, .bf16⟩
  | .local _ .vmem, ⟨0, _⟩ => ⟨S1x512x1024, .f32⟩
  | .local _ .vmem, ⟨1, _⟩ => ⟨S1x512x1024, .f32⟩
  | .local _ .vmem, ⟨2, _⟩ => ⟨S1x512x1024, .f32⟩
  | .local _ .vmem, ⟨3, _⟩ => ⟨S1x512x1024, .f32⟩
  | .local _ .vmem, ⟨4, _⟩ => ⟨S512x1024, .f32⟩
  | .local _ .vmem, ⟨5, _⟩ => ⟨S512x1024, .f32⟩
  | .local _ .vmem, ⟨6, _⟩ => ⟨S1x512x1024, .bf16⟩
  | .local _ .vmem, ⟨7, _⟩ => ⟨S1x512x1024, .bf16⟩
  | .local _ .smem, ⟨0, _⟩ => ⟨S2, .i32⟩
  | _, _ => ⟨S4x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_v0_0 : Ref sig .tc := ⟨.hbm, 2, rfl⟩
abbrev main_v0_1 : Ref sig .tc := ⟨.hbm, 3, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 4], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_cond1 (i : grid0.Coords) : BitVec 1 :=
  let arg1 : BitVec 32 := BitVec.ofNat 32 (i 1).val
  let c0_i32 : BitVec 32 := 0#32
  let v5 : BitVec 1 := Scalar.cmpi .eq arg1 c0_i32
  let v6 : BitVec 32 := Scalar.extui v5
  let c0_i32_5 : BitVec 32 := 0#32
  let v7 : BitVec 1 := Scalar.cmpi .ne v6 c0_i32_5
  v7

def k0_cond2 (i : grid0.Coords) : BitVec 1 :=
  let arg1 : BitVec 32 := BitVec.ofNat 32 (i 1).val
  let c0_i32_6 : BitVec 32 := 0#32
  let v8 : BitVec 1 := Scalar.cmpi .sgt arg1 c0_i32_6
  let v9 : BitVec 32 := Scalar.extui v8
  let c0_i32_7 : BitVec 32 := 0#32
  let v10 : BitVec 1 := Scalar.cmpi .ne v9 c0_i32_7
  v10

def cc0_transform_0 (inb_S2_S1_0 : ∀ a, (![0] : Fin 1 → Nat) a + S1.size a ≤ S2.size a) (numel1_S1 : S1.numel = 1) (inb_S2_S1_1 : ∀ a, (![1] : Fin 1 → Nat) a + S1.size a ≤ S2.size a) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S2) ![0] S1.size inb_S2_S1_0) numel1_S1
  let v1 : BitVec 32 := Scalar.xori v0 arg1
  let c1 : Index := 1#32
  let v2 : BitVec 32 := pf.at 0 (Rect.unit (s := S2) ![1] S1.size inb_S2_S1_1) numel1_S1
  let c0_i32 : BitVec 32 := 0#32
  let v3 : BitVec 32 := Scalar.muli v2 c0_i32
  let v4 : BitVec 32 := Scalar.addi v3 arg0
  let c0_i32_0 : BitVec 32 := 0#32
  let c0_i32_1 : BitVec 32 := 0#32
  ![v1.toNat, v4.toNat, c0_i32_0.toNat]

def cc0_transform_1 (inb_S2_S1_0 : ∀ a, (![0] : Fin 1 → Nat) a + S1.size a ≤ S2.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S2) ![0] S1.size inb_S2_S1_0) numel1_S1
  let v1 : BitVec 32 := Scalar.xori v0 arg1
  let c0_i32 : BitVec 32 := 0#32
  let c0_i32_0 : BitVec 32 := 0#32
  ![v1.toNat, arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![v1.toNat, arg0.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== PairInReferenceIdeal.lean ====
abbrev S2 : Shape := ⟨1, ![2]⟩
abbrev S4x1024x1024 : Shape := ⟨3, ![4, 1024, 1024]⟩
abbrev S1 : Shape := ⟨1, ![1]⟩
abbrev S_ : Shape := ⟨0, ![]⟩
abbrev S1x1024x1024 : Shape := ⟨3, ![1, 1024, 1024]⟩
abbrev S1024x1024 : Shape := ⟨2, ![1024, 1024]⟩
abbrev S3x1024x1024 : Shape := ⟨3, ![3, 1024, 1024]⟩

abbrev nBuf : Space → Nat
  | .hbm => 91
  | .vmem => 0
  | .smem => 0
  | _ => 0

abbrev bufTy : (tb : Table) → Fin (tcTables nBuf tb) → BufTy
  | .hbm, ⟨0, _⟩ => ⟨S2, .i32⟩
  | .hbm, ⟨1, _⟩ => ⟨S4x1024x1024, .f32⟩
  | .hbm, ⟨2, _⟩ => ⟨S4x1024x1024, .f32⟩
  | .hbm, ⟨3, _⟩ => ⟨S4x1024x1024, .f32⟩
  | .hbm, ⟨4, _⟩ => ⟨S1, .i32⟩
  | .hbm, ⟨5, _⟩ => ⟨S_, .i32⟩
  | .hbm, ⟨6, _⟩ => ⟨S_, .i32⟩
  | .hbm, ⟨7, _⟩ => ⟨S_, .i1⟩
  | .hbm, ⟨8, _⟩ => ⟨S1x1024x1024, .f32⟩
  | .hbm, ⟨9, _⟩ => ⟨S1024x1024, .f32⟩
  | .hbm, ⟨10, _⟩ => ⟨S_, .i32⟩
  | .hbm, ⟨11, _⟩ => ⟨S_, .i1⟩
  | .hbm, ⟨12, _⟩ => ⟨S1x1024x1024, .f32⟩
  | .hbm, ⟨13, _⟩ => ⟨S1024x1024, .f32⟩
  | .hbm, ⟨14, _⟩ => ⟨S_, .i32⟩
  | .hbm, ⟨15, _⟩ => ⟨S_, .i1⟩
  | .hbm, ⟨16, _⟩ => ⟨S1x1024x1024, .f32⟩
  | .hbm, ⟨17, _⟩ => ⟨S1024x1024, .f32⟩
  | .hbm, ⟨18, _⟩ => ⟨S1x1024x1024, .f32⟩
  | .hbm, ⟨19, _⟩ => ⟨S1024x1024, .f32⟩
  | .hbm, ⟨20, _⟩ => ⟨S1024x1024, .f32⟩
  | .hbm, ⟨21, _⟩ => ⟨S1024x1024, .f32⟩
  | .hbm, ⟨22, _⟩ => ⟨S1024x1024, .f32⟩
  | .hbm, ⟨23, _⟩ => ⟨S1, .i32⟩
  | .hbm, ⟨24, _⟩ => ⟨S_, .i32⟩
  | .hbm, ⟨25, _⟩ => ⟨S_, .i32⟩
  | .hbm, ⟨26, _⟩ => ⟨S_, .i32⟩
  | .hbm, ⟨27, _⟩ => ⟨S_, .i32⟩
  | .hbm, ⟨28, _⟩ => ⟨S_, .i1⟩
  | .hbm, ⟨29, _⟩ => ⟨S1x1024x1024, .f32⟩
  | .hbm, ⟨30, _⟩ => ⟨S1024x1024, .f32⟩
  | .hbm, ⟨31, _⟩ => ⟨S_, .i32⟩
  | .hbm, ⟨32, _⟩ => ⟨S_, .i1⟩
  | .hbm, ⟨33, _⟩ => ⟨S1x1024x1024, .f32⟩
  | .hbm, ⟨34, _⟩ => ⟨S1024x1024, .f32⟩
  | .hbm, ⟨35, _⟩ => ⟨S_, .i32⟩
  | .hbm, ⟨36, _⟩ => ⟨S_, .i1⟩
  | .hbm, ⟨37, _⟩ => ⟨S1x1024x1024, .f32⟩
  | .hbm, ⟨38, _⟩ => ⟨S1024x1024, .f32⟩
  | .hbm, ⟨39, _⟩ => ⟨S1x1024x1024, .f32⟩
  | .hbm, ⟨40, _⟩ => ⟨S1024x1024, .f32⟩
  | .hbm, ⟨41, _⟩ => ⟨S1024x1024, .f32⟩
  | .hbm, ⟨42, _⟩ => ⟨S1024x1024, .f32⟩
  | .hbm, ⟨43, _⟩ => ⟨S1024x1024, .f32⟩
  | .hbm, ⟨44, _⟩ => ⟨S1, .i32⟩
  | .hbm, ⟨45, _⟩ => ⟨S_, .i32⟩
  | .hbm, ⟨46, _⟩ => ⟨S_, .i32⟩
  | .hbm, ⟨47, _⟩ => ⟨S_, .i32⟩
  | .hbm, ⟨48, _⟩ => ⟨S_, .i32⟩
  | .hbm, ⟨49, _⟩ => ⟨S_, .i1⟩
  | .hbm, ⟨50, _⟩ => ⟨S1x1024x1024, .f32⟩
  | .hbm, ⟨51, _⟩ => ⟨S1024x1024, .f32⟩
  | .hbm, ⟨52, _⟩ => ⟨S_, .i32⟩
  | .hbm, ⟨53, _⟩ => ⟨S_, .i1⟩
  | .hbm, ⟨54, _⟩ => ⟨S1x1024x1024, .f32⟩
  | .hbm, ⟨55, _⟩ => ⟨S1024x1024, .f32⟩
  | .hbm, ⟨56, _⟩ => ⟨S_, .i32⟩
  | .hbm, ⟨57, _⟩ => ⟨S_, .i1⟩
  | .hbm, ⟨58, _⟩ => ⟨S1x1024x1024, .f32⟩
  | .hbm, ⟨59, _⟩ => ⟨S1024x1024, .f32⟩
  | .hbm, ⟨60, _⟩ => ⟨S1x1024x1024, .f32⟩
  | .hbm, ⟨61, _⟩ => ⟨S1024x1024, .f32⟩
  | .hbm, ⟨62, _⟩ => ⟨S1024x1024, .f32⟩
  | .hbm, ⟨63, _⟩ => ⟨S1024x1024, .f32⟩
  | .hbm, ⟨64, _⟩ => ⟨S1024x1024, .f32⟩
  | .hbm, ⟨65, _⟩ => ⟨S1, .i32⟩
  | .hbm, ⟨66, _⟩ => ⟨S_, .i32⟩
  | .hbm, ⟨67, _⟩ => ⟨S_, .i32⟩
  | .hbm, ⟨68, _⟩ => ⟨S_, .i32⟩
  | .hbm, ⟨69, _⟩ => ⟨S_, .i32⟩
  | .hbm, ⟨70, _⟩ => ⟨S_, .i1⟩
  | .hbm, ⟨71, _⟩ => ⟨S1x1024x1024, .f32⟩
  | .hbm, ⟨72, _⟩ => ⟨S1024x1024, .f32⟩
  | .hbm, ⟨73, _⟩ => ⟨S_, .i32⟩
  | .hbm, ⟨74, _⟩ => ⟨S_, .i1⟩
  | .hbm, ⟨75, _⟩ => ⟨S1x1024x1024, .f32⟩
  | .hbm, ⟨76, _⟩ => ⟨S1024x1024, .f32⟩
  | .hbm, ⟨77, _⟩ => ⟨S_, .i32⟩
  | .hbm, ⟨78, _⟩ => ⟨S_, .i1⟩
  | .hbm, ⟨79, _⟩ => ⟨S1x1024x1024, .f32⟩
  | .hbm, ⟨80, _⟩ => ⟨S1024x1024, .f32⟩
  | .hbm, ⟨81, _⟩ => ⟨S1x1024x1024, .f32⟩
  | .hbm, ⟨82, _⟩ => ⟨S1024x1024, .f32⟩
  | .hbm, ⟨83, _⟩ => ⟨S1024x1024, .f32⟩
  | .hbm, ⟨84, _⟩ => ⟨S1024x1024, .f32⟩
  | .hbm, ⟨85, _⟩ => ⟨S1024x1024, .f32⟩
  | .hbm, ⟨86, _⟩ => ⟨S1x1024x1024, .f32⟩
  | .hbm, ⟨87, _⟩ => ⟨S1x1024x1024, .f32⟩
  | .hbm, ⟨88, _⟩ => ⟨S1x1024x1024, .f32⟩
  | .hbm, ⟨89, _⟩ => ⟨S3x1024x1024, .f32⟩
  | .hbm, ⟨90, _⟩ => ⟨S3x1024x1024, .bf16⟩
  | _, _ => ⟨S2, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_c_2 : Ref sig .tc := ⟨.hbm, 25, rfl⟩
abbrev main_v19 : Ref sig .tc := ⟨.hbm, 26, rfl⟩
abbrev main_c_3 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_c_4 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_c_5 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_c_6 : Ref sig .tc := ⟨.hbm, 46, rfl⟩
abbrev main_v36 : Ref sig .tc := ⟨.hbm, 47, rfl⟩
abbrev main_c_7 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_c_8 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_c_9 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_c_10 : Ref sig .tc := ⟨.hbm, 67, rfl⟩
abbrev main_v53 : Ref sig .tc := ⟨.hbm, 68, rfl⟩
abbrev main_c_11 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_c_12 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_c_13 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩

abbrev nD : Nat := 1
abbrev τ : Topo := Topo.v7x

variable {F : FTy → Type} [FloatOps F]
-- ==== Proof.Consts.lean ====
/-
  The float constants the programs carry, as real numbers.
-/
module

public import proofs.«01_k».proof.KernelIdeal
public import proofs.«01_k».proof.ReferenceIdeal
public import Idealize.ShloMosaic.PureOps.Ideal.Laws
public import Idealize.ShloMosaic.PureOps.IdealRules
public import Idealize.ShloMosaic.Lib.IdealHost

@[expose] public section

namespace Cert.Gmlp

open Idealize.ShloMosaic

/-- The factor of the tanh form of gelu, `√(2/π)` rounded to f32: the pattern both programs carry. -/
noncomputable def c0 : ℝ := 6693141 / 8388608
/-- The cubic coefficient `0.044715`, which both programs name. -/
noncomputable def c1 : ℝ := 8943 / 200000
/-- The layer norm's epsilon, `1e-6` rounded to f32. -/
noncomputable def eps : ℝ := 8796093 / 8796093022208

theorem eps_pos : 0 < eps := by unfold eps; norm_num

theorem ofBits_c0 : Ideal.ofBits .f32 0x3F4C422A#32 = ((c0 : ℝ) : EReal) := by
  simp [Ideal.ofBits, Ideal.ieee, c0, -EReal.coe_mul]; norm_num
theorem ofBits_eps : Ideal.ofBits .f32 0x358637BD#32 = ((eps : ℝ) : EReal) := by
  simp [Ideal.ofBits, Ideal.ieee, eps, -EReal.coe_mul]; norm_num
theorem ofBits_half : Ideal.ofBits .f32 0x3F000000#32 = ((1 / 2 : ℝ) : EReal) := by
  simp [Ideal.ofBits, Ideal.ieee, -EReal.coe_mul]; norm_num
theorem ofBits_one : Ideal.ofBits .f32 0x3F800000#32 = ((1 : ℝ) : EReal) := by
  simp
theorem ofBits_zero : Ideal.ofBits .f32 0x00000000#32 = ((0 : ℝ) : EReal) := by
  simp
theorem ofBits_1024 : Ideal.ofBits .f32 0x44800000#32 = ((1024 : ℝ) : EReal) := by
  simp [Ideal.ofBits, Ideal.ieee, -EReal.coe_mul]; norm_num
theorem ofBits_44715 : Ideal.ofBits .f32 0x472EAB00#32 = ((44715 : ℝ) : EReal) := by
  simp [Ideal.ofBits, Ideal.ieee, -EReal.coe_mul]; norm_num
theorem ofBits_million : Ideal.ofBits .f32 0x49742400#32 = ((1000000 : ℝ) : EReal) := by
  simp [Ideal.ofBits, Ideal.ieee, -EReal.coe_mul]; norm_num
theorem ofBits_two : Ideal.ofBits .f32 0x40000000#32 = ((2 : ℝ) : EReal) := by
  simp [Ideal.ofBits, Ideal.ieee, -EReal.coe_mul]; norm_num
theorem ofBits_neg_half : Ideal.ofBits .f32 0xBF000000#32 = ((-(1 / 2) : ℝ) : EReal) := by
  simp [Ideal.ofBits, Ideal.ieee, -EReal.coe_mul]; norm_num
theorem ofBits_inv_1024 : Ideal.ofBits .f32 0x3A800000#32 = ((1 / 1024 : ℝ) : EReal) := by
  simp [Ideal.ofBits, Ideal.ieee, -EReal.coe_mul]; norm_num
theorem ofBits_inv_2048 : Ideal.ofBits .f32 0x3A000000#32 = ((1 / 2048 : ℝ) : EReal) := by
  simp [Ideal.ofBits, Ideal.ieee, -EReal.coe_mul]; norm_num
theorem ofBits_inf : Ideal.ofBits .f32 0x7F800000#32 = ⊤ := by
  simp [Ideal.ofBits, Ideal.ieee]
theorem ofBits_inf_bf16 : Ideal.ofBits .bf16 0x7F80#16 = ⊤ := by
  simp [Ideal.ofBits, Ideal.ieee]

theorem named_c1_kernel : Named.named (F := Ideal) Cert.KernelIdeal.κ "c1" (φ := .f32) 0x3D372713#32 = ((c1 : ℝ) : EReal) :=
  IdealRules.named_const.ideal_named_scalar _ _ _ _ rfl
theorem named_c3_kernel : Named.named (F := Ideal) Cert.KernelIdeal.κ "c3" (φ := .f32) 0x3E095D4F#32 = ((3 * c1 : ℝ) : EReal) := by
  rw [IdealRules.named_const.ideal_named_scalar _ "c3" _ ((26829 / 200000 : ℝ) : EReal) rfl]; unfold c1; norm_num

end Cert.Gmlp
-- ==== Proof.Spec.lean ====
/-
  The gradient of the gated branch, in real numbers: one formula per array, as functions of natural-number indices, of
  the real inputs gathered in `Inp`. Rows are tokens; the spatial mix works inside tiles of 128 rows and inside groups
  of 128 columns.
-/
module

public import proofs.«01_k».proof.Proof.Consts

@[expose] public section

namespace Cert.Gmlp

open scoped BigOperators

/-- The real inputs: the gradient of the branch's output, the output projection, the two halves of the projection, the
    layer norm's scale and shift, the masked mixing weights `w group row column`, and the bias `b row group`. -/
structure Inp where
  dya : ℕ → ℕ → ℝ
  wa : ℕ → ℕ → ℝ
  u : ℕ → ℕ → ℝ
  v : ℕ → ℕ → ℝ
  lg : ℕ → ℝ
  lb : ℕ → ℝ
  w : ℕ → ℕ → ℕ → ℝ
  b : ℕ → ℕ → ℝ

/-- The tanh of the gelu's argument. -/
noncomputable def th (x : ℝ) : ℝ := Real.tanh (c0 * (x + c1 * x * x * x))
/-- Gelu, tanh form. -/
noncomputable def gelu (x : ℝ) : ℝ := 1 / 2 * x * (1 + th x)
/-- Its derivative. -/
noncomputable def dgelu (x : ℝ) : ℝ :=
  1 / 2 * (1 + th x) + 1 / 2 * x * (1 - th x * th x) * (c0 * (1 + 3 * c1 * x * x))

namespace Inp
variable (p : Inp)

/-- The mean of a row of `gelu v`. -/
noncomputable def mu (r : ℕ) : ℝ := (∑ k ∈ Finset.range 1024, gelu (p.v r k)) / 1024
noncomputable def xc (r e : ℕ) : ℝ := gelu (p.v r e) - p.mu r
noncomputable def var (r : ℕ) : ℝ := (∑ k ∈ Finset.range 1024, p.xc r k * p.xc r k) / 1024
/-- The reciprocal of the row's deviation. -/
noncomputable def rs (r : ℕ) : ℝ := (√(p.var r + eps))⁻¹
/-- The normalised row. -/
noncomputable def vh (r e : ℕ) : ℝ := p.xc r e * p.rs r
/-- The layer norm's value. -/
noncomputable def vn (r e : ℕ) : ℝ := p.vh r e * p.lg e + p.lb e
/-- The gradient of the gated product. -/
noncomputable def da (r e : ℕ) : ℝ := ∑ k ∈ Finset.range 1024, p.dya r k * p.wa e k
/-- The mixed rows. -/
noncomputable def mixed (r e : ℕ) : ℝ :=
  ∑ s ∈ Finset.range 128, p.w (e / 128) (r % 128) s * p.vn (128 * (r / 128) + s) e + p.b (r % 128) (e / 128)
/-- The gradient of the mixed rows. -/
noncomputable def dmx (r e : ℕ) : ℝ := p.da r e * gelu (p.u r e)
/-- The gradient of the first half of the projection. -/
noncomputable def du (r e : ℕ) : ℝ := p.da r e * p.mixed r e * dgelu (p.u r e)
/-- The gradient of the layer norm's value. -/
noncomputable def dvn (r e : ℕ) : ℝ :=
  ∑ i ∈ Finset.range 128, p.w (e / 128) i (r % 128) * p.dmx (128 * (r / 128) + i) e
noncomputable def dvh (r e : ℕ) : ℝ := p.dvn r e * p.lg e
/-- The gradient of `gelu v`, through the layer norm. -/
noncomputable def dgv (r e : ℕ) : ℝ :=
  p.rs r * (p.dvh r e - (∑ k ∈ Finset.range 1024, p.dvh r k) / 1024
    - p.vh r e * ((∑ k ∈ Finset.range 1024, p.dvh r k * p.vh r k) / 1024))
/-- The gradient of the second half of the projection. -/
noncomputable def dv (r e : ℕ) : ℝ := p.dgv r e * dgelu (p.v r e)
/-- The gradient of the mixing weights over the first `n` tiles, group by group along the columns. -/
noncomputable def dw (n i e : ℕ) : ℝ :=
  ∑ k ∈ Finset.range n, ∑ d ∈ Finset.range 128,
    p.dmx (128 * k + i) (128 * (e / 128) + d) * p.vn (128 * k + e % 128) (128 * (e / 128) + d)
/-- The gradient of the bias over the first `n` tiles, before the sum over the columns of a group. -/
noncomputable def db (n i e : ℕ) : ℝ := ∑ k ∈ Finset.range n, p.dmx (128 * k + i) e
/-- The gradient of the layer norm's scale over the first `n` runs of 8 rows. -/
noncomputable def dlg (n r e : ℕ) : ℝ := ∑ q ∈ Finset.range n, p.dvn (q * 8 + r) e * p.vh (q * 8 + r) e
/-- The gradient of the layer norm's shift over the first `n` runs of 8 rows. -/
noncomputable def dlb (n r e : ℕ) : ℝ := ∑ q ∈ Finset.range n, p.dvn (q * 8 + r) e

/-- The inputs seen from row `256 t` on: block `t`. -/
def at_ (t : ℕ) : Inp :=
  { p with dya := fun r => p.dya (256 * t + r), u := fun r => p.u (256 * t + r), v := fun r => p.v (256 * t + r) }

theorem at_mu (t r : ℕ) : (p.at_ t).mu r = p.mu (256 * t + r) := rfl
theorem at_vh (t r e : ℕ) : (p.at_ t).vh r e = p.vh (256 * t + r) e := rfl
theorem at_vn (t r e : ℕ) : (p.at_ t).vn r e = p.vn (256 * t + r) e := rfl
theorem at_rs (t r : ℕ) : (p.at_ t).rs r = p.rs (256 * t + r) := rfl
theorem at_da (t r e : ℕ) : (p.at_ t).da r e = p.da (256 * t + r) e := rfl
theorem at_dmx (t r e : ℕ) : (p.at_ t).dmx r e = p.dmx (256 * t + r) e := rfl

theorem tile_mod (t r : ℕ) : (256 * t + r) % 128 = r % 128 := by omega
theorem tile_div (t r : ℕ) : 128 * ((256 * t + r) / 128) = 256 * t + 128 * (r / 128) := by omega

theorem at_mixed (t r e : ℕ) : (p.at_ t).mixed r e = p.mixed (256 * t + r) e := by
  unfold mixed; rw [tile_mod, tile_div]; simp only [at_vn, Nat.add_assoc]; rfl
theorem at_dvn (t r e : ℕ) : (p.at_ t).dvn r e = p.dvn (256 * t + r) e := by
  unfold dvn; rw [tile_mod, tile_div]; simp only [at_dmx, Nat.add_assoc]; rfl
theorem at_du (t r e : ℕ) : (p.at_ t).du r e = p.du (256 * t + r) e := by
  unfold du; rw [at_da, at_mixed]; rfl
theorem at_dvh (t r e : ℕ) : (p.at_ t).dvh r e = p.dvh (256 * t + r) e := by
  unfold dvh; rw [at_dvn]; rfl
theorem at_dgv (t r e : ℕ) : (p.at_ t).dgv r e = p.dgv (256 * t + r) e := by
  unfold dgv; simp only [at_dvh, at_vh, at_rs]
theorem at_dv (t r e : ℕ) : (p.at_ t).dv r e = p.dv (256 * t + r) e := by
  unfold dv; rw [at_dgv]; rfl

/-- The tiles up to block `t`, then block `t`'s two. -/
theorem dw_step (t i e : ℕ) : p.dw (2 * t) i e + (p.at_ t).dw 2 i e = p.dw (2 * (t + 1)) i e := by
  unfold dw
  rw [Nat.mul_add, Finset.sum_range_add]
  refine congrArg _ (Finset.sum_congr rfl fun k _ => Finset.sum_congr rfl fun d _ => ?_)
  rw [at_dmx, at_vn]
  congr 2 <;> ring
theorem db_step (t i e : ℕ) : p.db (2 * t) i e + (p.at_ t).db 2 i e = p.db (2 * (t + 1)) i e := by
  unfold db
  rw [Nat.mul_add, Finset.sum_range_add]
  refine congrArg _ (Finset.sum_congr rfl fun k _ => ?_)
  rw [at_dmx]
  congr 1; ring
theorem dlg_step (t r e : ℕ) : p.dlg (32 * t) r e + (p.at_ t).dlg 32 r e = p.dlg (32 * (t + 1)) r e := by
  unfold dlg
  rw [Nat.mul_add, Finset.sum_range_add]
  refine congrArg _ (Finset.sum_congr rfl fun k _ => ?_)
  rw [at_dvn, at_vh]
  congr 2 <;> ring
theorem dlb_step (t r e : ℕ) : p.dlb (32 * t) r e + (p.at_ t).dlb 32 r e = p.dlb (32 * (t + 1)) r e := by
  unfold dlb
  rw [Nat.mul_add, Finset.sum_range_add]
  refine congrArg _ (Finset.sum_congr rfl fun k _ => ?_)
  rw [at_dvn]
  congr 1; ring

end Inp
end Cert.Gmlp
-- ==== Proof.Arr.lean ====
/-
  Arrays of extended reals that hold real numbers. `Is2 x f` says that the rank-2 array `x` holds the real `f r c` at
  every index `(r, c)`; `f` is a function of natural numbers, so that a block of an array is the same function with its
  arguments shifted. One lemma per operation says what it makes of such arrays.
-/
module

public import proofs.«01_k».proof.Proof.Consts
public import Idealize.ShloMosaic.Lib.MatmulPlain
public import Idealize.ShloMosaic.Lib.ValueIdx
public import Idealize.ShloMosaic.Lib.ValueLayout
public import Idealize.ShloMosaic.Lib.Pipeline.Value
public import Idealize.ShloMosaic.Lib.Pointwise

@[expose] public section

namespace Cert.Gmlp

open Idealize.ShloMosaic
open scoped BigOperators

variable {φ : FTy} {a b d : ℕ}

/-- The array holds the real `f r` at index `r`. -/
def Is1 (x : FVec Ideal ⟨1, ![a]⟩ φ) (f : ℕ → ℝ) : Prop := ∀ r : Fin a, x (ix1 r) = ((f r : ℝ) : EReal)
/-- The array holds the real `f r c` at index `(r, c)`. -/
def Is2 (x : FVec Ideal ⟨2, ![a, b]⟩ φ) (f : ℕ → ℕ → ℝ) : Prop :=
  ∀ (r : Fin a) (c : Fin b), x (ix2 r c) = ((f r c : ℝ) : EReal)
/-- The array holds the real `f k r c` at index `(k, r, c)`. -/
def Is3 (x : FVec Ideal ⟨3, ![a, b, d]⟩ φ) (f : ℕ → ℕ → ℕ → ℝ) : Prop :=
  ∀ (k : Fin a) (r : Fin b) (c : Fin d), x (ix3 k r c) = ((f k r c : ℝ) : EReal)

/-- A finite sum of reals, taken among the extended reals. -/
theorem coe_sum {ι : Type} (s : Finset ι) (f : ι → ℝ) : ((∑ k ∈ s, f k : ℝ) : EReal) = ∑ k ∈ s, ((f k : ℝ) : EReal) := by
  classical
  induction s using Finset.induction_on with
  | empty => simp
  | insert i s hi ih => rw [Finset.sum_insert hi, Finset.sum_insert hi, EReal.coe_add, ih]

theorem sum_fin {n : ℕ} (g : Fin n → EReal) (f : ℕ → ℝ) (h : ∀ k : Fin n, g k = ((f k : ℝ) : EReal)) :
    ∑ k : Fin n, g k = ((∑ k ∈ Finset.range n, f k : ℝ) : EReal) := by
  rw [coe_sum, Finset.sum_range]; exact Finset.sum_congr rfl fun k _ => h k

namespace Is2

variable {x y : FVec Ideal ⟨2, ![a, b]⟩ φ} {f g : ℕ → ℕ → ℝ}

/-- Only the values inside the extents matter. -/
theorem congr (h : Is2 x f) (e : ∀ r c, r < a → c < b → f r c = g r c) : Is2 x g :=
  fun r c => by rw [h r c, e r c r.isLt c.isLt]

theorem addf (hx : Is2 x f) (hy : Is2 y g) : Is2 (Idealize.ShloMosaic.addf x y) (fun r c => f r c + g r c) :=
  fun r c => by
    show FloatOps.addf (x (ix2 r c)) (y (ix2 r c)) = _
    rw [hx r c, hy r c, Ideal.addf_def, EReal.coe_add]
theorem subf (hx : Is2 x f) (hy : Is2 y g) : Is2 (Idealize.ShloMosaic.subf x y) (fun r c => f r c - g r c) :=
  fun r c => by
    show FloatOps.subf (x (ix2 r c)) (y (ix2 r c)) = _
    rw [hx r c, hy r c, Ideal.subf_def, EReal.coe_sub]
theorem mulf (hx : Is2 x f) (hy : Is2 y g) : Is2 (Idealize.ShloMosaic.mulf x y) (fun r c => f r c * g r c) :=
  fun r c => by
    show FloatOps.mulf (x (ix2 r c)) (y (ix2 r c)) = _
    rw [hx r c, hy r c, Ideal.mulf_def, EReal.coe_mul]
theorem divf (hx : Is2 x f) (hy : Is2 y g) (h0 : ∀ r c, g r c ≠ 0) :
    Is2 (Idealize.ShloMosaic.divf x y) (fun r c => f r c / g r c) :=
  fun r c => by
    show FloatOps.divf (x (ix2 r c)) (y (ix2 r c)) = _
    rw [hx r c, hy r c, Ideal.divf_def, Ideal.div_coe (h0 r c), ← EReal.coe_mul, mul_one_div]
theorem tanh (hx : Is2 x f) : Is2 (Idealize.ShloMosaic.tanh x) (fun r c => Real.tanh (f r c)) :=
  fun r c => by
    show FloatOps.tanh (x (ix2 r c)) = _
    rw [hx r c]; exact Ideal.tanh_coe _
theorem rsqrt (hx : Is2 x f) (h0 : ∀ r c, 0 < f r c) : Is2 (Idealize.ShloMosaic.rsqrt x) (fun r c => (√(f r c))⁻¹) :=
  fun r c => by
    show FloatOps.rsqrt (x (ix2 r c)) = _
    rw [hx r c]
    refine (Ideal.rsqrt_coe _).trans ?_
    rw [if_neg (h0 r c).le.not_gt, if_neg (h0 r c).ne']
theorem truncf (ψ : FTy) (hx : Is2 x f) (h : ψ.bits < φ.bits) : Is2 (Idealize.ShloMosaic.truncf ψ x h) f :=
  fun r c => hx r c

/-- A splat of one real. -/
theorem splat {v : Ideal φ} {z : ℝ} (h : v = ((z : ℝ) : EReal)) :
    Is2 (broadcast (⟨2, ![a, b]⟩ : Shape) v : FVec Ideal ⟨2, ![a, b]⟩ φ) (fun _ _ => z) :=
  fun _ _ => h

/-- A block at unit strides. -/
theorem slice {a' b' o p : ℕ} (hx : Is2 x f) (h : (⟨2, ![a, b]⟩ : Shape).Slices ![o, p] ⟨2, ![a', b']⟩) :
    Is2 (φ := φ) (extractStridedSlice ⟨2, ![a', b']⟩ ![o, p] x h) (fun r c => f (o + r) (p + c)) := by
  intro r c
  have h0 : o + a' ≤ a := h.2 0
  have h1 : p + b' ≤ b := h.2 1
  rw [extractStridedSlice_apply ![o, p] x h (ix2 r c) (ix2 ⟨o + r, by omega⟩ ⟨p + c, by omega⟩)
    (fun k => match k with | ⟨0, _⟩ => rfl | ⟨1, _⟩ => rfl)]
  exact hx _ _

/-- A cast to the same shape. -/
theorem cast (hx : Is2 x f) (h : (⟨2, ![a, b]⟩ : Shape).ShapeCasts ⟨2, ![a, b]⟩) :
    Is2 (φ := φ) (shapeCast ⟨2, ![a, b]⟩ x h) f := by
  rw [shapeCast_self]; exact hx

/-- A leading unit axis added. -/
theorem addUnit (hx : Is2 x f) (h : (⟨2, ![a, b]⟩ : Shape).ShapeCasts ⟨3, ![1, a, b]⟩) :
    Is3 (φ := φ) (shapeCast ⟨3, ![1, a, b]⟩ x h) (fun _ => f) := by
  intro k r c
  obtain rfl : k = 0 := Subsingleton.elim _ _
  rw [shapeCast_apply x h (ix3 0 r c) (ix2 r c) (by
    rw [Shape.rowMajor_val_two, Shape.rowMajor_val_three]; show r.val * b + c.val = (0 * a + r.val) * b + c.val; rw [Nat.zero_mul, Nat.zero_add])]
  exact hx r c

/-- A row of the columns repeated down the rows. -/
theorem rowBcast {x : FVec Ideal ⟨2, ![1, b]⟩ φ} (hx : Is2 x f) (hb : b ≠ 1)
    (h : (⟨2, ![1, b]⟩ : Shape).Broadcasts ⟨2, ![a, b]⟩) :
    Is2 (φ := φ) (broadcastTo ⟨2, ![a, b]⟩ x h) (fun _ c => f 0 c) := by
  intro r c
  rw [broadcastTo_apply x h (ix2 r c) (ix2 0 c) (fun k => match k with
    | ⟨0, _⟩ => by show 0 = if (1 : ℕ) = 1 then 0 else _; rw [if_pos rfl]
    | ⟨1, _⟩ => by show c.val = if b = 1 then 0 else c.val; rw [if_neg hb])]
  exact hx 0 c

/-- A column repeated along the columns. -/
theorem colBcast {x : FVec Ideal ⟨2, ![a, 1]⟩ φ} (hx : Is2 x f) (ha : a ≠ 1)
    (h : (⟨2, ![a, 1]⟩ : Shape).Broadcasts ⟨2, ![a, b]⟩) :
    Is2 (φ := φ) (broadcastTo ⟨2, ![a, b]⟩ x h) (fun r _ => f r 0) := by
  intro r c
  rw [broadcastTo_apply x h (ix2 r c) (ix2 r 0) (fun k => match k with
    | ⟨0, _⟩ => by show r.val = if a = 1 then 0 else r.val; rw [if_neg ha]
    | ⟨1, _⟩ => by show 0 = if (1 : ℕ) = 1 then 0 else _; rw [if_pos rfl])]
  exact hx r 0

/-- Two arrays side by side. -/
theorem beside {b₁ b₂ : ℕ} {x : FVec Ideal ⟨2, ![a, b₁]⟩ φ} {y : FVec Ideal ⟨2, ![a, b₂]⟩ φ} (hx : Is2 x f) (hy : Is2 y g)
    (h : Shape.Concatenates [(⟨2, ![a, b₁]⟩ : Shape), ⟨2, ![a, b₂]⟩] ⟨2, ![a, b]⟩ 1) :
    Is2 (φ := φ) (concatenate ⟨2, ![a, b]⟩ 1 [⟨⟨2, ![a, b₁]⟩, x⟩, ⟨⟨2, ![a, b₂]⟩, y⟩] h)
      (fun r c => if c < b₁ then f r c else g r (c - b₁)) := by
  intro r c
  have hb : b₁ + b₂ = b := by have := h.2.2; simpa using this
  by_cases hc : c.val < b₁
  · rw [concatenate_pair_apply_left 1 x y h (ix2 r c) rfl (ix2 r ⟨c, hc⟩)
      (fun k => match k with | ⟨0, _⟩ => rfl | ⟨1, _⟩ => rfl), hx r ⟨c, hc⟩]
    simp only [if_pos hc]
  · rw [concatenate_pair_apply_right 1 x y h (ix2 r c) rfl rfl (ix2 r ⟨c - b₁, by omega⟩)
      (fun k hk => match k, hk with | ⟨0, _⟩, _ => rfl | ⟨1, _⟩, hk => absurd rfl hk)
      (by show c.val - b₁ + b₁ = c.val; omega), hy r ⟨c - b₁, by omega⟩]
    simp only [if_neg hc]

/-- One array above another. -/
theorem above {a₁ a₂ : ℕ} {x : FVec Ideal ⟨2, ![a₁, b]⟩ φ} {y : FVec Ideal ⟨2, ![a₂, b]⟩ φ} (hx : Is2 x f) (hy : Is2 y g)
    (h : Shape.Concatenates [(⟨2, ![a₁, b]⟩ : Shape), ⟨2, ![a₂, b]⟩] ⟨2, ![a, b]⟩ 0) :
    Is2 (φ := φ) (concatenate ⟨2, ![a, b]⟩ 0 [⟨⟨2, ![a₁, b]⟩, x⟩, ⟨⟨2, ![a₂, b]⟩, y⟩] h)
      (fun r c => if r < a₁ then f r c else g (r - a₁) c) := by
  intro r c
  have hb : a₁ + a₂ = a := by have := h.2.2; simpa using this
  by_cases hc : r.val < a₁
  · rw [concatenate_pair_apply_left 0 x y h (ix2 r c) rfl (ix2 ⟨r, hc⟩ c)
      (fun k => match k with | ⟨0, _⟩ => rfl | ⟨1, _⟩ => rfl), hx ⟨r, hc⟩ c]
    simp only [if_pos hc]
  · rw [concatenate_pair_apply_right 0 x y h (ix2 r c) rfl rfl (ix2 ⟨r - a₁, by omega⟩ c)
      (fun k hk => match k, hk with | ⟨1, _⟩, _ => rfl | ⟨0, _⟩, hk => absurd rfl hk)
      (by show r.val - a₁ + a₁ = r.val; omega), hy ⟨r - a₁, by omega⟩ c]
    simp only [if_neg hc]

/-- A product into zero. -/
theorem matmul {φ₁ φ₂ : FTy} {M K N : ℕ} {x : FVec Ideal ⟨2, ![M, K]⟩ φ₁} {y : FVec Ideal ⟨2, ![K, N]⟩ φ₂}
    (hx : Is2 x f) (hy : Is2 y g) (prec : Option ContractPrecision) :
    Is2 (φ := .f32) (FloatOps.matmul (DotDims.plain M K N) prec x y (constant ⟨2, ![M, N]⟩ .f32 0x00000000#32))
      (fun r c => ∑ k ∈ Finset.range K, f r k * g k c) := by
  intro r c
  refine (Ideal.matmul_plain_apply prec x y _ r c).trans ?_
  show Ideal.ofBits .f32 0x00000000#32 + _ = _
  rw [ofBits_zero, EReal.coe_zero, zero_add]
  exact sum_fin _ (fun k => f r k * g k c) fun k => congrArg₂ (· * ·) (hx r k) (hy k c) |>.trans (EReal.coe_mul _ _).symm

/-- A product with the right operand transposed, into zero. -/
theorem matmulT {φ₁ φ₂ : FTy} {M K N : ℕ} {x : FVec Ideal ⟨2, ![M, K]⟩ φ₁} {y : FVec Ideal ⟨2, ![N, K]⟩ φ₂}
    (hx : Is2 x f) (hy : Is2 y g) (prec : Option ContractPrecision) :
    Is2 (φ := .f32) (FloatOps.matmul (DotDims.transposedRhs M K N) prec x y (constant ⟨2, ![M, N]⟩ .f32 0x00000000#32))
      (fun r c => ∑ k ∈ Finset.range K, f r k * g c k) := by
  intro r c
  refine (Ideal.matmul_transposedRhs_apply prec x y _ r c).trans ?_
  show Ideal.ofBits .f32 0x00000000#32 + _ = _
  rw [ofBits_zero, EReal.coe_zero, zero_add]
  exact sum_fin _ (fun k => f r k * g c k) fun k => congrArg₂ (· * ·) (hx r k) (hy c k) |>.trans (EReal.coe_mul _ _).symm

/-- The sum along each row, kept as a column. -/
theorem rowSum {x : FVec Ideal ⟨2, ![a, b]⟩ .f32} (hx : Is2 x f) (h : (⟨2, ![a, b]⟩ : Shape).Reduces [1] ⟨1, ![a]⟩)
    (hφ : FKind.Formats .f32) (hacc : 0x00000000#32 = FKind.add.neutral .f32 hφ)
    (hs : (⟨1, ![a]⟩ : Shape).ShapeCasts ⟨2, ![a, 1]⟩) :
    Is2 (φ := .f32) (shapeCast ⟨2, ![a, 1]⟩ (multiReduction .add [1] ⟨1, ![a]⟩ x 0x00000000#32 h hφ hacc) hs)
      (fun r _ => ∑ k ∈ Finset.range b, f r k) := by
  intro r c
  obtain rfl : c = 0 := Subsingleton.elim _ _
  rw [shapeCast_apply _ hs (ix2 r 0) (ix1 r) (by
    rw [Shape.rowMajor_val_two, Shape.rowMajor_val_one]; show r.val = r.val * 1 + 0; omega)]
  show Ideal.reduceAdd h x (ix1 r) = _
  rw [Ideal.reduceAdd_r2_a1]
  exact sum_fin _ (fun k => f r k) fun k => hx _ k

/-- The rows summed by their number modulo 8. -/
theorem rows8 {q : ℕ} {x : FVec Ideal ⟨2, ![q * 8, b]⟩ .f32} (hx : Is2 x f)
    (hs : (⟨2, ![q * 8, b]⟩ : Shape).ShapeCasts ⟨3, ![q, 8, b]⟩) (h : (⟨3, ![q, 8, b]⟩ : Shape).Reduces [0] ⟨2, ![8, b]⟩)
    (hφ : FKind.Formats .f32) (hacc : 0x00000000#32 = FKind.add.neutral .f32 hφ) :
    Is2 (φ := .f32) (multiReduction .add [0] ⟨2, ![8, b]⟩ (shapeCast ⟨3, ![q, 8, b]⟩ x hs) 0x00000000#32 h hφ hacc)
      (fun r c => ∑ k ∈ Finset.range q, f (k * 8 + r) c) := by
  intro r c
  show Ideal.reduceAdd h (shapeCast ⟨3, ![q, 8, b]⟩ x hs) (ix2 r c) = _
  rw [Ideal.reduceAdd_r3_a0]
  refine sum_fin _ (fun k => f (k * 8 + r) c) fun k => ?_
  have hk := k.isLt
  have hr := r.isLt
  rw [shapeCast_apply x hs _ (ix2 ⟨k.val * 8 + r.val, by omega⟩ c) (by
    rw [Shape.rowMajor_val_two, Shape.rowMajor_val_three]; rfl)]
  exact hx _ c

end Is2

/-- The one block of an array with a leading unit axis. -/
theorem Is3.dropUnit {x : FVec Ideal ⟨3, ![1, a, b]⟩ φ} {f : ℕ → ℕ → ℕ → ℝ} (hx : Is3 x f)
    (h : (⟨3, ![1, a, b]⟩ : Shape).ShapeCasts ⟨2, ![a, b]⟩) : Is2 (φ := φ) (shapeCast ⟨2, ![a, b]⟩ x h) (f 0) := by
  intro r c
  rw [shapeCast_apply x h (ix2 r c) (ix3 0 r c) (by
    rw [Shape.rowMajor_val_two, Shape.rowMajor_val_three]; show (0 * a + r.val) * b + c.val = r.val * b + c.val; rw [Nat.zero_mul, Nat.zero_add])]
  exact hx 0 r c

theorem Is3.congr {x : FVec Ideal ⟨3, ![a, b, d]⟩ φ} {f g : ℕ → ℕ → ℕ → ℝ} (hx : Is3 x f)
    (e : ∀ k r c, k < a → r < b → c < d → f k r c = g k r c) : Is3 x g :=
  fun k r c => by rw [hx k r c, e k r c k.isLt r.isLt c.isLt]

end Cert.Gmlp
-- ==== Proof.Raw.lean ====
/-
  The arguments of the call as arrays of real numbers, and the quantities of the branch that they determine.
-/
module

public import proofs.«01_k».proof.Proof.Spec
public import proofs.«01_k».proof.Proof.Arr

@[expose] public section

namespace Cert.Gmlp

open Idealize.ShloMosaic

/-- The real numbers that the arguments hold, by index. -/
structure Raw where
  dya : ℕ → ℕ → ℝ
  wa : ℕ → ℕ → ℝ
  proj : ℕ → ℕ → ℕ → ℝ
  lg : ℕ → ℝ
  lb : ℕ → ℝ
  ws : ℕ → ℕ → ℕ → ℝ
  bs : ℕ → ℕ → ℝ

/-- The branch's inputs: two of the projections, and the spatial weights with the part above the diagonal cleared. -/
noncomputable def Raw.inp (q : Raw) : Inp where
  dya := q.dya
  wa := q.wa
  u := q.proj 0
  v := q.proj 1
  lg := q.lg
  lb := q.lb
  w := fun g r s => if s ≤ r then q.ws g r s else 0
  b := fun r g => q.bs g r

/-- The arguments (all but the array that the call overwrites in part) hold `q`. -/
structure Reals (q : Raw) (x1 : FVec Ideal ⟨2, ![4096, 1024]⟩ .bf16) (x2 : FVec Ideal ⟨2, ![1024, 1024]⟩ .bf16)
    (x3 : FVec Ideal ⟨3, ![8, 4096, 1024]⟩ .f32) (x4 x5 : FVec Ideal ⟨2, ![1, 1024]⟩ .f32)
    (x6 : FVec Ideal ⟨4, ![1, 8, 128, 128]⟩ .f32) (x7 : FVec Ideal ⟨3, ![1, 8, 128]⟩ .f32) : Prop where
  dya : Is2 x1 q.dya
  wa : Is2 x2 q.wa
  proj : Is3 x3 q.proj
  lg : Is2 x4 (fun _ => q.lg)
  lb : Is2 x5 (fun _ => q.lb)
  ws : ∀ g r s, x6 (ix4 0 g r s) = ((q.ws g.val r.val s.val : ℝ) : EReal)
  bs : Is3 x7 (fun _ => q.bs)

end Cert.Gmlp
-- ==== Proof.HostArr.lean ====
/-
  Arrays of real numbers under the host's operations.
-/
module

public import proofs.«01_k».proof.Proof.Arr
public import Idealize.ShloMosaic.Lib.TwoAxisContraction

@[expose] public section

namespace Cert.Gmlp

open Idealize.ShloMosaic
open scoped BigOperators

variable {φ : FTy} {a b d e : ℕ}

/-- The array holds the real `f j k r c` at index `(j, k, r, c)`. -/
def Is4 (x : FVec Ideal ⟨4, ![a, b, d, e]⟩ φ) (f : ℕ → ℕ → ℕ → ℕ → ℝ) : Prop :=
  ∀ (j : Fin a) (k : Fin b) (r : Fin d) (c : Fin e), x (ix4 j k r c) = ((f j k r c : ℝ) : EReal)

/-- The element at any index, by its coordinates. -/
theorem Is1.at {x : FVec Ideal ⟨1, ![a]⟩ φ} {f : ℕ → ℝ} (h : Is1 x f) (i : (⟨1, ![a]⟩ : Shape).Idx) :
    x i = ((f (i 0).val : ℝ) : EReal) := (congrArg x (ValueIdx.eq_ix1 i)).trans (h (i 0))
theorem Is2.at {x : FVec Ideal ⟨2, ![a, b]⟩ φ} {f : ℕ → ℕ → ℝ} (h : Is2 x f) (i : (⟨2, ![a, b]⟩ : Shape).Idx) :
    x i = ((f (i 0).val (i 1).val : ℝ) : EReal) := (congrArg x (ValueIdx.eq_ix2 i)).trans (h (i 0) (i 1))
theorem Is3.at {x : FVec Ideal ⟨3, ![a, b, d]⟩ φ} {f : ℕ → ℕ → ℕ → ℝ} (h : Is3 x f) (i : (⟨3, ![a, b, d]⟩ : Shape).Idx) :
    x i = ((f (i 0).val (i 1).val (i 2).val : ℝ) : EReal) := (congrArg x (ValueIdx.eq_ix3 i)).trans (h (i 0) (i 1) (i 2))
theorem Is4.at {x : FVec Ideal ⟨4, ![a, b, d, e]⟩ φ} {f : ℕ → ℕ → ℕ → ℕ → ℝ} (h : Is4 x f) (i : (⟨4, ![a, b, d, e]⟩ : Shape).Idx) :
    x i = ((f (i 0).val (i 1).val (i 2).val (i 3).val : ℝ) : EReal) :=
  (congrArg x (ValueIdx.eq_ix4 i)).trans (h (i 0) (i 1) (i 2) (i 3))

/-- A function of natural numbers at equal arguments. -/
theorem arg2 {f : ℕ → ℕ → ℝ} {r c r' c' : ℕ} (hr : r = r') (hc : c = c') : ((f r c : ℝ) : EReal) = ((f r' c' : ℝ) : EReal) := by
  rw [hr, hc]
theorem arg3 {f : ℕ → ℕ → ℕ → ℝ} {k r c k' r' c' : ℕ} (hk : k = k') (hr : r = r') (hc : c = c') :
    ((f k r c : ℝ) : EReal) = ((f k' r' c' : ℝ) : EReal) := by
  rw [hk, hr, hc]
theorem arg4 {f : ℕ → ℕ → ℕ → ℕ → ℝ} {j k r c j' k' r' c' : ℕ} (hj : j = j') (hk : k = k') (hr : r = r') (hc : c = c') :
    ((f j k r c : ℝ) : EReal) = ((f j' k' r' c' : ℝ) : EReal) := by
  rw [hj, hk, hr, hc]

/-- A sum of reals onto zero. -/
theorem zsum {n : ℕ} {z : EReal} (hz : z = ((0 : ℝ) : EReal)) {g : Fin n → EReal} (f : ℕ → ℝ) (h : ∀ k : Fin n, g k = ((f k : ℝ) : EReal)) :
    z + ∑ k : Fin n, g k = ((∑ k ∈ Finset.range n, f k : ℝ) : EReal) := by
  rw [hz, EReal.coe_zero, zero_add]; exact sum_fin g f h

/-- A sum of one term onto zero. -/
theorem zsum1 {z : EReal} (hz : z = ((0 : ℝ) : EReal)) {g : Fin 1 → EReal} {w : ℝ} (h : g 0 = ((w : ℝ) : EReal)) :
    z + ∑ k : Fin 1, g k = ((w : ℝ) : EReal) := by
  rw [hz, EReal.coe_zero, zero_add, Fin.sum_univ_one, h]

section
variable {x y : FVec Ideal ⟨2, ![a, b]⟩ φ} {f g : ℕ → ℕ → ℝ}

/-- The host's quotient. -/
theorem Is2.hdivf (hx : Is2 x f) (hy : Is2 y g) (h0 : ∀ r c, g r c ≠ 0) :
    Is2 (Host.divf x y) (fun r c => f r c / g r c) :=
  fun r c => by
    show FloatOps.hostDivf (x (ix2 r c)) (y (ix2 r c)) = _
    rw [hx r c, hy r c, Ideal.hostDivf_def, Ideal.div_coe (h0 r c), ← EReal.coe_mul, mul_one_div]
theorem Is2.htanh (hx : Is2 x f) : Is2 (Host.tanh x) (fun r c => Real.tanh (f r c)) :=
  fun r c => by
    show FloatOps.hostUnary .tanh (x (ix2 r c)) = _
    rw [hx r c]; exact Ideal.tanh_coe _
theorem Is2.hrsqrt (hx : Is2 x f) (h0 : ∀ r c, 0 < f r c) : Is2 (Host.rsqrt x) (fun r c => (√(f r c))⁻¹) :=
  fun r c => by
    show FloatOps.hostUnary .rsqrt (x (ix2 r c)) = _
    rw [hx r c]
    refine (Ideal.rsqrt_coe _).trans ?_
    rw [if_neg (h0 r c).le.not_gt, if_neg (h0 r c).ne']
theorem Is2.hnegf (hx : Is2 x f) : Is2 (Host.negf x) (fun r c => -f r c) :=
  fun r c => by
    show FloatOps.hostNegf (x (ix2 r c)) = _
    rw [hx r c]; exact (EReal.coe_neg _).symm
/-- A constant over the whole array. -/
theorem Is2.hsplat {w : BitVec φ.bits} {z : ℝ} (h : Ideal.ofBits φ w = ((z : ℝ) : EReal))
    (hb : (⟨0, ![]⟩ : Shape).BroadcastsInDim ⟨2, ![a, b]⟩ ![]) :
    Is2 (φ := φ) (broadcastInDim ⟨2, ![a, b]⟩ ![] hb (constant (F := Ideal) (⟨0, ![]⟩ : Shape) φ w)) (fun _ _ => z) :=
  fun r c => (broadcastInDim_apply _ hb _ (ix2 r c) ix0 (fun k => k.elim0)).trans h
end

/-- Sums and products of rank-3 and rank-4 arrays. -/
theorem Is3.addf {x y : FVec Ideal ⟨3, ![a, b, d]⟩ φ} {f g : ℕ → ℕ → ℕ → ℝ} (hx : Is3 x f) (hy : Is3 y g) :
    Is3 (Idealize.ShloMosaic.addf x y) (fun k r c => f k r c + g k r c) :=
  fun k r c => by
    show FloatOps.addf (x (ix3 k r c)) (y (ix3 k r c)) = _
    rw [hx k r c, hy k r c, Ideal.addf_def, EReal.coe_add]
theorem Is3.mulf {x y : FVec Ideal ⟨3, ![a, b, d]⟩ φ} {f g : ℕ → ℕ → ℕ → ℝ} (hx : Is3 x f) (hy : Is3 y g) :
    Is3 (Idealize.ShloMosaic.mulf x y) (fun k r c => f k r c * g k r c) :=
  fun k r c => by
    show FloatOps.mulf (x (ix3 k r c)) (y (ix3 k r c)) = _
    rw [hx k r c, hy k r c, Ideal.mulf_def, EReal.coe_mul]
theorem Is4.addf {x y : FVec Ideal ⟨4, ![a, b, d, e]⟩ φ} {f g : ℕ → ℕ → ℕ → ℕ → ℝ} (hx : Is4 x f) (hy : Is4 y g) :
    Is4 (Idealize.ShloMosaic.addf x y) (fun j k r c => f j k r c + g j k r c) :=
  fun j k r c => by
    show FloatOps.addf (x (ix4 j k r c)) (y (ix4 j k r c)) = _
    rw [hx j k r c, hy j k r c, Ideal.addf_def, EReal.coe_add]

/-- The lower triangle as the host computes it from two counters. -/
theorem tril_word : ∀ r s : Fin 128,
    Scalar.select (IntOp.cmpi CmpIPredicate.sge (IntOp.addi (BitVec.ofNat 32 r.val) 0#32) (BitVec.ofNat 32 s.val)) 1#1 0#1
      = if s.val ≤ r.val then 1#1 else 0#1 := by
  decide +kernel

end Cert.Gmlp
-- ==== Proof.Finite.lean ====
/-
  The precondition: arrays of finite numbers hold real numbers.
-/
module

public import proofs.«01_k».proof.Pre_finite
public import proofs.«01_k».proof.Proof.Raw
public import proofs.«01_k».proof.Proof.HostArr
public import Idealize.ShloMosaic.Lib.ReduceAll
public import Idealize.ShloMosaic.Lib.Affine
public import Idealize.ShloMosaic.Lib.Decide

@[expose] public section

noncomputable section

namespace Cert.Gmlp

open Idealize.ShloMosaic

/-- The side conditions of the precondition's operations. -/
theorem finite_facts : Cert.Pre_finite.Facts where
  bcast_S_S4096x1024 := by decide
  reducesTo_S4096x1024_S_d0_1 := by decide
  h_S_ := by decide
  bcast_S_S1024x1024 := by decide
  reducesTo_S1024x1024_S_d0_1 := by decide
  bcast_S_S8x4096x1024 := by decide
  reducesTo_S8x4096x1024_S_d0_1_2 := by decide
  bcast_S_S1x1024 := by decide
  reducesTo_S1x1024_S_d0_1 := by decide
  bcast_S_S1x8x128x128 := by decide
  reducesTo_S1x8x128x128_S_d0_1_2_3 := by decide
  bcast_S_S1x8x128 := by decide
  reducesTo_S1x8x128_S_d0_1_2 := by decide

/-- An array that compares below infinity throughout, in absolute value, holds real numbers. -/
theorem real_of_finite {s : Shape} {φ : FTy} {axes : List (Fin s.rank)} {x : FVec Ideal s φ} {w : BitVec φ.bits} (hw : Ideal.ofBits φ w = ⊤)
    (hb : (⟨0, ![]⟩ : Shape).BroadcastsInDim s ![]) {init : IVec ⟨0, ![]⟩ 1} {h : s.ReducesTo axes ⟨0, ![]⟩} {hu : 0 < (⟨0, ![]⟩ : Shape).numel}
    {j : (⟨0, ![]⟩ : Shape).Idx}
    (e : Host.reduce IntOp.andi (cmpf .olt (Host.absf x) (broadcastInDim s ![] hb (constant ⟨0, ![]⟩ φ w))) init h hu j = 1#1) (i : s.Idx) :
    x i = (((x i : EReal).toReal : ℝ) : EReal) := by
  haveI : Subsingleton (⟨0, ![]⟩ : Shape).Idx := ⟨fun a b => funext fun k => k.elim0⟩
  have e1 := Host.reduce_andi_all _ init h hu j e i
  have e2 : Ideal.cmp .olt (max (x i : EReal) (-(x i))) (Ideal.ofBits φ w) = 1#1 := e1
  rw [hw] at e2
  have e3 : max (x i : EReal) (-(x i)) < ⊤ := by
    by_contra hn
    simp [Ideal.cmp, hn] at e2
  refine (EReal.coe_toReal ?_ ?_).symm
  · rintro h0; rw [h0] at e3; simp at e3
  · rintro h0; rw [h0] at e3; simp at e3

variable {a b d n : ℕ} {φ : FTy}

/-- An array of real numbers, by index. -/
theorem exists_is2 {x : FVec Ideal ⟨2, ![a, b]⟩ φ} (h : ∀ i, x i = (((x i : EReal).toReal : ℝ) : EReal)) : ∃ f, Is2 x f :=
  ⟨fun r c => if hr : r < a ∧ c < b then (x (ix2 ⟨r, hr.1⟩ ⟨c, hr.2⟩) : EReal).toReal else 0,
    fun r c => by dsimp only; rw [dif_pos ⟨r.isLt, c.isLt⟩]; exact h _⟩
theorem exists_is3 {x : FVec Ideal ⟨3, ![a, b, d]⟩ φ} (h : ∀ i, x i = (((x i : EReal).toReal : ℝ) : EReal)) : ∃ f, Is3 x f :=
  ⟨fun k r c => if hr : k < a ∧ r < b ∧ c < d then (x (ix3 ⟨k, hr.1⟩ ⟨r, hr.2.1⟩ ⟨c, hr.2.2⟩) : EReal).toReal else 0,
    fun k r c => by dsimp only; rw [dif_pos ⟨k.isLt, r.isLt, c.isLt⟩]; exact h _⟩
theorem exists_is4 {x : FVec Ideal ⟨4, ![a, b, d, n]⟩ φ} (h : ∀ i, x i = (((x i : EReal).toReal : ℝ) : EReal)) : ∃ f, Is4 x f :=
  ⟨fun j k r c => if hr : j < a ∧ k < b ∧ r < d ∧ c < n then (x (ix4 ⟨j, hr.1⟩ ⟨k, hr.2.1⟩ ⟨r, hr.2.2.1⟩ ⟨c, hr.2.2.2⟩) : EReal).toReal else 0,
    fun j k r c => by dsimp only; rw [dif_pos ⟨j.isLt, k.isLt, r.isLt, c.isLt⟩]; exact h _⟩

attribute [local instance] finite_facts

/-- Where the precondition holds, the arguments hold real numbers. -/
theorem reals_of_finite {x0 : FVec Ideal ⟨3, ![8, 4096, 1024]⟩ .bf16} {x1 : FVec Ideal ⟨2, ![4096, 1024]⟩ .bf16} {x2 : FVec Ideal ⟨2, ![1024, 1024]⟩ .bf16}
    {x3 : FVec Ideal ⟨3, ![8, 4096, 1024]⟩ .f32} {x4 x5 : FVec Ideal ⟨2, ![1, 1024]⟩ .f32}
    {x6 : FVec Ideal ⟨4, ![1, 8, 128, 128]⟩ .f32} {x7 : FVec Ideal ⟨3, ![1, 8, 128]⟩ .f32}
    (h : Cert.Pre_finite.fn (F := Ideal) x0 x1 x2 x3 x4 x5 x6 x7 = fun _ => 1#1) : ∃ q, Reals q x1 x2 x3 x4 x5 x6 x7 := by
  have e := congrFun h ix0
  obtain ⟨e, e7⟩ := IntOp.andi_eq_one.1 e
  obtain ⟨e, e6⟩ := IntOp.andi_eq_one.1 e
  obtain ⟨e, e5⟩ := IntOp.andi_eq_one.1 e
  obtain ⟨e, e4⟩ := IntOp.andi_eq_one.1 e
  obtain ⟨e, e3⟩ := IntOp.andi_eq_one.1 e
  obtain ⟨e1, e2⟩ := IntOp.andi_eq_one.1 e
  obtain ⟨f1, h1⟩ := exists_is2 (real_of_finite ofBits_inf_bf16 _ e1)
  obtain ⟨f2, h2⟩ := exists_is2 (real_of_finite ofBits_inf_bf16 _ e2)
  obtain ⟨f3, h3⟩ := exists_is3 (real_of_finite ofBits_inf _ e3)
  obtain ⟨f4, h4⟩ := exists_is2 (real_of_finite ofBits_inf _ e4)
  obtain ⟨f5, h5⟩ := exists_is2 (real_of_finite ofBits_inf _ e5)
  obtain ⟨f6, h6⟩ := exists_is4 (real_of_finite ofBits_inf _ e6)
  obtain ⟨f7, h7⟩ := exists_is3 (real_of_finite ofBits_inf _ e7)
  have z : ∀ r : Fin 1, r.val = 0 := fun r => by omega
  refine ⟨⟨f1, f2, f3, f4 0, f5 0, f6 0, f7 0⟩, h1, h2, h3, fun r c => ?_, fun r c => ?_, fun g r s => h6 0 g r s, fun k r c => ?_⟩
  · rw [h4 r c, z r]
  · rw [h5 r c, z r]
  · rw [h7 k r c, z k]

end Cert.Gmlp
-- ==== Proof.Block.lean ====
/-
  What one grid point computes, part by part: each value the kernel's body names, over blocks of real numbers, is the
  formula of Spec.lean. `p : Inp` is the block's own input (256 rows).
-/
module

public import proofs.«01_k».proof.Proof.Arr
public import proofs.«01_k».proof.Proof.Spec
public import proofs.«01_k».proof.Proof.Gen.KernelIdeal.Skeleton

@[expose] public section

namespace Cert.Gmlp

open Idealize.ShloMosaic Cert.KernelIdeal Cert.KernelIdeal.Gen
open scoped BigOperators

section pointwise

variable {f : ℕ → ℕ → ℝ}

theorem ofBits_f {z : ℝ} {w : BitVec 32} (h : Ideal.ofBits .f32 w = ((z : ℝ) : EReal)) :
    (Scalar.ofBits .f32 w : Ideal .f32) = ((z : ℝ) : EReal) := h

/-- The tanh of a half of the projection. -/
theorem is_th {x : FVec Ideal S256x1024 .f32} (hx : Is2 x f) :
    Is2 (tanh (mulf (broadcast S256x1024 (Scalar.ofBits .f32 0x3F4C422A#32))
      (addf x (mulf (mulf (mulf (broadcast S256x1024 (Named.named κ "c1" 0x3D372713#32)) x) x) x))))
      (fun r c => th (f r c)) :=
  ((Is2.splat (ofBits_f ofBits_c0)).mulf (hx.addf ((((Is2.splat named_c1_kernel).mulf hx).mulf hx).mulf hx))).tanh

/-- Gelu from its tanh. -/
theorem is_gelu {x t : FVec Ideal S256x1024 .f32} (hx : Is2 x f) (ht : Is2 t (fun r c => th (f r c))) :
    Is2 (mulf (mulf (broadcast S256x1024 (Scalar.ofBits .f32 0x3F000000#32)) x)
      (addf (broadcast S256x1024 (Scalar.ofBits .f32 0x3F800000#32)) t)) (fun r c => gelu (f r c)) :=
  ((Is2.splat (ofBits_f ofBits_half)).mulf hx).mulf ((Is2.splat (ofBits_f ofBits_one)).addf ht)

/-- Gelu's derivative from the tanh. -/
theorem is_dgelu {x t : FVec Ideal S256x1024 .f32} (hx : Is2 x f) (ht : Is2 t (fun r c => th (f r c))) :
    Is2 (addf (mulf (broadcast S256x1024 (Scalar.ofBits .f32 0x3F000000#32))
        (addf (broadcast S256x1024 (Scalar.ofBits .f32 0x3F800000#32)) t))
      (mulf (mulf (mulf (broadcast S256x1024 (Scalar.ofBits .f32 0x3F000000#32)) x)
          (subf (broadcast S256x1024 (Scalar.ofBits .f32 0x3F800000#32)) (mulf t t)))
        (mulf (broadcast S256x1024 (Scalar.ofBits .f32 0x3F4C422A#32))
          (addf (broadcast S256x1024 (Scalar.ofBits .f32 0x3F800000#32))
            (mulf (mulf (broadcast S256x1024 (Named.named κ "c3" 0x3E095D4F#32)) x) x)))))
      (fun r c => dgelu (f r c)) :=
  ((Is2.splat (ofBits_f ofBits_half)).mulf ((Is2.splat (ofBits_f ofBits_one)).addf ht)).addf
    ((((Is2.splat (ofBits_f ofBits_half)).mulf hx).mulf ((Is2.splat (ofBits_f ofBits_one)).subf (ht.mulf ht))).mulf
      ((Is2.splat (ofBits_f ofBits_c0)).mulf ((Is2.splat (ofBits_f ofBits_one)).addf
        (((Is2.splat named_c3_kernel).mulf hx).mulf hx))))

/-- The mean of each row. -/
theorem is_mean {x : FVec Ideal S256x1024 .f32} (hx : Is2 x f) :
    Is2 (divf (shapeCast S256x1 (multiReduction .add [1] S256 x 0x00000000#32 reduces_S256x1024_S256 (.inl rfl) rfl) shapeCasts_S256_S256x1)
      (broadcast S256x1 (Scalar.ofBits .f32 0x44800000#32))) (fun r _ => (∑ k ∈ Finset.range 1024, f r k) / 1024) :=
  (hx.rowSum _ _ _ _).divf (Is2.splat (ofBits_f ofBits_1024)) (fun _ _ => by norm_num)

end pointwise

variable {p : Inp}

theorem is_pay7 {x : FVec Ideal S1x256x1024 .f32} (hx : Is3 x (fun _ => p.u)) : Is2 (k0_pay7 x) (fun r c => th (p.u r c)) :=
  is_th (hx.dropUnit _)
theorem is_pay8 {x : FVec Ideal S1x256x1024 .f32} (hx : Is3 x (fun _ => p.u)) : Is2 (k0_pay8 x) (fun r c => gelu (p.u r c)) :=
  is_gelu (hx.dropUnit _) (is_pay7 hx)
theorem is_pay9 {x : FVec Ideal S1x256x1024 .f32} (hx : Is3 x (fun _ => p.v)) : Is2 (k0_pay9 x) (fun r c => th (p.v r c)) :=
  is_th (hx.dropUnit _)
theorem is_pay10 {x : FVec Ideal S1x256x1024 .f32} (hx : Is3 x (fun _ => p.v)) : Is2 (k0_pay10 x) (fun r c => gelu (p.v r c)) :=
  is_gelu (hx.dropUnit _) (is_pay9 hx)
/-- The row means. -/
theorem is_pay11 {x : FVec Ideal S1x256x1024 .f32} (hx : Is3 x (fun _ => p.v)) : Is2 (k0_pay11 x) (fun r _ => p.mu r) :=
  is_mean (is_pay10 hx)

section norm
variable {gv : FVec Ideal S256x1024 .f32} {m : FVec Ideal S256x1 .f32}
  (hg : Is2 gv (fun r c => gelu (p.v r c))) (hm : Is2 m (fun r _ => p.mu r))
include hg hm
theorem is_pay12 : Is2 (k0_pay12 gv m) p.xc := hg.subf (hm.colBcast (by decide) _)
/-- The reciprocal deviations. -/
theorem is_pay13 : Is2 (k0_pay13 gv m) (fun r _ => p.rs r) :=
  ((is_mean ((is_pay12 hg hm).mulf (is_pay12 hg hm))).addf (Is2.splat (ofBits_f ofBits_eps))).rsqrt
    (fun r _ => add_pos_of_nonneg_of_pos
      (div_nonneg (Finset.sum_nonneg fun k _ => mul_self_nonneg (p.xc r k)) (by norm_num)) eps_pos)
/-- The normalised rows. -/
theorem is_pay14 : Is2 (k0_pay14 gv m) p.vh := (is_pay12 hg hm).mulf ((is_pay13 hg hm).colBcast (by decide) _)
/-- The layer norm's value. -/
theorem is_pay15 {lg lb : FVec Ideal S1x1024 .f32} (hlg : Is2 lg (fun _ => p.lg)) (hlb : Is2 lb (fun _ => p.lb)) :
    Is2 (k0_pay15 lg gv m lb) p.vn :=
  (((is_pay14 hg hm).mulf (hlg.rowBcast (by decide) _)).addf (hlb.rowBcast (by decide) _)).truncf .bf16 _
end norm

/-- The gradient of the gated product. -/
theorem is_pay16 {x : FVec Ideal S256x1024 .bf16} {y : FVec Ideal S1024x1024 .bf16} (hx : Is2 x p.dya) (hy : Is2 y p.wa) :
    Is2 (k0_pay16 x y) p.da := hx.matmulT hy none

/-- Two tiles of a group of columns side by side: column `c` is column `c % 128` of tile `c / 128`. -/
noncomputable def abreast (f : ℕ → ℕ → ℝ) (o r c : ℕ) : ℝ := f (128 * (c / 128) + r) (o + c % 128)

theorem is_abreast {φ : FTy} {f : ℕ → ℕ → ℝ} {x : FVec Ideal S256x1024 φ} (hx : Is2 x f) (o : ℕ)
    (h1 : S256x1024.Slices ![0, o] S256x128) (h2 : S256x128.Slices ![0, 0] S128x128) (h3 : S256x128.Slices ![128, 0] S128x128)
    (h4 : Shape.Concatenates [S128x128, S128x128] S128x256 1) :
    Is2 (φ := φ) (concatenate S128x256 1 [⟨S128x128, extractStridedSlice S128x128 ![0, 0] (extractStridedSlice S256x128 ![0, o] x h1) h2⟩,
      ⟨S128x128, extractStridedSlice S128x128 ![128, 0] (extractStridedSlice S256x128 ![0, o] x h1) h3⟩] h4) (abreast f o) :=
  Is2.congr (Is2.beside ((hx.slice h1).slice h2) ((hx.slice h1).slice h3) h4) fun r c _ hc => by
    unfold abreast
    split
    · congr 1 <;> omega
    · congr 1 <;> omega

/-- The two halves of an array of two tiles abreast, one above the other. -/
theorem is_stacked {f : ℕ → ℕ → ℝ} {x : FVec Ideal S128x256 .f32} (hx : Is2 x f)
    (h1 : S128x256.Slices ![0, 0] S128x128) (h2 : S128x256.Slices ![0, 128] S128x128)
    (h3 : Shape.Concatenates [S128x128, S128x128] S256x128 0) (h4 : S256x128.ShapeCasts S256x128) :
    Is2 (φ := .f32) (shapeCast S256x128 (concatenate S256x128 0 [⟨S128x128, extractStridedSlice S128x128 ![0, 0] x h1⟩,
      ⟨S128x128, extractStridedSlice S128x128 ![0, 128] x h2⟩] h3) h4) (fun r c => f (r % 128) (128 * (r / 128) + c)) :=
  (Is2.congr (Is2.above (hx.slice h1) (hx.slice h2) h3) fun r c hr _ => by
    split
    · congr 1 <;> omega
    · congr 1 <;> omega).cast h4

section group
variable {dd vv xx : FVec Ideal S128x256 .f32} {vb : FVec Ideal S128x256 .bf16} {g : ℕ}

/-- The gradient before gelu's derivative, one group: the product's gradient times the mixed rows. -/
theorem is_du {o : ℕ} (ho : o = 128 * g) {w : FVec Ideal S128x128 .bf16} {b : FVec Ideal S128x1 .f32}
    (hd : Is2 dd (abreast p.da o)) (hv : Is2 vb (abreast p.vn o)) (hw : Is2 w (p.w g)) (hb : Is2 b (fun r _ => p.b r g))
    (h0 : S128x1.ShapeCasts S128x1) (hbc : S128x1.Broadcasts S128x256)
    (h1 : S128x256.Slices ![0, 0] S128x128) (h2 : S128x256.Slices ![0, 128] S128x128)
    (h3 : Shape.Concatenates [S128x128, S128x128] S256x128 0) (h4 : S256x128.ShapeCasts S256x128) :
    Is2 (φ := .f32) (shapeCast S256x128 (concatenate S256x128 0
      [⟨S128x128, extractStridedSlice S128x128 ![0, 0] (mulf dd (addf
        (matmul dot_S128x128_S128x256_S128x256_1_0_0_1_n_n none w vb (constant S128x256 .f32 0x00000000#32))
        (broadcastTo S128x256 (shapeCast S128x1 b h0) hbc))) h1⟩,
       ⟨S128x128, extractStridedSlice S128x128 ![0, 128] (mulf dd (addf
        (matmul dot_S128x128_S128x256_S128x256_1_0_0_1_n_n none w vb (constant S128x256 .f32 0x00000000#32))
        (broadcastTo S128x256 (shapeCast S128x1 b h0) hbc))) h2⟩] h3) h4)
      (fun r c => p.da r (o + c) * p.mixed r (o + c)) :=
  (is_stacked (hd.mulf ((hw.matmul hv none).addf ((hb.cast h0).colBcast (by decide) hbc))) h1 h2 h3 h4).congr
    fun r c hr hc => by
      subst ho
      unfold abreast Inp.mixed
      have e1 : 128 * ((128 * (r / 128) + c) / 128) = 128 * (r / 128) := by omega
      have e2 : (128 * (r / 128) + c) % 128 = c := by omega
      have e3 : 128 * (r / 128) + r % 128 = r := by omega
      have e4 : (128 * g + c) / 128 = g := by omega
      simp only [e1, e2, e3, e4]

/-- The gradient of the layer norm's value, one group: the transposed weights times the mixed rows' gradient. -/
theorem is_dvn {o : ℕ} (ho : o = 128 * g) {w : FVec Ideal S128x128 .bf16}
    (hd : Is2 vb (abreast p.dmx o)) (hw : Is2 w (fun r s => p.w g s r))
    (h1 : S128x256.Slices ![0, 0] S128x128) (h2 : S128x256.Slices ![0, 128] S128x128)
    (h3 : Shape.Concatenates [S128x128, S128x128] S256x128 0) (h4 : S256x128.ShapeCasts S256x128) :
    Is2 (φ := .f32) (shapeCast S256x128 (concatenate S256x128 0
      [⟨S128x128, extractStridedSlice S128x128 ![0, 0]
        (matmul dot_S128x128_S128x256_S128x256_1_0_0_1_n_n none w vb (constant S128x256 .f32 0x00000000#32)) h1⟩,
       ⟨S128x128, extractStridedSlice S128x128 ![0, 128]
        (matmul dot_S128x128_S128x256_S128x256_1_0_0_1_n_n none w vb (constant S128x256 .f32 0x00000000#32)) h2⟩] h3) h4)
      (fun r c => p.dvn r (o + c)) :=
  (is_stacked (hw.matmul hd none) h1 h2 h3 h4).congr fun r c hr hc => by
    subst ho
    unfold abreast Inp.dvn
    have e1 : 128 * ((128 * (r / 128) + c) / 128) = 128 * (r / 128) := by omega
    have e2 : (128 * (r / 128) + c) % 128 = c := by omega
    have e4 : (128 * g + c) / 128 = g := by omega
    simp only [e1, e2, e4]

/-- A sum over two tiles abreast, tile by tile. -/
theorem sum_abreast (f h : ℕ → ℕ → ℝ) (o r c : ℕ) :
    ∑ k ∈ Finset.range 256, abreast f o r k * abreast h o c k
      = ∑ n ∈ Finset.range 2, ∑ d ∈ Finset.range 128, f (128 * n + r) (o + d) * h (128 * n + c) (o + d) := by
  unfold abreast
  rw [show 256 = 128 + 128 from rfl, Finset.sum_range_add, Finset.sum_range_succ (n := 1), Finset.sum_range_one]
  refine congrArg₂ (· + ·) ?_ ?_
  · refine Finset.sum_congr rfl fun d hd => ?_
    have hd := Finset.mem_range.mp hd
    have e1 : d / 128 = 0 := by omega
    have e2 : d % 128 = d := by omega
    simp only [e1, e2]
  · refine Finset.sum_congr rfl fun d hd => ?_
    have hd := Finset.mem_range.mp hd
    have e1 : (128 + d) / 128 = 1 := by omega
    have e2 : (128 + d) % 128 = d := by omega
    simp only [e1, e2]

/-- The gradient of the mixing weights, one group, added to what the accumulator holds. -/
theorem is_dw {o : ℕ} (ho : o = 128 * g) {acc : FVec Ideal S128x128 .f32} {m : FVec Ideal S128x256 .bf16} {f : ℕ → ℕ → ℝ}
    (hd : Is2 m (abreast p.dmx o)) (hv : Is2 vb (abreast p.vn o)) (ha : Is2 acc f) (h0 : S128x128.ShapeCasts S128x128) :
    Is2 (addf (shapeCast S128x128 acc h0)
      (matmul dot_S128x256_S128x256_S128x128_1_1_0_0_n_n none m vb (constant S128x128 .f32 0x00000000#32)))
      (fun r c => f r c + p.dw 2 r (o + c)) :=
  ((ha.cast h0).addf (hd.matmulT hv none)).congr fun r c hr hc => by
    subst ho
    unfold Inp.dw
    have e1 : (128 * g + c) / 128 = g := by omega
    have e2 : (128 * g + c) % 128 = c := by omega
    rw [sum_abreast, e1, e2]

/-- The gradient of the bias, one group, added to what the accumulator holds. -/
theorem is_db {o : ℕ} {acc : FVec Ideal S128x128 .f32} {f : ℕ → ℕ → ℝ}
    (hd : Is2 dd (abreast p.dmx o)) (ha : Is2 acc f) (h0 : S128x128.ShapeCasts S128x128)
    (h1 : S128x256.Slices ![0, 0] S128x128) (h2 : S128x256.Slices ![0, 128] S128x128) :
    Is2 (addf (shapeCast S128x128 acc h0) (addf (addf (broadcast S128x128 (Scalar.ofBits .f32 0x00000000#32))
      (extractStridedSlice S128x128 ![0, 0] dd h1)) (extractStridedSlice S128x128 ![0, 128] dd h2)))
      (fun r c => f r c + p.db 2 r (o + c)) :=
  ((ha.cast h0).addf (((Is2.splat (ofBits_f ofBits_zero)).addf (hd.slice h1)).addf (hd.slice h2))).congr fun r c hr hc => by
    unfold abreast Inp.db
    rw [Finset.sum_range_succ, Finset.sum_range_one, zero_add]
    have e1 : c / 128 = 0 := by omega
    have e2 : c % 128 = c := by omega
    have e3 : (128 + c) / 128 = 1 := by omega
    have e4 : (128 + c) % 128 = c := by omega
    simp only [e1, e2, e3, e4, Nat.zero_add]

end group

/-! ## The 8 groups

The same four values for each group of 128 columns, as the body names them. -/

section groups
variable {da gu : FVec Ideal S256x1024 .f32} {vn : FVec Ideal S256x1024 .bf16} {f : ℕ → ℕ → ℝ}
  {w : FVec Ideal S1x128x128 .bf16} {b : FVec Ideal S128x1 .f32} {acc : FVec Ideal S128x128 .f32}

section zero
variable {gv : FVec Ideal S256x1024 .f32} {m : FVec Ideal S256x1 .f32} {lg lb : FVec Ideal S1x1024 .f32} {x : FVec Ideal S256x1024 .bf16} {y : FVec Ideal S1024x1024 .bf16}
theorem vn_0 (hg : Is2 gv (fun r c => gelu (p.v r c))) (hm : Is2 m (fun r _ => p.mu r)) (hlg : Is2 lg (fun _ => p.lg)) (hlb : Is2 lb (fun _ => p.lb)) :
    Is2 (k0_pay17 lg gv m lb) (abreast p.vn 0) := is_abreast (is_pay15 hg hm hlg hlb) 0 _ _ _ concatenates_S128x128_S128x128_S128x256_d1
theorem da_0 (hx : Is2 x p.dya) (hy : Is2 y p.wa) : Is2 (k0_pay18 x y) (abreast p.da 0) := is_abreast (is_pay16 hx hy) 0 _ _ _ concatenates_S128x128_S128x128_S128x256_d1
theorem dmx_0 (hgu : Is2 gu (fun r c => gelu (p.u r c))) (hx : Is2 x p.dya) (hy : Is2 y p.wa) : Is2 (k0_pay19 gu x y) (abreast p.dmx 0) :=
  (da_0 hx hy).mulf (is_abreast hgu 0 _ _ _ concatenates_S128x128_S128x128_S128x256_d1)
theorem du_0 (hg : Is2 gv (fun r c => gelu (p.v r c))) (hm : Is2 m (fun r _ => p.mu r)) (hlg : Is2 lg (fun _ => p.lg)) (hlb : Is2 lb (fun _ => p.lb))
    (hx : Is2 x p.dya) (hy : Is2 y p.wa) (hw : Is3 w (fun _ => p.w 0)) (hb : Is2 b (fun r _ => p.b r 0)) :
    Is2 (k0_pay23 (k0_pay21 lg gv m lb x y w b) (k0_pay22 lg gv m lb x y w b)) (fun r c => p.da r (0 + c) * p.mixed r (0 + c)) :=
  is_du (g := 0) rfl (da_0 hx hy) (vn_0 hg hm hlg hlb) (hw.dropUnit _) hb _ _ slices_S128x256_o0_0_S128x128 slices_S128x256_o0_128_S128x128 concatenates_S128x128_S128x128_S256x128_d0 _
end zero
theorem dw_0 {dm : FVec Ideal S128x256 .f32} {vb : FVec Ideal S128x256 .bf16} (hd : Is2 dm (abreast p.dmx 0)) (hv : Is2 vb (abreast p.vn 0)) (ha : Is2 acc f) :
    Is2 (k0_pay25 vb dm acc) (fun r c => f r c + p.dw 2 r (0 + c)) := is_dw (g := 0) rfl (hd.truncf .bf16 _) hv ha _
theorem db_0 {dm : FVec Ideal S128x256 .f32} (hd : Is2 dm (abreast p.dmx 0)) (ha : Is2 acc f) :
    Is2 (k0_pay26 dm acc) (fun r c => f r c + p.db 2 r (0 + c)) := is_db hd ha _ _ _
theorem dvn_0 {dm : FVec Ideal S128x256 .f32} (hd : Is2 dm (abreast p.dmx 0)) (hw : Is3 w (fun _ r s => p.w 0 s r)) :
    Is2 (k0_pay27 dm w) (fun r c => p.dvn r (0 + c)) := is_dvn (g := 0) rfl (hd.truncf .bf16 _) (hw.dropUnit _) _ _ concatenates_S128x128_S128x128_S256x128_d0 _

theorem vn_1 (hvn : Is2 vn p.vn) : Is2 (k0_pay28 vn) (abreast p.vn 128) := is_abreast hvn 128 _ _ _ concatenates_S128x128_S128x128_S128x256_d1
theorem da_1 (hda : Is2 da p.da) : Is2 (k0_pay30 da) (abreast p.da 128) := is_abreast hda 128 _ _ _ concatenates_S128x128_S128x128_S128x256_d1
theorem dmx_1 (hgu : Is2 gu (fun r c => gelu (p.u r c))) (hda : Is2 da p.da) : Is2 (k0_pay31 gu da) (abreast p.dmx 128) :=
  (da_1 hda).mulf (is_abreast hgu 128 _ _ _ concatenates_S128x128_S128x128_S128x256_d1)
theorem du_1 (hvn : Is2 vn p.vn) (hda : Is2 da p.da) (hw : Is3 w (fun _ => p.w 1)) (hb : Is2 b (fun r _ => p.b r 1)) :
    Is2 (k0_pay32 da (k0_pay28 vn) (k0_pay29 w) (constant S128x256 .f32 0x00000000#32) b) (fun r c => p.da r (128 + c) * p.mixed r (128 + c)) :=
  is_du (g := 1) rfl (da_1 hda) (vn_1 hvn) (hw.dropUnit _) hb _ broadcasts_S128x1_S128x256 _ _ concatenates_S128x128_S128x128_S256x128_d0 _
theorem dw_1 (hvn : Is2 vn p.vn) (hgu : Is2 gu (fun r c => gelu (p.u r c))) (hda : Is2 da p.da) (ha : Is2 acc f) :
    Is2 (k0_pay34 gu da (k0_pay28 vn) acc) (fun r c => f r c + p.dw 2 r (128 + c)) := is_dw (g := 1) rfl ((dmx_1 hgu hda).truncf .bf16 _) (vn_1 hvn) ha _
theorem db_1 (hgu : Is2 gu (fun r c => gelu (p.u r c))) (hda : Is2 da p.da) (ha : Is2 acc f) :
    Is2 (k0_pay35 gu da acc) (fun r c => f r c + p.db 2 r (128 + c)) := is_db (dmx_1 hgu hda) ha _ slices_S128x256_o0_0_S128x128 _
theorem dvn_1 (hgu : Is2 gu (fun r c => gelu (p.u r c))) (hda : Is2 da p.da) (hw : Is3 w (fun _ r s => p.w 1 s r)) :
    Is2 (k0_pay37 (k0_pay36 gu da w)) (fun r c => p.dvn r (128 + c)) :=
  is_dvn (g := 1) rfl ((dmx_1 hgu hda).truncf .bf16 _) (hw.dropUnit _) _ _ concatenates_S128x128_S128x128_S256x128_d0 _

theorem vn_2 (hvn : Is2 vn p.vn) : Is2 (k0_pay38 vn) (abreast p.vn 256) := is_abreast hvn 256 _ _ _ concatenates_S128x128_S128x128_S128x256_d1
theorem da_2 (hda : Is2 da p.da) : Is2 (k0_pay39 da) (abreast p.da 256) := is_abreast hda 256 _ _ _ concatenates_S128x128_S128x128_S128x256_d1
theorem dmx_2 (hgu : Is2 gu (fun r c => gelu (p.u r c))) (hda : Is2 da p.da) : Is2 (k0_pay40 gu da) (abreast p.dmx 256) :=
  (da_2 hda).mulf (is_abreast hgu 256 _ _ _ concatenates_S128x128_S128x128_S128x256_d1)
theorem du_2 (hvn : Is2 vn p.vn) (hda : Is2 da p.da) (hw : Is3 w (fun _ => p.w 2)) (hb : Is2 b (fun r _ => p.b r 2)) :
    Is2 (k0_pay41 vn da w b) (fun r c => p.da r (256 + c) * p.mixed r (256 + c)) :=
  is_du (g := 2) rfl (da_2 hda) (vn_2 hvn) (hw.dropUnit _) hb _ broadcasts_S128x1_S128x256 _ _ concatenates_S128x128_S128x128_S256x128_d0 _
theorem dw_2 (hvn : Is2 vn p.vn) (hgu : Is2 gu (fun r c => gelu (p.u r c))) (hda : Is2 da p.da) (ha : Is2 acc f) :
    Is2 (k0_pay43 gu vn da acc) (fun r c => f r c + p.dw 2 r (256 + c)) := is_dw (g := 2) rfl ((dmx_2 hgu hda).truncf .bf16 _) (vn_2 hvn) ha _
theorem db_2 (hgu : Is2 gu (fun r c => gelu (p.u r c))) (hda : Is2 da p.da) (ha : Is2 acc f) :
    Is2 (k0_pay44 (k0_pay40 gu da) acc) (fun r c => f r c + p.db 2 r (256 + c)) := is_db (dmx_2 hgu hda) ha _ slices_S128x256_o0_0_S128x128 _
theorem dvn_2 (hgu : Is2 gu (fun r c => gelu (p.u r c))) (hda : Is2 da p.da) (hw : Is3 w (fun _ r s => p.w 2 s r)) :
    Is2 (k0_pay45 (k0_pay42 gu da) w) (fun r c => p.dvn r (256 + c)) :=
  is_dvn (g := 2) rfl ((dmx_2 hgu hda).truncf .bf16 _) (hw.dropUnit _) _ _ concatenates_S128x128_S128x128_S256x128_d0 _

theorem vn_3 (hvn : Is2 vn p.vn) : Is2 (k0_pay46 vn) (abreast p.vn 384) := is_abreast hvn 384 _ _ _ concatenates_S128x128_S128x128_S128x256_d1
theorem da_3 (hda : Is2 da p.da) : Is2 (k0_pay47 da) (abreast p.da 384) := is_abreast hda 384 _ _ _ concatenates_S128x128_S128x128_S128x256_d1
theorem dmx_3 (hgu : Is2 gu (fun r c => gelu (p.u r c))) (hda : Is2 da p.da) : Is2 (k0_pay48 gu da) (abreast p.dmx 384) :=
  (da_3 hda).mulf (is_abreast hgu 384 _ _ _ concatenates_S128x128_S128x128_S128x256_d1)
theorem du_3 (hvn : Is2 vn p.vn) (hda : Is2 da p.da) (hw : Is3 w (fun _ => p.w 3)) (hb : Is2 b (fun r _ => p.b r 3)) :
    Is2 (k0_pay50 (k0_pay49 vn da w b)) (fun r c => p.da r (384 + c) * p.mixed r (384 + c)) :=
  is_du (g := 3) rfl (da_3 hda) (vn_3 hvn) (hw.dropUnit _) hb _ broadcasts_S128x1_S128x256 _ _ concatenates_S128x128_S128x128_S256x128_d0 _
theorem dw_3 (hvn : Is2 vn p.vn) (hgu : Is2 gu (fun r c => gelu (p.u r c))) (hda : Is2 da p.da) (ha : Is2 acc f) :
    Is2 (k0_pay52 (k0_pay46 vn) (k0_pay48 gu da) acc) (fun r c => f r c + p.dw 2 r (384 + c)) := is_dw (g := 3) rfl ((dmx_3 hgu hda).truncf .bf16 _) (vn_3 hvn) ha _
theorem db_3 (hgu : Is2 gu (fun r c => gelu (p.u r c))) (hda : Is2 da p.da) (ha : Is2 acc f) :
    Is2 (k0_pay53 (k0_pay48 gu da) acc) (fun r c => f r c + p.db 2 r (384 + c)) := is_db (dmx_3 hgu hda) ha _ slices_S128x256_o0_0_S128x128 _
theorem dvn_3 (hgu : Is2 gu (fun r c => gelu (p.u r c))) (hda : Is2 da p.da) (hw : Is3 w (fun _ r s => p.w 3 s r)) :
    Is2 (k0_pay54 (k0_pay48 gu da) w) (fun r c => p.dvn r (384 + c)) :=
  is_dvn (g := 3) rfl ((dmx_3 hgu hda).truncf .bf16 _) (hw.dropUnit _) _ _ concatenates_S128x128_S128x128_S256x128_d0 _

theorem vn_4 (hvn : Is2 vn p.vn) : Is2 (k0_pay55 vn) (abreast p.vn 512) := is_abreast hvn 512 _ _ _ concatenates_S128x128_S128x128_S128x256_d1
theorem da_4 (hda : Is2 da p.da) : Is2 (k0_pay57 da) (abreast p.da 512) := is_abreast hda 512 _ _ _ concatenates_S128x128_S128x128_S128x256_d1
theorem dmx_4 (hgu : Is2 gu (fun r c => gelu (p.u r c))) (hda : Is2 da p.da) : Is2 (k0_pay58 gu da) (abreast p.dmx 512) :=
  (da_4 hda).mulf (is_abreast hgu 512 _ _ _ concatenates_S128x128_S128x128_S128x256_d1)
theorem du_4 (hvn : Is2 vn p.vn) (hda : Is2 da p.da) (hw : Is3 w (fun _ => p.w 4)) (hb : Is2 b (fun r _ => p.b r 4)) :
    Is2 (k0_pay59 da (k0_pay56 vn w) b) (fun r c => p.da r (512 + c) * p.mixed r (512 + c)) :=
  is_du (g := 4) rfl (da_4 hda) (vn_4 hvn) (hw.dropUnit _) hb _ broadcasts_S128x1_S128x256 _ _ concatenates_S128x128_S128x128_S256x128_d0 _
theorem dw_4 (hvn : Is2 vn p.vn) (hgu : Is2 gu (fun r c => gelu (p.u r c))) (hda : Is2 da p.da) (ha : Is2 acc f) :
    Is2 (k0_pay61 gu da (k0_pay55 vn) acc) (fun r c => f r c + p.dw 2 r (512 + c)) := is_dw (g := 4) rfl ((dmx_4 hgu hda).truncf .bf16 _) (vn_4 hvn) ha _
theorem db_4 (hgu : Is2 gu (fun r c => gelu (p.u r c))) (hda : Is2 da p.da) (ha : Is2 acc f) :
    Is2 (k0_pay62 gu da acc) (fun r c => f r c + p.db 2 r (512 + c)) := is_db (dmx_4 hgu hda) ha _ slices_S128x256_o0_0_S128x128 _
theorem dvn_4 (hgu : Is2 gu (fun r c => gelu (p.u r c))) (hda : Is2 da p.da) (hw : Is3 w (fun _ r s => p.w 4 s r)) :
    Is2 (k0_pay64 (k0_pay63 gu da w)) (fun r c => p.dvn r (512 + c)) :=
  is_dvn (g := 4) rfl ((dmx_4 hgu hda).truncf .bf16 _) (hw.dropUnit _) _ _ concatenates_S128x128_S128x128_S256x128_d0 _

theorem vn_5 (hvn : Is2 vn p.vn) : Is2 (k0_pay65 vn) (abreast p.vn 640) := is_abreast hvn 640 _ _ _ concatenates_S128x128_S128x128_S128x256_d1
theorem da_5 (hda : Is2 da p.da) : Is2 (k0_pay66 da) (abreast p.da 640) := is_abreast hda 640 _ _ _ concatenates_S128x128_S128x128_S128x256_d1
theorem dmx_5 (hgu : Is2 gu (fun r c => gelu (p.u r c))) (hda : Is2 da p.da) : Is2 (k0_pay67 gu da) (abreast p.dmx 640) :=
  (da_5 hda).mulf (is_abreast hgu 640 _ _ _ concatenates_S128x128_S128x128_S128x256_d1)
theorem du_5 (hvn : Is2 vn p.vn) (hda : Is2 da p.da) (hw : Is3 w (fun _ => p.w 5)) (hb : Is2 b (fun r _ => p.b r 5)) :
    Is2 (k0_pay68 vn da w b) (fun r c => p.da r (640 + c) * p.mixed r (640 + c)) :=
  is_du (g := 5) rfl (da_5 hda) (vn_5 hvn) (hw.dropUnit _) hb _ broadcasts_S128x1_S128x256 _ _ concatenates_S128x128_S128x128_S256x128_d0 _
theorem dw_5 (hvn : Is2 vn p.vn) (hgu : Is2 gu (fun r c => gelu (p.u r c))) (hda : Is2 da p.da) (ha : Is2 acc f) :
    Is2 (k0_pay70 gu vn da acc) (fun r c => f r c + p.dw 2 r (640 + c)) := is_dw (g := 5) rfl ((dmx_5 hgu hda).truncf .bf16 _) (vn_5 hvn) ha _
theorem db_5 (hgu : Is2 gu (fun r c => gelu (p.u r c))) (hda : Is2 da p.da) (ha : Is2 acc f) :
    Is2 (k0_pay73 (k0_pay67 gu da) (k0_pay71 acc) (k0_pay72 gu da) (FloatOps.ofBits .f32 0x00000000#32)) (fun r c => f r c + p.db 2 r (640 + c)) := is_db (dmx_5 hgu hda) ha _ slices_S128x256_o0_0_S128x128 _
theorem dvn_5 (hgu : Is2 gu (fun r c => gelu (p.u r c))) (hda : Is2 da p.da) (hw : Is3 w (fun _ r s => p.w 5 s r)) :
    Is2 (k0_pay74 (k0_pay69 gu da) w) (fun r c => p.dvn r (640 + c)) :=
  is_dvn (g := 5) rfl ((dmx_5 hgu hda).truncf .bf16 _) (hw.dropUnit _) _ _ concatenates_S128x128_S128x128_S256x128_d0 _

theorem vn_6 (hvn : Is2 vn p.vn) : Is2 (k0_pay75 vn) (abreast p.vn 768) := is_abreast hvn 768 _ _ _ concatenates_S128x128_S128x128_S128x256_d1
theorem da_6 (hda : Is2 da p.da) : Is2 (k0_pay76 da) (abreast p.da 768) := is_abreast hda 768 _ _ _ concatenates_S128x128_S128x128_S128x256_d1
theorem dmx_6 (hgu : Is2 gu (fun r c => gelu (p.u r c))) (hda : Is2 da p.da) : Is2 (k0_pay77 gu da) (abreast p.dmx 768) :=
  (da_6 hda).mulf (is_abreast hgu 768 _ _ _ concatenates_S128x128_S128x128_S128x256_d1)
theorem du_6 (hvn : Is2 vn p.vn) (hda : Is2 da p.da) (hw : Is3 w (fun _ => p.w 6)) (hb : Is2 b (fun r _ => p.b r 6)) :
    Is2 (k0_pay78 vn da w b) (fun r c => p.da r (768 + c) * p.mixed r (768 + c)) :=
  is_du (g := 6) rfl (da_6 hda) (vn_6 hvn) (hw.dropUnit _) hb _ broadcasts_S128x1_S128x256 _ _ concatenates_S128x128_S128x128_S256x128_d0 _
theorem dw_6 (hvn : Is2 vn p.vn) (hgu : Is2 gu (fun r c => gelu (p.u r c))) (hda : Is2 da p.da) (ha : Is2 acc f) :
    Is2 (k0_pay80 (k0_pay75 vn) (k0_pay77 gu da) acc) (fun r c => f r c + p.dw 2 r (768 + c)) := is_dw (g := 6) rfl ((dmx_6 hgu hda).truncf .bf16 _) (vn_6 hvn) ha _
theorem db_6 (hgu : Is2 gu (fun r c => gelu (p.u r c))) (hda : Is2 da p.da) (ha : Is2 acc f) :
    Is2 (k0_pay81 (k0_pay77 gu da) acc) (fun r c => f r c + p.db 2 r (768 + c)) := is_db (dmx_6 hgu hda) ha _ slices_S128x256_o0_0_S128x128 _
theorem dvn_6 (hgu : Is2 gu (fun r c => gelu (p.u r c))) (hda : Is2 da p.da) (hw : Is3 w (fun _ r s => p.w 6 s r)) :
    Is2 (k0_pay82 (k0_pay77 gu da) w) (fun r c => p.dvn r (768 + c)) :=
  is_dvn (g := 6) rfl ((dmx_6 hgu hda).truncf .bf16 _) (hw.dropUnit _) _ _ concatenates_S128x128_S128x128_S256x128_d0 _

theorem vn_7 (hvn : Is2 vn p.vn) : Is2 (k0_pay83 vn) (abreast p.vn 896) := is_abreast hvn 896 _ _ _ concatenates_S128x128_S128x128_S128x256_d1
theorem da_7 (hda : Is2 da p.da) : Is2 (k0_pay86 da) (abreast p.da 896) := is_abreast hda 896 _ _ _ concatenates_S128x128_S128x128_S128x256_d1
theorem dmx_7 (hgu : Is2 gu (fun r c => gelu (p.u r c))) (hda : Is2 da p.da) : Is2 (k0_pay87 gu da) (abreast p.dmx 896) :=
  (da_7 hda).mulf (is_abreast hgu 896 _ _ _ concatenates_S128x128_S128x128_S128x256_d1)
theorem du_7 (hvn : Is2 vn p.vn) (hda : Is2 da p.da) (hw : Is3 w (fun _ => p.w 7)) (hb : Is2 b (fun r _ => p.b r 7)) :
    Is2 (k0_pay88 da (k0_pay84 vn w) (k0_pay85 b)) (fun r c => p.da r (896 + c) * p.mixed r (896 + c)) :=
  is_du (g := 7) rfl (da_7 hda) (vn_7 hvn) (hw.dropUnit _) hb _ broadcasts_S128x1_S128x256 _ _ concatenates_S128x128_S128x128_S256x128_d0 _
theorem dw_7 (hvn : Is2 vn p.vn) (hgu : Is2 gu (fun r c => gelu (p.u r c))) (hda : Is2 da p.da) (ha : Is2 acc f) :
    Is2 (k0_pay90 gu da (k0_pay83 vn) acc) (fun r c => f r c + p.dw 2 r (896 + c)) := is_dw (g := 7) rfl ((dmx_7 hgu hda).truncf .bf16 _) (vn_7 hvn) ha _
theorem db_7 (hgu : Is2 gu (fun r c => gelu (p.u r c))) (hda : Is2 da p.da) (ha : Is2 acc f) :
    Is2 (k0_pay91 gu da acc) (fun r c => f r c + p.db 2 r (896 + c)) := is_db (dmx_7 hgu hda) ha _ slices_S128x256_o0_0_S128x128 _
theorem dvn_7 (hgu : Is2 gu (fun r c => gelu (p.u r c))) (hda : Is2 da p.da) (hw : Is3 w (fun _ r s => p.w 7 s r)) :
    Is2 (k0_pay93 (k0_pay92 gu da w)) (fun r c => p.dvn r (896 + c)) :=
  is_dvn (g := 7) rfl ((dmx_7 hgu hda).truncf .bf16 _) (hw.dropUnit _) _ _ concatenates_S128x128_S128x128_S256x128_d0 _

end groups

section tail

/-- The first half's gradient: what the scratch holds times gelu's derivative. -/
theorem is_pay94 {u t x : FVec Ideal S256x1024 .f32} (hu : Is2 u p.u) (ht : Is2 t (fun r c => th (p.u r c)))
    (hx : Is2 x (fun r c => p.da r c * p.mixed r c)) : Is3 (k0_pay94 u t x) (fun _ => p.du) :=
  ((hx.mulf (is_dgelu hu ht)).truncf .bf16 _).addUnit _

/-- The rows summed by their number modulo 8, added to what the accumulator holds: the layer norm's scale. -/
theorem is_pay95 {vh x : FVec Ideal S256x1024 .f32} {a : FVec Ideal S1x8x1024 .f32} {f : ℕ → ℕ → ℝ} (hv : Is2 vh p.vh)
    (hx : Is2 x p.dvn) (ha : Is3 a (fun _ => f)) : Is3 (k0_pay95 vh x a) (fun _ r c => f r c + p.dlg 32 r c) :=
  ((ha.dropUnit _).addf ((hx.mulf hv).rows8 (q := 32) _ _ _ _)).addUnit _

/-- … and its shift. -/
theorem is_pay96 {x : FVec Ideal S256x1024 .f32} {a : FVec Ideal S1x8x1024 .f32} {f : ℕ → ℕ → ℝ}
    (hx : Is2 x p.dvn) (ha : Is3 a (fun _ => f)) : Is3 (k0_pay96 x a) (fun _ r c => f r c + p.dlb 32 r c) :=
  ((ha.dropUnit _).addf (hx.rows8 (q := 32) _ _ _ _)).addUnit _

/-- The gradient of `gelu v`. -/
theorem is_pay97 {lg : FVec Ideal S1x1024 .f32} {rs : FVec Ideal S256x1 .f32} {vh x : FVec Ideal S256x1024 .f32}
    (hl : Is2 lg (fun _ => p.lg)) (hr : Is2 rs (fun r _ => p.rs r)) (hv : Is2 vh p.vh) (hx : Is2 x p.dvn) :
    Is2 (k0_pay97 lg rs vh x) p.dgv :=
  have hd := hx.mulf (hl.rowBcast (a := 256) (by decide) broadcasts_S1x1024_S256x1024)
  (hr.colBcast (by decide) _).mulf ((hd.subf ((is_mean hd).colBcast (by decide) _)).subf
    (hv.mulf ((is_mean (hd.mulf hv)).colBcast (by decide) _)))

/-- The second half's gradient. -/
theorem is_pay1 {v t x : FVec Ideal S256x1024 .f32} (hv : Is2 v p.v) (ht : Is2 t (fun r c => th (p.v r c))) (hx : Is2 x p.dgv) :
    Is3 (k0_pay1 x (k0_pay98 t) (k0_pay99 v t) (k0_pay100 v)) (fun _ => p.dv) :=
  ((hx.mulf (is_dgelu hv ht)).truncf .bf16 _).addUnit _

end tail

end Cert.Gmlp
-- ==== Proof.Store.lean ====
/-
  Blocks read from and pieces stored to a staging buffer, over real numbers: a load is the block's function shifted; 8
  stores of 128 columns each leave the array they were cut from; two stores of one leading index each leave the pair.
-/
module

public import proofs.«01_k».proof.Proof.Arr
public import Idealize.ShloMosaic.Lib.Pipeline.ValueKit.Tiles

@[expose] public section

namespace Cert.Gmlp

open Idealize.ShloMosaic
open scoped BigOperators

variable {sig : RefSig} {κ : Kind} {sp : Space}

theorem load_apply {S : Shape} {e : EltTy} {M : Memref sig κ sp S e} (hM : M.IsWhole) (x : Vec Ideal S e)
    (off size : Fin S.rank → ℕ) (inb) (j : (Rect.unit off size inb).shape.Idx) (i : S.Idx)
    (hi : ∀ a, (i a : ℕ) = off a + j a) :
    View.readAt (Elt Ideal) M.view (Rect.unit off size inb).toLoadRect (hM.unread x) j = x i := by
  rw [View.readAt_eq_ld, hM.read_unread]; exact View.ld_unit_apply_of x off size inb j i hi

section load2
variable {a b a' b' o q : ℕ} {f : ℕ → ℕ → ℝ}

theorem load2f {M : Memref sig κ sp ⟨2, ![a, b]⟩ .f32} (hM : M.IsWhole) {x : Vec Ideal ⟨2, ![a, b]⟩ .f32} (hx : Is2 (φ := .f32) x f)
    (inb : ∀ k, (![o, q] : Fin 2 → ℕ) k + (![a', b'] : Fin 2 → ℕ) k ≤ (![a, b] : Fin 2 → ℕ) k) :
    Is2 (φ := .f32) (a := a') (b := b')
      (View.readAt (Elt Ideal) M.view (Rect.unit (s := ⟨2, ![a, b]⟩) ![o, q] ![a', b'] inb).toLoadRect (hM.unread x))
      (fun r c => f (o + r) (q + c)) := by
  intro r c
  have h0 : o + a' ≤ a := inb 0
  have h1 : q + b' ≤ b := inb 1
  exact (load_apply hM x ![o, q] ![a', b'] inb (ix2 r c) (ix2 ⟨o + r, by omega⟩ ⟨q + c, by omega⟩)
    (fun k => match k with | ⟨0, _⟩ => rfl | ⟨1, _⟩ => rfl)).trans (hx _ _)

theorem load2b {M : Memref sig κ sp ⟨2, ![a, b]⟩ .bf16} (hM : M.IsWhole) {x : Vec Ideal ⟨2, ![a, b]⟩ .bf16} (hx : Is2 (φ := .bf16) x f)
    (inb : ∀ k, (![o, q] : Fin 2 → ℕ) k + (![a', b'] : Fin 2 → ℕ) k ≤ (![a, b] : Fin 2 → ℕ) k) :
    Is2 (φ := .bf16) (a := a') (b := b')
      (View.readAt (Elt Ideal) M.view (Rect.unit (s := ⟨2, ![a, b]⟩) ![o, q] ![a', b'] inb).toLoadRect (hM.unread x))
      (fun r c => f (o + r) (q + c)) := by
  intro r c
  have h0 : o + a' ≤ a := inb 0
  have h1 : q + b' ≤ b := inb 1
  exact (load_apply hM x ![o, q] ![a', b'] inb (ix2 r c) (ix2 ⟨o + r, by omega⟩ ⟨q + c, by omega⟩)
    (fun k => match k with | ⟨0, _⟩ => rfl | ⟨1, _⟩ => rfl)).trans (hx _ _)
end load2

section load3
variable {a b d a' b' d' o q s : ℕ} {f : ℕ → ℕ → ℕ → ℝ}

theorem load3f {M : Memref sig κ sp ⟨3, ![a, b, d]⟩ .f32} (hM : M.IsWhole) {x : Vec Ideal ⟨3, ![a, b, d]⟩ .f32} (hx : Is3 (φ := .f32) x f)
    (inb : ∀ k, (![o, q, s] : Fin 3 → ℕ) k + (![a', b', d'] : Fin 3 → ℕ) k ≤ (![a, b, d] : Fin 3 → ℕ) k) :
    Is3 (φ := .f32) (a := a') (b := b') (d := d')
      (View.readAt (Elt Ideal) M.view (Rect.unit (s := ⟨3, ![a, b, d]⟩) ![o, q, s] ![a', b', d'] inb).toLoadRect (hM.unread x))
      (fun k r c => f (o + k) (q + r) (s + c)) := by
  intro k r c
  have h0 : o + a' ≤ a := inb 0
  have h1 : q + b' ≤ b := inb 1
  have h2 : s + d' ≤ d := inb 2
  exact (load_apply hM x ![o, q, s] ![a', b', d'] inb (ix3 k r c) (ix3 ⟨o + k, by omega⟩ ⟨q + r, by omega⟩ ⟨s + c, by omega⟩)
    (fun k => match k with | ⟨0, _⟩ => rfl | ⟨1, _⟩ => rfl | ⟨2, _⟩ => rfl)).trans (hx _ _ _)

theorem load3b {M : Memref sig κ sp ⟨3, ![a, b, d]⟩ .bf16} (hM : M.IsWhole) {x : Vec Ideal ⟨3, ![a, b, d]⟩ .bf16} (hx : Is3 (φ := .bf16) x f)
    (inb : ∀ k, (![o, q, s] : Fin 3 → ℕ) k + (![a', b', d'] : Fin 3 → ℕ) k ≤ (![a, b, d] : Fin 3 → ℕ) k) :
    Is3 (φ := .bf16) (a := a') (b := b') (d := d')
      (View.readAt (Elt Ideal) M.view (Rect.unit (s := ⟨3, ![a, b, d]⟩) ![o, q, s] ![a', b', d'] inb).toLoadRect (hM.unread x))
      (fun k r c => f (o + k) (q + r) (s + c)) := by
  intro k r c
  have h0 : o + a' ≤ a := inb 0
  have h1 : q + b' ≤ b := inb 1
  have h2 : s + d' ≤ d := inb 2
  exact (load_apply hM x ![o, q, s] ![a', b', d'] inb (ix3 k r c) (ix3 ⟨o + k, by omega⟩ ⟨q + r, by omega⟩ ⟨s + c, by omega⟩)
    (fun k => match k with | ⟨0, _⟩ => rfl | ⟨1, _⟩ => rfl | ⟨2, _⟩ => rfl)).trans (hx _ _ _)
end load3

/-! ## The loads of the body, by form -/

section forms
variable {a b n : ℕ} {f : ℕ → ℕ → ℝ} {h : ℕ → ℕ → ℕ → ℝ}

/-- The whole of a rank-2 block. -/
theorem whole2f {M : Memref sig κ sp ⟨2, ![a, b]⟩ .f32} (hM : M.IsWhole) {x : Vec Ideal ⟨2, ![a, b]⟩ .f32} (hx : Is2 (φ := .f32) x f)
    (inb : ∀ k, (![0, 0] : Fin 2 → ℕ) k + (![a, b] : Fin 2 → ℕ) k ≤ (![a, b] : Fin 2 → ℕ) k) :
    Is2 (φ := .f32) (a := a) (b := b)
      (View.readAt (Elt Ideal) M.view (Rect.unit (s := ⟨2, ![a, b]⟩) ![0, 0] ![a, b] inb).toLoadRect (hM.unread x)) f :=
  (load2f hM hx inb).congr fun r c _ _ => by rw [Nat.zero_add, Nat.zero_add]
theorem whole2b {M : Memref sig κ sp ⟨2, ![a, b]⟩ .bf16} (hM : M.IsWhole) {x : Vec Ideal ⟨2, ![a, b]⟩ .bf16} (hx : Is2 (φ := .bf16) x f)
    (inb : ∀ k, (![0, 0] : Fin 2 → ℕ) k + (![a, b] : Fin 2 → ℕ) k ≤ (![a, b] : Fin 2 → ℕ) k) :
    Is2 (φ := .bf16) (a := a) (b := b)
      (View.readAt (Elt Ideal) M.view (Rect.unit (s := ⟨2, ![a, b]⟩) ![0, 0] ![a, b] inb).toLoadRect (hM.unread x)) f :=
  (load2b hM hx inb).congr fun r c _ _ => by rw [Nat.zero_add, Nat.zero_add]
/-- Columns `n` on, of a rank-2 block. -/
theorem cols2f {d : ℕ} {M : Memref sig κ sp ⟨2, ![a, b]⟩ .f32} (hM : M.IsWhole) {x : Vec Ideal ⟨2, ![a, b]⟩ .f32} (hx : Is2 (φ := .f32) x f)
    (inb : ∀ k, (![0, n] : Fin 2 → ℕ) k + (![a, d] : Fin 2 → ℕ) k ≤ (![a, b] : Fin 2 → ℕ) k) :
    Is2 (φ := .f32) (a := a) (b := d)
      (View.readAt (Elt Ideal) M.view (Rect.unit (s := ⟨2, ![a, b]⟩) ![0, n] ![a, d] inb).toLoadRect (hM.unread x))
      (fun r c => f r (n + c)) :=
  (load2f hM hx inb).congr fun r c _ _ => by rw [Nat.zero_add]
/-- Column `n` of a rank-2 block. -/
theorem col2f {M : Memref sig κ sp ⟨2, ![a, b]⟩ .f32} (hM : M.IsWhole) {x : Vec Ideal ⟨2, ![a, b]⟩ .f32} (hx : Is2 (φ := .f32) x f)
    (inb : ∀ k, (![0, n] : Fin 2 → ℕ) k + (![a, 1] : Fin 2 → ℕ) k ≤ (![a, b] : Fin 2 → ℕ) k) :
    Is2 (φ := .f32) (a := a) (b := 1)
      (View.readAt (Elt Ideal) M.view (Rect.unit (s := ⟨2, ![a, b]⟩) ![0, n] ![a, 1] inb).toLoadRect (hM.unread x))
      (fun r _ => f r n) :=
  (load2f hM hx inb).congr fun r c _ hc => by obtain rfl : c = 0 := by omega
                                              rw [Nat.zero_add, Nat.add_zero]
/-- Slab `n` of a rank-3 block. -/
theorem slab3f {d : ℕ} {M : Memref sig κ sp ⟨3, ![d, a, b]⟩ .f32} (hM : M.IsWhole) {x : Vec Ideal ⟨3, ![d, a, b]⟩ .f32} (hx : Is3 (φ := .f32) x h)
    (inb : ∀ k, (![n, 0, 0] : Fin 3 → ℕ) k + (![1, a, b] : Fin 3 → ℕ) k ≤ (![d, a, b] : Fin 3 → ℕ) k) :
    Is3 (φ := .f32) (a := 1) (b := a) (d := b)
      (View.readAt (Elt Ideal) M.view (Rect.unit (s := ⟨3, ![d, a, b]⟩) ![n, 0, 0] ![1, a, b] inb).toLoadRect (hM.unread x))
      (fun _ => h n) :=
  (load3f hM hx inb).congr fun k r c hk _ _ => by obtain rfl : k = 0 := by omega
                                                  rw [Nat.zero_add, Nat.zero_add, Nat.add_zero]
theorem slab3b {d : ℕ} {M : Memref sig κ sp ⟨3, ![d, a, b]⟩ .bf16} (hM : M.IsWhole) {x : Vec Ideal ⟨3, ![d, a, b]⟩ .bf16} (hx : Is3 (φ := .bf16) x h)
    (inb : ∀ k, (![n, 0, 0] : Fin 3 → ℕ) k + (![1, a, b] : Fin 3 → ℕ) k ≤ (![d, a, b] : Fin 3 → ℕ) k) :
    Is3 (φ := .bf16) (a := 1) (b := a) (d := b)
      (View.readAt (Elt Ideal) M.view (Rect.unit (s := ⟨3, ![d, a, b]⟩) ![n, 0, 0] ![1, a, b] inb).toLoadRect (hM.unread x))
      (fun _ => h n) :=
  (load3b hM hx inb).congr fun k r c hk _ _ => by obtain rfl : k = 0 := by omega
                                                  rw [Nat.zero_add, Nat.zero_add, Nat.add_zero]
end forms

/-- A store that does not reach the index leaves what was there. -/
theorem canon_skip {S : Shape} {e : EltTy} {R : Rect S} {w : R.shape.Idx → Elt Ideal e} {L : List (View.Piece (Elt Ideal) S e)}
    {y : S.Idx} (h : y ∉ R.set) : View.canon ((⟨R, w⟩ : View.Piece (Elt Ideal) S e) :: L) y = View.canon L y :=
  View.canon_cons_of_not_mem (⟨R, w⟩ : View.Piece (Elt Ideal) S e) L h

/-! ## Stores of 128 columns each -/

section columns
variable {R n : ℕ} {F : ℕ → ℕ → ℝ}

/-- The stores leave `F` on the first `n` columns. -/
def Upto (L : List (View.Piece (Elt Ideal) ⟨2, ![R, 1024]⟩ .f32)) (n : ℕ) (F : ℕ → ℕ → ℝ) : Prop :=
  ∀ (r : Fin R) (c : Fin 1024), c.val < n → (View.canon L (ix2 r c) : EReal) = ((F r c : ℝ) : EReal)
/-- The stores leave 0 on the columns from `n` on. -/
def Rest (L : List (View.Piece (Elt Ideal) ⟨2, ![R, 1024]⟩ .f32)) (n : ℕ) : Prop :=
  ∀ (r : Fin R) (c : Fin 1024), n ≤ c.val → (View.canon L (ix2 r c) : EReal) = ((0 : ℝ) : EReal)

theorem Upto.none (L : List (View.Piece (Elt Ideal) ⟨2, ![R, 1024]⟩ .f32)) : Upto L 0 F := fun _ _ h => absurd h (Nat.not_lt_zero _)

theorem col_not_mem {r : Fin R} {c : Fin 1024} (inb) (h : c.val < n ∨ n + 128 ≤ c.val) :
    (ix2 r c : (⟨2, ![R, 1024]⟩ : Shape).Idx) ∉ (Rect.unit (s := ⟨2, ![R, 1024]⟩) ![0, n] ![R, 128] inb).set := by
  rw [Rect.mem_set_unit]
  intro hm
  have h1 : n ≤ c.val ∧ c.val < n + 128 := hm 1
  omega

theorem Upto.cons {L : List (View.Piece (Elt Ideal) ⟨2, ![R, 1024]⟩ .f32)} (hL : Upto L n F)
    (inb : ∀ k, (![0, n] : Fin 2 → ℕ) k + (![R, 128] : Fin 2 → ℕ) k ≤ (![R, 1024] : Fin 2 → ℕ) k)
    {w : FVec Ideal ⟨2, ![R, 128]⟩ .f32} (hw : Is2 w (fun r c => F r (n + c))) :
    Upto ((⟨Rect.unit (s := ⟨2, ![R, 1024]⟩) ![0, n] ![R, 128] inb, w⟩ : View.Piece (Elt Ideal) ⟨2, ![R, 1024]⟩ .f32) :: L) (n + 128) F := by
  intro r c hc
  by_cases hn : c.val < n
  · exact (canon_skip (col_not_mem inb (.inl hn))).trans (hL r c hn)
  · have e : (ix2 r c : (⟨2, ![R, 1024]⟩ : Shape).Idx)
        = (Rect.unit (s := ⟨2, ![R, 1024]⟩) ![0, n] ![R, 128] inb).emb (ix2 r ⟨c.val - n, by omega⟩) := by
      funext k
      refine Fin.ext ?_
      rw [Rect.emb_apply]
      match k with
      | ⟨0, _⟩ => show r.val = 0 + 1 * r.val; omega
      | ⟨1, _⟩ => show c.val = n + 1 * (c.val - n); omega
    rw [e, View.canon_cons_emb]
    refine (hw r ⟨c.val - n, by omega⟩).trans ?_
    show ((F r (n + (c.val - n)) : ℝ) : EReal) = _
    rw [Nat.add_sub_cancel' (Nat.le_of_not_lt hn)]

theorem Rest.cons {L : List (View.Piece (Elt Ideal) ⟨2, ![R, 1024]⟩ .f32)} (hL : Rest L n) (inb)
    {w : FVec Ideal ⟨2, ![R, 128]⟩ .f32} {g : ℕ → ℕ → ℝ} (_ : Is2 w g) :
    Rest ((⟨Rect.unit (s := ⟨2, ![R, 1024]⟩) ![0, n] ![R, 128] inb, w⟩ : View.Piece (Elt Ideal) ⟨2, ![R, 1024]⟩ .f32) :: L) (n + 128) := by
  intro r c hc
  exact (canon_skip (col_not_mem inb (.inr hc))).trans (hL r c (by omega))

/-- One store of zero over the whole buffer. -/
theorem Rest.init (inb) {w : FVec Ideal ⟨2, ![R, 1024]⟩ .f32} (hw : Is2 w (fun _ _ => 0)) :
    Rest [(⟨Rect.unit (s := ⟨2, ![R, 1024]⟩) ![0, 0] ![R, 1024] inb, w⟩ : View.Piece (Elt Ideal) ⟨2, ![R, 1024]⟩ .f32)] 0 := by
  intro r c _
  have e : (ix2 r c : (⟨2, ![R, 1024]⟩ : Shape).Idx)
      = (Rect.unit (s := ⟨2, ![R, 1024]⟩) ![0, 0] ![R, 1024] inb).emb (ix2 r c) := by
    funext k
    refine Fin.ext ?_
    rw [Rect.emb_apply]
    match k with
    | ⟨0, _⟩ => show r.val = 0 + 1 * r.val; omega
    | ⟨1, _⟩ => show c.val = 0 + 1 * c.val; omega
  rw [e, View.canon_cons_emb]
  exact hw r c

/-- Eight stores of 128 columns each leave the array they were cut from. -/
theorem Upto.eight {w₀ w₁ w₂ w₃ w₄ w₅ w₆ w₇ : FVec Ideal ⟨2, ![R, 128]⟩ .f32} (h₀ : Is2 w₀ (fun r c => F r (0 + c)))
    (h₁ : Is2 w₁ (fun r c => F r (128 + c))) (h₂ : Is2 w₂ (fun r c => F r (256 + c))) (h₃ : Is2 w₃ (fun r c => F r (384 + c)))
    (h₄ : Is2 w₄ (fun r c => F r (512 + c))) (h₅ : Is2 w₅ (fun r c => F r (640 + c))) (h₆ : Is2 w₆ (fun r c => F r (768 + c)))
    (h₇ : Is2 w₇ (fun r c => F r (896 + c))) (L : List (View.Piece (Elt Ideal) ⟨2, ![R, 1024]⟩ .f32))
    (i₀ i₁ i₂ i₃ i₄ i₅ i₆ i₇) :
    Upto ((⟨Rect.unit (s := ⟨2, ![R, 1024]⟩) ![0, 896] ![R, 128] i₇, w₇⟩ : View.Piece (Elt Ideal) ⟨2, ![R, 1024]⟩ .f32)
      :: ⟨Rect.unit (s := ⟨2, ![R, 1024]⟩) ![0, 768] ![R, 128] i₆, w₆⟩ :: ⟨Rect.unit (s := ⟨2, ![R, 1024]⟩) ![0, 640] ![R, 128] i₅, w₅⟩
      :: ⟨Rect.unit (s := ⟨2, ![R, 1024]⟩) ![0, 512] ![R, 128] i₄, w₄⟩ :: ⟨Rect.unit (s := ⟨2, ![R, 1024]⟩) ![0, 384] ![R, 128] i₃, w₃⟩
      :: ⟨Rect.unit (s := ⟨2, ![R, 1024]⟩) ![0, 256] ![R, 128] i₂, w₂⟩ :: ⟨Rect.unit (s := ⟨2, ![R, 1024]⟩) ![0, 128] ![R, 128] i₁, w₁⟩
      :: ⟨Rect.unit (s := ⟨2, ![R, 1024]⟩) ![0, 0] ![R, 128] i₀, w₀⟩ :: L) 1024 F :=
  ((((((((Upto.none L).cons i₀ h₀).cons i₁ h₁).cons i₂ h₂).cons i₃ h₃).cons i₄ h₄).cons i₅ h₅).cons i₆ h₆).cons i₇ h₇

variable {v : View sig κ sp ⟨2, ![R, 1024]⟩ .f32}

/-- A block of columns read back where the stores left 0. -/
theorem Rest.read {L : List (View.Piece (Elt Ideal) ⟨2, ![R, 1024]⟩ .f32)} (hL : Rest L n)
    (inb : ∀ k, (![0, n] : Fin 2 → ℕ) k + (![R, 128] : Fin 2 → ℕ) k ≤ (![R, 1024] : Fin 2 → ℕ) k) :
    Is2 (φ := .f32) (a := R) (b := 128) (v.readCov L (Rect.unit (s := ⟨2, ![R, 1024]⟩) ![0, n] ![R, 128] inb).toLoadRect)
      (fun _ _ => 0) := by
  intro r c
  have h1 : n + 128 ≤ 1024 := inb 1
  rw [View.readCov_eq_canon']
  refine (congrArg (View.canon L) ?_).trans (hL r ⟨n + c.val, by omega⟩ (Nat.le_add_right _ _))
  funext k
  refine Fin.ext ?_
  match k with
  | ⟨0, _⟩ => show 0 + 1 * r.val = r.val; omega
  | ⟨1, _⟩ => show n + 1 * c.val = n + c.val; omega

/-- The whole buffer read back. -/
theorem Upto.read {L : List (View.Piece (Elt Ideal) ⟨2, ![R, 1024]⟩ .f32)} (hL : Upto L 1024 F)
    (inb : ∀ k, (![0, 0] : Fin 2 → ℕ) k + (![R, 1024] : Fin 2 → ℕ) k ≤ (![R, 1024] : Fin 2 → ℕ) k) :
    Is2 (φ := .f32) (a := R) (b := 1024) (v.readCov L (Rect.unit (s := ⟨2, ![R, 1024]⟩) ![0, 0] ![R, 1024] inb).toLoadRect) F := by
  intro r c
  rw [View.readCov_eq_canon']
  refine (congrArg (View.canon L) ?_).trans (hL r c c.isLt)
  funext k
  refine Fin.ext ?_
  match k with
  | ⟨0, _⟩ => show 0 + 1 * r.val = r.val; omega
  | ⟨1, _⟩ => show 0 + 1 * c.val = c.val; omega

/-- What the stores leave, the whole array. -/
theorem Upto.all {L : List (View.Piece (Elt Ideal) ⟨2, ![R, 1024]⟩ .f32)} (hL : Upto L 1024 F) :
    Is2 (φ := .f32) (a := R) (b := 1024) (v.read (Elt Ideal) (v.writes (Elt Ideal) v.junk L)) F := by
  intro r c
  rw [View.read_writes_junk_eq_canon]
  exact hL r c c.isLt

end columns

/-! ## A store per leading index -/

section pair
variable {a b : ℕ} {f₀ f₁ : ℕ → ℕ → ℝ}

theorem emb3 {n : ℕ} (o : ℕ) (inb) (i : Fin n) (hi : i.val = o) (r : Fin a) (c : Fin b) :
    (ix3 i r c : (⟨3, ![n, a, b]⟩ : Shape).Idx)
      = (Rect.unit (s := ⟨3, ![n, a, b]⟩) ![o, 0, 0] ![1, a, b] inb).emb (ix3 0 r c) := by
  funext x
  refine Fin.ext ?_
  rw [Rect.emb_apply]
  match x with
  | ⟨0, _⟩ => show i.val = o + 1 * 0; omega
  | ⟨1, _⟩ => show r.val = 0 + 1 * r.val; omega
  | ⟨2, _⟩ => show c.val = 0 + 1 * c.val; omega

theorem not_mem3 {n : ℕ} (o : ℕ) (inb) (i : Fin n) (hi : i.val ≠ o) (r : Fin a) (c : Fin b) :
    (ix3 i r c : (⟨3, ![n, a, b]⟩ : Shape).Idx) ∉ (Rect.unit (s := ⟨3, ![n, a, b]⟩) ![o, 0, 0] ![1, a, b] inb).set := by
  rw [Rect.mem_set_unit]
  intro hm
  have h1 : o ≤ i.val ∧ i.val < o + 1 := hm 0
  omega

variable {e : EltTy} {v : View sig κ sp ⟨3, ![2, a, b]⟩ e}

theorem pair_apply (L : List (View.Piece (Elt Ideal) ⟨3, ![2, a, b]⟩ e)) (inb₁ inb₀)
    (w₁ w₀ : Vec Ideal ⟨3, ![1, a, b]⟩ e) (r : Fin a) (c : Fin b) :
    (v.read (Elt Ideal) (v.writes (Elt Ideal) v.junk
      ((⟨Rect.unit (s := ⟨3, ![2, a, b]⟩) ![1, 0, 0] ![1, a, b] inb₁, w₁⟩ : View.Piece (Elt Ideal) ⟨3, ![2, a, b]⟩ e)
        :: ⟨Rect.unit (s := ⟨3, ![2, a, b]⟩) ![0, 0, 0] ![1, a, b] inb₀, w₀⟩ :: L)) (ix3 0 r c) = w₀ (ix3 0 r c))
    ∧ (v.read (Elt Ideal) (v.writes (Elt Ideal) v.junk
      ((⟨Rect.unit (s := ⟨3, ![2, a, b]⟩) ![1, 0, 0] ![1, a, b] inb₁, w₁⟩ : View.Piece (Elt Ideal) ⟨3, ![2, a, b]⟩ e)
        :: ⟨Rect.unit (s := ⟨3, ![2, a, b]⟩) ![0, 0, 0] ![1, a, b] inb₀, w₀⟩ :: L)) (ix3 1 r c) = w₁ (ix3 0 r c)) := by
  rw [View.read_writes_junk_eq_canon]
  constructor
  · refine (canon_skip (not_mem3 1 inb₁ 0 (by decide) r c)).trans ?_
    rw [emb3 0 inb₀ 0 rfl r c]
    exact View.canon_cons_emb _ _ _ _
  · rw [emb3 1 inb₁ 1 rfl r c]
    exact View.canon_cons_emb _ _ _ _

/-- Two stores, one per leading index, over whatever was stored before. -/
theorem pairf {v : View sig κ sp ⟨3, ![2, a, b]⟩ .f32} {L : List (View.Piece (Elt Ideal) ⟨3, ![2, a, b]⟩ .f32)} {inb₁ inb₀}
    {w₁ w₀ : FVec Ideal ⟨3, ![1, a, b]⟩ .f32} (h₁ : Is3 w₁ (fun _ => f₁)) (h₀ : Is3 w₀ (fun _ => f₀)) :
    Is3 (φ := .f32) (a := 2) (b := a) (d := b) (v.read (Elt Ideal) (v.writes (Elt Ideal) v.junk
      ((⟨Rect.unit (s := ⟨3, ![2, a, b]⟩) ![1, 0, 0] ![1, a, b] inb₁, w₁⟩ : View.Piece (Elt Ideal) ⟨3, ![2, a, b]⟩ .f32)
        :: ⟨Rect.unit (s := ⟨3, ![2, a, b]⟩) ![0, 0, 0] ![1, a, b] inb₀, w₀⟩ :: L)))
      (fun k => if k = 0 then f₀ else f₁) := by
  intro k r c
  have h := pair_apply (v := v) L inb₁ inb₀ w₁ w₀ r c
  match k with
  | ⟨0, _⟩ => exact h.1.trans (h₀ 0 r c)
  | ⟨1, _⟩ => exact h.2.trans (h₁ 0 r c)

theorem pairb {v : View sig κ sp ⟨3, ![2, a, b]⟩ .bf16} {L : List (View.Piece (Elt Ideal) ⟨3, ![2, a, b]⟩ .bf16)} {inb₁ inb₀}
    {w₁ w₀ : FVec Ideal ⟨3, ![1, a, b]⟩ .bf16} (h₁ : Is3 w₁ (fun _ => f₁)) (h₀ : Is3 w₀ (fun _ => f₀)) :
    Is3 (φ := .bf16) (a := 2) (b := a) (d := b) (v.read (Elt Ideal) (v.writes (Elt Ideal) v.junk
      ((⟨Rect.unit (s := ⟨3, ![2, a, b]⟩) ![1, 0, 0] ![1, a, b] inb₁, w₁⟩ : View.Piece (Elt Ideal) ⟨3, ![2, a, b]⟩ .bf16)
        :: ⟨Rect.unit (s := ⟨3, ![2, a, b]⟩) ![0, 0, 0] ![1, a, b] inb₀, w₀⟩ :: L)))
      (fun k => if k = 0 then f₀ else f₁) := by
  intro k r c
  have h := pair_apply (v := v) L inb₁ inb₀ w₁ w₀ r c
  match k with
  | ⟨0, _⟩ => exact h.1.trans (h₀ 0 r c)
  | ⟨1, _⟩ => exact h.2.trans (h₁ 0 r c)

/-- One leading index read back where the only store was of zero over the whole buffer, … -/
theorem zero_read {v : View sig κ sp ⟨3, ![2, a, b]⟩ .f32} {inbw} {w : FVec Ideal ⟨3, ![2, a, b]⟩ .f32} (hw : Is3 w (fun _ _ _ => 0))
    (inb : ∀ k, (![0, 0, 0] : Fin 3 → ℕ) k + (![1, a, b] : Fin 3 → ℕ) k ≤ (![2, a, b] : Fin 3 → ℕ) k) :
    Is3 (φ := .f32) (a := 1) (b := a) (d := b) (v.readCov
      [(⟨Rect.unit (s := ⟨3, ![2, a, b]⟩) ![0, 0, 0] ![2, a, b] inbw, w⟩ : View.Piece (Elt Ideal) ⟨3, ![2, a, b]⟩ .f32)]
      (Rect.unit (s := ⟨3, ![2, a, b]⟩) ![0, 0, 0] ![1, a, b] inb).toLoadRect) (fun _ _ _ => 0) := by
  intro k r c
  obtain rfl : k = 0 := Subsingleton.elim _ _
  rw [View.readCov_eq_canon']
  refine (congrArg (View.canon _) (?_ : _ = (Rect.unit (s := ⟨3, ![2, a, b]⟩) ![0, 0, 0] ![2, a, b] inbw).emb (ix3 0 r c))).trans
    ((View.canon_cons_emb _ _ _ _).trans (hw 0 r c))
  funext x
  refine Fin.ext ?_
  rw [Rect.emb_apply]
  match x with
  | ⟨0, _⟩ => rfl
  | ⟨1, _⟩ => rfl
  | ⟨2, _⟩ => rfl

/-- … and the other leading index after the first one was stored. -/
theorem zero_read' {v : View sig κ sp ⟨3, ![2, a, b]⟩ .f32} {inbw inb₀} {w : FVec Ideal ⟨3, ![2, a, b]⟩ .f32}
    {w₀ : FVec Ideal ⟨3, ![1, a, b]⟩ .f32} (hw : Is3 w (fun _ _ _ => 0))
    (inb : ∀ k, (![1, 0, 0] : Fin 3 → ℕ) k + (![1, a, b] : Fin 3 → ℕ) k ≤ (![2, a, b] : Fin 3 → ℕ) k) :
    Is3 (φ := .f32) (a := 1) (b := a) (d := b) (v.readCov
      [(⟨Rect.unit (s := ⟨3, ![2, a, b]⟩) ![0, 0, 0] ![1, a, b] inb₀, w₀⟩ : View.Piece (Elt Ideal) ⟨3, ![2, a, b]⟩ .f32),
       ⟨Rect.unit (s := ⟨3, ![2, a, b]⟩) ![0, 0, 0] ![2, a, b] inbw, w⟩]
      (Rect.unit (s := ⟨3, ![2, a, b]⟩) ![1, 0, 0] ![1, a, b] inb).toLoadRect) (fun _ _ _ => 0) := by
  intro k r c
  obtain rfl : k = 0 := Subsingleton.elim _ _
  rw [View.readCov_eq_canon']
  have e : (Rect.unit (s := ⟨3, ![2, a, b]⟩) ![1, 0, 0] ![1, a, b] inb).toLoadRect.idx (ix3 0 r c)
      = (ix3 1 r c : (⟨3, ![2, a, b]⟩ : Shape).Idx) := (emb3 1 inb 1 rfl r c).symm
  show View.canon _ _ = _
  rw [e]
  refine (canon_skip (not_mem3 0 inb₀ 1 (by decide) r c)).trans ?_
  refine (congrArg (View.canon _) (?_ : _ = (Rect.unit (s := ⟨3, ![2, a, b]⟩) ![0, 0, 0] ![2, a, b] inbw).emb (ix3 1 r c))).trans
    ((View.canon_cons_emb _ _ _ _).trans (hw 1 r c))
  funext x
  refine Fin.ext ?_
  rw [Rect.emb_apply]
  match x with
  | ⟨0, _⟩ => rfl
  | ⟨1, _⟩ => show r.val = 0 + 1 * r.val; omega
  | ⟨2, _⟩ => show c.val = 0 + 1 * c.val; omega

end pair

end Cert.Gmlp
-- ==== Proof.CaseA.lean ====
/-
  What the first grid point leaves in its four results: the three running sums are cleared, then added to.
-/
module

public import proofs.«01_k».proof.Proof.Block
public import proofs.«01_k».proof.Proof.Store
public import proofs.«01_k».proof.Proof.Gen.KernelIdeal.Frame

@[expose] public section

namespace Cert.Gmlp

open Idealize.ShloMosaic Cert.KernelIdeal Cert.KernelIdeal.Gen
open scoped BigOperators

/-- The blocks a grid point reads hold the inputs of `p`. -/
structure Holds (p : Inp) (x0 : Vec Ideal S256x1024 .bf16) (x1 : Vec Ideal S1024x1024 .bf16) (x2 x3 : Vec Ideal S1x256x1024 .f32)
    (x4 x5 : Vec Ideal S1x1024 .f32) (x6 x7 : Vec Ideal S8x128x128 .bf16) (x8 : Vec Ideal S128x8 .f32) : Prop where
  dya : Is2 (φ := .bf16) x0 p.dya
  wa : Is2 (φ := .bf16) x1 p.wa
  u : Is3 (φ := .f32) x2 (fun _ => p.u)
  v : Is3 (φ := .f32) x3 (fun _ => p.v)
  lg : Is2 (φ := .f32) x4 (fun _ => p.lg)
  lb : Is2 (φ := .f32) x5 (fun _ => p.lb)
  w : Is3 (φ := .bf16) x6 p.w
  wt : Is3 (φ := .bf16) x7 (fun g r s => p.w g s r)
  b : Is2 (φ := .f32) x8 p.b

section

variable (c : Dev nD) (i : grid0.Coords)
  {arg2 : Memref sig .tc .vmem S256x1024 .bf16} (harg2 : arg2.IsWhole)
  {arg3 : Memref sig .tc .vmem S1024x1024 .bf16} (harg3 : arg3.IsWhole)
  {arg4 : Memref sig .tc .vmem S1x256x1024 .f32} (harg4 : arg4.IsWhole)
  {arg5 : Memref sig .tc .vmem S1x256x1024 .f32} (harg5 : arg5.IsWhole)
  {arg6 : Memref sig .tc .vmem S1x1024 .f32} (harg6 : arg6.IsWhole)
  {arg7 : Memref sig .tc .vmem S1x1024 .f32} (harg7 : arg7.IsWhole)
  {arg8 : Memref sig .tc .vmem S8x128x128 .bf16} (harg8 : arg8.IsWhole)
  {arg9 : Memref sig .tc .vmem S8x128x128 .bf16} (harg9 : arg9.IsWhole)
  {arg10 : Memref sig .tc .vmem S128x8 .f32} (harg10 : arg10.IsWhole)
  {arg11 : Memref sig .tc .vmem S2x256x1024 .bf16} (harg11 : arg11.IsWhole)
  {arg12 : Memref sig .tc .vmem S2x8x1024 .f32} (harg12 : arg12.IsWhole)
  {arg13 : Memref sig .tc .vmem S128x1024 .f32} (harg13 : arg13.IsWhole)
  {arg14 : Memref sig .tc .vmem S128x1024 .f32} (harg14 : arg14.IsWhole)
  {arg15 : Memref sig .tc .vmem S256x1024 .f32} (harg15 : arg15.IsWhole)
  {arg16 : Memref sig .tc .vmem S256x1024 .f32} (harg16 : arg16.IsWhole)
    {x0 : Vec Ideal S256x1024 .bf16} {x1 : Vec Ideal S1024x1024 .bf16} {x2 : Vec Ideal S1x256x1024 .f32} {x3 : Vec Ideal S1x256x1024 .f32} {x4 : Vec Ideal S1x1024 .f32} {x5 : Vec Ideal S1x1024 .f32} {x6 : Vec Ideal S8x128x128 .bf16} {x7 : Vec Ideal S8x128x128 .bf16} {x8 : Vec Ideal S128x8 .f32} {p : Inp}
  (h : Holds p x0 x1 x2 x3 x4 x5 x6 x7 x8)

include harg2 harg3 harg4 harg5 harg6 harg7 harg8 harg9 harg10 h

/-- The first scratch after its eight stores: the product's gradient times the mixed rows. -/
theorem du_scratchA : Upto (kernelRun0_A.sl.HS0_8 (F := Ideal) c arg2 harg2 arg3 harg3 arg5 harg5 arg6 harg6 arg7 harg7 arg8 harg8 arg10 harg10 x0 x1 x3 x4 x5 x6 x8) 1024 (fun r c => p.da r c * p.mixed r c) := by
  have hda := is_pay16 (whole2b harg2 h.dya (by decide)) (whole2b harg3 h.wa (by decide))
  have hg := is_pay10 (slab3f (n := 0) harg5 h.v (by decide))
  have hm := is_pay11 (slab3f (n := 0) harg5 h.v (by decide))
  have hlg := whole2f harg6 h.lg (by decide)
  have hlb := whole2f harg7 h.lb (by decide)
  have hvn := is_pay15 hg hm hlg hlb
  exact Upto.eight
    (du_0 hg hm hlg hlb (whole2b harg2 h.dya (by decide)) (whole2b harg3 h.wa (by decide)) (slab3b (n := 0) harg8 h.w (by decide)) (col2f (n := 0) harg10 h.b (by decide)))
    (du_1 hvn hda (slab3b (n := 1) harg8 h.w (by decide)) (col2f (n := 1) harg10 h.b (by decide)))
    (du_2 hvn hda (slab3b (n := 2) harg8 h.w (by decide)) (col2f (n := 2) harg10 h.b (by decide)))
    (du_3 hvn hda (slab3b (n := 3) harg8 h.w (by decide)) (col2f (n := 3) harg10 h.b (by decide)))
    (du_4 hvn hda (slab3b (n := 4) harg8 h.w (by decide)) (col2f (n := 4) harg10 h.b (by decide)))
    (du_5 hvn hda (slab3b (n := 5) harg8 h.w (by decide)) (col2f (n := 5) harg10 h.b (by decide)))
    (du_6 hvn hda (slab3b (n := 6) harg8 h.w (by decide)) (col2f (n := 6) harg10 h.b (by decide)))
    (du_7 hvn hda (slab3b (n := 7) harg8 h.w (by decide)) (col2f (n := 7) harg10 h.b (by decide)))
    [] _ _ _ _ _ _ _ _

/-- The second scratch after its eight stores: the gradient of the normalised rows. -/
theorem dvn_scratchA : Upto (kernelRun0_A.sl.HS1_8 (F := Ideal) c arg2 harg2 arg3 harg3 arg4 harg4 arg9 harg9 x0 x1 x2 x7) 1024 p.dvn := by
  have hgu := is_pay8 (slab3f (n := 0) harg4 h.u (by decide))
  have hda := is_pay16 (whole2b harg2 h.dya (by decide)) (whole2b harg3 h.wa (by decide))
  have hd := dmx_0 hgu (whole2b harg2 h.dya (by decide)) (whole2b harg3 h.wa (by decide))
  exact Upto.eight
    (dvn_0 hd (slab3b (n := 0) harg9 h.wt (by decide)))
    (dvn_1 hgu hda (slab3b (n := 1) harg9 h.wt (by decide)))
    (dvn_2 hgu hda (slab3b (n := 2) harg9 h.wt (by decide)))
    (dvn_3 hgu hda (slab3b (n := 3) harg9 h.wt (by decide)))
    (dvn_4 hgu hda (slab3b (n := 4) harg9 h.wt (by decide)))
    (dvn_5 hgu hda (slab3b (n := 5) harg9 h.wt (by decide)))
    (dvn_6 hgu hda (slab3b (n := 6) harg9 h.wt (by decide)))
    (dvn_7 hgu hda (slab3b (n := 7) harg9 h.wt (by decide)))
    [] _ _ _ _ _ _ _ _

/-- What the point leaves in the gradient of the two projections: that of `u` and that of `v`. -/
theorem outA_9 {hc0 : cond0_0 i} : Is3 (φ := .bf16) (out0_A_9 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8)
    (fun k => if k = 0 then p.du else p.dv) := by
  have hg := is_pay10 (slab3f (n := 0) harg5 h.v (by decide))
  have hm := is_pay11 (slab3f (n := 0) harg5 h.v (by decide))
  have hlg := whole2f harg6 h.lg (by decide)
  have hs := Upto.read (v := arg15.view) (du_scratchA c harg2 harg3 harg4 harg5 harg6 harg7 harg8 harg9 harg10 h) (by decide)
  have ht := Upto.read (v := arg16.view) (dvn_scratchA c harg2 harg3 harg4 harg5 harg6 harg7 harg8 harg9 harg10 h) (by decide)
  unfold out0_A_9 kernelRun0_A; dsimp only
  exact pairb (is_pay1 ((slab3f (n := 0) harg5 h.v (by decide)).dropUnit _) (is_pay9 (slab3f (n := 0) harg5 h.v (by decide))) (is_pay97 hlg (is_pay13 hg hm) (is_pay14 hg hm) ht))
    (is_pay94 ((slab3f (n := 0) harg4 h.u (by decide)).dropUnit _) (is_pay7 (slab3f (n := 0) harg4 h.u (by decide))) hs)

/-- What the point leaves in the sums for the layer norm's scale and shift. -/
theorem outA_10 {hc0 : cond0_0 i} : Is3 (φ := .f32) (out0_A_10 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8) (fun k => if k = 0 then p.dlg 32 else p.dlb 32) := by
  have hg := is_pay10 (slab3f (n := 0) harg5 h.v (by decide))
  have hm := is_pay11 (slab3f (n := 0) harg5 h.v (by decide))
  have ht := Upto.read (v := arg16.view) (dvn_scratchA c harg2 harg3 harg4 harg5 harg6 harg7 harg8 harg9 harg10 h) (by decide)
  have hz : Is3 (φ := .f32) (k0_pay2 (F := Ideal)) (fun _ _ _ => 0) := fun _ _ _ => ofBits_f ofBits_zero
  unfold out0_A_10 kernelRun0_A; dsimp only
  exact (pairf (is_pay96 ht (zero_read' hz (by decide))) (is_pay95 (is_pay14 hg hm) ht (zero_read hz (by decide)))).congr
    fun k r c _ _ _ => by
      by_cases hk : k = 0
      · rw [if_pos hk, if_pos hk]; exact zero_add _
      · rw [if_neg hk, if_neg hk]; exact zero_add _

/-- What the point leaves in the sum for the spatial weights. -/
theorem outA_11 {hc0 : cond0_0 i} : Is2 (φ := .f32) (out0_A_11 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8) (p.dw 2) := by
  have hgu := is_pay8 (slab3f (n := 0) harg4 h.u (by decide))
  have hda := is_pay16 (whole2b harg2 h.dya (by decide)) (whole2b harg3 h.wa (by decide))
  have hg := is_pay10 (slab3f (n := 0) harg5 h.v (by decide))
  have hm := is_pay11 (slab3f (n := 0) harg5 h.v (by decide))
  have hlg := whole2f harg6 h.lg (by decide)
  have hlb := whole2f harg7 h.lb (by decide)
  have hvn := is_pay15 hg hm hlg hlb
  have hd := dmx_0 hgu (whole2b harg2 h.dya (by decide)) (whole2b harg3 h.wa (by decide))
  have hz : Is2 (φ := .f32) (k0_pay3 (F := Ideal)) (fun _ _ => 0) := fun _ _ => ofBits_f ofBits_zero
  have r₀ := Rest.init (R := 128) (by decide) hz
  have w0 := dw_0 hd (vn_0 hg hm hlg hlb) (r₀.read (v := arg13.view) (by decide))
  have r₁ := r₀.cons (by decide) w0
  have w1 := dw_1 hvn hgu hda (r₁.read (v := arg13.view) (by decide))
  have r₂ := r₁.cons (by decide) w1
  have w2 := dw_2 hvn hgu hda (r₂.read (v := arg13.view) (by decide))
  have r₃ := r₂.cons (by decide) w2
  have w3 := dw_3 hvn hgu hda (r₃.read (v := arg13.view) (by decide))
  have r₄ := r₃.cons (by decide) w3
  have w4 := dw_4 hvn hgu hda (r₄.read (v := arg13.view) (by decide))
  have r₅ := r₄.cons (by decide) w4
  have w5 := dw_5 hvn hgu hda (r₅.read (v := arg13.view) (by decide))
  have r₆ := r₅.cons (by decide) w5
  have w6 := dw_6 hvn hgu hda (r₆.read (v := arg13.view) (by decide))
  have r₇ := r₆.cons (by decide) w6
  have w7 := dw_7 hvn hgu hda (r₇.read (v := arg13.view) (by decide))
  unfold out0_A_11 kernelRun0_A; dsimp only
  exact (Upto.all (Upto.eight (F := fun r c => 0 + p.dw 2 r c) w0 w1 w2 w3 w4 w5 w6 w7 _ _ _ _ _ _ _ _ _)).congr fun r c _ _ => zero_add _

/-- What the point leaves in the sum for the spatial bias. -/
theorem outA_12 {hc0 : cond0_0 i} : Is2 (φ := .f32) (out0_A_12 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8) (p.db 2) := by
  have hgu := is_pay8 (slab3f (n := 0) harg4 h.u (by decide))
  have hda := is_pay16 (whole2b harg2 h.dya (by decide)) (whole2b harg3 h.wa (by decide))
  have hd := dmx_0 hgu (whole2b harg2 h.dya (by decide)) (whole2b harg3 h.wa (by decide))
  have hz : Is2 (φ := .f32) (k0_pay4 (F := Ideal)) (fun _ _ => 0) := fun _ _ => ofBits_f ofBits_zero
  have r₀ := Rest.init (R := 128) (by decide) hz
  have w0 := db_0 hd (r₀.read (v := arg14.view) (by decide))
  have r₁ := r₀.cons (by decide) w0
  have w1 := db_1 hgu hda (r₁.read (v := arg14.view) (by decide))
  have r₂ := r₁.cons (by decide) w1
  have w2 := db_2 hgu hda (r₂.read (v := arg14.view) (by decide))
  have r₃ := r₂.cons (by decide) w2
  have w3 := db_3 hgu hda (r₃.read (v := arg14.view) (by decide))
  have r₄ := r₃.cons (by decide) w3
  have w4 := db_4 hgu hda (r₄.read (v := arg14.view) (by decide))
  have r₅ := r₄.cons (by decide) w4
  have w5 := db_5 hgu hda (r₅.read (v := arg14.view) (by decide))
  have r₆ := r₅.cons (by decide) w5
  have w6 := db_6 hgu hda (r₆.read (v := arg14.view) (by decide))
  have r₇ := r₆.cons (by decide) w6
  have w7 := db_7 hgu hda (r₇.read (v := arg14.view) (by decide))
  unfold out0_A_12 kernelRun0_A; dsimp only
  exact (Upto.all (Upto.eight (F := fun r c => 0 + p.db 2 r c) w0 w1 w2 w3 w4 w5 w6 w7 _ _ _ _ _ _ _ _ _)).congr fun r c _ _ => zero_add _

end

end Cert.Gmlp
-- ==== Proof.CaseB.lean ====
/-
  What a later grid point leaves in its four results, when the three running sums already hold earlier points' values.
-/
module

public import proofs.«01_k».proof.Proof.Block
public import proofs.«01_k».proof.Proof.Store
public import proofs.«01_k».proof.Proof.Gen.KernelIdeal.Frame
public import proofs.«01_k».proof.Proof.CaseA

@[expose] public section

namespace Cert.Gmlp

open Idealize.ShloMosaic Cert.KernelIdeal Cert.KernelIdeal.Gen
open scoped BigOperators

section

variable (c : Dev nD) (i : grid0.Coords)
  {arg2 : Memref sig .tc .vmem S256x1024 .bf16} (harg2 : arg2.IsWhole)
  {arg3 : Memref sig .tc .vmem S1024x1024 .bf16} (harg3 : arg3.IsWhole)
  {arg4 : Memref sig .tc .vmem S1x256x1024 .f32} (harg4 : arg4.IsWhole)
  {arg5 : Memref sig .tc .vmem S1x256x1024 .f32} (harg5 : arg5.IsWhole)
  {arg6 : Memref sig .tc .vmem S1x1024 .f32} (harg6 : arg6.IsWhole)
  {arg7 : Memref sig .tc .vmem S1x1024 .f32} (harg7 : arg7.IsWhole)
  {arg8 : Memref sig .tc .vmem S8x128x128 .bf16} (harg8 : arg8.IsWhole)
  {arg9 : Memref sig .tc .vmem S8x128x128 .bf16} (harg9 : arg9.IsWhole)
  {arg10 : Memref sig .tc .vmem S128x8 .f32} (harg10 : arg10.IsWhole)
  {arg11 : Memref sig .tc .vmem S2x256x1024 .bf16} (harg11 : arg11.IsWhole)
  {arg12 : Memref sig .tc .vmem S2x8x1024 .f32} (harg12 : arg12.IsWhole)
  {arg13 : Memref sig .tc .vmem S128x1024 .f32} (harg13 : arg13.IsWhole)
  {arg14 : Memref sig .tc .vmem S128x1024 .f32} (harg14 : arg14.IsWhole)
  {arg15 : Memref sig .tc .vmem S256x1024 .f32} (harg15 : arg15.IsWhole)
  {arg16 : Memref sig .tc .vmem S256x1024 .f32} (harg16 : arg16.IsWhole)
    {x0 : Vec Ideal S256x1024 .bf16} {x1 : Vec Ideal S1024x1024 .bf16} {x2 : Vec Ideal S1x256x1024 .f32} {x3 : Vec Ideal S1x256x1024 .f32} {x4 : Vec Ideal S1x1024 .f32} {x5 : Vec Ideal S1x1024 .f32} {x6 : Vec Ideal S8x128x128 .bf16} {x7 : Vec Ideal S8x128x128 .bf16} {x8 : Vec Ideal S128x8 .f32} {p : Inp}
  (h : Holds p x0 x1 x2 x3 x4 x5 x6 x7 x8)

include harg2 harg3 harg4 harg5 harg6 harg7 harg8 harg9 harg10 h

/-- The first scratch after its eight stores: the product's gradient times the mixed rows. -/
theorem du_scratchB : Upto (kernelRun0_B.sl.HS0_8 (F := Ideal) c arg2 harg2 arg3 harg3 arg5 harg5 arg6 harg6 arg7 harg7 arg8 harg8 arg10 harg10 x0 x1 x3 x4 x5 x6 x8) 1024 (fun r c => p.da r c * p.mixed r c) := by
  have hda := is_pay16 (whole2b harg2 h.dya (by decide)) (whole2b harg3 h.wa (by decide))
  have hg := is_pay10 (slab3f (n := 0) harg5 h.v (by decide))
  have hm := is_pay11 (slab3f (n := 0) harg5 h.v (by decide))
  have hlg := whole2f harg6 h.lg (by decide)
  have hlb := whole2f harg7 h.lb (by decide)
  have hvn := is_pay15 hg hm hlg hlb
  exact Upto.eight
    (du_0 hg hm hlg hlb (whole2b harg2 h.dya (by decide)) (whole2b harg3 h.wa (by decide)) (slab3b (n := 0) harg8 h.w (by decide)) (col2f (n := 0) harg10 h.b (by decide)))
    (du_1 hvn hda (slab3b (n := 1) harg8 h.w (by decide)) (col2f (n := 1) harg10 h.b (by decide)))
    (du_2 hvn hda (slab3b (n := 2) harg8 h.w (by decide)) (col2f (n := 2) harg10 h.b (by decide)))
    (du_3 hvn hda (slab3b (n := 3) harg8 h.w (by decide)) (col2f (n := 3) harg10 h.b (by decide)))
    (du_4 hvn hda (slab3b (n := 4) harg8 h.w (by decide)) (col2f (n := 4) harg10 h.b (by decide)))
    (du_5 hvn hda (slab3b (n := 5) harg8 h.w (by decide)) (col2f (n := 5) harg10 h.b (by decide)))
    (du_6 hvn hda (slab3b (n := 6) harg8 h.w (by decide)) (col2f (n := 6) harg10 h.b (by decide)))
    (du_7 hvn hda (slab3b (n := 7) harg8 h.w (by decide)) (col2f (n := 7) harg10 h.b (by decide)))
    [] _ _ _ _ _ _ _ _

/-- The second scratch after its eight stores: the gradient of the normalised rows. -/
theorem dvn_scratchB : Upto (kernelRun0_B.sl.HS1_8 (F := Ideal) c arg2 harg2 arg3 harg3 arg4 harg4 arg9 harg9 x0 x1 x2 x7) 1024 p.dvn := by
  have hgu := is_pay8 (slab3f (n := 0) harg4 h.u (by decide))
  have hda := is_pay16 (whole2b harg2 h.dya (by decide)) (whole2b harg3 h.wa (by decide))
  have hd := dmx_0 hgu (whole2b harg2 h.dya (by decide)) (whole2b harg3 h.wa (by decide))
  exact Upto.eight
    (dvn_0 hd (slab3b (n := 0) harg9 h.wt (by decide)))
    (dvn_1 hgu hda (slab3b (n := 1) harg9 h.wt (by decide)))
    (dvn_2 hgu hda (slab3b (n := 2) harg9 h.wt (by decide)))
    (dvn_3 hgu hda (slab3b (n := 3) harg9 h.wt (by decide)))
    (dvn_4 hgu hda (slab3b (n := 4) harg9 h.wt (by decide)))
    (dvn_5 hgu hda (slab3b (n := 5) harg9 h.wt (by decide)))
    (dvn_6 hgu hda (slab3b (n := 6) harg9 h.wt (by decide)))
    (dvn_7 hgu hda (slab3b (n := 7) harg9 h.wt (by decide)))
    [] _ _ _ _ _ _ _ _

/-- What the point leaves in the gradient of the two projections: that of `u` and that of `v`. -/
theorem outB_9 {hc0 : ¬cond0_0 i} {xo10 : Vec Ideal S2x8x1024 .f32} {xo11 xo12 : Vec Ideal S128x1024 .f32} : Is3 (φ := .bf16) (out0_B_9 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 xo10 xo11 xo12)
    (fun k => if k = 0 then p.du else p.dv) := by
  have hg := is_pay10 (slab3f (n := 0) harg5 h.v (by decide))
  have hm := is_pay11 (slab3f (n := 0) harg5 h.v (by decide))
  have hlg := whole2f harg6 h.lg (by decide)
  have hs := Upto.read (v := arg15.view) (du_scratchB c harg2 harg3 harg4 harg5 harg6 harg7 harg8 harg9 harg10 h) (by decide)
  have ht := Upto.read (v := arg16.view) (dvn_scratchB c harg2 harg3 harg4 harg5 harg6 harg7 harg8 harg9 harg10 h) (by decide)
  unfold out0_B_9 kernelRun0_B; dsimp only
  exact pairb (is_pay1 ((slab3f (n := 0) harg5 h.v (by decide)).dropUnit _) (is_pay9 (slab3f (n := 0) harg5 h.v (by decide))) (is_pay97 hlg (is_pay13 hg hm) (is_pay14 hg hm) ht))
    (is_pay94 ((slab3f (n := 0) harg4 h.u (by decide)).dropUnit _) (is_pay7 (slab3f (n := 0) harg4 h.u (by decide))) hs)

/-- What the point leaves in the sums for the layer norm's scale and shift. -/
theorem outB_10 {hc0 : ¬cond0_0 i} {xo10 : Vec Ideal S2x8x1024 .f32} {xo11 xo12 : Vec Ideal S128x1024 .f32} {f g : ℕ → ℕ → ℝ} (ho : Is3 (φ := .f32) xo10 (fun k => if k = 0 then f else g)) :
    Is3 (φ := .f32) (out0_B_10 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 xo10 xo11 xo12)
    (fun k => if k = 0 then (fun r c => f r c + p.dlg 32 r c) else (fun r c => g r c + p.dlb 32 r c)) := by
  have hg := is_pay10 (slab3f (n := 0) harg5 h.v (by decide))
  have hm := is_pay11 (slab3f (n := 0) harg5 h.v (by decide))
  have ht := Upto.read (v := arg16.view) (dvn_scratchB c harg2 harg3 harg4 harg5 harg6 harg7 harg8 harg9 harg10 h) (by decide)
  unfold out0_B_10 kernelRun0_B; dsimp only
  exact pairf (is_pay96 ht (slab3f (n := 1) harg12 ho (by decide))) (is_pay95 (is_pay14 hg hm) ht (slab3f (n := 0) harg12 ho (by decide)))

/-- What the point leaves in the sum for the spatial weights. -/
theorem outB_11 {hc0 : ¬cond0_0 i} {xo10 : Vec Ideal S2x8x1024 .f32} {xo11 xo12 : Vec Ideal S128x1024 .f32} {f : ℕ → ℕ → ℝ} (ho : Is2 (φ := .f32) xo11 f) :
    Is2 (φ := .f32) (out0_B_11 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 xo10 xo11 xo12) (fun r c => f r c + p.dw 2 r c) := by
  have hgu := is_pay8 (slab3f (n := 0) harg4 h.u (by decide))
  have hda := is_pay16 (whole2b harg2 h.dya (by decide)) (whole2b harg3 h.wa (by decide))
  have hg := is_pay10 (slab3f (n := 0) harg5 h.v (by decide))
  have hm := is_pay11 (slab3f (n := 0) harg5 h.v (by decide))
  have hlg := whole2f harg6 h.lg (by decide)
  have hlb := whole2f harg7 h.lb (by decide)
  have hvn := is_pay15 hg hm hlg hlb
  have hd := dmx_0 hgu (whole2b harg2 h.dya (by decide)) (whole2b harg3 h.wa (by decide))
  unfold out0_B_11 kernelRun0_B; dsimp only
  exact Upto.all (Upto.eight
    (dw_0 hd (vn_0 hg hm hlg hlb) (cols2f (n := 0) harg13 ho (by decide)))
    (dw_1 hvn hgu hda (cols2f (n := 128) harg13 ho (by decide)))
    (dw_2 hvn hgu hda (cols2f (n := 256) harg13 ho (by decide)))
    (dw_3 hvn hgu hda (cols2f (n := 384) harg13 ho (by decide)))
    (dw_4 hvn hgu hda (cols2f (n := 512) harg13 ho (by decide)))
    (dw_5 hvn hgu hda (cols2f (n := 640) harg13 ho (by decide)))
    (dw_6 hvn hgu hda (cols2f (n := 768) harg13 ho (by decide)))
    (dw_7 hvn hgu hda (cols2f (n := 896) harg13 ho (by decide)))
    [] _ _ _ _ _ _ _ _)

/-- What the point leaves in the sum for the spatial bias. -/
theorem outB_12 {hc0 : ¬cond0_0 i} {xo10 : Vec Ideal S2x8x1024 .f32} {xo11 xo12 : Vec Ideal S128x1024 .f32} {f : ℕ → ℕ → ℝ} (ho : Is2 (φ := .f32) xo12 f) :
    Is2 (φ := .f32) (out0_B_12 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 xo10 xo11 xo12) (fun r c => f r c + p.db 2 r c) := by
  have hgu := is_pay8 (slab3f (n := 0) harg4 h.u (by decide))
  have hda := is_pay16 (whole2b harg2 h.dya (by decide)) (whole2b harg3 h.wa (by decide))
  have hd := dmx_0 hgu (whole2b harg2 h.dya (by decide)) (whole2b harg3 h.wa (by decide))
  unfold out0_B_12 kernelRun0_B; dsimp only
  exact Upto.all (Upto.eight
    (db_0 hd (cols2f (n := 0) harg14 ho (by decide)))
    (db_1 hgu hda (cols2f (n := 128) harg14 ho (by decide)))
    (db_2 hgu hda (cols2f (n := 256) harg14 ho (by decide)))
    (db_3 hgu hda (cols2f (n := 384) harg14 ho (by decide)))
    (db_4 hgu hda (cols2f (n := 512) harg14 ho (by decide)))
    (db_5 hgu hda (cols2f (n := 640) harg14 ho (by decide)))
    (db_6 hgu hda (cols2f (n := 768) harg14 ho (by decide)))
    (db_7 hgu hda (cols2f (n := 896) harg14 ho (by decide)))
    [] _ _ _ _ _ _ _ _)

end

end Cert.Gmlp
-- ==== Proof.Entry.lean ====
/-
  What the blocks of a grid point hold: the masked spatial weights, their transpose and the bias as the host prepares
  them, and 256 rows of each token array.
-/
module

public import proofs.«01_k».proof.Proof.CaseA
public import proofs.«01_k».proof.Proof.Raw
public import proofs.«01_k».proof.Proof.HostArr
public import Idealize.ShloMosaic.Lib.StableHlo.ReadAt
public import Idealize.ShloMosaic.Lib.Pipeline.Value

@[expose] public section

noncomputable section

namespace Cert.Gmlp

open Idealize.ShloMosaic Idealize.ShloMosaic.TcCoe Cert.KernelIdeal Cert.KernelIdeal.Gen

variable (m : (ℓ : Loc nD τ sig) → Buf (Elt Ideal) ℓ) (c : Dev nD)

/-- The arguments of the kernel hold `q`. -/
abbrev Args (q : Raw) : Prop :=
  Reals q (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6))
    (m ((c : Thread nD τ).loc main_arg7))

variable {m c} {q : Raw} (h : Args m c q)

include h in
theorem masked (g : Fin 8) (r s : Fin 128) :
    Scalar.select (Scalar.select (IntOp.cmpi CmpIPredicate.sge (IntOp.addi (BitVec.ofNat 32 r.val) 0#32) (BitVec.ofNat 32 s.val)) 1#1 0#1)
      (m ((c : Thread nD τ).loc main_arg6) (ix4 0 g r s)) (constant (F := Ideal) S_ FTy.f32 0#32 ix0)
      = ((q.inp.w g.val r.val s.val : ℝ) : EReal) := by
  rw [tril_word, h.ws]
  show _ = (((if s.val ≤ r.val then q.ws g.val r.val s.val else 0 : ℝ)) : EReal)
  by_cases hs : s.val ≤ r.val
  · rw [if_pos hs, if_pos hs]; rfl
  · rw [if_neg hs, if_neg hs]; exact ofBits_f ofBits_zero

/-- The spatial weights at region entry, at an index. -/
theorem read_w (j : S8x128x128.Idx) : V m c main_v4 j
    = FloatOps.truncf FTy.bf16 bitsLt_bf16_f32 (Scalar.select (Scalar.select (IntOp.cmpi CmpIPredicate.sge
        (IntOp.addi (BitVec.ofNat 32 (j 1).val) 0#32) (BitVec.ofNat 32 (j 2).val)) 1#1 0#1)
      (m ((c : Thread nD τ).loc main_arg6) (ix4 0 (j 0) (j 1) (j 2))) (constant (F := Ideal) S_ FTy.f32 0#32 ix0)) := by
  unfold V
  after_reads_at
  exact congrArg _ ((ofBits_f ofBits_zero).trans EReal.coe_zero)
/-- The transposed weights at region entry, at an index. -/
theorem read_wt (j : S8x128x128.Idx) : V m c main_v5 j
    = FloatOps.truncf FTy.bf16 bitsLt_bf16_f32 (Scalar.select (Scalar.select (IntOp.cmpi CmpIPredicate.sge
        (IntOp.addi (BitVec.ofNat 32 (j 2).val) 0#32) (BitVec.ofNat 32 (j 1).val)) 1#1 0#1)
      (m ((c : Thread nD τ).loc main_arg6) (ix4 0 (j 0) (j 2) (j 1))) (constant (F := Ideal) S_ FTy.f32 0#32 ix0)) := by
  unfold V
  after_reads_at
  exact congrArg _ ((ofBits_f ofBits_zero).trans EReal.coe_zero)
/-- The transposed bias at region entry, at an index. -/
theorem read_b (j : S128x8.Idx) : V m c main_v7 j = m ((c : Thread nD τ).loc main_arg7) (ix3 0 (j 1) (j 0)) := by
  unfold V
  after_reads_at
/-- The array that the call overwrites in part, at region entry. -/
theorem V_old : V m c main_v8_0 = m ((c : Thread nD τ).loc main_arg0) := by
  funext j
  unfold V
  after_reads_at
  rfl

include h in
/-- The masked spatial weights. -/
theorem V_w : Is3 (φ := .bf16) (V m c main_v4 : Vec Ideal S8x128x128 .bf16) q.inp.w :=
  fun g r s => (read_w _).trans (masked h g r s)
include h in
/-- Their transpose. -/
theorem V_wt : Is3 (φ := .bf16) (V m c main_v5 : Vec Ideal S8x128x128 .bf16) (fun g r s => q.inp.w g s r) :=
  fun g r s => (read_wt _).trans (masked h g s r)
include h in
/-- The transposed bias. -/
theorem V_b : Is2 (φ := .f32) (V m c main_v7 : Vec Ideal S128x8 .f32) q.inp.b :=
  fun r g => (read_b _).trans (h.bs 0 g r)

/-- The grid counter as the index maps read it. -/
theorem coord_word (t : Fin cfg0.N) : (BitVec.ofNat 32 ((grid0.coords t) 0).val).toNat = t.val := by
  revert t
  exact (by decide +kernel : ∀ t : Fin grid0.N, (BitVec.ofNat 32 ((grid0.coords t) 0).val).toNat = t.val)

/-- A block of rows read through a window on a rank-2 array. -/
theorem rows2 (t : Fin cfg0.N) (f : ℕ → ℕ → ℝ) (hx : Is2 (φ := .bf16) (V m c main_arg1 : Vec Ideal S4096x1024 .bf16) f) :
    Is2 (φ := .bf16) (iblk m c 0 t : Vec Ideal S256x1024 .bf16) (fun r e => f (256 * t.val + r) e) := by
  intro r e
  have hi : ((win0_0.blk t).view.emb (ix2 r e) : S4096x1024.Idx)
      = ix2 ⟨256 * t.val + r.val, by have := t.isLt; have : cfg0.N = 16 := N_0; have := r.isLt; omega⟩ e := by
    funext k
    refine Fin.ext ?_
    match k with
    | ⟨0, _⟩ => exact (win0_0.rect_emb_val t (ix2 r e) 0).trans (by
        show (BitVec.ofNat 32 ((grid0.coords t) 0).val).toNat * 256 + r.val = 256 * t.val + r.val
        rw [coord_word, Nat.mul_comm])
    | ⟨1, _⟩ => exact (win0_0.rect_emb_val t (ix2 r e) 1).trans (by show 0 * 1024 + e.val = e.val; omega)
  show V m c main_arg1 ((win0_0.blk t).view.emb (ix2 r e)) = _
  rw [hi]
  exact hx _ _

/-- The projection matrix, whole. -/
theorem blk1 (t : Fin cfg0.N) {f : ℕ → ℕ → ℝ} (hx : Is2 (φ := .bf16) (V m c main_arg2 : Vec Ideal S1024x1024 .bf16) f) :
    Is2 (φ := .bf16) (iblk m c 1 t : Vec Ideal S1024x1024 .bf16) f := by
  intro r e
  have hi : ((win0_1.blk t).view.emb (ix2 r e) : S1024x1024.Idx) = ix2 r e := by
    funext k
    refine Fin.ext ?_
    match k with
    | ⟨0, _⟩ => exact (win0_1.rect_emb_val t (ix2 r e) 0).trans (by show 0 * 1024 + r.val = r.val; omega)
    | ⟨1, _⟩ => exact (win0_1.rect_emb_val t (ix2 r e) 1).trans (by show 0 * 1024 + e.val = e.val; omega)
  show V m c main_arg2 ((win0_1.blk t).view.emb (ix2 r e)) = _
  rw [hi]
  exact hx _ _

/-- 256 rows of the first projection. -/
theorem blk2 (t : Fin cfg0.N) {f : ℕ → ℕ → ℕ → ℝ} (hx : Is3 (φ := .f32) (V m c main_arg3 : Vec Ideal S8x4096x1024 .f32) f) :
    Is3 (φ := .f32) (iblk m c 2 t : Vec Ideal S1x256x1024 .f32) (fun _ r e => f 0 (256 * t.val + r) e) := by
  intro g r e
  have hi : ((win0_2.blk t).view.emb (ix3 g r e) : S8x4096x1024.Idx)
      = ix3 0 ⟨256 * t.val + r.val, by have := t.isLt; have : cfg0.N = 16 := N_0; have := r.isLt; omega⟩ e := by
    funext k
    refine Fin.ext ?_
    match k with
    | ⟨0, _⟩ => exact (win0_2.rect_emb_val t (ix3 g r e) 0).trans (by show 0 * 1 + g.val = 0; omega)
    | ⟨1, _⟩ => exact (win0_2.rect_emb_val t (ix3 g r e) 1).trans (by
        show (BitVec.ofNat 32 ((grid0.coords t) 0).val).toNat * 256 + r.val = 256 * t.val + r.val
        rw [coord_word, Nat.mul_comm])
    | ⟨2, _⟩ => exact (win0_2.rect_emb_val t (ix3 g r e) 2).trans (by show 0 * 1024 + e.val = e.val; omega)
  show V m c main_arg3 ((win0_2.blk t).view.emb (ix3 g r e)) = _
  rw [hi]
  exact hx _ _ _

/-- 256 rows of the second projection. -/
theorem blk3 (t : Fin cfg0.N) {f : ℕ → ℕ → ℕ → ℝ} (hx : Is3 (φ := .f32) (V m c main_arg3 : Vec Ideal S8x4096x1024 .f32) f) :
    Is3 (φ := .f32) (iblk m c 3 t : Vec Ideal S1x256x1024 .f32) (fun _ r e => f 1 (256 * t.val + r) e) := by
  intro g r e
  have hi : ((win0_3.blk t).view.emb (ix3 g r e) : S8x4096x1024.Idx)
      = ix3 1 ⟨256 * t.val + r.val, by have := t.isLt; have : cfg0.N = 16 := N_0; have := r.isLt; omega⟩ e := by
    funext k
    refine Fin.ext ?_
    match k with
    | ⟨0, _⟩ => exact (win0_3.rect_emb_val t (ix3 g r e) 0).trans (by show 1 * 1 + g.val = 1; omega)
    | ⟨1, _⟩ => exact (win0_3.rect_emb_val t (ix3 g r e) 1).trans (by
        show (BitVec.ofNat 32 ((grid0.coords t) 0).val).toNat * 256 + r.val = 256 * t.val + r.val
        rw [coord_word, Nat.mul_comm])
    | ⟨2, _⟩ => exact (win0_3.rect_emb_val t (ix3 g r e) 2).trans (by show 0 * 1024 + e.val = e.val; omega)
  show V m c main_arg3 ((win0_3.blk t).view.emb (ix3 g r e)) = _
  rw [hi]
  exact hx _ _ _

/-- The scale. -/
theorem blk4 (t : Fin cfg0.N) {f : ℕ → ℕ → ℝ} (hx : Is2 (φ := .f32) (V m c main_arg4 : Vec Ideal S1x1024 .f32) f) :
    Is2 (φ := .f32) (iblk m c 4 t : Vec Ideal S1x1024 .f32) f := by
  intro r e
  have hi : ((win0_4.blk t).view.emb (ix2 r e) : S1x1024.Idx) = ix2 r e := by
    funext k
    refine Fin.ext ?_
    match k with
    | ⟨0, _⟩ => exact (win0_4.rect_emb_val t (ix2 r e) 0).trans (by show 0 * 1 + r.val = r.val; omega)
    | ⟨1, _⟩ => exact (win0_4.rect_emb_val t (ix2 r e) 1).trans (by show 0 * 1024 + e.val = e.val; omega)
  show V m c main_arg4 ((win0_4.blk t).view.emb (ix2 r e)) = _
  rw [hi]
  exact hx _ _

/-- The shift. -/
theorem blk5 (t : Fin cfg0.N) {f : ℕ → ℕ → ℝ} (hx : Is2 (φ := .f32) (V m c main_arg5 : Vec Ideal S1x1024 .f32) f) :
    Is2 (φ := .f32) (iblk m c 5 t : Vec Ideal S1x1024 .f32) f := by
  intro r e
  have hi : ((win0_5.blk t).view.emb (ix2 r e) : S1x1024.Idx) = ix2 r e := by
    funext k
    refine Fin.ext ?_
    match k with
    | ⟨0, _⟩ => exact (win0_5.rect_emb_val t (ix2 r e) 0).trans (by show 0 * 1 + r.val = r.val; omega)
    | ⟨1, _⟩ => exact (win0_5.rect_emb_val t (ix2 r e) 1).trans (by show 0 * 1024 + e.val = e.val; omega)
  show V m c main_arg5 ((win0_5.blk t).view.emb (ix2 r e)) = _
  rw [hi]
  exact hx _ _

/-- The masked weights. -/
theorem blk6 (t : Fin cfg0.N) {f : ℕ → ℕ → ℕ → ℝ} (hx : Is3 (φ := .bf16) (V m c main_v4 : Vec Ideal S8x128x128 .bf16) f) :
    Is3 (φ := .bf16) (iblk m c 6 t : Vec Ideal S8x128x128 .bf16) f := by
  intro g r e
  have hi : ((win0_6.blk t).view.emb (ix3 g r e) : S8x128x128.Idx) = ix3 g r e := by
    funext k
    refine Fin.ext ?_
    match k with
    | ⟨0, _⟩ => exact (win0_6.rect_emb_val t (ix3 g r e) 0).trans (by show 0 * 8 + g.val = g.val; omega)
    | ⟨1, _⟩ => exact (win0_6.rect_emb_val t (ix3 g r e) 1).trans (by show 0 * 128 + r.val = r.val; omega)
    | ⟨2, _⟩ => exact (win0_6.rect_emb_val t (ix3 g r e) 2).trans (by show 0 * 128 + e.val = e.val; omega)
  show V m c main_v4 ((win0_6.blk t).view.emb (ix3 g r e)) = _
  rw [hi]
  exact hx _ _ _

/-- Their transpose. -/
theorem blk7 (t : Fin cfg0.N) {f : ℕ → ℕ → ℕ → ℝ} (hx : Is3 (φ := .bf16) (V m c main_v5 : Vec Ideal S8x128x128 .bf16) f) :
    Is3 (φ := .bf16) (iblk m c 7 t : Vec Ideal S8x128x128 .bf16) f := by
  intro g r e
  have hi : ((win0_7.blk t).view.emb (ix3 g r e) : S8x128x128.Idx) = ix3 g r e := by
    funext k
    refine Fin.ext ?_
    match k with
    | ⟨0, _⟩ => exact (win0_7.rect_emb_val t (ix3 g r e) 0).trans (by show 0 * 8 + g.val = g.val; omega)
    | ⟨1, _⟩ => exact (win0_7.rect_emb_val t (ix3 g r e) 1).trans (by show 0 * 128 + r.val = r.val; omega)
    | ⟨2, _⟩ => exact (win0_7.rect_emb_val t (ix3 g r e) 2).trans (by show 0 * 128 + e.val = e.val; omega)
  show V m c main_v5 ((win0_7.blk t).view.emb (ix3 g r e)) = _
  rw [hi]
  exact hx _ _ _

/-- The bias. -/
theorem blk8 (t : Fin cfg0.N) {f : ℕ → ℕ → ℝ} (hx : Is2 (φ := .f32) (V m c main_v7 : Vec Ideal S128x8 .f32) f) :
    Is2 (φ := .f32) (iblk m c 8 t : Vec Ideal S128x8 .f32) f := by
  intro r e
  have hi : ((win0_8.blk t).view.emb (ix2 r e) : S128x8.Idx) = ix2 r e := by
    funext k
    refine Fin.ext ?_
    match k with
    | ⟨0, _⟩ => exact (win0_8.rect_emb_val t (ix2 r e) 0).trans (by show 0 * 128 + r.val = r.val; omega)
    | ⟨1, _⟩ => exact (win0_8.rect_emb_val t (ix2 r e) 1).trans (by show 0 * 8 + e.val = e.val; omega)
  show V m c main_v7 ((win0_8.blk t).view.emb (ix2 r e)) = _
  rw [hi]
  exact hx _ _

include h in
/-- At grid point `t` the blocks hold the inputs of rows `256 t` on. -/
theorem holds (t : Fin cfg0.N) : Holds (q.inp.at_ t.val) (iblk m c 0 t) (iblk m c 1 t) (iblk m c 2 t) (iblk m c 3 t)
    (iblk m c 4 t) (iblk m c 5 t) (iblk m c 6 t) (iblk m c 7 t) (iblk m c 8 t) where
  dya := rows2 t q.dya (by rw [V_main_arg1]; exact h.dya)
  wa := blk1 t (by rw [V_main_arg2]; exact h.wa)
  u := blk2 t (f := q.proj) (by rw [V_main_arg3]; exact h.proj)
  v := blk3 t (f := q.proj) (by rw [V_main_arg3]; exact h.proj)
  lg := blk4 t (f := fun _ => q.lg) (by rw [V_main_arg4]; exact h.lg)
  lb := blk5 t (f := fun _ => q.lb) (by rw [V_main_arg5]; exact h.lb)
  w := blk6 t (V_w h)
  wt := blk7 t (V_wt h)
  b := blk8 t (V_b h)

end Cert.Gmlp
-- ==== Proof.Result.lean ====
/-
  What the four result arrays hold after the call.
-/
module

public import proofs.«01_k».proof.Proof.CaseB
public import proofs.«01_k».proof.Proof.Entry
public import proofs.«01_k».proof.Proof.Gen.KernelIdeal.Value

@[expose] public section

noncomputable section

namespace Cert.Gmlp

open Idealize.ShloMosaic Idealize.ShloMosaic.TcCoe Cert.KernelIdeal Cert.KernelIdeal.Gen Cert.KernelIdeal.Value
open Idealize.ShloMosaic.Pipeline (Dat)

/-- What point `t` leaves: its own rows of the two projections' gradients, and the running sums up to it. -/
structure Left (p : Inp) (t : ℕ) (o : Vec Ideal S2x256x1024 .bf16 × Vec Ideal S2x8x1024 .f32 × Vec Ideal S128x1024 .f32 × Vec Ideal S128x1024 .f32) : Prop where
  d : Is3 (φ := .bf16) o.1 (fun k => if k = 0 then (p.at_ t).du else (p.at_ t).dv)
  n : Is3 (φ := .f32) o.2.1 (fun k => if k = 0 then p.dlg (32 * (t + 1)) else p.dlb (32 * (t + 1)))
  w : Is2 (φ := .f32) o.2.2.1 (p.dw (2 * (t + 1)))
  b : Is2 (φ := .f32) o.2.2.2 (p.db (2 * (t + 1)))

theorem pick {f g f' g' : ℕ → ℕ → ℝ} (hf : ∀ r e, f r e = f' r e) (hg : ∀ r e, g r e = g' r e) (k r e : ℕ) :
    (if k = 0 then f else g) r e = (if k = 0 then f' else g') r e := by
  by_cases hk : k = 0
  · rw [if_pos hk, if_pos hk]; exact hf r e
  · rw [if_neg hk, if_neg hk]; exact hg r e

variable {m : (ℓ : Loc nD τ sig) → Buf (Elt Ideal) ℓ} {c : Dev nD} {q : Raw} (h : Args m c q)

include h in
/-- By induction on the points. -/
theorem left : ∀ (n : ℕ) (hn : n < cfg0.N), Left q.inp n (outsAt0 m c n hn)
  | 0, hn => by
    have e := outsAt0_A m c ⟨0, hn⟩ rfl
    have hh := holds h ⟨0, hn⟩
    rw [show outsAt0 m c 0 hn = _ from e]
    have z1 : ∀ r e, (q.inp.at_ 0).dw 2 r e = q.inp.dw (2 * (0 + 1)) r e := fun r e => by
      rw [← q.inp.dw_step 0 r e]; simp [Inp.dw]
    have z2 : ∀ r e, (q.inp.at_ 0).db 2 r e = q.inp.db (2 * (0 + 1)) r e := fun r e => by
      rw [← q.inp.db_step 0 r e]; simp [Inp.db]
    have z3 : ∀ r e, (q.inp.at_ 0).dlg 32 r e = q.inp.dlg (32 * (0 + 1)) r e := fun r e => by
      rw [← q.inp.dlg_step 0 r e]; simp [Inp.dlg]
    have z4 : ∀ r e, (q.inp.at_ 0).dlb 32 r e = q.inp.dlb (32 * (0 + 1)) r e := fun r e => by
      rw [← q.inp.dlb_step 0 r e]; simp [Inp.dlb]
    clear e
    have k9 := fun k r e (_ : k < 2) (_ : r < 8) (_ : e < 1024) => pick z3 z4 k r e
    refine ⟨?_, ?_, ?_, ?_⟩ <;> dsimp only
    · exact outA_9 _ _ _ _ _ _ _ _ _ _ _ _ _ _ _ _ _ hh
    · exact Is3.congr (outA_10 _ _ _ _ _ _ _ _ _ _ _ _ _ _ _ _ _ hh) k9
    · exact Is2.congr (outA_11 _ _ _ _ _ _ _ _ _ _ _ _ _ _ _ _ _ hh) fun r e _ _ => z1 r e
    · exact Is2.congr (outA_12 _ _ _ _ _ _ _ _ _ _ _ _ _ _ _ _ _ hh) fun r e _ _ => z2 r e
  | n + 1, hn => by
    have hN : cfg0.N = 16 := N_0
    have e := outsAt0_B m c ⟨n + 1, hn⟩ (by show ¬(n + 1) % 16 = 0; omega)
    have hh := holds h ⟨n + 1, hn⟩
    have ih := left n (by omega)
    rw [show outsAt0 m c (n + 1) hn = _ from e]
    clear e
    refine ⟨?_, ?_, ?_, ?_⟩ <;> dsimp only
    · exact outB_9 _ _ _ _ _ _ _ _ _ _ _ _ _ _ _ _ _ hh
    · exact Is3.congr (outB_10 _ _ _ _ _ _ _ _ _ _ _ _ _ _ _ _ _ hh ih.n) fun k r e _ _ _ => pick (q.inp.dlg_step (n + 1)) (q.inp.dlb_step (n + 1)) k r e
    · exact Is2.congr (outB_11 _ _ _ _ _ _ _ _ _ _ _ _ _ _ _ _ _ hh ih.w) fun r e _ _ => q.inp.dw_step (n + 1) r e
    · exact Is2.congr (outB_12 _ _ _ _ _ _ _ _ _ _ _ _ _ _ _ _ _ hh ih.b) fun r e _ _ => q.inp.db_step (n + 1) r e

/-- The last point. -/
abbrev last : Fin cfg0.N := ⟨15, by rw [show cfg0.N = 16 from N_0]; decide⟩

theorem flush_last {t : Fin cfg0.N} (e : t.val % 16 = 15) : t = last := by
  have hN : cfg0.N = 16 := N_0
  have := t.isLt
  exact Fin.ext (by show t.val = 15; omega)

include h in
/-- The layer norm's two sums after the call. -/
theorem array10 : Is3 (φ := .f32) ((dats m 0 c).arrAt 10 cfg0.N : Vec Ideal S2x8x1024 .f32)
    (fun k => if k = 0 then q.inp.dlg 512 else q.inp.dlb 512) := by
  intro k r e
  have hx := (dats m 0 c).arrAt_emb_eq_flushed 10 (fun t t' ht ht' hne => absurd
    ((flush_last ((flush0_10 t).mp ht)).trans (flush_last ((flush0_10 t').mp ht')).symm) hne) last ((flush0_10 last).mpr rfl) (ix3 k r e)
  have hi : ((win0_10.blk last).view.emb (ix3 k r e) : S2x8x1024.Idx) = ix3 k r e := by
    funext a
    refine Fin.ext ?_
    match a with
    | ⟨0, _⟩ => exact (win0_10.rect_emb_val last (ix3 k r e) 0).trans (by show 0 * 2 + k.val = k.val; omega)
    | ⟨1, _⟩ => exact (win0_10.rect_emb_val last (ix3 k r e) 1).trans (by show 0 * 8 + r.val = r.val; omega)
    | ⟨2, _⟩ => exact (win0_10.rect_emb_val last (ix3 k r e) 2).trans (by show 0 * 1024 + e.val = e.val; omega)
  refine (congrArg ((dats m 0 c).arrAt 10 cfg0.N) hi.symm).trans (hx.trans ?_)
  rw [flushed10]
  exact (left h 15 last.isLt).n k r e

include h in
/-- The spatial weights' sum after the call. -/
theorem array11 : Is2 (φ := .f32) ((dats m 0 c).arrAt 11 cfg0.N : Vec Ideal S128x1024 .f32) (q.inp.dw 32) := by
  intro r e
  have hx := (dats m 0 c).arrAt_emb_eq_flushed 11 (fun t t' ht ht' hne => absurd
    ((flush_last ((flush0_11 t).mp ht)).trans (flush_last ((flush0_11 t').mp ht')).symm) hne) last ((flush0_11 last).mpr rfl) (ix2 r e)
  have hi : ((win0_11.blk last).view.emb (ix2 r e) : S128x1024.Idx) = ix2 r e := by
    funext a
    refine Fin.ext ?_
    match a with
    | ⟨0, _⟩ => exact (win0_11.rect_emb_val last (ix2 r e) 0).trans (by show 0 * 128 + r.val = r.val; omega)
    | ⟨1, _⟩ => exact (win0_11.rect_emb_val last (ix2 r e) 1).trans (by show 0 * 1024 + e.val = e.val; omega)
  refine (congrArg ((dats m 0 c).arrAt 11 cfg0.N) hi.symm).trans (hx.trans ?_)
  rw [flushed11]
  exact (left h 15 last.isLt).w r e

include h in
/-- The spatial bias's sum after the call. -/
theorem array12 : Is2 (φ := .f32) ((dats m 0 c).arrAt 12 cfg0.N : Vec Ideal S128x1024 .f32) (q.inp.db 32) := by
  intro r e
  have hx := (dats m 0 c).arrAt_emb_eq_flushed 12 (fun t t' ht ht' hne => absurd
    ((flush_last ((flush0_12 t).mp ht)).trans (flush_last ((flush0_12 t').mp ht')).symm) hne) last ((flush0_12 last).mpr rfl) (ix2 r e)
  have hi : ((win0_12.blk last).view.emb (ix2 r e) : S128x1024.Idx) = ix2 r e := by
    funext a
    refine Fin.ext ?_
    match a with
    | ⟨0, _⟩ => exact (win0_12.rect_emb_val last (ix2 r e) 0).trans (by show 0 * 128 + r.val = r.val; omega)
    | ⟨1, _⟩ => exact (win0_12.rect_emb_val last (ix2 r e) 1).trans (by show 0 * 1024 + e.val = e.val; omega)
  refine (congrArg ((dats m 0 c).arrAt 12 cfg0.N) hi.symm).trans (hx.trans ?_)
  rw [flushed12]
  exact (left h 15 last.isLt).b r e

/-- Where an element of point `t`'s block sits in the array of the projections' gradients. -/
theorem place9 (t : Fin cfg0.N) (k : Fin 2) (r : Fin 256) (e : Fin 1024) :
    ((win0_9.blk t).view.emb (ix3 k r e) : S8x4096x1024.Idx)
      = ix3 ⟨4 + k.val, by have := k.isLt; omega⟩ ⟨256 * t.val + r.val, by have := t.isLt; have : cfg0.N = 16 := N_0; have := r.isLt; omega⟩ e := by
  funext a
  refine Fin.ext ?_
  match a with
  | ⟨0, _⟩ => exact (win0_9.rect_emb_val t (ix3 k r e) 0).trans (by show 2 * 2 + k.val = 4 + k.val; omega)
  | ⟨1, _⟩ => exact (win0_9.rect_emb_val t (ix3 k r e) 1).trans (by
      show (BitVec.ofNat 32 ((grid0.coords t) 0).val).toNat * 256 + r.val = 256 * t.val + r.val
      rw [coord_word, Nat.mul_comm])
  | ⟨2, _⟩ => exact (win0_9.rect_emb_val t (ix3 k r e) 2).trans (by show 0 * 1024 + e.val = e.val; omega)

include h in
/-- The two projections' gradients after the call. -/
theorem array9 (k : Fin 2) (r : Fin 4096) (e : Fin 1024) :
    ((dats m 0 c).arrAt 9 cfg0.N : Vec Ideal S8x4096x1024 .bf16) (ix3 ⟨4 + k.val, by have := k.isLt; omega⟩ r e)
      = (((if k.val = 0 then q.inp.du r.val e.val else q.inp.dv r.val e.val : ℝ)) : EReal) := by
  have hN : cfg0.N = 16 := N_0
  obtain ⟨t, ht⟩ : ∃ t : Fin cfg0.N, t.val = r.val / 256 := ⟨⟨r.val / 256, by have := r.isLt; omega⟩, rfl⟩
  obtain ⟨s, hs⟩ : ∃ s : Fin 256, s.val = r.val % 256 := ⟨⟨r.val % 256, by omega⟩, rfl⟩
  have hx := (dats m 0 c).arrAt_emb_eq_flushed 9 disjoint9 t (flush0_9 t) (ix3 k s e)
  have hr : 256 * t.val + s.val = r.val := by omega
  have hi : ((win0_9.blk t).view.emb (ix3 k s e) : S8x4096x1024.Idx) = ix3 ⟨4 + k.val, by have := k.isLt; omega⟩ r e :=
    (place9 t k s e).trans (congrArg (fun x => ix3 _ x e) (Fin.ext hr))
  refine (congrArg ((dats m 0 c).arrAt 9 cfg0.N) hi.symm).trans (hx.trans ?_)
  rw [flushed9]
  refine ((left h t.val t.isLt).d k s e).trans ?_
  by_cases hk : k.val = 0
  · dsimp only
    rw [if_pos hk, if_pos hk, Inp.at_du, hr]
  · dsimp only
    rw [if_neg hk, if_neg hk, Inp.at_dv, hr]

/-- The other rows of that array are as they were. -/
theorem array9_old (g : Fin 8) (hg : g.val ≠ 4 ∧ g.val ≠ 5) (r : Fin 4096) (e : Fin 1024) :
    ((dats m 0 c).arrAt 9 cfg0.N : Vec Ideal S8x4096x1024 .bf16) (ix3 g r e) = m ((c : Thread nD τ).loc main_arg0) (ix3 g r e) := by
  refine (entry9 m c (ix3 g r e) fun t _ hmem => ?_).trans (congrFun V_old _)
  obtain ⟨y, -, hy⟩ := Finset.mem_map.mp hmem
  obtain ⟨k, s, d, rfl⟩ : ∃ (k : Fin 2) (s : Fin 256) (d : Fin 1024), y = ix3 k s d := ⟨y 0, y 1, y 2, by
    funext a; match a with | ⟨0, _⟩ => rfl | ⟨1, _⟩ => rfl | ⟨2, _⟩ => rfl⟩
  have e0 := congrArg (fun i : S8x4096x1024.Idx => (i 0).val) ((place9 t k s d).symm.trans hy)
  have : 4 + k.val = g.val := e0
  have := k.isLt
  omega

end Cert.Gmlp
-- ==== Proof.RefMath.lean ====
/-
  The identities between the gradients as differentiating the branch writes them and as the kernel computes them.
-/
module

public import proofs.«01_k».proof.Proof.Spec

@[expose] public section

namespace Cert.Gmlp

open scoped BigOperators

/-- The tanh with the cubic coefficient written as a quotient. -/
theorem th_quot (x : ℝ) : Real.tanh (c0 * (x + x * x * x * 44715 / 1000000)) = th x := by
  unfold th c1; congr 1; ring

/-- The derivative of gelu, product by product. -/
theorem gelu_back (x y : ℝ) :
    c0 * (1 / 2 * x * y * ((1 + th x) * (1 - th x)))
      + x * x * (c0 * (1 / 2 * x * y * ((1 + th x) * (1 - th x))) / 1000000 * 44715)
      + x * (c0 * (1 / 2 * x * y * ((1 + th x) * (1 - th x))) / 1000000 * 44715 * x)
      + c0 * (1 / 2 * x * y * ((1 + th x) * (1 - th x))) / 1000000 * 44715 * x * x
      + 1 / 2 * (y * (1 + th x)) = y * dgelu x := by
  unfold dgelu c1; ring

namespace Inp
variable (p : Inp)

theorem var_eps_pos (r : ℕ) : 0 < p.var r + eps :=
  add_pos_of_nonneg_of_pos (div_nonneg (Finset.sum_nonneg fun k _ => mul_self_nonneg _) (by norm_num)) eps_pos

/-- The square of the reciprocal deviation. -/
theorem rs_sq (r : ℕ) : p.rs r * p.rs r = 1 / (p.var r + eps) := by
  unfold rs
  rw [← mul_inv, Real.mul_self_sqrt (p.var_eps_pos r).le, one_div]

/-- A row less its mean sums to zero. -/
theorem sum_xc (r : ℕ) : ∑ k ∈ Finset.range 1024, p.xc r k = 0 := by
  unfold xc mu
  rw [Finset.sum_sub_distrib, Finset.sum_const, Finset.card_range, nsmul_eq_mul]
  push_cast
  ring

/-- The variance's part of a row's gradient. -/
noncomputable def vp (r : ℕ) : ℝ :=
  (∑ k ∈ Finset.range 1024, p.xc r k * p.dvh r k) * (-(1 / 2) * (p.rs r / (p.var r + eps))) / 1024

/-- The gradient through the layer norm, term by term. -/
theorem norm_back (r e : ℕ) :
    p.dvh r e * p.rs r + p.vp r * (2 * p.xc r e)
      + (∑ k ∈ Finset.range 1024, -(p.dvh r k * p.rs r) + ∑ k ∈ Finset.range 1024, -(p.vp r * (2 * p.xc r k))) / 1024
      = p.dgv r e := by
  have h1 : ∑ k ∈ Finset.range 1024, -(p.dvh r k * p.rs r) = -((∑ k ∈ Finset.range 1024, p.dvh r k) * p.rs r) := by
    rw [Finset.sum_neg_distrib, Finset.sum_mul]
  have h2 : ∀ z : ℝ, ∑ k ∈ Finset.range 1024, -(z * (2 * p.xc r k)) = 0 := fun z => by
    rw [Finset.sum_neg_distrib, ← Finset.mul_sum, ← Finset.mul_sum, p.sum_xc]; ring
  have h3 : ∑ k ∈ Finset.range 1024, p.dvh r k * p.vh r k = (∑ k ∈ Finset.range 1024, p.xc r k * p.dvh r k) * p.rs r := by
    rw [Finset.sum_mul]; exact Finset.sum_congr rfl fun k _ => by unfold vh; ring
  have h4 : p.rs r / (p.var r + eps) = p.rs r * (p.rs r * p.rs r) := by rw [p.rs_sq]; ring
  rw [h1, h2]
  unfold vp dgv
  rw [h4]
  rw [h3]
  unfold vh
  ring

end Inp
end Cert.Gmlp
-- ==== Proof.RefFwd.lean ====
/-
  The reference's forward values: the branch's lines, array by array.
-/
module

public import proofs.«01_k».proof.Proof.HostArr
public import proofs.«01_k».proof.Proof.Raw
public import proofs.«01_k».proof.Proof.RefMath
public import proofs.«01_k».proof.Proof.Gen.ReferenceIdeal.Read

@[expose] public section

noncomputable section

namespace Cert.Gmlp

open Idealize.ShloMosaic Cert.ReferenceIdeal Cert.ReferenceIdeal.Gen Cert.ReferenceIdeal.Read
open scoped BigOperators

variable {q : Raw} {x1 : FVec Ideal ⟨2, ![4096, 1024]⟩ .bf16} {x2 : FVec Ideal ⟨2, ![1024, 1024]⟩ .bf16}
  {x3 : FVec Ideal ⟨3, ![8, 4096, 1024]⟩ .f32} {x4 x5 : FVec Ideal ⟨2, ![1, 1024]⟩ .f32}
  {x6 : FVec Ideal ⟨4, ![1, 8, 128, 128]⟩ .f32} {x7 : FVec Ideal ⟨3, ![1, 8, 128]⟩ .f32}
  (h : Reals q x1 x2 x3 x4 x5 x6 x7)

include h

/-- The masked weights. -/
theorem r3 : Is3 (φ := .f32) (val_main_v3 (F := Ideal) x6) q.inp.w := by
  intro g r s
  rw [val_main_v3_apply]
  have e1 : val_main_call1_v0 (F := Ideal) (ix3 g r s) = if s.val ≤ r.val then 1#1 else 0#1 := by
    rw [val_main_call1_v0_apply]; exact tril_word r s
  have hg := g.isLt; have hr := r.isLt; have hs := s.isLt
  have e2 : val_main_v2 (F := Ideal) x6 (ix3 g r s) = ((q.ws g.val r.val s.val : ℝ) : EReal) := by
    rw [val_main_v2_apply]
    refine (congrArg x6 (ValueIdx.eq_ix4 _)).trans ((h.ws _ _ _).trans (arg3 ?_ ?_ ?_))
    · show ((g.val * 128 + r.val) * 128 + s.val) / 16384 % 8 = g.val; omega
    · show ((g.val * 128 + r.val) * 128 + s.val) / 128 % 128 = r.val; omega
    · show ((g.val * 128 + r.val) * 128 + s.val) % 128 = s.val; omega
  rw [e1, e2]
  show _ = (((if s.val ≤ r.val then q.ws g.val r.val s.val else 0 : ℝ)) : EReal)
  by_cases hs : s.val ≤ r.val
  · rw [if_pos hs, if_pos hs]; rfl
  · rw [if_neg hs, if_neg hs, val_main_call1_v1_apply]; exact ofBits_zero

/-- The two halves of the projection. -/
theorem r11 : Is2 (φ := .f32) (val_main_v11 (F := Ideal) x3) q.inp.u := by
  intro r c
  have hr := r.isLt; have hc := c.isLt
  rw [val_main_v11_apply, val_main_v10_apply, h.proj.at]
  refine arg3 rfl ?_ ?_
  · show (r.val * 1024 + c.val) / 1024 % 4096 = r.val; omega
  · show (r.val * 1024 + c.val) % 1024 = c.val; omega
theorem r13 : Is2 (φ := .f32) (val_main_v13 (F := Ideal) x3) q.inp.v := by
  intro r c
  have hr := r.isLt; have hc := c.isLt
  rw [val_main_v13_apply, val_main_v12_apply, h.proj.at]
  refine arg3 rfl ?_ ?_
  · show (r.val * 1024 + c.val) / 1024 % 4096 = r.val; omega
  · show (r.val * 1024 + c.val) % 1024 = c.val; omega

/-- The tanh of each half. -/
theorem r26 : Is2 (φ := .f32) (val_main_v26 (F := Ideal) x3) (fun r c => th (q.inp.v r c)) :=
  Is2.congr (Is2.htanh ((Is2.hsplat ofBits_c0 _).mulf ((r13 h).addf (Is2.hdivf ((((r13 h).mulf (r13 h)).mulf (r13 h)).mulf (Is2.hsplat ofBits_44715 _))
    (Is2.hsplat ofBits_million _) (fun _ _ => by norm_num))))) fun r c _ _ => th_quot _
theorem r83 : Is2 (φ := .f32) (val_main_v83 (F := Ideal) x3) (fun r c => th (q.inp.u r c)) :=
  Is2.congr (Is2.htanh ((Is2.hsplat ofBits_c0 _).mulf ((r11 h).addf (Is2.hdivf ((((r11 h).mulf (r11 h)).mulf (r11 h)).mulf (Is2.hsplat ofBits_44715 _))
    (Is2.hsplat ofBits_million _) (fun _ _ => by norm_num))))) fun r c _ _ => th_quot _
theorem r16 : Is2 (φ := .f32) (val_main_v16 (F := Ideal) x3) (fun r c => 1 / 2 * q.inp.v r c) :=
  (Is2.hsplat ofBits_half _).mulf (r13 h)
theorem r73 : Is2 (φ := .f32) (val_main_v73 (F := Ideal) x3) (fun r c => 1 / 2 * q.inp.u r c) :=
  (Is2.hsplat ofBits_half _).mulf (r11 h)
theorem r33 : Is2 (φ := .f32) (val_main_v33 (F := Ideal) x3) (fun r c => 1 + th (q.inp.v r c)) :=
  (Is2.hsplat ofBits_one _).addf (r26 h)
theorem r90 : Is2 (φ := .f32) (val_main_v90 (F := Ideal) x3) (fun r c => 1 + th (q.inp.u r c)) :=
  (Is2.hsplat ofBits_one _).addf (r83 h)
theorem r31 : Is2 (φ := .f32) (val_main_v31 (F := Ideal) x3) (fun r c => (1 + th (q.inp.v r c)) * (1 - th (q.inp.v r c))) :=
  ((Is2.hsplat ofBits_one _).addf (r26 h)).mulf ((Is2.hsplat ofBits_one _).subf (r26 h))
theorem r88 : Is2 (φ := .f32) (val_main_v88 (F := Ideal) x3) (fun r c => (1 + th (q.inp.u r c)) * (1 - th (q.inp.u r c))) :=
  ((Is2.hsplat ofBits_one _).addf (r83 h)).mulf ((Is2.hsplat ofBits_one _).subf (r83 h))
/-- Gelu of each half. -/
theorem r34 : Is2 (φ := .f32) (val_main_v34 (F := Ideal) x3) (fun r c => gelu (q.inp.v r c)) := (r16 h).mulf (r33 h)
theorem r91 : Is2 (φ := .f32) (val_main_v91 (F := Ideal) x3) (fun r c => gelu (q.inp.u r c)) := (r73 h).mulf (r90 h)

/-- The mean. -/
theorem r38 : Is2 (φ := .f32) (val_main_v38 (F := Ideal) x3) (fun r _ => q.inp.mu r) := by
  refine Is2.hdivf (f := fun r _ => ∑ k ∈ Finset.range 1024, gelu (q.inp.v r k)) ?_ (Is2.hsplat ofBits_1024 _) (fun _ _ => by norm_num)
  intro r c
  refine (val_main_v36_apply _ _).trans ((val_main_v35_apply _ _).trans ?_)
  exact zsum ofBits_zero (fun k => gelu (q.inp.v r k)) fun k => (r34 h).at _
theorem r40 : Is2 (φ := .f32) (val_main_v40 (F := Ideal) x3) q.inp.xc :=
  (r34 h).subf (g := fun r _ => q.inp.mu r) fun r c => (val_main_v39_apply _ _).trans ((r38 h).at _)
theorem r49 : Is2 (φ := .f32) (val_main_v49 (F := Ideal) x3) q.inp.xc :=
  (r34 h).subf (g := fun r _ => q.inp.mu r) fun r c => (val_main_v48_apply _ _).trans ((r38 h).at _)
/-- The variance and epsilon. -/
theorem r51 : Is2 (φ := .f32) (val_main_v51 (F := Ideal) x3) (fun r _ => q.inp.var r + eps) := by
  refine Is2.addf (f := fun r _ => q.inp.var r) ?_ (Is2.hsplat ofBits_eps _)
  refine Is2.hdivf (f := fun r _ => ∑ k ∈ Finset.range 1024, q.inp.xc r k * q.inp.xc r k) ?_ (Is2.hsplat ofBits_1024 _) (fun _ _ => by norm_num)
  intro r c
  refine (val_main_v45_apply _ _).trans ((val_main_v44_apply _ _).trans ?_)
  exact zsum ofBits_zero (fun k => q.inp.xc r k * q.inp.xc r k) fun k => ((r40 h).mulf (r40 h)).at _
theorem r52 : Is2 (φ := .f32) (val_main_v52 (F := Ideal) x3) (fun r _ => q.inp.rs r) :=
  (r51 h).hrsqrt fun r _ => q.inp.var_eps_pos r
theorem r55 : Is2 (φ := .f32) (val_main_v55 (F := Ideal) x3) (fun r _ => -(1 / 2) * (q.inp.rs r / (q.inp.var r + eps))) :=
  (Is2.hsplat ofBits_neg_half _).mulf ((r52 h).hdivf (r51 h) fun r _ => (q.inp.var_eps_pos r).ne')
/-- The normalised rows. -/
theorem r57 : Is2 (φ := .f32) (val_main_v57 (F := Ideal) x3) q.inp.vh :=
  (r49 h).mulf (g := fun r _ => q.inp.rs r) fun r c => (val_main_v56_apply _ _).trans ((r52 h).at _)
theorem r58 : Is3 (φ := .f32) (val_main_v58 (F := Ideal) x3) (fun k r c => q.inp.vh (k * 8 + r) c) := by
  intro k r c
  have hk := k.isLt; have hr := r.isLt; have hc := c.isLt
  rw [val_main_v58_apply, (r57 h).at]
  refine arg2 ?_ ?_
  · show ((k.val * 8 + r.val) * 1024 + c.val) / 1024 = k.val * 8 + r.val; omega
  · show ((k.val * 8 + r.val) * 1024 + c.val) % 1024 = c.val; omega
theorem r59 : Is3 (φ := .f32) (val_main_v59 (F := Ideal) x4) (fun _ _ c => q.lg c) := fun k r c =>
  (val_main_v59_apply _ _).trans ((val_main_v4_apply _ _).trans (h.lg.at _))
theorem r62 : Is3 (φ := .f32) (val_main_v62 (F := Ideal) x5) (fun _ _ c => q.lb c) := fun k r c =>
  (val_main_v62_apply _ _).trans ((val_main_v5_apply _ _).trans (h.lb.at _))
theorem r60 : Is3 (φ := .f32) (val_main_v60 (F := Ideal) x4) (fun _ _ c => q.lg c) := fun k r c =>
  (val_main_v60_apply _ _).trans ((r59 h).at _)
theorem r136 : Is3 (φ := .f32) (val_main_v136 (F := Ideal) x4) (fun _ _ c => q.lg c) := fun k r c =>
  (val_main_v136_apply _ _).trans ((r59 h).at _)
theorem r63 : Is3 (φ := .f32) (val_main_v63 (F := Ideal) x5) (fun _ _ c => q.lb c) := fun k r c =>
  (val_main_v63_apply _ _).trans ((r62 h).at _)
/-- The layer norm's value. -/
theorem r65 : Is2 (φ := .f32) (val_main_v65 (F := Ideal) x3 x4 x5) q.inp.vn := by
  intro r c
  have hr := r.isLt; have hc := c.isLt
  rw [val_main_v65_apply]
  refine ((((r58 h).mulf (r60 h)).addf (r63 h)).at _).trans ?_
  show ((q.inp.vh ((r.val * 1024 + c.val) / 8192 * 8 + (r.val * 1024 + c.val) / 1024 % 8) ((r.val * 1024 + c.val) % 1024)
    * q.lg ((r.val * 1024 + c.val) % 1024) + q.lb ((r.val * 1024 + c.val) % 1024) : ℝ) : EReal) = _
  rw [show (r.val * 1024 + c.val) / 8192 * 8 + (r.val * 1024 + c.val) / 1024 % 8 = r.val by omega,
    show (r.val * 1024 + c.val) % 1024 = c.val by omega]
  rfl
/-- Its tiles and groups. -/
theorem r66 : Is4 (φ := .f32) (val_main_v66 (F := Ideal) x3 x4 x5) (fun n s g d => q.inp.vn (128 * n + s) (128 * g + d)) := by
  intro n s g d
  have hn := n.isLt; have hs := s.isLt; have hg := g.isLt; have hd := d.isLt
  rw [val_main_v66_apply, (r65 h).at]
  refine arg2 ?_ ?_
  · show (((n.val * 128 + s.val) * 8 + g.val) * 128 + d.val) / 1024 = 128 * n.val + s.val; omega
  · show (((n.val * 128 + s.val) * 8 + g.val) * 128 + d.val) % 1024 = 128 * g.val + d.val; omega
/-- The mixed rows, without and with the bias. -/
theorem r67 : Is4 (φ := .f32) (val_main_v67 (F := Ideal) x3 x4 x5 x6)
    (fun g n d t => ∑ s ∈ Finset.range 128, q.inp.w g t s * q.inp.vn (128 * n + s) (128 * g + d)) := by
  intro g n d t
  refine (val_main_v67_apply _ _ _ _ _).trans (sum_fin _ (fun s => q.inp.w g t s * q.inp.vn (128 * n + s) (128 * g + d)) fun s => ?_)
  refine (congrArg₂ (· * ·) ((r66 h).at _) ((r3 h).at _)).trans ((EReal.coe_mul _ _).symm.trans (congrArg _ (mul_comm _ _)))
theorem r71 : Is4 (φ := .f32) (val_main_v71 (F := Ideal) x3 x4 x5 x6 x7)
    (fun n t g d => ∑ s ∈ Finset.range 128, q.inp.w g t s * q.inp.vn (128 * n + s) (128 * g + d) + q.inp.b t g) := by
  refine Is4.addf (f := fun n t g d => ∑ s ∈ Finset.range 128, q.inp.w g t s * q.inp.vn (128 * n + s) (128 * g + d))
    (fun n t g d => (val_main_v68_apply _ _ _ _ _).trans ((r67 h).at _)) fun n t g d => ?_
  have ht := t.isLt; have hg := g.isLt; have hd := d.isLt
  rw [val_main_v70_apply, val_main_v69_apply, val_main_v9_apply, val_main_v8_apply, val_main_v7_apply, val_main_v6_apply, h.bs.at]
  refine arg2 (f := q.bs) ?_ ?_
  · show (g.val * 128 + t.val) / 128 % 8 = g.val; omega
  · show (g.val * 128 + t.val) % 128 = t.val; omega
theorem r92 : Is2 (φ := .f32) (val_main_v92 (F := Ideal) x3 x4 x5 x6 x7) q.inp.mixed := by
  intro r c
  have hr := r.isLt; have hc := c.isLt
  rw [val_main_v92_apply, (r71 h).at]
  have e0 : (r.val * 1024 + c.val) / 131072 = r.val / 128 := by omega
  have e1 : (r.val * 1024 + c.val) / 1024 % 128 = r.val % 128 := by omega
  have e2 : (r.val * 1024 + c.val) / 128 % 8 = c.val / 128 := by omega
  have e3 : (r.val * 1024 + c.val) % 128 = c.val % 128 := by omega
  show ((∑ s ∈ Finset.range 128, q.inp.w ((r.val * 1024 + c.val) / 128 % 8) ((r.val * 1024 + c.val) / 1024 % 128) s
      * q.inp.vn (128 * ((r.val * 1024 + c.val) / 131072) + s) (128 * ((r.val * 1024 + c.val) / 128 % 8) + (r.val * 1024 + c.val) % 128)
    + q.inp.b ((r.val * 1024 + c.val) / 1024 % 128) ((r.val * 1024 + c.val) / 128 % 8) : ℝ) : EReal) = _
  rw [e0, e1, e2, e3, show 128 * (c.val / 128) + c.val % 128 = c.val by omega]
  rfl

end Cert.Gmlp
-- ==== Proof.RefBwd.lean ====
/-
  The reference's gradients, array by array.
-/
module

public import proofs.«01_k».proof.Proof.RefFwd

@[expose] public section

noncomputable section

namespace Cert.Gmlp

open Idealize.ShloMosaic Cert.ReferenceIdeal Cert.ReferenceIdeal.Gen Cert.ReferenceIdeal.Read
open scoped BigOperators

variable {q : Raw} {x1 : FVec Ideal ⟨2, ![4096, 1024]⟩ .bf16} {x2 : FVec Ideal ⟨2, ![1024, 1024]⟩ .bf16}
  {x3 : FVec Ideal ⟨3, ![8, 4096, 1024]⟩ .f32} {x4 x5 : FVec Ideal ⟨2, ![1, 1024]⟩ .f32}
  {x6 : FVec Ideal ⟨4, ![1, 8, 128, 128]⟩ .f32} {x7 : FVec Ideal ⟨3, ![1, 8, 128]⟩ .f32}
  (h : Reals q x1 x2 x3 x4 x5 x6 x7)

include h

/-- The gradient of the gated product. -/
theorem r98 : Is2 (φ := .f32) (val_main_v98 (F := Ideal) x1 x2) q.inp.da := fun r c =>
  (val_main_v98_apply ..).trans (sum_fin _ (fun k => q.dya r k * q.wa c k) fun k =>
    (congrArg₂ (· * ·) (h.dya.at _) (h.wa.at _)).trans (EReal.coe_mul _ _).symm)
/-- The gradient of the mixed rows, before the sums. -/
theorem r99 : Is2 (φ := .f32) (val_main_v99 (F := Ideal) x1 x2 x3) q.inp.dmx :=
  ((r91 h).mulf (r98 h)).congr fun r c _ _ => mul_comm _ _
theorem r100 : Is2 (φ := .f32) (val_main_v100 (F := Ideal) x1 x2 x3 x4 x5 x6 x7) (fun r c => q.inp.da r c * q.inp.mixed r c) :=
  (r98 h).mulf (r92 h)
theorem r101 : Is4 (φ := .f32) (val_main_v101 (F := Ideal) x1 x2 x3) (fun n i g d => q.inp.dmx (128 * n + i) (128 * g + d)) := by
  intro n s g d
  have hn := n.isLt; have hs := s.isLt; have hg := g.isLt; have hd := d.isLt
  rw [val_main_v101_apply, (r99 h).at]
  refine arg2 ?_ ?_
  · show (((n.val * 128 + s.val) * 8 + g.val) * 128 + d.val) / 1024 = 128 * n.val + s.val; omega
  · show (((n.val * 128 + s.val) * 8 + g.val) * 128 + d.val) % 1024 = 128 * g.val + d.val; omega

/-- The gradient of the first half. -/
theorem r120 : Is2 (φ := .f32) (val_main_v120 (F := Ideal) x1 x2 x3 x4 x5 x6 x7) q.inp.du := by
  have t106 : Is2 (φ := .f32) (val_main_v106 (F := Ideal) x1 x2 x3 x4 x5 x6 x7) _ :=
    (Is2.hsplat ofBits_c0 _).mulf (((r73 h).mulf (r100 h)).mulf (r88 h))
  have t110 : Is2 (φ := .f32) (val_main_v110 (F := Ideal) x1 x2 x3 x4 x5 x6 x7) _ :=
    (Is2.hdivf t106 (Is2.hsplat ofBits_million _) fun _ _ => by norm_num).mulf (Is2.hsplat ofBits_44715 _)
  have t113 : Is2 (φ := .f32) (val_main_v113 (F := Ideal) x1 x2 x3 x4 x5 x6 x7) _ := t110.mulf (r11 h)
  have t119 : Is2 (φ := .f32) (val_main_v119 (F := Ideal) x1 x2 x3 x4 x5 x6 x7) _ :=
    (Is2.hsplat ofBits_half _).mulf ((r100 h).mulf (r90 h))
  have t117 : Is2 (φ := .f32) (val_main_v117 (F := Ideal) x1 x2 x3 x4 x5 x6 x7) _ :=
    ((t106.addf (((r11 h).mulf (r11 h)).mulf t110)).addf ((r11 h).mulf t113)).addf (t113.mulf (r11 h))
  exact (t117.addf t119).congr fun r c _ _ => gelu_back _ _

/-- The gradient of the layer norm's value. -/
theorem r128 : Is2 (φ := .f32) (val_main_v128 (F := Ideal) x1 x2 x3 x6) q.inp.dvn := by
  have t126 : Is4 (φ := .f32) (val_main_v126 (F := Ideal) x1 x2 x3 x6)
      (fun g n d s => ∑ i ∈ Finset.range 128, q.inp.w g i s * q.inp.dmx (128 * n + i) (128 * g + d)) := by
    intro g n d s
    refine (val_main_v126_apply ..).trans (sum_fin _ (fun i => q.inp.w g i s * q.inp.dmx (128 * n + i) (128 * g + d)) fun i => ?_)
    refine (congrArg₂ (· * ·) ((val_main_v124_apply ..).trans ((r101 h).at _)) ((r3 h).at _)).trans
      ((EReal.coe_mul _ _).symm.trans (congrArg _ (mul_comm _ _)))
  intro r c
  have hr := r.isLt; have hc := c.isLt
  rw [val_main_v128_apply, val_main_v127_apply, t126.at]
  have e0 : (r.val * 1024 + c.val) / 131072 = r.val / 128 := by omega
  have e1 : (r.val * 1024 + c.val) / 1024 % 128 = r.val % 128 := by omega
  have e2 : (r.val * 1024 + c.val) / 128 % 8 = c.val / 128 := by omega
  have e3 : (r.val * 1024 + c.val) % 128 = c.val % 128 := by omega
  show ((∑ i ∈ Finset.range 128, q.inp.w ((r.val * 1024 + c.val) / 128 % 8) i ((r.val * 1024 + c.val) / 1024 % 128)
      * q.inp.dmx (128 * ((r.val * 1024 + c.val) / 131072) + i) (128 * ((r.val * 1024 + c.val) / 128 % 8) + (r.val * 1024 + c.val) % 128) : ℝ) : EReal) = _
  rw [e0, e1, e2, e3, show 128 * (c.val / 128) + c.val % 128 = c.val by omega]
  rfl
theorem r129 : Is3 (φ := .f32) (val_main_v129 (F := Ideal) x1 x2 x3 x6) (fun k r c => q.inp.dvn (k * 8 + r) c) := by
  intro k r c
  have hk := k.isLt; have hr := r.isLt; have hc := c.isLt
  rw [val_main_v129_apply, (r128 h).at]
  refine arg2 ?_ ?_
  · show ((k.val * 8 + r.val) * 1024 + c.val) / 1024 = k.val * 8 + r.val; omega
  · show ((k.val * 8 + r.val) * 1024 + c.val) % 1024 = c.val; omega
/-- The gradient of the normalised rows. -/
theorem r139 : Is2 (φ := .f32) (val_main_v139 (F := Ideal) x1 x2 x3 x4 x6) q.inp.dvh := by
  intro r c
  have hr := r.isLt; have hc := c.isLt
  rw [val_main_v139_apply]
  refine (((r129 h).mulf (r136 h)).at _).trans ?_
  show ((q.inp.dvn ((r.val * 1024 + c.val) / 8192 * 8 + (r.val * 1024 + c.val) / 1024 % 8) ((r.val * 1024 + c.val) % 1024)
    * q.lg ((r.val * 1024 + c.val) % 1024) : ℝ) : EReal) = _
  rw [show (r.val * 1024 + c.val) / 8192 * 8 + (r.val * 1024 + c.val) / 1024 % 8 = r.val by omega,
    show (r.val * 1024 + c.val) % 1024 = c.val by omega]
  rfl

/-- The variance's part of the gradient, per row. -/
theorem r142 : Is2 (φ := .f32) (val_main_v142 (F := Ideal) x1 x2 x3 x4 x6)
    (fun r _ => ∑ k ∈ Finset.range 1024, q.inp.xc r k * q.inp.dvh r k) := by
  intro r c
  obtain rfl : c = 0 := Subsingleton.elim _ _
  exact (val_main_v142_apply ..).trans ((val_main_v141_apply ..).trans
    ((zsum ofBits_zero (fun k => q.inp.xc (r.val * 1 + 0) k * q.inp.dvh (r.val * 1 + 0) k) fun k => ((r49 h).mulf (r139 h)).at _).trans (by simp only [Nat.mul_one, Nat.add_zero])))
theorem r144 : Is2 (φ := .f32) (val_main_v144 (F := Ideal) x1 x2 x3 x4 x6) (fun r c => q.inp.dvh r c * q.inp.rs r) :=
  (r139 h).mulf (g := fun r _ => q.inp.rs r) fun r c => (val_main_v143_apply ..).trans ((r52 h).at _)
theorem r146 : Is2 (φ := .f32) (val_main_v146 (F := Ideal) x1 x2 x3 x4 x6) (fun r c => -(q.inp.dvh r c * q.inp.rs r)) := by
  have t := r144 h
  intro r c
  rw [val_main_v146_apply, t r c]; exact (EReal.coe_neg _).symm
theorem r148 : Is2 (φ := .f32) (val_main_v148 (F := Ideal) x1 x2 x3 x4 x6)
    (fun r _ => ∑ k ∈ Finset.range 1024, -(q.inp.dvh r k * q.inp.rs r)) := by
  intro r c
  obtain rfl : c = 0 := Subsingleton.elim _ _
  exact (val_main_v148_apply ..).trans ((val_main_v147_apply ..).trans
    ((zsum ofBits_zero (fun k => -(q.inp.dvh (r.val * 1 + 0) k * q.inp.rs (r.val * 1 + 0))) fun k => ((r146 h).at _).trans (arg2 (f := fun r k => -(q.inp.dvh r k * q.inp.rs r)) rfl rfl)).trans (by simp only [Nat.mul_one, Nat.add_zero])))
theorem r150 : Is2 (φ := .f32) (val_main_v150 (F := Ideal) x1 x2 x3 x4 x6) (fun r _ => q.inp.vp r) :=
  ((r142 h).mulf (r55 h)).hdivf (Is2.hsplat ofBits_1024 _) (fun _ _ => by norm_num)
theorem r153 : Is2 (φ := .f32) (val_main_v153 (F := Ideal) x1 x2 x3 x4 x6) (fun r c => q.inp.vp r * (2 * q.inp.xc r c)) :=
  Is2.mulf (f := fun r _ => q.inp.vp r)
    (fun r c => (val_main_v152_apply ..).trans ((val_main_v151_apply ..).trans (zsum1 ofBits_zero ((r150 h).at _))))
    ((Is2.hsplat ofBits_two _).mulf (r40 h))
theorem r154 : Is2 (φ := .f32) (val_main_v154 (F := Ideal) x1 x2 x3 x4 x6) (fun r c => -(q.inp.vp r * (2 * q.inp.xc r c))) := by
  have t := r153 h
  intro r c
  rw [val_main_v154_apply, t r c]; exact (EReal.coe_neg _).symm
theorem r156 : Is2 (φ := .f32) (val_main_v156 (F := Ideal) x1 x2 x3 x4 x6)
    (fun r _ => ∑ k ∈ Finset.range 1024, -(q.inp.vp r * (2 * q.inp.xc r k))) := by
  intro r c
  obtain rfl : c = 0 := Subsingleton.elim _ _
  exact (val_main_v156_apply ..).trans ((val_main_v155_apply ..).trans
    ((zsum ofBits_zero (fun k => -(q.inp.vp (r.val * 1 + 0) * (2 * q.inp.xc (r.val * 1 + 0) k))) fun k => ((r154 h).at _).trans (arg2 (f := fun r k => -(q.inp.vp r * (2 * q.inp.xc r k))) rfl rfl)).trans (by simp only [Nat.mul_one, Nat.add_zero])))
theorem r160 : Is2 (φ := .f32) (val_main_v160 (F := Ideal) x1 x2 x3 x4 x6)
    (fun r _ => (∑ k ∈ Finset.range 1024, -(q.inp.dvh r k * q.inp.rs r) + ∑ k ∈ Finset.range 1024, -(q.inp.vp r * (2 * q.inp.xc r k))) / 1024) :=
  ((r148 h).addf (r156 h)).hdivf (Is2.hsplat ofBits_1024 _) (fun _ _ => by norm_num)
/-- The gradient through the layer norm. -/
theorem r163 : Is2 (φ := .f32) (val_main_v163 (F := Ideal) x1 x2 x3 x4 x6) q.inp.dgv := by
  have t162 : Is2 (φ := .f32) (val_main_v162 (F := Ideal) x1 x2 x3 x4 x6)
      (fun r _ => (∑ k ∈ Finset.range 1024, -(q.inp.dvh r k * q.inp.rs r) + ∑ k ∈ Finset.range 1024, -(q.inp.vp r * (2 * q.inp.xc r k))) / 1024) :=
    fun r c => (val_main_v162_apply ..).trans ((val_main_v161_apply ..).trans (zsum1 ofBits_zero ((r160 h).at _)))
  exact (((r144 h).addf (r153 h)).addf t162).congr fun r c _ _ => q.inp.norm_back r c

/-- The gradient of the second half. -/
theorem r182 : Is2 (φ := .f32) (val_main_v182 (F := Ideal) x1 x2 x3 x4 x6) q.inp.dv := by
  have t168 : Is2 (φ := .f32) (val_main_v168 (F := Ideal) x1 x2 x3 x4 x6) _ :=
    (Is2.hsplat ofBits_c0 _).mulf (((r16 h).mulf (r163 h)).mulf (r31 h))
  have t172 : Is2 (φ := .f32) (val_main_v172 (F := Ideal) x1 x2 x3 x4 x6) _ :=
    (Is2.hdivf t168 (Is2.hsplat ofBits_million _) fun _ _ => by norm_num).mulf (Is2.hsplat ofBits_44715 _)
  have t175 : Is2 (φ := .f32) (val_main_v175 (F := Ideal) x1 x2 x3 x4 x6) _ := t172.mulf (r13 h)
  have t181 : Is2 (φ := .f32) (val_main_v181 (F := Ideal) x1 x2 x3 x4 x6) _ :=
    (Is2.hsplat ofBits_half _).mulf ((r163 h).mulf (r33 h))
  have t179 : Is2 (φ := .f32) (val_main_v179 (F := Ideal) x1 x2 x3 x4 x6) _ :=
    ((t168.addf (((r13 h).mulf (r13 h)).mulf t172)).addf ((r13 h).mulf t175)).addf (t175.mulf (r13 h))
  exact (t179.addf t181).congr fun r c _ _ => gelu_back _ _

end Cert.Gmlp
-- ==== Proof.RefRes.lean ====
/-
  What the reference's four results hold.
-/
module

public import proofs.«01_k».proof.Proof.RefBwd

@[expose] public section

noncomputable section

namespace Cert.Gmlp

open Idealize.ShloMosaic Cert.ReferenceIdeal Cert.ReferenceIdeal.Gen Cert.ReferenceIdeal.Read
open scoped BigOperators

variable {q : Raw} {x1 : FVec Ideal ⟨2, ![4096, 1024]⟩ .bf16} {x2 : FVec Ideal ⟨2, ![1024, 1024]⟩ .bf16}
  {x3 : FVec Ideal ⟨3, ![8, 4096, 1024]⟩ .f32} {x4 x5 : FVec Ideal ⟨2, ![1, 1024]⟩ .f32}
  {x6 : FVec Ideal ⟨4, ![1, 8, 128, 128]⟩ .f32} {x7 : FVec Ideal ⟨3, ![1, 8, 128]⟩ .f32}
  (h : Reals q x1 x2 x3 x4 x5 x6 x7)

include h

/-- The sums for the layer norm's scale. -/
theorem r134 : Is2 (φ := .f32) (val_main_v134 (F := Ideal) x1 x2 x3 x6) (q.inp.dlg 512) := fun r c =>
  (val_main_v134_apply ..).trans
    ((zsum ofBits_zero (fun k => q.inp.vh (k * 8 + r.val) c.val * q.inp.dvn (k * 8 + r.val) c.val) fun k =>
      (((r58 h).mulf (r129 h)).at _).trans (arg3 (f := fun k r c => q.inp.vh (k * 8 + r) c * q.inp.dvn (k * 8 + r) c) rfl rfl rfl)).trans
      (congrArg _ (Finset.sum_congr rfl fun k _ => mul_comm _ _)))
theorem r138 : Is2 (φ := .f32) (val_main_v138 (F := Ideal) x1 x2 x3 x6) (q.inp.dlg 512) := by
  intro r c
  have hr := r.isLt; have hc := c.isLt
  refine (val_main_v138_apply ..).trans (zsum1 ofBits_zero ((val_main_v135_apply ..).trans (((r134 h).at _).trans
    (arg2 (f := q.inp.dlg 512) ?_ ?_))))
  · show ((0 * 8 + r.val) * 1024 + c.val) / 1024 = r.val; omega
  · show ((0 * 8 + r.val) * 1024 + c.val) % 1024 = c.val; omega
/-- The sums for its shift. -/
theorem r130 : Is2 (φ := .f32) (val_main_v130 (F := Ideal) x1 x2 x3 x6) (q.inp.dlb 512) := fun r c =>
  (val_main_v130_apply ..).trans
    (zsum ofBits_zero (fun k => q.inp.dvn (k * 8 + r.val) c.val) fun k =>
      ((r129 h).at _).trans (arg3 (f := fun k r c => q.inp.dvn (k * 8 + r) c) rfl rfl rfl))
theorem r132 : Is2 (φ := .f32) (val_main_v132 (F := Ideal) x1 x2 x3 x6) (q.inp.dlb 512) := by
  intro r c
  have hr := r.isLt; have hc := c.isLt
  refine (val_main_v132_apply ..).trans (zsum1 ofBits_zero ((val_main_v131_apply ..).trans (((r130 h).at _).trans
    (arg2 (f := q.inp.dlb 512) ?_ ?_))))
  · show ((0 * 8 + r.val) * 1024 + c.val) / 1024 = r.val; omega
  · show ((0 * 8 + r.val) * 1024 + c.val) % 1024 = c.val; omega
/-- The two, stacked. -/
theorem r196 : Is3 (φ := .f32) (val_main_v196 (F := Ideal) x1 x2 x3 x6) (fun k => if k = 0 then q.inp.dlg 512 else q.inp.dlb 512) := by
  intro k r c
  match k with
  | ⟨0, hk⟩ =>
    refine (concatenate_pair_apply_left 0 (val_main_v194 (F := Ideal) x1 x2 x3 x6) (val_main_v195 (F := Ideal) x1 x2 x3 x6)
      concatenates_S1x8x1024_S1x8x1024_S2x8x1024_d0 (ix3 ⟨0, hk⟩ r c) rfl (ix3 0 r c)
      (fun a => match a with | ⟨0, _⟩ => rfl | ⟨1, _⟩ => rfl | ⟨2, _⟩ => rfl)).trans ?_
    exact (val_main_v194_apply ..).trans ((r138 h).at _)
  | ⟨1, hk⟩ =>
    refine (concatenate_pair_apply_right 0 (val_main_v194 (F := Ideal) x1 x2 x3 x6) (val_main_v195 (F := Ideal) x1 x2 x3 x6)
      concatenates_S1x8x1024_S1x8x1024_S2x8x1024_d0 (ix3 ⟨1, hk⟩ r c) rfl rfl (ix3 0 r c)
      (fun a ha => match a, ha with | ⟨0, _⟩, ha => absurd rfl ha | ⟨1, _⟩, _ => rfl | ⟨2, _⟩, _ => rfl) rfl).trans ?_
    exact (val_main_v195_apply ..).trans ((r132 h).at _)

/-- The gradient of the mixing weights, group by group. -/
theorem r125 : Is3 (φ := .f32) (val_main_v125 (F := Ideal) x1 x2 x3 x4 x5) (fun g i s =>
    ∑ n ∈ Finset.range 32, ∑ d ∈ Finset.range 128, q.inp.dmx (128 * n + i) (128 * g + d) * q.inp.vn (128 * n + s) (128 * g + d)) := by
  intro g i s
  have hl : Is4 (φ := .f32) (val_main_v124 (F := Ideal) x1 x2 x3) (fun g n d i => q.inp.dmx (128 * n + i) (128 * g + d)) :=
    fun g n d i => (val_main_v124_apply ..).trans ((r101 h).at _)
  have hr := r66 h
  unfold val_main_v125
  generalize val_main_v124 (F := Ideal) x1 x2 x3 = y at hl
  generalize val_main_v66 (F := Ideal) x3 x4 x5 = z at hr
  simp only [Host.dotGeneral]
  rw [Ideal.dotGeneral_apply, ValueIdx.sum_contr2 dot_S8x32x128x128_S32x128x8x128_S8x128x128_12_03_3_1_0_2 32 128 rfl rfl rfl]
  refine sum_fin _ (fun n => ∑ d ∈ Finset.range 128, q.inp.dmx (128 * n + i) (128 * g + d) * q.inp.vn (128 * n + s) (128 * g + d)) fun n => ?_
  refine sum_fin _ (fun d => q.inp.dmx (128 * n + i) (128 * g + d) * q.inp.vn (128 * n + s) (128 * g + d)) fun d => ?_
  refine (congrArg₂ (· * ·) (hl.at _) (hr.at _)).trans ((EReal.coe_mul _ _).symm.trans ?_)
  rfl
/-- The same, as a matrix. -/
theorem r198 : Is2 (φ := .f32) (val_main_v198 (F := Ideal) x1 x2 x3 x4 x5) (q.inp.dw 32) := by
  intro r c
  have hr := r.isLt; have hc := c.isLt
  rw [val_main_v198_apply, val_main_v197_apply, (r125 h).at]
  show ((∑ n ∈ Finset.range 32, ∑ d ∈ Finset.range 128, q.inp.dmx (128 * n + (r.val * 1024 + c.val) / 1024) (128 * ((r.val * 1024 + c.val) / 128 % 8) + d)
      * q.inp.vn (128 * n + (r.val * 1024 + c.val) % 128) (128 * ((r.val * 1024 + c.val) / 128 % 8) + d) : ℝ) : EReal) = _
  rw [show (r.val * 1024 + c.val) / 1024 = r.val by omega, show (r.val * 1024 + c.val) / 128 % 8 = c.val / 128 by omega,
    show (r.val * 1024 + c.val) % 128 = c.val % 128 by omega]
  rfl

/-- The gradient of the bias. -/
theorem r199 : Is2 (φ := .f32) (val_main_v199 (F := Ideal) x1 x2 x3) (q.inp.db 32) := by
  have t121 : Is3 (φ := .f32) (val_main_v121 (F := Ideal) x1 x2 x3) (fun i g d => ∑ n ∈ Finset.range 32, q.inp.dmx (128 * n + i) (128 * g + d)) :=
    fun i g d => (val_main_v121_apply ..).trans (zsum ofBits_zero (fun n => q.inp.dmx (128 * n + i) (128 * g + d)) fun n => (r101 h).at _)
  have t123 : Is3 (φ := .f32) (val_main_v123 (F := Ideal) x1 x2 x3) (fun i g d => ∑ n ∈ Finset.range 32, q.inp.dmx (128 * n + i) (128 * g + d)) := by
    intro i g d
    have hi := i.isLt; have hg := g.isLt; have hd := d.isLt
    refine (val_main_v123_apply ..).trans (zsum1 ofBits_zero ((val_main_v122_apply ..).trans ((t121.at _).trans ?_)))
    refine arg3 (f := fun i g d => ∑ n ∈ Finset.range 32, q.inp.dmx (128 * n + i) (128 * g + d)) ?_ ?_ ?_
    · show (((0 * 128 + i.val) * 8 + g.val) * 128 + d.val) / 1024 = i.val; omega
    · show (((0 * 128 + i.val) * 8 + g.val) * 128 + d.val) / 128 % 8 = g.val; omega
    · show (((0 * 128 + i.val) * 8 + g.val) * 128 + d.val) % 128 = d.val; omega
  intro r c
  have hr := r.isLt; have hc := c.isLt
  rw [val_main_v199_apply, t123.at]
  show ((∑ n ∈ Finset.range 32, q.inp.dmx (128 * n + (r.val * 1024 + c.val) / 1024) (128 * ((r.val * 1024 + c.val) / 128 % 8) + (r.val * 1024 + c.val) % 128) : ℝ) : EReal) = _
  rw [show (r.val * 1024 + c.val) / 1024 = r.val by omega,
    show 128 * ((r.val * 1024 + c.val) / 128 % 8) + (r.val * 1024 + c.val) % 128 = c.val by omega]
  rfl

/-- The first result: two rows new, the others as given. -/
theorem r193 (x0 : FVec Ideal ⟨3, ![8, 4096, 1024]⟩ .bf16) (k : Fin 8) (r : Fin 4096) (c : Fin 1024) :
    val_main_v193 (F := Ideal) x0 x1 x2 x3 x4 x5 x6 x7 (ix3 k r c)
      = if k.val = 4 then ((q.inp.du r.val c.val : ℝ) : EReal) else if k.val = 5 then ((q.inp.dv r.val c.val : ℝ) : EReal) else x0 (ix3 k r c) := by
  have k4 : val_main_v185 (F := Ideal) (ix3 k r c) = if k.val = 4 then 1#1 else 0#1 := by
    rw [val_main_v185_apply, val_main_v183_apply, val_main_v184_apply]
    exact (by decide +kernel : ∀ k : Fin 8, IntOp.cmpi .eq (BitVec.ofNat 32 k.val) 4#32 = if k.val = 4 then 1#1 else 0#1) k
  have k5 : val_main_v189 (F := Ideal) (ix3 k r c) = if k.val = 5 then 1#1 else 0#1 := by
    rw [val_main_v189_apply, val_main_v183_apply, val_main_v188_apply]
    exact (by decide +kernel : ∀ k : Fin 8, IntOp.cmpi .eq (BitVec.ofNat 32 k.val) 5#32 = if k.val = 5 then 1#1 else 0#1) k
  have d4 : val_main_call3_v0 (F := Ideal) x1 x2 x3 x4 x5 x6 x7 (ix3 k r c) = ((q.inp.du r.val c.val : ℝ) : EReal) :=
    (val_main_call3_v0_apply ..).trans ((val_main_v187_apply ..).trans ((val_main_v186_apply ..).trans ((r120 h).at _)))
  have d5 : val_main_call2_v0 (F := Ideal) x1 x2 x3 x4 x6 (ix3 k r c) = ((q.inp.dv r.val c.val : ℝ) : EReal) :=
    (val_main_call2_v0_apply ..).trans ((val_main_v191_apply ..).trans ((val_main_v190_apply ..).trans ((r182 h).at _)))
  rw [val_main_v193_apply, val_main_v192_apply, k4, k5, d4, d5]
  by_cases h4 : k.val = 4
  · rw [if_pos h4, if_pos h4]; rfl
  · rw [if_neg h4, if_neg h4]
    by_cases h5 : k.val = 5
    · rw [if_pos h5, if_pos h5]; rfl
    · rw [if_neg h5, if_neg h5]; rfl

end Cert.Gmlp
-- ==== Proof.GmlpClaims.lean ====
/-
  The claims about the branch's backward call: the frames, the named constants, and the values.
-/
module

public import proofs.«01_k».proof.Defs
public import proofs.«01_k».proof.Proof.Finite
public import proofs.«01_k».proof.Proof.Result
public import proofs.«01_k».proof.Proof.RefRes
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal.Run
public import Idealize.ShloMosaic.Adequacy
public import Idealize.ShloMosaic.Init

@[expose] public section

noncomputable section

namespace Cert.Gmlp

open Idealize.ShloMosaic Idealize.SL.Sem

attribute [local instance] finite_facts

/-- Two arrays that hold the same reals are equal. -/
theorem Is2.ext {a b : ℕ} {φ : FTy} {x y : FVec Ideal ⟨2, ![a, b]⟩ φ} {f : ℕ → ℕ → ℝ} (hx : Is2 x f) (hy : Is2 y f) : x = y :=
  funext fun i => (hx.at i).trans (hy.at i).symm
theorem Is3.ext {a b d : ℕ} {φ : FTy} {x y : FVec Ideal ⟨3, ![a, b, d]⟩ φ} {f : ℕ → ℕ → ℕ → ℝ} (hx : Is3 x f) (hy : Is3 y f) : x = y :=
  funext fun i => (hx.at i).trans (hy.at i).symm

/-- The kernel leaves its arguments as they were and every counter at zero. -/
theorem frame_p : Cert.quiescent_Kernel := fun m ρ _ => Cert.Kernel.Gen.frame m ρ
theorem frame_pi : Cert.quiescent_KernelIdeal := fun m ρ _ => Cert.KernelIdeal.Gen.frame m ρ
theorem frame_pi_finite : Cert.quiescent_KernelIdeal_pre_finite := fun m ρ _ => Cert.KernelIdeal.Gen.frame m ρ
/-- So does the reference, which has no counters. -/
theorem frame_ri : Cert.quiescent_ReferenceIdeal := fun m ρ _ =>
  (θ_run Cert.ReferenceIdeal.defs _ _).mono (fun r h => ⟨fun c => (h c).2.2.2.2, sem_eq_zero_of_no_sems (by decide) r.2⟩)
    (Cert.ReferenceIdeal.Value.run (F := Ideal) m ρ)
theorem frame_ri_finite : Cert.quiescent_ReferenceIdeal_pre_finite := fun m ρ _ => frame_ri m ρ trivial

/-- The kernel's named constants are the quotients they are named after. -/
theorem preserves : Cert.preserves_Kernel_KernelIdeal :=
  ⟨IdealRules.named_const.statement Cert.KernelIdeal.κ "c1" .f32 0x3D372713#32 ((8943 / 200000 : ℝ) : EReal) rfl,
    IdealRules.named_const.statement Cert.KernelIdeal.κ "c3" .f32 0x3E095D4F#32 ((26829 / 200000 : ℝ) : EReal) rfl⟩

section
open Cert.KernelIdeal Cert.KernelIdeal.Gen Cert.ReferenceIdeal.Read

variable {m : (ℓ : Loc nD τ sig) → Buf (Elt Ideal) ℓ} {c : Dev nD} {q : Raw} (h : Args m c q)

include h

/-- The first result: the two gradients in their rows, the other rows as given. -/
theorem same0 : val_main_v193 (F := Ideal) (m (c.tc.loc main_arg0)) (m (c.tc.loc main_arg1)) (m (c.tc.loc main_arg2)) (m (c.tc.loc main_arg3))
      (m (c.tc.loc main_arg4)) (m (c.tc.loc main_arg5)) (m (c.tc.loc main_arg6)) (m (c.tc.loc main_arg7))
    = ((dats m 0 c).arrAt 9 cfg0.N : Vec Ideal S8x4096x1024 .bf16) := by
  funext i
  obtain ⟨k, r, e, rfl⟩ : ∃ (k : Fin 8) (r : Fin 4096) (e : Fin 1024), i = ix3 k r e := ⟨i 0, i 1, i 2, ValueIdx.eq_ix3 i⟩
  refine (r193 h (m (c.tc.loc main_arg0)) k r e).trans ?_
  by_cases h4 : k.val = 4
  · obtain rfl : k = 4 := Fin.ext h4
    exact (if_pos rfl).trans ((array9 h 0 r e).trans (congrArg _ (if_pos rfl))).symm
  · by_cases h5 : k.val = 5
    · obtain rfl : k = 5 := Fin.ext h5
      exact (if_neg h4).trans ((if_pos rfl).trans ((array9 h 1 r e).trans (congrArg _ (if_neg (by decide)))).symm)
    · exact (if_neg h4).trans ((if_neg h5).trans (array9_old k ⟨h4, h5⟩ r e).symm)
/-- The second: the gradients of the layer norm's scale and shift. -/
theorem same1 : val_main_v196 (F := Ideal) (m (c.tc.loc main_arg1)) (m (c.tc.loc main_arg2)) (m (c.tc.loc main_arg3)) (m (c.tc.loc main_arg6))
    = ((dats m 0 c).arrAt 10 cfg0.N : Vec Ideal S2x8x1024 .f32) := (r196 h).ext (array10 h)
/-- The third: the gradient of the spatial weights. -/
theorem same2 : val_main_v198 (F := Ideal) (m (c.tc.loc main_arg1)) (m (c.tc.loc main_arg2)) (m (c.tc.loc main_arg3))
      (m (c.tc.loc main_arg4)) (m (c.tc.loc main_arg5))
    = ((dats m 0 c).arrAt 11 cfg0.N : Vec Ideal S128x1024 .f32) := (r198 h).ext (array11 h)
/-- The fourth: the gradient of the bias. -/
theorem same3 : val_main_v199 (F := Ideal) (m (c.tc.loc main_arg1)) (m (c.tc.loc main_arg2)) (m (c.tc.loc main_arg3))
    = ((dats m 0 c).arrAt 12 cfg0.N : Vec Ideal S128x1024 .f32) := (r199 h).ext (array12 h)

end

/-- Where the arguments are finite, the kernel's results are the reference's. -/
theorem algebraic : Cert.algebraic_KernelIdeal_ReferenceIdeal_pre_finite := by
  intro m ρ m' ρ' hpre hag
  refine ⟨fun c => (Cert.KernelIdeal.Gen.dats m 0 c).arrAt 9 Cert.KernelIdeal.cfg0.N, fun c => (Cert.KernelIdeal.Gen.dats m 0 c).arrAt 10 Cert.KernelIdeal.cfg0.N,
    fun c => (Cert.KernelIdeal.Gen.dats m 0 c).arrAt 11 Cert.KernelIdeal.cfg0.N, fun c => (Cert.KernelIdeal.Gen.dats m 0 c).arrAt 12 Cert.KernelIdeal.cfg0.N,
    Cert.KernelIdeal.Value.run_blocks m ρ, ?_⟩
  refine (θ_run Cert.ReferenceIdeal.defs _ _).mono (fun r h c => ?_) (Cert.ReferenceIdeal.Value.run (F := Ideal) m' ρ')
  obtain ⟨q, hq⟩ := reals_of_finite (hpre c)
  obtain ⟨a0, a1, a2, a3, a4, a5, a6, a7⟩ := hag c
  obtain ⟨h0, h1, h2, h3, hr⟩ := h c
  have e0 := h0.trans (Cert.ReferenceIdeal.Read.val_main_v193_eq _)
  have e1 := h1.trans (Cert.ReferenceIdeal.Read.val_main_v196_eq _)
  have e2 := h2.trans (Cert.ReferenceIdeal.Read.val_main_v198_eq _)
  have e3 := h3.trans (Cert.ReferenceIdeal.Read.val_main_v199_eq _)
  simp only [StableHlo.launchContents_devRef, a0, a1, a2, a3, a4, a5, a6, a7] at e0 e1 e2 e3
  exact ⟨e0.trans (same0 hq), e1.trans (same1 hq), e2.trans (same2 hq), e3.trans (same3 hq), hr⟩

end Cert.Gmlp
-- ==== Proof.FfnSpec.lean ====
/-
  The feed-forward network, the final norm and the loss, with their gradients, over real numbers: the formulas that the
  kernel and the reference are both shown to compute. Arrays are functions of natural numbers; row `r` is a token.
-/
module

public import proofs.«01_k».proof.Proof.Arr

@[expose] public section

namespace Cert.FfnProof

open Cert.Gmlp (eps eps_pos)
open scoped BigOperators

/-! ## The root-mean-square norm, for rows of 1024 -/

/-- The mean square of a row, and epsilon. -/
noncomputable def msq (x : ℕ → ℕ → ℝ) (r : ℕ) : ℝ := (∑ k ∈ Finset.range 1024, x r k * x r k) / 1024 + eps
/-- Its reciprocal root. -/
noncomputable def rr (x : ℕ → ℕ → ℝ) (r : ℕ) : ℝ := (√(msq x r))⁻¹
/-- The normalised rows, before the gain. -/
noncomputable def nrm (x : ℕ → ℕ → ℝ) (r c : ℕ) : ℝ := x r c * rr x r
/-- The gradient of the rows, from that of the normalised rows. -/
noncomputable def nrmBack (x d : ℕ → ℕ → ℝ) (r c : ℕ) : ℝ :=
  rr x r * (d r c - nrm x r c * ((∑ k ∈ Finset.range 1024, d r k * nrm x r k) / 1024))
/-- The logistic function. -/
noncomputable def logi (z : ℝ) : ℝ := 1 / (1 + Real.exp (-z))

theorem msq_pos (x : ℕ → ℕ → ℝ) (r : ℕ) : 0 < msq x r :=
  add_pos_of_nonneg_of_pos (div_nonneg (Finset.sum_nonneg fun k _ => mul_self_nonneg _) (by norm_num)) eps_pos

/-- The inputs: the residual rows, the target, the two gains, the two projections and the down projection. -/
structure Inp where
  x : ℕ → ℕ → ℝ
  tg : ℕ → ℕ → ℝ
  gf : ℕ → ℝ
  gn : ℕ → ℝ
  w : ℕ → ℕ → ℕ → ℝ
  wd : ℕ → ℕ → ℝ

namespace Inp
variable (p : Inp)

/-- The normalised rows with their gain. -/
noncomputable def h (r c : ℕ) : ℝ := nrm p.x r c * p.gf c
/-- The gate's projection (`k = 0`) and the other (`k = 1`). -/
noncomputable def proj (k r f : ℕ) : ℝ := ∑ d ∈ Finset.range 1024, p.h r d * p.w k d f
noncomputable def sg (r f : ℕ) : ℝ := logi (p.proj 0 r f)
/-- The gate after its activation. -/
noncomputable def si (r f : ℕ) : ℝ := p.proj 0 r f * p.sg r f
noncomputable def act (r f : ℕ) : ℝ := p.si r f * p.proj 1 r f
/-- The rows after the network. -/
noncomputable def y (r c : ℕ) : ℝ := p.x r c + ∑ f ∈ Finset.range 2816, p.act r f * p.wd f c
/-- The error. -/
noncomputable def e (r c : ℕ) : ℝ := nrm p.y r c * p.gn c - p.tg r c
/-- The gradient of the prediction. -/
noncomputable def de (r c : ℕ) : ℝ := p.e r c * (1 / 1024)
/-- The gradient of the rows after the network. -/
noncomputable def dy (r c : ℕ) : ℝ := nrmBack p.y (fun r c => p.de r c * p.gn c) r c
/-- The gradients inside the network. -/
noncomputable def da (r f : ℕ) : ℝ := ∑ c ∈ Finset.range 1024, p.dy r c * p.wd f c
noncomputable def dg (r f : ℕ) : ℝ := p.da r f * p.proj 1 r f * (p.sg r f * (1 + p.proj 0 r f * (1 - p.sg r f)))
noncomputable def du (r f : ℕ) : ℝ := p.da r f * p.si r f
noncomputable def dh (r c : ℕ) : ℝ :=
  ∑ f ∈ Finset.range 2816, p.dg r f * p.w 0 c f + ∑ f ∈ Finset.range 2816, p.du r f * p.w 1 c f
/-- The gradient of the residual rows. -/
noncomputable def dx (r c : ℕ) : ℝ := p.dy r c + nrmBack p.x (fun r c => p.dh r c * p.gf c) r c

/-- The sums over `n` groups of 8 rows: the loss and the gradients of the two gains, each row by its number modulo 8. -/
noncomputable def loss (n r c : ℕ) : ℝ := ∑ k ∈ Finset.range n, p.e (k * 8 + r) c * p.e (k * 8 + r) c * (1 / 2048)
noncomputable def dgn (n r c : ℕ) : ℝ := ∑ k ∈ Finset.range n, p.de (k * 8 + r) c * nrm p.y (k * 8 + r) c
noncomputable def dgf (n r c : ℕ) : ℝ := ∑ k ∈ Finset.range n, p.dh (k * 8 + r) c * nrm p.x (k * 8 + r) c

/-- The inputs from row `256 t` on. -/
def at_ (t : ℕ) : Inp := { p with x := fun r c => p.x (256 * t + r) c, tg := fun r c => p.tg (256 * t + r) c }

theorem sum_step (f : ℕ → ℝ) (t : ℕ) : ∑ k ∈ Finset.range (32 * t), f k + ∑ k ∈ Finset.range 32, f (32 * t + k)
    = ∑ k ∈ Finset.range (32 * (t + 1)), f k := by
  rw [show 32 * (t + 1) = 32 * t + 32 by ring, Finset.sum_range_add]

/-- One block of 256 rows adds 32 groups of 8. -/
theorem loss_step (t r c : ℕ) : p.loss (32 * t) r c + (p.at_ t).loss 32 r c = p.loss (32 * (t + 1)) r c := by
  refine (congrArg (p.loss (32 * t) r c + ·) (Finset.sum_congr rfl fun k _ => ?_)).trans (sum_step _ t)
  show p.e (256 * t + (k * 8 + r)) c * p.e (256 * t + (k * 8 + r)) c * (1 / 2048) = _
  rw [show 256 * t + (k * 8 + r) = (32 * t + k) * 8 + r by ring]
theorem dgn_step (t r c : ℕ) : p.dgn (32 * t) r c + (p.at_ t).dgn 32 r c = p.dgn (32 * (t + 1)) r c := by
  refine (congrArg (p.dgn (32 * t) r c + ·) (Finset.sum_congr rfl fun k _ => ?_)).trans (sum_step _ t)
  show p.de (256 * t + (k * 8 + r)) c * nrm p.y (256 * t + (k * 8 + r)) c = _
  rw [show 256 * t + (k * 8 + r) = (32 * t + k) * 8 + r by ring]
theorem dgf_step (t r c : ℕ) : p.dgf (32 * t) r c + (p.at_ t).dgf 32 r c = p.dgf (32 * (t + 1)) r c := by
  refine (congrArg (p.dgf (32 * t) r c + ·) (Finset.sum_congr rfl fun k _ => ?_)).trans (sum_step _ t)
  show p.dh (256 * t + (k * 8 + r)) c * nrm p.x (256 * t + (k * 8 + r)) c = _
  rw [show 256 * t + (k * 8 + r) = (32 * t + k) * 8 + r by ring]

/-- A block's own rows. -/
theorem at_act (t r f : ℕ) : (p.at_ t).act r f = p.act (256 * t + r) f := rfl
theorem at_dy (t r c : ℕ) : (p.at_ t).dy r c = p.dy (256 * t + r) c := rfl
theorem at_h (t r c : ℕ) : (p.at_ t).h r c = p.h (256 * t + r) c := rfl
theorem at_dg (t r f : ℕ) : (p.at_ t).dg r f = p.dg (256 * t + r) f := rfl
theorem at_du (t r f : ℕ) : (p.at_ t).du r f = p.du (256 * t + r) f := rfl
theorem at_dx (t r c : ℕ) : (p.at_ t).dx r c = p.dx (256 * t + r) c := rfl

end Inp
end Cert.FfnProof
-- ==== Proof.FfnBlock.lean ====
/-
  What one grid point computes, part by part: each value the kernel's body names, over blocks of real numbers, is the
  formula of FfnSpec.lean. `p : Inp` is the block's own input (256 rows).
-/
module

public import proofs.«01_k».proof.Proof.FfnSpec
public import proofs.«01_k».proof.Proof.Gen.FfnIdeal.Skeleton

@[expose] public section

namespace Cert.FfnProof

open Idealize.ShloMosaic Cert.FfnIdeal Cert.FfnIdeal.Gen
open Cert.Gmlp
open scoped BigOperators

theorem ofBits_f {z : ℝ} {w : BitVec 32} (h : Ideal.ofBits .f32 w = ((z : ℝ) : EReal)) :
    (Scalar.ofBits .f32 w : Ideal .f32) = ((z : ℝ) : EReal) := h

theorem is_exp {φ : FTy} {a b : ℕ} {x : FVec Ideal ⟨2, ![a, b]⟩ φ} {f : ℕ → ℕ → ℝ} (hx : Is2 x f) :
    Is2 (exp x) (fun r c => Real.exp (f r c)) := fun r c => by
  show FloatOps.exp (x (ix2 r c)) = _
  rw [hx r c]; exact Ideal.exp_coe _

section pointwise
variable {f d : ℕ → ℕ → ℝ} {x y : FVec Ideal S256x1024 .f32}

/-- The mean of each row. -/
theorem is_mean (hx : Is2 x f) :
    Is2 (divf (shapeCast S256x1 (multiReduction .add [1] S256 x 0x00000000#32 reduces_S256x1024_S256 (.inl rfl) rfl) shapeCasts_S256_S256x1)
      (broadcast S256x1 (Scalar.ofBits .f32 0x44800000#32))) (fun r _ => (∑ k ∈ Finset.range 1024, f r k) / 1024) :=
  (hx.rowSum _ _ _ _).divf (Is2.splat (ofBits_f ofBits_1024)) (fun _ _ => by norm_num)
/-- The reciprocal root of the mean square. -/
theorem is_rr (hx : Is2 x f) :
    Is2 (rsqrt (addf (divf (shapeCast S256x1 (multiReduction .add [1] S256 (mulf x x) 0x00000000#32 reduces_S256x1024_S256 (.inl rfl) rfl) shapeCasts_S256_S256x1)
      (broadcast S256x1 (Scalar.ofBits .f32 0x44800000#32))) (broadcast S256x1 (Scalar.ofBits .f32 0x358637BD#32)))) (fun r _ => rr f r) :=
  ((is_mean (hx.mulf hx)).addf (Is2.splat (ofBits_f ofBits_eps))).rsqrt (fun r _ => msq_pos f r)
/-- The gradient through the norm. -/
theorem is_back {m : FVec Ideal S256x1 .f32} (hd : Is2 x d) (hn : Is2 y (nrm f)) (hm : Is2 m (fun r _ => rr f r)) :
    Is2 (mulf (broadcastTo S256x1024 m broadcasts_S256x1_S256x1024) (subf x (mulf y (broadcastTo S256x1024
      (divf (shapeCast S256x1 (multiReduction .add [1] S256 (mulf x y) 0x00000000#32 reduces_S256x1024_S256 (.inl rfl) rfl) shapeCasts_S256_S256x1)
        (broadcast S256x1 (Scalar.ofBits .f32 0x44800000#32))) broadcasts_S256x1_S256x1024)))) (nrmBack f d) :=
  (hm.colBcast (by decide) _).mulf (hd.subf (hn.mulf ((is_mean (hd.mulf hn)).colBcast (by decide) _)))
/-- The rows summed by their number modulo 8. -/
theorem is_rows8 (hx : Is2 x f) : Is2 (multiReduction .add [0] S8x1024 (shapeCast S32x8x1024 x shapeCasts_S256x1024_S32x8x1024)
    0x00000000#32 reduces_S32x8x1024_S8x1024 (.inl rfl) rfl) (fun r c => ∑ k ∈ Finset.range 32, f (k * 8 + r) c) :=
  Is2.rows8 (q := 32) hx _ _ _ _
end pointwise

variable {p : Inp}

section forward
variable {x : FVec Ideal S256x1024 .f32} {gf : FVec Ideal S1x1024 .f32} (hx : Is2 x p.x) (hg : Is2 gf (fun _ => p.gf))
include hx
theorem is_pay2 : Is2 (k0_pay2 x) (fun r _ => rr p.x r) := is_rr hx
theorem is_pay3 : Is2 (k0_pay3 x) (nrm p.x) := hx.mulf ((is_pay2 hx).colBcast (by decide) _)
include hg
theorem is_pay4 : Is2 (k0_pay4 x gf) p.h := ((is_pay3 hx).mulf (hg.rowBcast (by decide) _)).truncf .bf16 _
theorem is_pay5 {w : FVec Ideal S1x1024x2816 .bf16} (hw : Is3 w (fun _ => p.w 0)) : Is2 (k0_pay5 x gf w) (p.proj 0) :=
  (is_pay4 hx hg).matmul (hw.dropUnit _) none
theorem is_pay6 {w : FVec Ideal S1x1024x2816 .bf16} (hw : Is3 w (fun _ => p.w 1)) : Is2 (k0_pay6 x gf w) (p.proj 1) :=
  (is_pay4 hx hg).matmul (hw.dropUnit _) none
theorem is_pay7 {w : FVec Ideal S1x1024x2816 .bf16} (hw : Is3 w (fun _ => p.w 0)) : Is2 (k0_pay7 x gf w) p.sg :=
  ((Is2.splat (ofBits_f ofBits_one)).divf ((Is2.splat (ofBits_f ofBits_one)).addf
    (is_exp ((Is2.splat (ofBits_f ofBits_zero)).subf (is_pay5 hx hg hw)))) (fun _ _ => by positivity)).congr
    fun r c _ _ => by dsimp only [Inp.sg, logi]; rw [zero_sub]
end forward

section middle
variable {x : FVec Ideal S256x1024 .f32} {g u s : FVec Ideal S256x2816 .f32} {wd : FVec Ideal S2816x1024 .bf16}
  (hx : Is2 x p.x) (hg : Is2 g (p.proj 0)) (hu : Is2 u (p.proj 1)) (hs : Is2 s p.sg) (hw : Is2 wd p.wd)

include hg hs in
theorem is_pay8 : Is2 (k0_pay8 g s) p.si := hg.mulf hs
include hg hu hs in
theorem is_pay9 : Is2 (k0_pay9 g u s) p.act := ((is_pay8 hg hs).mulf hu).truncf .bf16 _
include hx hg hu hs hw
theorem is_pay10 : Is2 (k0_pay10 x g u s wd) p.y := hx.addf ((is_pay9 hg hu hs).matmul hw none)
theorem is_pay11 : Is2 (k0_pay11 x g u s wd) (fun r _ => rr p.y r) := is_rr (is_pay10 hx hg hu hs hw)
theorem is_pay12 : Is2 (k0_pay12 x g u s wd) (nrm p.y) :=
  (is_pay10 hx hg hu hs hw).mulf ((is_pay11 hx hg hu hs hw).colBcast (by decide) _)
variable {gn : FVec Ideal S1x1024 .f32} {tg : FVec Ideal S256x1024 .f32} (hn : Is2 gn (fun _ => p.gn)) (ht : Is2 tg p.tg)
include hn ht
theorem is_pay13 : Is2 (k0_pay13 x gn g u s wd tg) p.e :=
  ((is_pay12 hx hg hu hs hw).mulf (hn.rowBcast (by decide) _)).subf ht
theorem is_pay14 {a : FVec Ideal S1x8x1024 .f32} {A : ℕ → ℕ → ℝ} (ha : Is3 a (fun _ => A)) :
    Is3 (k0_pay14 x gn g u s wd tg a) (fun _ r c => A r c + p.loss 32 r c) :=
  Is2.addUnit (Is2.congr ((ha.dropUnit _).addf ((is_rows8 ((is_pay13 hx hg hu hs hw hn ht).mulf (is_pay13 hx hg hu hs hw hn ht))).mulf
    (Is2.splat (ofBits_f ofBits_inv_2048)))) fun r c _ _ => congrArg (A r c + ·) (Finset.sum_mul _ _ _)) _
theorem is_pay15 : Is2 (k0_pay15 x gn g u s wd tg) p.de :=
  (is_pay13 hx hg hu hs hw hn ht).mulf (Is2.splat (ofBits_f ofBits_inv_1024))
end middle

section back
variable {gn gf : FVec Ideal S1x1024 .f32} {m m1 : FVec Ideal S256x1 .f32} {yn de xn dy : FVec Ideal S256x1024 .f32}
  {g u s si : FVec Ideal S256x2816 .f32} {dg du : FVec Ideal S256x2816 .bf16} {wd : FVec Ideal S2816x1024 .bf16} {w0 w1 : FVec Ideal S1x1024x2816 .bf16}

theorem is_pay17 (hyn : Is2 yn (nrm p.y)) (hde : Is2 de p.de) {a : FVec Ideal S1x8x1024 .f32} {A : ℕ → ℕ → ℝ} (ha : Is3 a (fun _ => A)) :
    Is3 (k0_pay17 yn de (k0_pay16 a)) (fun _ r c => A r c + p.dgn 32 r c) :=
  Is2.addUnit ((ha.dropUnit shapeCasts_S1x8x1024_S8x1024).addf (is_rows8 (hde.mulf hyn))) _

section
variable (hn : Is2 gn (fun _ => p.gn)) (hm : Is2 m (fun r _ => rr p.y r)) (hyn : Is2 yn (nrm p.y)) (hde : Is2 de p.de)
include hn hm hyn hde
theorem is_pay18 : Is2 (k0_pay18 gn m yn de) p.dy := is_back (hde.mulf (hn.rowBcast (by decide) _)) hyn hm
theorem is_pay19 : Is2 (k0_pay19 gn m yn de) p.dy := (is_pay18 hn hm hyn hde).truncf .bf16 _
variable (hw : Is2 wd p.wd)
include hw
theorem is_pay20 : Is2 (k0_pay20 gn m yn de wd) p.da := (is_pay19 hn hm hyn hde).matmulT hw none
theorem is_pay21 (hg : Is2 g (p.proj 0)) (hu : Is2 u (p.proj 1)) (hs : Is2 s p.sg) : Is2 (k0_pay21 gn g u s m yn de wd) p.dg :=
  (((is_pay20 hn hm hyn hde hw).mulf hu).mulf (hs.mulf ((Is2.splat (ofBits_f ofBits_one)).addf
    (hg.mulf ((Is2.splat (ofBits_f ofBits_one)).subf hs))))).truncf .bf16 _
theorem is_pay22 (hsi : Is2 si p.si) : Is2 (k0_pay22 gn si m yn de wd) p.du := ((is_pay20 hn hm hyn hde hw).mulf hsi).truncf .bf16 _
theorem is_pay23 (hg : Is2 g (p.proj 0)) (hu : Is2 u (p.proj 1)) (hs : Is2 s p.sg) : Is3 (k0_pay23 gn g u s m yn de wd) (fun _ => p.dg) :=
  (is_pay21 hn hm hyn hde hw hg hu hs).addUnit _
end

theorem is_pay24 (hdu : Is2 du p.du) : Is3 (k0_pay24 du) (fun _ => p.du) := hdu.addUnit _

section
variable (hdg : Is2 dg p.dg) (hdu : Is2 du p.du) (hw0 : Is3 w0 (fun _ => p.w 0)) (hw1 : Is3 w1 (fun _ => p.w 1)) (hxn : Is2 xn (nrm p.x))
include hdg hdu hw0 hw1
theorem is_pay25 : Is2 (k0_pay25 dg du w0 w1) p.dh := (hdg.matmulT (hw0.dropUnit _) none).addf (hdu.matmulT (hw1.dropUnit _) none)
include hxn
theorem is_pay26 {a : FVec Ideal S1x8x1024 .f32} {A : ℕ → ℕ → ℝ} (ha : Is3 a (fun _ => A)) :
    Is3 (k0_pay26 xn dg du w0 w1 a) (fun _ r c => A r c + p.dgf 32 r c) :=
  Is2.addUnit ((ha.dropUnit _).addf (is_rows8 ((is_pay25 hdg hdu hw0 hw1).mulf hxn))) _
variable (hgf : Is2 gf (fun _ => p.gf)) (hm1 : Is2 m1 (fun r _ => rr p.x r)) (hdy : Is2 dy p.dy)
include hgf hm1 hdy
theorem is_pay27 : Is2 (k0_pay27 gf m1 xn dy dg du w0 w1) p.dx :=
  hdy.addf (is_back ((is_pay25 hdg hdu hw0 hw1).mulf (hgf.rowBcast (by decide) _)) hxn hm1)
theorem is_pay28 : Is2 (k0_pay28 gf m1 xn dy dg du w0 w1) p.dx :=
  (is_pay27 hdg hdu hw0 hw1 hxn hgf hm1 hdy).truncf .bf16 _
end
end back

end Cert.FfnProof
-- ==== Proof.FfnStore.lean ====
/-
  Further forms of stores: one over the whole buffer, and three of one leading index each, over a buffer that was cleared
  before and of which each leading index is read before it is stored.
-/
module

public import proofs.«01_k».proof.Proof.Store

@[expose] public section

namespace Cert.FfnProof

open Idealize.ShloMosaic
open Cert.Gmlp
open scoped BigOperators

variable {sig : RefSig} {κ : Kind} {sp : Space}

theorem whole_apply {a b : ℕ} {e : EltTy} {v : View sig κ sp ⟨2, ![a, b]⟩ e} (inb) (w : Vec Ideal ⟨2, ![a, b]⟩ e) (r : Fin a) (c : Fin b) :
    v.read (Elt Ideal) (v.writes (Elt Ideal) v.junk
      [(⟨Rect.unit (s := ⟨2, ![a, b]⟩) ![0, 0] ![a, b] inb, w⟩ : View.Piece (Elt Ideal) ⟨2, ![a, b]⟩ e)]) (ix2 r c) = w (ix2 r c) := by
  rw [View.read_writes_junk_eq_canon]
  have h : (ix2 r c : (⟨2, ![a, b]⟩ : Shape).Idx) = (Rect.unit (s := ⟨2, ![a, b]⟩) ![0, 0] ![a, b] inb).emb (ix2 r c) := by
    funext k
    refine Fin.ext ?_
    rw [Rect.emb_apply]
    match k with
    | ⟨0, _⟩ => show r.val = 0 + 1 * r.val; omega
    | ⟨1, _⟩ => show c.val = 0 + 1 * c.val; omega
  rw [h]
  exact (View.canon_cons_emb _ _ _ _).trans (congrArg w h.symm).symm

/-- One store over the whole buffer. -/
theorem onef {a b : ℕ} {f : ℕ → ℕ → ℝ} {v : View sig κ sp ⟨2, ![a, b]⟩ .f32} {inb} {w : FVec Ideal ⟨2, ![a, b]⟩ .f32} (hw : Is2 w f) :
    Is2 (φ := .f32) (a := a) (b := b) (v.read (Elt Ideal) (v.writes (Elt Ideal) v.junk
      [(⟨Rect.unit (s := ⟨2, ![a, b]⟩) ![0, 0] ![a, b] inb, w⟩ : View.Piece (Elt Ideal) ⟨2, ![a, b]⟩ .f32)])) f :=
  fun r c => (whole_apply (v := v) inb w r c).trans (hw r c)
theorem oneb {a b : ℕ} {f : ℕ → ℕ → ℝ} {v : View sig κ sp ⟨2, ![a, b]⟩ .bf16} {inb} {w : FVec Ideal ⟨2, ![a, b]⟩ .bf16} (hw : Is2 w f) :
    Is2 (φ := .bf16) (a := a) (b := b) (v.read (Elt Ideal) (v.writes (Elt Ideal) v.junk
      [(⟨Rect.unit (s := ⟨2, ![a, b]⟩) ![0, 0] ![a, b] inb, w⟩ : View.Piece (Elt Ideal) ⟨2, ![a, b]⟩ .bf16)])) f :=
  fun r c => (whole_apply (v := v) inb w r c).trans (hw r c)

section three
variable {n a b o : ℕ} {f₀ f₁ f₂ : ℕ → ℕ → ℝ}

/-- The stores leave 0 at the leading indices from `o` on. -/
def Zero (L : List (View.Piece (Elt Ideal) ⟨3, ![n, a, b]⟩ .f32)) (o : ℕ) : Prop :=
  ∀ (i : Fin n) (r : Fin a) (c : Fin b), o ≤ i.val → (View.canon L (ix3 i r c) : EReal) = ((0 : ℝ) : EReal)

theorem Zero.init (inb) {w : FVec Ideal ⟨3, ![n, a, b]⟩ .f32} (hw : Is3 w (fun _ _ _ => 0)) :
    Zero [(⟨Rect.unit (s := ⟨3, ![n, a, b]⟩) ![0, 0, 0] ![n, a, b] inb, w⟩ : View.Piece (Elt Ideal) ⟨3, ![n, a, b]⟩ .f32)] 0 := by
  intro i r c _
  have h : (ix3 i r c : (⟨3, ![n, a, b]⟩ : Shape).Idx)
      = (Rect.unit (s := ⟨3, ![n, a, b]⟩) ![0, 0, 0] ![n, a, b] inb).emb (ix3 i r c) := by
    funext k
    refine Fin.ext ?_
    rw [Rect.emb_apply]
    match k with
    | ⟨0, _⟩ => show i.val = 0 + 1 * i.val; omega
    | ⟨1, _⟩ => show r.val = 0 + 1 * r.val; omega
    | ⟨2, _⟩ => show c.val = 0 + 1 * c.val; omega
  rw [h, View.canon_cons_emb]
  exact hw i r c

theorem Zero.cons {L : List (View.Piece (Elt Ideal) ⟨3, ![n, a, b]⟩ .f32)} (hL : Zero L o) (inb) (w : FVec Ideal ⟨3, ![1, a, b]⟩ .f32) :
    Zero ((⟨Rect.unit (s := ⟨3, ![n, a, b]⟩) ![o, 0, 0] ![1, a, b] inb, w⟩ : View.Piece (Elt Ideal) ⟨3, ![n, a, b]⟩ .f32) :: L) (o + 1) :=
  fun i r c hi => (canon_skip (not_mem3 o inb i (by omega) r c)).trans (hL i r c (by omega))

theorem Zero.read {v : View sig κ sp ⟨3, ![n, a, b]⟩ .f32} {L : List (View.Piece (Elt Ideal) ⟨3, ![n, a, b]⟩ .f32)} (hL : Zero L o)
    (inb : ∀ k, (![o, 0, 0] : Fin 3 → ℕ) k + (![1, a, b] : Fin 3 → ℕ) k ≤ (![n, a, b] : Fin 3 → ℕ) k) :
    Is3 (φ := .f32) (a := 1) (b := a) (d := b)
      (v.readCov L (Rect.unit (s := ⟨3, ![n, a, b]⟩) ![o, 0, 0] ![1, a, b] inb).toLoadRect) (fun _ _ _ => 0) := by
  intro k r c
  obtain rfl : k = 0 := Subsingleton.elim _ _
  have h : o + 1 ≤ n := inb 0
  rw [View.readCov_eq_canon']
  have e : (Rect.unit (s := ⟨3, ![n, a, b]⟩) ![o, 0, 0] ![1, a, b] inb).toLoadRect.idx (ix3 0 r c)
      = (ix3 ⟨o, h⟩ r c : (⟨3, ![n, a, b]⟩ : Shape).Idx) := (emb3 o inb ⟨o, h⟩ rfl r c).symm
  show View.canon _ _ = _
  rw [e]
  exact hL ⟨o, h⟩ r c (le_refl o)

/-- Three stores, one per leading index, over whatever was stored before. -/
theorem tripf {v : View sig κ sp ⟨3, ![3, a, b]⟩ .f32} {L : List (View.Piece (Elt Ideal) ⟨3, ![3, a, b]⟩ .f32)} {inb₂ inb₁ inb₀}
    {w₂ w₁ w₀ : FVec Ideal ⟨3, ![1, a, b]⟩ .f32} (h₂ : Is3 w₂ (fun _ => f₂)) (h₁ : Is3 w₁ (fun _ => f₁)) (h₀ : Is3 w₀ (fun _ => f₀)) :
    Is3 (φ := .f32) (a := 3) (b := a) (d := b) (v.read (Elt Ideal) (v.writes (Elt Ideal) v.junk
      ((⟨Rect.unit (s := ⟨3, ![3, a, b]⟩) ![2, 0, 0] ![1, a, b] inb₂, w₂⟩ : View.Piece (Elt Ideal) ⟨3, ![3, a, b]⟩ .f32)
        :: ⟨Rect.unit (s := ⟨3, ![3, a, b]⟩) ![1, 0, 0] ![1, a, b] inb₁, w₁⟩
        :: ⟨Rect.unit (s := ⟨3, ![3, a, b]⟩) ![0, 0, 0] ![1, a, b] inb₀, w₀⟩ :: L)))
      (fun k => if k = 0 then f₀ else if k = 1 then f₁ else f₂) := by
  intro k r c
  rw [View.read_writes_junk_eq_canon]
  match k with
  | ⟨0, _⟩ =>
    refine (canon_skip (not_mem3 2 inb₂ ⟨0, _⟩ (show (0 : ℕ) ≠ 2 by decide) r c)).trans ((canon_skip (not_mem3 1 inb₁ ⟨0, _⟩ (show (0 : ℕ) ≠ 1 by decide) r c)).trans ?_)
    rw [emb3 0 inb₀ ⟨0, _⟩ rfl r c]
    exact (View.canon_cons_emb _ _ _ _).trans (h₀ 0 r c)
  | ⟨1, _⟩ =>
    refine (canon_skip (not_mem3 2 inb₂ ⟨1, _⟩ (show (1 : ℕ) ≠ 2 by decide) r c)).trans ?_
    rw [emb3 1 inb₁ ⟨1, _⟩ rfl r c]
    exact (View.canon_cons_emb _ _ _ _).trans (h₁ 0 r c)
  | ⟨2, _⟩ =>
    rw [emb3 2 inb₂ ⟨2, _⟩ rfl r c]
    exact (View.canon_cons_emb _ _ _ _).trans (h₂ 0 r c)
end three

end Cert.FfnProof
-- ==== Proof.FfnCaseA.lean ====
/-
  What the first grid point leaves in its results: the running sums are cleared, then added to.
-/
module

public import proofs.«01_k».proof.Proof.FfnBlock
public import proofs.«01_k».proof.Proof.FfnStore
public import proofs.«01_k».proof.Proof.Gen.FfnIdeal.Frame

@[expose] public section

namespace Cert.FfnProof

open Idealize.ShloMosaic Cert.FfnIdeal Cert.FfnIdeal.Gen
open Cert.Gmlp
open scoped BigOperators

/-- The blocks a grid point reads hold the inputs of `p`. -/
structure Holds (p : Inp) (x0 x1 : Vec Ideal S256x1024 .f32) (x2 x3 : Vec Ideal S1x1024 .f32) (x4 : Vec Ideal S2x1024x2816 .bf16)
    (x5 : Vec Ideal S2816x1024 .bf16) : Prop where
  x : Is2 (φ := .f32) x0 p.x
  tg : Is2 (φ := .f32) x1 p.tg
  gf : Is2 (φ := .f32) x2 (fun _ => p.gf)
  gn : Is2 (φ := .f32) x3 (fun _ => p.gn)
  w : Is3 (φ := .bf16) x4 p.w
  wd : Is2 (φ := .bf16) x5 p.wd

/-- The cleared sums. -/
theorem is_pay1 : Is3 (k0_pay1 (F := Ideal)) (fun _ _ _ => 0) := fun _ _ _ => ofBits_f ofBits_zero

section

variable (c : Dev nD) (i : grid0.Coords)
  {arg1 : Memref sig .tc .vmem S256x1024 .f32} (harg1 : arg1.IsWhole)
  {arg2 : Memref sig .tc .vmem S256x1024 .f32} (harg2 : arg2.IsWhole)
  {arg3 : Memref sig .tc .vmem S1x1024 .f32} (harg3 : arg3.IsWhole)
  {arg4 : Memref sig .tc .vmem S1x1024 .f32} (harg4 : arg4.IsWhole)
  {arg5 : Memref sig .tc .vmem S2x1024x2816 .bf16} (harg5 : arg5.IsWhole)
  {arg6 : Memref sig .tc .vmem S2816x1024 .bf16} (harg6 : arg6.IsWhole)
  {arg7 : Memref sig .tc .vmem S256x2816 .bf16} (harg7 : arg7.IsWhole)
  {arg8 : Memref sig .tc .vmem S256x1024 .bf16} (harg8 : arg8.IsWhole)
  {arg9 : Memref sig .tc .vmem S256x1024 .bf16} (harg9 : arg9.IsWhole)
  {arg10 : Memref sig .tc .vmem S2x256x2816 .bf16} (harg10 : arg10.IsWhole)
  {arg11 : Memref sig .tc .vmem S256x1024 .f32} (harg11 : arg11.IsWhole)
  {arg12 : Memref sig .tc .vmem S256x1024 .bf16} (harg12 : arg12.IsWhole)
  {arg13 : Memref sig .tc .vmem S3x8x1024 .f32} (harg13 : arg13.IsWhole)
  {p : Inp} {x0 x1 : Vec Ideal S256x1024 .f32} {x2 x3 : Vec Ideal S1x1024 .f32} {x4 : Vec Ideal S2x1024x2816 .bf16}
  {x5 : Vec Ideal S2816x1024 .bf16} (h : Holds p x0 x1 x2 x3 x4 x5)

include h

/-- The activation. -/
theorem outA_6 {hc0 : cond0_0 i} : Is2 (φ := .bf16) (out0_A_6 (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5) p.act := by
  have hx := whole2f harg1 h.x (by decide)
  have hgf := whole2f harg3 h.gf (by decide)
  have hw0 := slab3b (n := 0) harg5 h.w (by decide)
  have hw1 := slab3b (n := 1) harg5 h.w (by decide)
  have hg := is_pay5 hx hgf hw0
  have hu := is_pay6 hx hgf hw1
  have hs := is_pay7 hx hgf hw0
  unfold out0_A_6 kernelRun0_A; dsimp only
  exact oneb (is_pay9 hg hu hs)

/-- The gradient of the rows after the network. -/
theorem outA_7 {hc0 : cond0_0 i} : Is2 (φ := .bf16) (out0_A_7 (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5) p.dy := by
  have hx := whole2f harg1 h.x (by decide)
  have hgf := whole2f harg3 h.gf (by decide)
  have hw0 := slab3b (n := 0) harg5 h.w (by decide)
  have hw1 := slab3b (n := 1) harg5 h.w (by decide)
  have hg := is_pay5 hx hgf hw0
  have hu := is_pay6 hx hgf hw1
  have hs := is_pay7 hx hgf hw0
  have hgn := whole2f harg4 h.gn (by decide)
  have htg := whole2f harg2 h.tg (by decide)
  have hwd := whole2b harg6 h.wd (by decide)
  have hm := is_pay11 hx hg hu hs hwd
  have hyn := is_pay12 hx hg hu hs hwd
  have hde := is_pay15 hx hg hu hs hwd hgn htg
  unfold out0_A_7 kernelRun0_A; dsimp only
  exact oneb (is_pay19 hgn hm hyn hde)

/-- The normalised rows. -/
theorem outA_8 {hc0 : cond0_0 i} : Is2 (φ := .bf16) (out0_A_8 (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5) p.h := by
  have hx := whole2f harg1 h.x (by decide)
  have hgf := whole2f harg3 h.gf (by decide)
  have hw0 := slab3b (n := 0) harg5 h.w (by decide)
  have hw1 := slab3b (n := 1) harg5 h.w (by decide)
  have hg := is_pay5 hx hgf hw0
  have hu := is_pay6 hx hgf hw1
  have hs := is_pay7 hx hgf hw0
  unfold out0_A_8 kernelRun0_A; dsimp only
  exact oneb (is_pay4 hx hgf)

/-- The gradients of the two projections. -/
theorem outA_9 {hc0 : cond0_0 i} : Is3 (φ := .bf16) (out0_A_9 (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5) (fun k => if k = 0 then p.dg else p.du) := by
  have hx := whole2f harg1 h.x (by decide)
  have hgf := whole2f harg3 h.gf (by decide)
  have hw0 := slab3b (n := 0) harg5 h.w (by decide)
  have hw1 := slab3b (n := 1) harg5 h.w (by decide)
  have hg := is_pay5 hx hgf hw0
  have hu := is_pay6 hx hgf hw1
  have hs := is_pay7 hx hgf hw0
  have hgn := whole2f harg4 h.gn (by decide)
  have htg := whole2f harg2 h.tg (by decide)
  have hwd := whole2b harg6 h.wd (by decide)
  have hm := is_pay11 hx hg hu hs hwd
  have hyn := is_pay12 hx hg hu hs hwd
  have hde := is_pay15 hx hg hu hs hwd hgn htg
  have hdg := is_pay21 hgn hm hyn hde hwd hg hu hs
  have hdu := is_pay22 hgn hm hyn hde hwd (is_pay8 hg hs)
  unfold out0_A_9 kernelRun0_A; dsimp only
  exact pairb (is_pay24 hdu) (is_pay23 hgn hm hyn hde hwd hg hu hs)

/-- The gradient of the residual rows, … -/
theorem outA_10 {hc0 : cond0_0 i} : Is2 (φ := .f32) (out0_A_10 (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5) p.dx := by
  have hx := whole2f harg1 h.x (by decide)
  have hgf := whole2f harg3 h.gf (by decide)
  have hw0 := slab3b (n := 0) harg5 h.w (by decide)
  have hw1 := slab3b (n := 1) harg5 h.w (by decide)
  have hg := is_pay5 hx hgf hw0
  have hu := is_pay6 hx hgf hw1
  have hs := is_pay7 hx hgf hw0
  have hgn := whole2f harg4 h.gn (by decide)
  have htg := whole2f harg2 h.tg (by decide)
  have hwd := whole2b harg6 h.wd (by decide)
  have hm := is_pay11 hx hg hu hs hwd
  have hyn := is_pay12 hx hg hu hs hwd
  have hde := is_pay15 hx hg hu hs hwd hgn htg
  have hdg := is_pay21 hgn hm hyn hde hwd hg hu hs
  have hdu := is_pay22 hgn hm hyn hde hwd (is_pay8 hg hs)
  have hdy := is_pay18 hgn hm hyn hde
  unfold out0_A_10 kernelRun0_A; dsimp only
  exact onef (is_pay27 hdg hdu hw0 hw1 (is_pay3 hx) hgf (is_pay2 hx) hdy)

/-- … and again, for the next products. -/
theorem outA_11 {hc0 : cond0_0 i} : Is2 (φ := .bf16) (out0_A_11 (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5) p.dx := by
  have hx := whole2f harg1 h.x (by decide)
  have hgf := whole2f harg3 h.gf (by decide)
  have hw0 := slab3b (n := 0) harg5 h.w (by decide)
  have hw1 := slab3b (n := 1) harg5 h.w (by decide)
  have hg := is_pay5 hx hgf hw0
  have hu := is_pay6 hx hgf hw1
  have hs := is_pay7 hx hgf hw0
  have hgn := whole2f harg4 h.gn (by decide)
  have htg := whole2f harg2 h.tg (by decide)
  have hwd := whole2b harg6 h.wd (by decide)
  have hm := is_pay11 hx hg hu hs hwd
  have hyn := is_pay12 hx hg hu hs hwd
  have hde := is_pay15 hx hg hu hs hwd hgn htg
  have hdg := is_pay21 hgn hm hyn hde hwd hg hu hs
  have hdu := is_pay22 hgn hm hyn hde hwd (is_pay8 hg hs)
  have hdy := is_pay18 hgn hm hyn hde
  unfold out0_A_11 kernelRun0_A; dsimp only
  exact oneb (is_pay28 hdg hdu hw0 hw1 (is_pay3 hx) hgf (is_pay2 hx) hdy)

/-- The sums: the loss and the two gains' gradients. -/
theorem outA_12 {hc0 : cond0_0 i} :
    Is3 (φ := .f32) (out0_A_12 (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5) (fun k => if k = 0 then (fun r c => 0 + p.loss 32 r c)
      else if k = 1 then (fun r c => 0 + p.dgn 32 r c) else (fun r c => 0 + p.dgf 32 r c)) := by
  have hx := whole2f harg1 h.x (by decide)
  have hgf := whole2f harg3 h.gf (by decide)
  have hw0 := slab3b (n := 0) harg5 h.w (by decide)
  have hw1 := slab3b (n := 1) harg5 h.w (by decide)
  have hg := is_pay5 hx hgf hw0
  have hu := is_pay6 hx hgf hw1
  have hs := is_pay7 hx hgf hw0
  have hgn := whole2f harg4 h.gn (by decide)
  have htg := whole2f harg2 h.tg (by decide)
  have hwd := whole2b harg6 h.wd (by decide)
  have hm := is_pay11 hx hg hu hs hwd
  have hyn := is_pay12 hx hg hu hs hwd
  have hde := is_pay15 hx hg hu hs hwd hgn htg
  have hdg := is_pay21 hgn hm hyn hde hwd hg hu hs
  have hdu := is_pay22 hgn hm hyn hde hwd (is_pay8 hg hs)
  unfold out0_A_12 kernelRun0_A; dsimp only
  exact tripf (is_pay26 hdg hdu hw0 hw1 (is_pay3 hx) (Zero.read (o := 2) (((Zero.init _ is_pay1).cons (o := 0) _ _).cons (o := 1) _ _) (by decide)))
    (is_pay17 hyn hde (Zero.read (o := 1) ((Zero.init _ is_pay1).cons (o := 0) _ _) (by decide)))
    (is_pay14 hx hg hu hs hwd hgn htg (Zero.read (o := 0) (Zero.init _ is_pay1) (by decide)))

end

end Cert.FfnProof
-- ==== Proof.FfnEntry.lean ====
/-
  What the blocks of a grid point hold: 256 rows of the two token arrays, and the other arguments whole.
-/
module

public import proofs.«01_k».proof.Proof.FfnCaseA
public import Idealize.ShloMosaic.Lib.Pipeline.Value

@[expose] public section

noncomputable section

namespace Cert.FfnProof

open Idealize.ShloMosaic Idealize.ShloMosaic.TcCoe Cert.FfnIdeal Cert.FfnIdeal.Gen
open Cert.Gmlp (Is2 Is3)

/-- The arguments hold the inputs of `p`. -/
structure Reals (p : Inp) (x0 x1 : FVec Ideal ⟨2, ![4096, 1024]⟩ .f32) (x2 x3 : FVec Ideal ⟨2, ![1, 1024]⟩ .f32)
    (x4 : FVec Ideal ⟨3, ![2, 1024, 2816]⟩ .bf16) (x5 : FVec Ideal ⟨2, ![2816, 1024]⟩ .bf16) : Prop where
  x : Is2 x0 p.x
  tg : Is2 x1 p.tg
  gf : Is2 x2 (fun _ => p.gf)
  gn : Is2 x3 (fun _ => p.gn)
  w : Is3 x4 p.w
  wd : Is2 x5 p.wd

variable (m : (ℓ : Loc nD τ sig) → Buf (Elt Ideal) ℓ) (c : Dev nD)

/-- The arguments of the kernel hold `p`. -/
abbrev Args (p : Inp) : Prop :=
  Reals p (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

variable {m c} {p : Inp} (h : Args m c p)

/-- The grid counter as the index maps read it. -/
theorem coord_word (t : Fin cfg0.N) : (BitVec.ofNat 32 ((grid0.coords t) 0).val).toNat = t.val := by
  revert t
  exact (by decide +kernel : ∀ t : Fin grid0.N, (BitVec.ofNat 32 ((grid0.coords t) 0).val).toNat = t.val)

/-- 256 rows of the residual rows. -/
theorem blk0 (t : Fin cfg0.N) {f : ℕ → ℕ → ℝ} (hx : Is2 (φ := .f32) (V m c main_arg0 : Vec Ideal S4096x1024 .f32) f) :
    Is2 (φ := .f32) (iblk m c 0 t : Vec Ideal S256x1024 .f32) (fun r e => f (256 * t.val + r) e) := by
  intro r e
  have hi : ((win0_0.blk t).view.emb (ix2 r e) : S4096x1024.Idx) = ix2 ⟨256 * t.val + r.val, by have := t.isLt; have : cfg0.N = 16 := N_0; have := r.isLt; omega⟩ e := by
    funext a
    refine Fin.ext ?_
    match a with
    | ⟨0, _⟩ => exact (win0_0.rect_emb_val t (ix2 r e) 0).trans (by
        show (BitVec.ofNat 32 ((grid0.coords t) 0).val).toNat * 256 + r.val = 256 * t.val + r.val
        rw [coord_word, Nat.mul_comm])
    | ⟨1, _⟩ => exact (win0_0.rect_emb_val t (ix2 r e) 1).trans (by show 0 * 1024 + e.val = e.val; omega)
  show V m c main_arg0 ((win0_0.blk t).view.emb (ix2 r e)) = _
  rw [hi]
  exact hx _ _

/-- 256 rows of the target. -/
theorem blk1 (t : Fin cfg0.N) {f : ℕ → ℕ → ℝ} (hx : Is2 (φ := .f32) (V m c main_arg1 : Vec Ideal S4096x1024 .f32) f) :
    Is2 (φ := .f32) (iblk m c 1 t : Vec Ideal S256x1024 .f32) (fun r e => f (256 * t.val + r) e) := by
  intro r e
  have hi : ((win0_1.blk t).view.emb (ix2 r e) : S4096x1024.Idx) = ix2 ⟨256 * t.val + r.val, by have := t.isLt; have : cfg0.N = 16 := N_0; have := r.isLt; omega⟩ e := by
    funext a
    refine Fin.ext ?_
    match a with
    | ⟨0, _⟩ => exact (win0_1.rect_emb_val t (ix2 r e) 0).trans (by
        show (BitVec.ofNat 32 ((grid0.coords t) 0).val).toNat * 256 + r.val = 256 * t.val + r.val
        rw [coord_word, Nat.mul_comm])
    | ⟨1, _⟩ => exact (win0_1.rect_emb_val t (ix2 r e) 1).trans (by show 0 * 1024 + e.val = e.val; omega)
  show V m c main_arg1 ((win0_1.blk t).view.emb (ix2 r e)) = _
  rw [hi]
  exact hx _ _

/-- The first gain. -/
theorem blk2 (t : Fin cfg0.N) {f : ℕ → ℕ → ℝ} (hx : Is2 (φ := .f32) (V m c main_arg2 : Vec Ideal S1x1024 .f32) f) :
    Is2 (φ := .f32) (iblk m c 2 t : Vec Ideal S1x1024 .f32) f := by
  intro r e
  have hi : ((win0_2.blk t).view.emb (ix2 r e) : S1x1024.Idx) = ix2 r e := by
    funext a
    refine Fin.ext ?_
    match a with
    | ⟨0, _⟩ => exact (win0_2.rect_emb_val t (ix2 r e) 0).trans (by show 0 * 1 + r.val = r.val; omega)
    | ⟨1, _⟩ => exact (win0_2.rect_emb_val t (ix2 r e) 1).trans (by show 0 * 1024 + e.val = e.val; omega)
  show V m c main_arg2 ((win0_2.blk t).view.emb (ix2 r e)) = _
  rw [hi]
  exact hx _ _

/-- The second gain. -/
theorem blk3 (t : Fin cfg0.N) {f : ℕ → ℕ → ℝ} (hx : Is2 (φ := .f32) (V m c main_arg3 : Vec Ideal S1x1024 .f32) f) :
    Is2 (φ := .f32) (iblk m c 3 t : Vec Ideal S1x1024 .f32) f := by
  intro r e
  have hi : ((win0_3.blk t).view.emb (ix2 r e) : S1x1024.Idx) = ix2 r e := by
    funext a
    refine Fin.ext ?_
    match a with
    | ⟨0, _⟩ => exact (win0_3.rect_emb_val t (ix2 r e) 0).trans (by show 0 * 1 + r.val = r.val; omega)
    | ⟨1, _⟩ => exact (win0_3.rect_emb_val t (ix2 r e) 1).trans (by show 0 * 1024 + e.val = e.val; omega)
  show V m c main_arg3 ((win0_3.blk t).view.emb (ix2 r e)) = _
  rw [hi]
  exact hx _ _

/-- The two projections. -/
theorem blk4 (t : Fin cfg0.N) {f : ℕ → ℕ → ℕ → ℝ} (hx : Is3 (φ := .bf16) (V m c main_arg4 : Vec Ideal S2x1024x2816 .bf16) f) :
    Is3 (φ := .bf16) (iblk m c 4 t : Vec Ideal S2x1024x2816 .bf16) f := by
  intro k r e
  have hi : ((win0_4.blk t).view.emb (ix3 k r e) : S2x1024x2816.Idx) = ix3 k r e := by
    funext a
    refine Fin.ext ?_
    match a with
    | ⟨0, _⟩ => exact (win0_4.rect_emb_val t (ix3 k r e) 0).trans (by show 0 * 2 + k.val = k.val; omega)
    | ⟨1, _⟩ => exact (win0_4.rect_emb_val t (ix3 k r e) 1).trans (by show 0 * 1024 + r.val = r.val; omega)
    | ⟨2, _⟩ => exact (win0_4.rect_emb_val t (ix3 k r e) 2).trans (by show 0 * 2816 + e.val = e.val; omega)
  show V m c main_arg4 ((win0_4.blk t).view.emb (ix3 k r e)) = _
  rw [hi]
  exact hx _ _ _

/-- The down projection. -/
theorem blk5 (t : Fin cfg0.N) {f : ℕ → ℕ → ℝ} (hx : Is2 (φ := .bf16) (V m c main_arg5 : Vec Ideal S2816x1024 .bf16) f) :
    Is2 (φ := .bf16) (iblk m c 5 t : Vec Ideal S2816x1024 .bf16) f := by
  intro r e
  have hi : ((win0_5.blk t).view.emb (ix2 r e) : S2816x1024.Idx) = ix2 r e := by
    funext a
    refine Fin.ext ?_
    match a with
    | ⟨0, _⟩ => exact (win0_5.rect_emb_val t (ix2 r e) 0).trans (by show 0 * 2816 + r.val = r.val; omega)
    | ⟨1, _⟩ => exact (win0_5.rect_emb_val t (ix2 r e) 1).trans (by show 0 * 1024 + e.val = e.val; omega)
  show V m c main_arg5 ((win0_5.blk t).view.emb (ix2 r e)) = _
  rw [hi]
  exact hx _ _

include h in
/-- At grid point `t` the blocks hold the inputs of rows `256 t` on. -/
theorem holds (t : Fin cfg0.N) : Holds (p.at_ t.val) (iblk m c 0 t) (iblk m c 1 t) (iblk m c 2 t) (iblk m c 3 t)
    (iblk m c 4 t) (iblk m c 5 t) where
  x := blk0 t (f := p.x) (by rw [V_main_arg0]; exact h.x)
  tg := blk1 t (f := p.tg) (by rw [V_main_arg1]; exact h.tg)
  gf := blk2 t (f := fun _ => p.gf) (by rw [V_main_arg2]; exact h.gf)
  gn := blk3 t (f := fun _ => p.gn) (by rw [V_main_arg3]; exact h.gn)
  w := blk4 t (f := p.w) (by rw [V_main_arg4]; exact h.w)
  wd := blk5 t (f := p.wd) (by rw [V_main_arg5]; exact h.wd)

end Cert.FfnProof
-- ==== Proof.FfnFinite.lean ====
/-
  The precondition of the feed-forward call: arrays of finite numbers hold real numbers.
-/
module

public import proofs.«01_k».proof.Pre_ffn_finite
public import proofs.«01_k».proof.Proof.Finite
public import proofs.«01_k».proof.Proof.FfnEntry

@[expose] public section

noncomputable section

namespace Cert.FfnProof

open Idealize.ShloMosaic
open Cert.Gmlp

/-- The side conditions of the precondition's operations. -/
theorem ffn_finite_facts : Cert.Pre_ffn_finite.Facts where
  bcast_S_S4096x1024 := by decide
  reducesTo_S4096x1024_S_d0_1 := by decide
  h_S_ := by decide
  bcast_S_S1x1024 := by decide
  reducesTo_S1x1024_S_d0_1 := by decide
  bcast_S_S2x1024x2816 := by decide
  reducesTo_S2x1024x2816_S_d0_1_2 := by decide
  bcast_S_S2816x1024 := by decide
  reducesTo_S2816x1024_S_d0_1 := by decide

attribute [local instance] ffn_finite_facts

/-- Where the precondition holds, the arguments hold real numbers. -/
theorem reals_of_finite {x0 x1 : FVec Ideal ⟨2, ![4096, 1024]⟩ .f32} {x2 x3 : FVec Ideal ⟨2, ![1, 1024]⟩ .f32}
    {x4 : FVec Ideal ⟨3, ![2, 1024, 2816]⟩ .bf16} {x5 : FVec Ideal ⟨2, ![2816, 1024]⟩ .bf16}
    (h : Cert.Pre_ffn_finite.fn (F := Ideal) x0 x1 x2 x3 x4 x5 = fun _ => 1#1) : ∃ p, Reals p x0 x1 x2 x3 x4 x5 := by
  have e := congrFun h ix0
  obtain ⟨e, e5⟩ := IntOp.andi_eq_one.1 e
  obtain ⟨e, e4⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  obtain ⟨f0, h0⟩ := exists_is2 (real_of_finite ofBits_inf _ e0)
  obtain ⟨f1, h1⟩ := exists_is2 (real_of_finite ofBits_inf _ e1)
  obtain ⟨f2, h2⟩ := exists_is2 (real_of_finite ofBits_inf _ e2)
  obtain ⟨f3, h3⟩ := exists_is2 (real_of_finite ofBits_inf _ e3)
  obtain ⟨f4, h4⟩ := exists_is3 (real_of_finite ofBits_inf_bf16 _ e4)
  obtain ⟨f5, h5⟩ := exists_is2 (real_of_finite ofBits_inf_bf16 _ e5)
  have z : ∀ r : Fin 1, r.val = 0 := fun r => by omega
  refine ⟨⟨f0, f1, f2 0, f3 0, f4, f5⟩, h0, h1, fun r c => ?_, fun r c => ?_, h4, h5⟩
  · rw [h2 r c, z r]
  · rw [h3 r c, z r]

end Cert.FfnProof
-- ==== Proof.FfnCaseB.lean ====
/-
  What a later grid point leaves in its results, when the running sums already hold earlier points' values.
-/
module

public import proofs.«01_k».proof.Proof.FfnCaseA

@[expose] public section

namespace Cert.FfnProof

open Idealize.ShloMosaic Cert.FfnIdeal Cert.FfnIdeal.Gen
open Cert.Gmlp
open scoped BigOperators

section

variable (c : Dev nD) (i : grid0.Coords)
  {arg1 : Memref sig .tc .vmem S256x1024 .f32} (harg1 : arg1.IsWhole)
  {arg2 : Memref sig .tc .vmem S256x1024 .f32} (harg2 : arg2.IsWhole)
  {arg3 : Memref sig .tc .vmem S1x1024 .f32} (harg3 : arg3.IsWhole)
  {arg4 : Memref sig .tc .vmem S1x1024 .f32} (harg4 : arg4.IsWhole)
  {arg5 : Memref sig .tc .vmem S2x1024x2816 .bf16} (harg5 : arg5.IsWhole)
  {arg6 : Memref sig .tc .vmem S2816x1024 .bf16} (harg6 : arg6.IsWhole)
  {arg7 : Memref sig .tc .vmem S256x2816 .bf16} (harg7 : arg7.IsWhole)
  {arg8 : Memref sig .tc .vmem S256x1024 .bf16} (harg8 : arg8.IsWhole)
  {arg9 : Memref sig .tc .vmem S256x1024 .bf16} (harg9 : arg9.IsWhole)
  {arg10 : Memref sig .tc .vmem S2x256x2816 .bf16} (harg10 : arg10.IsWhole)
  {arg11 : Memref sig .tc .vmem S256x1024 .f32} (harg11 : arg11.IsWhole)
  {arg12 : Memref sig .tc .vmem S256x1024 .bf16} (harg12 : arg12.IsWhole)
  {arg13 : Memref sig .tc .vmem S3x8x1024 .f32} (harg13 : arg13.IsWhole)
  {p : Inp} {x0 x1 : Vec Ideal S256x1024 .f32} {x2 x3 : Vec Ideal S1x1024 .f32} {x4 : Vec Ideal S2x1024x2816 .bf16}
  {x5 : Vec Ideal S2816x1024 .bf16} (h : Holds p x0 x1 x2 x3 x4 x5)

include h

/-- The activation. -/
theorem outB_6 {hc0 : ¬cond0_0 i} {xo : Vec Ideal S3x8x1024 .f32} : Is2 (φ := .bf16) (out0_B_6 (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 xo) p.act := by
  have hx := whole2f harg1 h.x (by decide)
  have hgf := whole2f harg3 h.gf (by decide)
  have hw0 := slab3b (n := 0) harg5 h.w (by decide)
  have hw1 := slab3b (n := 1) harg5 h.w (by decide)
  have hg := is_pay5 hx hgf hw0
  have hu := is_pay6 hx hgf hw1
  have hs := is_pay7 hx hgf hw0
  unfold out0_B_6 kernelRun0_B; dsimp only
  exact oneb (is_pay9 hg hu hs)

/-- The gradient of the rows after the network. -/
theorem outB_7 {hc0 : ¬cond0_0 i} {xo : Vec Ideal S3x8x1024 .f32} : Is2 (φ := .bf16) (out0_B_7 (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 xo) p.dy := by
  have hx := whole2f harg1 h.x (by decide)
  have hgf := whole2f harg3 h.gf (by decide)
  have hw0 := slab3b (n := 0) harg5 h.w (by decide)
  have hw1 := slab3b (n := 1) harg5 h.w (by decide)
  have hg := is_pay5 hx hgf hw0
  have hu := is_pay6 hx hgf hw1
  have hs := is_pay7 hx hgf hw0
  have hgn := whole2f harg4 h.gn (by decide)
  have htg := whole2f harg2 h.tg (by decide)
  have hwd := whole2b harg6 h.wd (by decide)
  have hm := is_pay11 hx hg hu hs hwd
  have hyn := is_pay12 hx hg hu hs hwd
  have hde := is_pay15 hx hg hu hs hwd hgn htg
  unfold out0_B_7 kernelRun0_B; dsimp only
  exact oneb (is_pay19 hgn hm hyn hde)

/-- The normalised rows. -/
theorem outB_8 {hc0 : ¬cond0_0 i} {xo : Vec Ideal S3x8x1024 .f32} : Is2 (φ := .bf16) (out0_B_8 (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 xo) p.h := by
  have hx := whole2f harg1 h.x (by decide)
  have hgf := whole2f harg3 h.gf (by decide)
  have hw0 := slab3b (n := 0) harg5 h.w (by decide)
  have hw1 := slab3b (n := 1) harg5 h.w (by decide)
  have hg := is_pay5 hx hgf hw0
  have hu := is_pay6 hx hgf hw1
  have hs := is_pay7 hx hgf hw0
  unfold out0_B_8 kernelRun0_B; dsimp only
  exact oneb (is_pay4 hx hgf)

/-- The gradients of the two projections. -/
theorem outB_9 {hc0 : ¬cond0_0 i} {xo : Vec Ideal S3x8x1024 .f32} : Is3 (φ := .bf16) (out0_B_9 (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 xo) (fun k => if k = 0 then p.dg else p.du) := by
  have hx := whole2f harg1 h.x (by decide)
  have hgf := whole2f harg3 h.gf (by decide)
  have hw0 := slab3b (n := 0) harg5 h.w (by decide)
  have hw1 := slab3b (n := 1) harg5 h.w (by decide)
  have hg := is_pay5 hx hgf hw0
  have hu := is_pay6 hx hgf hw1
  have hs := is_pay7 hx hgf hw0
  have hgn := whole2f harg4 h.gn (by decide)
  have htg := whole2f harg2 h.tg (by decide)
  have hwd := whole2b harg6 h.wd (by decide)
  have hm := is_pay11 hx hg hu hs hwd
  have hyn := is_pay12 hx hg hu hs hwd
  have hde := is_pay15 hx hg hu hs hwd hgn htg
  have hdg := is_pay21 hgn hm hyn hde hwd hg hu hs
  have hdu := is_pay22 hgn hm hyn hde hwd (is_pay8 hg hs)
  unfold out0_B_9 kernelRun0_B; dsimp only
  exact pairb (is_pay24 hdu) (is_pay23 hgn hm hyn hde hwd hg hu hs)

/-- The gradient of the residual rows, … -/
theorem outB_10 {hc0 : ¬cond0_0 i} {xo : Vec Ideal S3x8x1024 .f32} : Is2 (φ := .f32) (out0_B_10 (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 xo) p.dx := by
  have hx := whole2f harg1 h.x (by decide)
  have hgf := whole2f harg3 h.gf (by decide)
  have hw0 := slab3b (n := 0) harg5 h.w (by decide)
  have hw1 := slab3b (n := 1) harg5 h.w (by decide)
  have hg := is_pay5 hx hgf hw0
  have hu := is_pay6 hx hgf hw1
  have hs := is_pay7 hx hgf hw0
  have hgn := whole2f harg4 h.gn (by decide)
  have htg := whole2f harg2 h.tg (by decide)
  have hwd := whole2b harg6 h.wd (by decide)
  have hm := is_pay11 hx hg hu hs hwd
  have hyn := is_pay12 hx hg hu hs hwd
  have hde := is_pay15 hx hg hu hs hwd hgn htg
  have hdg := is_pay21 hgn hm hyn hde hwd hg hu hs
  have hdu := is_pay22 hgn hm hyn hde hwd (is_pay8 hg hs)
  have hdy := is_pay18 hgn hm hyn hde
  unfold out0_B_10 kernelRun0_B; dsimp only
  exact onef (is_pay27 hdg hdu hw0 hw1 (is_pay3 hx) hgf (is_pay2 hx) hdy)

/-- … and again, for the next products. -/
theorem outB_11 {hc0 : ¬cond0_0 i} {xo : Vec Ideal S3x8x1024 .f32} : Is2 (φ := .bf16) (out0_B_11 (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 xo) p.dx := by
  have hx := whole2f harg1 h.x (by decide)
  have hgf := whole2f harg3 h.gf (by decide)
  have hw0 := slab3b (n := 0) harg5 h.w (by decide)
  have hw1 := slab3b (n := 1) harg5 h.w (by decide)
  have hg := is_pay5 hx hgf hw0
  have hu := is_pay6 hx hgf hw1
  have hs := is_pay7 hx hgf hw0
  have hgn := whole2f harg4 h.gn (by decide)
  have htg := whole2f harg2 h.tg (by decide)
  have hwd := whole2b harg6 h.wd (by decide)
  have hm := is_pay11 hx hg hu hs hwd
  have hyn := is_pay12 hx hg hu hs hwd
  have hde := is_pay15 hx hg hu hs hwd hgn htg
  have hdg := is_pay21 hgn hm hyn hde hwd hg hu hs
  have hdu := is_pay22 hgn hm hyn hde hwd (is_pay8 hg hs)
  have hdy := is_pay18 hgn hm hyn hde
  unfold out0_B_11 kernelRun0_B; dsimp only
  exact oneb (is_pay28 hdg hdu hw0 hw1 (is_pay3 hx) hgf (is_pay2 hx) hdy)

/-- The running sums: the loss and the two gains' gradients. -/
theorem outB_12 {hc0 : ¬cond0_0 i} {xo : Vec Ideal S3x8x1024 .f32} {f₀ f₁ f₂ : ℕ → ℕ → ℝ} (ho : Is3 (φ := .f32) xo (fun k => if k = 0 then f₀ else if k = 1 then f₁ else f₂)) :
    Is3 (φ := .f32) (out0_B_12 (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 xo) (fun k => if k = 0 then (fun r c => f₀ r c + p.loss 32 r c)
      else if k = 1 then (fun r c => f₁ r c + p.dgn 32 r c) else (fun r c => f₂ r c + p.dgf 32 r c)) := by
  have hx := whole2f harg1 h.x (by decide)
  have hgf := whole2f harg3 h.gf (by decide)
  have hw0 := slab3b (n := 0) harg5 h.w (by decide)
  have hw1 := slab3b (n := 1) harg5 h.w (by decide)
  have hg := is_pay5 hx hgf hw0
  have hu := is_pay6 hx hgf hw1
  have hs := is_pay7 hx hgf hw0
  have hgn := whole2f harg4 h.gn (by decide)
  have htg := whole2f harg2 h.tg (by decide)
  have hwd := whole2b harg6 h.wd (by decide)
  have hm := is_pay11 hx hg hu hs hwd
  have hyn := is_pay12 hx hg hu hs hwd
  have hde := is_pay15 hx hg hu hs hwd hgn htg
  have hdg := is_pay21 hgn hm hyn hde hwd hg hu hs
  have hdu := is_pay22 hgn hm hyn hde hwd (is_pay8 hg hs)
  unfold out0_B_12 kernelRun0_B; dsimp only
  exact tripf (is_pay26 hdg hdu hw0 hw1 (is_pay3 hx) (slab3f (n := 2) harg13 ho (by decide)))
    (is_pay17 hyn hde (slab3f (n := 1) harg13 ho (by decide)))
    (is_pay14 hx hg hu hs hwd hgn htg (slab3f (n := 0) harg13 ho (by decide)))

end

end Cert.FfnProof
-- ==== Proof.FfnResult.lean ====
/-
  What the seven result arrays hold after the call.
-/
module

public import proofs.«01_k».proof.Proof.FfnCaseB
public import proofs.«01_k».proof.Proof.FfnEntry
public import proofs.«01_k».proof.Proof.Gen.FfnIdeal.Value

@[expose] public section

noncomputable section

namespace Cert.FfnProof

open Idealize.ShloMosaic Idealize.ShloMosaic.TcCoe Cert.FfnIdeal Cert.FfnIdeal.Gen Cert.FfnIdeal.Value
open Idealize.ShloMosaic.Pipeline (Dat)
open Cert.Gmlp (Is2 Is3)

/-- What point `t` leaves: its own rows of six results, and the running sums up to it. -/
structure Left (p : Inp) (t : ℕ) (o : Vec Ideal S256x2816 .bf16 × Vec Ideal S256x1024 .bf16 × Vec Ideal S256x1024 .bf16
    × Vec Ideal S2x256x2816 .bf16 × Vec Ideal S256x1024 .f32 × Vec Ideal S256x1024 .bf16 × Vec Ideal S3x8x1024 .f32) : Prop where
  act : Is2 (φ := .bf16) o.1 (p.at_ t).act
  dy : Is2 (φ := .bf16) o.2.1 (p.at_ t).dy
  h : Is2 (φ := .bf16) o.2.2.1 (p.at_ t).h
  dp : Is3 (φ := .bf16) o.2.2.2.1 (fun k => if k = 0 then (p.at_ t).dg else (p.at_ t).du)
  dx : Is2 (φ := .f32) o.2.2.2.2.1 (p.at_ t).dx
  dxb : Is2 (φ := .bf16) o.2.2.2.2.2.1 (p.at_ t).dx
  s : Is3 (φ := .f32) o.2.2.2.2.2.2 (fun k => if k = 0 then p.loss (32 * (t + 1)) else if k = 1 then p.dgn (32 * (t + 1))
    else p.dgf (32 * (t + 1)))

theorem pick {f g f' g' : ℕ → ℕ → ℝ} (hf : ∀ r e, f r e = f' r e) (hg : ∀ r e, g r e = g' r e) (n k r e : ℕ) :
    (if k = n then f else g) r e = (if k = n then f' else g') r e := by
  by_cases hk : k = n
  · rw [if_pos hk, if_pos hk]; exact hf r e
  · rw [if_neg hk, if_neg hk]; exact hg r e

variable {m : (ℓ : Loc nD τ sig) → Buf (Elt Ideal) ℓ} {c : Dev nD} {p : Inp} (h : Args m c p)

include h in
/-- By induction on the points. -/
theorem left : ∀ (n : ℕ) (hn : n < cfg0.N), Left p n (outsAt0 m c n hn)
  | 0, hn => by
    have e := outsAt0_A m c ⟨0, hn⟩ rfl
    have hh := holds h ⟨0, hn⟩
    rw [show outsAt0 m c 0 hn = _ from e]
    have z1 : ∀ r e, 0 + (p.at_ 0).loss 32 r e = p.loss (32 * (0 + 1)) r e := fun r e => by
      rw [← p.loss_step 0 r e]; simp [Inp.loss]
    have z2 : ∀ r e, 0 + (p.at_ 0).dgn 32 r e = p.dgn (32 * (0 + 1)) r e := fun r e => by
      rw [← p.dgn_step 0 r e]; simp [Inp.dgn]
    have z3 : ∀ r e, 0 + (p.at_ 0).dgf 32 r e = p.dgf (32 * (0 + 1)) r e := fun r e => by
      rw [← p.dgf_step 0 r e]; simp [Inp.dgf]
    clear e
    refine ⟨?_, ?_, ?_, ?_, ?_, ?_, ?_⟩ <;> dsimp only
    · exact outA_6 _ _ _ _ _ _ _ _ _ _ _ _ _ _ _ hh
    · exact outA_7 _ _ _ _ _ _ _ _ _ _ _ _ _ _ _ hh
    · exact outA_8 _ _ _ _ _ _ _ _ _ _ _ _ _ _ _ hh
    · exact outA_9 _ _ _ _ _ _ _ _ _ _ _ _ _ _ _ hh
    · exact outA_10 _ _ _ _ _ _ _ _ _ _ _ _ _ _ _ hh
    · exact outA_11 _ _ _ _ _ _ _ _ _ _ _ _ _ _ _ hh
    · exact Is3.congr (outA_12 _ _ _ _ _ _ _ _ _ _ _ _ _ _ _ hh) fun k r e _ _ _ => pick z1 (pick z2 z3 1 k) 0 k r e
  | n + 1, hn => by
    have hN : cfg0.N = 16 := N_0
    have e := outsAt0_B m c ⟨n + 1, hn⟩ (by show ¬(n + 1) % 16 = 0; omega)
    have hh := holds h ⟨n + 1, hn⟩
    have ih := left n (by omega)
    rw [show outsAt0 m c (n + 1) hn = _ from e]
    clear e
    refine ⟨?_, ?_, ?_, ?_, ?_, ?_, ?_⟩ <;> dsimp only
    · exact outB_6 _ _ _ _ _ _ _ _ _ _ _ _ _ _ _ hh
    · exact outB_7 _ _ _ _ _ _ _ _ _ _ _ _ _ _ _ hh
    · exact outB_8 _ _ _ _ _ _ _ _ _ _ _ _ _ _ _ hh
    · exact outB_9 _ _ _ _ _ _ _ _ _ _ _ _ _ _ _ hh
    · exact outB_10 _ _ _ _ _ _ _ _ _ _ _ _ _ _ _ hh
    · exact outB_11 _ _ _ _ _ _ _ _ _ _ _ _ _ _ _ hh
    · exact Is3.congr (outB_12 _ _ _ _ _ _ _ _ _ _ _ _ _ _ _ hh ih.s) fun k r e _ _ _ =>
        pick (p.loss_step (n + 1)) (pick (p.dgn_step (n + 1)) (p.dgf_step (n + 1)) 1 k) 0 k r e

/-- The last point. -/
abbrev last : Fin cfg0.N := ⟨15, by rw [show cfg0.N = 16 from N_0]; decide⟩

theorem flush_last {t : Fin cfg0.N} (e : t.val % 16 = 15) : t = last := by
  have hN : cfg0.N = 16 := N_0
  have := t.isLt
  exact Fin.ext (by show t.val = 15; omega)

set_option maxRecDepth 8000 in
include h in
/-- The activation after the call. -/
theorem array6 : Is2 (φ := .bf16) ((dats m 0 c).arrAt 6 cfg0.N : Vec Ideal S4096x2816 .bf16) p.act := by
  intro r e
  have hN : cfg0.N = 16 := N_0
  obtain ⟨t, ht⟩ : ∃ t : Fin cfg0.N, t.val = r.val / 256 := ⟨⟨r.val / 256, by have := r.isLt; omega⟩, rfl⟩
  obtain ⟨s, hs⟩ : ∃ s : Fin 256, s.val = r.val % 256 := ⟨⟨r.val % 256, by omega⟩, rfl⟩
  have hx := (dats m 0 c).arrAt_emb_eq_flushed 6 disjoint6 t (flush0_6 t) (ix2 s e)
  have hr : 256 * t.val + s.val = r.val := by omega
  have hi : ((win0_6.blk t).view.emb (ix2 s e) : S4096x2816.Idx) = ix2 r e := by
    funext a
    refine Fin.ext ?_
    match a with
    | ⟨0, _⟩ => exact (win0_6.rect_emb_val t (ix2 s e) 0).trans (by
        show (BitVec.ofNat 32 ((grid0.coords t) 0).val).toNat * 256 + s.val = r.val
        rw [coord_word, Nat.mul_comm, hr])
    | ⟨1, _⟩ => exact (win0_6.rect_emb_val t (ix2 s e) 1).trans (by show 0 * 2816 + e.val = e.val; omega)
  refine (congrArg ((dats m 0 c).arrAt 6 cfg0.N) hi.symm).trans (hx.trans ?_)
  rw [flushed6]
  refine ((left h t.val t.isLt).act s e).trans ?_
  rw [Inp.at_act, hr]

include h in
/-- The gradient of the rows after the network. -/
theorem array7 : Is2 (φ := .bf16) ((dats m 0 c).arrAt 7 cfg0.N : Vec Ideal S4096x1024 .bf16) p.dy := by
  intro r e
  have hN : cfg0.N = 16 := N_0
  obtain ⟨t, ht⟩ : ∃ t : Fin cfg0.N, t.val = r.val / 256 := ⟨⟨r.val / 256, by have := r.isLt; omega⟩, rfl⟩
  obtain ⟨s, hs⟩ : ∃ s : Fin 256, s.val = r.val % 256 := ⟨⟨r.val % 256, by omega⟩, rfl⟩
  have hx := (dats m 0 c).arrAt_emb_eq_flushed 7 disjoint7 t (flush0_7 t) (ix2 s e)
  have hr : 256 * t.val + s.val = r.val := by omega
  have hi : ((win0_7.blk t).view.emb (ix2 s e) : S4096x1024.Idx) = ix2 r e := by
    funext a
    refine Fin.ext ?_
    match a with
    | ⟨0, _⟩ => exact (win0_7.rect_emb_val t (ix2 s e) 0).trans (by
        show (BitVec.ofNat 32 ((grid0.coords t) 0).val).toNat * 256 + s.val = r.val
        rw [coord_word, Nat.mul_comm, hr])
    | ⟨1, _⟩ => exact (win0_7.rect_emb_val t (ix2 s e) 1).trans (by show 0 * 1024 + e.val = e.val; omega)
  refine (congrArg ((dats m 0 c).arrAt 7 cfg0.N) hi.symm).trans (hx.trans ?_)
  rw [flushed7]
  refine ((left h t.val t.isLt).dy s e).trans ?_
  rw [Inp.at_dy, hr]

include h in
/-- The normalised rows. -/
theorem array8 : Is2 (φ := .bf16) ((dats m 0 c).arrAt 8 cfg0.N : Vec Ideal S4096x1024 .bf16) p.h := by
  intro r e
  have hN : cfg0.N = 16 := N_0
  obtain ⟨t, ht⟩ : ∃ t : Fin cfg0.N, t.val = r.val / 256 := ⟨⟨r.val / 256, by have := r.isLt; omega⟩, rfl⟩
  obtain ⟨s, hs⟩ : ∃ s : Fin 256, s.val = r.val % 256 := ⟨⟨r.val % 256, by omega⟩, rfl⟩
  have hx := (dats m 0 c).arrAt_emb_eq_flushed 8 disjoint8 t (flush0_8 t) (ix2 s e)
  have hr : 256 * t.val + s.val = r.val := by omega
  have hi : ((win0_8.blk t).view.emb (ix2 s e) : S4096x1024.Idx) = ix2 r e := by
    funext a
    refine Fin.ext ?_
    match a with
    | ⟨0, _⟩ => exact (win0_8.rect_emb_val t (ix2 s e) 0).trans (by
        show (BitVec.ofNat 32 ((grid0.coords t) 0).val).toNat * 256 + s.val = r.val
        rw [coord_word, Nat.mul_comm, hr])
    | ⟨1, _⟩ => exact (win0_8.rect_emb_val t (ix2 s e) 1).trans (by show 0 * 1024 + e.val = e.val; omega)
  refine (congrArg ((dats m 0 c).arrAt 8 cfg0.N) hi.symm).trans (hx.trans ?_)
  rw [flushed8]
  refine ((left h t.val t.isLt).h s e).trans ?_
  rw [Inp.at_h, hr]

include h in
/-- The gradient of the residual rows. -/
theorem array10 : Is2 (φ := .f32) ((dats m 0 c).arrAt 10 cfg0.N : Vec Ideal S4096x1024 .f32) p.dx := by
  intro r e
  have hN : cfg0.N = 16 := N_0
  obtain ⟨t, ht⟩ : ∃ t : Fin cfg0.N, t.val = r.val / 256 := ⟨⟨r.val / 256, by have := r.isLt; omega⟩, rfl⟩
  obtain ⟨s, hs⟩ : ∃ s : Fin 256, s.val = r.val % 256 := ⟨⟨r.val % 256, by omega⟩, rfl⟩
  have hx := (dats m 0 c).arrAt_emb_eq_flushed 10 disjoint10 t (flush0_10 t) (ix2 s e)
  have hr : 256 * t.val + s.val = r.val := by omega
  have hi : ((win0_10.blk t).view.emb (ix2 s e) : S4096x1024.Idx) = ix2 r e := by
    funext a
    refine Fin.ext ?_
    match a with
    | ⟨0, _⟩ => exact (win0_10.rect_emb_val t (ix2 s e) 0).trans (by
        show (BitVec.ofNat 32 ((grid0.coords t) 0).val).toNat * 256 + s.val = r.val
        rw [coord_word, Nat.mul_comm, hr])
    | ⟨1, _⟩ => exact (win0_10.rect_emb_val t (ix2 s e) 1).trans (by show 0 * 1024 + e.val = e.val; omega)
  refine (congrArg ((dats m 0 c).arrAt 10 cfg0.N) hi.symm).trans (hx.trans ?_)
  rw [flushed10]
  refine ((left h t.val t.isLt).dx s e).trans ?_
  rw [Inp.at_dx, hr]

include h in
/-- The same, for the next products. -/
theorem array11 : Is2 (φ := .bf16) ((dats m 0 c).arrAt 11 cfg0.N : Vec Ideal S4096x1024 .bf16) p.dx := by
  intro r e
  have hN : cfg0.N = 16 := N_0
  obtain ⟨t, ht⟩ : ∃ t : Fin cfg0.N, t.val = r.val / 256 := ⟨⟨r.val / 256, by have := r.isLt; omega⟩, rfl⟩
  obtain ⟨s, hs⟩ : ∃ s : Fin 256, s.val = r.val % 256 := ⟨⟨r.val % 256, by omega⟩, rfl⟩
  have hx := (dats m 0 c).arrAt_emb_eq_flushed 11 disjoint11 t (flush0_11 t) (ix2 s e)
  have hr : 256 * t.val + s.val = r.val := by omega
  have hi : ((win0_11.blk t).view.emb (ix2 s e) : S4096x1024.Idx) = ix2 r e := by
    funext a
    refine Fin.ext ?_
    match a with
    | ⟨0, _⟩ => exact (win0_11.rect_emb_val t (ix2 s e) 0).trans (by
        show (BitVec.ofNat 32 ((grid0.coords t) 0).val).toNat * 256 + s.val = r.val
        rw [coord_word, Nat.mul_comm, hr])
    | ⟨1, _⟩ => exact (win0_11.rect_emb_val t (ix2 s e) 1).trans (by show 0 * 1024 + e.val = e.val; omega)
  refine (congrArg ((dats m 0 c).arrAt 11 cfg0.N) hi.symm).trans (hx.trans ?_)
  rw [flushed11]
  refine ((left h t.val t.isLt).dxb s e).trans ?_
  rw [Inp.at_dx, hr]

set_option maxRecDepth 8000 in
include h in
/-- The gradients of the two projections. -/
theorem array9 : Is3 (φ := .bf16) ((dats m 0 c).arrAt 9 cfg0.N : Vec Ideal S2x4096x2816 .bf16) (fun k => if k = 0 then p.dg else p.du) := by
  intro k r e
  have hN : cfg0.N = 16 := N_0
  obtain ⟨t, ht⟩ : ∃ t : Fin cfg0.N, t.val = r.val / 256 := ⟨⟨r.val / 256, by have := r.isLt; omega⟩, rfl⟩
  obtain ⟨s, hs⟩ : ∃ s : Fin 256, s.val = r.val % 256 := ⟨⟨r.val % 256, by omega⟩, rfl⟩
  have hx := (dats m 0 c).arrAt_emb_eq_flushed 9 disjoint9 t (flush0_9 t) (ix3 k s e)
  have hr : 256 * t.val + s.val = r.val := by omega
  have hi : ((win0_9.blk t).view.emb (ix3 k s e) : S2x4096x2816.Idx) = ix3 k r e := by
    funext a
    refine Fin.ext ?_
    match a with
    | ⟨0, _⟩ => exact (win0_9.rect_emb_val t (ix3 k s e) 0).trans (by show 0 * 2 + k.val = k.val; omega)
    | ⟨1, _⟩ => exact (win0_9.rect_emb_val t (ix3 k s e) 1).trans (by
        show (BitVec.ofNat 32 ((grid0.coords t) 0).val).toNat * 256 + s.val = r.val
        rw [coord_word, Nat.mul_comm, hr])
    | ⟨2, _⟩ => exact (win0_9.rect_emb_val t (ix3 k s e) 2).trans (by show 0 * 2816 + e.val = e.val; omega)
  refine (congrArg ((dats m 0 c).arrAt 9 cfg0.N) hi.symm).trans (hx.trans ?_)
  rw [flushed9]
  refine ((left h t.val t.isLt).dp k s e).trans ?_
  dsimp only
  by_cases hk : k.val = 0
  · rw [if_pos hk, if_pos hk, Inp.at_dg, hr]
  · rw [if_neg hk, if_neg hk, Inp.at_du, hr]

include h in
/-- The three sums. -/
theorem array12 : Is3 (φ := .f32) ((dats m 0 c).arrAt 12 cfg0.N : Vec Ideal S3x8x1024 .f32)
    (fun k => if k = 0 then p.loss 512 else if k = 1 then p.dgn 512 else p.dgf 512) := by
  intro k r e
  have hx := (dats m 0 c).arrAt_emb_eq_flushed 12 (fun t t' ht ht' hne => absurd
    ((flush_last ((flush0_12 t).mp ht)).trans (flush_last ((flush0_12 t').mp ht')).symm) hne) last ((flush0_12 last).mpr rfl) (ix3 k r e)
  have hi : ((win0_12.blk last).view.emb (ix3 k r e) : S3x8x1024.Idx) = ix3 k r e := by
    funext a
    refine Fin.ext ?_
    match a with
    | ⟨0, _⟩ => exact (win0_12.rect_emb_val last (ix3 k r e) 0).trans (by show 0 * 3 + k.val = k.val; omega)
    | ⟨1, _⟩ => exact (win0_12.rect_emb_val last (ix3 k r e) 1).trans (by show 0 * 8 + r.val = r.val; omega)
    | ⟨2, _⟩ => exact (win0_12.rect_emb_val last (ix3 k r e) 2).trans (by show 0 * 1024 + e.val = e.val; omega)
  refine (congrArg ((dats m 0 c).arrAt 12 cfg0.N) hi.symm).trans (hx.trans ?_)
  rw [flushed12]
  exact (left h 15 last.isLt).s k r e

end Cert.FfnProof
-- ==== Proof.FfnRefMath.lean ====
/-
  The identities between the gradients as differentiating the network writes them and as the kernel computes them.
-/
module

public import proofs.«01_k».proof.Proof.FfnSpec

@[expose] public section

namespace Cert.FfnProof

open scoped BigOperators

/-- The mean square's part of a row's gradient. -/
noncomputable def msPart (x d : ℕ → ℕ → ℝ) (r : ℕ) : ℝ :=
  (∑ k ∈ Finset.range 1024, x r k * d r k) * (-(1 / 2) * (rr x r / msq x r)) / 1024

/-- The gradient through the norm, term by term. -/
theorem nrm_back (x d : ℕ → ℕ → ℝ) (r c : ℕ) :
    d r c * rr x r + x r c * msPart x d r + msPart x d r * x r c = nrmBack x d r c := by
  have h3 : ∑ k ∈ Finset.range 1024, d r k * nrm x r k = (∑ k ∈ Finset.range 1024, x r k * d r k) * rr x r := by
    rw [Finset.sum_mul]; exact Finset.sum_congr rfl fun k _ => by unfold nrm; ring
  have h4 : rr x r / msq x r = rr x r * (rr x r * rr x r) := by
    have : rr x r * rr x r = 1 / msq x r := by
      unfold rr; rw [← mul_inv, Real.mul_self_sqrt (msq_pos x r).le, one_div]
    rw [this]; ring
  unfold msPart nrmBack
  rw [h4, h3]
  unfold nrm
  ring

/-- The derivative of the gate, product by product. -/
theorem gate_back (g a u : ℝ) :
    a * u * (1 / (1 + Real.exp (-g)))
      + -(-(g * (a * u) * (1 / ((1 + Real.exp (-g)) * (1 + Real.exp (-g)))) * 1) * Real.exp (-g))
      = a * u * (logi g * (1 + g * (1 - logi g))) := by
  unfold logi
  have h : 1 + Real.exp (-g) ≠ 0 := (add_pos one_pos (Real.exp_pos _)).ne'
  generalize Real.exp (-g) = E at h ⊢
  field_simp
  ring

end Cert.FfnProof
-- ==== Proof.FfnRef.lean ====
/-
  The reference's values, array by array: the forward pass and the gradients.
-/
module

public import proofs.«01_k».proof.Proof.HostArr
public import proofs.«01_k».proof.Proof.Consts
public import proofs.«01_k».proof.Proof.FfnEntry
public import proofs.«01_k».proof.Proof.FfnRefMath
public import proofs.«01_k».proof.Proof.Gen.FfnReferenceIdeal.Read

@[expose] public section

noncomputable section

namespace Cert.FfnProof

open Idealize.ShloMosaic Cert.FfnReferenceIdeal Cert.FfnReferenceIdeal.Gen Cert.FfnReferenceIdeal.Read
open Cert.Gmlp
open scoped BigOperators

/-- The rows in groups of 8. -/
theorem split8 {y : FVec Ideal ⟨2, ![4096, 1024]⟩ .f32} {f : ℕ → ℕ → ℝ} (hy : Is2 y f) {i : (⟨2, ![4096, 1024]⟩ : Shape).Idx} {k r c : ℕ}
    (h0 : (i 0).val = ((k * 8 + r) * 1024 + c) / 1024) (h1 : (i 1).val = ((k * 8 + r) * 1024 + c) % 1024) (hc : c < 1024) :
    y i = ((f (k * 8 + r) c : ℝ) : EReal) :=
  (hy.at i).trans (arg2 (h0.trans (by omega)) (h1.trans (by omega)))
/-- And back. -/
theorem merge8 {y : FVec Ideal ⟨3, ![512, 8, 1024]⟩ .f32} {f : ℕ → ℕ → ℝ} (hy : Is3 y (fun k r c => f (k * 8 + r) c))
    {i : (⟨3, ![512, 8, 1024]⟩ : Shape).Idx} {r c : ℕ} (h0 : (i 0).val = (r * 1024 + c) / 8192)
    (h1 : (i 1).val = (r * 1024 + c) / 1024 % 8) (h2 : (i 2).val = (r * 1024 + c) % 1024) (hc : c < 1024) :
    y i = ((f r c : ℝ) : EReal) :=
  (hy.at i).trans (arg2 (by rw [h0, h1]; omega) (h2.trans (by omega)))
/-- The host's exponential. -/
theorem hexp {a b : ℕ} {φ : FTy} {x : FVec Ideal ⟨2, ![a, b]⟩ φ} {f : ℕ → ℕ → ℝ} (hx : Is2 x f) :
    Is2 (Host.exp x) (fun r c => Real.exp (f r c)) :=
  fun r c => by
    show FloatOps.hostUnary .exp (x (ix2 r c)) = _
    rw [hx r c]; exact Ideal.exp_coe _

variable {p : Inp} {x0 x1 : FVec Ideal ⟨2, ![4096, 1024]⟩ .f32} {x2 x3 : FVec Ideal ⟨2, ![1, 1024]⟩ .f32}
  {x4 : FVec Ideal ⟨3, ![2, 1024, 2816]⟩ .bf16} {x5 : FVec Ideal ⟨2, ![2816, 1024]⟩ .bf16}
  (h : Reals p x0 x1 x2 x3 x4 x5)

include h

/-- The first norm. -/
theorem r8 : Is2 (φ := .f32) (val_main_v8 (F := Ideal) x0) (fun r _ => msq p.x r) := by
  refine Is2.addf (f := fun r _ => (∑ k ∈ Finset.range 1024, p.x r k * p.x r k) / 1024) ?_ (Is2.hsplat ofBits_eps _)
  refine Is2.hdivf (f := fun r _ => ∑ k ∈ Finset.range 1024, p.x r k * p.x r k) ?_ (Is2.hsplat ofBits_1024 _) (fun _ _ => by norm_num)
  intro r c
  refine (val_main_v4_apply _ _).trans ((val_main_v3_apply _ _).trans ?_)
  exact zsum ofBits_zero (fun k => p.x r k * p.x r k) fun k => (h.x.mulf h.x).at _
theorem r9 : Is2 (φ := .f32) (val_main_v9 (F := Ideal) x0) (fun r _ => rr p.x r) :=
  (r8 h).hrsqrt fun r _ => msq_pos p.x r
theorem r12 : Is2 (φ := .f32) (val_main_v12 (F := Ideal) x0) (fun r _ => -(1 / 2) * (rr p.x r / msq p.x r)) :=
  (Is2.hsplat ofBits_neg_half _).mulf ((r9 h).hdivf (r8 h) fun r _ => (msq_pos p.x r).ne')
theorem r14 : Is2 (φ := .f32) (val_main_v14 (F := Ideal) x0) (nrm p.x) :=
  h.x.mulf (g := fun r _ => rr p.x r) fun r c => (val_main_v13_apply _ _).trans ((r9 h).at _)
theorem r15 : Is3 (φ := .f32) (val_main_v15 (F := Ideal) x0) (fun k r c => nrm p.x (k * 8 + r) c) :=
  fun k r c => (val_main_v15_apply _ _).trans (split8 (r14 h) rfl rfl c.isLt)
theorem r16 : Is3 (φ := .f32) (val_main_v16 (F := Ideal) x2) (fun _ _ c => p.gf c) := fun k r c =>
  (val_main_v16_apply _ _).trans ((val_main_v0_apply _ _).trans (h.gf.at _))
theorem r19 : Is2 (φ := .f32) (val_main_v19 (F := Ideal) x0 x2) p.h := by
  have t17 : Is3 (φ := .f32) (val_main_v17 (F := Ideal) x2) (fun _ _ c => p.gf c) := fun k r c =>
    (val_main_v17_apply _ _).trans ((r16 h).at _)
  exact fun r c => (val_main_v19_apply ..).trans (merge8 ((r15 h).mulf t17) rfl rfl rfl c.isLt)

/-- The three matrices. -/
theorem r22 : Is2 (φ := .f32) (val_main_v22 (F := Ideal) x4) (p.w 0) := fun r c =>
  (val_main_v22_apply _ _).trans ((val_main_v21_apply _ _).trans ((h.w.at _).trans (by
    have hc := c.isLt; have hr := r.isLt
    refine arg3 (f := p.w) rfl ?_ ?_
    · show (r.val * 2816 + c.val) / 2816 % 1024 = r.val; omega
    · show (r.val * 2816 + c.val) % 2816 = c.val; omega)))
theorem r25 : Is2 (φ := .f32) (val_main_v25 (F := Ideal) x4) (p.w 1) := fun r c =>
  (val_main_v25_apply _ _).trans ((val_main_v24_apply _ _).trans ((h.w.at _).trans (by
    have hc := c.isLt; have hr := r.isLt
    refine arg3 (f := p.w) rfl ?_ ?_
    · show (r.val * 2816 + c.val) / 2816 % 1024 = r.val; omega
    · show (r.val * 2816 + c.val) % 2816 = c.val; omega)))
theorem r38 : Is2 (φ := .f32) (val_main_v38 (F := Ideal) x5) p.wd := fun r c => h.wd r c

/-- The two projections, and the gate. -/
theorem r23 : Is2 (φ := .f32) (val_main_v23 (F := Ideal) x0 x2 x4) (p.proj 0) := fun r c =>
  (val_main_v23_apply ..).trans (sum_fin _ (fun k => p.h r k * p.w 0 k c) fun k =>
    (congrArg₂ (· * ·) ((r19 h).at _) ((r22 h).at _)).trans (EReal.coe_mul _ _).symm)
theorem r26 : Is2 (φ := .f32) (val_main_v26 (F := Ideal) x0 x2 x4) (p.proj 1) := fun r c =>
  (val_main_v26_apply ..).trans (sum_fin _ (fun k => p.h r k * p.w 1 k c) fun k =>
    (congrArg₂ (· * ·) ((r19 h).at _) ((r25 h).at _)).trans (EReal.coe_mul _ _).symm)
theorem r28 : Is2 (φ := .f32) (val_main_v28 (F := Ideal) x0 x2 x4) (fun r f => Real.exp (-p.proj 0 r f)) :=
  hexp (r23 h).hnegf
theorem r30 : Is2 (φ := .f32) (val_main_v30 (F := Ideal) x0 x2 x4) (fun r f => 1 + Real.exp (-p.proj 0 r f)) :=
  (Is2.hsplat ofBits_one _).addf (r28 h)
theorem r32 : Is2 (φ := .f32) (val_main_v32 (F := Ideal) x0 x2 x4) (fun r f => 1 / (1 + Real.exp (-p.proj 0 r f))) :=
  (Is2.hsplat ofBits_one _).hdivf (r30 h) fun _ _ => (add_pos one_pos (Real.exp_pos _)).ne'
theorem r35 : Is2 (φ := .f32) (val_main_v35 (F := Ideal) x0 x2 x4)
    (fun r f => 1 / ((1 + Real.exp (-p.proj 0 r f)) * (1 + Real.exp (-p.proj 0 r f)))) :=
  (Is2.hsplat ofBits_one _).hdivf ((r30 h).mulf (r30 h)) fun _ _ => mul_ne_zero (add_pos one_pos (Real.exp_pos _)).ne' (add_pos one_pos (Real.exp_pos _)).ne'
theorem r36 : Is2 (φ := .f32) (val_main_v36 (F := Ideal) x0 x2 x4) p.si := (r23 h).mulf (r32 h)
theorem r37 : Is2 (φ := .f32) (val_main_v37 (F := Ideal) x0 x2 x4) p.act := (r36 h).mulf (r26 h)
theorem r39 : Is2 (φ := .f32) (val_main_v39 (F := Ideal) x0 x2 x4 x5) (fun r c => ∑ f ∈ Finset.range 2816, p.act r f * p.wd f c) :=
  fun r c => (val_main_v39_apply ..).trans (sum_fin _ (fun k => p.act r k * p.wd k c) fun k =>
    (congrArg₂ (· * ·) ((r37 h).at _) ((r38 h).at _)).trans (EReal.coe_mul _ _).symm)
theorem r40 : Is2 (φ := .f32) (val_main_v40 (F := Ideal) x0 x2 x4 x5) p.y := h.x.addf (r39 h)

/-- The last norm. -/
theorem r47 : Is2 (φ := .f32) (val_main_v47 (F := Ideal) x0 x2 x4 x5) (fun r _ => msq p.y r) := by
  refine Is2.addf (f := fun r _ => (∑ k ∈ Finset.range 1024, p.y r k * p.y r k) / 1024) ?_ (Is2.hsplat ofBits_eps _)
  refine Is2.hdivf (f := fun r _ => ∑ k ∈ Finset.range 1024, p.y r k * p.y r k) ?_ (Is2.hsplat ofBits_1024 _) (fun _ _ => by norm_num)
  intro r c
  refine (val_main_v43_apply ..).trans ((val_main_v42_apply ..).trans ?_)
  exact zsum ofBits_zero (fun k => p.y r k * p.y r k) fun k => ((r40 h).mulf (r40 h)).at _
theorem r48 : Is2 (φ := .f32) (val_main_v48 (F := Ideal) x0 x2 x4 x5) (fun r _ => rr p.y r) :=
  (r47 h).hrsqrt fun r _ => msq_pos p.y r
theorem r51 : Is2 (φ := .f32) (val_main_v51 (F := Ideal) x0 x2 x4 x5) (fun r _ => -(1 / 2) * (rr p.y r / msq p.y r)) :=
  (Is2.hsplat ofBits_neg_half _).mulf ((r48 h).hdivf (r47 h) fun r _ => (msq_pos p.y r).ne')
theorem r53 : Is2 (φ := .f32) (val_main_v53 (F := Ideal) x0 x2 x4 x5) (nrm p.y) :=
  (r40 h).mulf (g := fun r _ => rr p.y r) fun r c => (val_main_v52_apply ..).trans ((r48 h).at _)
theorem r54 : Is3 (φ := .f32) (val_main_v54 (F := Ideal) x0 x2 x4 x5) (fun k r c => nrm p.y (k * 8 + r) c) :=
  fun k r c => (val_main_v54_apply ..).trans (split8 (r53 h) rfl rfl c.isLt)
theorem r55 : Is3 (φ := .f32) (val_main_v55 (F := Ideal) x3) (fun _ _ c => p.gn c) := fun k r c =>
  (val_main_v55_apply _ _).trans ((val_main_v1_apply _ _).trans (h.gn.at _))
theorem r58 : Is2 (φ := .f32) (val_main_v58 (F := Ideal) x0 x2 x3 x4 x5) (fun r c => nrm p.y r c * p.gn c) := by
  have t56 : Is3 (φ := .f32) (val_main_v56 (F := Ideal) x3) (fun _ _ c => p.gn c) := fun k r c =>
    (val_main_v56_apply _ _).trans ((r55 h).at _)
  exact fun r c => (val_main_v58_apply ..).trans (merge8 (f := fun r c => nrm p.y r c * p.gn c) ((r54 h).mulf t56) rfl rfl rfl c.isLt)

/-- The error, the loss and the error's gradient. -/
theorem r59 : Is2 (φ := .f32) (val_main_v59 (F := Ideal) x0 x1 x2 x3 x4 x5) p.e := (r58 h).subf h.tg
theorem r66 : Is2 (φ := .f32) (val_main_v66 (F := Ideal) x0 x1 x2 x3 x4 x5) (fun r c => p.e r c * p.e r c * (1 / 2048)) :=
  (Is2.hdivf ((Is2.hsplat ofBits_half _).mulf ((r59 h).mulf (r59 h))) (Is2.hsplat ofBits_1024 _) (fun _ _ => by norm_num)).congr
    fun r c _ _ => by ring
theorem r72 : Is2 (φ := .f32) (val_main_v72 (F := Ideal) x0 x1 x2 x3 x4 x5) p.de :=
  (((Is2.hsplat ofBits_half _).mulf (Is2.hdivf (Is2.hsplat ofBits_one _) (Is2.hsplat ofBits_1024 _) (fun _ _ => by norm_num))).mulf
    ((Is2.hsplat ofBits_two _).mulf (r59 h))).congr fun r c _ _ => by unfold Inp.de; ring
theorem r73 : Is3 (φ := .f32) (val_main_v73 (F := Ideal) x0 x1 x2 x3 x4 x5) (fun k r c => p.de (k * 8 + r) c) :=
  fun k r c => (val_main_v73_apply ..).trans (split8 (r72 h) rfl rfl c.isLt)
theorem r80 : Is2 (φ := .f32) (val_main_v80 (F := Ideal) x0 x1 x2 x3 x4 x5) (fun r c => p.de r c * p.gn c) := by
  have t77 : Is3 (φ := .f32) (val_main_v77 (F := Ideal) x3) (fun _ _ c => p.gn c) := fun k r c =>
    (val_main_v77_apply _ _).trans ((r55 h).at _)
  exact fun r c => (val_main_v80_apply ..).trans (merge8 (f := fun r c => p.de r c * p.gn c) ((r73 h).mulf t77) rfl rfl rfl c.isLt)

/-- The gradient through the last norm. -/
theorem r83 : Is2 (φ := .f32) (val_main_v83 (F := Ideal) x0 x1 x2 x3 x4 x5)
    (fun r _ => ∑ k ∈ Finset.range 1024, p.y r k * (p.de r k * p.gn k)) := by
  intro r c
  obtain rfl : c = 0 := Subsingleton.elim _ _
  exact (val_main_v83_apply ..).trans ((val_main_v82_apply ..).trans
    ((zsum ofBits_zero (fun k => p.y (r.val * 1 + 0) k * (p.de (r.val * 1 + 0) k * p.gn k)) fun k => ((r40 h).mulf (r80 h)).at _).trans
      (by simp only [Nat.mul_one, Nat.add_zero])))
theorem r88 : Is2 (φ := .f32) (val_main_v88 (F := Ideal) x0 x1 x2 x3 x4 x5) (fun r _ => msPart p.y (fun r c => p.de r c * p.gn c) r) :=
  ((r83 h).mulf (r51 h)).hdivf (Is2.hsplat ofBits_1024 _) (fun _ _ => by norm_num)
theorem r90 : Is2 (φ := .f32) (val_main_v90 (F := Ideal) x0 x1 x2 x3 x4 x5) (fun r _ => msPart p.y (fun r c => p.de r c * p.gn c) r) :=
  fun r c => (val_main_v90_apply ..).trans ((val_main_v89_apply ..).trans (zsum1 ofBits_zero ((r88 h).at _)))
theorem r85 : Is2 (φ := .f32) (val_main_v85 (F := Ideal) x0 x1 x2 x3 x4 x5) (fun r c => p.de r c * p.gn c * rr p.y r) :=
  (r80 h).mulf (g := fun r _ => rr p.y r) fun r c => (val_main_v84_apply ..).trans ((r48 h).at _)
theorem r94 : Is2 (φ := .f32) (val_main_v94 (F := Ideal) x0 x1 x2 x3 x4 x5) p.dy :=
  (((r85 h).addf ((r40 h).mulf (r90 h))).addf ((r90 h).mulf (r40 h))).congr
    fun r c _ _ => nrm_back p.y (fun r c => p.de r c * p.gn c) r c

/-- The gradients inside the network. -/
theorem r95 : Is2 (φ := .f32) (val_main_v95 (F := Ideal) x0 x1 x2 x3 x4 x5) p.da := fun r c =>
  (val_main_v95_apply ..).trans (sum_fin _ (fun k => p.dy r k * p.wd c k) fun k =>
    (congrArg₂ (· * ·) ((r94 h).at _) ((r38 h).at _)).trans (EReal.coe_mul _ _).symm)
theorem r96 : Is2 (φ := .f32) (val_main_v96 (F := Ideal) x0 x1 x2 x3 x4 x5) p.du :=
  ((r36 h).mulf (r95 h)).congr fun r c _ _ => mul_comm _ _
theorem r97 : Is2 (φ := .f32) (val_main_v97 (F := Ideal) x0 x1 x2 x3 x4 x5) (fun r f => p.da r f * p.proj 1 r f) :=
  (r95 h).mulf (r26 h)
theorem r102 : Is2 (φ := .f32) (val_main_v102 (F := Ideal) x0 x1 x2 x3 x4 x5) (fun r f => p.proj 0 r f * (p.da r f * p.proj 1 r f)
      * (1 / ((1 + Real.exp (-p.proj 0 r f)) * (1 + Real.exp (-p.proj 0 r f)))) * 1) :=
  (((r23 h).mulf (r97 h)).mulf (r35 h)).mulf (Is2.hsplat ofBits_one _)
theorem r106 : Is2 (φ := .f32) (val_main_v106 (F := Ideal) x0 x1 x2 x3 x4 x5) p.dg :=
  (((r97 h).mulf (r32 h)).addf ((r102 h).hnegf.mulf (r28 h)).hnegf).congr
    fun r f _ _ => gate_back (p.proj 0 r f) (p.da r f) (p.proj 1 r f)
theorem r107 : Is2 (φ := .f32) (val_main_v107 (F := Ideal) x0 x1 x2 x3 x4 x5) (fun r c => ∑ f ∈ Finset.range 2816, p.du r f * p.w 1 c f) :=
  fun r c => (val_main_v107_apply ..).trans (sum_fin _ (fun k => p.du r k * p.w 1 c k) fun k =>
    (congrArg₂ (· * ·) ((r96 h).at _) ((r25 h).at _)).trans (EReal.coe_mul _ _).symm)
theorem r108 : Is2 (φ := .f32) (val_main_v108 (F := Ideal) x0 x1 x2 x3 x4 x5) (fun r c => ∑ f ∈ Finset.range 2816, p.dg r f * p.w 0 c f) :=
  fun r c => (val_main_v108_apply ..).trans (sum_fin _ (fun k => p.dg r k * p.w 0 c k) fun k =>
    (congrArg₂ (· * ·) ((r106 h).at _) ((r22 h).at _)).trans (EReal.coe_mul _ _).symm)
theorem r109 : Is2 (φ := .f32) (val_main_v109 (F := Ideal) x0 x1 x2 x3 x4 x5) p.dh :=
  ((r107 h).addf (r108 h)).congr fun r c _ _ => add_comm _ _
theorem r110 : Is3 (φ := .f32) (val_main_v110 (F := Ideal) x0 x1 x2 x3 x4 x5) (fun k r c => p.dh (k * 8 + r) c) :=
  fun k r c => (val_main_v110_apply ..).trans (split8 (r109 h) rfl rfl c.isLt)
theorem r117 : Is2 (φ := .f32) (val_main_v117 (F := Ideal) x0 x1 x2 x3 x4 x5) (fun r c => p.dh r c * p.gf c) := by
  have t114 : Is3 (φ := .f32) (val_main_v114 (F := Ideal) x2) (fun _ _ c => p.gf c) := fun k r c =>
    (val_main_v114_apply _ _).trans ((r16 h).at _)
  exact fun r c => (val_main_v117_apply ..).trans (merge8 (f := fun r c => p.dh r c * p.gf c) ((r110 h).mulf t114) rfl rfl rfl c.isLt)

/-- The gradient through the first norm. -/
theorem r120 : Is2 (φ := .f32) (val_main_v120 (F := Ideal) x0 x1 x2 x3 x4 x5)
    (fun r _ => ∑ k ∈ Finset.range 1024, p.x r k * (p.dh r k * p.gf k)) := by
  intro r c
  obtain rfl : c = 0 := Subsingleton.elim _ _
  exact (val_main_v120_apply ..).trans ((val_main_v119_apply ..).trans
    ((zsum ofBits_zero (fun k => p.x (r.val * 1 + 0) k * (p.dh (r.val * 1 + 0) k * p.gf k)) fun k => (h.x.mulf (r117 h)).at _).trans
      (by simp only [Nat.mul_one, Nat.add_zero])))
theorem r125 : Is2 (φ := .f32) (val_main_v125 (F := Ideal) x0 x1 x2 x3 x4 x5) (fun r _ => msPart p.x (fun r c => p.dh r c * p.gf c) r) :=
  ((r120 h).mulf (r12 h)).hdivf (Is2.hsplat ofBits_1024 _) (fun _ _ => by norm_num)
theorem r127 : Is2 (φ := .f32) (val_main_v127 (F := Ideal) x0 x1 x2 x3 x4 x5) (fun r _ => msPart p.x (fun r c => p.dh r c * p.gf c) r) :=
  fun r c => (val_main_v127_apply ..).trans ((val_main_v126_apply ..).trans (zsum1 ofBits_zero ((r125 h).at _)))
theorem r122 : Is2 (φ := .f32) (val_main_v122 (F := Ideal) x0 x1 x2 x3 x4 x5) (fun r c => p.dh r c * p.gf c * rr p.x r) :=
  (r117 h).mulf (g := fun r _ => rr p.x r) fun r c => (val_main_v121_apply ..).trans ((r9 h).at _)
theorem r131 : Is2 (φ := .f32) (val_main_v131 (F := Ideal) x0 x1 x2 x3 x4 x5) (nrmBack p.x (fun r c => p.dh r c * p.gf c)) :=
  (((r122 h).addf (h.x.mulf (r127 h))).addf ((r127 h).mulf h.x)).congr
    fun r c _ _ => nrm_back p.x (fun r c => p.dh r c * p.gf c) r c

end Cert.FfnProof
-- ==== Proof.FfnRefRes.lean ====
/-
  What the reference's seven results hold.
-/
module

public import proofs.«01_k».proof.Proof.FfnRef
public import Idealize.ShloMosaic.Lib.Pipeline.ValueKit.Tiles

@[expose] public section

noncomputable section

namespace Cert.FfnProof

open Idealize.ShloMosaic Cert.FfnReferenceIdeal Cert.FfnReferenceIdeal.Gen Cert.FfnReferenceIdeal.Read
open Cert.Gmlp
open scoped BigOperators

variable {p : Inp} {x0 x1 : FVec Ideal ⟨2, ![4096, 1024]⟩ .f32} {x2 x3 : FVec Ideal ⟨2, ![1, 1024]⟩ .f32}
  {x4 : FVec Ideal ⟨3, ![2, 1024, 2816]⟩ .bf16} {x5 : FVec Ideal ⟨2, ![2816, 1024]⟩ .bf16}
  (h : Reals p x0 x1 x2 x3 x4 x5)

include h

theorem r135 : Is2 (φ := .bf16) (val_main_v135 (F := Ideal) x0 x2 x4) p.act := fun r c => r37 h r c
theorem r136 : Is2 (φ := .bf16) (val_main_v136 (F := Ideal) x0 x1 x2 x3 x4 x5) p.dy := fun r c => r94 h r c
theorem r137 : Is2 (φ := .bf16) (val_main_v137 (F := Ideal) x0 x2) p.h := fun r c => r19 h r c
theorem r132 : Is2 (φ := .f32) (val_main_v132 (F := Ideal) x0 x1 x2 x3 x4 x5) p.dx := (r94 h).addf (r131 h)
theorem r142 : Is2 (φ := .bf16) (val_main_v142 (F := Ideal) x0 x1 x2 x3 x4 x5) p.dx := fun r c => r132 h r c

/-- The two gradients inside the network, stacked. -/
theorem r140 : Is3 (φ := .f32) (val_main_v140 (F := Ideal) x0 x1 x2 x3 x4 x5) (fun k => if k = 0 then p.dg else p.du) := by
  intro k r c
  match k with
  | ⟨0, hk⟩ =>
    refine (concatenate_pair_apply_left 0 (val_main_v138 (F := Ideal) x0 x1 x2 x3 x4 x5) (val_main_v139 (F := Ideal) x0 x1 x2 x3 x4 x5)
      concatenates_S1x4096x2816_S1x4096x2816_S2x4096x2816_d0 (ix3 ⟨0, hk⟩ r c) rfl (ix3 0 r c)
      (fun a => match a with | ⟨0, _⟩ => rfl | ⟨1, _⟩ => rfl | ⟨2, _⟩ => rfl)).trans ?_
    exact (val_main_v138_apply ..).trans ((r106 h).at _)
  | ⟨1, hk⟩ =>
    refine (concatenate_pair_apply_right 0 (val_main_v138 (F := Ideal) x0 x1 x2 x3 x4 x5) (val_main_v139 (F := Ideal) x0 x1 x2 x3 x4 x5)
      concatenates_S1x4096x2816_S1x4096x2816_S2x4096x2816_d0 (ix3 ⟨1, hk⟩ r c) rfl rfl (ix3 0 r c)
      (fun a ha => match a, ha with | ⟨0, _⟩, ha => absurd rfl ha | ⟨1, _⟩, _ => rfl | ⟨2, _⟩, _ => rfl) rfl).trans ?_
    exact (val_main_v139_apply ..).trans ((r96 h).at _)
theorem r141 : Is3 (φ := .bf16) (val_main_v141 (F := Ideal) x0 x1 x2 x3 x4 x5) (fun k => if k = 0 then p.dg else p.du) :=
  fun k r c => r140 h k r c

/-- The sums over the groups of 8 rows. -/
theorem r134 : Is2 (φ := .f32) (val_main_v134 (F := Ideal) x0 x1 x2 x3 x4 x5) (p.loss 512) := by
  have t133 : Is3 (φ := .f32) (val_main_v133 (F := Ideal) x0 x1 x2 x3 x4 x5)
      (fun k r c => p.e (k * 8 + r) c * p.e (k * 8 + r) c * (1 / 2048)) :=
    fun k r c => (val_main_v133_apply ..).trans (split8 (f := fun r c => p.e r c * p.e r c * (1 / 2048)) (r66 h) rfl rfl c.isLt)
  exact fun r c => (val_main_v134_apply ..).trans
    (zsum ofBits_zero (fun k => p.e (k * 8 + r) c * p.e (k * 8 + r) c * (1 / 2048)) fun k =>
      (t133.at _).trans (arg3 (f := fun k r c => p.e (k * 8 + r) c * p.e (k * 8 + r) c * (1 / 2048)) rfl rfl rfl))
theorem r75 : Is2 (φ := .f32) (val_main_v75 (F := Ideal) x0 x1 x2 x3 x4 x5) (p.dgn 512) := fun r c =>
  (val_main_v75_apply ..).trans
    ((zsum ofBits_zero (fun k => nrm p.y (k * 8 + r) c * p.de (k * 8 + r) c) fun k =>
      (((r54 h).mulf (r73 h)).at _).trans (arg3 (f := fun k r c => nrm p.y (k * 8 + r) c * p.de (k * 8 + r) c) rfl rfl rfl)).trans
      (congrArg _ (Finset.sum_congr rfl fun k _ => mul_comm _ _)))
theorem r79 : Is2 (φ := .f32) (val_main_v79 (F := Ideal) x0 x1 x2 x3 x4 x5) (p.dgn 512) := by
  intro r c
  have hr := r.isLt; have hc := c.isLt
  refine (val_main_v79_apply ..).trans (zsum1 ofBits_zero ((val_main_v76_apply ..).trans (((r75 h).at _).trans
    (arg2 (f := p.dgn 512) ?_ ?_))))
  · show ((0 * 8 + r.val) * 1024 + c.val) / 1024 = r.val; omega
  · show ((0 * 8 + r.val) * 1024 + c.val) % 1024 = c.val; omega
theorem r112 : Is2 (φ := .f32) (val_main_v112 (F := Ideal) x0 x1 x2 x3 x4 x5) (p.dgf 512) := fun r c =>
  (val_main_v112_apply ..).trans
    ((zsum ofBits_zero (fun k => nrm p.x (k * 8 + r) c * p.dh (k * 8 + r) c) fun k =>
      (((r15 h).mulf (r110 h)).at _).trans (arg3 (f := fun k r c => nrm p.x (k * 8 + r) c * p.dh (k * 8 + r) c) rfl rfl rfl)).trans
      (congrArg _ (Finset.sum_congr rfl fun k _ => mul_comm _ _)))
theorem r116 : Is2 (φ := .f32) (val_main_v116 (F := Ideal) x0 x1 x2 x3 x4 x5) (p.dgf 512) := by
  intro r c
  have hr := r.isLt; have hc := c.isLt
  refine (val_main_v116_apply ..).trans (zsum1 ofBits_zero ((val_main_v113_apply ..).trans (((r112 h).at _).trans
    (arg2 (f := p.dgf 512) ?_ ?_))))
  · show ((0 * 8 + r.val) * 1024 + c.val) / 1024 = r.val; omega
  · show ((0 * 8 + r.val) * 1024 + c.val) % 1024 = c.val; omega
/-- The three, stacked. -/
theorem r146 : Is3 (φ := .f32) (val_main_v146 (F := Ideal) x0 x1 x2 x3 x4 x5)
    (fun k => if k = 0 then p.loss 512 else if k = 1 then p.dgn 512 else p.dgf 512) := by
  intro k r c
  refine concatenate_unit_eq (t := S3x8x1024) 0 [⟨S1x8x1024, val_main_v143 (F := Ideal) x0 x1 x2 x3 x4 x5⟩, ⟨S1x8x1024, val_main_v144 (F := Ideal) x0 x1 x2 x3 x4 x5⟩,
    ⟨S1x8x1024, val_main_v145 (F := Ideal) x0 x1 x2 x3 x4 x5⟩] concatenates_S1x8x1024_S1x8x1024_S1x8x1024_S3x8x1024_d0 (ix3 k r c) _ rfl
    ⟨fun hk hr i _ hi => ?_, fun hk hr i _ hi => ?_, fun hk hr i _ hi => ?_, trivial⟩
  · refine (val_main_v143_apply ..).trans (((r134 h).at _).trans ?_)
    have hk' : k.val = 0 := hk
    dsimp only
    rw [if_pos hk']
    exact arg2 (f := p.loss 512) (hi 1 (by decide)) (hi 2 (by decide))
  · refine (val_main_v144_apply ..).trans (((r79 h).at _).trans ?_)
    have hk' : k.val = 1 := hk
    dsimp only
    rw [hk', if_neg one_ne_zero, if_pos rfl]
    exact arg2 (f := p.dgn 512) (hi 1 (by decide)) (hi 2 (by decide))
  · refine (val_main_v145_apply ..).trans (((r116 h).at _).trans ?_)
    have hk' : k.val = 2 := hk
    dsimp only
    rw [hk', if_neg (show (2 : ℕ) ≠ 0 by decide), if_neg (show (2 : ℕ) ≠ 1 by decide)]
    exact arg2 (f := p.dgf 512) (hi 1 (by decide)) (hi 2 (by decide))

end Cert.FfnProof
-- ==== Proof.FfnClaims.lean ====
/-
  The claims about the feed-forward call: the frames and the values.
-/
module

public import proofs.«01_k».proof.Defs
public import proofs.«01_k».proof.Proof.GmlpClaims
public import proofs.«01_k».proof.Proof.FfnFinite
public import proofs.«01_k».proof.Proof.FfnResult
public import proofs.«01_k».proof.Proof.FfnRefRes
public import proofs.«01_k».proof.Proof.Gen.Ffn.Frame
public import proofs.«01_k».proof.Proof.Gen.FfnIdeal.Frame
public import proofs.«01_k».proof.Proof.Gen.FfnIdeal.Value
public import proofs.«01_k».proof.Proof.Gen.FfnReferenceIdeal.Run
public import Idealize.ShloMosaic.Adequacy
public import Idealize.ShloMosaic.Init

@[expose] public section

noncomputable section

namespace Cert.FfnProof

open Idealize.ShloMosaic Idealize.SL.Sem

attribute [local instance] ffn_finite_facts

/-- The kernel leaves its arguments as they were and every counter at zero. -/
theorem frame_p : Cert.quiescent_Ffn := fun m ρ _ => Cert.Ffn.Gen.frame m ρ
theorem frame_pi : Cert.quiescent_FfnIdeal := fun m ρ _ => Cert.FfnIdeal.Gen.frame m ρ
theorem frame_pi_finite : Cert.quiescent_FfnIdeal_pre_ffn_finite := fun m ρ _ => Cert.FfnIdeal.Gen.frame m ρ
/-- So does the reference, which has no counters. -/
theorem frame_ri : Cert.quiescent_FfnReferenceIdeal := fun m ρ _ =>
  (θ_run Cert.FfnReferenceIdeal.defs _ _).mono (fun r h => ⟨fun c => (h c).2.2.2.2.2.2.2, sem_eq_zero_of_no_sems (by decide) r.2⟩)
    (Cert.FfnReferenceIdeal.Value.run (F := Ideal) m ρ)
theorem frame_ri_finite : Cert.quiescent_FfnReferenceIdeal_pre_ffn_finite := fun m ρ _ => frame_ri m ρ trivial

/-- The idealised kernel is the kernel's own text. -/
theorem preserves : Cert.preserves_Ffn_FfnIdeal := trivial

section
open Cert.FfnIdeal Cert.FfnIdeal.Gen Cert.FfnReferenceIdeal.Read

variable {m : (ℓ : Loc nD τ sig) → Buf (Elt Ideal) ℓ} {c : Dev nD} {p : Inp} (h : Args m c p)

include h

/-- The network's activations. -/
theorem same0 : val_main_v135 (F := Ideal) (m (c.tc.loc main_arg0)) (m (c.tc.loc main_arg2)) (m (c.tc.loc main_arg4))
    = ((dats m 0 c).arrAt 6 cfg0.N : Vec Ideal S4096x2816 .bf16) := Cert.Gmlp.Is2.ext (r135 h) (array6 h)
/-- The gradient of the rows after the network. -/
theorem same1 : val_main_v136 (F := Ideal) (m (c.tc.loc main_arg0)) (m (c.tc.loc main_arg1)) (m (c.tc.loc main_arg2)) (m (c.tc.loc main_arg3)) (m (c.tc.loc main_arg4)) (m (c.tc.loc main_arg5))
    = ((dats m 0 c).arrAt 7 cfg0.N : Vec Ideal S4096x1024 .bf16) := Cert.Gmlp.Is2.ext (r136 h) (array7 h)
/-- The normalised rows. -/
theorem same2 : val_main_v137 (F := Ideal) (m (c.tc.loc main_arg0)) (m (c.tc.loc main_arg2))
    = ((dats m 0 c).arrAt 8 cfg0.N : Vec Ideal S4096x1024 .bf16) := Cert.Gmlp.Is2.ext (r137 h) (array8 h)
/-- The gradients inside the network. -/
theorem same3 : val_main_v141 (F := Ideal) (m (c.tc.loc main_arg0)) (m (c.tc.loc main_arg1)) (m (c.tc.loc main_arg2)) (m (c.tc.loc main_arg3)) (m (c.tc.loc main_arg4)) (m (c.tc.loc main_arg5))
    = ((dats m 0 c).arrAt 9 cfg0.N : Vec Ideal S2x4096x2816 .bf16) := Cert.Gmlp.Is3.ext (r141 h) (array9 h)
/-- The gradient of the residual rows. -/
theorem same4 : val_main_v132 (F := Ideal) (m (c.tc.loc main_arg0)) (m (c.tc.loc main_arg1)) (m (c.tc.loc main_arg2)) (m (c.tc.loc main_arg3)) (m (c.tc.loc main_arg4)) (m (c.tc.loc main_arg5))
    = ((dats m 0 c).arrAt 10 cfg0.N : Vec Ideal S4096x1024 .f32) := Cert.Gmlp.Is2.ext (r132 h) (array10 h)
/-- The same, in the narrower format. -/
theorem same5 : val_main_v142 (F := Ideal) (m (c.tc.loc main_arg0)) (m (c.tc.loc main_arg1)) (m (c.tc.loc main_arg2)) (m (c.tc.loc main_arg3)) (m (c.tc.loc main_arg4)) (m (c.tc.loc main_arg5))
    = ((dats m 0 c).arrAt 11 cfg0.N : Vec Ideal S4096x1024 .bf16) := Cert.Gmlp.Is2.ext (r142 h) (array11 h)
/-- The loss, and the gradients of the two gains. -/
theorem same6 : val_main_v146 (F := Ideal) (m (c.tc.loc main_arg0)) (m (c.tc.loc main_arg1)) (m (c.tc.loc main_arg2)) (m (c.tc.loc main_arg3)) (m (c.tc.loc main_arg4)) (m (c.tc.loc main_arg5))
    = ((dats m 0 c).arrAt 12 cfg0.N : Vec Ideal S3x8x1024 .f32) := Cert.Gmlp.Is3.ext (r146 h) (array12 h)

end

/-- Where the arguments are finite, the kernel's results are the reference's. -/
theorem algebraic : Cert.algebraic_FfnIdeal_FfnReferenceIdeal_pre_ffn_finite := by
  intro m ρ m' ρ' hpre hag
  refine ⟨fun c => (Cert.FfnIdeal.Gen.dats m 0 c).arrAt 6 Cert.FfnIdeal.cfg0.N,
    fun c => (Cert.FfnIdeal.Gen.dats m 0 c).arrAt 7 Cert.FfnIdeal.cfg0.N,
    fun c => (Cert.FfnIdeal.Gen.dats m 0 c).arrAt 8 Cert.FfnIdeal.cfg0.N,
    fun c => (Cert.FfnIdeal.Gen.dats m 0 c).arrAt 9 Cert.FfnIdeal.cfg0.N,
    fun c => (Cert.FfnIdeal.Gen.dats m 0 c).arrAt 10 Cert.FfnIdeal.cfg0.N,
    fun c => (Cert.FfnIdeal.Gen.dats m 0 c).arrAt 11 Cert.FfnIdeal.cfg0.N,
    fun c => (Cert.FfnIdeal.Gen.dats m 0 c).arrAt 12 Cert.FfnIdeal.cfg0.N,
    Cert.FfnIdeal.Value.run_blocks m ρ, ?_⟩
  refine (θ_run Cert.FfnReferenceIdeal.defs _ _).mono (fun r h c => ?_) (Cert.FfnReferenceIdeal.Value.run (F := Ideal) m' ρ')
  obtain ⟨p, hp⟩ := reals_of_finite (hpre c)
  obtain ⟨a0, a1, a2, a3, a4, a5⟩ := hag c
  obtain ⟨h0, h1, h2, h3, h4, h5, h6, hr⟩ := h c
  have e0 := h0.trans (Cert.FfnReferenceIdeal.Read.val_main_v135_eq _)
  have e1 := h1.trans (Cert.FfnReferenceIdeal.Read.val_main_v136_eq _)
  have e2 := h2.trans (Cert.FfnReferenceIdeal.Read.val_main_v137_eq _)
  have e3 := h3.trans (Cert.FfnReferenceIdeal.Read.val_main_v141_eq _)
  have e4 := h4.trans (Cert.FfnReferenceIdeal.Read.val_main_v132_eq _)
  have e5 := h5.trans (Cert.FfnReferenceIdeal.Read.val_main_v142_eq _)
  have e6 := h6.trans (Cert.FfnReferenceIdeal.Read.val_main_v146_eq _)
  simp only [StableHlo.launchContents_devRef, a0, a1, a2, a3, a4, a5] at e0 e1 e2 e3 e4 e5 e6
  exact ⟨e0.trans (same0 hp), e1.trans (same1 hp), e2.trans (same2 hp), e3.trans (same3 hp), e4.trans (same4 hp), e5.trans (same5 hp), e6.trans (same6 hp), hr⟩

end Cert.FfnProof
-- ==== Proof.Weights.lean ====
/-
  What the three calls that form the gradient of a weight share: the product of one array's columns with another's, over
  their rows, and the sum over all rows as the sum over the first half of them and over the second. The values are
  extended reals, whose addition is commutative and associative at all of them, so nothing here asks for finite arguments.
-/
module

public import proofs.«01_k».proof.Proof.Consts
public import Idealize.ShloMosaic.Lib.MatmulPlain
public import Idealize.ShloMosaic.Lib.ValueIdx
public import Idealize.ShloMosaic.Lib.ValueLayout
public import Idealize.ShloMosaic.Lib.Pipeline.Value
public import Idealize.ShloMosaic.Lib.Pointwise

@[expose] public section

noncomputable section

namespace Cert.Weights

open Idealize.ShloMosaic
open scoped BigOperators

/-- An index from its coordinates. -/
theorem at2 {a b : ℕ} {i : (⟨2, ![a, b]⟩ : Shape).Idx} {r : Fin a} {e : Fin b} (h0 : (i 0).val = r.val) (h1 : (i 1).val = e.val) :
    i = ix2 r e := (ValueIdx.eq_ix2 i).trans (congrArg₂ ix2 (Fin.ext h0) (Fin.ext h1))
theorem at3 {a b d : ℕ} {i : (⟨3, ![a, b, d]⟩ : Shape).Idx} {k : Fin a} {r : Fin b} {e : Fin d} (h0 : (i 0).val = k.val)
    (h1 : (i 1).val = r.val) (h2 : (i 2).val = e.val) : i = ix3 k r e := by
  refine (ValueIdx.eq_ix3 i).trans ?_
  rw [show i 0 = k from Fin.ext h0, show i 1 = r from Fin.ext h1, show i 2 = e from Fin.ext h2]
  rfl

/-- The dimension numbers of the product over the rows of both operands. -/
def colDims (K M N : ℕ) (wf : DotDims.WF ⟨2, ![K, M]⟩ ⟨2, ![K, N]⟩ ⟨2, ![M, N]⟩ [0] [0] [1] [1] [] []) :
    DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := wf

variable {K M N : ℕ} (wf : DotDims.WF ⟨2, ![K, M]⟩ ⟨2, ![K, N]⟩ ⟨2, ![M, N]⟩ [0] [0] [1] [1] [] [])

/-- That product into zero, at an index: column `r` of the left operand against column `e` of the right. -/
theorem cols {φ₁ φ₂ : FTy} (prec : Option ContractPrecision) (x : FVec Ideal ⟨2, ![K, M]⟩ φ₁)
    (y : FVec Ideal ⟨2, ![K, N]⟩ φ₂) (r : Fin M) (e : Fin N) :
    FloatOps.matmul (colDims K M N wf) prec x y (constant ⟨2, ![M, N]⟩ .f32 0x00000000#32) (ix2 r e)
      = ∑ k : Fin K, x (ix2 k r) * y (ix2 k e) := by
  rw [Ideal.matmul_constant_zero_apply, ← Equiv.sum_comp (ValueIdx.contrEquiv1 (colDims K M N wf) K rfl rfl).symm]
  refine Finset.sum_congr rfl fun k _ => ?_
  have hk := ValueIdx.contrEquiv1_symm_val (colDims K M N wf) K rfl rfl k
  refine congrArg₂ (· * ·) (congrArg x (funext fun a => Fin.ext ?_)) (congrArg y (funext fun a => Fin.ext ?_))
  · match a with
    | ⟨0, _⟩ => exact ((colDims K M N wf).lhsIdx_val_of_single rfl _ _).trans hk
    | ⟨1, _⟩ => rfl
  · match a with
    | ⟨0, _⟩ => exact ((colDims K M N wf).rhsIdx_val_of_single rfl _ _).trans hk
    | ⟨1, _⟩ => rfl

/-- A sum over 4096 rows, half by half. -/
theorem halves (f : Fin 4096 → EReal) :
    ∑ k : Fin 4096, f k = ∑ k : Fin 2048, f ⟨k.val, by omega⟩ + ∑ k : Fin 2048, f ⟨2048 + k.val, by omega⟩ :=
  Fin.sum_univ_add (a := 2048) (b := 2048) f

/-- The gradient of a weight: the activations' columns against the cotangent's, over all rows. -/
def grad {φ₁ φ₂ : FTy} (x : FVec Ideal ⟨2, ![4096, M]⟩ φ₁) (y : FVec Ideal ⟨2, ![4096, N]⟩ φ₂) (r : Fin M) (e : Fin N) : EReal :=
  ∑ k : Fin 4096, x (ix2 k r) * y (ix2 k e)

end Cert.Weights

end
-- ==== Proof.GateUpResult.lean ====
/-
  What the gate and up projections' call leaves: for each half of the columns of the two cotangents, four parts in all, two
  blocks of rows, one after the other, summed into that part of the array.
-/
module

public import proofs.«01_k».proof.Proof.Weights
public import proofs.«01_k».proof.Proof.Gen.GateUpIdeal.Value

@[expose] public section

noncomputable section

namespace Cert.GateUpProof

open Idealize.ShloMosaic Idealize.ShloMosaic.TcCoe Cert.GateUpIdeal Cert.GateUpIdeal.Gen Cert.GateUpIdeal.Value
open scoped BigOperators

variable (m : (ℓ : Loc nD τ sig) → Buf (Elt Ideal) ℓ) (c : Dev nD)

/-- The gradient of the two weights: part `j` holds half `j % 2` of the columns of weight `j / 2`. -/
def grad (x : FVec Ideal ⟨2, ![4096, 1024]⟩ .bf16) (y : FVec Ideal ⟨3, ![2, 4096, 2816]⟩ .bf16) (j : Fin 4) (r : Fin 1024)
    (e : Fin 1408) : EReal :=
  ∑ k : Fin 4096, x (ix2 k r) * y (ix3 ⟨j.val / 2, by omega⟩ k ⟨j.val % 2 * 1408 + e.val, by omega⟩)

/-- Which block each window holds at each point. -/
theorem index0 : ∀ t : Fin cfg0.N, win0_0.index t (0 : Fin 2) = t.val % 2 ∧ win0_0.index t (1 : Fin 2) = 0 :=
  (by decide +kernel : ∀ t : Fin grid0.N, win0_0.index t (0 : Fin 2) = t.val % 2 ∧ win0_0.index t (1 : Fin 2) = 0)
theorem index1 : ∀ t : Fin cfg0.N, win0_1.index t (0 : Fin 3) = t.val / 2 / 2 ∧ win0_1.index t (1 : Fin 3) = t.val % 2
    ∧ win0_1.index t (2 : Fin 3) = t.val / 2 % 2 :=
  (by decide +kernel : ∀ t : Fin grid0.N, win0_1.index t (0 : Fin 3) = t.val / 2 / 2 ∧ win0_1.index t (1 : Fin 3) = t.val % 2
    ∧ win0_1.index t (2 : Fin 3) = t.val / 2 % 2)

/-- The block of the activations. -/
theorem blk0 (t : Fin cfg0.N) (k : Fin 2048) (r : Fin 1024) (k' : Fin 4096) (hk : t.val % 2 * 2048 + k.val = k'.val) :
    (iblk m c 0 t : Vec Ideal S2048x1024 .bf16) (ix2 k r) = (m ((c : Thread nD τ).loc main_arg0) : Vec Ideal S4096x1024 .bf16) (ix2 k' r) := by
  obtain ⟨h0, h1⟩ := index0 t
  have e0 := win0_0.rect_emb_val t (ix2 k r) 0
  have e1 := win0_0.rect_emb_val t (ix2 k r) 1
  rw [h0] at e0
  rw [h1, Nat.zero_mul, Nat.zero_add] at e1
  have hi : ((win0_0.blk t).view.emb (ix2 k r) : S4096x1024.Idx) = ix2 k' r :=
    Cert.Weights.at2 (e0.trans hk) e1
  show V m c main_arg0 ((win0_0.blk t).view.emb (ix2 k r)) = _
  rw [hi]

/-- The block of the cotangents. -/
theorem blk1 (t : Fin cfg0.N) (k : Fin 2048) (e : Fin 1408) (j' : Fin 2) (k' : Fin 4096) (e' : Fin 2816)
    (hj : t.val / 2 / 2 = j'.val) (hk : t.val % 2 * 2048 + k.val = k'.val) (he : t.val / 2 % 2 * 1408 + e.val = e'.val) :
    (iblk m c 1 t : Vec Ideal S1x2048x1408 .bf16) (ix3 0 k e)
      = (m ((c : Thread nD τ).loc main_arg1) : Vec Ideal S2x4096x2816 .bf16) (ix3 j' k' e') := by
  obtain ⟨h0, h1, h2⟩ := index1 t
  have e0 := win0_1.rect_emb_val t (ix3 0 k e) 0
  have e1 := win0_1.rect_emb_val t (ix3 0 k e) 1
  have e2 := win0_1.rect_emb_val t (ix3 0 k e) 2
  rw [h0] at e0
  rw [h1] at e1
  rw [h2] at e2
  have hz : t.val / 2 / 2 * 1 + 0 = j'.val := by omega
  have hi : ((win0_1.blk t).view.emb (ix3 0 k e) : S2x4096x2816.Idx) = ix3 j' k' e' :=
    Cert.Weights.at3 (e0.trans hz) (e1.trans hk) (e2.trans he)
  show V m c main_arg1 ((win0_1.blk t).view.emb (ix3 0 k e)) = _
  rw [hi]

/-- An array behind one more axis of length one. -/
theorem out_apply {a b : ℕ} {φ : FTy} (x : FVec Ideal ⟨2, ![a, b]⟩ φ) (h : (⟨2, ![a, b]⟩ : Shape).ShapeCasts ⟨3, ![1, a, b]⟩)
    (r : Fin a) (e : Fin b) : shapeCast ⟨3, ![1, a, b]⟩ x h (ix3 0 r e) = x (ix2 r e) :=
  shapeCast_apply x h (ix3 0 r e) (ix2 r e) (by
    rw [Shape.rowMajor_val_three, Shape.rowMajor_val_two]; show r.val * b + e.val = (0 * a + r.val) * b + e.val
    rw [Nat.zero_mul, Nat.zero_add])
theorem in_apply {a b : ℕ} {φ : FTy} (x : FVec Ideal ⟨3, ![1, a, b]⟩ φ) (h : (⟨3, ![1, a, b]⟩ : Shape).ShapeCasts ⟨2, ![a, b]⟩)
    (r : Fin a) (e : Fin b) : shapeCast ⟨2, ![a, b]⟩ x h (ix2 r e) = x (ix3 0 r e) :=
  shapeCast_apply x h (ix2 r e) (ix3 0 r e) (by
    rw [Shape.rowMajor_val_three, Shape.rowMajor_val_two]; show (0 * a + r.val) * b + e.val = r.val * b + e.val
    rw [Nat.zero_mul, Nat.zero_add])

/-- What one point adds. -/
theorem step_apply (acc : Vec Ideal S1x1024x1408 .f32) (x : Vec Ideal S2048x1024 .bf16) (y : Vec Ideal S1x2048x1408 .bf16)
    (r : Fin 1024) (e : Fin 1408) :
    k0_pay2 acc x y (ix3 0 r e) = acc (ix3 0 r e) + ∑ k : Fin 2048, x (ix2 k r) * y (ix3 0 k e) := by
  unfold k0_pay2
  refine (out_apply _ _ r e).trans (congrArg₂ (· + ·) (in_apply acc _ r e) ((Cert.Weights.cols _ none x _ r e).trans ?_))
  exact Finset.sum_congr rfl fun k _ => congrArg (x (ix2 k r) * ·) (in_apply y _ k e)

/-- The first point of a part starts from zero. -/
theorem zero_apply (r : Fin 1024) (e : Fin 1408) : k0_pay1 (F := Ideal) (ix3 0 r e) = (0 : EReal) := by
  unfold k0_pay1
  exact (out_apply _ _ r e).trans Ideal.ofBits_zero_f32

/-- The result after the call. -/
theorem array (j : Fin 4) (r : Fin 1024) (e : Fin 1408) : ((dats m 0 c).arrAt 2 cfg0.N : Vec Ideal S4x1024x1408 .f32) (ix3 j r e)
    = grad (m ((c : Thread nD τ).loc main_arg0) : Vec Ideal S4096x1024 .bf16)
        (m ((c : Thread nD τ).loc main_arg1) : Vec Ideal S2x4096x2816 .bf16) j r e := by
  have hN : cfg0.N = 8 := N_0
  have hrun : run2Of (ix3 j r e) = j.val := by
    show 1 * (j.val / 1 - 0) + 1 * (r.val / 1024 - 0) + 1 * (e.val / 1408 - 0) = _
    have := r.isLt; have := e.isLt; omega
  have hloc : loc2Of (ix3 j r e) = ix3 0 r e := Cert.Weights.at3 (Nat.mod_one _) (Nat.mod_eq_of_lt r.isLt) (Nat.mod_eq_of_lt e.isLt)
  rw [final2]
  unfold G2
  rw [dif_pos (by rw [hrun, hN]; have := j.isLt; omega), hloc]
  show step2 m c (2 * run2Of (ix3 j r e) + 1) _ (reset2 m c (2 * run2Of (ix3 j r e)) _) (ix3 0 r e) = _
  unfold step2 reset2
  rw [step_apply, step_apply, zero_apply, zero_add, grad, Cert.Weights.halves]
  refine congrArg₂ (· + ·) (Finset.sum_congr rfl fun k _ => congrArg₂ (· * ·) ?_ ?_) (Finset.sum_congr rfl fun k _ => congrArg₂ (· * ·) ?_ ?_)
  · exact blk0 m c _ k r _ (by dsimp only; omega)
  · exact blk1 m c _ k e _ _ _ (by dsimp only; rw [hrun]; omega) (by dsimp only; omega) (by dsimp only; rw [hrun]; omega)
  · exact blk0 m c _ k r _ (by dsimp only; omega)
  · exact blk1 m c _ k e _ _ _ (by dsimp only; rw [hrun]; omega) (by dsimp only; omega) (by dsimp only; rw [hrun]; omega)

end Cert.GateUpProof

end
-- ==== Proof.GateUpClaims.lean ====
/-
  The claims about the gradient of the gate and up projections' weights: the frames and the value.
-/
module

public import proofs.«01_k».proof.Defs
public import proofs.«01_k».proof.Proof.GateUpResult
public import proofs.«01_k».proof.Proof.Gen.GateUp.Frame
public import proofs.«01_k».proof.Proof.Gen.GateUpIdeal.Frame
public import proofs.«01_k».proof.Proof.Gen.GateUpIdeal.Value
public import proofs.«01_k».proof.Proof.Gen.GateUpReferenceIdeal.Run
public import proofs.«01_k».proof.Proof.Gen.GateUpReferenceIdeal.Read
public import Idealize.ShloMosaic.Adequacy
public import Idealize.ShloMosaic.Init

@[expose] public section

noncomputable section

namespace Cert.GateUpProof

open Idealize.ShloMosaic Idealize.SL.Sem
open scoped BigOperators

/-- The kernel leaves its arguments as they were and every counter at zero. -/
theorem frame_p : Cert.quiescent_GateUp := fun m ρ _ => Cert.GateUp.Gen.frame m ρ
theorem frame_pi : Cert.quiescent_GateUpIdeal := fun m ρ _ => Cert.GateUpIdeal.Gen.frame m ρ

/-- So does the reference, which has no counter. -/
theorem frame_ri : Cert.quiescent_GateUpReferenceIdeal := fun m ρ _ =>
  (θ_run Cert.GateUpReferenceIdeal.defs _ _).mono (fun r h => ⟨fun c => (h c).2, sem_eq_zero_of_no_sems (by decide) r.2⟩)
    (Cert.GateUpReferenceIdeal.Value.run (F := Ideal) m ρ)

/-- The idealized kernel is the kernel's own text. -/
theorem preserves : Cert.preserves_GateUp_GateUpIdeal := trivial

variable (m : (ℓ : Loc Cert.GateUpIdeal.nD Cert.GateUpIdeal.τ Cert.GateUpIdeal.sig) → Buf (Elt Ideal) ℓ) (c : Dev Cert.GateUpIdeal.nD)

/-- Two arrays side by side, read left and right of the seam. -/
theorem left_apply (x y : FVec Ideal ⟨2, ![4096, 2816]⟩ .bf16)
    (h : Shape.Concatenates [(⟨2, ![4096, 2816]⟩ : Shape), ⟨2, ![4096, 2816]⟩] ⟨2, ![4096, 5632]⟩ 1) (k : Fin 4096) (q : Fin 5632)
    (p : Fin 2816) (hp : p.val = q.val) :
    concatenate ⟨2, ![4096, 5632]⟩ 1 [⟨⟨2, ![4096, 2816]⟩, x⟩, ⟨⟨2, ![4096, 2816]⟩, y⟩] h (ix2 k q) = x (ix2 k p) :=
  concatenate_pair_apply_left 1 x y h (ix2 k q) rfl (ix2 k p) (fun b => match b with | ⟨0, _⟩ => rfl | ⟨1, _⟩ => hp)
theorem right_apply (x y : FVec Ideal ⟨2, ![4096, 2816]⟩ .bf16)
    (h : Shape.Concatenates [(⟨2, ![4096, 2816]⟩ : Shape), ⟨2, ![4096, 2816]⟩] ⟨2, ![4096, 5632]⟩ 1) (k : Fin 4096) (q : Fin 5632)
    (p : Fin 2816) (hp : p.val + 2816 = q.val) :
    concatenate ⟨2, ![4096, 5632]⟩ 1 [⟨⟨2, ![4096, 2816]⟩, x⟩, ⟨⟨2, ![4096, 2816]⟩, y⟩] h (ix2 k q) = y (ix2 k p) :=
  concatenate_pair_apply_right 1 x y h (ix2 k q) rfl rfl (ix2 k p)
    (fun b hb => match b, hb with | ⟨0, _⟩, _ => rfl | ⟨1, _⟩, hb => absurd rfl hb) hp

/-- One of the two cotangents. -/
theorem one_apply (y : FVec Ideal ⟨3, ![2, 4096, 2816]⟩ .bf16) (k : Fin 4096) (p : Fin 2816) :
    Cert.GateUpReferenceIdeal.Read.val_main_v1 (F := Ideal) y (ix2 k p) = y (ix3 0 k p) := by
  rw [Cert.GateUpReferenceIdeal.Read.val_main_v1_apply, Cert.GateUpReferenceIdeal.Read.val_main_v0_apply]
  refine congrArg y (Cert.Weights.at3 rfl ?_ ?_)
  · show (k.val * 2816 + p.val) / 2816 % 4096 = k.val; have := k.isLt; omega
  · show (k.val * 2816 + p.val) % 2816 = p.val; omega
theorem other_apply (y : FVec Ideal ⟨3, ![2, 4096, 2816]⟩ .bf16) (k : Fin 4096) (p : Fin 2816) :
    Cert.GateUpReferenceIdeal.Read.val_main_v3 (F := Ideal) y (ix2 k p) = y (ix3 1 k p) := by
  rw [Cert.GateUpReferenceIdeal.Read.val_main_v3_apply, Cert.GateUpReferenceIdeal.Read.val_main_v2_apply]
  refine congrArg y (Cert.Weights.at3 rfl ?_ ?_)
  · show (k.val * 2816 + p.val) / 2816 % 4096 = k.val; have := k.isLt; omega
  · show (k.val * 2816 + p.val) % 2816 = p.val; omega

/-- The reference's two cotangents side by side. -/
theorem both_apply (y : FVec Ideal ⟨3, ![2, 4096, 2816]⟩ .bf16) (k : Fin 4096) (j : Fin 4) (e : Fin 1408) (q : Fin 5632)
    (hq : q.val = j.val * 1408 + e.val) :
    Cert.GateUpReferenceIdeal.Read.val_main_v4 (F := Ideal) y (ix2 k q)
      = y (ix3 ⟨j.val / 2, by omega⟩ k ⟨j.val % 2 * 1408 + e.val, by omega⟩) := by
  unfold Cert.GateUpReferenceIdeal.Read.val_main_v4
  have := e.isLt
  have := j.isLt
  by_cases hj : j.val < 2
  · refine (left_apply _ _ _ k q ⟨q.val, by omega⟩ rfl).trans ((one_apply y k _).trans (congrArg y (Cert.Weights.at3 ?_ rfl ?_)))
    · show 0 = j.val / 2; omega
    · show q.val = j.val % 2 * 1408 + e.val; omega
  · refine (right_apply _ _ _ k q ⟨q.val - 2816, by omega⟩ (Nat.sub_add_cancel (by omega))).trans
      ((other_apply y k _).trans (congrArg y (Cert.Weights.at3 ?_ rfl ?_)))
    · show 1 = j.val / 2; omega
    · show q.val - 2816 = j.val % 2 * 1408 + e.val; omega

/-- The reference's gradient, at an index. -/
theorem ref_apply (x : FVec Ideal ⟨2, ![4096, 1024]⟩ .bf16) (y : FVec Ideal ⟨3, ![2, 4096, 2816]⟩ .bf16) (j : Fin 4)
    (r : Fin 1024) (e : Fin 1408) :
    Cert.GateUpReferenceIdeal.Read.val_main_v12 (F := Ideal) x y (ix3 j r e) = grad x y j r e := by
  have hb : j.val * 1408 + e.val < 5632 := by have := j.isLt; have := e.isLt; omega
  rw [Cert.GateUpReferenceIdeal.Read.val_main_v12_apply, Cert.GateUpReferenceIdeal.Read.val_main_v11_apply,
    Cert.GateUpReferenceIdeal.Read.val_main_v10_apply, Cert.GateUpReferenceIdeal.Read.val_main_v9_apply]
  refine Finset.sum_congr rfl fun k _ => (mul_comm _ _).trans (congrArg₂ (· * ·) ?_ ?_)
  · refine congrArg x (Cert.Weights.at2 rfl ?_)
    show ((r.val * 4 + j.val) * 1408 + e.val) / 5632 = r.val
    omega
  · refine Eq.trans (congrArg (Cert.GateUpReferenceIdeal.Read.val_main_v4 (F := Ideal) y)
      (Cert.Weights.at2 (r := k) (e := ⟨j.val * 1408 + e.val, hb⟩) rfl ?_)) (both_apply y k j e _ rfl)
    show ((r.val * 4 + j.val) * 1408 + e.val) % 5632 = j.val * 1408 + e.val
    omega

/-- The two gradients agree. -/
theorem same : Cert.GateUpReferenceIdeal.Read.val_main_v12 (F := Ideal) (m ((c.tc : Thread Cert.GateUpIdeal.nD Cert.GateUpIdeal.τ).loc Cert.GateUpIdeal.main_arg0))
      (m ((c.tc : Thread Cert.GateUpIdeal.nD Cert.GateUpIdeal.τ).loc Cert.GateUpIdeal.main_arg1))
    = (Cert.GateUpIdeal.Gen.dats m 0 c).arrAt 2 Cert.GateUpIdeal.cfg0.N :=
  funext fun i => by
    obtain ⟨j, r, e, rfl⟩ : ∃ (j : Fin 4) (r : Fin 1024) (e : Fin 1408), i = ix3 j r e := ⟨i 0, i 1, i 2, ValueIdx.eq_ix3 i⟩
    exact (ref_apply _ _ j r e).trans (array m c j r e).symm

/-- Kernel and reference leave the same gradients. -/
theorem algebraic : Cert.algebraic_GateUpIdeal_GateUpReferenceIdeal := by
  intro m ρ m' ρ' _ hag
  refine ⟨fun c => (Cert.GateUpIdeal.Gen.dats m 0 c).arrAt 2 Cert.GateUpIdeal.cfg0.N, Cert.GateUpIdeal.Value.run_blocks m ρ, ?_⟩
  refine (θ_run Cert.GateUpReferenceIdeal.defs _ _).mono (fun r h c => ?_) (Cert.GateUpReferenceIdeal.Value.run (F := Ideal) m' ρ')
  obtain ⟨a0, a1⟩ := hag c
  obtain ⟨h0, hr⟩ := h c
  have e0 := h0.trans (Cert.GateUpReferenceIdeal.Read.val_main_v12_eq _ _)
  rw [a0, a1] at e0
  exact ⟨e0.trans (same m c), hr⟩

end Cert.GateUpProof

end
-- ==== Proof.DownResult.lean ====
/-
  What the down projection's call leaves: for each half of the activation's columns two blocks of rows, one after the other,
  summed into that half of the array.
-/
module

public import proofs.«01_k».proof.Proof.Weights
public import proofs.«01_k».proof.Proof.Gen.DownIdeal.Value

@[expose] public section

noncomputable section

namespace Cert.DownProof

open Idealize.ShloMosaic Idealize.ShloMosaic.TcCoe Cert.DownIdeal Cert.DownIdeal.Gen Cert.DownIdeal.Value
open Cert.Weights (grad)
open scoped BigOperators

variable (m : (ℓ : Loc nD τ sig) → Buf (Elt Ideal) ℓ) (c : Dev nD)

/-- Which block each window holds at each point. -/
theorem index0 : ∀ t : Fin cfg0.N, win0_0.index t (0 : Fin 2) = t.val % 2 ∧ win0_0.index t (1 : Fin 2) = t.val / 2 :=
  (by decide +kernel : ∀ t : Fin grid0.N, win0_0.index t (0 : Fin 2) = t.val % 2 ∧ win0_0.index t (1 : Fin 2) = t.val / 2)
theorem index1 : ∀ t : Fin cfg0.N, win0_1.index t (0 : Fin 2) = t.val % 2 ∧ win0_1.index t (1 : Fin 2) = 0 :=
  (by decide +kernel : ∀ t : Fin grid0.N, win0_1.index t (0 : Fin 2) = t.val % 2 ∧ win0_1.index t (1 : Fin 2) = 0)

/-- The block of the activations. -/
theorem blk0 (t : Fin cfg0.N) (k : Fin 2048) (r : Fin 1408) (k' : Fin 4096) (r' : Fin 2816) (hk : t.val % 2 * 2048 + k.val = k'.val)
    (hr : t.val / 2 * 1408 + r.val = r'.val) :
    (iblk m c 0 t : Vec Ideal S2048x1408 .bf16) (ix2 k r) = (m ((c : Thread nD τ).loc main_arg0) : Vec Ideal S4096x2816 .bf16) (ix2 k' r') := by
  obtain ⟨h0, h1⟩ := index0 t
  have e0 := win0_0.rect_emb_val t (ix2 k r) 0
  have e1 := win0_0.rect_emb_val t (ix2 k r) 1
  rw [h0] at e0
  rw [h1] at e1
  have hi : ((win0_0.blk t).view.emb (ix2 k r) : S4096x2816.Idx) = ix2 k' r' :=
    Cert.Weights.at2 (e0.trans hk) (e1.trans hr)
  show V m c main_arg0 ((win0_0.blk t).view.emb (ix2 k r)) = _
  rw [hi]

/-- The block of the cotangent. -/
theorem blk1 (t : Fin cfg0.N) (k : Fin 2048) (r : Fin 1024) (k' : Fin 4096) (hk : t.val % 2 * 2048 + k.val = k'.val) :
    (iblk m c 1 t : Vec Ideal S2048x1024 .bf16) (ix2 k r) = (m ((c : Thread nD τ).loc main_arg1) : Vec Ideal S4096x1024 .bf16) (ix2 k' r) := by
  obtain ⟨h0, h1⟩ := index1 t
  have e0 := win0_1.rect_emb_val t (ix2 k r) 0
  have e1 := win0_1.rect_emb_val t (ix2 k r) 1
  rw [h0] at e0
  rw [h1, Nat.zero_mul, Nat.zero_add] at e1
  have hi : ((win0_1.blk t).view.emb (ix2 k r) : S4096x1024.Idx) = ix2 k' r :=
    Cert.Weights.at2 (e0.trans hk) e1
  show V m c main_arg1 ((win0_1.blk t).view.emb (ix2 k r)) = _
  rw [hi]

/-- What one point adds. -/
theorem step_apply (acc : Vec Ideal S1408x1024 .f32) (x : Vec Ideal S2048x1408 .bf16) (y : Vec Ideal S2048x1024 .bf16)
    (r : Fin 1408) (e : Fin 1024) :
    k0_pay2 acc x y (ix2 r e) = acc (ix2 r e) + ∑ k : Fin 2048, x (ix2 k r) * y (ix2 k e) := by
  unfold k0_pay2
  rw [shapeCast_self]
  exact congrArg (acc (ix2 r e) + ·) (Cert.Weights.cols _ none x y r e)

/-- The first point of a half starts from zero. -/
theorem zero_apply (i : S1408x1024.Idx) : k0_pay1 (F := Ideal) i = (0 : EReal) := Ideal.ofBits_zero_f32

/-- The result after the call. -/
theorem array (r : Fin 2816) (e : Fin 1024) : ((dats m 0 c).arrAt 2 cfg0.N : Vec Ideal S2816x1024 .f32) (ix2 r e)
    = grad (φ₁ := .bf16) (φ₂ := .bf16) (m ((c : Thread nD τ).loc main_arg0) : Vec Ideal S4096x2816 .bf16)
        (m ((c : Thread nD τ).loc main_arg1) : Vec Ideal S4096x1024 .bf16) r e := by
  have hN : cfg0.N = 4 := N_0
  have hrun : run2Of (ix2 r e) = r.val / 1408 := by
    show 1 * (r.val / 1408 - 0) + 1 * (e.val / 1024 - 0) = _
    have := e.isLt; omega
  obtain ⟨s, hs⟩ : ∃ s : Fin 1408, s.val = r.val % 1408 := ⟨⟨r.val % 1408, Nat.mod_lt _ (by decide)⟩, rfl⟩
  have hloc : loc2Of (ix2 r e) = ix2 s e := Cert.Weights.at2 hs.symm (Nat.mod_eq_of_lt e.isLt)
  rw [final2]
  unfold G2
  rw [dif_pos (by rw [hrun, hN]; have := r.isLt; omega), hloc]
  show step2 m c (2 * run2Of (ix2 r e) + 1) _ (reset2 m c (2 * run2Of (ix2 r e)) _) (ix2 s e) = _
  unfold step2 reset2
  rw [step_apply, step_apply, zero_apply, zero_add, grad, Cert.Weights.halves]
  refine congrArg₂ (· + ·) (Finset.sum_congr rfl fun k _ => congrArg₂ (· * ·) ?_ ?_) (Finset.sum_congr rfl fun k _ => congrArg₂ (· * ·) ?_ ?_)
  · exact blk0 m c _ k s _ r (by dsimp only; omega) (by dsimp only; rw [hrun]; omega)
  · exact blk1 m c _ k e _ (by dsimp only; omega)
  · exact blk0 m c _ k s _ r (by dsimp only; omega) (by dsimp only; rw [hrun]; omega)
  · exact blk1 m c _ k e _ (by dsimp only; omega)

end Cert.DownProof

end
-- ==== Proof.DownClaims.lean ====
/-
  The claims about the gradient of the down projection's weight: the frames and the value.
-/
module

public import proofs.«01_k».proof.Defs
public import proofs.«01_k».proof.Proof.DownResult
public import proofs.«01_k».proof.Proof.Gen.Down.Frame
public import proofs.«01_k».proof.Proof.Gen.DownIdeal.Frame
public import proofs.«01_k».proof.Proof.Gen.DownIdeal.Value
public import proofs.«01_k».proof.Proof.Gen.DownReferenceIdeal.Run
public import proofs.«01_k».proof.Proof.Gen.DownReferenceIdeal.Read
public import Idealize.ShloMosaic.Adequacy
public import Idealize.ShloMosaic.Init

@[expose] public section

noncomputable section

namespace Cert.DownProof

open Idealize.ShloMosaic Idealize.SL.Sem
open Cert.Weights (grad)
open scoped BigOperators

/-- The kernel leaves its arguments as they were and every counter at zero. -/
theorem frame_p : Cert.quiescent_Down := fun m ρ _ => Cert.Down.Gen.frame m ρ
theorem frame_pi : Cert.quiescent_DownIdeal := fun m ρ _ => Cert.DownIdeal.Gen.frame m ρ

/-- So does the reference, which has no counter. -/
theorem frame_ri : Cert.quiescent_DownReferenceIdeal := fun m ρ _ =>
  (θ_run Cert.DownReferenceIdeal.defs _ _).mono (fun r h => ⟨fun c => (h c).2, sem_eq_zero_of_no_sems (by decide) r.2⟩)
    (Cert.DownReferenceIdeal.Value.run (F := Ideal) m ρ)

/-- The idealized kernel is the kernel's own text. -/
theorem preserves : Cert.preserves_Down_DownIdeal := trivial

variable (m : (ℓ : Loc Cert.DownIdeal.nD Cert.DownIdeal.τ Cert.DownIdeal.sig) → Buf (Elt Ideal) ℓ) (c : Dev Cert.DownIdeal.nD)

/-- The reference's gradient, at an index. -/
theorem ref_apply (x : FVec Ideal ⟨2, ![4096, 2816]⟩ .bf16) (y : FVec Ideal ⟨2, ![4096, 1024]⟩ .bf16)
    (r : Fin 2816) (e : Fin 1024) :
    Cert.DownReferenceIdeal.Read.val_main_v5 (F := Ideal) x y (ix2 r e) = grad x y r e := by
  rw [Cert.DownReferenceIdeal.Read.val_main_v5_apply, Cert.DownReferenceIdeal.Read.val_main_v4_apply]
  refine Finset.sum_congr rfl fun k _ => (mul_comm _ _).trans (congrArg₂ (· * ·) ?_ ?_)
  · exact congrArg x (Cert.Weights.at2 rfl rfl)
  · exact congrArg y (Cert.Weights.at2 rfl rfl)

/-- The two gradients agree. -/
theorem same : Cert.DownReferenceIdeal.Read.val_main_v5 (F := Ideal) (m ((c.tc : Thread Cert.DownIdeal.nD Cert.DownIdeal.τ).loc Cert.DownIdeal.main_arg0))
      (m ((c.tc : Thread Cert.DownIdeal.nD Cert.DownIdeal.τ).loc Cert.DownIdeal.main_arg1))
    = (Cert.DownIdeal.Gen.dats m 0 c).arrAt 2 Cert.DownIdeal.cfg0.N :=
  funext fun i => by
    obtain ⟨r, e, rfl⟩ : ∃ (r : Fin 2816) (e : Fin 1024), i = ix2 r e := ⟨i 0, i 1, ValueIdx.eq_ix2 i⟩
    exact (ref_apply _ _ r e).trans (array m c r e).symm

/-- Kernel and reference leave the same gradient. -/
theorem algebraic : Cert.algebraic_DownIdeal_DownReferenceIdeal := by
  intro m ρ m' ρ' _ hag
  refine ⟨fun c => (Cert.DownIdeal.Gen.dats m 0 c).arrAt 2 Cert.DownIdeal.cfg0.N, Cert.DownIdeal.Value.run_blocks m ρ, ?_⟩
  refine (θ_run Cert.DownReferenceIdeal.defs _ _).mono (fun r h c => ?_) (Cert.DownReferenceIdeal.Value.run (F := Ideal) m' ρ')
  obtain ⟨a0, a1⟩ := hag c
  obtain ⟨h0, hr⟩ := h c
  have e0 := h0.trans (Cert.DownReferenceIdeal.Read.val_main_v5_eq _ _)
  rw [a0, a1] at e0
  exact ⟨e0.trans (same m c), hr⟩

end Cert.DownProof

end
-- ==== Proof.SquareResult.lean ====
/-
  What the square weight's call leaves: two blocks of rows, one after the other, summed into one array.
-/
module

public import proofs.«01_k».proof.Proof.Weights
public import proofs.«01_k».proof.Proof.Gen.SquareIdeal.Value

@[expose] public section

noncomputable section

namespace Cert.SquareProof

open Idealize.ShloMosaic Idealize.ShloMosaic.TcCoe Cert.SquareIdeal Cert.SquareIdeal.Gen Cert.SquareIdeal.Value
open Cert.Weights (grad)
open scoped BigOperators

variable (m : (ℓ : Loc nD τ sig) → Buf (Elt Ideal) ℓ) (c : Dev nD)

/-- Which block each window holds at each point. -/
theorem index0 : ∀ t : Fin cfg0.N, win0_0.index t (0 : Fin 2) = t.val % 2 ∧ win0_0.index t (1 : Fin 2) = 0 :=
  (by decide +kernel : ∀ t : Fin grid0.N, win0_0.index t (0 : Fin 2) = t.val % 2 ∧ win0_0.index t (1 : Fin 2) = 0)
theorem index1 : ∀ t : Fin cfg0.N, win0_1.index t (0 : Fin 2) = t.val % 2 ∧ win0_1.index t (1 : Fin 2) = 0 :=
  (by decide +kernel : ∀ t : Fin grid0.N, win0_1.index t (0 : Fin 2) = t.val % 2 ∧ win0_1.index t (1 : Fin 2) = 0)

/-- The block of the activations. -/
theorem blk0 (t : Fin cfg0.N) (k : Fin 2048) (r : Fin 1024) (k' : Fin 4096) (hk : t.val % 2 * 2048 + k.val = k'.val) :
    (iblk m c 0 t : Vec Ideal S2048x1024 .bf16) (ix2 k r) = (m ((c : Thread nD τ).loc main_arg0) : Vec Ideal S4096x1024 .bf16) (ix2 k' r) := by
  obtain ⟨h0, h1⟩ := index0 t
  have e0 := win0_0.rect_emb_val t (ix2 k r) 0
  have e1 := win0_0.rect_emb_val t (ix2 k r) 1
  rw [h0] at e0
  rw [h1, Nat.zero_mul, Nat.zero_add] at e1
  have hi : ((win0_0.blk t).view.emb (ix2 k r) : S4096x1024.Idx) = ix2 k' r :=
    Cert.Weights.at2 (e0.trans hk) e1
  show V m c main_arg0 ((win0_0.blk t).view.emb (ix2 k r)) = _
  rw [hi]

/-- The block of the cotangent. -/
theorem blk1 (t : Fin cfg0.N) (k : Fin 2048) (r : Fin 1024) (k' : Fin 4096) (hk : t.val % 2 * 2048 + k.val = k'.val) :
    (iblk m c 1 t : Vec Ideal S2048x1024 .bf16) (ix2 k r) = (m ((c : Thread nD τ).loc main_arg1) : Vec Ideal S4096x1024 .bf16) (ix2 k' r) := by
  obtain ⟨h0, h1⟩ := index1 t
  have e0 := win0_1.rect_emb_val t (ix2 k r) 0
  have e1 := win0_1.rect_emb_val t (ix2 k r) 1
  rw [h0] at e0
  rw [h1, Nat.zero_mul, Nat.zero_add] at e1
  have hi : ((win0_1.blk t).view.emb (ix2 k r) : S4096x1024.Idx) = ix2 k' r :=
    Cert.Weights.at2 (e0.trans hk) e1
  show V m c main_arg1 ((win0_1.blk t).view.emb (ix2 k r)) = _
  rw [hi]

/-- What one point adds. -/
theorem step_apply (acc : Vec Ideal S1024x1024 .f32) (x y : Vec Ideal S2048x1024 .bf16) (r e : Fin 1024) :
    k0_pay2 acc x y (ix2 r e) = acc (ix2 r e) + ∑ k : Fin 2048, x (ix2 k r) * y (ix2 k e) := by
  unfold k0_pay2
  rw [shapeCast_self]
  exact congrArg (acc (ix2 r e) + ·) (Cert.Weights.cols _ none x y r e)

/-- The first point starts from zero. -/
theorem zero_apply (i : S1024x1024.Idx) : k0_pay1 (F := Ideal) i = (0 : EReal) := Ideal.ofBits_zero_f32

/-- The result after the call. -/
theorem array (r e : Fin 1024) : ((dats m 0 c).arrAt 2 cfg0.N : Vec Ideal S1024x1024 .f32) (ix2 r e)
    = grad (φ₁ := .bf16) (φ₂ := .bf16) (m ((c : Thread nD τ).loc main_arg0) : Vec Ideal S4096x1024 .bf16)
        (m ((c : Thread nD τ).loc main_arg1) : Vec Ideal S4096x1024 .bf16) r e := by
  have hN : cfg0.N = 2 := N_0
  have hrun : run2Of (ix2 r e) = 0 := by
    show 1 * (r.val / 1024 - 0) + 1 * (e.val / 1024 - 0) = 0
    have := r.isLt; have := e.isLt; omega
  have hloc : loc2Of (ix2 r e) = ix2 r e := funext fun a => Fin.ext (by
    match a with
    | ⟨0, _⟩ => exact Nat.mod_eq_of_lt r.isLt
    | ⟨1, _⟩ => exact Nat.mod_eq_of_lt e.isLt)
  rw [final2]
  unfold G2
  rw [dif_pos (by rw [hrun, hN]; decide), hloc]
  show step2 m c (2 * run2Of (ix2 r e) + 1) _ (reset2 m c (2 * run2Of (ix2 r e)) _) (ix2 r e) = _
  unfold step2 reset2
  rw [step_apply, step_apply, zero_apply, zero_add, grad, Cert.Weights.halves]
  refine congrArg₂ (· + ·) (Finset.sum_congr rfl fun k _ => congrArg₂ (· * ·) ?_ ?_) (Finset.sum_congr rfl fun k _ => congrArg₂ (· * ·) ?_ ?_)
  · exact blk0 m c _ k r _ (by dsimp only; omega)
  · exact blk1 m c _ k e _ (by dsimp only; omega)
  · exact blk0 m c _ k r _ (by dsimp only; omega)
  · exact blk1 m c _ k e _ (by dsimp only; omega)

end Cert.SquareProof

end
-- ==== Proof.SquareClaims.lean ====
/-
  The claims about the gradient of a square weight: the frames and the value.
-/
module

public import proofs.«01_k».proof.Defs
public import proofs.«01_k».proof.Proof.SquareResult
public import proofs.«01_k».proof.Proof.Gen.Square.Frame
public import proofs.«01_k».proof.Proof.Gen.SquareIdeal.Frame
public import proofs.«01_k».proof.Proof.Gen.SquareIdeal.Value
public import proofs.«01_k».proof.Proof.Gen.SquareReferenceIdeal.Run
public import proofs.«01_k».proof.Proof.Gen.SquareReferenceIdeal.Read
public import Idealize.ShloMosaic.Adequacy
public import Idealize.ShloMosaic.Init

@[expose] public section

noncomputable section

namespace Cert.SquareProof

open Idealize.ShloMosaic Idealize.SL.Sem
open Cert.Weights (grad)
open scoped BigOperators

/-- The kernel leaves its arguments as they were and every counter at zero. -/
theorem frame_p : Cert.quiescent_Square := fun m ρ _ => Cert.Square.Gen.frame m ρ
theorem frame_pi : Cert.quiescent_SquareIdeal := fun m ρ _ => Cert.SquareIdeal.Gen.frame m ρ

/-- So does the reference, which has no counter. -/
theorem frame_ri : Cert.quiescent_SquareReferenceIdeal := fun m ρ _ =>
  (θ_run Cert.SquareReferenceIdeal.defs _ _).mono (fun r h => ⟨fun c => (h c).2, sem_eq_zero_of_no_sems (by decide) r.2⟩)
    (Cert.SquareReferenceIdeal.Value.run (F := Ideal) m ρ)

/-- The idealized kernel is the kernel's own text. -/
theorem preserves : Cert.preserves_Square_SquareIdeal := trivial

variable (m : (ℓ : Loc Cert.SquareIdeal.nD Cert.SquareIdeal.τ Cert.SquareIdeal.sig) → Buf (Elt Ideal) ℓ) (c : Dev Cert.SquareIdeal.nD)

/-- The reference's gradient, at an index. -/
theorem ref_apply (x y : FVec Ideal ⟨2, ![4096, 1024]⟩ .bf16) (r e : Fin 1024) :
    Cert.SquareReferenceIdeal.Read.val_main_v5 (F := Ideal) x y (ix2 r e) = grad x y r e := by
  rw [Cert.SquareReferenceIdeal.Read.val_main_v5_apply, Cert.SquareReferenceIdeal.Read.val_main_v4_apply]
  refine Finset.sum_congr rfl fun k _ => (mul_comm _ _).trans (congrArg₂ (· * ·) ?_ ?_)
  · exact congrArg x (Cert.Weights.at2 rfl rfl)
  · exact congrArg y (Cert.Weights.at2 rfl rfl)

/-- The two gradients agree. -/
theorem same : Cert.SquareReferenceIdeal.Read.val_main_v5 (F := Ideal) (m ((c.tc : Thread Cert.SquareIdeal.nD Cert.SquareIdeal.τ).loc Cert.SquareIdeal.main_arg0))
      (m ((c.tc : Thread Cert.SquareIdeal.nD Cert.SquareIdeal.τ).loc Cert.SquareIdeal.main_arg1))
    = (Cert.SquareIdeal.Gen.dats m 0 c).arrAt 2 Cert.SquareIdeal.cfg0.N :=
  funext fun i => by
    obtain ⟨r, e, rfl⟩ : ∃ r e : Fin 1024, i = ix2 r e := ⟨i 0, i 1, ValueIdx.eq_ix2 i⟩
    exact (ref_apply _ _ r e).trans (array m c r e).symm

/-- Kernel and reference leave the same gradient. -/
theorem algebraic : Cert.algebraic_SquareIdeal_SquareReferenceIdeal := by
  intro m ρ m' ρ' _ hag
  refine ⟨fun c => (Cert.SquareIdeal.Gen.dats m 0 c).arrAt 2 Cert.SquareIdeal.cfg0.N, Cert.SquareIdeal.Value.run_blocks m ρ, ?_⟩
  refine (θ_run Cert.SquareReferenceIdeal.defs _ _).mono (fun r h c => ?_) (Cert.SquareReferenceIdeal.Value.run (F := Ideal) m' ρ')
  obtain ⟨a0, a1⟩ := hag c
  obtain ⟨h0, hr⟩ := h c
  have e0 := h0.trans (Cert.SquareReferenceIdeal.Read.val_main_v5_eq _ _)
  rw [a0, a1] at e0
  exact ⟨e0.trans (same m c), hr⟩

end Cert.SquareProof

end
-- ==== Proof.MergeResult.lean ====
/-
  What the merge's call leaves: row by row, the two gated branches, and their projection added to the stream.
-/
module

public import proofs.«01_k».proof.Proof.Weights
public import proofs.«01_k».proof.Proof.Consts
public import proofs.«01_k».proof.Proof.Gen.MergeIdeal.Value
public import Idealize.ShloMosaic.Lib.MatmulPlain

@[expose] public section

noncomputable section

namespace Cert.MergeProof

open Idealize.ShloMosaic Idealize.ShloMosaic.TcCoe Cert.MergeIdeal Cert.MergeIdeal.Gen
  Cert.MergeIdeal.Value
open Cert.Gmlp (ofBits_one)
open scoped BigOperators

/-- The logistic function. -/
def gate (v : EReal) : EReal := Ideal.div ((1 : ℝ) : EReal) (((1 : ℝ) : EReal) + Ideal.exp (-v))

/-- The two branches, each projected, gated and added. -/
def merged (a b : FVec Ideal ⟨2, ![4096, 1024]⟩ .bf16) (p : FVec Ideal ⟨3, ![8, 4096, 1024]⟩ .f32)
    (wa wb : FVec Ideal ⟨2, ![1024, 1024]⟩ .bf16) (r : Fin 4096) (e : Fin 1024) : EReal :=
  gate (p (ix3 6 r e)) * ∑ k : Fin 1024, a (ix2 r k) * wa (ix2 k e)
    + gate (p (ix3 7 r e)) * ∑ k : Fin 1024, b (ix2 r k) * wb (ix2 k e)

/-- The stream with the projection of the merged branches added. -/
def next (x : FVec Ideal ⟨2, ![4096, 1024]⟩ .f32) (a b : FVec Ideal ⟨2, ![4096, 1024]⟩ .bf16)
    (p : FVec Ideal ⟨3, ![8, 4096, 1024]⟩ .f32) (wa wb wo : FVec Ideal ⟨2, ![1024, 1024]⟩ .bf16) (r : Fin 4096) (e : Fin 1024) :
    EReal :=
  x (ix2 r e) + ∑ k : Fin 1024, merged a b p wa wb r k * wo (ix2 k e)

/-- A product into zeros. -/
theorem product (x : FVec Ideal S512x1024 .bf16) (y : FVec Ideal S1024x1024 .bf16) (s : Fin 512) (e : Fin 1024) :
    matmul dot_S512x1024_S1024x1024_S512x1024_1_0_0_1_n_n none x y (constant S512x1024 .f32 0x00000000#32) (ix2 s e)
      = ∑ k : Fin 1024, x (ix2 s k) * y (ix2 k e) := by
  refine (Ideal.matmul_plain_apply none x y _ s e).trans ?_
  refine (congrArg (· + _) Ideal.ofBits_zero_f32).trans (zero_add _)

theorem part_apply (x : FVec Ideal S1x512x1024 .f32) (h : S1x512x1024.ShapeCasts S512x1024) (s : Fin 512) (e : Fin 1024) :
    shapeCast S512x1024 x h (ix2 s e) = x (ix3 0 s e) :=
  shapeCast_apply x h (ix2 s e) (ix3 0 s e) (by
    rw [Shape.rowMajor_val_three, Shape.rowMajor_val_two]; show (0 * 512 + s.val) * 1024 + e.val = s.val * 1024 + e.val
    rw [Nat.zero_mul, Nat.zero_add])

/-- The gate as one block computes it. -/
theorem gate_apply (x : FVec Ideal S1x512x1024 .f32) (h : S1x512x1024.ShapeCasts S512x1024) (s : Fin 512) (e : Fin 1024) :
    Ideal.div (Ideal.ofBits .f32 0x3F800000#32) (Ideal.ofBits .f32 0x3F800000#32
        + Ideal.exp (Ideal.ofBits .f32 0x00000000#32 - shapeCast S512x1024 x h (ix2 s e)))
      = gate (x (ix3 0 s e)) := by
  rw [ofBits_one, Ideal.ofBits_zero_f32, zero_sub, part_apply, gate]

/-- What one point leaves of the merged branches. -/
theorem merged_apply (a : Vec Ideal S512x1024 .bf16) (wa : Vec Ideal S1024x1024 .bf16) (b : Vec Ideal S512x1024 .bf16)
    (wb : Vec Ideal S1024x1024 .bf16) (p q : Vec Ideal S1x512x1024 .f32) (s : Fin 512) (e : Fin 1024) :
    k0_pay2 a wa b wb p q (ix2 s e) = gate (p (ix3 0 s e)) * ∑ k : Fin 1024, a (ix2 s k) * wa (ix2 k e)
      + gate (q (ix3 0 s e)) * ∑ k : Fin 1024, b (ix2 s k) * wb (ix2 k e) := by
  unfold k0_pay2
  exact congrArg₂ (fun u v : EReal => u + v) (congrArg₂ (fun u v : EReal => u * v) (gate_apply p _ s e) (product a wa s e))
    (congrArg₂ (fun u v : EReal => u * v) (gate_apply q _ s e) (product b wb s e))

/-- What one point leaves of the stream. -/
theorem next_apply (z : Vec Ideal S512x1024 .bf16) (x : Vec Ideal S512x1024 .f32) (wo : Vec Ideal S1024x1024 .bf16) (s : Fin 512)
    (e : Fin 1024) : k0_pay1 z x wo (ix2 s e) = x (ix2 s e) + ∑ k : Fin 1024, z (ix2 s k) * wo (ix2 k e) := by
  unfold k0_pay1
  exact congrArg (x (ix2 s e) + ·) (product z wo s e)

theorem origin2 : (![0, 0] : Fin 2 → ℕ) = fun _ => 0 := by funext a; revert a; decide
theorem origin3 : (![0, 0, 0] : Fin 3 → ℕ) = fun _ => 0 := by funext a; revert a; decide

theorem out8_eq (x0 : Vec Ideal S512x1024 .f32) (x1 x2 : Vec Ideal S512x1024 .bf16) (x3 x4 : Vec Ideal S1x512x1024 .f32)
    (x5 x6 x7 : Vec Ideal S1024x1024 .bf16) : out0_8 x0 x1 x2 x3 x4 x5 x6 x7 = k0_pay2 x1 x5 x2 x6 x3 x4 := by
  unfold out0_8
  rw [View.canon_unit_zero origin2]
  simp only [View.ld_unit_zero (S := S512x1024) origin2, View.ld_unit_zero (S := S1024x1024) origin2,
    View.ld_unit_zero (S := S1x512x1024) origin3]
theorem out9_eq (x0 : Vec Ideal S512x1024 .f32) (x1 x2 : Vec Ideal S512x1024 .bf16) (x3 x4 : Vec Ideal S1x512x1024 .f32)
    (x5 x6 x7 : Vec Ideal S1024x1024 .bf16) :
    out0_9 x0 x1 x2 x3 x4 x5 x6 x7 = k0_pay1 (k0_pay2 x1 x5 x2 x6 x3 x4) x0 x7 := by
  unfold out0_9
  rw [View.canon_unit_zero origin2]
  simp only [View.ld_unit_zero (S := S512x1024) origin2, View.ld_unit_zero (S := S1024x1024) origin2,
    View.ld_unit_zero (S := S1x512x1024) origin3]

/-- Which block each window holds at each point. -/
theorem index0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem index1 : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)
theorem index2 : ∀ t : Fin cfg0.N, win0_2.index t (0 : Fin 2) = t.val ∧ win0_2.index t (1 : Fin 2) = 0 :=
  (by decide +kernel : ∀ t : Fin grid0.N, win0_2.index t (0 : Fin 2) = t.val ∧ win0_2.index t (1 : Fin 2) = 0)
theorem index8 : ∀ t : Fin cfg0.N, win0_8.index t (0 : Fin 2) = t.val ∧ win0_8.index t (1 : Fin 2) = 0 :=
  (by decide +kernel : ∀ t : Fin grid0.N, win0_8.index t (0 : Fin 2) = t.val ∧ win0_8.index t (1 : Fin 2) = 0)
theorem index9 : ∀ t : Fin cfg0.N, win0_9.index t (0 : Fin 2) = t.val ∧ win0_9.index t (1 : Fin 2) = 0 :=
  (by decide +kernel : ∀ t : Fin grid0.N, win0_9.index t (0 : Fin 2) = t.val ∧ win0_9.index t (1 : Fin 2) = 0)
theorem index5 : ∀ t : Fin cfg0.N, win0_5.index t (0 : Fin 2) = 0 ∧ win0_5.index t (1 : Fin 2) = 0 :=
  (by decide +kernel : ∀ t : Fin grid0.N, win0_5.index t (0 : Fin 2) = 0 ∧ win0_5.index t (1 : Fin 2) = 0)
theorem index6 : ∀ t : Fin cfg0.N, win0_6.index t (0 : Fin 2) = 0 ∧ win0_6.index t (1 : Fin 2) = 0 :=
  (by decide +kernel : ∀ t : Fin grid0.N, win0_6.index t (0 : Fin 2) = 0 ∧ win0_6.index t (1 : Fin 2) = 0)
theorem index7 : ∀ t : Fin cfg0.N, win0_7.index t (0 : Fin 2) = 0 ∧ win0_7.index t (1 : Fin 2) = 0 :=
  (by decide +kernel : ∀ t : Fin grid0.N, win0_7.index t (0 : Fin 2) = 0 ∧ win0_7.index t (1 : Fin 2) = 0)
theorem index3 : ∀ t : Fin cfg0.N, win0_3.index t (0 : Fin 3) = 6 ∧ win0_3.index t (1 : Fin 3) = t.val
    ∧ win0_3.index t (2 : Fin 3) = 0 :=
  (by decide +kernel : ∀ t : Fin grid0.N, win0_3.index t (0 : Fin 3) = 6 ∧ win0_3.index t (1 : Fin 3) = t.val
    ∧ win0_3.index t (2 : Fin 3) = 0)
theorem index4 : ∀ t : Fin cfg0.N, win0_4.index t (0 : Fin 3) = 7 ∧ win0_4.index t (1 : Fin 3) = t.val
    ∧ win0_4.index t (2 : Fin 3) = 0 :=
  (by decide +kernel : ∀ t : Fin grid0.N, win0_4.index t (0 : Fin 3) = 7 ∧ win0_4.index t (1 : Fin 3) = t.val
    ∧ win0_4.index t (2 : Fin 3) = 0)

variable (m : (ℓ : Loc nD τ sig) → Buf (Elt Ideal) ℓ) (c : Dev nD)

/-- The blocks of rows. -/
theorem blk0 (t : Fin cfg0.N) (s : Fin 512) (e : Fin 1024) (r : Fin 4096) (hr : t.val * 512 + s.val = r.val) :
    (iblk m c 0 t : Vec Ideal S512x1024 .f32) (ix2 s e)
      = (m ((c : Thread nD τ).loc main_arg0) : Vec Ideal S4096x1024 .f32) (ix2 r e) := by
  obtain ⟨h0, h1⟩ := index0 t
  have e0 := win0_0.rect_emb_val t (ix2 s e) 0
  have e1 := win0_0.rect_emb_val t (ix2 s e) 1
  rw [h0] at e0
  rw [h1, Nat.zero_mul, Nat.zero_add] at e1
  have hi : ((win0_0.blk t).view.emb (ix2 s e) : S4096x1024.Idx) = ix2 r e := Cert.Weights.at2 (e0.trans hr) e1
  show V m c main_arg0 ((win0_0.blk t).view.emb (ix2 s e)) = _
  rw [hi]
theorem blk1 (t : Fin cfg0.N) (s : Fin 512) (e : Fin 1024) (r : Fin 4096) (hr : t.val * 512 + s.val = r.val) :
    (iblk m c 1 t : Vec Ideal S512x1024 .bf16) (ix2 s e)
      = (m ((c : Thread nD τ).loc main_arg1) : Vec Ideal S4096x1024 .bf16) (ix2 r e) := by
  obtain ⟨h0, h1⟩ := index1 t
  have e0 := win0_1.rect_emb_val t (ix2 s e) 0
  have e1 := win0_1.rect_emb_val t (ix2 s e) 1
  rw [h0] at e0
  rw [h1, Nat.zero_mul, Nat.zero_add] at e1
  have hi : ((win0_1.blk t).view.emb (ix2 s e) : S4096x1024.Idx) = ix2 r e := Cert.Weights.at2 (e0.trans hr) e1
  show V m c main_arg1 ((win0_1.blk t).view.emb (ix2 s e)) = _
  rw [hi]
theorem blk2 (t : Fin cfg0.N) (s : Fin 512) (e : Fin 1024) (r : Fin 4096) (hr : t.val * 512 + s.val = r.val) :
    (iblk m c 2 t : Vec Ideal S512x1024 .bf16) (ix2 s e)
      = (m ((c : Thread nD τ).loc main_arg2) : Vec Ideal S4096x1024 .bf16) (ix2 r e) := by
  obtain ⟨h0, h1⟩ := index2 t
  have e0 := win0_2.rect_emb_val t (ix2 s e) 0
  have e1 := win0_2.rect_emb_val t (ix2 s e) 1
  rw [h0] at e0
  rw [h1, Nat.zero_mul, Nat.zero_add] at e1
  have hi : ((win0_2.blk t).view.emb (ix2 s e) : S4096x1024.Idx) = ix2 r e := Cert.Weights.at2 (e0.trans hr) e1
  show V m c main_arg2 ((win0_2.blk t).view.emb (ix2 s e)) = _
  rw [hi]

/-- The blocks of the two gates. -/
theorem blk3 (t : Fin cfg0.N) (s : Fin 512) (e : Fin 1024) (r : Fin 4096) (hr : t.val * 512 + s.val = r.val) :
    (iblk m c 3 t : Vec Ideal S1x512x1024 .f32) (ix3 0 s e)
      = (m ((c : Thread nD τ).loc main_arg3) : Vec Ideal S8x4096x1024 .f32) (ix3 6 r e) := by
  obtain ⟨h0, h1, h2⟩ := index3 t
  have e0 := win0_3.rect_emb_val t (ix3 0 s e) 0
  have e1 := win0_3.rect_emb_val t (ix3 0 s e) 1
  have e2 := win0_3.rect_emb_val t (ix3 0 s e) 2
  rw [h0] at e0
  rw [h1] at e1
  rw [h2, Nat.zero_mul, Nat.zero_add] at e2
  have hi : ((win0_3.blk t).view.emb (ix3 0 s e) : S8x4096x1024.Idx) = ix3 6 r e :=
    Cert.Weights.at3 e0 (e1.trans hr) e2
  show V m c main_arg3 ((win0_3.blk t).view.emb (ix3 0 s e)) = _
  rw [hi]
theorem blk4 (t : Fin cfg0.N) (s : Fin 512) (e : Fin 1024) (r : Fin 4096) (hr : t.val * 512 + s.val = r.val) :
    (iblk m c 4 t : Vec Ideal S1x512x1024 .f32) (ix3 0 s e)
      = (m ((c : Thread nD τ).loc main_arg3) : Vec Ideal S8x4096x1024 .f32) (ix3 7 r e) := by
  obtain ⟨h0, h1, h2⟩ := index4 t
  have e0 := win0_4.rect_emb_val t (ix3 0 s e) 0
  have e1 := win0_4.rect_emb_val t (ix3 0 s e) 1
  have e2 := win0_4.rect_emb_val t (ix3 0 s e) 2
  rw [h0] at e0
  rw [h1] at e1
  rw [h2, Nat.zero_mul, Nat.zero_add] at e2
  have hi : ((win0_4.blk t).view.emb (ix3 0 s e) : S8x4096x1024.Idx) = ix3 7 r e :=
    Cert.Weights.at3 e0 (e1.trans hr) e2
  show V m c main_arg3 ((win0_4.blk t).view.emb (ix3 0 s e)) = _
  rw [hi]

/-- The weights. -/
theorem blk5 (t : Fin cfg0.N) (r e : Fin 1024) : (iblk m c 5 t : Vec Ideal S1024x1024 .bf16) (ix2 r e)
    = (m ((c : Thread nD τ).loc main_arg4) : Vec Ideal S1024x1024 .bf16) (ix2 r e) := by
  obtain ⟨h0, h1⟩ := index5 t
  have e0 := win0_5.rect_emb_val t (ix2 r e) 0
  have e1 := win0_5.rect_emb_val t (ix2 r e) 1
  rw [h0, Nat.zero_mul, Nat.zero_add] at e0
  rw [h1, Nat.zero_mul, Nat.zero_add] at e1
  have hi : ((win0_5.blk t).view.emb (ix2 r e) : S1024x1024.Idx) = ix2 r e := Cert.Weights.at2 e0 e1
  show V m c main_arg4 ((win0_5.blk t).view.emb (ix2 r e)) = _
  rw [hi]
theorem blk6 (t : Fin cfg0.N) (r e : Fin 1024) : (iblk m c 6 t : Vec Ideal S1024x1024 .bf16) (ix2 r e)
    = (m ((c : Thread nD τ).loc main_arg5) : Vec Ideal S1024x1024 .bf16) (ix2 r e) := by
  obtain ⟨h0, h1⟩ := index6 t
  have e0 := win0_6.rect_emb_val t (ix2 r e) 0
  have e1 := win0_6.rect_emb_val t (ix2 r e) 1
  rw [h0, Nat.zero_mul, Nat.zero_add] at e0
  rw [h1, Nat.zero_mul, Nat.zero_add] at e1
  have hi : ((win0_6.blk t).view.emb (ix2 r e) : S1024x1024.Idx) = ix2 r e := Cert.Weights.at2 e0 e1
  show V m c main_arg5 ((win0_6.blk t).view.emb (ix2 r e)) = _
  rw [hi]
theorem blk7 (t : Fin cfg0.N) (r e : Fin 1024) : (iblk m c 7 t : Vec Ideal S1024x1024 .bf16) (ix2 r e)
    = (m ((c : Thread nD τ).loc main_arg6) : Vec Ideal S1024x1024 .bf16) (ix2 r e) := by
  obtain ⟨h0, h1⟩ := index7 t
  have e0 := win0_7.rect_emb_val t (ix2 r e) 0
  have e1 := win0_7.rect_emb_val t (ix2 r e) 1
  rw [h0, Nat.zero_mul, Nat.zero_add] at e0
  rw [h1, Nat.zero_mul, Nat.zero_add] at e1
  have hi : ((win0_7.blk t).view.emb (ix2 r e) : S1024x1024.Idx) = ix2 r e := Cert.Weights.at2 e0 e1
  show V m c main_arg6 ((win0_7.blk t).view.emb (ix2 r e)) = _
  rw [hi]

/-- Row `s` of the point that holds row `r`. -/
theorem merged_row (t : Fin cfg0.N) (s : Fin 512) (e : Fin 1024) (r : Fin 4096) (hr : t.val * 512 + s.val = r.val) :
    k0_pay2 (iblk m c 1 t) (iblk m c 5 t) (iblk m c 2 t) (iblk m c 6 t) (iblk m c 3 t) (iblk m c 4 t) (ix2 s e)
      = merged (m ((c : Thread nD τ).loc main_arg1)) (m ((c : Thread nD τ).loc main_arg2)) (m ((c : Thread nD τ).loc main_arg3))
        (m ((c : Thread nD τ).loc main_arg4)) (m ((c : Thread nD τ).loc main_arg5)) r e := by
  rw [merged_apply, merged]
  refine congrArg₂ (· + ·) (congrArg₂ (· * ·) (congrArg gate (blk3 m c t s e r hr)) (Finset.sum_congr rfl fun k _ =>
      congrArg₂ (· * ·) (blk1 m c t s k r hr) (blk5 m c t k e)))
    (congrArg₂ (· * ·) (congrArg gate (blk4 m c t s e r hr)) (Finset.sum_congr rfl fun k _ =>
      congrArg₂ (· * ·) (blk2 m c t s k r hr) (blk6 m c t k e)))

theorem next_row (t : Fin cfg0.N) (s : Fin 512) (e : Fin 1024) (r : Fin 4096) (hr : t.val * 512 + s.val = r.val) :
    k0_pay1 (k0_pay2 (iblk m c 1 t) (iblk m c 5 t) (iblk m c 2 t) (iblk m c 6 t) (iblk m c 3 t) (iblk m c 4 t))
        (iblk m c 0 t) (iblk m c 7 t) (ix2 s e)
      = next (m ((c : Thread nD τ).loc main_arg0)) (m ((c : Thread nD τ).loc main_arg1)) (m ((c : Thread nD τ).loc main_arg2)) (m ((c : Thread nD τ).loc main_arg3))
        (m ((c : Thread nD τ).loc main_arg4)) (m ((c : Thread nD τ).loc main_arg5)) (m ((c : Thread nD τ).loc main_arg6)) r e := by
  rw [next_apply, next]
  exact congrArg₂ (· + ·) (blk0 m c t s e r hr) (Finset.sum_congr rfl fun k _ =>
    congrArg₂ (· * ·) (merged_row m c t s k r hr) (blk7 m c t k e))

/-- The merged branches after the call. -/
theorem array8 (r : Fin 4096) (e : Fin 1024) : ((dats m 0 c).arrAt 8 cfg0.N : Vec Ideal S4096x1024 .bf16) (ix2 r e)
    = merged (m ((c : Thread nD τ).loc main_arg1)) (m ((c : Thread nD τ).loc main_arg2)) (m ((c : Thread nD τ).loc main_arg3))
        (m ((c : Thread nD τ).loc main_arg4)) (m ((c : Thread nD τ).loc main_arg5)) r e := by
  have hN : cfg0.N = 8 := N_0
  obtain ⟨t, ht⟩ : ∃ t : Fin cfg0.N, t.val = r.val / 512 := ⟨⟨r.val / 512, by have := r.isLt; omega⟩, rfl⟩
  obtain ⟨s, hs⟩ : ∃ s : Fin 512, s.val = r.val % 512 := ⟨⟨r.val % 512, by omega⟩, rfl⟩
  have hr : t.val * 512 + s.val = r.val := by omega
  have hx := (dats m 0 c).arrAt_emb_eq_flushed 8 disjoint8 t (flush0_8 t) (ix2 s e)
  obtain ⟨h0, h1⟩ := index8 t
  have e0 := win0_8.rect_emb_val t (ix2 s e) 0
  have e1 := win0_8.rect_emb_val t (ix2 s e) 1
  rw [h0] at e0
  rw [h1, Nat.zero_mul, Nat.zero_add] at e1
  have hi : ((win0_8.blk t).view.emb (ix2 s e) : S4096x1024.Idx) = ix2 r e := Cert.Weights.at2 (e0.trans hr) e1
  refine (congrArg ((dats m 0 c).arrAt 8 cfg0.N) hi.symm).trans (hx.trans ?_)
  rw [flushed8, out8_eq]
  have hm := merged_row m c t s e r hr
  generalize k0_pay2 (F := Ideal) (iblk m c 1 t) (iblk m c 5 t) (iblk m c 2 t) (iblk m c 6 t) (iblk m c 3 t) (iblk m c 4 t) = z at hm ⊢
  exact hm

/-- The stream after the call. -/
theorem array9 (r : Fin 4096) (e : Fin 1024) : ((dats m 0 c).arrAt 9 cfg0.N : Vec Ideal S4096x1024 .f32) (ix2 r e)
    = next (m ((c : Thread nD τ).loc main_arg0)) (m ((c : Thread nD τ).loc main_arg1)) (m ((c : Thread nD τ).loc main_arg2)) (m ((c : Thread nD τ).loc main_arg3))
        (m ((c : Thread nD τ).loc main_arg4)) (m ((c : Thread nD τ).loc main_arg5)) (m ((c : Thread nD τ).loc main_arg6)) r e := by
  have hN : cfg0.N = 8 := N_0
  obtain ⟨t, ht⟩ : ∃ t : Fin cfg0.N, t.val = r.val / 512 := ⟨⟨r.val / 512, by have := r.isLt; omega⟩, rfl⟩
  obtain ⟨s, hs⟩ : ∃ s : Fin 512, s.val = r.val % 512 := ⟨⟨r.val % 512, by omega⟩, rfl⟩
  have hr : t.val * 512 + s.val = r.val := by omega
  have hx := (dats m 0 c).arrAt_emb_eq_flushed 9 disjoint9 t (flush0_9 t) (ix2 s e)
  obtain ⟨h0, h1⟩ := index9 t
  have e0 := win0_9.rect_emb_val t (ix2 s e) 0
  have e1 := win0_9.rect_emb_val t (ix2 s e) 1
  rw [h0] at e0
  rw [h1, Nat.zero_mul, Nat.zero_add] at e1
  have hi : ((win0_9.blk t).view.emb (ix2 s e) : S4096x1024.Idx) = ix2 r e := Cert.Weights.at2 (e0.trans hr) e1
  refine (congrArg ((dats m 0 c).arrAt 9 cfg0.N) hi.symm).trans (hx.trans ?_)
  rw [flushed9, out9_eq]
  have hm := next_row m c t s e r hr
  generalize k0_pay1 (F := Ideal) (k0_pay2 (iblk m c 1 t) (iblk m c 5 t) (iblk m c 2 t) (iblk m c 6 t) (iblk m c 3 t) (iblk m c 4 t))
    (iblk m c 0 t) (iblk m c 7 t) = z at hm ⊢
  exact hm

end Cert.MergeProof

end
-- ==== Proof.MergeClaims.lean ====
/-
  The claims about the merge of the two branches: the frames and the value.
-/
module

public import proofs.«01_k».proof.Defs
public import proofs.«01_k».proof.Proof.MergeResult
public import proofs.«01_k».proof.Proof.Gen.Merge.Frame
public import proofs.«01_k».proof.Proof.Gen.MergeIdeal.Frame
public import proofs.«01_k».proof.Proof.Gen.MergeIdeal.Value
public import proofs.«01_k».proof.Proof.Gen.MergeReferenceIdeal.Run
public import proofs.«01_k».proof.Proof.Gen.MergeReferenceIdeal.Read
public import Idealize.ShloMosaic.Adequacy
public import Idealize.ShloMosaic.Init

@[expose] public section

noncomputable section

namespace Cert.MergeProof

open Idealize.ShloMosaic Idealize.SL.Sem
open Cert.Gmlp (ofBits_one)
open scoped BigOperators

/-- The kernel leaves its arguments as they were and every counter at zero. -/
theorem frame_p : Cert.quiescent_Merge := fun m ρ _ => Cert.Merge.Gen.frame m ρ
theorem frame_pi : Cert.quiescent_MergeIdeal := fun m ρ _ => Cert.MergeIdeal.Gen.frame m ρ

/-- So does the reference, which has no counter. -/
theorem frame_ri : Cert.quiescent_MergeReferenceIdeal := fun m ρ _ =>
  (θ_run Cert.MergeReferenceIdeal.defs _ _).mono (fun r h => ⟨fun c => (h c).2.2, sem_eq_zero_of_no_sems (by decide) r.2⟩)
    (Cert.MergeReferenceIdeal.Value.run (F := Ideal) m ρ)

/-- The idealized kernel is the kernel's own text. -/
theorem preserves : Cert.preserves_Merge_MergeIdeal := trivial

variable (m : (ℓ : Loc Cert.MergeIdeal.nD Cert.MergeIdeal.τ Cert.MergeIdeal.sig) → Buf (Elt Ideal) ℓ) (c : Dev Cert.MergeIdeal.nD)

/-- The reference's two gates. -/
theorem gate_a (p : FVec Ideal ⟨3, ![8, 4096, 1024]⟩ .f32) (r : Fin 4096) (e : Fin 1024) :
    Cert.MergeReferenceIdeal.Read.val_main_v13 (F := Ideal) p (ix2 r e) = gate (p (ix3 6 r e)) := by
  have hp : Cert.MergeReferenceIdeal.Read.val_main_v7 (F := Ideal) p (ix2 r e) = p (ix3 6 r e) := by
    rw [Cert.MergeReferenceIdeal.Read.val_main_v7_apply, Cert.MergeReferenceIdeal.Read.val_main_v6_apply]
    refine congrArg p (Cert.Weights.at3 rfl ?_ ?_)
    · show (r.val * 1024 + e.val) / 1024 % 4096 = r.val; have := r.isLt; omega
    · show (r.val * 1024 + e.val) % 1024 = e.val; omega
  rw [Cert.MergeReferenceIdeal.Read.val_main_v13_apply, Cert.MergeReferenceIdeal.Read.val_main_v12_apply, Cert.MergeReferenceIdeal.Read.val_main_cst_0_apply,
    Cert.MergeReferenceIdeal.Read.val_main_v11_apply, Cert.MergeReferenceIdeal.Read.val_main_v10_apply, Cert.MergeReferenceIdeal.Read.val_main_cst_apply,
    Cert.MergeReferenceIdeal.Read.val_main_v9_apply, Cert.MergeReferenceIdeal.Read.val_main_v8_apply, hp]
  show Ideal.div (Ideal.ofBits .f32 0x3F800000#32) (Ideal.ofBits .f32 0x3F800000#32 + Ideal.exp (-(p (ix3 6 r e) : EReal))) = _
  rw [ofBits_one, gate]
theorem gate_b (p : FVec Ideal ⟨3, ![8, 4096, 1024]⟩ .f32) (r : Fin 4096) (e : Fin 1024) :
    Cert.MergeReferenceIdeal.Read.val_main_v22 (F := Ideal) p (ix2 r e) = gate (p (ix3 7 r e)) := by
  have hp : Cert.MergeReferenceIdeal.Read.val_main_v16 (F := Ideal) p (ix2 r e) = p (ix3 7 r e) := by
    rw [Cert.MergeReferenceIdeal.Read.val_main_v16_apply, Cert.MergeReferenceIdeal.Read.val_main_v15_apply]
    refine congrArg p (Cert.Weights.at3 rfl ?_ ?_)
    · show (r.val * 1024 + e.val) / 1024 % 4096 = r.val; have := r.isLt; omega
    · show (r.val * 1024 + e.val) % 1024 = e.val; omega
  rw [Cert.MergeReferenceIdeal.Read.val_main_v22_apply, Cert.MergeReferenceIdeal.Read.val_main_v21_apply, Cert.MergeReferenceIdeal.Read.val_main_cst_2_apply,
    Cert.MergeReferenceIdeal.Read.val_main_v20_apply, Cert.MergeReferenceIdeal.Read.val_main_v19_apply, Cert.MergeReferenceIdeal.Read.val_main_cst_1_apply,
    Cert.MergeReferenceIdeal.Read.val_main_v18_apply, Cert.MergeReferenceIdeal.Read.val_main_v17_apply, hp]
  show Ideal.div (Ideal.ofBits .f32 0x3F800000#32) (Ideal.ofBits .f32 0x3F800000#32 + Ideal.exp (-(p (ix3 7 r e) : EReal))) = _
  rw [ofBits_one, gate]

/-- The reference's products of the branches. -/
theorem branch_a (a : FVec Ideal ⟨2, ![4096, 1024]⟩ .bf16) (w : FVec Ideal ⟨2, ![1024, 1024]⟩ .bf16) (r : Fin 4096) (e : Fin 1024) :
    Cert.MergeReferenceIdeal.Read.val_main_v2 (F := Ideal) a w (ix2 r e) = ∑ k : Fin 1024, a (ix2 r k) * w (ix2 k e) := by
  rw [Cert.MergeReferenceIdeal.Read.val_main_v2_apply]
  exact Finset.sum_congr rfl fun k _ => congrArg₂ (fun u v : EReal => u * v) (congrArg a (Cert.Weights.at2 rfl rfl))
    (congrArg w (Cert.Weights.at2 rfl rfl))
theorem branch_b (a : FVec Ideal ⟨2, ![4096, 1024]⟩ .bf16) (w : FVec Ideal ⟨2, ![1024, 1024]⟩ .bf16) (r : Fin 4096) (e : Fin 1024) :
    Cert.MergeReferenceIdeal.Read.val_main_v5 (F := Ideal) a w (ix2 r e) = ∑ k : Fin 1024, a (ix2 r k) * w (ix2 k e) := by
  rw [Cert.MergeReferenceIdeal.Read.val_main_v5_apply]
  exact Finset.sum_congr rfl fun k _ => congrArg₂ (fun u v : EReal => u * v) (congrArg a (Cert.Weights.at2 rfl rfl))
    (congrArg w (Cert.Weights.at2 rfl rfl))

/-- The reference's merged branches, at an index. -/
theorem merged_ref (a b : FVec Ideal ⟨2, ![4096, 1024]⟩ .bf16) (p : FVec Ideal ⟨3, ![8, 4096, 1024]⟩ .f32)
    (wa wb : FVec Ideal ⟨2, ![1024, 1024]⟩ .bf16) (r : Fin 4096) (e : Fin 1024) :
    Cert.MergeReferenceIdeal.Read.val_main_v24 (F := Ideal) a b p wa wb (ix2 r e) = merged a b p wa wb r e := by
  rw [Cert.MergeReferenceIdeal.Read.val_main_v24_apply, Cert.MergeReferenceIdeal.Read.val_main_v14_apply,
    Cert.MergeReferenceIdeal.Read.val_main_v23_apply, gate_a, gate_b, branch_a, branch_b]
  rfl

/-- The reference's stream, at an index. -/
theorem next_ref (x : FVec Ideal ⟨2, ![4096, 1024]⟩ .f32) (a b : FVec Ideal ⟨2, ![4096, 1024]⟩ .bf16)
    (p : FVec Ideal ⟨3, ![8, 4096, 1024]⟩ .f32) (wa wb wo : FVec Ideal ⟨2, ![1024, 1024]⟩ .bf16) (r : Fin 4096) (e : Fin 1024) :
    Cert.MergeReferenceIdeal.Read.val_main_v28 (F := Ideal) x a b p wa wb wo (ix2 r e) = next x a b p wa wb wo r e := by
  rw [Cert.MergeReferenceIdeal.Read.val_main_v28_apply, Cert.MergeReferenceIdeal.Read.val_main_v27_apply]
  refine congrArg (fun u : EReal => x (ix2 r e) + u) (Finset.sum_congr rfl fun k _ =>
    congrArg₂ (fun u v : EReal => u * v) ?_ (congrArg wo (Cert.Weights.at2 rfl rfl)))
  exact (congrArg (Cert.MergeReferenceIdeal.Read.val_main_v24 (F := Ideal) a b p wa wb) (Cert.Weights.at2 (r := r) (e := k) rfl rfl)).trans
    (merged_ref a b p wa wb r k)

/-- The merged branches agree. -/
theorem same8 : Cert.MergeReferenceIdeal.Read.val_main_v25 (F := Ideal)
      (m ((c.tc : Thread Cert.MergeIdeal.nD Cert.MergeIdeal.τ).loc Cert.MergeIdeal.main_arg1))
      (m ((c.tc : Thread Cert.MergeIdeal.nD Cert.MergeIdeal.τ).loc Cert.MergeIdeal.main_arg2))
      (m ((c.tc : Thread Cert.MergeIdeal.nD Cert.MergeIdeal.τ).loc Cert.MergeIdeal.main_arg3))
      (m ((c.tc : Thread Cert.MergeIdeal.nD Cert.MergeIdeal.τ).loc Cert.MergeIdeal.main_arg4))
      (m ((c.tc : Thread Cert.MergeIdeal.nD Cert.MergeIdeal.τ).loc Cert.MergeIdeal.main_arg5))
    = (Cert.MergeIdeal.Gen.dats m 0 c).arrAt 8 Cert.MergeIdeal.cfg0.N :=
  funext fun i => by
    obtain ⟨r, e, rfl⟩ : ∃ (r : Fin 4096) (e : Fin 1024), i = ix2 r e := ⟨i 0, i 1, ValueIdx.eq_ix2 i⟩
    exact (Cert.MergeReferenceIdeal.Read.val_main_v25_apply _ _ _ _ _ _).trans ((merged_ref _ _ _ _ _ r e).trans (array8 m c r e).symm)

/-- The streams agree. -/
theorem same9 : Cert.MergeReferenceIdeal.Read.val_main_v28 (F := Ideal)
      (m ((c.tc : Thread Cert.MergeIdeal.nD Cert.MergeIdeal.τ).loc Cert.MergeIdeal.main_arg0))
      (m ((c.tc : Thread Cert.MergeIdeal.nD Cert.MergeIdeal.τ).loc Cert.MergeIdeal.main_arg1))
      (m ((c.tc : Thread Cert.MergeIdeal.nD Cert.MergeIdeal.τ).loc Cert.MergeIdeal.main_arg2))
      (m ((c.tc : Thread Cert.MergeIdeal.nD Cert.MergeIdeal.τ).loc Cert.MergeIdeal.main_arg3))
      (m ((c.tc : Thread Cert.MergeIdeal.nD Cert.MergeIdeal.τ).loc Cert.MergeIdeal.main_arg4))
      (m ((c.tc : Thread Cert.MergeIdeal.nD Cert.MergeIdeal.τ).loc Cert.MergeIdeal.main_arg5))
      (m ((c.tc : Thread Cert.MergeIdeal.nD Cert.MergeIdeal.τ).loc Cert.MergeIdeal.main_arg6))
    = (Cert.MergeIdeal.Gen.dats m 0 c).arrAt 9 Cert.MergeIdeal.cfg0.N :=
  funext fun i => by
    obtain ⟨r, e, rfl⟩ : ∃ (r : Fin 4096) (e : Fin 1024), i = ix2 r e := ⟨i 0, i 1, ValueIdx.eq_ix2 i⟩
    exact (next_ref _ _ _ _ _ _ _ r e).trans (array9 m c r e).symm

/-- Kernel and reference leave the same two results. -/
theorem algebraic : Cert.algebraic_MergeIdeal_MergeReferenceIdeal := by
  intro m ρ m' ρ' _ hag
  refine ⟨fun c => (Cert.MergeIdeal.Gen.dats m 0 c).arrAt 8 Cert.MergeIdeal.cfg0.N,
    fun c => (Cert.MergeIdeal.Gen.dats m 0 c).arrAt 9 Cert.MergeIdeal.cfg0.N, Cert.MergeIdeal.Value.run_blocks m ρ, ?_⟩
  refine (θ_run Cert.MergeReferenceIdeal.defs _ _).mono (fun r h c => ?_) (Cert.MergeReferenceIdeal.Value.run (F := Ideal) m' ρ')
  obtain ⟨a0, a1, a2, a3, a4, a5, a6⟩ := hag c
  obtain ⟨h0, h1, hr⟩ := h c
  have e0 := h0.trans (Cert.MergeReferenceIdeal.Read.val_main_v25_eq _ _ _ _ _)
  have e1 := h1.trans (Cert.MergeReferenceIdeal.Read.val_main_v28_eq _ _ _ _ _ _ _)
  rw [a1, a2, a3, a4, a5] at e0
  rw [a0, a1, a2, a3, a4, a5, a6] at e1
  exact ⟨e0.trans (same8 m c), e1.trans (same9 m c), hr⟩

end Cert.MergeProof

end
-- ==== Proof.Cells.lean ====
/-
  Arrays of extended reals by their entries. `Has2 x f` says that the rank-2 array `x` holds `f r c` at every index
  `(r, c)`; `f` is a function of natural numbers, so that a block of an array is the same function with its arguments
  shifted. One lemma per operation says what it makes of such arrays. Nothing here asks for finite entries.
-/
module

public import proofs.«01_k».proof.Proof.Store
public import proofs.«01_k».proof.Proof.Weights

@[expose] public section

namespace Cert.Cells

open Idealize.ShloMosaic
open scoped BigOperators

variable {φ : FTy} {a b d : ℕ}

/-- The array holds `f r c` at index `(r, c)`. -/
def Has2 (x : FVec Ideal ⟨2, ![a, b]⟩ φ) (f : ℕ → ℕ → EReal) : Prop := ∀ (r : Fin a) (c : Fin b), x (ix2 r c) = f r c
/-- The array holds `f k r c` at index `(k, r, c)`. -/
def Has3 (x : FVec Ideal ⟨3, ![a, b, d]⟩ φ) (f : ℕ → ℕ → ℕ → EReal) : Prop :=
  ∀ (k : Fin a) (r : Fin b) (c : Fin d), x (ix3 k r c) = f k r c

/-- The array holds `f j k r c` at index `(j, k, r, c)`. -/
def Has4 {e : ℕ} (x : FVec Ideal ⟨4, ![a, b, d, e]⟩ φ) (f : ℕ → ℕ → ℕ → ℕ → EReal) : Prop :=
  ∀ (j : Fin a) (k : Fin b) (r : Fin d) (c : Fin e), x (ix4 j k r c) = f j k r c

/-- The element at any index, by its coordinates. -/
theorem Has2.at {x : FVec Ideal ⟨2, ![a, b]⟩ φ} {f : ℕ → ℕ → EReal} (h : Has2 x f) (i : (⟨2, ![a, b]⟩ : Shape).Idx) :
    x i = f (i 0).val (i 1).val := (congrArg x (ValueIdx.eq_ix2 i)).trans (h (i 0) (i 1))
theorem Has3.at {x : FVec Ideal ⟨3, ![a, b, d]⟩ φ} {f : ℕ → ℕ → ℕ → EReal} (h : Has3 x f) (i : (⟨3, ![a, b, d]⟩ : Shape).Idx) :
    x i = f (i 0).val (i 1).val (i 2).val := (congrArg x (ValueIdx.eq_ix3 i)).trans (h (i 0) (i 1) (i 2))
theorem Has4.at {e : ℕ} {x : FVec Ideal ⟨4, ![a, b, d, e]⟩ φ} {f : ℕ → ℕ → ℕ → ℕ → EReal} (h : Has4 x f)
    (i : (⟨4, ![a, b, d, e]⟩ : Shape).Idx) : x i = f (i 0).val (i 1).val (i 2).val (i 3).val :=
  (congrArg x (ValueIdx.eq_ix4 i)).trans (h (i 0) (i 1) (i 2) (i 3))

/-- The entries of an array as a function of natural numbers. -/
noncomputable def entry2 (x : FVec Ideal ⟨2, ![a, b]⟩ φ) (r c : ℕ) : EReal :=
  if h : r < a ∧ c < b then x (ix2 ⟨r, h.1⟩ ⟨c, h.2⟩) else 0
noncomputable def entry3 (x : FVec Ideal ⟨3, ![a, b, d]⟩ φ) (k r c : ℕ) : EReal :=
  if h : k < a ∧ r < b ∧ c < d then x (ix3 ⟨k, h.1⟩ ⟨r, h.2.1⟩ ⟨c, h.2.2⟩) else 0
noncomputable def entry4 {e : ℕ} (x : FVec Ideal ⟨4, ![a, b, d, e]⟩ φ) (j k r c : ℕ) : EReal :=
  if h : j < a ∧ k < b ∧ r < d ∧ c < e then x (ix4 ⟨j, h.1⟩ ⟨k, h.2.1⟩ ⟨r, h.2.2.1⟩ ⟨c, h.2.2.2⟩) else 0

theorem has_entry2 (x : FVec Ideal ⟨2, ![a, b]⟩ φ) : Has2 x (entry2 x) := fun r c =>
  (by unfold entry2; rw [dif_pos (⟨r.isLt, c.isLt⟩ : r.val < a ∧ c.val < b)])
theorem has_entry3 (x : FVec Ideal ⟨3, ![a, b, d]⟩ φ) : Has3 x (entry3 x) := fun k r c =>
  (by unfold entry3; rw [dif_pos (⟨k.isLt, r.isLt, c.isLt⟩ : k.val < a ∧ r.val < b ∧ c.val < d)])
theorem has_entry4 {e : ℕ} (x : FVec Ideal ⟨4, ![a, b, d, e]⟩ φ) : Has4 x (entry4 x) := fun j k r c =>
  (by unfold entry4; rw [dif_pos (⟨j.isLt, k.isLt, r.isLt, c.isLt⟩ : j.val < a ∧ k.val < b ∧ r.val < d ∧ c.val < e)])

namespace Has2
variable {x y : FVec Ideal ⟨2, ![a, b]⟩ φ} {f g : ℕ → ℕ → EReal}

theorem congr (hx : Has2 x f) (e : ∀ r c, r < a → c < b → f r c = g r c) : Has2 x g :=
  fun r c => (hx r c).trans (e r c r.isLt c.isLt)
theorem addf (hx : Has2 x f) (hy : Has2 y g) : Has2 (Idealize.ShloMosaic.addf x y) (fun r c => f r c + g r c) :=
  fun r c => congrArg₂ (fun u v : EReal => u + v) (hx r c) (hy r c)
theorem subf (hx : Has2 x f) (hy : Has2 y g) : Has2 (Idealize.ShloMosaic.subf x y) (fun r c => f r c - g r c) :=
  fun r c => congrArg₂ (fun u v : EReal => u - v) (hx r c) (hy r c)
theorem mulf (hx : Has2 x f) (hy : Has2 y g) : Has2 (Idealize.ShloMosaic.mulf x y) (fun r c => f r c * g r c) :=
  fun r c => congrArg₂ (fun u v : EReal => u * v) (hx r c) (hy r c)
theorem divf (hx : Has2 x f) (hy : Has2 y g) : Has2 (Idealize.ShloMosaic.divf x y) (fun r c => Ideal.div (f r c) (g r c)) :=
  fun r c => congrArg₂ Ideal.div (hx r c) (hy r c)
theorem tanh (hx : Has2 x f) : Has2 (Idealize.ShloMosaic.tanh x) (fun r c => Ideal.tanh (f r c)) :=
  fun r c => congrArg Ideal.tanh (hx r c)
theorem rsqrt (hx : Has2 x f) : Has2 (Idealize.ShloMosaic.rsqrt x) (fun r c => Ideal.rsqrt (f r c)) :=
  fun r c => congrArg Ideal.rsqrt (hx r c)
theorem sqrt (hx : Has2 x f) : Has2 (Idealize.ShloMosaic.sqrt x) (fun r c => Ideal.sqrt (f r c)) :=
  fun r c => congrArg Ideal.sqrt (hx r c)
theorem truncf (ψ : FTy) (hx : Has2 x f) (h : ψ.bits < φ.bits) : Has2 (Idealize.ShloMosaic.truncf ψ x h) f :=
  fun r c => hx r c

/-- A splat. -/
theorem splat (v : Ideal φ) : Has2 (broadcast (⟨2, ![a, b]⟩ : Shape) v : FVec Ideal ⟨2, ![a, b]⟩ φ) (fun _ _ => v) :=
  fun _ _ => rfl

/-- A block at unit strides. -/
theorem slice {a' b' o p : ℕ} (hx : Has2 x f) (h : (⟨2, ![a, b]⟩ : Shape).Slices ![o, p] ⟨2, ![a', b']⟩) :
    Has2 (φ := φ) (extractStridedSlice ⟨2, ![a', b']⟩ ![o, p] x h) (fun r c => f (o + r) (p + c)) := by
  intro r c
  have h0 : o + a' ≤ a := h.2 0
  have h1 : p + b' ≤ b := h.2 1
  rw [extractStridedSlice_apply ![o, p] x h (ix2 r c) (ix2 ⟨o + r, by omega⟩ ⟨p + c, by omega⟩)
    (fun k => match k with | ⟨0, _⟩ => rfl | ⟨1, _⟩ => rfl)]
  exact hx _ _

/-- A cast to the same shape. -/
theorem cast (hx : Has2 x f) (h : (⟨2, ![a, b]⟩ : Shape).ShapeCasts ⟨2, ![a, b]⟩) :
    Has2 (φ := φ) (shapeCast ⟨2, ![a, b]⟩ x h) f := by
  rw [shapeCast_self]; exact hx

/-- One row repeated down the rows. -/
theorem down {x : FVec Ideal ⟨2, ![1, b]⟩ φ} (hx : Has2 x f) (hb : b ≠ 1) (h : (⟨2, ![1, b]⟩ : Shape).Broadcasts ⟨2, ![a, b]⟩) :
    Has2 (φ := φ) (broadcastTo ⟨2, ![a, b]⟩ x h) (fun _ c => f 0 c) := by
  intro r c
  rw [broadcastTo_apply x h (ix2 r c) (ix2 0 c) (fun k => match k with
    | ⟨0, _⟩ => by show 0 = if (1 : ℕ) = 1 then 0 else _; rw [if_pos rfl]
    | ⟨1, _⟩ => by show c.val = if b = 1 then 0 else c.val; rw [if_neg hb])]
  exact hx 0 c

/-- One column repeated along the columns. -/
theorem along {x : FVec Ideal ⟨2, ![a, 1]⟩ φ} (hx : Has2 x f) (ha : a ≠ 1) (h : (⟨2, ![a, 1]⟩ : Shape).Broadcasts ⟨2, ![a, b]⟩) :
    Has2 (φ := φ) (broadcastTo ⟨2, ![a, b]⟩ x h) (fun r _ => f r 0) := by
  intro r c
  rw [broadcastTo_apply x h (ix2 r c) (ix2 r 0) (fun k => match k with
    | ⟨0, _⟩ => by show r.val = if a = 1 then 0 else r.val; rw [if_neg ha]
    | ⟨1, _⟩ => by show 0 = if (1 : ℕ) = 1 then 0 else _; rw [if_pos rfl])]
  exact hx r 0

/-- The sum along each row, kept as a column. -/
theorem rowSum {x : FVec Ideal ⟨2, ![a, b]⟩ .f32} (hx : Has2 x f) (h : (⟨2, ![a, b]⟩ : Shape).Reduces [1] ⟨1, ![a]⟩)
    (hφ : FKind.Formats .f32) (hacc : 0x00000000#32 = FKind.add.neutral .f32 hφ)
    (hs : (⟨1, ![a]⟩ : Shape).ShapeCasts ⟨2, ![a, 1]⟩) :
    Has2 (φ := .f32) (shapeCast ⟨2, ![a, 1]⟩ (multiReduction .add [1] ⟨1, ![a]⟩ x 0x00000000#32 h hφ hacc) hs)
      (fun r _ => ∑ k ∈ Finset.range b, f r k) := by
  intro r c
  obtain rfl : c = 0 := Subsingleton.elim _ _
  rw [shapeCast_apply _ hs (ix2 r 0) (ix1 r) (by
    rw [Shape.rowMajor_val_two, Shape.rowMajor_val_one]; show r.val = r.val * 1 + 0; omega)]
  show Ideal.reduceAdd h x (ix1 r) = _
  rw [Ideal.reduceAdd_r2_a1]
  refine Eq.trans ?_ (Finset.sum_range (f r)).symm
  exact Finset.sum_congr rfl fun k _ => hx _ k

/-- A product into zero. -/
theorem matmul {φ₁ φ₂ : FTy} {M K N : ℕ} {x : FVec Ideal ⟨2, ![M, K]⟩ φ₁} {y : FVec Ideal ⟨2, ![K, N]⟩ φ₂}
    (hx : Has2 x f) (hy : Has2 y g) (prec : Option ContractPrecision) :
    Has2 (φ := .f32) (FloatOps.matmul (DotDims.plain M K N) prec x y (constant ⟨2, ![M, N]⟩ .f32 0x00000000#32))
      (fun r c => ∑ k ∈ Finset.range K, f r k * g k c) := by
  intro r c
  refine (Ideal.matmul_plain_apply prec x y _ r c).trans ?_
  refine (congrArg (· + _) Ideal.ofBits_zero_f32).trans ((zero_add _).trans ?_)
  refine Eq.trans ?_ (Finset.sum_range (fun k => f r k * g k c)).symm
  exact Finset.sum_congr rfl fun k _ => congrArg₂ (fun u v : EReal => u * v) (hx r k) (hy k c)

/-- Four arrays of `w` columns each side by side. -/
theorem beside {w : ℕ} {x₀ x₁ x₂ x₃ : FVec Ideal ⟨2, ![a, w]⟩ φ} (hw : 0 < w) (hf : ∀ i : Fin 4,
      Has2 (![x₀, x₁, x₂, x₃] i) (fun r c => f r (w * i.val + c)))
    (h : Shape.Concatenates [(⟨2, ![a, w]⟩ : Shape), ⟨2, ![a, w]⟩, ⟨2, ![a, w]⟩, ⟨2, ![a, w]⟩] ⟨2, ![a, b]⟩ 1) :
    Has2 (φ := φ) (concatenate ⟨2, ![a, b]⟩ 1
      [⟨⟨2, ![a, w]⟩, x₀⟩, ⟨⟨2, ![a, w]⟩, x₁⟩, ⟨⟨2, ![a, w]⟩, x₂⟩, ⟨⟨2, ![a, w]⟩, x₃⟩] h) f := by
  intro r c
  have hb : w + (w + (w + w)) = b := by have := h.2.2; simpa using this
  have hc := c.isLt
  have hd := Nat.div_add_mod c.val w
  have hm := Nat.mod_lt c.val hw
  have hk : c.val / w < 4 := by
    rw [Nat.div_lt_iff_lt_mul hw]; omega
  have key : ∀ i : Fin 4, i.val = c.val / w → ∀ pre : ℕ, pre = w * i.val →
      (![x₀, x₁, x₂, x₃] i) (ix2 r ⟨c.val % w, hm⟩) = f r c := by
    intro i hi pre hp
    refine (hf i r ⟨c.val % w, hm⟩).trans (congrArg (f r) ?_)
    show w * i.val + c.val % w = c.val
    rw [hi]; exact hd
  have off : ∀ k : Fin 2, k.cast rfl ≠ (1 : Fin 2) → ((ix2 r ⟨c.val % w, hm⟩ : (⟨2, ![a, w]⟩ : Shape).Idx) k).val = ((ix2 r c : (⟨2, ![a, b]⟩ : Shape).Idx) (k.cast rfl)).val :=
    fun k hk => match k, hk with | ⟨0, _⟩, _ => rfl | ⟨1, _⟩, hk => absurd rfl hk
  obtain ⟨q, hq⟩ : ∃ q, c.val / w = q := ⟨_, rfl⟩
  rw [hq] at hk hd key
  match q, hk with
  | 0, _ => exact (concatenate_apply_piece 1 [⟨⟨2, ![a, w]⟩, x₀⟩, ⟨⟨2, ![a, w]⟩, x₁⟩, ⟨⟨2, ![a, w]⟩, x₂⟩, ⟨⟨2, ![a, w]⟩, x₃⟩] h (ix2 r c) 0 (by simp) ⟨2, ![a, w]⟩ x₀ rfl rfl (w * 0) (by simp) (ix2 r ⟨c.val % w, hm⟩)
      off hd).trans (key 0 rfl _ rfl)
  | 1, _ => exact (concatenate_apply_piece 1 [⟨⟨2, ![a, w]⟩, x₀⟩, ⟨⟨2, ![a, w]⟩, x₁⟩, ⟨⟨2, ![a, w]⟩, x₂⟩, ⟨⟨2, ![a, w]⟩, x₃⟩] h (ix2 r c) 1 (by simp) ⟨2, ![a, w]⟩ x₁ rfl rfl (w * 1) (by simp) (ix2 r ⟨c.val % w, hm⟩)
      off hd).trans (key 1 rfl _ rfl)
  | 2, _ => exact (concatenate_apply_piece 1 [⟨⟨2, ![a, w]⟩, x₀⟩, ⟨⟨2, ![a, w]⟩, x₁⟩, ⟨⟨2, ![a, w]⟩, x₂⟩, ⟨⟨2, ![a, w]⟩, x₃⟩] h (ix2 r c) 2 (by simp) ⟨2, ![a, w]⟩ x₂ rfl rfl (w * 2) (by simp; omega) (ix2 r ⟨c.val % w, hm⟩)
      off hd).trans (key 2 rfl _ rfl)
  | 3, _ => exact (concatenate_apply_piece 1 [⟨⟨2, ![a, w]⟩, x₀⟩, ⟨⟨2, ![a, w]⟩, x₁⟩, ⟨⟨2, ![a, w]⟩, x₂⟩, ⟨⟨2, ![a, w]⟩, x₃⟩] h (ix2 r c) 3 (by simp) ⟨2, ![a, w]⟩ x₃ rfl rfl (w * 3) (by simp; omega) (ix2 r ⟨c.val % w, hm⟩)
      off hd).trans (key 3 rfl _ rfl)

/-- Four arrays of `w` rows each one above the next. -/
theorem above {w : ℕ} {x₀ x₁ x₂ x₃ : FVec Ideal ⟨2, ![w, b]⟩ φ} (hw : 0 < w) (hf : ∀ i : Fin 4,
      Has2 (![x₀, x₁, x₂, x₃] i) (fun r c => f (w * i.val + r) c))
    (h : Shape.Concatenates [(⟨2, ![w, b]⟩ : Shape), ⟨2, ![w, b]⟩, ⟨2, ![w, b]⟩, ⟨2, ![w, b]⟩] ⟨2, ![a, b]⟩ 0) :
    Has2 (φ := φ) (concatenate ⟨2, ![a, b]⟩ 0
      [⟨⟨2, ![w, b]⟩, x₀⟩, ⟨⟨2, ![w, b]⟩, x₁⟩, ⟨⟨2, ![w, b]⟩, x₂⟩, ⟨⟨2, ![w, b]⟩, x₃⟩] h) f := by
  intro r c
  have hb : w + (w + (w + w)) = a := by have := h.2.2; simpa using this
  have hc := r.isLt
  have hd := Nat.div_add_mod r.val w
  have hm := Nat.mod_lt r.val hw
  have hk : r.val / w < 4 := by
    rw [Nat.div_lt_iff_lt_mul hw]; omega
  have key : ∀ i : Fin 4, i.val = r.val / w → ∀ pre : ℕ, pre = w * i.val →
      (![x₀, x₁, x₂, x₃] i) (ix2 ⟨r.val % w, hm⟩ c) = f r c := by
    intro i hi pre hp
    refine (hf i ⟨r.val % w, hm⟩ c).trans (congrArg (f · c) ?_)
    show w * i.val + r.val % w = r.val
    rw [hi]; exact hd
  have off : ∀ k : Fin 2, k.cast rfl ≠ (0 : Fin 2) → ((ix2 ⟨r.val % w, hm⟩ c : (⟨2, ![w, b]⟩ : Shape).Idx) k).val = ((ix2 r c : (⟨2, ![a, b]⟩ : Shape).Idx) (k.cast rfl)).val :=
    fun k hk => match k, hk with | ⟨1, _⟩, _ => rfl | ⟨0, _⟩, hk => absurd rfl hk
  obtain ⟨q, hq⟩ : ∃ q, r.val / w = q := ⟨_, rfl⟩
  rw [hq] at hk hd key
  match q, hk with
  | 0, _ => exact (concatenate_apply_piece 0 [⟨⟨2, ![w, b]⟩, x₀⟩, ⟨⟨2, ![w, b]⟩, x₁⟩, ⟨⟨2, ![w, b]⟩, x₂⟩, ⟨⟨2, ![w, b]⟩, x₃⟩] h (ix2 r c) 0 (by simp) ⟨2, ![w, b]⟩ x₀ rfl rfl (w * 0) (by simp) (ix2 ⟨r.val % w, hm⟩ c)
      off hd).trans (key 0 rfl _ rfl)
  | 1, _ => exact (concatenate_apply_piece 0 [⟨⟨2, ![w, b]⟩, x₀⟩, ⟨⟨2, ![w, b]⟩, x₁⟩, ⟨⟨2, ![w, b]⟩, x₂⟩, ⟨⟨2, ![w, b]⟩, x₃⟩] h (ix2 r c) 1 (by simp) ⟨2, ![w, b]⟩ x₁ rfl rfl (w * 1) (by simp) (ix2 ⟨r.val % w, hm⟩ c)
      off hd).trans (key 1 rfl _ rfl)
  | 2, _ => exact (concatenate_apply_piece 0 [⟨⟨2, ![w, b]⟩, x₀⟩, ⟨⟨2, ![w, b]⟩, x₁⟩, ⟨⟨2, ![w, b]⟩, x₂⟩, ⟨⟨2, ![w, b]⟩, x₃⟩] h (ix2 r c) 2 (by simp) ⟨2, ![w, b]⟩ x₂ rfl rfl (w * 2) (by simp; omega) (ix2 ⟨r.val % w, hm⟩ c)
      off hd).trans (key 2 rfl _ rfl)
  | 3, _ => exact (concatenate_apply_piece 0 [⟨⟨2, ![w, b]⟩, x₀⟩, ⟨⟨2, ![w, b]⟩, x₁⟩, ⟨⟨2, ![w, b]⟩, x₂⟩, ⟨⟨2, ![w, b]⟩, x₃⟩] h (ix2 r c) 3 (by simp) ⟨2, ![w, b]⟩ x₃ rfl rfl (w * 3) (by simp; omega) (ix2 ⟨r.val % w, hm⟩ c)
      off hd).trans (key 3 rfl _ rfl)

/-! The host's operations. -/

theorem hdivf (hx : Has2 x f) (hy : Has2 y g) : Has2 (Host.divf x y) (fun r c => Ideal.div (f r c) (g r c)) :=
  fun r c => congrArg₂ Ideal.div (hx r c) (hy r c)
theorem htanh (hx : Has2 x f) : Has2 (Host.tanh x) (fun r c => Ideal.tanh (f r c)) := fun r c => congrArg Ideal.tanh (hx r c)
theorem hrsqrt (hx : Has2 x f) : Has2 (Host.rsqrt x) (fun r c => Ideal.rsqrt (f r c)) := fun r c => congrArg Ideal.rsqrt (hx r c)
theorem hsqrt (hx : Has2 x f) : Has2 (Host.sqrt x) (fun r c => Ideal.sqrt (f r c)) := fun r c => congrArg Ideal.sqrt (hx r c)
theorem hsplat (w : BitVec φ.bits) (hb : (⟨0, ![]⟩ : Shape).BroadcastsInDim ⟨2, ![a, b]⟩ ![]) :
    Has2 (φ := φ) (broadcastInDim ⟨2, ![a, b]⟩ ![] hb (constant (F := Ideal) (⟨0, ![]⟩ : Shape) φ w)) (fun _ _ => Ideal.ofBits φ w) :=
  fun r c => broadcastInDim_apply _ hb _ (ix2 r c) ix0 (fun k => k.elim0)

end Has2

/-- A sum onto zero. -/
theorem sum_onto {n : ℕ} {g : Fin n → EReal} (f : ℕ → EReal) (h : ∀ k : Fin n, g k = f k) :
    Ideal.ofBits .f32 0x00000000#32 + ∑ k : Fin n, g k = ∑ k ∈ Finset.range n, f k := by
  rw [Ideal.ofBits_zero_f32, zero_add]
  exact (Finset.sum_congr rfl fun k _ => h k).trans (Finset.sum_range f).symm

/-- The one block of an array with a leading unit axis. -/
theorem Has3.dropUnit {x : FVec Ideal ⟨3, ![1, a, b]⟩ φ} {f : ℕ → ℕ → ℕ → EReal} (hx : Has3 x f)
    (h : (⟨3, ![1, a, b]⟩ : Shape).ShapeCasts ⟨2, ![a, b]⟩) : Has2 (φ := φ) (shapeCast ⟨2, ![a, b]⟩ x h) (f 0) := by
  intro r c
  rw [shapeCast_apply x h (ix2 r c) (ix3 0 r c) (by
    rw [Shape.rowMajor_val_two, Shape.rowMajor_val_three]; show (0 * a + r.val) * b + c.val = r.val * b + c.val; rw [Nat.zero_mul, Nat.zero_add])]
  exact hx 0 r c

/-! ## Loads -/

section loads
variable {sig : RefSig} {κ : Kind} {sp : Space} {n : ℕ} {f : ℕ → ℕ → EReal} {h : ℕ → ℕ → ℕ → EReal}

/-- The whole of a block with one leading index. -/
theorem load_one {M : Memref sig κ sp ⟨3, ![1, a, b]⟩ .f32} (hM : M.IsWhole) {x : Vec Ideal ⟨3, ![1, a, b]⟩ .f32}
    (hx : Has3 (φ := .f32) x h)
    (inb : ∀ k, (![0, 0, 0] : Fin 3 → ℕ) k + (![1, a, b] : Fin 3 → ℕ) k ≤ (![1, a, b] : Fin 3 → ℕ) k) :
    Has3 (φ := .f32) (a := 1) (b := a) (d := b)
      (View.readAt (Elt Ideal) M.view (Rect.unit (s := ⟨3, ![1, a, b]⟩) ![0, 0, 0] ![1, a, b] inb).toLoadRect (hM.unread x)) h :=
  fun k r c => (Cert.Gmlp.load_apply hM x ![0, 0, 0] ![1, a, b] inb (ix3 k r c) (ix3 k r c)
    (fun i => match i with
      | ⟨0, _⟩ => (Nat.zero_add _).symm | ⟨1, _⟩ => (Nat.zero_add _).symm | ⟨2, _⟩ => (Nat.zero_add _).symm)).trans (hx k r c)

/-- The whole of a rank-2 block. -/
theorem load_whole {M : Memref sig κ sp ⟨2, ![a, b]⟩ .f32} (hM : M.IsWhole) {x : Vec Ideal ⟨2, ![a, b]⟩ .f32} (hx : Has2 (φ := .f32) x f)
    (inb : ∀ k, (![0, 0] : Fin 2 → ℕ) k + (![a, b] : Fin 2 → ℕ) k ≤ (![a, b] : Fin 2 → ℕ) k) :
    Has2 (φ := .f32) (a := a) (b := b)
      (View.readAt (Elt Ideal) M.view (Rect.unit (s := ⟨2, ![a, b]⟩) ![0, 0] ![a, b] inb).toLoadRect (hM.unread x)) f :=
  fun r c => (Cert.Gmlp.load_apply hM x ![0, 0] ![a, b] inb (ix2 r c) (ix2 r c)
    (fun i => match i with | ⟨0, _⟩ => (Nat.zero_add _).symm | ⟨1, _⟩ => (Nat.zero_add _).symm)).trans (hx r c)

/-- Column `n` of a rank-2 block. -/
theorem load_col {M : Memref sig κ sp ⟨2, ![a, b]⟩ .f32} (hM : M.IsWhole) {x : Vec Ideal ⟨2, ![a, b]⟩ .f32} (hx : Has2 (φ := .f32) x f)
    (inb : ∀ k, (![0, n] : Fin 2 → ℕ) k + (![a, 1] : Fin 2 → ℕ) k ≤ (![a, b] : Fin 2 → ℕ) k) :
    Has2 (φ := .f32) (a := a) (b := 1)
      (View.readAt (Elt Ideal) M.view (Rect.unit (s := ⟨2, ![a, b]⟩) ![0, n] ![a, 1] inb).toLoadRect (hM.unread x))
      (fun r _ => f r n) := by
  intro r c
  have h1 : n + 1 ≤ b := inb 1
  obtain rfl : c = 0 := Subsingleton.elim _ _
  exact (Cert.Gmlp.load_apply hM x ![0, n] ![a, 1] inb (ix2 r 0) (ix2 r ⟨n, by omega⟩)
    (fun i => match i with | ⟨0, _⟩ => (Nat.zero_add _).symm | ⟨1, _⟩ => (Nat.add_zero _).symm)).trans (hx r ⟨n, by omega⟩)

/-- Slab `n` of a rank-3 block. -/
theorem load_slab {M : Memref sig κ sp ⟨3, ![d, a, b]⟩ .bf16} (hM : M.IsWhole) {x : Vec Ideal ⟨3, ![d, a, b]⟩ .bf16} (hx : Has3 (φ := .bf16) x h)
    (inb : ∀ k, (![n, 0, 0] : Fin 3 → ℕ) k + (![1, a, b] : Fin 3 → ℕ) k ≤ (![d, a, b] : Fin 3 → ℕ) k) :
    Has3 (φ := .bf16) (a := 1) (b := a) (d := b)
      (View.readAt (Elt Ideal) M.view (Rect.unit (s := ⟨3, ![d, a, b]⟩) ![n, 0, 0] ![1, a, b] inb).toLoadRect (hM.unread x))
      (fun _ => h n) := by
  intro k r c
  have h1 : n + 1 ≤ d := inb 0
  obtain rfl : k = 0 := Subsingleton.elim _ _
  exact (Cert.Gmlp.load_apply hM x ![n, 0, 0] ![1, a, b] inb (ix3 0 r c) (ix3 ⟨n, by omega⟩ r c)
    (fun i => match i with
      | ⟨0, _⟩ => (Nat.add_zero _).symm | ⟨1, _⟩ => (Nat.zero_add _).symm | ⟨2, _⟩ => (Nat.zero_add _).symm)).trans (hx ⟨n, by omega⟩ r c)
end loads

/-! ## Stores of 128 columns each -/

section columns
variable {R n : ℕ} {F : ℕ → ℕ → EReal}

/-- The stores leave `F` on the first `n` columns. -/
def Filled (L : List (View.Piece (Elt Ideal) ⟨2, ![R, 1024]⟩ .f32)) (n : ℕ) (F : ℕ → ℕ → EReal) : Prop :=
  ∀ (r : Fin R) (c : Fin 1024), c.val < n → (View.canon L (ix2 r c) : EReal) = F r c

theorem Filled.none : Filled ([] : List (View.Piece (Elt Ideal) ⟨2, ![R, 1024]⟩ .f32)) 0 F := fun _ _ h => absurd h (Nat.not_lt_zero _)

theorem Filled.cons {L : List (View.Piece (Elt Ideal) ⟨2, ![R, 1024]⟩ .f32)} (hL : Filled L n F)
    (inb : ∀ k, (![0, n] : Fin 2 → ℕ) k + (![R, 128] : Fin 2 → ℕ) k ≤ (![R, 1024] : Fin 2 → ℕ) k)
    {w : FVec Ideal ⟨2, ![R, 128]⟩ .f32} (hw : Has2 w (fun r c => F r (n + c))) :
    Filled ((⟨Rect.unit (s := ⟨2, ![R, 1024]⟩) ![0, n] ![R, 128] inb, w⟩ : View.Piece (Elt Ideal) ⟨2, ![R, 1024]⟩ .f32) :: L) (n + 128) F := by
  intro r c hc
  by_cases hn : c.val < n
  · exact (Cert.Gmlp.canon_skip (Cert.Gmlp.col_not_mem inb (.inl hn))).trans (hL r c hn)
  · have e : (ix2 r c : (⟨2, ![R, 1024]⟩ : Shape).Idx)
        = (Rect.unit (s := ⟨2, ![R, 1024]⟩) ![0, n] ![R, 128] inb).emb (ix2 r ⟨c.val - n, by omega⟩) := by
      funext k
      refine Fin.ext ?_
      rw [Rect.emb_apply]
      match k with
      | ⟨0, _⟩ => show r.val = 0 + 1 * r.val; omega
      | ⟨1, _⟩ => show c.val = n + 1 * (c.val - n); omega
    rw [e, View.canon_cons_emb]
    refine (hw r ⟨c.val - n, by omega⟩).trans ?_
    show F r (n + (c.val - n)) = _
    rw [Nat.add_sub_cancel' (Nat.le_of_not_lt hn)]

/-- The whole buffer read back. -/
theorem Filled.read {sig : RefSig} {κ : Kind} {sp : Space} {v : View sig κ sp ⟨2, ![R, 1024]⟩ .f32}
    {L : List (View.Piece (Elt Ideal) ⟨2, ![R, 1024]⟩ .f32)} (hL : Filled L 1024 F)
    (inb : ∀ k, (![0, 0] : Fin 2 → ℕ) k + (![R, 1024] : Fin 2 → ℕ) k ≤ (![R, 1024] : Fin 2 → ℕ) k) :
    Has2 (φ := .f32) (a := R) (b := 1024) (v.readCov L (Rect.unit (s := ⟨2, ![R, 1024]⟩) ![0, 0] ![R, 1024] inb).toLoadRect) F := by
  intro r c
  rw [View.readCov_eq_canon']
  refine (congrArg (View.canon L) ?_).trans (hL r c c.isLt)
  funext k
  refine Fin.ext ?_
  match k with
  | ⟨0, _⟩ => show 0 + 1 * r.val = r.val; omega
  | ⟨1, _⟩ => show 0 + 1 * c.val = c.val; omega

/-- One store of the whole buffer. -/
theorem stored_apply {sig : RefSig} {κ : Kind} {sp : Space} {e : EltTy} {v : View sig κ sp ⟨2, ![a, b]⟩ e} (inb)
    (w : (⟨2, ![a, b]⟩ : Shape).Idx → Elt Ideal e) (r : Fin a) (c : Fin b) :
    (v.read (Elt Ideal) (v.writes (Elt Ideal) v.junk
      [(⟨Rect.unit (s := ⟨2, ![a, b]⟩) ![0, 0] ![a, b] inb, w⟩ : View.Piece (Elt Ideal) ⟨2, ![a, b]⟩ e)])) (ix2 r c) = w (ix2 r c) := by
  rw [View.read_writes_junk_eq_canon]
  have e : (ix2 r c : (⟨2, ![a, b]⟩ : Shape).Idx)
      = (Rect.unit (s := ⟨2, ![a, b]⟩) ![0, 0] ![a, b] inb).emb (ix2 r c) := by
    funext k
    refine Fin.ext ?_
    rw [Rect.emb_apply]
    match k with
    | ⟨0, _⟩ => show r.val = 0 + 1 * r.val; omega
    | ⟨1, _⟩ => show c.val = 0 + 1 * c.val; omega
  rw [e, View.canon_cons_emb]
  exact congrArg w e
theorem stored {sig : RefSig} {κ : Kind} {sp : Space} {v : View sig κ sp ⟨2, ![a, b]⟩ .bf16} (inb) {w : FVec Ideal ⟨2, ![a, b]⟩ .bf16}
    {f : ℕ → ℕ → EReal} (hw : Has2 w f) :
    Has2 (φ := .bf16) (v.read (Elt Ideal) (v.writes (Elt Ideal) v.junk
      [(⟨Rect.unit (s := ⟨2, ![a, b]⟩) ![0, 0] ![a, b] inb, w⟩ : View.Piece (Elt Ideal) ⟨2, ![a, b]⟩ .bf16)])) f :=
  fun r c => (stored_apply (v := v) inb w r c).trans (hw r c)
theorem stored_wide {sig : RefSig} {κ : Kind} {sp : Space} {v : View sig κ sp ⟨2, ![a, b]⟩ .f32} (inb) {w : FVec Ideal ⟨2, ![a, b]⟩ .f32}
    {f : ℕ → ℕ → EReal} (hw : Has2 w f) :
    Has2 (φ := .f32) (v.read (Elt Ideal) (v.writes (Elt Ideal) v.junk
      [(⟨Rect.unit (s := ⟨2, ![a, b]⟩) ![0, 0] ![a, b] inb, w⟩ : View.Piece (Elt Ideal) ⟨2, ![a, b]⟩ .f32)])) f :=
  fun r c => (stored_apply (v := v) inb w r c).trans (hw r c)

end columns

end Cert.Cells
-- ==== Proof.GatingResult.lean ====
/-
  What the spatial gating's call leaves, block by block: the activation of the first projection times the mixed and
  shifted rows of the normalised second one.
-/
module

public import proofs.«01_k».proof.Proof.Cells
public import proofs.«01_k».proof.Proof.HostArr
public import proofs.«01_k».proof.Proof.Gen.GatingIdeal.Value
public import Idealize.ShloMosaic.Lib.StableHlo.ReadAt

@[expose] public section

noncomputable section

namespace Cert.GatingProof

open Idealize.ShloMosaic Idealize.ShloMosaic.TcCoe Cert.GatingIdeal Cert.GatingIdeal.Gen
  Cert.GatingIdeal.Value Cert.Cells
open scoped BigOperators

/-- What the gating takes: two projections, the layer norm's scale and shift, the masked mixing weights of the eight
    head groups, and their bias by position and group. -/
structure Inp where
  u : ℕ → ℕ → EReal
  v : ℕ → ℕ → EReal
  lg : ℕ → EReal
  lb : ℕ → EReal
  w : ℕ → ℕ → ℕ → EReal
  b : ℕ → ℕ → EReal

namespace Inp

/-- The tanh form of the Gaussian error linear unit. -/
def gelu (x : EReal) : EReal :=
  (Ideal.ofBits .f32 0x3F000000#32 * x) * (Ideal.ofBits .f32 0x3F800000#32
    + Ideal.tanh (Ideal.ofBits .f32 0x3F4C422A#32 * (x + Ideal.ofBits .f32 0x3D372713#32 * x * x * x)))

/-- A row's mean. -/
def mean (f : ℕ → ℕ → EReal) (r : ℕ) : EReal := Ideal.div (∑ k ∈ Finset.range 1024, f r k) (Ideal.ofBits .f32 0x44800000#32)

variable (p : Inp)

def centred (r c : ℕ) : EReal := gelu (p.v r c) - mean (fun r c => gelu (p.v r c)) r
def variance (r : ℕ) : EReal := mean (fun r c => p.centred r c * p.centred r c) r
def normed (r c : ℕ) : EReal := p.centred r c * Ideal.rsqrt (p.variance r + Ideal.ofBits .f32 0x358637BD#32) * p.lg c + p.lb c
/-- Position `r % 128` of window `r / 128`, mixed over the window's 128 positions. -/
def mixed (r c : ℕ) : EReal :=
  (∑ k ∈ Finset.range 128, p.w (c / 128) (r % 128) k * p.normed (128 * (r / 128) + k) c) + p.b (r % 128) (c / 128)
def out (r c : ℕ) : EReal := gelu (p.u r c) * p.mixed r c

/-- The rows from `512 t` on. -/
def at_ (t : ℕ) : Inp where
  u r c := p.u (512 * t + r) c
  v r c := p.v (512 * t + r) c
  lg := p.lg
  lb := p.lb
  w := p.w
  b := p.b

/-- The rows of a block lie in its own windows. -/
theorem out_at (t r c : ℕ) : (p.at_ t).out r c = p.out (512 * t + r) c := by
  have h0 : (512 * t + r) % 128 = r % 128 := by omega
  have h1 : ∀ k, 128 * ((512 * t + r) / 128) + k = 512 * t + (128 * (r / 128) + k) := fun k => by omega
  show gelu (p.u (512 * t + r) c) * _ = gelu (p.u (512 * t + r) c) * _
  unfold mixed
  simp only [h0, h1]
  rfl

end Inp

/-! ## The values one point computes -/

section values
variable {p : Inp}

/-- The activation of a block. -/
theorem has_gelu {x : FVec Ideal ⟨2, ![512, 1024]⟩ .f32} {f : ℕ → ℕ → EReal} (hx : Has2 x f) :
    Has2 (φ := .f32) (mulf (mulf (broadcast S512x1024 (Scalar.ofBits (F := Ideal) .f32 0x3F000000#32)) x)
        (addf (broadcast S512x1024 (Scalar.ofBits (F := Ideal) .f32 0x3F800000#32))
          (tanh (mulf (broadcast S512x1024 (Scalar.ofBits (F := Ideal) .f32 0x3F4C422A#32))
            (addf x (mulf (mulf (mulf (broadcast S512x1024 (Scalar.ofBits (F := Ideal) .f32 0x3D372713#32)) x) x) x))))))
      (fun r c => Inp.gelu (f r c)) :=
  ((Has2.splat _).mulf hx).mulf ((Has2.splat _).addf ((Has2.splat _).mulf (hx.addf ((((Has2.splat _).mulf hx).mulf hx).mulf hx))).tanh)

theorem has_pay3 {x : Vec Ideal S1x512x1024 .f32} (hx : Has3 (φ := .f32) x (fun _ => p.u)) :
    Has2 (k0_pay3 x) (fun r c => Inp.gelu (p.u r c)) := by
  unfold k0_pay3; dsimp only
  exact has_gelu (hx.dropUnit _)

theorem has_pay4 {x : Vec Ideal S1x512x1024 .f32} (hx : Has3 (φ := .f32) x (fun _ => p.v)) : Has2 (k0_pay4 x) p.centred := by
  have hg := has_gelu (hx.dropUnit shapeCasts_S1x512x1024_S512x1024)
  unfold k0_pay4; dsimp only
  exact hg.subf (((hg.rowSum _ _ _ _).divf (Has2.splat _)).along (by decide) _)

theorem has_pay5 {x : Vec Ideal S1x512x1024 .f32} (hx : Has3 (φ := .f32) x (fun _ => p.v)) :
    Has2 (k0_pay5 x) (fun r _ => p.variance r) := by
  have hc := has_pay4 hx
  unfold k0_pay5; dsimp only
  exact ((hc.mulf hc).rowSum _ _ _ _).divf (Has2.splat _)

theorem has_pay6 {x : FVec Ideal S512x1024 .f32} {y : FVec Ideal S512x1 .f32} {g b : Vec Ideal S1x1024 .f32}
    (hx : Has2 x p.centred) (hy : Has2 y (fun r _ => p.variance r)) (hg : Has2 (φ := .f32) g (fun _ => p.lg))
    (hb : Has2 (φ := .f32) b (fun _ => p.lb)) : Has2 (k0_pay6 x y g b) p.normed := by
  unfold k0_pay6; dsimp only
  exact Has2.truncf _ (((hx.mulf ((hy.addf (Has2.splat _)).rsqrt.along (by decide) _)).mulf (hg.down (by decide) _)).addf
    (hb.down (by decide) _)) _

/-- The four windows of a block side by side. -/
theorem tiles {y : FVec Ideal S512x128 .bf16} {f : ℕ → ℕ → EReal} (hy : Has2 y f) :
    Has2 (φ := .bf16) (a := 128) (b := 512) (concatenate S128x512 1
      [⟨S128x128, extractStridedSlice S128x128 ![0, 0] y slices_S512x128_o0_0_S128x128⟩,
        ⟨S128x128, extractStridedSlice S128x128 ![128, 0] y slices_S512x128_o128_0_S128x128⟩,
        ⟨S128x128, extractStridedSlice S128x128 ![256, 0] y slices_S512x128_o256_0_S128x128⟩,
        ⟨S128x128, extractStridedSlice S128x128 ![384, 0] y slices_S512x128_o384_0_S128x128⟩]
      concatenates_S128x128_S128x128_S128x128_S128x128_S128x512_d1) (fun r c => f (128 * (c / 128) + r) (c % 128)) := by
  refine Has2.beside (w := 128) (by decide) (fun i => ?_) _
  match i with
  | 0 => exact (hy.slice slices_S512x128_o0_0_S128x128).congr fun r c hr hc => congrArg₂ f (by show 0 + r = 128 * ((128 * 0 + c) / 128) + r; omega) (by show 0 + c = (128 * 0 + c) % 128; omega)
  | 1 => exact (hy.slice slices_S512x128_o128_0_S128x128).congr fun r c hr hc => congrArg₂ f (by show 128 + r = 128 * ((128 * 1 + c) / 128) + r; omega) (by show 0 + c = (128 * 1 + c) % 128; omega)
  | 2 => exact (hy.slice slices_S512x128_o256_0_S128x128).congr fun r c hr hc => congrArg₂ f (by show 256 + r = 128 * ((128 * 2 + c) / 128) + r; omega) (by show 0 + c = (128 * 2 + c) % 128; omega)
  | 3 => exact (hy.slice slices_S512x128_o384_0_S128x128).congr fun r c hr hc => congrArg₂ f (by show 384 + r = 128 * ((128 * 3 + c) / 128) + r; omega) (by show 0 + c = (128 * 3 + c) % 128; omega)

/-- The four windows side by side, put back one above the next. -/
theorem stack {y : FVec Ideal S128x512 .f32} {f : ℕ → ℕ → EReal} (hy : Has2 y f) :
    Has2 (φ := .f32) (a := 512) (b := 128) (concatenate S512x128 0
      [⟨S128x128, extractStridedSlice S128x128 ![0, 0] y slices_S128x512_o0_0_S128x128⟩,
        ⟨S128x128, extractStridedSlice S128x128 ![0, 128] y slices_S128x512_o0_128_S128x128⟩,
        ⟨S128x128, extractStridedSlice S128x128 ![0, 256] y slices_S128x512_o0_256_S128x128⟩,
        ⟨S128x128, extractStridedSlice S128x128 ![0, 384] y slices_S128x512_o0_384_S128x128⟩]
      concatenates_S128x128_S128x128_S128x128_S128x128_S512x128_d0) (fun r c => f (r % 128) (128 * (r / 128) + c)) := by
  refine Has2.above (w := 128) (by decide) (fun i => ?_) _
  match i with
  | 0 => exact (hy.slice slices_S128x512_o0_0_S128x128).congr fun r c hr hc => congrArg₂ f (by show 0 + r = (128 * 0 + r) % 128; omega) (by show 0 + c = 128 * ((128 * 0 + r) / 128) + c; omega)
  | 1 => exact (hy.slice slices_S128x512_o0_128_S128x128).congr fun r c hr hc => congrArg₂ f (by show 0 + r = (128 * 1 + r) % 128; omega) (by show 128 + c = 128 * ((128 * 1 + r) / 128) + c; omega)
  | 2 => exact (hy.slice slices_S128x512_o0_256_S128x128).congr fun r c hr hc => congrArg₂ f (by show 0 + r = (128 * 2 + r) % 128; omega) (by show 256 + c = 128 * ((128 * 2 + r) / 128) + c; omega)
  | 3 => exact (hy.slice slices_S128x512_o0_384_S128x128).congr fun r c hr hc => congrArg₂ f (by show 0 + r = (128 * 3 + r) % 128; omega) (by show 384 + c = 128 * ((128 * 3 + r) / 128) + c; omega)

/-- One head group: the 128 columns from `o` on of the activation, times the group's mixed and shifted rows. -/
theorem group {o g : ℕ} (ho : o = 128 * g) {x : FVec Ideal S512x1024 .f32} {w : FVec Ideal S128x128 .bf16} {z : FVec Ideal S128x512 .bf16}
    {b : FVec Ideal S128x1 .f32} (hx : Has2 x (fun r c => Inp.gelu (p.u r c))) (hw : Has2 w (p.w g))
    (hz : Has2 z (fun r c => p.normed (128 * (c / 128) + r) (o + c % 128))) (hb : Has2 b (fun r _ => p.b r g))
    (hs : S512x1024.Slices ![0, o] S512x128) :
    Has2 (φ := .f32) (a := 512) (b := 128) (shapeCast S512x128 (mulf (extractStridedSlice S512x128 ![0, o] x hs) (concatenate S512x128 0
      [⟨S128x128, extractStridedSlice S128x128 ![0, 0] (addf (matmul dot_S128x128_S128x512_S128x512_1_0_0_1_n_n none w z (constant S128x512 .f32 0x00000000#32)) (broadcastTo S128x512 (shapeCast S128x1 b shapeCasts_S128x1_S128x1) broadcasts_S128x1_S128x512)) slices_S128x512_o0_0_S128x128⟩,
        ⟨S128x128, extractStridedSlice S128x128 ![0, 128] (addf (matmul dot_S128x128_S128x512_S128x512_1_0_0_1_n_n none w z (constant S128x512 .f32 0x00000000#32)) (broadcastTo S128x512 (shapeCast S128x1 b shapeCasts_S128x1_S128x1) broadcasts_S128x1_S128x512)) slices_S128x512_o0_128_S128x128⟩,
        ⟨S128x128, extractStridedSlice S128x128 ![0, 256] (addf (matmul dot_S128x128_S128x512_S128x512_1_0_0_1_n_n none w z (constant S128x512 .f32 0x00000000#32)) (broadcastTo S128x512 (shapeCast S128x1 b shapeCasts_S128x1_S128x1) broadcasts_S128x1_S128x512)) slices_S128x512_o0_256_S128x128⟩,
        ⟨S128x128, extractStridedSlice S128x128 ![0, 384] (addf (matmul dot_S128x128_S128x512_S128x512_1_0_0_1_n_n none w z (constant S128x512 .f32 0x00000000#32)) (broadcastTo S128x512 (shapeCast S128x1 b shapeCasts_S128x1_S128x1) broadcasts_S128x1_S128x512)) slices_S128x512_o0_384_S128x128⟩]
      concatenates_S128x128_S128x128_S128x128_S128x128_S512x128_d0)) shapeCasts_S512x128_S512x128) (fun r c => p.out r (o + c)) := by
  have hm := (Has2.matmul hw hz none).addf ((hb.cast shapeCasts_S128x1_S128x1).along (by decide) broadcasts_S128x1_S128x512)
  refine (((hx.slice hs).mulf (stack hm)).cast _).congr fun r c hr hc => ?_
  have h0 : (o + c) / 128 = g := by omega
  have h1 : (128 * (r / 128) + c) / 128 = r / 128 := by omega
  have h2 : (128 * (r / 128) + c) % 128 = c := by omega
  show Inp.gelu (p.u (0 + r) (o + c)) * _ = Inp.gelu (p.u r (o + c)) * p.mixed r (o + c)
  unfold Inp.mixed
  simp only [h0, h1, h2, Nat.zero_add]

section groups
variable {x y : FVec Ideal S512x1024 .f32} {s : FVec Ideal S512x1 .f32} {lg lb : Vec Ideal S1x1024 .f32} {n : FVec Ideal S512x1024 .bf16}
  {w : Vec Ideal S1x128x128 .bf16} {b : Vec Ideal S128x1 .f32}

theorem has_pay7 (hx : Has2 x (fun r c => Inp.gelu (p.u r c))) (hy : Has2 y p.centred) (hs : Has2 s (fun r _ => p.variance r))
    (hg : Has2 (φ := .f32) lg (fun _ => p.lg)) (hl : Has2 (φ := .f32) lb (fun _ => p.lb))
    (hw : Has3 (φ := .bf16) w (fun _ => p.w 0)) (hb : Has2 (φ := .f32) b (fun r _ => p.b r 0)) :
    Has2 (k0_pay7 x y s lg lb w b) (fun r c => p.out r (0 + c)) :=
  group (o := 0) (g := 0) rfl hx (hw.dropUnit _) (tiles ((has_pay6 hy hs hg hl).slice slices_S512x1024_o0_0_S512x128 |>.congr fun r c _ _ => by rw [Nat.zero_add])) hb _
theorem has_pay10 (hx : Has2 x (fun r c => Inp.gelu (p.u r c))) (hy : Has2 y p.centred) (hs : Has2 s (fun r _ => p.variance r))
    (hg : Has2 (φ := .f32) lg (fun _ => p.lg)) (hl : Has2 (φ := .f32) lb (fun _ => p.lb))
    (hw : Has3 (φ := .bf16) w (fun _ => p.w 1)) (hb : Has2 (φ := .f32) b (fun r _ => p.b r 1)) :
    Has2 (k0_pay10 x (k0_pay8 w) (k0_pay9 y s lg lb) b) (fun r c => p.out r (128 + c)) :=
  group (o := 128) (g := 1) rfl hx (hw.dropUnit _) (tiles ((has_pay6 hy hs hg hl).slice slices_S512x1024_o0_128_S512x128 |>.congr fun r c _ _ => by rw [Nat.zero_add])) hb _
theorem has_pay11 (hx : Has2 x (fun r c => Inp.gelu (p.u r c))) (hn : Has2 n p.normed)
    (hw : Has3 (φ := .bf16) w (fun _ => p.w 2)) (hb : Has2 (φ := .f32) b (fun r _ => p.b r 2)) :
    Has2 (k0_pay11 x n w b) (fun r c => p.out r (256 + c)) :=
  group (o := 256) (g := 2) rfl hx (hw.dropUnit _) (tiles (hn.slice slices_S512x1024_o0_256_S512x128 |>.congr fun r c _ _ => by rw [Nat.zero_add])) hb _
theorem has_pay15 (hx : Has2 x (fun r c => Inp.gelu (p.u r c))) (hn : Has2 n p.normed)
    (hw : Has3 (φ := .bf16) w (fun _ => p.w 3)) (hb : Has2 (φ := .f32) b (fun r _ => p.b r 3)) :
    Has2 (k0_pay15 x (k0_pay12 w) (k0_pay13 n) (k0_pay14 n) b) (fun r c => p.out r (384 + c)) :=
  group (o := 384) (g := 3) rfl hx (hw.dropUnit _) (tiles (hn.slice slices_S512x1024_o0_384_S512x128 |>.congr fun r c _ _ => by rw [Nat.zero_add])) hb _
theorem has_pay16 (hx : Has2 x (fun r c => Inp.gelu (p.u r c))) (hn : Has2 n p.normed)
    (hw : Has3 (φ := .bf16) w (fun _ => p.w 4)) (hb : Has2 (φ := .f32) b (fun r _ => p.b r 4)) :
    Has2 (k0_pay16 x n w b) (fun r c => p.out r (512 + c)) :=
  group (o := 512) (g := 4) rfl hx (hw.dropUnit _) (tiles (hn.slice slices_S512x1024_o0_512_S512x128 |>.congr fun r c _ _ => by rw [Nat.zero_add])) hb _
theorem has_pay17 (hx : Has2 x (fun r c => Inp.gelu (p.u r c))) (hn : Has2 n p.normed)
    (hw : Has3 (φ := .bf16) w (fun _ => p.w 5)) (hb : Has2 (φ := .f32) b (fun r _ => p.b r 5)) :
    Has2 (k0_pay17 x n w b) (fun r c => p.out r (640 + c)) :=
  group (o := 640) (g := 5) rfl hx (hw.dropUnit _) (tiles (hn.slice slices_S512x1024_o0_640_S512x128 |>.congr fun r c _ _ => by rw [Nat.zero_add])) hb _
theorem has_pay18 (hx : Has2 x (fun r c => Inp.gelu (p.u r c))) (hn : Has2 n p.normed)
    (hw : Has3 (φ := .bf16) w (fun _ => p.w 6)) (hb : Has2 (φ := .f32) b (fun r _ => p.b r 6)) :
    Has2 (k0_pay18 x n w b) (fun r c => p.out r (768 + c)) :=
  group (o := 768) (g := 6) rfl hx (hw.dropUnit _) (tiles (hn.slice slices_S512x1024_o0_768_S512x128 |>.congr fun r c _ _ => by rw [Nat.zero_add])) hb _
theorem has_pay1 (hx : Has2 x (fun r c => Inp.gelu (p.u r c))) (hn : Has2 n p.normed)
    (hw : Has3 (φ := .bf16) w (fun _ => p.w 7)) (hb : Has2 (φ := .f32) b (fun r _ => p.b r 7)) :
    Has2 (k0_pay1 x n w b) (fun r c => p.out r (896 + c)) :=
  group (o := 896) (g := 7) rfl hx (hw.dropUnit _) (tiles (hn.slice slices_S512x1024_o0_896_S512x128 |>.congr fun r c _ _ => by rw [Nat.zero_add])) hb _
end groups

end values

/-! ## One point -/

section point
variable {p : Inp} (c : Dev nD) (i : grid0.Coords)
  {arg1 : Memref sig .tc .vmem S1x512x1024 .f32} (harg1 : arg1.IsWhole) {arg2 : Memref sig .tc .vmem S1x512x1024 .f32} (harg2 : arg2.IsWhole)
  {arg3 : Memref sig .tc .vmem S1x1024 .f32} (harg3 : arg3.IsWhole) {arg4 : Memref sig .tc .vmem S1x1024 .f32} (harg4 : arg4.IsWhole)
  {arg5 : Memref sig .tc .vmem S8x128x128 .bf16} (harg5 : arg5.IsWhole) {arg6 : Memref sig .tc .vmem S128x8 .f32} (harg6 : arg6.IsWhole)
  {arg7 : Memref sig .tc .vmem S512x1024 .bf16} (harg7 : arg7.IsWhole) {arg8 : Memref sig .tc .vmem S512x1024 .f32} (harg8 : arg8.IsWhole)
  {x0 x1 : Vec Ideal S1x512x1024 .f32} {x2 x3 : Vec Ideal S1x1024 .f32} {x4 : Vec Ideal S8x128x128 .bf16} {x5 : Vec Ideal S128x8 .f32}

/-- What a point leaves in its block of the result. -/
theorem out_apply (h0 : Has3 (φ := .f32) x0 (fun _ => p.u)) (h1 : Has3 (φ := .f32) x1 (fun _ => p.v))
    (h2 : Has2 (φ := .f32) x2 (fun _ => p.lg)) (h3 : Has2 (φ := .f32) x3 (fun _ => p.lb)) (h4 : Has3 (φ := .bf16) x4 p.w)
    (h5 : Has2 (φ := .f32) x5 p.b) :
    Has2 (φ := .bf16) (out0_A_6 (F := Ideal) c i arg1 harg1 arg2 harg2 arg3 harg3 arg4 harg4 arg5 harg5 arg6 harg6 arg7 harg7 arg8 harg8
      x0 x1 x2 x3 x4 x5) p.out := by
  have hu := has_pay3 (load_one harg1 h0 (by decide))
  have hc := has_pay4 (load_one harg2 h1 (by decide))
  have hv := has_pay5 (load_one harg2 h1 (by decide))
  have hg := load_whole harg3 h2 (by decide)
  have hl := load_whole harg4 h3 (by decide)
  have hn := has_pay6 hc hv hg hl
  have hs := Filled.none (R := 512) (F := p.out)
    |>.cons (n := 0) (by decide) (has_pay7 hu hc hv hg hl (load_slab (n := 0) harg5 h4 (by decide)) (load_col (n := 0) harg6 h5 (by decide)))
    |>.cons (n := 128) (by decide) (has_pay10 hu hc hv hg hl (load_slab (n := 1) harg5 h4 (by decide)) (load_col (n := 1) harg6 h5 (by decide)))
    |>.cons (n := 256) (by decide) (has_pay11 hu hn (load_slab (n := 2) harg5 h4 (by decide)) (load_col (n := 2) harg6 h5 (by decide)))
    |>.cons (n := 384) (by decide) (has_pay15 hu hn (load_slab (n := 3) harg5 h4 (by decide)) (load_col (n := 3) harg6 h5 (by decide)))
    |>.cons (n := 512) (by decide) (has_pay16 hu hn (load_slab (n := 4) harg5 h4 (by decide)) (load_col (n := 4) harg6 h5 (by decide)))
    |>.cons (n := 640) (by decide) (has_pay17 hu hn (load_slab (n := 5) harg5 h4 (by decide)) (load_col (n := 5) harg6 h5 (by decide)))
    |>.cons (n := 768) (by decide) (has_pay18 hu hn (load_slab (n := 6) harg5 h4 (by decide)) (load_col (n := 6) harg6 h5 (by decide)))
    |>.cons (n := 896) (by decide) (has_pay1 hu hn (load_slab (n := 7) harg5 h4 (by decide)) (load_col (n := 7) harg6 h5 (by decide)))
  unfold out0_A_6 kernelRun0_A; dsimp only
  exact stored _ (Has2.truncf _ (Filled.read (v := arg8.view) hs (by decide)) _)

end point

/-! ## The arrays -/

/-- The inputs the arrays hold: the first two slabs of the projections, and the mixing weights on and below the diagonal. -/
def inp (p : FVec Ideal ⟨3, ![8, 4096, 1024]⟩ .f32) (lg lb : FVec Ideal ⟨2, ![1, 1024]⟩ .f32)
    (w : FVec Ideal ⟨4, ![1, 8, 128, 128]⟩ .f32) (b : FVec Ideal ⟨3, ![1, 8, 128]⟩ .f32) : Inp where
  u := entry3 p 0
  v := entry3 p 1
  lg := entry2 lg 0
  lb := entry2 lb 0
  w g r s := if s ≤ r then entry4 w 0 g r s else 0
  b t g := entry3 b 0 g t

section arrays
variable (m : (ℓ : Loc nD τ sig) → Buf (Elt Ideal) ℓ) (c : Dev nD)

/-- What the launch's arguments hold. -/
abbrev held : Inp := inp (m ((c : Thread nD τ).loc main_arg0)) (m ((c : Thread nD τ).loc main_arg1)) (m ((c : Thread nD τ).loc main_arg2))
  (m ((c : Thread nD τ).loc main_arg3)) (m ((c : Thread nD τ).loc main_arg4))

/-- The masked mixing weights at region entry. -/
theorem read_w (j : S8x128x128.Idx) : V m c main_v4 j
    = FloatOps.truncf FTy.bf16 bitsLt_bf16_f32 (Scalar.select (Scalar.select (IntOp.cmpi CmpIPredicate.sge
        (IntOp.addi (BitVec.ofNat 32 (j 1).val) 0#32) (BitVec.ofNat 32 (j 2).val)) 1#1 0#1)
      (m ((c : Thread nD τ).loc main_arg3) (ix4 0 (j 0) (j 1) (j 2))) (constant (F := Ideal) S_ FTy.f32 0#32 ix0)) := by
  unfold V
  after_reads_at
  exact congrArg _ Ideal.ofBits_zero_f32
/-- The transposed bias at region entry. -/
theorem read_b (j : S128x8.Idx) : V m c main_v6 j = m ((c : Thread nD τ).loc main_arg4) (ix3 0 (j 1) (j 0)) := by
  unfold V
  after_reads_at

theorem V_w : Has3 (φ := .bf16) (V m c main_v4 : Vec Ideal S8x128x128 .bf16) (held m c).w := by
  intro g r s
  refine (read_w m c (ix3 g r s)).trans ?_
  show Scalar.select (Scalar.select (IntOp.cmpi CmpIPredicate.sge (IntOp.addi (BitVec.ofNat 32 r.val) 0#32) (BitVec.ofNat 32 s.val)) 1#1 0#1)
      (m ((c : Thread nD τ).loc main_arg3) (ix4 0 g r s)) (constant (F := Ideal) S_ FTy.f32 0#32 ix0)
    = if s.val ≤ r.val then entry4 (φ := .f32) (m ((c : Thread nD τ).loc main_arg3)) 0 g r s else 0
  rw [Cert.Gmlp.tril_word]
  by_cases hs : s.val ≤ r.val
  · rw [if_pos hs, if_pos hs]; exact has_entry4 (φ := .f32) (m ((c : Thread nD τ).loc main_arg3)) 0 g r s
  · rw [if_neg hs, if_neg hs]; exact Ideal.ofBits_zero_f32
theorem V_b : Has2 (φ := .f32) (V m c main_v6 : Vec Ideal S128x8 .f32) (held m c).b :=
  fun r g => (read_b m c (ix2 r g)).trans (has_entry3 (φ := .f32) (m ((c : Thread nD τ).loc main_arg4)) 0 g r)

/-- Which block each window holds at each point. -/
theorem index0 : ∀ t : Fin cfg0.N, win0_0.index t (0 : Fin 3) = 0 ∧ win0_0.index t (1 : Fin 3) = t.val ∧ win0_0.index t (2 : Fin 3) = 0 :=
  (by decide +kernel : ∀ t : Fin grid0.N, win0_0.index t (0 : Fin 3) = 0 ∧ win0_0.index t (1 : Fin 3) = t.val ∧ win0_0.index t (2 : Fin 3) = 0)
theorem index1 : ∀ t : Fin cfg0.N, win0_1.index t (0 : Fin 3) = 1 ∧ win0_1.index t (1 : Fin 3) = t.val ∧ win0_1.index t (2 : Fin 3) = 0 :=
  (by decide +kernel : ∀ t : Fin grid0.N, win0_1.index t (0 : Fin 3) = 1 ∧ win0_1.index t (1 : Fin 3) = t.val ∧ win0_1.index t (2 : Fin 3) = 0)
theorem index2 : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)
theorem index3 : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)
theorem index4 : ∀ t : Fin cfg0.N, win0_4.index t (0 : Fin 3) = 0 ∧ win0_4.index t (1 : Fin 3) = 0 ∧ win0_4.index t (2 : Fin 3) = 0 :=
  (by decide +kernel : ∀ t : Fin grid0.N, win0_4.index t (0 : Fin 3) = 0 ∧ win0_4.index t (1 : Fin 3) = 0 ∧ win0_4.index t (2 : Fin 3) = 0)
theorem index5 : ∀ t : Fin cfg0.N, win0_5.index t (0 : Fin 2) = 0 ∧ win0_5.index t (1 : Fin 2) = 0 :=
  (by decide +kernel : ∀ t : Fin grid0.N, win0_5.index t (0 : Fin 2) = 0 ∧ win0_5.index t (1 : Fin 2) = 0)
theorem index6 : ∀ t : Fin cfg0.N, win0_6.index t (0 : Fin 2) = t.val ∧ win0_6.index t (1 : Fin 2) = 0 :=
  (by decide +kernel : ∀ t : Fin grid0.N, win0_6.index t (0 : Fin 2) = t.val ∧ win0_6.index t (1 : Fin 2) = 0)

/-- A row of a block lies in the array. -/
theorem row_lt (t : Fin cfg0.N) (s : Fin 512) : 512 * t.val + s.val < 4096 := by
  have := t.isLt; have : cfg0.N = 8 := N_0; have := s.isLt; omega

/-- 512 rows of the two projections. -/
theorem blk0 (t : Fin cfg0.N) : Has3 (φ := .f32) (iblk m c 0 t : Vec Ideal S1x512x1024 .f32) (fun _ => ((held m c).at_ t.val).u) := by
  intro g s e
  obtain rfl : g = 0 := Subsingleton.elim _ _
  obtain ⟨h0, h1, h2⟩ := index0 t
  have e0 := win0_0.rect_emb_val t (ix3 0 s e) 0
  have e1 := win0_0.rect_emb_val t (ix3 0 s e) 1
  have e2 := win0_0.rect_emb_val t (ix3 0 s e) 2
  rw [h0] at e0
  rw [h1, Nat.mul_comm] at e1
  rw [h2, Nat.zero_mul, Nat.zero_add] at e2
  have hi : ((win0_0.blk t).view.emb (ix3 0 s e) : S8x4096x1024.Idx) = ix3 0 ⟨512 * t.val + s.val, row_lt t s⟩ e := Cert.Weights.at3 e0 e1 e2
  show V m c main_arg0 ((win0_0.blk t).view.emb (ix3 0 s e)) = _
  rw [hi, V_main_arg0]
  exact has_entry3 (φ := .f32) (m ((c : Thread nD τ).loc main_arg0)) 0 _ e
theorem blk1 (t : Fin cfg0.N) : Has3 (φ := .f32) (iblk m c 1 t : Vec Ideal S1x512x1024 .f32) (fun _ => ((held m c).at_ t.val).v) := by
  intro g s e
  obtain rfl : g = 0 := Subsingleton.elim _ _
  obtain ⟨h0, h1, h2⟩ := index1 t
  have e0 := win0_1.rect_emb_val t (ix3 0 s e) 0
  have e1 := win0_1.rect_emb_val t (ix3 0 s e) 1
  have e2 := win0_1.rect_emb_val t (ix3 0 s e) 2
  rw [h0] at e0
  rw [h1, Nat.mul_comm] at e1
  rw [h2, Nat.zero_mul, Nat.zero_add] at e2
  have hi : ((win0_1.blk t).view.emb (ix3 0 s e) : S8x4096x1024.Idx) = ix3 1 ⟨512 * t.val + s.val, row_lt t s⟩ e := Cert.Weights.at3 e0 e1 e2
  show V m c main_arg0 ((win0_1.blk t).view.emb (ix3 0 s e)) = _
  rw [hi, V_main_arg0]
  exact has_entry3 (φ := .f32) (m ((c : Thread nD τ).loc main_arg0)) 1 _ e

/-- The layer norm's scale and shift. -/
theorem blk2 (t : Fin cfg0.N) : Has2 (φ := .f32) (iblk m c 2 t : Vec Ideal S1x1024 .f32) (fun _ => (held m c).lg) := by
  intro r e
  obtain rfl : r = 0 := Subsingleton.elim _ _
  obtain ⟨h0, h1⟩ := index2 t
  have e0 := win0_2.rect_emb_val t (ix2 0 e) 0
  have e1 := win0_2.rect_emb_val t (ix2 0 e) 1
  rw [h0, Nat.zero_mul, Nat.zero_add] at e0
  rw [h1, Nat.zero_mul, Nat.zero_add] at e1
  have hi : ((win0_2.blk t).view.emb (ix2 0 e) : S1x1024.Idx) = ix2 0 e := Cert.Weights.at2 e0 e1
  show V m c main_arg1 ((win0_2.blk t).view.emb (ix2 0 e)) = _
  rw [hi, V_main_arg1]
  exact has_entry2 (φ := .f32) (m ((c : Thread nD τ).loc main_arg1)) 0 e
theorem blk3 (t : Fin cfg0.N) : Has2 (φ := .f32) (iblk m c 3 t : Vec Ideal S1x1024 .f32) (fun _ => (held m c).lb) := by
  intro r e
  obtain rfl : r = 0 := Subsingleton.elim _ _
  obtain ⟨h0, h1⟩ := index3 t
  have e0 := win0_3.rect_emb_val t (ix2 0 e) 0
  have e1 := win0_3.rect_emb_val t (ix2 0 e) 1
  rw [h0, Nat.zero_mul, Nat.zero_add] at e0
  rw [h1, Nat.zero_mul, Nat.zero_add] at e1
  have hi : ((win0_3.blk t).view.emb (ix2 0 e) : S1x1024.Idx) = ix2 0 e := Cert.Weights.at2 e0 e1
  show V m c main_arg2 ((win0_3.blk t).view.emb (ix2 0 e)) = _
  rw [hi, V_main_arg2]
  exact has_entry2 (φ := .f32) (m ((c : Thread nD τ).loc main_arg2)) 0 e

/-- The weights and the bias. -/
theorem blk4 (t : Fin cfg0.N) : Has3 (φ := .bf16) (iblk m c 4 t : Vec Ideal S8x128x128 .bf16) (held m c).w := by
  intro g r e
  obtain ⟨h0, h1, h2⟩ := index4 t
  have e0 := win0_4.rect_emb_val t (ix3 g r e) 0
  have e1 := win0_4.rect_emb_val t (ix3 g r e) 1
  have e2 := win0_4.rect_emb_val t (ix3 g r e) 2
  rw [h0, Nat.zero_mul, Nat.zero_add] at e0
  rw [h1, Nat.zero_mul, Nat.zero_add] at e1
  rw [h2, Nat.zero_mul, Nat.zero_add] at e2
  have hi : ((win0_4.blk t).view.emb (ix3 g r e) : S8x128x128.Idx) = ix3 g r e := Cert.Weights.at3 e0 e1 e2
  show V m c main_v4 ((win0_4.blk t).view.emb (ix3 g r e)) = _
  rw [hi]
  exact V_w m c g r e
theorem blk5 (t : Fin cfg0.N) : Has2 (φ := .f32) (iblk m c 5 t : Vec Ideal S128x8 .f32) (held m c).b := by
  intro r e
  obtain ⟨h0, h1⟩ := index5 t
  have e0 := win0_5.rect_emb_val t (ix2 r e) 0
  have e1 := win0_5.rect_emb_val t (ix2 r e) 1
  rw [h0, Nat.zero_mul, Nat.zero_add] at e0
  rw [h1, Nat.zero_mul, Nat.zero_add] at e1
  have hi : ((win0_5.blk t).view.emb (ix2 r e) : S128x8.Idx) = ix2 r e := Cert.Weights.at2 e0 e1
  show V m c main_v6 ((win0_5.blk t).view.emb (ix2 r e)) = _
  rw [hi]
  exact V_b m c r e

/-- The gated rows after the call. -/
theorem array : Has2 (φ := .bf16) ((dats m 0 c).arrAt 6 cfg0.N : Vec Ideal S4096x1024 .bf16) (held m c).out := by
  intro r e
  have hN : cfg0.N = 8 := N_0
  obtain ⟨t, ht⟩ : ∃ t : Fin cfg0.N, t.val = r.val / 512 := ⟨⟨r.val / 512, by have := r.isLt; omega⟩, rfl⟩
  obtain ⟨s, hs⟩ : ∃ s : Fin 512, s.val = r.val % 512 := ⟨⟨r.val % 512, by omega⟩, rfl⟩
  have hr : 512 * t.val + s.val = r.val := by omega
  have hx := (dats m 0 c).arrAt_emb_eq_flushed 6 disjoint6 t (flush0_6 t) (ix2 s e)
  obtain ⟨h0, h1⟩ := index6 t
  have e0 := win0_6.rect_emb_val t (ix2 s e) 0
  have e1 := win0_6.rect_emb_val t (ix2 s e) 1
  rw [h0, Nat.mul_comm] at e0
  rw [h1, Nat.zero_mul, Nat.zero_add] at e1
  have hi : ((win0_6.blk t).view.emb (ix2 s e) : S4096x1024.Idx) = ix2 r e := Cert.Weights.at2 (e0.trans hr) e1
  refine (congrArg ((dats m 0 c).arrAt 6 cfg0.N) hi.symm).trans (hx.trans ?_)
  rw [flushed6_A]
  have hm := out_apply c (grid0.coords t) (hs0_0 t) (hs0_1 t) (hs0_2 t) (hs0_3 t) (hs0_4 t) (hs0_5 t) (hs0_6 t) (Memref.isWhole_whole cc0_scratch0)
    (p := (held m c).at_ t.val) (blk0 m c t) (blk1 m c t) (blk2 m c t) (blk3 m c t) (blk4 m c t) (blk5 m c t) s e
  rw [Inp.out_at, hr] at hm
  generalize out0_A_6 (F := Ideal) c (grid0.coords t) (ms0_0 t) (hs0_0 t) (ms0_1 t) (hs0_1 t) (ms0_2 t) (hs0_2 t) (ms0_3 t) (hs0_3 t) (ms0_4 t) (hs0_4 t)
    (ms0_5 t) (hs0_5 t) (ms0_6 t) (hs0_6 t) scM0_0 (Memref.isWhole_whole _) (iblk m c 0 t) (iblk m c 1 t) (iblk m c 2 t) (iblk m c 3 t)
    (iblk m c 4 t) (iblk m c 5 t) = z at hm ⊢
  exact hm

end arrays

end Cert.GatingProof

end
-- ==== Proof.GatingClaims.lean ====
/-
  The claims about the gated branch's forward pass: the frames and the value.
-/
module

public import proofs.«01_k».proof.Defs
public import proofs.«01_k».proof.Proof.GatingResult
public import proofs.«01_k».proof.Proof.Gen.Gating.Frame
public import proofs.«01_k».proof.Proof.Gen.GatingIdeal.Frame
public import proofs.«01_k».proof.Proof.Gen.GatingReferenceIdeal.Run
public import proofs.«01_k».proof.Proof.Gen.GatingReferenceIdeal.Read
public import Idealize.ShloMosaic.Adequacy
public import Idealize.ShloMosaic.Init

@[expose] public section

noncomputable section

namespace Cert.GatingProof

open Idealize.ShloMosaic Idealize.SL.Sem Cert.Cells
open scoped BigOperators

/-- The kernel leaves its arguments as they were and every counter at zero. -/
theorem frame_p : Cert.quiescent_Gating := fun m ρ _ => Cert.Gating.Gen.frame m ρ
theorem frame_pi : Cert.quiescent_GatingIdeal := fun m ρ _ => Cert.GatingIdeal.Gen.frame m ρ

/-- So does the reference, which has no counter. -/
theorem frame_ri : Cert.quiescent_GatingReferenceIdeal := fun m ρ _ =>
  (θ_run Cert.GatingReferenceIdeal.defs _ _).mono (fun r h => ⟨fun c => (h c).2, sem_eq_zero_of_no_sems (by decide) r.2⟩)
    (Cert.GatingReferenceIdeal.Value.run (F := Ideal) m ρ)

/-- The idealized kernel is the kernel's own text. -/
theorem preserves : Cert.preserves_Gating_GatingIdeal := trivial

/-! ## The reference -/

section reference
open Cert.GatingReferenceIdeal Cert.GatingReferenceIdeal.Gen Cert.GatingReferenceIdeal.Read

theorem arg2 {f : ℕ → ℕ → EReal} {a b a' b' : ℕ} (h : a = a') (h' : b = b') : f a b = f a' b' := by rw [h, h']
theorem arg3 {f : ℕ → ℕ → ℕ → EReal} {a b d a' b' d' : ℕ} (h : a = a') (h' : b = b') (h'' : d = d') : f a b d = f a' b' d' := by
  rw [h, h', h'']

/-- The unit with its factors in another order. -/
theorem gelu_ref (x : EReal) :
    x * (Ideal.ofBits .f32 0x3F000000#32 * (Ideal.ofBits .f32 0x3F800000#32
      + Ideal.tanh (Ideal.ofBits .f32 0x3F4C422A#32 * (x + Ideal.ofBits .f32 0x3D372713#32 * (x * x * x))))) = Inp.gelu x := by
  unfold Inp.gelu
  rw [← mul_assoc, mul_comm x, mul_assoc (Ideal.ofBits .f32 0x3D372713#32) x x, mul_assoc (Ideal.ofBits .f32 0x3D372713#32) (x * x) x]

theorem has_gelu_ref {x : FVec Ideal ⟨2, ![4096, 1024]⟩ .f32} {f : ℕ → ℕ → EReal} (hx : Has2 x f) :
    Has2 (φ := .f32) (mulf x (mulf (broadcastInDim S4096x1024 ![] bcast_S_S4096x1024 (constant (F := Ideal) S_ .f32 0x3F000000#32))
        (addf (broadcastInDim S4096x1024 ![] bcast_S_S4096x1024 (constant (F := Ideal) S_ .f32 0x3F800000#32))
          (Host.tanh (mulf (broadcastInDim S4096x1024 ![] bcast_S_S4096x1024 (constant (F := Ideal) S_ .f32 0x3F4C422A#32))
            (addf x (mulf (broadcastInDim S4096x1024 ![] bcast_S_S4096x1024 (constant (F := Ideal) S_ .f32 0x3D372713#32))
              (mulf (mulf x x) x))))))))
      (fun r c => Inp.gelu (f r c)) :=
  (hx.mulf ((Has2.hsplat _ _).mulf ((Has2.hsplat _ _).addf ((Has2.hsplat _ _).mulf
    (hx.addf ((Has2.hsplat _ _).mulf ((hx.mulf hx).mulf hx)))).htanh))).congr fun r c _ _ => gelu_ref _

variable (x0 : FVec Ideal ⟨3, ![8, 4096, 1024]⟩ .f32) (x1 x2 : FVec Ideal ⟨2, ![1, 1024]⟩ .f32)
    (x3 : FVec Ideal ⟨4, ![1, 8, 128, 128]⟩ .f32) (x4 : FVec Ideal ⟨3, ![1, 8, 128]⟩ .f32)

/-- The two projections. -/
theorem r1 : Has2 (φ := .f32) (val_main_v1 (F := Ideal) x0) (inp x0 x1 x2 x3 x4).u := by
  intro r c
  have hr := r.isLt; have hc := c.isLt
  rw [val_main_v1_apply, val_main_v0_apply, (has_entry3 x0).at]
  refine arg3 (f := entry3 x0) rfl ?_ ?_
  · show (r.val * 1024 + c.val) / 1024 % 4096 = r.val; omega
  · show (r.val * 1024 + c.val) % 1024 = c.val; omega
theorem r16 : Has2 (φ := .f32) (val_main_v16 (F := Ideal) x0) (inp x0 x1 x2 x3 x4).v := by
  intro r c
  have hr := r.isLt; have hc := c.isLt
  rw [val_main_v16_apply, val_main_v15_apply, (has_entry3 x0).at]
  refine arg3 (f := entry3 x0) rfl ?_ ?_
  · show (r.val * 1024 + c.val) / 1024 % 4096 = r.val; omega
  · show (r.val * 1024 + c.val) % 1024 = c.val; omega

/-- The weights on and below the diagonal. -/
theorem r60 : Has3 (φ := .f32) (val_main_v60 (F := Ideal) x3) (inp x0 x1 x2 x3 x4).w := by
  intro g r s
  have hg := g.isLt; have hr := r.isLt; have hs := s.isLt
  rw [val_main_v60_apply]
  have e1 : val_main_call1_v0 (F := Ideal) (ix3 g r s) = if s.val ≤ r.val then 1#1 else 0#1 := by
    rw [val_main_call1_v0_apply]; exact Cert.Gmlp.tril_word r s
  have e2 : val_main_v59 (F := Ideal) x3 (ix3 g r s) = entry4 x3 0 g r s := by
    rw [val_main_v59_apply, (has_entry4 x3).at]
    refine arg3 (f := entry4 x3 0) ?_ ?_ ?_
    · show ((g.val * 128 + r.val) * 128 + s.val) / 16384 % 8 = g.val; omega
    · show ((g.val * 128 + r.val) * 128 + s.val) / 128 % 128 = r.val; omega
    · show ((g.val * 128 + r.val) * 128 + s.val) % 128 = s.val; omega
  rw [e1, e2]
  show _ = if s.val ≤ r.val then entry4 x3 0 g r s else 0
  by_cases hs : s.val ≤ r.val
  · rw [if_pos hs, if_pos hs]; rfl
  · rw [if_neg hs, if_neg hs]
    exact (val_main_call1_v1_apply (F := Ideal) (ix3 g r s)).trans Ideal.ofBits_zero_f32

/-- Their activations. -/
theorem r14 {f : ℕ → ℕ → EReal} (hu : Has2 (φ := .f32) (val_main_v1 (F := Ideal) x0) f) :
    Has2 (φ := .f32) (val_main_v14 (F := Ideal) x0) (fun r c => Inp.gelu (f r c)) := has_gelu_ref hu
theorem r29 {f : ℕ → ℕ → EReal} (hv : Has2 (φ := .f32) (val_main_v16 (F := Ideal) x0) f) :
    Has2 (φ := .f32) (val_main_v29 (F := Ideal) x0) (fun r c => Inp.gelu (f r c)) := has_gelu_ref hv

variable {p : Inp} {x0 x1 x2}

/-- The mean, and the rows less their mean. -/
theorem r33 (hv : Has2 (φ := .f32) (val_main_v29 (F := Ideal) x0) (fun r c => Inp.gelu (p.v r c))) :
    Has2 (φ := .f32) (val_main_v33 (F := Ideal) x0) (fun r _ => Inp.mean (fun r c => Inp.gelu (p.v r c)) r) := by
  refine Has2.hdivf (fun r e => ?_) (Has2.hsplat _ _)
  rw [val_main_v31_apply, val_main_v30_apply]
  exact sum_onto (fun k => Inp.gelu (p.v r k)) fun k => hv.at _
theorem r35 (hv : Has2 (φ := .f32) (val_main_v29 (F := Ideal) x0) (fun r c => Inp.gelu (p.v r c))) :
    Has2 (φ := .f32) (val_main_v35 (F := Ideal) x0) p.centred := fun r c => by
  rw [val_main_v35_apply, val_main_v34_apply, hv r c, (r33 hv).at]
  rfl
theorem r42 (hv : Has2 (φ := .f32) (val_main_v29 (F := Ideal) x0) (fun r c => Inp.gelu (p.v r c))) :
    Has2 (φ := .f32) (val_main_v42 (F := Ideal) x0) p.centred := fun r c => by
  rw [val_main_v42_apply, val_main_v41_apply, hv r c, (r33 hv).at]
  rfl

/-- The variance, and the layer norm. -/
theorem r40 (hc : Has2 (φ := .f32) (val_main_v35 (F := Ideal) x0) p.centred) :
    Has2 (φ := .f32) (val_main_v40 (F := Ideal) x0) (fun r _ => p.variance r) := by
  refine Has2.hdivf (fun r e => ?_) (Has2.hsplat _ _)
  rw [val_main_v38_apply, val_main_v37_apply]
  exact sum_onto (fun k => p.centred r k * p.centred r k) fun k => (hc.mulf hc).at _
theorem r45 (hc : Has2 (φ := .f32) (val_main_v35 (F := Ideal) x0) p.centred) :
    Has2 (φ := .f32) (val_main_v45 (F := Ideal) x0) (fun r _ => Ideal.rsqrt (p.variance r + Ideal.ofBits .f32 0x358637BD#32)) :=
  ((r40 hc).addf (Has2.hsplat _ _)).hrsqrt
theorem r50 : Has2 (φ := .f32) (val_main_v50 (F := Ideal) x1) (fun _ c => entry2 x1 0 c) := fun r c => by
  have hc := c.isLt
  rw [val_main_v50_apply, val_main_v49_apply, val_main_v48_apply, (has_entry2 x1).at]
  exact arg2 (f := entry2 x1) rfl (by show c.val % 1024 = c.val; omega)
theorem r54 : Has2 (φ := .f32) (val_main_v54 (F := Ideal) x2) (fun _ c => entry2 x2 0 c) := fun r c => by
  have hc := c.isLt
  rw [val_main_v54_apply, val_main_v53_apply, val_main_v52_apply, (has_entry2 x2).at]
  exact arg2 (f := entry2 x2) rfl (by show c.val % 1024 = c.val; omega)
theorem r55 (hv : Has2 (φ := .f32) (val_main_v29 (F := Ideal) x0) (fun r c => Inp.gelu (p.v r c)))
    (hg : Has2 (φ := .f32) (val_main_v50 (F := Ideal) x1) (fun _ => p.lg)) (hb : Has2 (φ := .f32) (val_main_v54 (F := Ideal) x2) (fun _ => p.lb)) :
    Has2 (φ := .f32) (val_main_v55 (F := Ideal) x0 x1 x2) p.normed := fun r c => by
  rw [val_main_v55_apply, val_main_v51_apply, val_main_v47_apply, val_main_v46_apply, hg r c, hb r c, r42 hv r c, (r45 (r35 hv)).at]
  rfl

/-- The rows by window, position, group and lane. -/
theorem r56 (hn : Has2 (φ := .f32) (val_main_v55 (F := Ideal) x0 x1 x2) p.normed) :
    Has4 (φ := .f32) (val_main_v56 (F := Ideal) x0 x1 x2) (fun n s g d => p.normed (128 * n + s) (128 * g + d)) := by
  intro n s g d
  have hs := s.isLt; have hg := g.isLt; have hd := d.isLt
  rw [val_main_v56_apply, hn.at]
  refine arg2 (f := p.normed) ?_ ?_
  · show (((n.val * 128 + s.val) * 8 + g.val) * 128 + d.val) / 1024 = 128 * n.val + s.val; omega
  · show (((n.val * 128 + s.val) * 8 + g.val) * 128 + d.val) % 1024 = 128 * g.val + d.val; omega

/-- The mixed rows, without and with the bias. -/
theorem r61 (hn : Has2 (φ := .f32) (val_main_v55 (F := Ideal) x0 x1 x2) p.normed) (hw : Has3 (φ := .f32) (val_main_v60 (F := Ideal) x3) p.w) :
    Has4 (φ := .f32) (val_main_v61 (F := Ideal) x0 x1 x2 x3)
    (fun g n d t => ∑ k ∈ Finset.range 128, p.w g t k * p.normed (128 * n + k) (128 * g + d)) := by
  intro g n d t
  refine (val_main_v61_apply x0 x1 x2 x3 _).trans (Eq.trans (Finset.sum_congr rfl fun k _ => ?_)
    (Finset.sum_range fun k => p.w g t k * p.normed (128 * n + k) (128 * g + d)).symm)
  exact (congrArg₂ (fun u v : EReal => u * v) ((r56 hn).at _) (hw.at _)).trans (mul_comm _ _)
theorem r67 : Has4 (φ := .f32) (val_main_v67 (F := Ideal) x4) (fun _ t g _ => entry3 x4 0 g t) := by
  intro n t g d
  have ht := t.isLt; have hg := g.isLt
  rw [val_main_v67_apply, val_main_v66_apply, val_main_v65_apply, val_main_v64_apply, val_main_v63_apply, (has_entry3 x4).at]
  refine arg2 (f := entry3 x4 0) ?_ ?_
  · show (g.val * 128 + t.val) / 128 % 8 = g.val; omega
  · show (g.val * 128 + t.val) % 128 = t.val; omega
theorem r68 (hn : Has2 (φ := .f32) (val_main_v55 (F := Ideal) x0 x1 x2) p.normed) (hw : Has3 (φ := .f32) (val_main_v60 (F := Ideal) x3) p.w)
    (hb : Has4 (φ := .f32) (val_main_v67 (F := Ideal) x4) (fun _ t g _ => p.b t g)) :
    Has4 (φ := .f32) (val_main_v68 (F := Ideal) x0 x1 x2 x3 x4)
    (fun n t g d => (∑ k ∈ Finset.range 128, p.w g t k * p.normed (128 * n + k) (128 * g + d)) + p.b t g) := by
  intro n t g d
  rw [val_main_v68_apply, val_main_v62_apply, (r61 x3 hn hw).at, hb n t g d]
  rfl
theorem r69 (hn : Has2 (φ := .f32) (val_main_v55 (F := Ideal) x0 x1 x2) p.normed) (hw : Has3 (φ := .f32) (val_main_v60 (F := Ideal) x3) p.w)
    (hb : Has4 (φ := .f32) (val_main_v67 (F := Ideal) x4) (fun _ t g _ => p.b t g)) :
    Has2 (φ := .f32) (val_main_v69 (F := Ideal) x0 x1 x2 x3 x4) p.mixed := by
  intro r c
  have hr := r.isLt; have hc := c.isLt
  rw [val_main_v69_apply, (r68 x3 x4 hn hw hb).at]
  have e0 : (r.val * 1024 + c.val) / 131072 = r.val / 128 := by omega
  have e1 : (r.val * 1024 + c.val) / 1024 % 128 = r.val % 128 := by omega
  have e2 : (r.val * 1024 + c.val) / 128 % 8 = c.val / 128 := by omega
  have e3 : (r.val * 1024 + c.val) % 128 = c.val % 128 := by omega
  show (∑ k ∈ Finset.range 128, p.w ((r.val * 1024 + c.val) / 128 % 8) ((r.val * 1024 + c.val) / 1024 % 128) k
      * p.normed (128 * ((r.val * 1024 + c.val) / 131072) + k) (128 * ((r.val * 1024 + c.val) / 128 % 8) + (r.val * 1024 + c.val) % 128))
    + p.b ((r.val * 1024 + c.val) / 1024 % 128) ((r.val * 1024 + c.val) / 128 % 8) = _
  rw [e0, e1, e2, e3, show 128 * (c.val / 128) + c.val % 128 = c.val by omega]
  rfl

/-- The gated rows. -/
theorem r71 (x0 : FVec Ideal ⟨3, ![8, 4096, 1024]⟩ .f32) (x1 x2 : FVec Ideal ⟨2, ![1, 1024]⟩ .f32)
    (x3 : FVec Ideal ⟨4, ![1, 8, 128, 128]⟩ .f32) (x4 : FVec Ideal ⟨3, ![1, 8, 128]⟩ .f32) :
    Has2 (φ := .bf16) (val_main_v71 (F := Ideal) x0 x1 x2 x3 x4) (inp x0 x1 x2 x3 x4).out := by
  have hu := r14 x0 (r1 x0 x1 x2 x3 x4)
  have hm := r69 (p := inp x0 x1 x2 x3 x4) x3 x4 (r55 (r29 x0 (r16 x0 x1 x2 x3 x4)) r50 r54) (r60 x0 x1 x2 x3 x4) (r67 x4)
  intro r c
  rw [val_main_v71_apply, val_main_v70_apply, hu r c, hm r c]
  rfl

end reference

variable (m : (ℓ : Loc Cert.GatingIdeal.nD Cert.GatingIdeal.τ Cert.GatingIdeal.sig) → Buf (Elt Ideal) ℓ) (c : Dev Cert.GatingIdeal.nD)

/-- The gated rows agree. -/
theorem same : Cert.GatingReferenceIdeal.Read.val_main_v71 (F := Ideal)
      (m ((c.tc : Thread Cert.GatingIdeal.nD Cert.GatingIdeal.τ).loc Cert.GatingIdeal.main_arg0))
      (m ((c.tc : Thread Cert.GatingIdeal.nD Cert.GatingIdeal.τ).loc Cert.GatingIdeal.main_arg1))
      (m ((c.tc : Thread Cert.GatingIdeal.nD Cert.GatingIdeal.τ).loc Cert.GatingIdeal.main_arg2))
      (m ((c.tc : Thread Cert.GatingIdeal.nD Cert.GatingIdeal.τ).loc Cert.GatingIdeal.main_arg3))
      (m ((c.tc : Thread Cert.GatingIdeal.nD Cert.GatingIdeal.τ).loc Cert.GatingIdeal.main_arg4))
    = (Cert.GatingIdeal.Gen.dats m 0 c).arrAt 6 Cert.GatingIdeal.cfg0.N :=
  funext fun i => by
    obtain ⟨r, e, rfl⟩ : ∃ (r : Fin 4096) (e : Fin 1024), i = ix2 r e := ⟨i 0, i 1, ValueIdx.eq_ix2 i⟩
    exact (r71 _ _ _ _ _ r e).trans (array m c r e).symm

/-- Kernel and reference leave the same gated rows. -/
theorem algebraic : Cert.algebraic_GatingIdeal_GatingReferenceIdeal := by
  intro m ρ m' ρ' _ hag
  refine ⟨fun c => (Cert.GatingIdeal.Gen.dats m 0 c).arrAt 6 Cert.GatingIdeal.cfg0.N, Cert.GatingIdeal.Value.run_blocks m ρ, ?_⟩
  refine (θ_run Cert.GatingReferenceIdeal.defs _ _).mono (fun r h c => ?_) (Cert.GatingReferenceIdeal.Value.run (F := Ideal) m' ρ')
  obtain ⟨a0, a1, a2, a3, a4⟩ := hag c
  obtain ⟨h0, hr⟩ := h c
  have e0 := h0.trans (Cert.GatingReferenceIdeal.Read.val_main_v71_eq m' c)
  rw [a0, a1, a2, a3, a4] at e0
  exact ⟨e0.trans (same m c), hr⟩

end Cert.GatingProof

end
-- ==== Proof.AdamMath.lean ====
/-
  The optimiser's update of one weight, entry by entry: the moments, the step, which core's half of the gradient an entry
  belongs to, and how an array is read and written by blocks of its rows and columns.
-/
module

public import proofs.«01_k».proof.Proof.Cells
public import Idealize.ShloMosaic.Lib.Pipeline.Value

@[expose] public section

noncomputable section

namespace Cert.Adam

open Idealize.ShloMosaic Cert.Cells

/-! ## The update of one entry -/

/-- The new first and second moment. -/
def first (m g : EReal) : EReal := Ideal.ofBits .f32 0x3F666666#32 * m + Ideal.ofBits .f32 0x3DCCCCCD#32 * g
def second (v g : EReal) : EReal := Ideal.ofBits .f32 0x3F7FBE77#32 * v + Ideal.ofBits .f32 0x3A83126F#32 * (g * g)

/-- The step: minus the learning rate times the corrected first moment over the root of the corrected second one, with the
    weight's decay added. -/
def step (w m v g : EReal) : EReal :=
  Ideal.ofBits .f32 0xBA83126F#32 * (Ideal.div (Ideal.div (first m g) (Ideal.ofBits .f32 0x3F26BD02#32))
      (Ideal.sqrt (Ideal.div (second v g) (Ideal.ofBits .f32 0x3C231ACC#32)) + Ideal.ofBits .f32 0x322BCC77#32)
    + Ideal.ofBits .f32 0x3C23D70A#32 * w)

/-- An entry of half `j` of a gradient: this core's own where the core's index is `j`, its sibling's elsewhere. -/
def ofHalf (core : BitVec 32) (j : ℕ) (own sib : EReal) : EReal := if core = BitVec.ofNat 32 j then own else sib

/-! ## The same on arrays -/

section arrays
variable {a b : ℕ} {w m v g x y : FVec Ideal ⟨2, ![a, b]⟩ .f32} {fw fm fv fg f h : ℕ → ℕ → EReal}

theorem has_first (hm : Has2 m fm) (hg : Has2 g fg) :
    Has2 (φ := .f32) (addf (mulf (broadcast ⟨2, ![a, b]⟩ (Scalar.ofBits (F := Ideal) .f32 0x3F666666#32)) m)
      (mulf (broadcast ⟨2, ![a, b]⟩ (Scalar.ofBits (F := Ideal) .f32 0x3DCCCCCD#32)) g)) (fun r c => first (fm r c) (fg r c)) :=
  ((Has2.splat _).mulf hm).addf ((Has2.splat _).mulf hg)
theorem has_second (hv : Has2 v fv) (hg : Has2 g fg) :
    Has2 (φ := .f32) (addf (mulf (broadcast ⟨2, ![a, b]⟩ (Scalar.ofBits (F := Ideal) .f32 0x3F7FBE77#32)) v)
      (mulf (broadcast ⟨2, ![a, b]⟩ (Scalar.ofBits (F := Ideal) .f32 0x3A83126F#32)) (mulf g g))) (fun r c => second (fv r c) (fg r c)) :=
  ((Has2.splat _).mulf hv).addf ((Has2.splat _).mulf (hg.mulf hg))
theorem has_step (hw : Has2 w fw) (hx : Has2 x (fun r c => first (fm r c) (fg r c))) (hy : Has2 y (fun r c => second (fv r c) (fg r c))) :
    Has2 (φ := .f32) (mulf (broadcast ⟨2, ![a, b]⟩ (Scalar.ofBits (F := Ideal) .f32 0xBA83126F#32))
      (addf (divf (divf x (broadcast ⟨2, ![a, b]⟩ (Scalar.ofBits (F := Ideal) .f32 0x3F26BD02#32)))
          (addf (sqrt (divf y (broadcast ⟨2, ![a, b]⟩ (Scalar.ofBits (F := Ideal) .f32 0x3C231ACC#32))))
            (broadcast ⟨2, ![a, b]⟩ (Scalar.ofBits (F := Ideal) .f32 0x322BCC77#32))))
        (mulf (broadcast ⟨2, ![a, b]⟩ (Scalar.ofBits (F := Ideal) .f32 0x3C23D70A#32)) w)))
      (fun r c => step (fw r c) (fm r c) (fv r c) (fg r c)) :=
  (Has2.splat _).mulf (((hx.divf (Has2.splat _)).divf ((hy.divf (Has2.splat _)).sqrt.addf (Has2.splat _))).addf ((Has2.splat _).mulf hw))

/-- One of two arrays, by whether two words agree. -/
theorem has_half {core : BitVec 32} {j : ℕ} (hx : Has2 x f) (hy : Has2 y h) :
    Has2 (φ := .f32) (Scalar.select (Scalar.cmpi .eq (BitVec.ofNat 32 j) core) x y) (fun r c => ofHalf core j (f r c) (h r c)) := by
  intro r c
  show Scalar.select (BitVec.ofBool (BitVec.ofNat 32 j == core)) x y (ix2 r c) = ofHalf core j (f r c) (h r c)
  unfold ofHalf Scalar.select
  by_cases e : core = BitVec.ofNat 32 j
  · rw [if_pos e, e]; simpa using hx r c
  · rw [if_neg e, beq_false_of_ne (Ne.symm e)]; simpa using hy r c

/-- The reference's own forms of the same. -/
theorem has_first_ref (hb : (⟨0, ![]⟩ : Shape).BroadcastsInDim ⟨2, ![a, b]⟩ ![]) (hm : Has2 m fm) (hg : Has2 g fg) :
    Has2 (φ := .f32) (addf (mulf (broadcastInDim ⟨2, ![a, b]⟩ ![] hb (constant (F := Ideal) ⟨0, ![]⟩ .f32 0x3F666666#32)) m)
      (mulf (broadcastInDim ⟨2, ![a, b]⟩ ![] hb (constant (F := Ideal) ⟨0, ![]⟩ .f32 0x3DCCCCCD#32)) g))
      (fun r c => first (fm r c) (fg r c)) :=
  ((Has2.hsplat _ _).mulf hm).addf ((Has2.hsplat _ _).mulf hg)
theorem has_second_ref (hb : (⟨0, ![]⟩ : Shape).BroadcastsInDim ⟨2, ![a, b]⟩ ![]) (hv : Has2 v fv) (hg : Has2 g fg) :
    Has2 (φ := .f32) (addf (mulf (broadcastInDim ⟨2, ![a, b]⟩ ![] hb (constant (F := Ideal) ⟨0, ![]⟩ .f32 0x3F7FBE77#32)) v)
      (mulf (broadcastInDim ⟨2, ![a, b]⟩ ![] hb (constant (F := Ideal) ⟨0, ![]⟩ .f32 0x3A83126F#32)) (mulf g g)))
      (fun r c => second (fv r c) (fg r c)) :=
  ((Has2.hsplat _ _).mulf hv).addf ((Has2.hsplat _ _).mulf (hg.mulf hg))
theorem has_step_ref (hb : (⟨0, ![]⟩ : Shape).BroadcastsInDim ⟨2, ![a, b]⟩ ![]) (hw : Has2 w fw)
    (hx : Has2 x (fun r c => first (fm r c) (fg r c))) (hy : Has2 y (fun r c => second (fv r c) (fg r c))) :
    Has2 (φ := .f32) (mulf (broadcastInDim ⟨2, ![a, b]⟩ ![] hb (constant (F := Ideal) ⟨0, ![]⟩ .f32 0xBA83126F#32))
      (addf (Host.divf (Host.divf x (broadcastInDim ⟨2, ![a, b]⟩ ![] hb (constant (F := Ideal) ⟨0, ![]⟩ .f32 0x3F26BD02#32)))
          (addf (Host.sqrt (Host.divf y (broadcastInDim ⟨2, ![a, b]⟩ ![] hb (constant (F := Ideal) ⟨0, ![]⟩ .f32 0x3C231ACC#32))))
            (broadcastInDim ⟨2, ![a, b]⟩ ![] hb (constant (F := Ideal) ⟨0, ![]⟩ .f32 0x322BCC77#32))))
        (mulf (broadcastInDim ⟨2, ![a, b]⟩ ![] hb (constant (F := Ideal) ⟨0, ![]⟩ .f32 0x3C23D70A#32)) w)))
      (fun r c => step (fw r c) (fm r c) (fv r c) (fg r c)) :=
  (Has2.hsplat _ _).mulf (((hx.hdivf (Has2.hsplat _ _)).hdivf
    ((hy.hdivf (Has2.hsplat _ _)).hsqrt.addf (Has2.hsplat _ _))).addf ((Has2.hsplat _ _).mulf hw))
theorem has_half_ref (hb : (⟨0, ![]⟩ : Shape).BroadcastsInDim ⟨2, ![a, b]⟩ ![]) {k : IVec ⟨0, ![]⟩ 32} {core : BitVec 32} {j : ℕ}
    (hk : ∀ i, k i = core) (hx : Has2 x f) (hy : Has2 y h) :
    Has2 (φ := .f32) (select (broadcastInDim ⟨2, ![a, b]⟩ ![] hb (cmpi .eq k (constantI ⟨0, ![]⟩ 32 (BitVec.ofNat 32 j)))) x y)
      (fun r c => ofHalf core j (f r c) (h r c)) := by
  intro r c
  show Scalar.select (BitVec.ofBool (k _ == BitVec.ofNat 32 j)) (x (ix2 r c)) (y (ix2 r c)) = ofHalf core j (f r c) (h r c)
  rw [hk]
  unfold ofHalf Scalar.select
  by_cases e : core = BitVec.ofNat 32 j
  · rw [if_pos e, e]; simpa using hx r c
  · rw [if_neg e, beq_false_of_ne e]; simpa using hy r c

end arrays

/-! ## Two arrays joined -/

section joined
variable {a b n : ℕ} {f : ℕ → ℕ → EReal}

theorem has_beside {x y : FVec Ideal ⟨2, ![a, n]⟩ .f32} (hx : Has2 x f) (hy : Has2 y (fun r c => f r (n + c)))
    (h : Shape.Concatenates [(⟨2, ![a, n]⟩ : Shape), ⟨2, ![a, n]⟩] ⟨2, ![a, b]⟩ 1) :
    Has2 (φ := .f32) (concatenate ⟨2, ![a, b]⟩ 1 [⟨⟨2, ![a, n]⟩, x⟩, ⟨⟨2, ![a, n]⟩, y⟩] h) f := by
  intro r c
  have hb : n + n = b := by have := h.2.2; simpa using this
  by_cases hc : c.val < n
  · exact (concatenate_pair_apply_left 1 x y h (ix2 r c) rfl (ix2 r ⟨c, hc⟩)
      (fun k => match k with | ⟨0, _⟩ => rfl | ⟨1, _⟩ => rfl)).trans (hx r ⟨c, hc⟩)
  · refine (concatenate_pair_apply_right 1 x y h (ix2 r c) rfl rfl (ix2 r ⟨c - n, by omega⟩)
      (fun k hk => match k, hk with | ⟨0, _⟩, _ => rfl | ⟨1, _⟩, hk => absurd rfl hk)
      (by show c.val - n + n = c.val; omega)).trans ((hy r ⟨c - n, by omega⟩).trans ?_)
    exact congrArg (f r) (by show n + (c.val - n) = c.val; omega)
theorem has_above {x y : FVec Ideal ⟨2, ![n, b]⟩ .f32} (hx : Has2 x f) (hy : Has2 y (fun r c => f (n + r) c))
    (h : Shape.Concatenates [(⟨2, ![n, b]⟩ : Shape), ⟨2, ![n, b]⟩] ⟨2, ![a, b]⟩ 0) :
    Has2 (φ := .f32) (concatenate ⟨2, ![a, b]⟩ 0 [⟨⟨2, ![n, b]⟩, x⟩, ⟨⟨2, ![n, b]⟩, y⟩] h) f := by
  intro r c
  have hb : n + n = a := by have := h.2.2; simpa using this
  by_cases hc : r.val < n
  · exact (concatenate_pair_apply_left 0 x y h (ix2 r c) rfl (ix2 ⟨r, hc⟩ c)
      (fun k => match k with | ⟨0, _⟩ => rfl | ⟨1, _⟩ => rfl)).trans (hx ⟨r, hc⟩ c)
  · refine (concatenate_pair_apply_right 0 x y h (ix2 r c) rfl rfl (ix2 ⟨r - n, by omega⟩ c)
      (fun k hk => match k, hk with | ⟨1, _⟩, _ => rfl | ⟨0, _⟩, hk => absurd rfl hk)
      (by show r.val - n + n = r.val; omega)).trans ((hy ⟨r - n, by omega⟩ c).trans ?_)
    exact congrArg (fun k => f k c) (by show n + (r.val - n) = r.val; omega)

end joined

/-! ## Blocks -/

section blocks
variable {A B a b : ℕ} {f : ℕ → ℕ → EReal}

/-- The block at `(p, q)` of an array holds the array's entries, shifted. -/
theorem has_block {x : FVec Ideal ⟨2, ![A, B]⟩ .f32} (hx : Has2 x f) {p q : ℕ} {n : Fin 2 → ℕ} (h0 : n 0 = p) (h1 : n 1 = q)
    {emb : (⟨2, ![a, b]⟩ : Shape).Idx → (⟨2, ![A, B]⟩ : Shape).Idx}
    (he : ∀ j k, (emb j k).val = n k * (![a, b] : Fin 2 → ℕ) k + (j k).val) :
    Has2 (φ := .f32) (a := a) (b := b) (fun j => x (emb j)) (fun r c => f (p * a + r) (q * b + c)) := by
  intro r c
  refine (hx.at _).trans (congrArg₂ f ?_ ?_)
  · rw [he, h0]; rfl
  · rw [he, h1]; rfl

/-- An array whose blocks hold a function's values, shifted, holds the function's. -/
theorem has_of_blocks {N : ℕ} {x : FVec Ideal ⟨2, ![A, B]⟩ .f32} (ha : 0 < a) (hb : 0 < b) (n : Fin N → Fin 2 → ℕ)
    (emb : Fin N → (⟨2, ![a, b]⟩ : Shape).Idx → (⟨2, ![A, B]⟩ : Shape).Idx)
    (he : ∀ t j k, (emb t j k).val = n t k * (![a, b] : Fin 2 → ℕ) k + (j k).val)
    (hc : ∀ p q, p * a < A → q * b < B → ∃ t, n t 0 = p ∧ n t 1 = q)
    (hx : ∀ t, Has2 (φ := .f32) (a := a) (b := b) (fun j => x (emb t j)) (fun r c => f (n t 0 * a + r) (n t 1 * b + c))) : Has2 x f := by
  intro r c
  have hr := r.isLt; have hs := c.isLt
  have dr := Nat.div_add_mod r.val a; have dc := Nat.div_add_mod c.val b
  rw [Nat.mul_comm] at dr dc
  obtain ⟨t, h0, h1⟩ := hc (r.val / a) (c.val / b) (by omega) (by omega)
  have h := hx t ⟨r.val % a, Nat.mod_lt _ ha⟩ ⟨c.val % b, Nat.mod_lt _ hb⟩
  have hi : emb t (ix2 ⟨r.val % a, Nat.mod_lt _ ha⟩ ⟨c.val % b, Nat.mod_lt _ hb⟩) = ix2 r c :=
    Cert.Weights.at2 (by rw [he, h0]; exact dr) (by rw [he, h1]; exact dc)
  have e : x (ix2 r c) = f (n t 0 * a + r.val % a) (n t 1 * b + c.val % b) := (congrArg x hi.symm).trans h
  rw [h0, h1, dr, dc] at e
  exact e

end blocks

end Cert.Adam

end
-- ==== Proof.AdamInResult.lean ====
/-
  What the optimiser's call on the input projection's weight leaves: gradient, step and the two moments, block by block.
-/
module

public import proofs.«01_k».proof.Proof.AdamMath
public import proofs.«01_k».proof.Proof.Gen.AdamInIdeal.Frame

@[expose] public section

noncomputable section

namespace Cert.AdamInProof

open Idealize.ShloMosaic Idealize.ShloMosaic.TcCoe Cert.AdamInIdeal Cert.AdamInIdeal.Gen Cert.Cells Cert.Adam
open Idealize.ShloMosaic.Pipeline (Dat)

/-! ## One point -/

section payloads
variable {i : grid0.Coords} {v0 core : BitVec 32} {x0 x1 x2 x3 x4 : Vec Ideal S512x1024 .f32} {fw fo fs fm fv fg : ℕ → ℕ → EReal}

theorem has_pay1 (hv : v0 = core) (h1 : Has2 (φ := .f32) x1 fo) (h2 : Has2 (φ := .f32) x2 fs)
    (hg : ∀ r e, r < 512 → e < 1024 → ofHalf core (i 0).val (fo r e) (fs r e) = fg r e) : Has2 (φ := .f32) (k0_pay1 i v0 x1 x2) fg := by
  subst hv
  exact Has2.congr (f := fun r e => ofHalf v0 (i 0).val (fo r e) (fs r e)) (has_half h1 h2) hg
theorem has_pay2 (hg : Has2 (φ := .f32) (k0_pay1 i v0 x1 x2) fg) (h3 : Has2 (φ := .f32) x3 fm) :
    Has2 (φ := .f32) (k0_pay2 i v0 x1 x2 x3) (fun r e => first (fm r e) (fg r e)) := has_first h3 hg
theorem has_pay3 (hg : Has2 (φ := .f32) (k0_pay1 i v0 x1 x2) fg) (h4 : Has2 (φ := .f32) x4 fv) :
    Has2 (φ := .f32) (k0_pay3 i v0 x1 x2 x4) (fun r e => second (fv r e) (fg r e)) := has_second h4 hg
theorem has_pay4 (hg : Has2 (φ := .f32) (k0_pay1 i v0 x1 x2) fg) (h0 : Has2 (φ := .f32) x0 fw) (h3 : Has2 (φ := .f32) x3 fm)
    (h4 : Has2 (φ := .f32) x4 fv) :
    Has2 (φ := .f32) (k0_pay4 i v0 x1 x2 x0 x3 x4) (fun r e => step (fw r e) (fm r e) (fv r e) (fg r e)) :=
  has_step h0 (has_pay2 hg h3) (has_pay3 hg h4)

end payloads

section point
variable (c : Dev nD) (i : grid0.Coords)
  {arg3 : Memref sig .tc .vmem S512x1024 .f32} (harg3 : arg3.IsWhole) {arg4 : Memref sig .tc .vmem S512x1024 .f32} (harg4 : arg4.IsWhole)
  {arg5 : Memref sig .tc .vmem S512x1024 .f32} (harg5 : arg5.IsWhole) {arg6 : Memref sig .tc .vmem S512x1024 .f32} (harg6 : arg6.IsWhole)
  {arg7 : Memref sig .tc .vmem S512x1024 .f32} (harg7 : arg7.IsWhole) {arg8 : Memref sig .tc .vmem S512x1024 .f32} (harg8 : arg8.IsWhole)
  {arg9 : Memref sig .tc .vmem S512x1024 .f32} (harg9 : arg9.IsWhole) {arg10 : Memref sig .tc .vmem S512x1024 .f32} (harg10 : arg10.IsWhole)
  {arg11 : Memref sig .tc .vmem S512x1024 .f32} (harg11 : arg11.IsWhole)
  {x0 x1 x2 x3 x4 : Vec Ideal S512x1024 .f32} {xt0 : TbBuf0 (F := Ideal) c tbM0_0} {core : BitVec 32} {fw fo fs fm fv fg : ℕ → ℕ → EReal}

/-- The core's index is the table's second word. -/
theorem word (ht : xt0 (ix1 1) = core) : kernelRun0_A.sl.r (F := Ideal) c xt0 = core := by
  rw [← ht]
  exact congrArg xt0 (funext fun k => Fin.ext (by match k with | ⟨0, _⟩ => rfl))

/-- What a point leaves in its four blocks: gradient, step, and the two moments. -/
theorem outs (ht : xt0 (ix1 1) = core) (h0 : Has2 (φ := .f32) x0 fw) (h1 : Has2 (φ := .f32) x1 fo) (h2 : Has2 (φ := .f32) x2 fs)
    (h3 : Has2 (φ := .f32) x3 fm) (h4 : Has2 (φ := .f32) x4 fv)
    (hg : ∀ r e, r < 512 → e < 1024 → ofHalf core (i 0).val (fo r e) (fs r e) = fg r e) :
    Has2 (φ := .f32) (out0_A_5 (F := Ideal) c i arg3 harg3 arg4 harg4 arg5 harg5 arg6 harg6 arg7 harg7 arg8 harg8 arg9 harg9 arg10 harg10
      arg11 harg11 x0 x1 x2 x3 x4 xt0) fg
    ∧ Has2 (φ := .f32) (out0_A_6 (F := Ideal) c i arg3 harg3 arg4 harg4 arg5 harg5 arg6 harg6 arg7 harg7 arg8 harg8 arg9 harg9 arg10 harg10
      arg11 harg11 x0 x1 x2 x3 x4 xt0) (fun r e => step (fw r e) (fm r e) (fv r e) (fg r e))
    ∧ Has2 (φ := .f32) (out0_A_7 (F := Ideal) c i arg3 harg3 arg4 harg4 arg5 harg5 arg6 harg6 arg7 harg7 arg8 harg8 arg9 harg9 arg10 harg10
      arg11 harg11 x0 x1 x2 x3 x4 xt0) (fun r e => first (fm r e) (fg r e))
    ∧ Has2 (φ := .f32) (out0_A_8 (F := Ideal) c i arg3 harg3 arg4 harg4 arg5 harg5 arg6 harg6 arg7 harg7 arg8 harg8 arg9 harg9 arg10 harg10
      arg11 harg11 x0 x1 x2 x3 x4 xt0) (fun r e => second (fv r e) (fg r e)) := by
  have l0 := load_whole harg3 h0 (by decide)
  have l3 := load_whole harg6 h3 (by decide)
  have l4 := load_whole harg7 h4 (by decide)
  have g := has_pay1 (i := i) (word c ht) (load_whole harg4 h1 (by decide)) (load_whole harg5 h2 (by decide)) hg
  unfold out0_A_5 out0_A_6 out0_A_7 out0_A_8 kernelRun0_A; dsimp only
  exact ⟨stored_wide _ g, stored_wide _ (has_pay4 g l0 l3 l4), stored_wide _ (has_pay2 g l3), stored_wide _ (has_pay3 g l4)⟩

end point

/-! ## The arrays -/

section arrays
variable (m : (ℓ : Loc nD τ sig) → Buf (Elt Ideal) ℓ) (hO : Ok m) (c : Dev nD)

/-- The core's index, and the arguments' entries; a gradient's columns below 1024 are the first half, the others the second. -/
abbrev core : BitVec 32 := m ((c : Thread nD τ).loc main_arg0) (ix1 1)
abbrev weight : ℕ → ℕ → EReal := entry2 (φ := .f32) (a := 1024) (b := 2048) (m ((c : Thread nD τ).loc main_arg1))
abbrev own : ℕ → ℕ → EReal := entry2 (φ := .f32) (a := 1024) (b := 1024) (m ((c : Thread nD τ).loc main_arg2))
abbrev sib : ℕ → ℕ → EReal := entry2 (φ := .f32) (a := 1024) (b := 1024) (m ((c : Thread nD τ).loc main_arg3))
abbrev moment1 : ℕ → ℕ → EReal := entry2 (φ := .f32) (a := 1024) (b := 2048) (m ((c : Thread nD τ).loc main_arg4))
abbrev moment2 : ℕ → ℕ → EReal := entry2 (φ := .f32) (a := 1024) (b := 2048) (m ((c : Thread nD τ).loc main_arg5))
abbrev grad : ℕ → ℕ → EReal := fun r e => ofHalf (core m c) (e / 1024) (own m c r (e % 1024)) (sib m c r (e % 1024))

/-- Which block each window holds at each point. -/
theorem index_full : ∀ t : Fin grid0.N, cc0_transform_0 (grid0.coords t) 0 = (grid0.coords t 1).val
    ∧ cc0_transform_0 (grid0.coords t) 1 = (grid0.coords t 0).val := by decide +kernel
theorem index_half : ∀ t : Fin grid0.N, cc0_transform_1 (grid0.coords t) 0 = (grid0.coords t 1).val
    ∧ cc0_transform_1 (grid0.coords t) 1 = 0 := by decide +kernel
theorem apart : ∀ t t' : Fin grid0.N, cc0_transform_0 (grid0.coords t) = cc0_transform_0 (grid0.coords t') → t = t' := by decide +kernel
theorem covered : ∀ p q, p * 512 < 1024 → q * 1024 < 2048 →
    ∃ t : Fin grid0.N, cc0_transform_0 (grid0.coords t) 0 = p ∧ cc0_transform_0 (grid0.coords t) 1 = q := by
  have h : ∀ p q : Fin 2, ∃ t : Fin grid0.N, cc0_transform_0 (grid0.coords t) 0 = p.val ∧ cc0_transform_0 (grid0.coords t) 1 = q.val := by
    decide +kernel
  exact fun p q hp hq => h ⟨p, by omega⟩ ⟨q, by omega⟩

theorem blk0 (t : Fin (cfgM m hO).N) : Has2 (φ := .f32) (iblk m hO c 0 t : Vec Ideal S512x1024 .f32)
    (fun r e => weight m c ((grid0.coords t 1).val * 512 + r) ((grid0.coords t 0).val * 1024 + e)) :=
  has_block (has_entry2 (φ := .f32) (m ((c : Thread nD τ).loc main_arg1))) (index_full t).1 (index_full t).2
    fun j k => ((cfgM m hO).win 0).rect_emb_val t j k
theorem blk1 (t : Fin (cfgM m hO).N) : Has2 (φ := .f32) (iblk m hO c 1 t : Vec Ideal S512x1024 .f32)
    (fun r e => own m c ((grid0.coords t 1).val * 512 + r) (0 * 1024 + e)) :=
  has_block (has_entry2 (φ := .f32) (m ((c : Thread nD τ).loc main_arg2))) (index_half t).1 (index_half t).2
    fun j k => ((cfgM m hO).win 1).rect_emb_val t j k
theorem blk2 (t : Fin (cfgM m hO).N) : Has2 (φ := .f32) (iblk m hO c 2 t : Vec Ideal S512x1024 .f32)
    (fun r e => sib m c ((grid0.coords t 1).val * 512 + r) (0 * 1024 + e)) :=
  has_block (has_entry2 (φ := .f32) (m ((c : Thread nD τ).loc main_arg3))) (index_half t).1 (index_half t).2
    fun j k => ((cfgM m hO).win 2).rect_emb_val t j k
theorem blk3 (t : Fin (cfgM m hO).N) : Has2 (φ := .f32) (iblk m hO c 3 t : Vec Ideal S512x1024 .f32)
    (fun r e => moment1 m c ((grid0.coords t 1).val * 512 + r) ((grid0.coords t 0).val * 1024 + e)) :=
  has_block (has_entry2 (φ := .f32) (m ((c : Thread nD τ).loc main_arg4))) (index_full t).1 (index_full t).2
    fun j k => ((cfgM m hO).win 3).rect_emb_val t j k
theorem blk4 (t : Fin (cfgM m hO).N) : Has2 (φ := .f32) (iblk m hO c 4 t : Vec Ideal S512x1024 .f32)
    (fun r e => moment2 m c ((grid0.coords t 1).val * 512 + r) ((grid0.coords t 0).val * 1024 + e)) :=
  has_block (has_entry2 (φ := .f32) (m ((c : Thread nD τ).loc main_arg5))) (index_full t).1 (index_full t).2
    fun j k => ((cfgM m hO).win 4).rect_emb_val t j k

/-- The four blocks a point leaves. -/
theorem left (t : Fin (cfgM m hO).N) (p q : ℕ) (hp : (grid0.coords t 1).val = p) (hq : (grid0.coords t 0).val = q) :
    Has2 (φ := .f32) (outsAt0 m hO c t).1 (fun r e => grad m c (p * 512 + r) (q * 1024 + e))
    ∧ Has2 (φ := .f32) (outsAt0 m hO c t).2.1 (fun r e => step (weight m c (p * 512 + r) (q * 1024 + e)) (moment1 m c (p * 512 + r) (q * 1024 + e))
        (moment2 m c (p * 512 + r) (q * 1024 + e)) (grad m c (p * 512 + r) (q * 1024 + e)))
    ∧ Has2 (φ := .f32) (outsAt0 m hO c t).2.2.1 (fun r e => first (moment1 m c (p * 512 + r) (q * 1024 + e)) (grad m c (p * 512 + r) (q * 1024 + e)))
    ∧ Has2 (φ := .f32) (outsAt0 m hO c t).2.2.2 (fun r e => second (moment2 m c (p * 512 + r) (q * 1024 + e)) (grad m c (p * 512 + r) (q * 1024 + e))) := by
  subst hp; subst hq
  obtain rfl : c = 0 := Subsingleton.elim _ _
  have hg : ∀ r e, r < 512 → e < 1024 → ofHalf (core m 0) (grid0.coords t 0).val (own m 0 ((grid0.coords t 1).val * 512 + r) (0 * 1024 + e))
      (sib m 0 ((grid0.coords t 1).val * 512 + r) (0 * 1024 + e))
      = grad m 0 ((grid0.coords t 1).val * 512 + r) ((grid0.coords t 0).val * 1024 + e) := by
    intro r e _ he
    have e1 : ((grid0.coords t 0).val * 1024 + e) / 1024 = (grid0.coords t 0).val := by omega
    have e2 : ((grid0.coords t 0).val * 1024 + e) % 1024 = e := by omega
    show _ = ofHalf (core m 0) (((grid0.coords t 0).val * 1024 + e) / 1024) (own m 0 _ (((grid0.coords t 0).val * 1024 + e) % 1024))
      (sib m 0 _ (((grid0.coords t 0).val * 1024 + e) % 1024))
    rw [e1, e2, Nat.zero_mul, Nat.zero_add]
  have h := outs (core := core m 0) 0 (grid0.coords t) (hs0_0 m hO t) (hs0_1 m hO t) (hs0_2 m hO t) (hs0_3 m hO t) (hs0_4 m hO t) (hs0_5 m hO t)
    (hs0_6 m hO t) (hs0_7 m hO t) (hs0_8 m hO t) (xt0 := tbl m 0) rfl (blk0 m hO 0 t) (blk1 m hO 0 t) (blk2 m hO 0 t) (blk3 m hO 0 t) (blk4 m hO 0 t) hg
  unfold outsAt0
  dsimp only
  exact h

/-- The arrays at the end: gradient, step, first and second moment. -/
theorem array5 : Has2 (φ := .f32) ((dats m hO 0 c).arrAt 5 (cfgM m hO).N : Vec Ideal S1024x2048 .f32)
    (grad m c) :=
  has_of_blocks (by decide) (by decide) (fun t => cc0_transform_5 (grid0.coords t)) (fun t => (((cfgM m hO).win 5).blk t).view.emb)
    (fun t j k => ((cfgM m hO).win 5).rect_emb_val t j k) covered fun t r e => by
  refine ((dats m hO 0 c).arrAt_emb_eq_flushed 5 (fun t t' _ _ hne => ((cfgM m hO).win 5).disjoint_blk fun h => hne (apart t t' h)) t
    (flush0_5 _ t) (ix2 r e)).trans ?_
  refine (congrFun (after0_5 m hO c t) (ix2 r e)).trans ?_
  exact (left m hO c t _ _ (index_full t).1.symm (index_full t).2.symm).1 r e
theorem array6 : Has2 (φ := .f32) ((dats m hO 0 c).arrAt 6 (cfgM m hO).N : Vec Ideal S1024x2048 .f32)
    (fun r e => step (weight m c r e) (moment1 m c r e) (moment2 m c r e) (grad m c r e)) :=
  has_of_blocks (by decide) (by decide) (fun t => cc0_transform_6 (grid0.coords t)) (fun t => (((cfgM m hO).win 6).blk t).view.emb)
    (fun t j k => ((cfgM m hO).win 6).rect_emb_val t j k) covered fun t r e => by
  refine ((dats m hO 0 c).arrAt_emb_eq_flushed 6 (fun t t' _ _ hne => ((cfgM m hO).win 6).disjoint_blk fun h => hne (apart t t' h)) t
    (flush0_6 _ t) (ix2 r e)).trans ?_
  refine (congrFun (after0_6 m hO c t) (ix2 r e)).trans ?_
  exact (left m hO c t _ _ (index_full t).1.symm (index_full t).2.symm).2.1 r e
theorem array7 : Has2 (φ := .f32) ((dats m hO 0 c).arrAt 7 (cfgM m hO).N : Vec Ideal S1024x2048 .f32)
    (fun r e => first (moment1 m c r e) (grad m c r e)) :=
  has_of_blocks (by decide) (by decide) (fun t => cc0_transform_7 (grid0.coords t)) (fun t => (((cfgM m hO).win 7).blk t).view.emb)
    (fun t j k => ((cfgM m hO).win 7).rect_emb_val t j k) covered fun t r e => by
  refine ((dats m hO 0 c).arrAt_emb_eq_flushed 7 (fun t t' _ _ hne => ((cfgM m hO).win 7).disjoint_blk fun h => hne (apart t t' h)) t
    (flush0_7 _ t) (ix2 r e)).trans ?_
  refine (congrFun (after0_7 m hO c t) (ix2 r e)).trans ?_
  exact (left m hO c t _ _ (index_full t).1.symm (index_full t).2.symm).2.2.1 r e
theorem array8 : Has2 (φ := .f32) ((dats m hO 0 c).arrAt 8 (cfgM m hO).N : Vec Ideal S1024x2048 .f32)
    (fun r e => second (moment2 m c r e) (grad m c r e)) :=
  has_of_blocks (by decide) (by decide) (fun t => cc0_transform_8 (grid0.coords t)) (fun t => (((cfgM m hO).win 8).blk t).view.emb)
    (fun t j k => ((cfgM m hO).win 8).rect_emb_val t j k) covered fun t r e => by
  refine ((dats m hO 0 c).arrAt_emb_eq_flushed 8 (fun t t' _ _ hne => ((cfgM m hO).win 8).disjoint_blk fun h => hne (apart t t' h)) t
    (flush0_8 _ t) (ix2 r e)).trans ?_
  refine (congrFun (after0_8 m hO c t) (ix2 r e)).trans ?_
  exact (left m hO c t _ _ (index_full t).1.symm (index_full t).2.symm).2.2.2 r e

end arrays

end Cert.AdamInProof

end
-- ==== Proof.AdamInClaims.lean ====
/-
  The claims about the optimiser's update of the input projection's weight: the frames and the value.
-/
module

public import proofs.«01_k».proof.Defs
public import proofs.«01_k».proof.Proof.AdamInResult
public import proofs.«01_k».proof.Proof.Gen.AdamIn.Frame
public import proofs.«01_k».proof.Proof.Gen.AdamInReferenceIdeal.Run
public import proofs.«01_k».proof.Proof.Gen.AdamInReferenceIdeal.Read
public import Idealize.ShloMosaic.Adequacy
public import Idealize.ShloMosaic.Init

@[expose] public section

noncomputable section

namespace Cert.AdamInProof

open Idealize.ShloMosaic Idealize.SL.Sem Cert.Cells Cert.Adam

/-- The kernel leaves its arguments as they were and every counter at zero. -/
theorem frame_p : Cert.quiescent_AdamIn := fun m ρ _ => Cert.AdamIn.Gen.frame m ρ trivial
theorem frame_pi : Cert.quiescent_AdamInIdeal := fun m ρ _ => Cert.AdamInIdeal.Gen.frame m ρ trivial

/-- So does the reference, which has no counter. -/
theorem frame_ri : Cert.quiescent_AdamInReferenceIdeal := fun m ρ _ =>
  (θ_run Cert.AdamInReferenceIdeal.defs _ _).mono (fun r h => ⟨fun c => (h c).2.2.2.2, sem_eq_zero_of_no_sems (by decide) r.2⟩)
    (Cert.AdamInReferenceIdeal.Value.run (F := Ideal) m ρ)

/-- The idealized kernel is the kernel's own text. -/
theorem preserves : Cert.preserves_AdamIn_AdamInIdeal := trivial

/-! ## The reference -/

section reference
open Cert.AdamInReferenceIdeal Cert.AdamInReferenceIdeal.Gen Cert.AdamInReferenceIdeal.Read

variable (x0 : IVec ⟨1, ![2]⟩ 32) (x1 : FVec Ideal ⟨2, ![1024, 2048]⟩ .f32) (x2 x3 : FVec Ideal ⟨2, ![1024, 1024]⟩ .f32)
  (x4 x5 : FVec Ideal ⟨2, ![1024, 2048]⟩ .f32) {fg : ℕ → ℕ → EReal}

/-- The core's index. -/
theorem r1 (i : S_.Idx) : val_main_v1 (F := Ideal) x0 i = x0 (ix1 1) := by
  have h : ∀ j : S1.Idx, val_main_v0 (F := Ideal) x0 j = x0 (ix1 1) := fun j =>
    (val_main_v0_apply (F := Ideal) x0 j).trans (congrArg x0 (funext fun k => Fin.ext (by
      match k with | ⟨0, _⟩ => have h0 : (j 0).val < 1 := (j 0).isLt; show 1 + (j 0).val = 1; omega)))
  exact h _

/-- The gradient, from its two halves. -/
theorem r6 : Has2 (φ := .f32) (val_main_v6 (F := Ideal) x0 x2 x3)
    (fun r e => ofHalf (x0 (ix1 1)) (e / 1024) (entry2 x2 r (e % 1024)) (entry2 x3 r (e % 1024))) := by
  refine has_beside (Has2.congr (has_half_ref (j := 0) _ (r1 x0) (has_entry2 x2) (has_entry2 x3)) fun r e _ he => ?_)
    (Has2.congr (has_half_ref (j := 1) _ (r1 x0) (has_entry2 x2) (has_entry2 x3)) fun r e _ he => ?_) _
  · rw [show e / 1024 = 0 by omega, show e % 1024 = e by omega]
  · show _ = ofHalf (x0 (ix1 1)) ((1024 + e) / 1024) (entry2 x2 r ((1024 + e) % 1024)) (entry2 x3 r ((1024 + e) % 1024))
    rw [show (1024 + e) / 1024 = 1 by omega, show (1024 + e) % 1024 = e by omega]

/-- The moments and the step. -/
theorem r11 (hg : Has2 (φ := .f32) (val_main_v6 (F := Ideal) x0 x2 x3) fg) :
    Has2 (φ := .f32) (val_main_v11 (F := Ideal) x0 x2 x3 x4) (fun r e => first (entry2 x4 r e) (fg r e)) :=
  has_first_ref _ (has_entry2 x4) hg
theorem r17 (hg : Has2 (φ := .f32) (val_main_v6 (F := Ideal) x0 x2 x3) fg) :
    Has2 (φ := .f32) (val_main_v17 (F := Ideal) x0 x2 x3 x5) (fun r e => second (entry2 x5 r e) (fg r e)) :=
  has_second_ref _ (has_entry2 x5) hg
theorem r30 (hg : Has2 (φ := .f32) (val_main_v6 (F := Ideal) x0 x2 x3) fg) :
    Has2 (φ := .f32) (val_main_v30 (F := Ideal) x0 x1 x2 x3 x4 x5)
      (fun r e => step (entry2 x1 r e) (entry2 x4 r e) (entry2 x5 r e) (fg r e)) :=
  has_step_ref _ (has_entry2 x1) (r11 x0 x2 x3 x4 hg) (r17 x0 x2 x3 x5 hg)

end reference

/-! ## The two agree -/

open Cert.AdamInIdeal in
/-- What the kernel's run leaves. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v0_0) = (Gen.dats m trivial 0 c).arrAt 5 (Gen.cfgM m trivial).N
      ∧ r.2.mem ((c.tc : Thread nD τ).loc main_v0_1) = (Gen.dats m trivial 0 c).arrAt 6 (Gen.cfgM m trivial).N
      ∧ r.2.mem ((c.tc : Thread nD τ).loc main_v0_2) = (Gen.dats m trivial 0 c).arrAt 7 (Gen.cfgM m trivial).N
      ∧ r.2.mem ((c.tc : Thread nD τ).loc main_v0_3) = (Gen.dats m trivial 0 c).arrAt 8 (Gen.cfgM m trivial).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h.1 c).1 5, (h.1 c).1 6, (h.1 c).1 7, (h.1 c).1 8, h.2 c⟩)
    (θ_run_and (Gen.run_main m ρ trivial) (Gen.unchanged m ρ trivial))

/-- Two arrays with the same entries are equal. -/
theorem ext {a b : ℕ} {x y : FVec Ideal ⟨2, ![a, b]⟩ .f32} {f : ℕ → ℕ → EReal} (hx : Has2 x f) (hy : Has2 y f) : x = y :=
  funext fun i => (hx.at i).trans (hy.at i).symm

/-- Kernel and reference leave the same gradient, step and moments. -/
theorem algebraic : Cert.algebraic_AdamInIdeal_AdamInReferenceIdeal := by
  intro m ρ m' ρ' _ hag
  refine ⟨fun c => (Cert.AdamInIdeal.Gen.dats m trivial 0 c).arrAt 5 (Cert.AdamInIdeal.Gen.cfgM m trivial).N,
    fun c => (Cert.AdamInIdeal.Gen.dats m trivial 0 c).arrAt 6 (Cert.AdamInIdeal.Gen.cfgM m trivial).N,
    fun c => (Cert.AdamInIdeal.Gen.dats m trivial 0 c).arrAt 7 (Cert.AdamInIdeal.Gen.cfgM m trivial).N,
    fun c => (Cert.AdamInIdeal.Gen.dats m trivial 0 c).arrAt 8 (Cert.AdamInIdeal.Gen.cfgM m trivial).N, run m ρ, ?_⟩
  refine (θ_run Cert.AdamInReferenceIdeal.defs _ _).mono (fun r h c => ?_) (Cert.AdamInReferenceIdeal.Value.run (F := Ideal) m' ρ')
  obtain ⟨a0, a1, a2, a3, a4, a5⟩ := hag c
  obtain ⟨h0, h1, h2, h3, hr⟩ := h c
  have e0 := h0.trans (Cert.AdamInReferenceIdeal.Read.val_main_v6_eq _ _ _)
  have e1 := h1.trans (Cert.AdamInReferenceIdeal.Read.val_main_v30_eq _ _ _ _ _ _)
  have e2 := h2.trans (Cert.AdamInReferenceIdeal.Read.val_main_v11_eq _ _ _ _)
  have e3 := h3.trans (Cert.AdamInReferenceIdeal.Read.val_main_v17_eq _ _ _ _)
  rw [a0, a2, a3] at e0
  rw [a0, a1, a2, a3, a4, a5] at e1
  rw [a0, a2, a3, a4] at e2
  rw [a0, a2, a3, a5] at e3
  exact ⟨e0.trans (ext (r6 _ _ _) (array5 m trivial c)), e1.trans (ext (r30 _ _ _ _ _ _ (r6 _ _ _)) (array6 m trivial c)),
    e2.trans (ext (r11 _ _ _ _ (r6 _ _ _)) (array7 m trivial c)), e3.trans (ext (r17 _ _ _ _ (r6 _ _ _)) (array8 m trivial c)), hr⟩

end Cert.AdamInProof

end
-- ==== Proof.ChipMath.lean ====
/-
  A device's share of a gradient: its own part and the parts of three other devices. The kernel adds the three one
  after another, the reference sums them first; over the extended reals the two orders give the same.
-/
module

public import proofs.«01_k».proof.Proof.AdamMath

@[expose] public section

noncomputable section

namespace Cert.Chip

open Idealize.ShloMosaic Cert.Cells Cert.Adam
open scoped BigOperators

variable {a b A B : ℕ}

/-- The device's own part and the sum of the others'. -/
def total (own : ℕ → ℕ → EReal) (rem : ℕ → ℕ → ℕ → EReal) (r c : ℕ) : EReal := own r c + ∑ k ∈ Finset.range 3, rem k r c

/-- Adding the three one after another. -/
theorem total_eq (own : ℕ → ℕ → EReal) (rem : ℕ → ℕ → ℕ → EReal) (r c : ℕ) :
    own r c + rem 0 r c + rem 1 r c + rem 2 r c = total own rem r c := by
  unfold total
  rw [Finset.sum_range_succ, Finset.sum_range_succ, Finset.sum_range_one]
  simp only [add_assoc]

variable {own : ℕ → ℕ → EReal} {rem : ℕ → ℕ → ℕ → EReal}

/-- Part `n` of the three. -/
theorem has_part {x : Vec Ideal ⟨3, ![3, a, b]⟩ .bf16} (hx : Has3 (φ := .bf16) x rem) (n : ℕ)
    (inb : ∀ k, (![n, 0, 0] : Fin 3 → ℕ) k + (![1, a, b] : Fin 3 → ℕ) k ≤ (![3, a, b] : Fin 3 → ℕ) k) :
    Has3 (φ := .bf16) (a := 1) (b := a) (d := b)
      (View.ld x (Rect.unit (s := ⟨3, ![3, a, b]⟩) ![n, 0, 0] ![1, a, b] inb)) (fun _ => rem n) := by
  intro k r c
  have h1 : n + 1 ≤ 3 := inb 0
  obtain rfl : k = 0 := Subsingleton.elim _ _
  refine Eq.trans (congrArg x (Cert.Weights.at3 ?_ ?_ ?_)) (hx ⟨n, by omega⟩ r c)
  · show n + 1 * 0 = n; omega
  · show 0 + 1 * r.val = r.val; omega
  · show 0 + 1 * c.val = c.val; omega

/-- The kernel's sum. -/
theorem has_sum {x : FVec Ideal ⟨2, ![a, b]⟩ .f32} {p q s : FVec Ideal ⟨3, ![1, a, b]⟩ .bf16} (hx : Has2 x own)
    (hp : Has3 p fun _ => rem 0) (hq : Has3 q fun _ => rem 1) (hs : Has3 s fun _ => rem 2)
    (h : (⟨3, ![1, a, b]⟩ : Shape).ShapeCasts ⟨2, ![a, b]⟩) (hb : FTy.bits .bf16 < FTy.bits .f32) :
    Has2 (φ := .f32) (addf (addf (addf x (extf .f32 (shapeCast ⟨2, ![a, b]⟩ p h) hb)) (extf .f32 (shapeCast ⟨2, ![a, b]⟩ q h) hb))
      (extf .f32 (shapeCast ⟨2, ![a, b]⟩ s h) hb)) (total own rem) := fun r c =>
  (congrArg₂ (fun u v : EReal => u + v) (congrArg₂ (fun u v : EReal => u + v) (congrArg₂ (fun u v : EReal => u + v) (hx r c)
    (hp.dropUnit h r c)) (hq.dropUnit h r c)) (hs.dropUnit h r c)).trans (total_eq own rem r c)

/-- The reference's sum at an index. -/
theorem sum_ref {x : FVec Ideal ⟨2, ![a, b]⟩ .f32} {y : FVec Ideal ⟨3, ![3, a, b]⟩ .bf16} (hx : Has2 x own) (hy : Has3 y rem)
    (i : (⟨2, ![a, b]⟩ : Shape).Idx) {j : Fin 3 → (⟨3, ![3, a, b]⟩ : Shape).Idx} (h0 : ∀ k, (j k 0).val = k.val)
    (h1 : ∀ k, (j k 1).val = (i 0).val) (h2 : ∀ k, (j k 2).val = (i 1).val) :
    (x i : EReal) + (Ideal.ofBits .f32 0x00000000#32 + ∑ k : Fin 3, y (j k)) = total own rem (i 0).val (i 1).val :=
  congrArg₂ (fun u v : EReal => u + v) (hx.at i) (sum_onto (fun k => rem k (i 0).val (i 1).val) fun k => by
    rw [hy.at, h0, h1, h2])

/-- A block of the three parts. -/
theorem has_block3 {x : FVec Ideal ⟨3, ![3, A, B]⟩ .bf16} (hx : Has3 x rem) {p q : ℕ} {n : Fin 3 → ℕ} (h0 : n 0 = 0) (h1 : n 1 = p)
    (h2 : n 2 = q) {emb : (⟨3, ![3, a, b]⟩ : Shape).Idx → (⟨3, ![3, A, B]⟩ : Shape).Idx}
    (he : ∀ j k, (emb j k).val = n k * (![3, a, b] : Fin 3 → ℕ) k + (j k).val) :
    Has3 (φ := .bf16) (a := 3) (b := a) (d := b) (fun j => x (emb j)) (fun k r c => rem k (p * a + r) (q * b + c)) := by
  intro k r c
  refine (hx.at _).trans ?_
  have e0 : (emb (ix3 k r c) 0).val = k.val := by
    rw [he, h0, Nat.zero_mul, Nat.zero_add]; rfl
  have e1 : (emb (ix3 k r c) 1).val = p * a + r.val := by
    rw [he, h1]; rfl
  have e2 : (emb (ix3 k r c) 2).val = q * b + c.val := by
    rw [he, h2]; rfl
  rw [e0, e1, e2]

/-- An array each of whose blocks holds the sum of the two arguments' blocks holds the sum of the arguments. -/
theorem has_total {N : ℕ} {x : FVec Ideal ⟨2, ![A, B]⟩ .f32} {p : FVec Ideal ⟨3, ![3, A, B]⟩ .bf16} {y : FVec Ideal ⟨2, ![A, B]⟩ .f32}
    (ha : 0 < a) (hb : 0 < b) {n : Fin N → Fin 3 → ℕ} {u v : Fin N → Fin 2 → ℕ}
    {ex ey : Fin N → (⟨2, ![a, b]⟩ : Shape).Idx → (⟨2, ![A, B]⟩ : Shape).Idx}
    {ep : Fin N → (⟨3, ![3, a, b]⟩ : Shape).Idx → (⟨3, ![3, A, B]⟩ : Shape).Idx}
    (hx : ∀ t j k, (ex t j k).val = u t k * (![a, b] : Fin 2 → ℕ) k + (j k).val)
    (hp : ∀ t j k, (ep t j k).val = n t k * (![3, a, b] : Fin 3 → ℕ) k + (j k).val)
    (hy : ∀ t j k, (ey t j k).val = v t k * (![a, b] : Fin 2 → ℕ) k + (j k).val)
    (hu : ∀ t, u t 0 = v t 0 ∧ u t 1 = v t 1) (hn : ∀ t, n t 0 = 0 ∧ n t 1 = v t 0 ∧ n t 2 = v t 1)
    (hc : ∀ r s, r * a < A → s * b < B → ∃ t, v t 0 = r ∧ v t 1 = s)
    (h : ∀ t own rem, Has2 (φ := .f32) (a := a) (b := b) (fun j => x (ex t j)) own →
      Has3 (φ := .bf16) (a := 3) (b := a) (d := b) (fun j => p (ep t j)) rem →
      Has2 (φ := .f32) (a := a) (b := b) (fun j => y (ey t j)) (total own rem)) :
    Has2 y (total (entry2 x) (entry3 p)) :=
  has_of_blocks ha hb v ey hy hc fun t =>
    h t _ _ (has_block (has_entry2 x) (hu t).1 (hu t).2 (hx t)) (has_block3 (has_entry3 p) (hn t).1 (hn t).2.1 (hn t).2.2 (hp t))

theorem origin2 : (![0, 0] : Fin 2 → ℕ) = fun _ => 0 := by funext a; revert a; decide

/-- Two arrays with the same entries are equal. -/
theorem ext {x y : FVec Ideal ⟨2, ![a, b]⟩ .f32} {f : ℕ → ℕ → EReal} (hx : Has2 x f) (hy : Has2 y f) : x = y :=
  funext fun i => (hx.at i).trans (hy.at i).symm

end Cert.Chip

end
-- ==== Proof.ChipGateUpClaims.lean ====
/-
  The claims about the sum over devices for the gate and up projections' gradient: the frames and the value.
-/
module

public import proofs.«01_k».proof.Defs
public import proofs.«01_k».proof.Proof.ChipMath
public import proofs.«01_k».proof.Proof.Gen.ChipGateUp.Frame
public import proofs.«01_k».proof.Proof.Gen.ChipGateUpIdeal.Frame
public import proofs.«01_k».proof.Proof.Gen.ChipGateUpIdeal.Value
public import proofs.«01_k».proof.Proof.Gen.ChipGateUpReferenceIdeal.Run
public import proofs.«01_k».proof.Proof.Gen.ChipGateUpReferenceIdeal.Read
public import Idealize.ShloMosaic.Adequacy
public import Idealize.ShloMosaic.Init

@[expose] public section

noncomputable section

namespace Cert.ChipGateUpProof

open Idealize.ShloMosaic Idealize.SL.Sem Cert.Cells Cert.Adam Cert.Chip

/-- The kernel leaves its arguments as they were and every counter at zero. -/
theorem frame_p : Cert.quiescent_ChipGateUp := fun m ρ _ => Cert.ChipGateUp.Gen.frame m ρ
theorem frame_pi : Cert.quiescent_ChipGateUpIdeal := fun m ρ _ => Cert.ChipGateUpIdeal.Gen.frame m ρ

/-- So does the reference, which has no counter. -/
theorem frame_ri : Cert.quiescent_ChipGateUpReferenceIdeal := fun m ρ _ =>
  (θ_run Cert.ChipGateUpReferenceIdeal.defs _ _).mono (fun r h => ⟨fun c => (h c).2, sem_eq_zero_of_no_sems (by decide) r.2⟩)
    (Cert.ChipGateUpReferenceIdeal.Value.run (F := Ideal) m ρ)

/-- The idealized kernel is the kernel's own text. -/
theorem preserves : Cert.preserves_ChipGateUp_ChipGateUpIdeal := trivial

section reference
open Cert.ChipGateUpReferenceIdeal Cert.ChipGateUpReferenceIdeal.Gen Cert.ChipGateUpReferenceIdeal.Read

/-- The reference's sum. -/
theorem reference (x0 : FVec Ideal ⟨2, ![512, 1408]⟩ .f32) (x1 : FVec Ideal ⟨3, ![3, 512, 1408]⟩ .bf16) :
    Has2 (φ := .f32) (val_main_v2 (F := Ideal) x0 x1) (total (entry2 x0) (entry3 x1)) := fun r c => by
  rw [val_main_v2_apply, val_main_v1_apply]
  exact sum_ref (has_entry2 x0) (has_entry3 x1) (ix2 r c) (j := idx_main_v1 (ix2 r c)) (fun _ => rfl) (fun _ => rfl) (fun _ => rfl)
end reference

section kernel
open Idealize.ShloMosaic.TcCoe Cert.ChipGateUpIdeal Cert.ChipGateUpIdeal.Gen Cert.ChipGateUpIdeal.Value

/-- What one point leaves. -/
theorem out {x0 : Vec Ideal S256x1408 .f32} {x1 : Vec Ideal S3x256x1408 .bf16} {own : ℕ → ℕ → EReal} {rem : ℕ → ℕ → ℕ → EReal}
    (h0 : Has2 (φ := .f32) x0 own) (h1 : Has3 (φ := .bf16) x1 rem) : Has2 (φ := .f32) (out0_2 x0 x1) (total own rem) := by
  unfold out0_2
  rw [View.canon_unit_zero origin2, View.ld_unit_zero (S := S256x1408) origin2]
  unfold k0_pay1
  exact has_sum h0 (has_part h1 0 _) (has_part h1 1 _) (has_part h1 2 _) _ _

/-- Which block each window holds at each point. -/
theorem index0 : ∀ t : Fin grid0.N, win0_0.index t 0 = win0_2.index t 0 ∧ win0_0.index t 1 = win0_2.index t 1 := by decide +kernel
theorem index1 : ∀ t : Fin grid0.N, win0_1.index t 0 = 0 ∧ win0_1.index t 1 = win0_2.index t 0 ∧ win0_1.index t 2 = win0_2.index t 1 := by
  decide +kernel
theorem covered : ∀ p q, p * 256 < 512 → q * 1408 < 1408 → ∃ t : Fin grid0.N, win0_2.index t 0 = p ∧ win0_2.index t 1 = q := by
  have h : ∀ p : Fin 2, ∃ t : Fin grid0.N, win0_2.index t 0 = p.val ∧ win0_2.index t 1 = 0 := by decide +kernel
  intro p q hp hq
  obtain rfl : q = 0 := by omega
  exact h ⟨p, by omega⟩

variable (m : (ℓ : Loc nD τ sig) → Buf (Elt Ideal) ℓ) (c : Dev nD)

/-- The block that a point leaves. -/
theorem left (t : Fin cfg0.N) {own : ℕ → ℕ → EReal} {rem : ℕ → ℕ → ℕ → EReal}
    (h0 : Has2 (φ := .f32) (iblk m c 0 t : Vec Ideal S256x1408 .f32) own)
    (h1 : Has3 (φ := .bf16) (iblk m c 1 t : Vec Ideal S3x256x1408 .bf16) rem) :
    Has2 (φ := .f32) ((dats m 0 c).flushed 2 t : Vec Ideal S256x1408 .f32) (total own rem) := by
  rw [flushed2]
  have h := out h0 h1
  generalize out0_2 (F := Ideal) (iblk m c 0 t) (iblk m c 1 t) = z at h ⊢
  exact h

/-- The array at the end. -/
theorem array : Has2 (φ := .f32) ((dats m 0 c).arrAt 2 cfg0.N : Vec Ideal S512x1408 .f32)
    (total (entry2 (φ := .f32) (a := 512) (b := 1408) (m ((c : Thread nD τ).loc main_arg0)))
      (entry3 (φ := .bf16) (a := 3) (b := 512) (d := 1408) (m ((c : Thread nD τ).loc main_arg1)))) :=
  has_total (a := 256) (b := 1408) (by decide) (by decide) win0_0.rect_emb_val win0_1.rect_emb_val win0_2.rect_emb_val index0 index1 covered
    fun t own rem h0 h1 r e => ((dats m 0 c).arrAt_emb_eq_flushed 2 disjoint2 t (flush0_2 t) (ix2 r e)).trans (left m c t h0 h1 r e)
end kernel

/-- Kernel and reference leave the same sum. -/
theorem algebraic : Cert.algebraic_ChipGateUpIdeal_ChipGateUpReferenceIdeal := by
  intro m ρ m' ρ' _ hag
  refine ⟨fun c => (Cert.ChipGateUpIdeal.Gen.dats m 0 c).arrAt 2 Cert.ChipGateUpIdeal.cfg0.N, Cert.ChipGateUpIdeal.Value.run_blocks m ρ, ?_⟩
  refine (θ_run Cert.ChipGateUpReferenceIdeal.defs _ _).mono (fun r h c => ?_) (Cert.ChipGateUpReferenceIdeal.Value.run (F := Ideal) m' ρ')
  obtain ⟨a0, a1⟩ := hag c
  obtain ⟨h0, hr⟩ := h c
  have e0 := h0.trans (Cert.ChipGateUpReferenceIdeal.Read.val_main_v2_eq _ _)
  rw [a0, a1] at e0
  exact ⟨e0.trans (ext (reference _ _) (array m c)), hr⟩

end Cert.ChipGateUpProof

end
-- ==== Proof.ChipDownClaims.lean ====
/-
  The claims about the sum over devices for the down projection's gradient: the frames and the value.
-/
module

public import proofs.«01_k».proof.Defs
public import proofs.«01_k».proof.Proof.ChipMath
public import proofs.«01_k».proof.Proof.Gen.ChipDown.Frame
public import proofs.«01_k».proof.Proof.Gen.ChipDownIdeal.Frame
public import proofs.«01_k».proof.Proof.Gen.ChipDownIdeal.Value
public import proofs.«01_k».proof.Proof.Gen.ChipDownReferenceIdeal.Run
public import proofs.«01_k».proof.Proof.Gen.ChipDownReferenceIdeal.Read
public import Idealize.ShloMosaic.Adequacy
public import Idealize.ShloMosaic.Init

@[expose] public section

noncomputable section

namespace Cert.ChipDownProof

open Idealize.ShloMosaic Idealize.SL.Sem Cert.Cells Cert.Adam Cert.Chip

/-- The kernel leaves its arguments as they were and every counter at zero. -/
theorem frame_p : Cert.quiescent_ChipDown := fun m ρ _ => Cert.ChipDown.Gen.frame m ρ
theorem frame_pi : Cert.quiescent_ChipDownIdeal := fun m ρ _ => Cert.ChipDownIdeal.Gen.frame m ρ

/-- So does the reference, which has no counter. -/
theorem frame_ri : Cert.quiescent_ChipDownReferenceIdeal := fun m ρ _ =>
  (θ_run Cert.ChipDownReferenceIdeal.defs _ _).mono (fun r h => ⟨fun c => (h c).2, sem_eq_zero_of_no_sems (by decide) r.2⟩)
    (Cert.ChipDownReferenceIdeal.Value.run (F := Ideal) m ρ)

/-- The idealized kernel is the kernel's own text. -/
theorem preserves : Cert.preserves_ChipDown_ChipDownIdeal := trivial

section reference
open Cert.ChipDownReferenceIdeal Cert.ChipDownReferenceIdeal.Gen Cert.ChipDownReferenceIdeal.Read

/-- The reference's sum. -/
theorem reference (x0 : FVec Ideal ⟨2, ![352, 1024]⟩ .f32) (x1 : FVec Ideal ⟨3, ![3, 352, 1024]⟩ .bf16) :
    Has2 (φ := .f32) (val_main_v2 (F := Ideal) x0 x1) (total (entry2 x0) (entry3 x1)) := fun r c => by
  rw [val_main_v2_apply, val_main_v1_apply]
  exact sum_ref (has_entry2 x0) (has_entry3 x1) (ix2 r c) (j := idx_main_v1 (ix2 r c)) (fun _ => rfl) (fun _ => rfl) (fun _ => rfl)
end reference

section kernel
open Idealize.ShloMosaic.TcCoe Cert.ChipDownIdeal Cert.ChipDownIdeal.Gen Cert.ChipDownIdeal.Value

variable (m : (ℓ : Loc nD τ sig) → Buf (Elt Ideal) ℓ) (c : Dev nD)

/-- The array at the end. -/
theorem array : Has2 (φ := .f32) ((dats m 0 c).arrAt 2 cfg0.N : Vec Ideal S352x1024 .f32)
    (total (entry2 (φ := .f32) (a := 352) (b := 1024) (m ((c : Thread nD τ).loc main_arg0)))
      (entry3 (φ := .bf16) (a := 3) (b := 352) (d := 1024) (m ((c : Thread nD τ).loc main_arg1)))) := by
  rw [final2]
  have h1 := has_entry3 (φ := .bf16) (a := 3) (b := 352) (d := 1024) (m ((c : Thread nD τ).loc main_arg1))
  exact has_sum (has_entry2 _) (has_part h1 0 _) (has_part h1 1 _) (has_part h1 2 _) _ _
end kernel

/-- Kernel and reference leave the same sum. -/
theorem algebraic : Cert.algebraic_ChipDownIdeal_ChipDownReferenceIdeal := by
  intro m ρ m' ρ' _ hag
  refine ⟨fun c => (Cert.ChipDownIdeal.Gen.dats m 0 c).arrAt 2 Cert.ChipDownIdeal.cfg0.N, Cert.ChipDownIdeal.Value.run_blocks m ρ, ?_⟩
  refine (θ_run Cert.ChipDownReferenceIdeal.defs _ _).mono (fun r h c => ?_) (Cert.ChipDownReferenceIdeal.Value.run (F := Ideal) m' ρ')
  obtain ⟨a0, a1⟩ := hag c
  obtain ⟨h0, hr⟩ := h c
  have e0 := h0.trans (Cert.ChipDownReferenceIdeal.Read.val_main_v2_eq _ _)
  rw [a0, a1] at e0
  exact ⟨e0.trans (ext (reference _ _) (array m c)), hr⟩

end Cert.ChipDownProof

end
-- ==== Proof.ChipSquaresClaims.lean ====
/-
  The claims about the sums over devices for the square weights' gradients: the frames and the value.
-/
module

public import proofs.«01_k».proof.Defs
public import proofs.«01_k».proof.Proof.ChipMath
public import proofs.«01_k».proof.Proof.Gen.ChipSquares.Frame
public import proofs.«01_k».proof.Proof.Gen.ChipSquaresIdeal.Frame
public import proofs.«01_k».proof.Proof.Gen.ChipSquaresIdeal.Value
public import proofs.«01_k».proof.Proof.Gen.ChipSquaresReferenceIdeal.Run
public import proofs.«01_k».proof.Proof.Gen.ChipSquaresReferenceIdeal.Read
public import Idealize.ShloMosaic.Adequacy
public import Idealize.ShloMosaic.Init

@[expose] public section

noncomputable section

namespace Cert.ChipSquaresProof

open Idealize.ShloMosaic Idealize.SL.Sem Cert.Cells Cert.Adam Cert.Chip

/-- The kernel leaves its arguments as they were and every counter at zero. -/
theorem frame_p : Cert.quiescent_ChipSquares := fun m ρ _ => Cert.ChipSquares.Gen.frame m ρ
theorem frame_pi : Cert.quiescent_ChipSquaresIdeal := fun m ρ _ => Cert.ChipSquaresIdeal.Gen.frame m ρ

/-- So does the reference, which has no counter. -/
theorem frame_ri : Cert.quiescent_ChipSquaresReferenceIdeal := fun m ρ _ =>
  (θ_run Cert.ChipSquaresReferenceIdeal.defs _ _).mono (fun r h => ⟨fun c => (h c).2.2.2, sem_eq_zero_of_no_sems (by decide) r.2⟩)
    (Cert.ChipSquaresReferenceIdeal.Value.run (F := Ideal) m ρ)

/-- The idealized kernel is the kernel's own text. -/
theorem preserves : Cert.preserves_ChipSquares_ChipSquaresIdeal := trivial

section reference
open Cert.ChipSquaresReferenceIdeal Cert.ChipSquaresReferenceIdeal.Gen Cert.ChipSquaresReferenceIdeal.Read

variable (x : FVec Ideal ⟨2, ![128, 1024]⟩ .f32) (y : FVec Ideal ⟨3, ![3, 128, 1024]⟩ .bf16)

/-- The reference's sums; the three are the same function of their arguments. -/
theorem reference_a : Has2 (φ := .f32) (val_main_v2 (F := Ideal) x y) (total (entry2 x) (entry3 y)) := fun r c => by
  rw [val_main_v2_apply, val_main_v1_apply]
  exact sum_ref (has_entry2 x) (has_entry3 y) (ix2 r c) (j := idx_main_v1 (ix2 r c)) (fun _ => rfl) (fun _ => rfl) (fun _ => rfl)
theorem reference_b : Has2 (φ := .f32) (val_main_v5 (F := Ideal) x y) (total (entry2 x) (entry3 y)) := reference_a x y
theorem reference_out : Has2 (φ := .f32) (val_main_v8 (F := Ideal) x y) (total (entry2 x) (entry3 y)) := reference_a x y
end reference

section kernel
open Idealize.ShloMosaic.TcCoe Cert.ChipSquaresIdeal Cert.ChipSquaresIdeal.Gen Cert.ChipSquaresIdeal.Value

variable (m : (ℓ : Loc nD τ sig) → Buf (Elt Ideal) ℓ) (c : Dev nD)

/-- The kernel's sum of two of its arguments. -/
theorem sum (x : Vec Ideal S128x1024 .f32) (y : Vec Ideal S3x128x1024 .bf16) :
    Has2 (φ := .f32) (k0_pay2 x (View.ld y r0_1) (View.ld y r0_2) (View.ld y r0_3))
      (total (entry2 (φ := .f32) (a := 128) (b := 1024) x) (entry3 (φ := .bf16) (a := 3) (b := 128) (d := 1024) y)) := by
  have h1 := has_entry3 (φ := .bf16) (a := 3) (b := 128) (d := 1024) y
  exact has_sum (has_entry2 _) (has_part h1 0 _) (has_part h1 1 _) (has_part h1 2 _) _ _

/-- The arrays at the end. -/
theorem array6 : Has2 (φ := .f32) ((dats m 0 c).arrAt 6 cfg0.N : Vec Ideal S128x1024 .f32)
    (total (entry2 (φ := .f32) (a := 128) (b := 1024) (m ((c : Thread nD τ).loc main_arg0)))
      (entry3 (φ := .bf16) (a := 3) (b := 128) (d := 1024) (m ((c : Thread nD τ).loc main_arg3)))) := by
  rw [final6]; exact sum _ _
theorem array7 : Has2 (φ := .f32) ((dats m 0 c).arrAt 7 cfg0.N : Vec Ideal S128x1024 .f32)
    (total (entry2 (φ := .f32) (a := 128) (b := 1024) (m ((c : Thread nD τ).loc main_arg1)))
      (entry3 (φ := .bf16) (a := 3) (b := 128) (d := 1024) (m ((c : Thread nD τ).loc main_arg4)))) := by
  rw [final7]; exact sum _ _
theorem array8 : Has2 (φ := .f32) ((dats m 0 c).arrAt 8 cfg0.N : Vec Ideal S128x1024 .f32)
    (total (entry2 (φ := .f32) (a := 128) (b := 1024) (m ((c : Thread nD τ).loc main_arg2)))
      (entry3 (φ := .bf16) (a := 3) (b := 128) (d := 1024) (m ((c : Thread nD τ).loc main_arg5)))) := by
  rw [final8]; exact sum _ _
end kernel

/-- Kernel and reference leave the same three sums. -/
theorem algebraic : Cert.algebraic_ChipSquaresIdeal_ChipSquaresReferenceIdeal := by
  intro m ρ m' ρ' _ hag
  refine ⟨fun c => (Cert.ChipSquaresIdeal.Gen.dats m 0 c).arrAt 6 Cert.ChipSquaresIdeal.cfg0.N,
    fun c => (Cert.ChipSquaresIdeal.Gen.dats m 0 c).arrAt 7 Cert.ChipSquaresIdeal.cfg0.N,
    fun c => (Cert.ChipSquaresIdeal.Gen.dats m 0 c).arrAt 8 Cert.ChipSquaresIdeal.cfg0.N, Cert.ChipSquaresIdeal.Value.run_blocks m ρ, ?_⟩
  refine (θ_run Cert.ChipSquaresReferenceIdeal.defs _ _).mono (fun r h c => ?_) (Cert.ChipSquaresReferenceIdeal.Value.run (F := Ideal) m' ρ')
  obtain ⟨a0, a1, a2, a3, a4, a5⟩ := hag c
  obtain ⟨h0, h1, h2, hr⟩ := h c
  have e0 := h0.trans (Cert.ChipSquaresReferenceIdeal.Read.val_main_v2_eq _ _)
  have e1 := h1.trans (Cert.ChipSquaresReferenceIdeal.Read.val_main_v5_eq _ _)
  have e2 := h2.trans (Cert.ChipSquaresReferenceIdeal.Read.val_main_v8_eq _ _)
  rw [a0, a3] at e0
  rw [a1, a4] at e1
  rw [a2, a5] at e2
  exact ⟨e0.trans (ext (reference_a _ _) (array6 m c)), e1.trans (ext (reference_b _ _) (array7 m c)),
    e2.trans (ext (reference_out _ _) (array8 m c)), hr⟩

end Cert.ChipSquaresProof

end
-- ==== Proof.ChipInClaims.lean ====
/-
  The claims about the sum over devices for the input projection's gradient, one half of its columns: the frames and the value.
-/
module

public import proofs.«01_k».proof.Defs
public import proofs.«01_k».proof.Proof.ChipMath
public import proofs.«01_k».proof.Proof.Gen.ChipIn.Frame
public import proofs.«01_k».proof.Proof.Gen.ChipInIdeal.Frame
public import proofs.«01_k».proof.Proof.Gen.ChipInIdeal.Value
public import proofs.«01_k».proof.Proof.Gen.ChipInReferenceIdeal.Run
public import proofs.«01_k».proof.Proof.Gen.ChipInReferenceIdeal.Read
public import Idealize.ShloMosaic.Adequacy
public import Idealize.ShloMosaic.Init

@[expose] public section

noncomputable section

namespace Cert.ChipInProof

open Idealize.ShloMosaic Idealize.SL.Sem Cert.Cells Cert.Adam Cert.Chip

/-- The kernel leaves its arguments as they were and every counter at zero. -/
theorem frame_p : Cert.quiescent_ChipIn := fun m ρ _ => Cert.ChipIn.Gen.frame m ρ
theorem frame_pi : Cert.quiescent_ChipInIdeal := fun m ρ _ => Cert.ChipInIdeal.Gen.frame m ρ

/-- So does the reference, which has no counter. -/
theorem frame_ri : Cert.quiescent_ChipInReferenceIdeal := fun m ρ _ =>
  (θ_run Cert.ChipInReferenceIdeal.defs _ _).mono (fun r h => ⟨fun c => (h c).2, sem_eq_zero_of_no_sems (by decide) r.2⟩)
    (Cert.ChipInReferenceIdeal.Value.run (F := Ideal) m ρ)

/-- The idealized kernel is the kernel's own text. -/
theorem preserves : Cert.preserves_ChipIn_ChipInIdeal := trivial

section reference
open Cert.ChipInReferenceIdeal Cert.ChipInReferenceIdeal.Gen Cert.ChipInReferenceIdeal.Read

/-- The reference's sum. -/
theorem reference (x0 : FVec Ideal ⟨2, ![1024, 1024]⟩ .f32) (x1 : FVec Ideal ⟨3, ![3, 1024, 1024]⟩ .bf16) :
    Has2 (φ := .f32) (val_main_v2 (F := Ideal) x0 x1) (total (entry2 x0) (entry3 x1)) := fun r c => by
  rw [val_main_v2_apply, val_main_v1_apply]
  exact sum_ref (has_entry2 x0) (has_entry3 x1) (ix2 r c) (j := idx_main_v1 (ix2 r c)) (fun _ => rfl) (fun _ => rfl) (fun _ => rfl)
end reference

section kernel
open Idealize.ShloMosaic.TcCoe Cert.ChipInIdeal Cert.ChipInIdeal.Gen Cert.ChipInIdeal.Value

/-- What one point leaves. -/
theorem out {x0 : Vec Ideal S512x1024 .f32} {x1 : Vec Ideal S3x512x1024 .bf16} {own : ℕ → ℕ → EReal} {rem : ℕ → ℕ → ℕ → EReal}
    (h0 : Has2 (φ := .f32) x0 own) (h1 : Has3 (φ := .bf16) x1 rem) : Has2 (φ := .f32) (out0_2 x0 x1) (total own rem) := by
  unfold out0_2
  rw [View.canon_unit_zero origin2, View.ld_unit_zero (S := S512x1024) origin2]
  unfold k0_pay1
  exact has_sum h0 (has_part h1 0 _) (has_part h1 1 _) (has_part h1 2 _) _ _

/-- Which block each window holds at each point. -/
theorem index0 : ∀ t : Fin grid0.N, win0_0.index t 0 = win0_2.index t 0 ∧ win0_0.index t 1 = win0_2.index t 1 := by decide +kernel
theorem index1 : ∀ t : Fin grid0.N, win0_1.index t 0 = 0 ∧ win0_1.index t 1 = win0_2.index t 0 ∧ win0_1.index t 2 = win0_2.index t 1 := by
  decide +kernel
theorem covered : ∀ p q, p * 512 < 1024 → q * 1024 < 1024 → ∃ t : Fin grid0.N, win0_2.index t 0 = p ∧ win0_2.index t 1 = q := by
  have h : ∀ p : Fin 2, ∃ t : Fin grid0.N, win0_2.index t 0 = p.val ∧ win0_2.index t 1 = 0 := by decide +kernel
  intro p q hp hq
  obtain rfl : q = 0 := by omega
  exact h ⟨p, by omega⟩

variable (m : (ℓ : Loc nD τ sig) → Buf (Elt Ideal) ℓ) (c : Dev nD)

/-- The block that a point leaves. -/
theorem left (t : Fin cfg0.N) {own : ℕ → ℕ → EReal} {rem : ℕ → ℕ → ℕ → EReal}
    (h0 : Has2 (φ := .f32) (iblk m c 0 t : Vec Ideal S512x1024 .f32) own)
    (h1 : Has3 (φ := .bf16) (iblk m c 1 t : Vec Ideal S3x512x1024 .bf16) rem) :
    Has2 (φ := .f32) ((dats m 0 c).flushed 2 t : Vec Ideal S512x1024 .f32) (total own rem) := by
  rw [flushed2]
  have h := out h0 h1
  generalize out0_2 (F := Ideal) (iblk m c 0 t) (iblk m c 1 t) = z at h ⊢
  exact h

/-- The array at the end. -/
theorem array : Has2 (φ := .f32) ((dats m 0 c).arrAt 2 cfg0.N : Vec Ideal S1024x1024 .f32)
    (total (entry2 (φ := .f32) (a := 1024) (b := 1024) (m ((c : Thread nD τ).loc main_arg0)))
      (entry3 (φ := .bf16) (a := 3) (b := 1024) (d := 1024) (m ((c : Thread nD τ).loc main_arg1)))) :=
  has_total (a := 512) (b := 1024) (by decide) (by decide) win0_0.rect_emb_val win0_1.rect_emb_val win0_2.rect_emb_val index0 index1 covered
    fun t own rem h0 h1 r e => ((dats m 0 c).arrAt_emb_eq_flushed 2 disjoint2 t (flush0_2 t) (ix2 r e)).trans (left m c t h0 h1 r e)
end kernel

/-- Kernel and reference leave the same sum. -/
theorem algebraic : Cert.algebraic_ChipInIdeal_ChipInReferenceIdeal := by
  intro m ρ m' ρ' _ hag
  refine ⟨fun c => (Cert.ChipInIdeal.Gen.dats m 0 c).arrAt 2 Cert.ChipInIdeal.cfg0.N, Cert.ChipInIdeal.Value.run_blocks m ρ, ?_⟩
  refine (θ_run Cert.ChipInReferenceIdeal.defs _ _).mono (fun r h c => ?_) (Cert.ChipInReferenceIdeal.Value.run (F := Ideal) m' ρ')
  obtain ⟨a0, a1⟩ := hag c
  obtain ⟨h0, hr⟩ := h c
  have e0 := h0.trans (Cert.ChipInReferenceIdeal.Read.val_main_v2_eq _ _)
  rw [a0, a1] at e0
  exact ⟨e0.trans (ext (reference _ _) (array m c)), hr⟩

end Cert.ChipInProof

end
-- ==== Proof.AdamSquaresPoint.lean ====
/-
  The optimiser's call on the three square weights: one point.
-/
module

public import proofs.«01_k».proof.Proof.Gen.AdamSquaresIdeal.Frame.Runs
public import proofs.«01_k».proof.Proof.AdamMath
public import Idealize.ShloMosaic.Lib.VecWindow

@[expose] public section

set_option maxRecDepth 16384

noncomputable section

namespace Cert.AdamSquaresProof

open Idealize.ShloMosaic Idealize.ShloMosaic.TcCoe Idealize.ShloMosaic.Tactic Idealize.ShloMosaic.Rounds
open Idealize.SL Idealize.SL.RA Idealize.SL.BI Idealize.SL.BI.BIBase Idealize.SL.BI.Laws Idealize.SL.ProofMode Idealize.SL.Sem
open scoped Idealize.SL.BI
open Idealize.ShloMosaic.Pipeline (Dat BodyObligation)
open Cert.AdamSquaresIdeal Cert.AdamSquaresIdeal.Gen Cert.Cells

variable {F : FTy → Type} [FloatOps F]

/-! ## One point -/

/-- The core's index: the table's second word. -/
def core {c : Dev nD} (xt : TbBuf0 (F := F) c tbM0_0) : Elt F .i32 := xt (ix1 1)

theorem word {c : Dev nD} (xt : TbBuf0 (F := F) c tbM0_0) : tbM0_0.view.readAt (Elt F) (Rect.unit (s := S2) ![1] S1.size inb_S2_S1_1).toLoadRect xt
    (Shape.Idx.first (Nat.zero_lt_one)) = core xt :=
  congrArg xt (funext fun k => Fin.ext (by match k with | ⟨0, _⟩ => rfl))

/-- A load of a whole block, and a block after a store of the whole. -/
theorem loaded {M : Memref sig .tc .vmem S128x1024 .f32} (hM : M.IsWhole) (x : Vec F S128x1024 .f32) :
    M.view.readAt (Elt F) (Rect.unit (s := S128x1024) ![0, 0] S128x1024.size inb_S128x1024_S128x1024_0_0).toLoadRect (hM.unread x) = x :=
  (View.readAt_full _ _ _).trans (hM.read_unread x)
theorem stored {v : View sig .tc .vmem S128x1024 .f32} {f : v.ty.Contents (Elt F)} {w y : Vec F S128x1024 .f32} (h : w = y) :
    v.read (Elt F) (v.writes (Elt F) f [(⟨Rect.unit (s := S128x1024) ![0, 0] S128x1024.size inb_S128x1024_S128x1024_0_0, w⟩ :
      View.Piece (Elt F) S128x1024 .f32)]) = y :=
  (View.read_writes_full v f inb_S128x1024_S128x1024_0_0 w []).trans h

/-- What a point leaves in its twelve blocks, from the fifteen it reads: gradient, step and the two moments of each weight. -/
def out (i : grid0.Coords) (w : Elt F .i32) (x : Fin 15 → Vec F S128x1024 .f32) : Fin 12 → Vec F S128x1024 .f32 :=
  let j : BitVec 32 := BitVec.ofNat 32 (i 0).val
  ![k0_pay2 i w (x 1) (x 2), k0_pay5 i w (x 1) (x 2) (x 0) (x 3) (x 4), k0_pay3 i w (x 1) (x 2) (x 3), k0_pay4 i w (x 1) (x 2) (x 4),
    k0_pay6 j w (x 6) (x 7), k0_pay10 (k0_pay9 j w (x 6) (x 7) (x 5) (x 8) (x 9)) (Scalar.ofBits .f32 0xBA83126F#32),
    k0_pay7 j w (x 6) (x 7) (x 8), k0_pay8 j w (x 6) (x 7) (x 9),
    k0_pay11 j w (x 11) (x 12),
    k0_pay1 (x 10) (k0_pay14 j w (x 11) (x 12) (x 13)) (k0_pay15 j w (x 11) (x 12) (x 14)) (Scalar.ofBits .f32 0x322BCC77#32),
    k0_pay12 j w (x 11) (x 12) (x 13), k0_pay13 j w (x 11) (x 12) (x 14)]

set_option maxHeartbeats 4000000 in
/-- One point of the call: from the fifteen blocks it reads, and the table, it leaves the twelve blocks of `out`. -/
theorem point (c : Dev nD) (i : grid0.Coords)
    {arg3 : Memref sig .tc .vmem S128x1024 .f32} (harg3 : arg3.IsWhole) {arg4 : Memref sig .tc .vmem S128x1024 .f32} (harg4 : arg4.IsWhole)
    {arg5 : Memref sig .tc .vmem S128x1024 .f32} (harg5 : arg5.IsWhole) {arg6 : Memref sig .tc .vmem S128x1024 .f32} (harg6 : arg6.IsWhole)
    {arg7 : Memref sig .tc .vmem S128x1024 .f32} (harg7 : arg7.IsWhole) {arg8 : Memref sig .tc .vmem S128x1024 .f32} (harg8 : arg8.IsWhole)
    {arg9 : Memref sig .tc .vmem S128x1024 .f32} (harg9 : arg9.IsWhole) {arg10 : Memref sig .tc .vmem S128x1024 .f32} (harg10 : arg10.IsWhole)
    {arg11 : Memref sig .tc .vmem S128x1024 .f32} (harg11 : arg11.IsWhole) {arg12 : Memref sig .tc .vmem S128x1024 .f32} (harg12 : arg12.IsWhole)
    {arg13 : Memref sig .tc .vmem S128x1024 .f32} (harg13 : arg13.IsWhole) {arg14 : Memref sig .tc .vmem S128x1024 .f32} (harg14 : arg14.IsWhole)
    {arg15 : Memref sig .tc .vmem S128x1024 .f32} (harg15 : arg15.IsWhole) {arg16 : Memref sig .tc .vmem S128x1024 .f32} (harg16 : arg16.IsWhole)
    {arg17 : Memref sig .tc .vmem S128x1024 .f32} (harg17 : arg17.IsWhole) {arg18 : Memref sig .tc .vmem S128x1024 .f32} (harg18 : arg18.IsWhole)
    {arg19 : Memref sig .tc .vmem S128x1024 .f32} (harg19 : arg19.IsWhole) {arg20 : Memref sig .tc .vmem S128x1024 .f32} (harg20 : arg20.IsWhole)
    {arg21 : Memref sig .tc .vmem S128x1024 .f32} (harg21 : arg21.IsWhole) {arg22 : Memref sig .tc .vmem S128x1024 .f32} (harg22 : arg22.IsWhole)
    {arg23 : Memref sig .tc .vmem S128x1024 .f32} (harg23 : arg23.IsWhole) {arg24 : Memref sig .tc .vmem S128x1024 .f32} (harg24 : arg24.IsWhole)
    {arg25 : Memref sig .tc .vmem S128x1024 .f32} (harg25 : arg25.IsWhole) {arg26 : Memref sig .tc .vmem S128x1024 .f32} (harg26 : arg26.IsWhole)
    {arg27 : Memref sig .tc .vmem S128x1024 .f32} (harg27 : arg27.IsWhole) {arg28 : Memref sig .tc .vmem S128x1024 .f32} (harg28 : arg28.IsWhole)
    {arg29 : Memref sig .tc .vmem S128x1024 .f32} (harg29 : arg29.IsWhole)
    (x : Fin 15 → Vec F S128x1024 .f32) (xt : TbBuf0 (F := F) c tbM0_0) (E : Set ℕ) (K : PUnit → sProp (MT nD τ sig Unit (Elt F) ℕ (UR sig nD τ) ℕ)) :
    iprop(owns (c : Thread nD τ) arg3 fullShare (x 0) ∗ owns (c : Thread nD τ) arg4 fullShare (x 1)
        ∗ owns (c : Thread nD τ) arg5 fullShare (x 2) ∗ owns (c : Thread nD τ) arg6 fullShare (x 3)
        ∗ owns (c : Thread nD τ) arg7 fullShare (x 4) ∗ owns (c : Thread nD τ) arg8 fullShare (x 5)
        ∗ owns (c : Thread nD τ) arg9 fullShare (x 6) ∗ owns (c : Thread nD τ) arg10 fullShare (x 7)
        ∗ owns (c : Thread nD τ) arg11 fullShare (x 8) ∗ owns (c : Thread nD τ) arg12 fullShare (x 9)
        ∗ owns (c : Thread nD τ) arg13 fullShare (x 10) ∗ owns (c : Thread nD τ) arg14 fullShare (x 11)
        ∗ owns (c : Thread nD τ) arg15 fullShare (x 12) ∗ owns (c : Thread nD τ) arg16 fullShare (x 13)
        ∗ owns (c : Thread nD τ) arg17 fullShare (x 14)
        ∗ (∃ d, owns (c : Thread nD τ) arg18 fullShare d) ∗ (∃ d, owns (c : Thread nD τ) arg19 fullShare d)
        ∗ (∃ d, owns (c : Thread nD τ) arg20 fullShare d) ∗ (∃ d, owns (c : Thread nD τ) arg21 fullShare d)
        ∗ (∃ d, owns (c : Thread nD τ) arg22 fullShare d) ∗ (∃ d, owns (c : Thread nD τ) arg23 fullShare d)
        ∗ (∃ d, owns (c : Thread nD τ) arg24 fullShare d) ∗ (∃ d, owns (c : Thread nD τ) arg25 fullShare d)
        ∗ (∃ d, owns (c : Thread nD τ) arg26 fullShare d) ∗ (∃ d, owns (c : Thread nD τ) arg27 fullShare d)
        ∗ (∃ d, owns (c : Thread nD τ) arg28 fullShare d) ∗ (∃ d, owns (c : Thread nD τ) arg29 fullShare d)
        ∗ tbPt0 c tbM0_0 xt
        ∗ (iprop(owns (c : Thread nD τ) arg3 fullShare (x 0) ∗ owns (c : Thread nD τ) arg4 fullShare (x 1)
            ∗ owns (c : Thread nD τ) arg5 fullShare (x 2) ∗ owns (c : Thread nD τ) arg6 fullShare (x 3)
            ∗ owns (c : Thread nD τ) arg7 fullShare (x 4) ∗ owns (c : Thread nD τ) arg8 fullShare (x 5)
            ∗ owns (c : Thread nD τ) arg9 fullShare (x 6) ∗ owns (c : Thread nD τ) arg10 fullShare (x 7)
            ∗ owns (c : Thread nD τ) arg11 fullShare (x 8) ∗ owns (c : Thread nD τ) arg12 fullShare (x 9)
            ∗ owns (c : Thread nD τ) arg13 fullShare (x 10) ∗ owns (c : Thread nD τ) arg14 fullShare (x 11)
            ∗ owns (c : Thread nD τ) arg15 fullShare (x 12) ∗ owns (c : Thread nD τ) arg16 fullShare (x 13)
            ∗ owns (c : Thread nD τ) arg17 fullShare (x 14)
            ∗ owns (c : Thread nD τ) arg18 fullShare (out i (core xt) x 0) ∗ owns (c : Thread nD τ) arg19 fullShare (out i (core xt) x 1)
            ∗ owns (c : Thread nD τ) arg20 fullShare (out i (core xt) x 2) ∗ owns (c : Thread nD τ) arg21 fullShare (out i (core xt) x 3)
            ∗ owns (c : Thread nD τ) arg22 fullShare (out i (core xt) x 4) ∗ owns (c : Thread nD τ) arg23 fullShare (out i (core xt) x 5)
            ∗ owns (c : Thread nD τ) arg24 fullShare (out i (core xt) x 6) ∗ owns (c : Thread nD τ) arg25 fullShare (out i (core xt) x 7)
            ∗ owns (c : Thread nD τ) arg26 fullShare (out i (core xt) x 8) ∗ owns (c : Thread nD τ) arg27 fullShare (out i (core xt) x 9)
            ∗ owns (c : Thread nD τ) arg28 fullShare (out i (core xt) x 10) ∗ owns (c : Thread nD τ) arg29 fullShare (out i (core xt) x 11)
            ∗ tbPt0 c tbM0_0 xt) -∗ K ⟨⟩))
      ⊢ wp frame (wpE (defs₀ (F := F)) Variants.none c none) E
        (cc0_adamw_w_branch_a i tbM0_0 htbM0_0 arg3 harg3 arg4 harg4 arg5 harg5 arg6 harg6 arg7 harg7 arg8 harg8 arg9 harg9 arg10 harg10 arg11 harg11
        arg12 harg12 arg13 harg13 arg14 harg14 arg15 harg15 arg16 harg16 arg17 harg17 arg18 harg18 arg19 harg19 arg20 harg20
        arg21 harg21 arg22 harg22 arg23 harg23 arg24 harg24 arg25 harg25 arg26 harg26 arg27 harg27 arg28 harg28 arg29 harg29) K := by
  simp only [cc0_adamw_w_branch_a_eq_skeleton]
  unfold cc0_adamw_w_branch_a_skel
  simp only [k0_part1_eq_skeleton, k0_part2_eq_skeleton, k0_part3_eq_skeleton]
  unfold owns
  iintro ⟨⟨%f0, %hf0, H0⟩, ⟨%f1, %hf1, H1⟩, ⟨%f2, %hf2, H2⟩, ⟨%f3, %hf3, H3⟩, ⟨%f4, %hf4, H4⟩,
    ⟨%f5, %hf5, H5⟩, ⟨%f6, %hf6, H6⟩, ⟨%f7, %hf7, H7⟩, ⟨%f8, %hf8, H8⟩, ⟨%f9, %hf9, H9⟩,
    ⟨%f10, %hf10, H10⟩, ⟨%f11, %hf11, H11⟩, ⟨%f12, %hf12, H12⟩, ⟨%f13, %hf13, H13⟩, ⟨%f14, %hf14, H14⟩,
    ⟨%d15, %f15, -, H15⟩, ⟨%d16, %f16, -, H16⟩, ⟨%d17, %f17, -, H17⟩, ⟨%d18, %f18, -, H18⟩, ⟨%d19, %f19, -, H19⟩,
    ⟨%d20, %f20, -, H20⟩, ⟨%d21, %f21, -, H21⟩, ⟨%d22, %f22, -, H22⟩, ⟨%d23, %f23, -, H23⟩, ⟨%d24, %f24, -, H24⟩,
    ⟨%d25, %f25, -, H25⟩, ⟨%d26, %f26, -, H26⟩, HT, Hk⟩
  obtain rfl := harg3.eq_unread hf0; obtain rfl := harg4.eq_unread hf1; obtain rfl := harg5.eq_unread hf2; obtain rfl := harg6.eq_unread hf3
  obtain rfl := harg7.eq_unread hf4; obtain rfl := harg8.eq_unread hf5; obtain rfl := harg9.eq_unread hf6; obtain rfl := harg10.eq_unread hf7
  obtain rfl := harg11.eq_unread hf8; obtain rfl := harg12.eq_unread hf9; obtain rfl := harg13.eq_unread hf10; obtain rfl := harg14.eq_unread hf11
  obtain rfl := harg15.eq_unread hf12; obtain rfl := harg16.eq_unread hf13; obtain rfl := harg17.eq_unread hf14
  have hw := word xt
  let j : BitVec 32 := BitVec.ofNat 32 (i 0).val
  sl_exec
  sl_step
  iapply Hk
  isplitl [H0]
  · iexists _; isplitr; swap; · iexact H0
    ipureintro; exact harg3.read_unread _
  isplitl [H1]
  · iexists _; isplitr; swap; · iexact H1
    ipureintro; exact harg4.read_unread _
  isplitl [H2]
  · iexists _; isplitr; swap; · iexact H2
    ipureintro; exact harg5.read_unread _
  isplitl [H3]
  · iexists _; isplitr; swap; · iexact H3
    ipureintro; exact harg6.read_unread _
  isplitl [H4]
  · iexists _; isplitr; swap; · iexact H4
    ipureintro; exact harg7.read_unread _
  isplitl [H5]
  · iexists _; isplitr; swap; · iexact H5
    ipureintro; exact harg8.read_unread _
  isplitl [H6]
  · iexists _; isplitr; swap; · iexact H6
    ipureintro; exact harg9.read_unread _
  isplitl [H7]
  · iexists _; isplitr; swap; · iexact H7
    ipureintro; exact harg10.read_unread _
  isplitl [H8]
  · iexists _; isplitr; swap; · iexact H8
    ipureintro; exact harg11.read_unread _
  isplitl [H9]
  · iexists _; isplitr; swap; · iexact H9
    ipureintro; exact harg12.read_unread _
  isplitl [H10]
  · iexists _; isplitr; swap; · iexact H10
    ipureintro; exact harg13.read_unread _
  isplitl [H11]
  · iexists _; isplitr; swap; · iexact H11
    ipureintro; exact harg14.read_unread _
  isplitl [H12]
  · iexists _; isplitr; swap; · iexact H12
    ipureintro; exact harg15.read_unread _
  isplitl [H13]
  · iexists _; isplitr; swap; · iexact H13
    ipureintro; exact harg16.read_unread _
  isplitl [H14]
  · iexists _; isplitr; swap; · iexact H14
    ipureintro; exact harg17.read_unread _
  isplitl [H15]
  · iexists _; isplitr; swap; · iexact H15
    ipureintro; have e := congr (congr (congrArg (k0_pay2 i) hw) (loaded harg4 (x 1))) (loaded harg5 (x 2))
    exact stored e
  isplitl [H16]
  · iexists _; isplitr; swap; · iexact H16
    ipureintro; have e := congr (congr (congr (congr (congr (congrArg (k0_pay5 i) hw) (loaded harg4 (x 1))) (loaded harg5 (x 2))) (loaded harg3 (x 0))) (loaded harg6 (x 3))) (loaded harg7 (x 4))
    exact stored e
  isplitl [H17]
  · iexists _; isplitr; swap; · iexact H17
    ipureintro; have e := congr (congr (congr (congrArg (k0_pay3 i) hw) (loaded harg4 (x 1))) (loaded harg5 (x 2))) (loaded harg6 (x 3))
    exact stored e
  isplitl [H18]
  · iexists _; isplitr; swap; · iexact H18
    ipureintro; have e := congr (congr (congr (congrArg (k0_pay4 i) hw) (loaded harg4 (x 1))) (loaded harg5 (x 2))) (loaded harg7 (x 4))
    exact stored e
  isplitl [H19]
  · iexists _; isplitr; swap; · iexact H19
    ipureintro; have e := congr (congr (congrArg (k0_pay6 j) hw) (loaded harg9 (x 6))) (loaded harg10 (x 7))
    exact stored e
  isplitl [H20]
  · iexists _; isplitr; swap; · iexact H20
    ipureintro; have e := congrFun (congrArg k0_pay10 (congr (congr (congr (congr (congr (congrArg (k0_pay9 j) hw) (loaded harg9 (x 6))) (loaded harg10 (x 7))) (loaded harg8 (x 5))) (loaded harg11 (x 8))) (loaded harg12 (x 9)))) (Scalar.ofBits .f32 0xBA83126F#32)
    exact stored e
  isplitl [H21]
  · iexists _; isplitr; swap; · iexact H21
    ipureintro; have e := congr (congr (congr (congrArg (k0_pay7 j) hw) (loaded harg9 (x 6))) (loaded harg10 (x 7))) (loaded harg11 (x 8))
    exact stored e
  isplitl [H22]
  · iexists _; isplitr; swap; · iexact H22
    ipureintro; have e := congr (congr (congr (congrArg (k0_pay8 j) hw) (loaded harg9 (x 6))) (loaded harg10 (x 7))) (loaded harg12 (x 9))
    exact stored e
  isplitl [H23]
  · iexists _; isplitr; swap; · iexact H23
    ipureintro; have e := congr (congr (congrArg (k0_pay11 j) hw) (loaded harg14 (x 11))) (loaded harg15 (x 12))
    exact stored e
  isplitl [H24]
  · iexists _; isplitr; swap; · iexact H24
    ipureintro; have e := congrFun (congr (congr (congrArg k0_pay1 (loaded harg13 (x 10))) (congr (congr (congr (congrArg (k0_pay14 j) hw) (loaded harg14 (x 11))) (loaded harg15 (x 12))) (loaded harg16 (x 13)))) (congr (congr (congr (congrArg (k0_pay15 j) hw) (loaded harg14 (x 11))) (loaded harg15 (x 12))) (loaded harg17 (x 14)))) (Scalar.ofBits .f32 0x322BCC77#32)
    exact stored e
  isplitl [H25]
  · iexists _; isplitr; swap; · iexact H25
    ipureintro; have e := congr (congr (congr (congrArg (k0_pay12 j) hw) (loaded harg14 (x 11))) (loaded harg15 (x 12))) (loaded harg16 (x 13))
    exact stored e
  isplitl [H26]
  · iexists _; isplitr; swap; · iexact H26
    ipureintro; have e := congr (congr (congr (congrArg (k0_pay13 j) hw) (loaded harg14 (x 11))) (loaded harg15 (x 12))) (loaded harg17 (x 14))
    exact stored e
  iexact HT

end Cert.AdamSquaresProof

end
-- ==== Proof.AdamSquaresRun.lean ====
/-
  The optimiser's call on the three square weights: the whole run.
-/
module

public import proofs.«01_k».proof.Proof.AdamSquaresPoint

@[expose] public section

set_option maxRecDepth 16384

noncomputable section

namespace Cert.AdamSquaresProof

open Idealize.ShloMosaic Idealize.ShloMosaic.TcCoe Idealize.ShloMosaic.Tactic Idealize.ShloMosaic.Rounds
open Idealize.SL Idealize.SL.RA Idealize.SL.BI Idealize.SL.BI.BIBase Idealize.SL.BI.Laws Idealize.SL.ProofMode Idealize.SL.Sem
open scoped Idealize.SL.BI
open Idealize.ShloMosaic.Pipeline (Dat BodyObligation)
open Cert.AdamSquaresIdeal Cert.AdamSquaresIdeal.Gen Cert.Cells

variable {F : FTy → Type} [FloatOps F]

/-! ## The run -/

section run
variable (m : (ℓ : Loc nD τ sig) → Buf (Elt F) ℓ) (ρ : Dev nD → PrngReg)

/-- The fifteen blocks read at a point, and the twelve left there. -/
def read (hO : Ok m) (c : Dev nD) (t : Fin (cfgM m hO).N) : Fin 15 → Vec F S128x1024 .f32 :=
  ![iblk m hO c 0 t, iblk m hO c 1 t, iblk m hO c 2 t, iblk m hO c 3 t, iblk m hO c 4 t, iblk m hO c 5 t, iblk m hO c 6 t, iblk m hO c 7 t, iblk m hO c
    8 t, iblk m hO c 9 t, iblk m hO c 10 t, iblk m hO c 11 t, iblk m hO c 12 t, iblk m hO c 13 t, iblk m hO c 14 t]
def left (hO : Ok m) (c : Dev nD) (t : Fin (cfgM m hO).N) : Fin 12 → Vec F S128x1024 .f32 :=
  out (grid0.coords t) (core (c := c) (tbl m 0)) (read m hO c t)

/-- The arrays as the call finds them; each block read, as it was; each block written, as a point leaves it. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => read m hO c t 0
    | ⟨1, _⟩ => read m hO c t 1
    | ⟨2, _⟩ => read m hO c t 2
    | ⟨3, _⟩ => read m hO c t 3
    | ⟨4, _⟩ => read m hO c t 4
    | ⟨5, _⟩ => read m hO c t 5
    | ⟨6, _⟩ => read m hO c t 6
    | ⟨7, _⟩ => read m hO c t 7
    | ⟨8, _⟩ => read m hO c t 8
    | ⟨9, _⟩ => read m hO c t 9
    | ⟨10, _⟩ => read m hO c t 10
    | ⟨11, _⟩ => read m hO c t 11
    | ⟨12, _⟩ => read m hO c t 12
    | ⟨13, _⟩ => read m hO c t 13
    | ⟨14, _⟩ => read m hO c t 14
    | ⟨15, _⟩ => left m hO c t 0
    | ⟨16, _⟩ => left m hO c t 1
    | ⟨17, _⟩ => left m hO c t 2
    | ⟨18, _⟩ => left m hO c t 3
    | ⟨19, _⟩ => left m hO c t 4
    | ⟨20, _⟩ => left m hO c t 5
    | ⟨21, _⟩ => left m hO c t 6
    | ⟨22, _⟩ => left m hO c t 7
    | ⟨23, _⟩ => left m hO c t 8
    | ⟨24, _⟩ => left m hO c t 9
    | ⟨25, _⟩ => left m hO c t 10
    | ⟨26, _⟩ => left m hO c t 11
    | ⟨_ + 27, h⟩ => absurd h (Nat.not_lt.2 (Nat.le_add_left _ _))
  Φ _ := iprop(Pipeline.ΦA spec0 c ∗ Pipeline.ΦT pre0 (tbl m) c)
  q _ := fullShare
  owed _ := 0

theorem arrays (hO : Ok m) (c : Dev nD) (w : Fin (cfgM m hO).W) : (dats m hO 0 c).A w = V m c (Pipeline.arrRef spec0 w) := by
  dsimp only [dats]

variable (hO : Ok m) (c : Dev nD) (t : Fin (cfgM m hO).N)

theorem after0 : (dats m hO 0 c).after 0 t = read m hO c t 0 := by dsimp only [dats]; rfl
theorem after1 : (dats m hO 0 c).after 1 t = read m hO c t 1 := by dsimp only [dats]; rfl
theorem after2 : (dats m hO 0 c).after 2 t = read m hO c t 2 := by dsimp only [dats]; rfl
theorem after3 : (dats m hO 0 c).after 3 t = read m hO c t 3 := by dsimp only [dats]; rfl
theorem after4 : (dats m hO 0 c).after 4 t = read m hO c t 4 := by dsimp only [dats]; rfl
theorem after5 : (dats m hO 0 c).after 5 t = read m hO c t 5 := by dsimp only [dats]; rfl
theorem after6 : (dats m hO 0 c).after 6 t = read m hO c t 6 := by dsimp only [dats]; rfl
theorem after7 : (dats m hO 0 c).after 7 t = read m hO c t 7 := by dsimp only [dats]; rfl
theorem after8 : (dats m hO 0 c).after 8 t = read m hO c t 8 := by dsimp only [dats]; rfl
theorem after9 : (dats m hO 0 c).after 9 t = read m hO c t 9 := by dsimp only [dats]; rfl
theorem after10 : (dats m hO 0 c).after 10 t = read m hO c t 10 := by dsimp only [dats]; rfl
theorem after11 : (dats m hO 0 c).after 11 t = read m hO c t 11 := by dsimp only [dats]; rfl
theorem after12 : (dats m hO 0 c).after 12 t = read m hO c t 12 := by dsimp only [dats]; rfl
theorem after13 : (dats m hO 0 c).after 13 t = read m hO c t 13 := by dsimp only [dats]; rfl
theorem after14 : (dats m hO 0 c).after 14 t = read m hO c t 14 := by dsimp only [dats]; rfl
theorem after15 : (dats m hO 0 c).after 15 t = left m hO c t 0 := by dsimp only [dats]; rfl
theorem after16 : (dats m hO 0 c).after 16 t = left m hO c t 1 := by dsimp only [dats]; rfl
theorem after17 : (dats m hO 0 c).after 17 t = left m hO c t 2 := by dsimp only [dats]; rfl
theorem after18 : (dats m hO 0 c).after 18 t = left m hO c t 3 := by dsimp only [dats]; rfl
theorem after19 : (dats m hO 0 c).after 19 t = left m hO c t 4 := by dsimp only [dats]; rfl
theorem after20 : (dats m hO 0 c).after 20 t = left m hO c t 5 := by dsimp only [dats]; rfl
theorem after21 : (dats m hO 0 c).after 21 t = left m hO c t 6 := by dsimp only [dats]; rfl
theorem after22 : (dats m hO 0 c).after 22 t = left m hO c t 7 := by dsimp only [dats]; rfl
theorem after23 : (dats m hO 0 c).after 23 t = left m hO c t 8 := by dsimp only [dats]; rfl
theorem after24 : (dats m hO 0 c).after 24 t = left m hO c t 9 := by dsimp only [dats]; rfl
theorem after25 : (dats m hO 0 c).after 25 t = left m hO c t 10 := by dsimp only [dats]; rfl
theorem after26 : (dats m hO 0 c).after 26 t = left m hO c t 11 := by dsimp only [dats]; rfl

theorem before0 (d) : (dats m hO 0 c).before 0 t d = read m hO c t 0 :=
  before0_0_of m hO (dats m hO 0 c) (arrays m hO c 0) (after0 m hO c) t d
theorem before1 (d) : (dats m hO 0 c).before 1 t d = read m hO c t 1 :=
  before0_1_of m hO (dats m hO 0 c) (arrays m hO c 1) (after1 m hO c) t d
theorem before2 (d) : (dats m hO 0 c).before 2 t d = read m hO c t 2 :=
  before0_2_of m hO (dats m hO 0 c) (arrays m hO c 2) (after2 m hO c) t d
theorem before3 (d) : (dats m hO 0 c).before 3 t d = read m hO c t 3 :=
  before0_3_of m hO (dats m hO 0 c) (arrays m hO c 3) (after3 m hO c) t d
theorem before4 (d) : (dats m hO 0 c).before 4 t d = read m hO c t 4 :=
  before0_4_of m hO (dats m hO 0 c) (arrays m hO c 4) (after4 m hO c) t d
theorem before5 (d) : (dats m hO 0 c).before 5 t d = read m hO c t 5 :=
  before0_5_of m hO (dats m hO 0 c) (arrays m hO c 5) (after5 m hO c) t d
theorem before6 (d) : (dats m hO 0 c).before 6 t d = read m hO c t 6 :=
  before0_6_of m hO (dats m hO 0 c) (arrays m hO c 6) (after6 m hO c) t d
theorem before7 (d) : (dats m hO 0 c).before 7 t d = read m hO c t 7 :=
  before0_7_of m hO (dats m hO 0 c) (arrays m hO c 7) (after7 m hO c) t d
theorem before8 (d) : (dats m hO 0 c).before 8 t d = read m hO c t 8 :=
  before0_8_of m hO (dats m hO 0 c) (arrays m hO c 8) (after8 m hO c) t d
theorem before9 (d) : (dats m hO 0 c).before 9 t d = read m hO c t 9 :=
  before0_9_of m hO (dats m hO 0 c) (arrays m hO c 9) (after9 m hO c) t d
theorem before10 (d) : (dats m hO 0 c).before 10 t d = read m hO c t 10 :=
  before0_10_of m hO (dats m hO 0 c) (arrays m hO c 10) (after10 m hO c) t d
theorem before11 (d) : (dats m hO 0 c).before 11 t d = read m hO c t 11 :=
  before0_11_of m hO (dats m hO 0 c) (arrays m hO c 11) (after11 m hO c) t d
theorem before12 (d) : (dats m hO 0 c).before 12 t d = read m hO c t 12 :=
  before0_12_of m hO (dats m hO 0 c) (arrays m hO c 12) (after12 m hO c) t d
theorem before13 (d) : (dats m hO 0 c).before 13 t d = read m hO c t 13 :=
  before0_13_of m hO (dats m hO 0 c) (arrays m hO c 13) (after13 m hO c) t d
theorem before14 (d) : (dats m hO 0 c).before 14 t d = read m hO c t 14 :=
  before0_14_of m hO (dats m hO 0 c) (arrays m hO c 14) (after14 m hO c) t d

/-- Before the body and after it. -/
def before : sProp (MT nD τ sig Unit (Elt F) ℕ (UR sig nD τ) ℕ) :=
  iprop((dats m hO 0 c).Φ t.castSucc ∗ (dats m hO 0 c).owesAt () t.castSucc
    ∗ (∃ d, owns (c : Thread nD τ) (ms0_0 m hO t) fullShare ((dats m hO 0 c).before 0 t d)) ∗ (∃ d, owns (c : Thread nD τ) (ms0_1 m hO t) fullShare ((dats m hO 0 c).before 1 t d))
    ∗ (∃ d, owns (c : Thread nD τ) (ms0_2 m hO t) fullShare ((dats m hO 0 c).before 2 t d)) ∗ (∃ d, owns (c : Thread nD τ) (ms0_3 m hO t) fullShare ((dats m hO 0 c).before 3 t d))
    ∗ (∃ d, owns (c : Thread nD τ) (ms0_4 m hO t) fullShare ((dats m hO 0 c).before 4 t d)) ∗ (∃ d, owns (c : Thread nD τ) (ms0_5 m hO t) fullShare ((dats m hO 0 c).before 5 t d))
    ∗ (∃ d, owns (c : Thread nD τ) (ms0_6 m hO t) fullShare ((dats m hO 0 c).before 6 t d)) ∗ (∃ d, owns (c : Thread nD τ) (ms0_7 m hO t) fullShare ((dats m hO 0 c).before 7 t d))
    ∗ (∃ d, owns (c : Thread nD τ) (ms0_8 m hO t) fullShare ((dats m hO 0 c).before 8 t d)) ∗ (∃ d, owns (c : Thread nD τ) (ms0_9 m hO t) fullShare ((dats m hO 0 c).before 9 t d))
    ∗ (∃ d, owns (c : Thread nD τ) (ms0_10 m hO t) fullShare ((dats m hO 0 c).before 10 t d)) ∗ (∃ d, owns (c : Thread nD τ) (ms0_11 m hO t) fullShare ((dats m hO 0 c).before 11 t d))
    ∗ (∃ d, owns (c : Thread nD τ) (ms0_12 m hO t) fullShare ((dats m hO 0 c).before 12 t d)) ∗ (∃ d, owns (c : Thread nD τ) (ms0_13 m hO t) fullShare ((dats m hO 0 c).before 13 t d))
    ∗ (∃ d, owns (c : Thread nD τ) (ms0_14 m hO t) fullShare ((dats m hO 0 c).before 14 t d)) ∗ (∃ d, owns (c : Thread nD τ) (ms0_15 m hO t) fullShare ((dats m hO 0 c).before 15 t d))
    ∗ (∃ d, owns (c : Thread nD τ) (ms0_16 m hO t) fullShare ((dats m hO 0 c).before 16 t d)) ∗ (∃ d, owns (c : Thread nD τ) (ms0_17 m hO t) fullShare ((dats m hO 0 c).before 17 t d))
    ∗ (∃ d, owns (c : Thread nD τ) (ms0_18 m hO t) fullShare ((dats m hO 0 c).before 18 t d)) ∗ (∃ d, owns (c : Thread nD τ) (ms0_19 m hO t) fullShare ((dats m hO 0 c).before 19 t d))
    ∗ (∃ d, owns (c : Thread nD τ) (ms0_20 m hO t) fullShare ((dats m hO 0 c).before 20 t d)) ∗ (∃ d, owns (c : Thread nD τ) (ms0_21 m hO t) fullShare ((dats m hO 0 c).before 21 t d))
    ∗ (∃ d, owns (c : Thread nD τ) (ms0_22 m hO t) fullShare ((dats m hO 0 c).before 22 t d)) ∗ (∃ d, owns (c : Thread nD τ) (ms0_23 m hO t) fullShare ((dats m hO 0 c).before 23 t d))
    ∗ (∃ d, owns (c : Thread nD τ) (ms0_24 m hO t) fullShare ((dats m hO 0 c).before 24 t d)) ∗ (∃ d, owns (c : Thread nD τ) (ms0_25 m hO t) fullShare ((dats m hO 0 c).before 25 t d))
    ∗ (∃ d, owns (c : Thread nD τ) (ms0_26 m hO t) fullShare ((dats m hO 0 c).before 26 t d)))
def after : sProp (MT nD τ sig Unit (Elt F) ℕ (UR sig nD τ) ℕ) :=
  iprop((dats m hO 0 c).Φ t.succ ∗ (dats m hO 0 c).owesAt () t.succ
    ∗ owns (c : Thread nD τ) (ms0_0 m hO t) fullShare ((dats m hO 0 c).after 0 t) ∗ owns (c : Thread nD τ) (ms0_1 m hO t) fullShare ((dats m hO 0 c).after 1 t)
    ∗ owns (c : Thread nD τ) (ms0_2 m hO t) fullShare ((dats m hO 0 c).after 2 t) ∗ owns (c : Thread nD τ) (ms0_3 m hO t) fullShare ((dats m hO 0 c).after 3 t)
    ∗ owns (c : Thread nD τ) (ms0_4 m hO t) fullShare ((dats m hO 0 c).after 4 t) ∗ owns (c : Thread nD τ) (ms0_5 m hO t) fullShare ((dats m hO 0 c).after 5 t)
    ∗ owns (c : Thread nD τ) (ms0_6 m hO t) fullShare ((dats m hO 0 c).after 6 t) ∗ owns (c : Thread nD τ) (ms0_7 m hO t) fullShare ((dats m hO 0 c).after 7 t)
    ∗ owns (c : Thread nD τ) (ms0_8 m hO t) fullShare ((dats m hO 0 c).after 8 t) ∗ owns (c : Thread nD τ) (ms0_9 m hO t) fullShare ((dats m hO 0 c).after 9 t)
    ∗ owns (c : Thread nD τ) (ms0_10 m hO t) fullShare ((dats m hO 0 c).after 10 t) ∗ owns (c : Thread nD τ) (ms0_11 m hO t) fullShare ((dats m hO 0 c).after 11 t)
    ∗ owns (c : Thread nD τ) (ms0_12 m hO t) fullShare ((dats m hO 0 c).after 12 t) ∗ owns (c : Thread nD τ) (ms0_13 m hO t) fullShare ((dats m hO 0 c).after 13 t)
    ∗ owns (c : Thread nD τ) (ms0_14 m hO t) fullShare ((dats m hO 0 c).after 14 t) ∗ owns (c : Thread nD τ) (ms0_15 m hO t) fullShare ((dats m hO 0 c).after 15 t)
    ∗ owns (c : Thread nD τ) (ms0_16 m hO t) fullShare ((dats m hO 0 c).after 16 t) ∗ owns (c : Thread nD τ) (ms0_17 m hO t) fullShare ((dats m hO 0 c).after 17 t)
    ∗ owns (c : Thread nD τ) (ms0_18 m hO t) fullShare ((dats m hO 0 c).after 18 t) ∗ owns (c : Thread nD τ) (ms0_19 m hO t) fullShare ((dats m hO 0 c).after 19 t)
    ∗ owns (c : Thread nD τ) (ms0_20 m hO t) fullShare ((dats m hO 0 c).after 20 t) ∗ owns (c : Thread nD τ) (ms0_21 m hO t) fullShare ((dats m hO 0 c).after 21 t)
    ∗ owns (c : Thread nD τ) (ms0_22 m hO t) fullShare ((dats m hO 0 c).after 22 t) ∗ owns (c : Thread nD τ) (ms0_23 m hO t) fullShare ((dats m hO 0 c).after 23 t)
    ∗ owns (c : Thread nD τ) (ms0_24 m hO t) fullShare ((dats m hO 0 c).after 24 t) ∗ owns (c : Thread nD τ) (ms0_25 m hO t) fullShare ((dats m hO 0 c).after 25 t)
    ∗ owns (c : Thread nD τ) (ms0_26 m hO t) fullShare ((dats m hO 0 c).after 26 t))

set_option maxHeartbeats 4000000 in
theorem sound : before m hO c t ⊢ wp frame (wpE (defs₀ (F := F)) Variants.none c none) Set.univ (bodyAt0 (adm m hO) t) (fun _ => after m hO c t) := by
  unfold before after bodyAt0
  simp only [before0, before1, before2, before3, before4, before5, before6, before7, before8, before9, before10, before11, before12, before13, before14]
  rw [show (dats m hO 0 c).Φ t.succ = (dats m hO 0 c).Φ t.castSucc from rfl,
    show (dats m hO 0 c).owesAt () t.succ = (dats m hO 0 c).owesAt () t.castSucc from rfl,
    after0, after1, after2, after3, after4, after5, after6, after7, after8, after9, after10, after11, after12, after13, after14, after15, after16,
    after17, after18, after19, after20, after21, after22, after23, after24, after25, after26]
  rw [show (dats m hO 0 c).Φ t.castSucc = iprop(Pipeline.ΦA spec0 c ∗ Pipeline.ΦT pre0 (tbl m) c) from rfl, PhiT0_eq]
  unfold left
  iintro ⟨⟨HΦ, HT⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩,
    ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩,
    ⟨%d24, H24⟩, ⟨%d25, H25⟩, ⟨%d26, H26⟩⟩
  iapply (point c (grid0.coords t) (hs0_0 m hO t) (hs0_1 m hO t) (hs0_2 m hO t) (hs0_3 m hO t) (hs0_4 m hO t) (hs0_5 m hO t) (hs0_6 m hO t) (hs0_7 m hO t) (hs0_8 m hO t) (hs0_9 m hO t)
    (hs0_10 m hO t) (hs0_11 m hO t) (hs0_12 m hO t) (hs0_13 m hO t) (hs0_14 m hO t) (hs0_15 m hO t) (hs0_16 m hO t) (hs0_17 m hO t) (hs0_18 m hO t)
    (hs0_19 m hO t) (hs0_20 m hO t) (hs0_21 m hO t) (hs0_22 m hO t) (hs0_23 m hO t) (hs0_24 m hO t) (hs0_25 m hO t) (hs0_26 m hO t)
    (read m hO c t) (tbl m 0) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexists _; iexact H15
  isplitl [H16]; · iexists _; iexact H16
  isplitl [H17]; · iexists _; iexact H17
  isplitl [H18]; · iexists _; iexact H18
  isplitl [H19]; · iexists _; iexact H19
  isplitl [H20]; · iexists _; iexact H20
  isplitl [H21]; · iexists _; iexact H21
  isplitl [H22]; · iexists _; iexact H22
  isplitl [H23]; · iexists _; iexact H23
  isplitl [H24]; · iexists _; iexact H24
  isplitl [H25]; · iexists _; iexact H25
  isplitl [H26]; · iexists _; iexact H26
  isplitl [HT]; · iexact HT
  iintro ⟨H0, H1, H2, H3, H4, H5, H6, H7, H8, H9, H10, H11, H12, H13, H14, H15, H16, H17, H18, H19, H20, H21, H22, H23, H24, H25, H26, HT⟩
  isplitl [HΦ HT]
  · isplitl [HΦ]
    · iexact HΦ
    iexact HT
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  iexact H26

set_option maxHeartbeats 8000000 in
omit t in
theorem obligation : BodyObligation (dats (F := F) m hO 0 c) (defs₀ (F := F)) Variants.none () Set.univ := fun t => by
  rw [bigSep_W0, bigSep_W0, show defs₀ (F := F) .tc (cfgM m hO).body ((cfgM m hO).bodyArgs t ((cfgM m hO).slots t)) = bodyAt0 (adm m hO) t from by
    unfold defs₀; rw [Defs.onTc_tc]]
  exact triple_restated (sound m hO c t) rfl .rfl fun _ => .rfl

set_option backward.isDefEq.respectTransparency.types false in
/-- The call's run: it ends, with every array at what its points leave and every counter at zero. -/
theorem ends : θ_run defs (onTc (τ := τ) (main (F := F))) (s₀ m ρ)
    (fun r => (Pipeline.FramePost (Pipeline.pin pcfgs fun _ => adm m hO) (dats m hO) 0 (V m)) r ∧ r.2.sem = fun _ => 0) :=
  Pipeline.θ_run_frameP (Q' := _) pcfgs (fun _ => adm m hO) (dats m hO) (0 : Fin 1) launch0 defs₀ Variants.none m ρ main
    (hbody := fun c => (obligation m hO c).loose) (hshare := fun c => (dats m hO 0 c).share_full fun _ => rfl)
    (howed := fun _ _ => rfl) (V := V m) (hmain := hmain m Variants.none) (hA := arrays m hO) (hpf := V_pre m) (hΦ := fun _ _ => rfl)

include hO in
/-- The arguments are left as they were. -/
theorem kept : θ_run defs (onTc (τ := τ) (main (F := F))) ⟨m, fun _ => 0, ρ⟩ (fun r => ∀ c : Dev nD,
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9)
    ∧ r.2.mem ((c.tc : Thread nD τ).loc main_arg10) = m ((c.tc : Thread nD τ).loc main_arg10)
    ∧ r.2.mem ((c.tc : Thread nD τ).loc main_arg11) = m ((c.tc : Thread nD τ).loc main_arg11)
    ∧ r.2.mem ((c.tc : Thread nD τ).loc main_arg12) = m ((c.tc : Thread nD τ).loc main_arg12)
    ∧ r.2.mem ((c.tc : Thread nD τ).loc main_arg13) = m ((c.tc : Thread nD τ).loc main_arg13)
    ∧ r.2.mem ((c.tc : Thread nD τ).loc main_arg14) = m ((c.tc : Thread nD τ).loc main_arg14)
    ∧ r.2.mem ((c.tc : Thread nD τ).loc main_arg15) = m ((c.tc : Thread nD τ).loc main_arg15)) :=
  frame_of m ρ hO (dats m hO) (arrays m hO) ((θ_run defs _ _).mono (fun _ h => h.1) (ends m ρ hO))

end run

end Cert.AdamSquaresProof

end
-- ==== Proof.AdamSquaresResult.lean ====
/-
  What the optimiser's call on the three square weights leaves: gradient, step and the two moments of each, block by block.
-/
module

public import proofs.«01_k».proof.Proof.AdamSquaresRun

@[expose] public section

noncomputable section

namespace Cert.AdamSquaresProof

open Idealize.ShloMosaic Idealize.ShloMosaic.TcCoe Cert.AdamSquaresIdeal Cert.AdamSquaresIdeal.Gen Cert.Cells Cert.Adam

/-! ## One point -/

/-- A weight's four blocks, from its five. -/
theorem outs {i : grid0.Coords} {w k : BitVec 32} {x0 x1 x2 x3 x4 : Vec Ideal S128x1024 .f32} {fw fo fs fm fv fg : ℕ → ℕ → EReal} (hk : w = k)
    (h0 : Has2 (φ := .f32) x0 fw) (h1 : Has2 (φ := .f32) x1 fo) (h2 : Has2 (φ := .f32) x2 fs) (h3 : Has2 (φ := .f32) x3 fm)
    (h4 : Has2 (φ := .f32) x4 fv) (hg : ∀ r e, r < 128 → e < 1024 → ofHalf k (i 0).val (fo r e) (fs r e) = fg r e) :
    Has2 (φ := .f32) (k0_pay2 i w x1 x2) fg
    ∧ Has2 (φ := .f32) (k0_pay5 i w x1 x2 x0 x3 x4) (fun r e => step (fw r e) (fm r e) (fv r e) (fg r e))
    ∧ Has2 (φ := .f32) (k0_pay3 i w x1 x2 x3) (fun r e => first (fm r e) (fg r e))
    ∧ Has2 (φ := .f32) (k0_pay4 i w x1 x2 x4) (fun r e => second (fv r e) (fg r e)) := by
  subst hk
  have g : Has2 (φ := .f32) (k0_pay2 i w x1 x2) fg :=
    Has2.congr (f := fun r e => ofHalf w (i 0).val (fo r e) (fs r e)) (has_half h1 h2) hg
  have x : Has2 (φ := .f32) (k0_pay3 i w x1 x2 x3) (fun r e => first (fm r e) (fg r e)) := has_first h3 g
  have y : Has2 (φ := .f32) (k0_pay4 i w x1 x2 x4) (fun r e => second (fv r e) (fg r e)) := has_second h4 g
  exact ⟨g, has_step h0 x y, x, y⟩

/-- The three weights are updated alike. -/
theorem out_a (i : grid0.Coords) (w : BitVec 32) (x : Fin 15 → Vec Ideal S128x1024 .f32) : out i w x 0 = k0_pay2 i w (x 1) (x 2)
    ∧ out i w x 1 = k0_pay5 i w (x 1) (x 2) (x 0) (x 3) (x 4) ∧ out i w x 2 = k0_pay3 i w (x 1) (x 2) (x 3)
    ∧ out i w x 3 = k0_pay4 i w (x 1) (x 2) (x 4) := ⟨rfl, rfl, rfl, rfl⟩
theorem out_b (i : grid0.Coords) (w : BitVec 32) (x : Fin 15 → Vec Ideal S128x1024 .f32) : out i w x 4 = k0_pay2 i w (x 6) (x 7)
    ∧ out i w x 5 = k0_pay5 i w (x 6) (x 7) (x 5) (x 8) (x 9) ∧ out i w x 6 = k0_pay3 i w (x 6) (x 7) (x 8)
    ∧ out i w x 7 = k0_pay4 i w (x 6) (x 7) (x 9) := ⟨rfl, rfl, rfl, rfl⟩
theorem out_out (i : grid0.Coords) (w : BitVec 32) (x : Fin 15 → Vec Ideal S128x1024 .f32) : out i w x 8 = k0_pay2 i w (x 11) (x 12)
    ∧ out i w x 9 = k0_pay5 i w (x 11) (x 12) (x 10) (x 13) (x 14) ∧ out i w x 10 = k0_pay3 i w (x 11) (x 12) (x 13)
    ∧ out i w x 11 = k0_pay4 i w (x 11) (x 12) (x 14) := ⟨rfl, rfl, rfl, rfl⟩

/-! ## The arrays -/

section arrays
variable (m : (ℓ : Loc nD τ sig) → Buf (Elt Ideal) ℓ) (hO : Ok m) (c : Dev nD)

/-- The core's index, and the entries of the three weights, their gradients' halves and their moments; a gradient's rows below 128
    are the first half, the others the second. -/
abbrev place : BitVec 32 := m ((c : Thread nD τ).loc main_arg0) (ix1 1)
abbrev full (x y z : FVec Ideal ⟨2, ![256, 1024]⟩ .f32) : Fin 3 → ℕ → ℕ → EReal := ![entry2 x, entry2 y, entry2 z]
abbrev half (x y z : FVec Ideal ⟨2, ![128, 1024]⟩ .f32) : Fin 3 → ℕ → ℕ → EReal := ![entry2 x, entry2 y, entry2 z]
abbrev weight : Fin 3 → ℕ → ℕ → EReal :=
  full (m ((c : Thread nD τ).loc main_arg1)) (m ((c : Thread nD τ).loc main_arg2)) (m ((c : Thread nD τ).loc main_arg3))
abbrev own : Fin 3 → ℕ → ℕ → EReal :=
  half (m ((c : Thread nD τ).loc main_arg4)) (m ((c : Thread nD τ).loc main_arg5)) (m ((c : Thread nD τ).loc main_arg6))
abbrev sib : Fin 3 → ℕ → ℕ → EReal :=
  half (m ((c : Thread nD τ).loc main_arg7)) (m ((c : Thread nD τ).loc main_arg8)) (m ((c : Thread nD τ).loc main_arg9))
abbrev moment1 : Fin 3 → ℕ → ℕ → EReal :=
  full (m ((c : Thread nD τ).loc main_arg10)) (m ((c : Thread nD τ).loc main_arg11)) (m ((c : Thread nD τ).loc main_arg12))
abbrev moment2 : Fin 3 → ℕ → ℕ → EReal :=
  full (m ((c : Thread nD τ).loc main_arg13)) (m ((c : Thread nD τ).loc main_arg14)) (m ((c : Thread nD τ).loc main_arg15))
abbrev grad (n : Fin 3) : ℕ → ℕ → EReal := fun r e => ofHalf (place m c) (r / 128) (own m c n (r % 128) e) (sib m c n (r % 128) e)

/-- Which block each window holds at each point. -/
theorem index_full : ∀ t : Fin grid0.N, cc0_transform_0 (grid0.coords t) 0 = (grid0.coords t 0).val ∧ cc0_transform_0 (grid0.coords t) 1 = 0 := by
  decide +kernel
theorem index_half : ∀ t : Fin grid0.N, cc0_transform_1 (grid0.coords t) 0 = 0 ∧ cc0_transform_1 (grid0.coords t) 1 = 0 := by decide +kernel
theorem apart : ∀ t t' : Fin grid0.N, cc0_transform_0 (grid0.coords t) = cc0_transform_0 (grid0.coords t') → t = t' := by decide +kernel
theorem covered : ∀ p q, p * 128 < 256 → q * 1024 < 1024 →
    ∃ t : Fin grid0.N, cc0_transform_0 (grid0.coords t) 0 = p ∧ cc0_transform_0 (grid0.coords t) 1 = q := by
  have h : ∀ p : Fin 2, ∃ t : Fin grid0.N, cc0_transform_0 (grid0.coords t) 0 = p.val ∧ cc0_transform_0 (grid0.coords t) 1 = 0 := by
    decide +kernel
  intro p q hp hq
  obtain rfl : q = 0 := by omega
  exact h ⟨p, by omega⟩

/-- The blocks read. -/
theorem blk0 (t : Fin (cfgM m hO).N) : Has2 (φ := .f32) (read m hO c t 0) (fun r e => weight m c 0 ((grid0.coords t 0).val * 128 + r) (0 * 1024 + e)) :=
  has_block (has_entry2 (φ := .f32) (m ((c : Thread nD τ).loc main_arg1))) (index_full t).1 (index_full t).2
    fun j k => ((cfgM m hO).win 0).rect_emb_val t j k
theorem blk1 (t : Fin (cfgM m hO).N) : Has2 (φ := .f32) (read m hO c t 1) (fun r e => own m c 0 (0 * 128 + r) (0 * 1024 + e)) :=
  has_block (has_entry2 (φ := .f32) (m ((c : Thread nD τ).loc main_arg4))) (index_half t).1 (index_half t).2
    fun j k => ((cfgM m hO).win 1).rect_emb_val t j k
theorem blk2 (t : Fin (cfgM m hO).N) : Has2 (φ := .f32) (read m hO c t 2) (fun r e => sib m c 0 (0 * 128 + r) (0 * 1024 + e)) :=
  has_block (has_entry2 (φ := .f32) (m ((c : Thread nD τ).loc main_arg7))) (index_half t).1 (index_half t).2
    fun j k => ((cfgM m hO).win 2).rect_emb_val t j k
theorem blk3 (t : Fin (cfgM m hO).N) : Has2 (φ := .f32) (read m hO c t 3) (fun r e => moment1 m c 0 ((grid0.coords t 0).val * 128 + r) (0 * 1024 + e)) :=
  has_block (has_entry2 (φ := .f32) (m ((c : Thread nD τ).loc main_arg10))) (index_full t).1 (index_full t).2
    fun j k => ((cfgM m hO).win 3).rect_emb_val t j k
theorem blk4 (t : Fin (cfgM m hO).N) : Has2 (φ := .f32) (read m hO c t 4) (fun r e => moment2 m c 0 ((grid0.coords t 0).val * 128 + r) (0 * 1024 + e)) :=
  has_block (has_entry2 (φ := .f32) (m ((c : Thread nD τ).loc main_arg13))) (index_full t).1 (index_full t).2
    fun j k => ((cfgM m hO).win 4).rect_emb_val t j k
theorem blk5 (t : Fin (cfgM m hO).N) : Has2 (φ := .f32) (read m hO c t 5) (fun r e => weight m c 1 ((grid0.coords t 0).val * 128 + r) (0 * 1024 + e)) :=
  has_block (has_entry2 (φ := .f32) (m ((c : Thread nD τ).loc main_arg2))) (index_full t).1 (index_full t).2
    fun j k => ((cfgM m hO).win 5).rect_emb_val t j k
theorem blk6 (t : Fin (cfgM m hO).N) : Has2 (φ := .f32) (read m hO c t 6) (fun r e => own m c 1 (0 * 128 + r) (0 * 1024 + e)) :=
  has_block (has_entry2 (φ := .f32) (m ((c : Thread nD τ).loc main_arg5))) (index_half t).1 (index_half t).2
    fun j k => ((cfgM m hO).win 6).rect_emb_val t j k
theorem blk7 (t : Fin (cfgM m hO).N) : Has2 (φ := .f32) (read m hO c t 7) (fun r e => sib m c 1 (0 * 128 + r) (0 * 1024 + e)) :=
  has_block (has_entry2 (φ := .f32) (m ((c : Thread nD τ).loc main_arg8))) (index_half t).1 (index_half t).2
    fun j k => ((cfgM m hO).win 7).rect_emb_val t j k
theorem blk8 (t : Fin (cfgM m hO).N) : Has2 (φ := .f32) (read m hO c t 8) (fun r e => moment1 m c 1 ((grid0.coords t 0).val * 128 + r) (0 * 1024 + e)) :=
  has_block (has_entry2 (φ := .f32) (m ((c : Thread nD τ).loc main_arg11))) (index_full t).1 (index_full t).2
    fun j k => ((cfgM m hO).win 8).rect_emb_val t j k
theorem blk9 (t : Fin (cfgM m hO).N) : Has2 (φ := .f32) (read m hO c t 9) (fun r e => moment2 m c 1 ((grid0.coords t 0).val * 128 + r) (0 * 1024 + e)) :=
  has_block (has_entry2 (φ := .f32) (m ((c : Thread nD τ).loc main_arg14))) (index_full t).1 (index_full t).2
    fun j k => ((cfgM m hO).win 9).rect_emb_val t j k
theorem blk10 (t : Fin (cfgM m hO).N) : Has2 (φ := .f32) (read m hO c t 10) (fun r e => weight m c 2 ((grid0.coords t 0).val * 128 + r) (0 * 1024 + e)) :=
  has_block (has_entry2 (φ := .f32) (m ((c : Thread nD τ).loc main_arg3))) (index_full t).1 (index_full t).2
    fun j k => ((cfgM m hO).win 10).rect_emb_val t j k
theorem blk11 (t : Fin (cfgM m hO).N) : Has2 (φ := .f32) (read m hO c t 11) (fun r e => own m c 2 (0 * 128 + r) (0 * 1024 + e)) :=
  has_block (has_entry2 (φ := .f32) (m ((c : Thread nD τ).loc main_arg6))) (index_half t).1 (index_half t).2
    fun j k => ((cfgM m hO).win 11).rect_emb_val t j k
theorem blk12 (t : Fin (cfgM m hO).N) : Has2 (φ := .f32) (read m hO c t 12) (fun r e => sib m c 2 (0 * 128 + r) (0 * 1024 + e)) :=
  has_block (has_entry2 (φ := .f32) (m ((c : Thread nD τ).loc main_arg9))) (index_half t).1 (index_half t).2
    fun j k => ((cfgM m hO).win 12).rect_emb_val t j k
theorem blk13 (t : Fin (cfgM m hO).N) : Has2 (φ := .f32) (read m hO c t 13) (fun r e => moment1 m c 2 ((grid0.coords t 0).val * 128 + r) (0 * 1024 + e)) :=
  has_block (has_entry2 (φ := .f32) (m ((c : Thread nD τ).loc main_arg12))) (index_full t).1 (index_full t).2
    fun j k => ((cfgM m hO).win 13).rect_emb_val t j k
theorem blk14 (t : Fin (cfgM m hO).N) : Has2 (φ := .f32) (read m hO c t 14) (fun r e => moment2 m c 2 ((grid0.coords t 0).val * 128 + r) (0 * 1024 + e)) :=
  has_block (has_entry2 (φ := .f32) (m ((c : Thread nD τ).loc main_arg15))) (index_full t).1 (index_full t).2
    fun j k => ((cfgM m hO).win 14).rect_emb_val t j k

/-- A gradient's half. -/
theorem halves (n : Fin 3) (p r e : ℕ) (hr : r < 128) : ofHalf (place m c) p (own m c n (0 * 128 + r) (0 * 1024 + e))
    (sib m c n (0 * 128 + r) (0 * 1024 + e)) = grad m c n (p * 128 + r) (0 * 1024 + e) := by
  show _ = ofHalf (place m c) ((p * 128 + r) / 128) (own m c n ((p * 128 + r) % 128) _) (sib m c n ((p * 128 + r) % 128) _)
  rw [show (p * 128 + r) / 128 = p by omega, show (p * 128 + r) % 128 = r by omega, Nat.zero_mul, Nat.zero_add]

/-- What a weight's four blocks hold once a point is done. -/
abbrev Done (n : Fin 3) (p : ℕ) (g d x y : Vec Ideal S128x1024 .f32) : Prop :=
  Has2 (φ := .f32) g (fun r e => grad m c n (p * 128 + r) (0 * 1024 + e))
  ∧ Has2 (φ := .f32) d (fun r e => step (weight m c n (p * 128 + r) (0 * 1024 + e)) (moment1 m c n (p * 128 + r) (0 * 1024 + e))
      (moment2 m c n (p * 128 + r) (0 * 1024 + e)) (grad m c n (p * 128 + r) (0 * 1024 + e)))
  ∧ Has2 (φ := .f32) x (fun r e => first (moment1 m c n (p * 128 + r) (0 * 1024 + e)) (grad m c n (p * 128 + r) (0 * 1024 + e)))
  ∧ Has2 (φ := .f32) y (fun r e => second (moment2 m c n (p * 128 + r) (0 * 1024 + e)) (grad m c n (p * 128 + r) (0 * 1024 + e)))

theorem left_a (t : Fin (cfgM m hO).N) : Done m c 0 (cc0_transform_0 (grid0.coords t) 0) (left m hO c t 0) (left m hO c t 1) (left m hO c t 2) (left m hO c t 3) := by
  rw [(index_full t).1]
  obtain rfl : c = 0 := Subsingleton.elim _ _
  obtain ⟨e0, e1, e2, e3⟩ := out_a (grid0.coords t) (core (c := 0) (tbl m 0)) (read m hO 0 t)
  have h := outs (i := grid0.coords t) (w := core (F := Ideal) (c := 0) (tbl m 0)) (k := place m 0) rfl (blk0 m hO 0 t) (blk1 m hO 0 t)
    (blk2 m hO 0 t) (blk3 m hO 0 t) (blk4 m hO 0 t) fun r e hr _ => halves m 0 0 _ r e hr
  rw [← e0, ← e1, ← e2, ← e3] at h
  exact h
theorem left_b (t : Fin (cfgM m hO).N) : Done m c 1 (cc0_transform_0 (grid0.coords t) 0) (left m hO c t 4) (left m hO c t 5) (left m hO c t 6) (left m hO c t 7) := by
  rw [(index_full t).1]
  obtain rfl : c = 0 := Subsingleton.elim _ _
  obtain ⟨e0, e1, e2, e3⟩ := out_b (grid0.coords t) (core (c := 0) (tbl m 0)) (read m hO 0 t)
  have h := outs (i := grid0.coords t) (w := core (F := Ideal) (c := 0) (tbl m 0)) (k := place m 0) rfl (blk5 m hO 0 t) (blk6 m hO 0 t)
    (blk7 m hO 0 t) (blk8 m hO 0 t) (blk9 m hO 0 t) fun r e hr _ => halves m 0 1 _ r e hr
  rw [← e0, ← e1, ← e2, ← e3] at h
  exact h
theorem left_out (t : Fin (cfgM m hO).N) : Done m c 2 (cc0_transform_0 (grid0.coords t) 0) (left m hO c t 8) (left m hO c t 9) (left m hO c t 10) (left m hO c t 11) := by
  rw [(index_full t).1]
  obtain rfl : c = 0 := Subsingleton.elim _ _
  obtain ⟨e0, e1, e2, e3⟩ := out_out (grid0.coords t) (core (c := 0) (tbl m 0)) (read m hO 0 t)
  have h := outs (i := grid0.coords t) (w := core (F := Ideal) (c := 0) (tbl m 0)) (k := place m 0) rfl (blk10 m hO 0 t) (blk11 m hO 0 t)
    (blk12 m hO 0 t) (blk13 m hO 0 t) (blk14 m hO 0 t) fun r e hr _ => halves m 0 2 _ r e hr
  rw [← e0, ← e1, ← e2, ← e3] at h
  exact h

/-- An array written block by block. -/
theorem from_blocks {x : FVec Ideal ⟨2, ![256, 1024]⟩ .f32} {f : ℕ → ℕ → EReal} (k : Fin 12)
    (emb : Fin grid0.N → (⟨2, ![128, 1024]⟩ : Shape).Idx → (⟨2, ![256, 1024]⟩ : Shape).Idx)
    (he : ∀ t j i, (emb t j i).val = cc0_transform_0 (grid0.coords t) i * (![128, 1024] : Fin 2 → ℕ) i + (j i).val)
    (hx : ∀ t j, x (emb t j) = left m hO c t k j)
    (hl : ∀ t, Has2 (φ := .f32) (left m hO c t k) (fun r e => f (cc0_transform_0 (grid0.coords t) 0 * 128 + r) (0 * 1024 + e))) : Has2 x f :=
  has_of_blocks (by decide) (by decide) (fun t => cc0_transform_0 (grid0.coords t)) emb he covered fun t r e => by
    rw [(index_full t).2]
    exact (hx t _).trans (hl t r e)

/-- The arrays at the end: each weight's gradient, step, first and second moment. -/
theorem array15 : Has2 (φ := .f32) ((dats m hO 0 c).arrAt 15 (cfgM m hO).N : Vec Ideal S256x1024 .f32)
    (grad m c 0) :=
  from_blocks m hO c 0 (fun t => (((cfgM m hO).win 15).blk t).view.emb) (fun t j i => ((cfgM m hO).win 15).rect_emb_val t j i)
    (fun t j => ((dats m hO 0 c).arrAt_emb_eq_flushed 15 (fun t t' _ _ hne => ((cfgM m hO).win 15).disjoint_blk fun h => hne (apart t t' h)) t
      (flush0_15 _ t) j).trans (congrFun (after15 m hO c t) j)) fun t => (left_a m hO c t).1
theorem array16 : Has2 (φ := .f32) ((dats m hO 0 c).arrAt 16 (cfgM m hO).N : Vec Ideal S256x1024 .f32)
    (fun r e => step (weight m c 0 r e) (moment1 m c 0 r e) (moment2 m c 0 r e) (grad m c 0 r e)) :=
  from_blocks m hO c 1 (fun t => (((cfgM m hO).win 16).blk t).view.emb) (fun t j i => ((cfgM m hO).win 16).rect_emb_val t j i)
    (fun t j => ((dats m hO 0 c).arrAt_emb_eq_flushed 16 (fun t t' _ _ hne => ((cfgM m hO).win 16).disjoint_blk fun h => hne (apart t t' h)) t
      (flush0_16 _ t) j).trans (congrFun (after16 m hO c t) j)) fun t => (left_a m hO c t).2.1
theorem array17 : Has2 (φ := .f32) ((dats m hO 0 c).arrAt 17 (cfgM m hO).N : Vec Ideal S256x1024 .f32)
    (fun r e => first (moment1 m c 0 r e) (grad m c 0 r e)) :=
  from_blocks m hO c 2 (fun t => (((cfgM m hO).win 17).blk t).view.emb) (fun t j i => ((cfgM m hO).win 17).rect_emb_val t j i)
    (fun t j => ((dats m hO 0 c).arrAt_emb_eq_flushed 17 (fun t t' _ _ hne => ((cfgM m hO).win 17).disjoint_blk fun h => hne (apart t t' h)) t
      (flush0_17 _ t) j).trans (congrFun (after17 m hO c t) j)) fun t => (left_a m hO c t).2.2.1
theorem array18 : Has2 (φ := .f32) ((dats m hO 0 c).arrAt 18 (cfgM m hO).N : Vec Ideal S256x1024 .f32)
    (fun r e => second (moment2 m c 0 r e) (grad m c 0 r e)) :=
  from_blocks m hO c 3 (fun t => (((cfgM m hO).win 18).blk t).view.emb) (fun t j i => ((cfgM m hO).win 18).rect_emb_val t j i)
    (fun t j => ((dats m hO 0 c).arrAt_emb_eq_flushed 18 (fun t t' _ _ hne => ((cfgM m hO).win 18).disjoint_blk fun h => hne (apart t t' h)) t
      (flush0_18 _ t) j).trans (congrFun (after18 m hO c t) j)) fun t => (left_a m hO c t).2.2.2
theorem array19 : Has2 (φ := .f32) ((dats m hO 0 c).arrAt 19 (cfgM m hO).N : Vec Ideal S256x1024 .f32)
    (grad m c 1) :=
  from_blocks m hO c 4 (fun t => (((cfgM m hO).win 19).blk t).view.emb) (fun t j i => ((cfgM m hO).win 19).rect_emb_val t j i)
    (fun t j => ((dats m hO 0 c).arrAt_emb_eq_flushed 19 (fun t t' _ _ hne => ((cfgM m hO).win 19).disjoint_blk fun h => hne (apart t t' h)) t
      (flush0_19 _ t) j).trans (congrFun (after19 m hO c t) j)) fun t => (left_b m hO c t).1
theorem array20 : Has2 (φ := .f32) ((dats m hO 0 c).arrAt 20 (cfgM m hO).N : Vec Ideal S256x1024 .f32)
    (fun r e => step (weight m c 1 r e) (moment1 m c 1 r e) (moment2 m c 1 r e) (grad m c 1 r e)) :=
  from_blocks m hO c 5 (fun t => (((cfgM m hO).win 20).blk t).view.emb) (fun t j i => ((cfgM m hO).win 20).rect_emb_val t j i)
    (fun t j => ((dats m hO 0 c).arrAt_emb_eq_flushed 20 (fun t t' _ _ hne => ((cfgM m hO).win 20).disjoint_blk fun h => hne (apart t t' h)) t
      (flush0_20 _ t) j).trans (congrFun (after20 m hO c t) j)) fun t => (left_b m hO c t).2.1
theorem array21 : Has2 (φ := .f32) ((dats m hO 0 c).arrAt 21 (cfgM m hO).N : Vec Ideal S256x1024 .f32)
    (fun r e => first (moment1 m c 1 r e) (grad m c 1 r e)) :=
  from_blocks m hO c 6 (fun t => (((cfgM m hO).win 21).blk t).view.emb) (fun t j i => ((cfgM m hO).win 21).rect_emb_val t j i)
    (fun t j => ((dats m hO 0 c).arrAt_emb_eq_flushed 21 (fun t t' _ _ hne => ((cfgM m hO).win 21).disjoint_blk fun h => hne (apart t t' h)) t
      (flush0_21 _ t) j).trans (congrFun (after21 m hO c t) j)) fun t => (left_b m hO c t).2.2.1
theorem array22 : Has2 (φ := .f32) ((dats m hO 0 c).arrAt 22 (cfgM m hO).N : Vec Ideal S256x1024 .f32)
    (fun r e => second (moment2 m c 1 r e) (grad m c 1 r e)) :=
  from_blocks m hO c 7 (fun t => (((cfgM m hO).win 22).blk t).view.emb) (fun t j i => ((cfgM m hO).win 22).rect_emb_val t j i)
    (fun t j => ((dats m hO 0 c).arrAt_emb_eq_flushed 22 (fun t t' _ _ hne => ((cfgM m hO).win 22).disjoint_blk fun h => hne (apart t t' h)) t
      (flush0_22 _ t) j).trans (congrFun (after22 m hO c t) j)) fun t => (left_b m hO c t).2.2.2
theorem array23 : Has2 (φ := .f32) ((dats m hO 0 c).arrAt 23 (cfgM m hO).N : Vec Ideal S256x1024 .f32)
    (grad m c 2) :=
  from_blocks m hO c 8 (fun t => (((cfgM m hO).win 23).blk t).view.emb) (fun t j i => ((cfgM m hO).win 23).rect_emb_val t j i)
    (fun t j => ((dats m hO 0 c).arrAt_emb_eq_flushed 23 (fun t t' _ _ hne => ((cfgM m hO).win 23).disjoint_blk fun h => hne (apart t t' h)) t
      (flush0_23 _ t) j).trans (congrFun (after23 m hO c t) j)) fun t => (left_out m hO c t).1
theorem array24 : Has2 (φ := .f32) ((dats m hO 0 c).arrAt 24 (cfgM m hO).N : Vec Ideal S256x1024 .f32)
    (fun r e => step (weight m c 2 r e) (moment1 m c 2 r e) (moment2 m c 2 r e) (grad m c 2 r e)) :=
  from_blocks m hO c 9 (fun t => (((cfgM m hO).win 24).blk t).view.emb) (fun t j i => ((cfgM m hO).win 24).rect_emb_val t j i)
    (fun t j => ((dats m hO 0 c).arrAt_emb_eq_flushed 24 (fun t t' _ _ hne => ((cfgM m hO).win 24).disjoint_blk fun h => hne (apart t t' h)) t
      (flush0_24 _ t) j).trans (congrFun (after24 m hO c t) j)) fun t => (left_out m hO c t).2.1
theorem array25 : Has2 (φ := .f32) ((dats m hO 0 c).arrAt 25 (cfgM m hO).N : Vec Ideal S256x1024 .f32)
    (fun r e => first (moment1 m c 2 r e) (grad m c 2 r e)) :=
  from_blocks m hO c 10 (fun t => (((cfgM m hO).win 25).blk t).view.emb) (fun t j i => ((cfgM m hO).win 25).rect_emb_val t j i)
    (fun t j => ((dats m hO 0 c).arrAt_emb_eq_flushed 25 (fun t t' _ _ hne => ((cfgM m hO).win 25).disjoint_blk fun h => hne (apart t t' h)) t
      (flush0_25 _ t) j).trans (congrFun (after25 m hO c t) j)) fun t => (left_out m hO c t).2.2.1
theorem array26 : Has2 (φ := .f32) ((dats m hO 0 c).arrAt 26 (cfgM m hO).N : Vec Ideal S256x1024 .f32)
    (fun r e => second (moment2 m c 2 r e) (grad m c 2 r e)) :=
  from_blocks m hO c 11 (fun t => (((cfgM m hO).win 26).blk t).view.emb) (fun t j i => ((cfgM m hO).win 26).rect_emb_val t j i)
    (fun t j => ((dats m hO 0 c).arrAt_emb_eq_flushed 26 (fun t t' _ _ hne => ((cfgM m hO).win 26).disjoint_blk fun h => hne (apart t t' h)) t
      (flush0_26 _ t) j).trans (congrFun (after26 m hO c t) j)) fun t => (left_out m hO c t).2.2.2

end arrays

end Cert.AdamSquaresProof

end
-- ==== Proof.AdamSquaresClaims.lean ====
/-
  The claims about the optimiser's update of the three square weights: the frames and the value.
-/
module

public import proofs.«01_k».proof.Defs
public import proofs.«01_k».proof.Proof.AdamSquaresResult
public import proofs.«01_k».proof.Proof.Gen.AdamSquares.Launch
public import proofs.«01_k».proof.Proof.Gen.AdamSquaresReferenceIdeal.Run
public import proofs.«01_k».proof.Proof.Gen.AdamSquaresReferenceIdeal.Read
public import Idealize.ShloMosaic.Lib.Claim
public import Idealize.ShloMosaic.Adequacy
public import Idealize.ShloMosaic.Init

@[expose] public section

noncomputable section

namespace Cert.AdamSquaresProof

open Idealize.ShloMosaic Idealize.SL.Sem Cert.Cells Cert.Adam

/-- The idealized kernel leaves its arguments as they were and every counter at zero. -/
theorem frame_pi : Cert.quiescent_AdamSquaresIdeal := fun m ρ _ =>
  θ_run_and (kept m ρ trivial) ((θ_run Cert.AdamSquaresIdeal.defs _ _).mono (fun _ h => h.2) (ends m ρ trivial))

set_option maxHeartbeats 8000000 in
/-- The kernel and the idealized kernel are one text, so their tables of bodies are one. -/
theorem bodies : @Cert.AdamSquares.defs₀ Bits _ _ = @Cert.AdamSquaresIdeal.defs₀ Bits _ _ := by
  refine congrArg (Defs.onTc (nD := Cert.AdamSquares.nD) (τ := Cert.AdamSquares.τ) (sig := Cert.AdamSquares.sig) (Λ := Cert.AdamSquares.Λ₀)
    (Val := Elt Bits)) (funext fun l => funext fun a => ?_)
  match l, a with
  | 0, (t, s) => rfl
set_option maxHeartbeats 8000000 in
theorem tables : @Cert.AdamSquares.defs Bits _ _ = @Cert.AdamSquaresIdeal.defs Bits _ _ :=
  congrArg (Pipeline.defs (Cert.AdamSquares.pcfgs (F := Bits))) bodies

set_option maxHeartbeats 8000000 in
/-- So does the kernel. -/
theorem frame_p : Cert.quiescent_AdamSquares := fun m ρ _ => by
  have h := θ_run_and (kept (F := Bits) m ρ trivial)
    ((θ_run Cert.AdamSquaresIdeal.defs _ _).mono (fun _ h => h.2) (ends (F := Bits) m ρ trivial))
  rw [← tables] at h
  exact h

/-- So does the reference, which has no counter. -/
theorem frame_ri : Cert.quiescent_AdamSquaresReferenceIdeal := fun m ρ _ =>
  (θ_run Cert.AdamSquaresReferenceIdeal.defs _ _).mono
    (fun r h => ⟨fun c => (h c).2.2.2.2.2.2.2.2.2.2.2.2, sem_eq_zero_of_no_sems (by decide) r.2⟩)
    (Cert.AdamSquaresReferenceIdeal.Value.run (F := Ideal) m ρ)

/-- The idealized kernel is the kernel's own text. -/
theorem preserves : Cert.preserves_AdamSquares_AdamSquaresIdeal := trivial

/-! ## The reference -/

section reference
open Cert.AdamSquaresReferenceIdeal Cert.AdamSquaresReferenceIdeal.Gen Cert.AdamSquaresReferenceIdeal.Read

variable (k : IVec ⟨1, ![2]⟩ 32) (w : FVec Ideal ⟨2, ![256, 1024]⟩ .f32) (o s : FVec Ideal ⟨2, ![128, 1024]⟩ .f32)
  (x y : FVec Ideal ⟨2, ![256, 1024]⟩ .f32) {fg : ℕ → ℕ → EReal}

/-- The core's index. -/
theorem r1 (i : S_.Idx) : val_main_v1 (F := Ideal) k i = k (ix1 1) := by
  have h : ∀ j : S1.Idx, val_main_v0 (F := Ideal) k j = k (ix1 1) := fun j =>
    (val_main_v0_apply (F := Ideal) k j).trans (congrArg k (funext fun a => Fin.ext (by
      match a with | ⟨0, _⟩ => have h0 : (j 0).val < 1 := (j 0).isLt; show 1 + (j 0).val = 1; omega)))
  exact h _

/-- The gradient, from its two halves. -/
abbrev joined : ℕ → ℕ → EReal := fun r e => ofHalf (k (ix1 1)) (r / 128) (entry2 o (r % 128) e) (entry2 s (r % 128) e)
theorem r6 : Has2 (φ := .f32) (val_main_v6 (F := Ideal) k o s) (joined k o s) := by
  refine has_above (Has2.congr (has_half_ref (j := 0) _ (r1 k) (has_entry2 o) (has_entry2 s)) fun r e hr _ => ?_)
    (Has2.congr (has_half_ref (j := 1) _ (r1 k) (has_entry2 o) (has_entry2 s)) fun r e hr _ => ?_) _
  · show _ = ofHalf (k (ix1 1)) (r / 128) (entry2 o (r % 128) e) (entry2 s (r % 128) e)
    rw [show r / 128 = 0 by omega, show r % 128 = r by omega]
  · show _ = ofHalf (k (ix1 1)) ((128 + r) / 128) (entry2 o ((128 + r) % 128) e) (entry2 s ((128 + r) % 128) e)
    rw [show (128 + r) / 128 = 1 by omega, show (128 + r) % 128 = r by omega]

/-- The moments and the step. -/
theorem r11 : Has2 (φ := .f32) (val_main_v11 (F := Ideal) k o s x) (fun r e => first (entry2 x r e) (joined k o s r e)) :=
  has_first_ref _ (has_entry2 x) (r6 k o s)
theorem r17 : Has2 (φ := .f32) (val_main_v17 (F := Ideal) k o s y) (fun r e => second (entry2 y r e) (joined k o s r e)) :=
  has_second_ref _ (has_entry2 y) (r6 k o s)
theorem r30 : Has2 (φ := .f32) (val_main_v30 (F := Ideal) k w o s x y)
    (fun r e => step (entry2 w r e) (entry2 x r e) (entry2 y r e) (joined k o s r e)) :=
  has_step_ref _ (has_entry2 w) (r11 k o s x) (r17 k o s y)

/-- The three weights are updated alike. -/
theorem r37 : val_main_v37 (F := Ideal) k o s = val_main_v6 (F := Ideal) k o s := rfl
theorem r61 : val_main_v61 (F := Ideal) k w o s x y = val_main_v30 (F := Ideal) k w o s x y := rfl
theorem r42 : val_main_v42 (F := Ideal) k o s x = val_main_v11 (F := Ideal) k o s x := rfl
theorem r48 : val_main_v48 (F := Ideal) k o s y = val_main_v17 (F := Ideal) k o s y := rfl
theorem r68 : val_main_v68 (F := Ideal) k o s = val_main_v6 (F := Ideal) k o s := rfl
theorem r92 : val_main_v92 (F := Ideal) k w o s x y = val_main_v30 (F := Ideal) k w o s x y := rfl
theorem r73 : val_main_v73 (F := Ideal) k o s x = val_main_v11 (F := Ideal) k o s x := rfl
theorem r79 : val_main_v79 (F := Ideal) k o s y = val_main_v17 (F := Ideal) k o s y := rfl

end reference

/-! ## The two agree -/

open Cert.AdamSquaresIdeal in
/-- What the kernel's run leaves. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v0_0) = (dats m trivial 0 c).arrAt 15 (Gen.cfgM m trivial).N
      ∧ r.2.mem ((c.tc : Thread nD τ).loc main_v0_1) = (dats m trivial 0 c).arrAt 16 (Gen.cfgM m trivial).N
      ∧ r.2.mem ((c.tc : Thread nD τ).loc main_v0_2) = (dats m trivial 0 c).arrAt 17 (Gen.cfgM m trivial).N
      ∧ r.2.mem ((c.tc : Thread nD τ).loc main_v0_3) = (dats m trivial 0 c).arrAt 18 (Gen.cfgM m trivial).N
      ∧ r.2.mem ((c.tc : Thread nD τ).loc main_v0_4) = (dats m trivial 0 c).arrAt 19 (Gen.cfgM m trivial).N
      ∧ r.2.mem ((c.tc : Thread nD τ).loc main_v0_5) = (dats m trivial 0 c).arrAt 20 (Gen.cfgM m trivial).N
      ∧ r.2.mem ((c.tc : Thread nD τ).loc main_v0_6) = (dats m trivial 0 c).arrAt 21 (Gen.cfgM m trivial).N
      ∧ r.2.mem ((c.tc : Thread nD τ).loc main_v0_7) = (dats m trivial 0 c).arrAt 22 (Gen.cfgM m trivial).N
      ∧ r.2.mem ((c.tc : Thread nD τ).loc main_v0_8) = (dats m trivial 0 c).arrAt 23 (Gen.cfgM m trivial).N
      ∧ r.2.mem ((c.tc : Thread nD τ).loc main_v0_9) = (dats m trivial 0 c).arrAt 24 (Gen.cfgM m trivial).N
      ∧ r.2.mem ((c.tc : Thread nD τ).loc main_v0_10) = (dats m trivial 0 c).arrAt 25 (Gen.cfgM m trivial).N
      ∧ r.2.mem ((c.tc : Thread nD τ).loc main_v0_11) = (dats m trivial 0 c).arrAt 26 (Gen.cfgM m trivial).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15) :=
  (θ_run defs _ _).mono (fun _ h c => ⟨(h.1.1 c).1 15, (h.1.1 c).1 16, (h.1.1 c).1 17, (h.1.1 c).1 18, (h.1.1 c).1 19, (h.1.1 c).1 20, (h.1.1 c).1 21, (h.1.1 c).1 22, (h.1.1 c).1 23, (h.1.1 c).1 24, (h.1.1 c).1 25, (h.1.1 c).1 26, h.2 c⟩)
    (θ_run_and (ends m ρ trivial) (kept m ρ trivial))

/-- Two arrays with the same entries are equal. -/
theorem ext {a b : ℕ} {x y : FVec Ideal ⟨2, ![a, b]⟩ .f32} {f : ℕ → ℕ → EReal} (hx : Has2 x f) (hy : Has2 y f) : x = y :=
  funext fun i => (hx.at i).trans (hy.at i).symm

/-- Kernel and reference leave the same gradients, steps and moments. -/
theorem algebraic : Cert.algebraic_AdamSquaresIdeal_AdamSquaresReferenceIdeal := by
  intro m ρ m' ρ' _ hag
  refine ⟨fun c => (dats m trivial 0 c).arrAt 15 (Cert.AdamSquaresIdeal.Gen.cfgM m trivial).N,
    fun c => (dats m trivial 0 c).arrAt 16 (Cert.AdamSquaresIdeal.Gen.cfgM m trivial).N,
    fun c => (dats m trivial 0 c).arrAt 17 (Cert.AdamSquaresIdeal.Gen.cfgM m trivial).N,
    fun c => (dats m trivial 0 c).arrAt 18 (Cert.AdamSquaresIdeal.Gen.cfgM m trivial).N,
    fun c => (dats m trivial 0 c).arrAt 19 (Cert.AdamSquaresIdeal.Gen.cfgM m trivial).N,
    fun c => (dats m trivial 0 c).arrAt 20 (Cert.AdamSquaresIdeal.Gen.cfgM m trivial).N,
    fun c => (dats m trivial 0 c).arrAt 21 (Cert.AdamSquaresIdeal.Gen.cfgM m trivial).N,
    fun c => (dats m trivial 0 c).arrAt 22 (Cert.AdamSquaresIdeal.Gen.cfgM m trivial).N,
    fun c => (dats m trivial 0 c).arrAt 23 (Cert.AdamSquaresIdeal.Gen.cfgM m trivial).N,
    fun c => (dats m trivial 0 c).arrAt 24 (Cert.AdamSquaresIdeal.Gen.cfgM m trivial).N,
    fun c => (dats m trivial 0 c).arrAt 25 (Cert.AdamSquaresIdeal.Gen.cfgM m trivial).N,
    fun c => (dats m trivial 0 c).arrAt 26 (Cert.AdamSquaresIdeal.Gen.cfgM m trivial).N, run m ρ, ?_⟩
  refine (θ_run Cert.AdamSquaresReferenceIdeal.defs _ _).mono (fun r h c => ?_) (Cert.AdamSquaresReferenceIdeal.Value.run (F := Ideal) m' ρ')
  obtain ⟨a0, a1, a2, a3, a4, a5, a6, a7, a8, a9, a10, a11, a12, a13, a14, a15⟩ := hag c
  obtain ⟨h0, h1, h2, h3, h4, h5, h6, h7, h8, h9, h10, h11, hr⟩ := h c
  have e0 := h0.trans (Cert.AdamSquaresReferenceIdeal.Read.val_main_v6_eq _ _ _)
  have e1 := h1.trans (Cert.AdamSquaresReferenceIdeal.Read.val_main_v30_eq _ _ _ _ _ _)
  have e2 := h2.trans (Cert.AdamSquaresReferenceIdeal.Read.val_main_v11_eq _ _ _ _)
  have e3 := h3.trans (Cert.AdamSquaresReferenceIdeal.Read.val_main_v17_eq _ _ _ _)
  rw [a0, a4, a7] at e0
  rw [a0, a1, a4, a7, a10, a13] at e1
  rw [a0, a4, a7, a10] at e2
  rw [a0, a4, a7, a13] at e3
  have e4 := h4.trans ((Cert.AdamSquaresReferenceIdeal.Read.val_main_v37_eq _ _ _).trans (r37 _ _ _))
  have e5 := h5.trans ((Cert.AdamSquaresReferenceIdeal.Read.val_main_v61_eq _ _ _ _ _ _).trans (r61 _ _ _ _ _ _))
  have e6 := h6.trans ((Cert.AdamSquaresReferenceIdeal.Read.val_main_v42_eq _ _ _ _).trans (r42 _ _ _ _))
  have e7 := h7.trans ((Cert.AdamSquaresReferenceIdeal.Read.val_main_v48_eq _ _ _ _).trans (r48 _ _ _ _))
  rw [a0, a5, a8] at e4
  rw [a0, a2, a5, a8, a11, a14] at e5
  rw [a0, a5, a8, a11] at e6
  rw [a0, a5, a8, a14] at e7
  have e8 := h8.trans ((Cert.AdamSquaresReferenceIdeal.Read.val_main_v68_eq _ _ _).trans (r68 _ _ _))
  have e9 := h9.trans ((Cert.AdamSquaresReferenceIdeal.Read.val_main_v92_eq _ _ _ _ _ _).trans (r92 _ _ _ _ _ _))
  have e10 := h10.trans ((Cert.AdamSquaresReferenceIdeal.Read.val_main_v73_eq _ _ _ _).trans (r73 _ _ _ _))
  have e11 := h11.trans ((Cert.AdamSquaresReferenceIdeal.Read.val_main_v79_eq _ _ _ _).trans (r79 _ _ _ _))
  rw [a0, a6, a9] at e8
  rw [a0, a3, a6, a9, a12, a15] at e9
  rw [a0, a6, a9, a12] at e10
  rw [a0, a6, a9, a15] at e11
  exact ⟨e0.trans (ext (r6 _ _ _) (array15 m trivial c)),
    e1.trans (ext (r30 _ _ _ _ _ _) (array16 m trivial c)),
    e2.trans (ext (r11 _ _ _ _) (array17 m trivial c)),
    e3.trans (ext (r17 _ _ _ _) (array18 m trivial c)),
    e4.trans (ext (r6 _ _ _) (array19 m trivial c)),
    e5.trans (ext (r30 _ _ _ _ _ _) (array20 m trivial c)),
    e6.trans (ext (r11 _ _ _ _) (array21 m trivial c)),
    e7.trans (ext (r17 _ _ _ _) (array22 m trivial c)),
    e8.trans (ext (r6 _ _ _) (array23 m trivial c)),
    e9.trans (ext (r30 _ _ _ _ _ _) (array24 m trivial c)),
    e10.trans (ext (r11 _ _ _ _) (array25 m trivial c)),
    e11.trans (ext (r17 _ _ _ _) (array26 m trivial c)), hr⟩

end Cert.AdamSquaresProof

end
-- ==== Proof.PairMath.lean ====
/-
  The sum of the gradients of two cores that share a chip. Each core holds the gradients of both cores for the four
  chips; a core adds its own half of its gradient to what the other core has for it. The sum for its own chip stays,
  the sums for the three other chips go out. The place of the core, its chip's number and its own, is given as a table
  of two words.
-/
module

public import proofs.«01_k».proof.Proof.ChipMath
public import Idealize.ShloMosaic.Lib.VecWindow

@[expose] public section

noncomputable section

namespace Cert.Pair

open Idealize.ShloMosaic Cert.Cells Cert.Adam

variable {N a b A B : ℕ} {φ : FTy}

/-- The sum for chip `k`: the half of the gradient that starts at row `h`, and the other core's part. -/
def both (h : ℕ) (g s : ℕ → ℕ → ℕ → EReal) (k r c : ℕ) : EReal := g k (h + r) c + s k r c

/-! ## The place -/

/-- Word `p` of a table of two. -/
theorem word (x : IVec ⟨1, ![2]⟩ 32) (p : Fin 2) (hs : (⟨1, ![2]⟩ : Shape).Slices ![p.val] ⟨1, ![1]⟩)
    (hc : (⟨1, ![1]⟩ : Shape).ShapeCasts ⟨0, ![]⟩) (i : (⟨0, ![]⟩ : Shape).Idx) :
    shapeCast ⟨0, ![]⟩ (extractStridedSlice ⟨1, ![1]⟩ ![p.val] x hs) hc i = x (ix1 p) := by
  have h : ∀ j : (⟨1, ![1]⟩ : Shape).Idx, extractStridedSlice ⟨1, ![1]⟩ ![p.val] x hs j = x (ix1 p) := fun j =>
    extractStridedSlice_apply ![p.val] x hs j (ix1 p) fun a => match a with
      | ⟨0, _⟩ => by have h0 : (j 0).val < 1 := (j 0).isLt; show p.val = p.val + (j 0).val; omega
  exact h _

/-- A word between zero and a small bound, compared as signed numbers. -/
theorem small {w : BitVec 32} {n : ℕ} (hn : n < 2 ^ 31) (h0 : (0#32).sle w = true) (h1 : w.slt (BitVec.ofNat 32 n) = true) : w.toNat < n := by
  rw [BitVec.sle_iff_toInt_le] at h0
  rw [BitVec.slt_iff_toInt_lt] at h1
  have e0 : (0#32).toInt = 0 := by decide
  have e1 : (BitVec.ofNat 32 n).toInt = n := by
    rw [BitVec.toInt_eq_toNat_cond, BitVec.toNat_ofNat, Nat.mod_eq_of_lt (by omega), if_pos (by omega)]
  have e2 := BitVec.toInt_eq_toNat_cond w
  have e3 := w.isLt
  rw [e0] at h0
  rw [e1] at h1
  split at e2 <;> omega

/-- The condition on the place, read: one of four chips and one of two cores. -/
theorem place_words {x : IVec ⟨1, ![2]⟩ 32} {h0 : (⟨1, ![2]⟩ : Shape).Slices ![0] ⟨1, ![1]⟩} {h1 : (⟨1, ![2]⟩ : Shape).Slices ![1] ⟨1, ![1]⟩}
    {hc : (⟨1, ![1]⟩ : Shape).ShapeCasts ⟨0, ![]⟩}
    (h : andi (andi (andi (cmpi .sge (shapeCast ⟨0, ![]⟩ (extractStridedSlice ⟨1, ![1]⟩ ![0] x h0) hc) (constantI ⟨0, ![]⟩ 32 0#32))
        (cmpi .slt (shapeCast ⟨0, ![]⟩ (extractStridedSlice ⟨1, ![1]⟩ ![0] x h0) hc) (constantI ⟨0, ![]⟩ 32 4#32)))
        (cmpi .sge (shapeCast ⟨0, ![]⟩ (extractStridedSlice ⟨1, ![1]⟩ ![1] x h1) hc) (constantI ⟨0, ![]⟩ 32 0#32)))
        (cmpi .slt (shapeCast ⟨0, ![]⟩ (extractStridedSlice ⟨1, ![1]⟩ ![1] x h1) hc) (constantI ⟨0, ![]⟩ 32 2#32)) = fun _ => 1#1) :
    (x (ix1 0)).toNat < 4 ∧ (x (ix1 1)).toNat < 2 := by
  have e := congrFun h fun a => a.elim0
  simp only [andi, cmpi, constantI, IntOp.cmpi] at e
  have w0 := word x 0 h0 hc
  have w1 := word x 1 h1 hc
  change ∀ i, shapeCast ⟨0, ![]⟩ (extractStridedSlice ⟨1, ![1]⟩ ![0] x h0) hc i = _ at w0
  change ∀ i, shapeCast ⟨0, ![]⟩ (extractStridedSlice ⟨1, ![1]⟩ ![1] x h1) hc i = _ at w1
  rw [w0, w1] at e
  have k1 : ∀ p q r s : Bool, IntOp.andi (IntOp.andi (IntOp.andi (BitVec.ofBool p) (BitVec.ofBool q)) (BitVec.ofBool r)) (BitVec.ofBool s) = 1#1 →
      p = true ∧ q = true ∧ r = true ∧ s = true := by decide
  obtain ⟨p, q, r, s⟩ := k1 _ _ _ _ e
  exact ⟨small (by decide) p q, small (by decide) r s⟩

/-- A table is its two words. -/
theorem table_ext {x y : IVec ⟨1, ![2]⟩ 32} (h0 : x (ix1 0) = y (ix1 0)) (h1 : x (ix1 1) = y (ix1 1)) : x = y :=
  funext fun i => by
    have e : i = ix1 (i 0) := funext fun k => Fin.ext (by match k with | ⟨0, _⟩ => rfl)
    rw [e]
    match i 0 with
    | ⟨0, _⟩ => exact h0
    | ⟨1, _⟩ => exact h1

/-- Chip and core as one number. -/
theorem place_number {x : IVec ⟨1, ![2]⟩ 32} (h : (x (ix1 0)).toNat < 4 ∧ (x (ix1 1)).toNat < 2) :
    ∃ ch : Fin 8, x (ix1 0) = BitVec.ofNat 32 (ch.val / 2) ∧ x (ix1 1) = BitVec.ofNat 32 (ch.val % 2) := by
  obtain ⟨h0, h1⟩ := h
  refine ⟨⟨2 * (x (ix1 0)).toNat + (x (ix1 1)).toNat, by omega⟩, ?_, ?_⟩
  · rw [show (2 * (x (ix1 0)).toNat + (x (ix1 1)).toNat) / 2 = (x (ix1 0)).toNat by omega, BitVec.ofNat_toNat, BitVec.setWidth_eq]
  · rw [show (2 * (x (ix1 0)).toNat + (x (ix1 1)).toNat) % 2 = (x (ix1 1)).toNat by omega, BitVec.ofNat_toNat, BitVec.setWidth_eq]

/-- The number of another chip, as a word. -/
theorem other_chip : ∀ n s : Fin 4, IntOp.xori (BitVec.ofNat 32 n.val) (BitVec.ofNat 32 s.val) = BitVec.ofNat 32 (n.val ^^^ s.val)
    ∧ n.val ^^^ s.val < 4 := by decide

/-- The word of the chip a point is about, from the table. -/
theorem chosen {k : IVec ⟨1, ![2]⟩ 32} {n : ℕ} (k0 : k (ix1 0) = BitVec.ofNat 32 n) (s : Fin 4) (hn : n < 4)
    (hs : (⟨1, ![2]⟩ : Shape).Slices ![0] ⟨1, ![1]⟩) (hc : (⟨1, ![1]⟩ : Shape).ShapeCasts ⟨0, ![]⟩) (i : (⟨0, ![]⟩ : Shape).Idx) :
    xori (shapeCast ⟨0, ![]⟩ (extractStridedSlice ⟨1, ![1]⟩ ![0] k hs) hc) (constantI ⟨0, ![]⟩ 32 (BitVec.ofNat 32 s.val)) i
      = BitVec.ofNat 32 (n ^^^ s.val) := by
  have e := word k 0 hs hc i
  rw [k0] at e
  exact (congrArg (fun w => IntOp.xori w (BitVec.ofNat 32 s.val)) e).trans (other_chip ⟨n, hn⟩ s).1

/-! ## The reference's choices -/

section choice
variable {x y : FVec Ideal ⟨3, ![N, a, b]⟩ .f32} {f g : ℕ → ℕ → ℕ → EReal}

/-- Slab `n` of an array. -/
theorem has_slab (hx : Has3 x f) (n : ℕ) (hs : (⟨3, ![N, a, b]⟩ : Shape).Slices ![n, 0, 0] ⟨3, ![1, a, b]⟩)
    (hc : (⟨3, ![1, a, b]⟩ : Shape).ShapeCasts ⟨2, ![a, b]⟩) :
    Has2 (φ := .f32) (shapeCast ⟨2, ![a, b]⟩ (extractStridedSlice ⟨3, ![1, a, b]⟩ ![n, 0, 0] x hs) hc) (f n) := by
  have h0 : n + 1 ≤ N := hs.2 0
  refine Has3.dropUnit (f := fun _ => f n) (fun k r c => ?_) hc
  obtain rfl : k = 0 := Subsingleton.elim _ _
  rw [extractStridedSlice_apply ![n, 0, 0] x hs (ix3 0 r c) (ix3 ⟨n, by omega⟩ r c)
    (fun k => match k with | ⟨0, _⟩ => rfl | ⟨1, _⟩ => (Nat.zero_add _).symm | ⟨2, _⟩ => (Nat.zero_add _).symm)]
  exact hx _ _ _

/-- Rows from `p` on of every slab. -/
theorem has_rows (hx : Has3 x f) (p : ℕ) (hs : (⟨3, ![N, a, b]⟩ : Shape).Slices ![0, p, 0] ⟨3, ![N, A, b]⟩) :
    Has3 (φ := .f32) (extractStridedSlice ⟨3, ![N, A, b]⟩ ![0, p, 0] x hs) (fun k r c => f k (p + r) c) := by
  have h1 : p + A ≤ a := hs.2 1
  intro k r c
  rw [extractStridedSlice_apply ![0, p, 0] x hs (ix3 k r c) (ix3 k ⟨p + r, by omega⟩ c)
    (fun k => match k with | ⟨0, _⟩ => (Nat.zero_add _).symm | ⟨1, _⟩ => rfl | ⟨2, _⟩ => (Nat.zero_add _).symm)]
  exact hx _ _ _

/-- The first of two arrays for core 0, the second for core 1. -/
theorem has_half (hb : (⟨0, ![]⟩ : Shape).BroadcastsInDim ⟨3, ![N, a, b]⟩ ![]) {k : IVec ⟨0, ![]⟩ 32} {core : ℕ} (hcore : core < 2)
    (hk : ∀ i, k i = BitVec.ofNat 32 core) (hx : Has3 x fun n r c => f n (0 + r) c) (hy : Has3 y fun n r c => f n (A + r) c) :
    Has3 (φ := .f32) (select (broadcastInDim ⟨3, ![N, a, b]⟩ ![] hb (cmpi .eq k (constantI ⟨0, ![]⟩ 32 0#32))) x y)
      (fun n r c => f n (core * A + r) c) := by
  intro n r c
  show Scalar.select (BitVec.ofBool (k _ == 0#32)) (x (ix3 n r c)) (y (ix3 n r c)) = f n (core * A + r) c
  rw [hk]
  match core, hcore with
  | 0, _ => rw [Nat.zero_mul]; simpa [Scalar.select] using hx n r c
  | 1, _ => rw [Nat.one_mul]; simpa [Scalar.select] using hy n r c

/-- Slab `n` of four, found by comparing `n` with each number. -/
theorem has_at {x : FVec Ideal ⟨3, ![4, a, b]⟩ .f32} (hx : Has3 x f) (hb : (⟨0, ![]⟩ : Shape).BroadcastsInDim ⟨2, ![a, b]⟩ ![])
    {k : IVec ⟨0, ![]⟩ 32} {n : ℕ} (hn : n < 4) (hk : ∀ i, k i = BitVec.ofNat 32 n)
    (h0 : (⟨3, ![4, a, b]⟩ : Shape).Slices ![0, 0, 0] ⟨3, ![1, a, b]⟩) (h1 : (⟨3, ![4, a, b]⟩ : Shape).Slices ![1, 0, 0] ⟨3, ![1, a, b]⟩)
    (h2 : (⟨3, ![4, a, b]⟩ : Shape).Slices ![2, 0, 0] ⟨3, ![1, a, b]⟩) (h3 : (⟨3, ![4, a, b]⟩ : Shape).Slices ![3, 0, 0] ⟨3, ![1, a, b]⟩)
    (hc : (⟨3, ![1, a, b]⟩ : Shape).ShapeCasts ⟨2, ![a, b]⟩) :
    Has2 (φ := .f32) (select (broadcastInDim ⟨2, ![a, b]⟩ ![] hb (cmpi .eq k (constantI ⟨0, ![]⟩ 32 0#32)))
      (shapeCast ⟨2, ![a, b]⟩ (extractStridedSlice ⟨3, ![1, a, b]⟩ ![0, 0, 0] x h0) hc)
      (select (broadcastInDim ⟨2, ![a, b]⟩ ![] hb (cmpi .eq k (constantI ⟨0, ![]⟩ 32 1#32)))
        (shapeCast ⟨2, ![a, b]⟩ (extractStridedSlice ⟨3, ![1, a, b]⟩ ![1, 0, 0] x h1) hc)
        (select (broadcastInDim ⟨2, ![a, b]⟩ ![] hb (cmpi .eq k (constantI ⟨0, ![]⟩ 32 2#32)))
          (shapeCast ⟨2, ![a, b]⟩ (extractStridedSlice ⟨3, ![1, a, b]⟩ ![2, 0, 0] x h2) hc)
          (shapeCast ⟨2, ![a, b]⟩ (extractStridedSlice ⟨3, ![1, a, b]⟩ ![3, 0, 0] x h3) hc)))) (f n) := by
  refine Has2.congr (has_half_ref (j := 0) hb hk (has_slab hx 0 h0 hc) (has_half_ref (j := 1) hb hk (has_slab hx 1 h1 hc)
    (has_half_ref (j := 2) hb hk (has_slab hx 2 h2 hc) (has_slab hx 3 h3 hc)))) fun r c _ _ => ?_
  unfold ofHalf
  match n, hn with
  | 0, _ => rw [if_pos rfl]
  | 1, _ => rw [if_neg (by decide), if_pos rfl]
  | 2, _ => rw [if_neg (by decide), if_neg (by decide), if_pos rfl]
  | 3, _ => rw [if_neg (by decide), if_neg (by decide), if_neg (by decide)]

/-- Three arrays stacked. -/
theorem has_stack {u v w : FVec Ideal ⟨3, ![1, a, b]⟩ .f32} (hu : Has3 u fun _ => f 0) (hv : Has3 v fun _ => f 1) (hw : Has3 w fun _ => f 2)
    (h : Shape.Concatenates [(⟨3, ![1, a, b]⟩ : Shape), ⟨3, ![1, a, b]⟩, ⟨3, ![1, a, b]⟩] ⟨3, ![3, a, b]⟩ 0) :
    Has3 (φ := .f32) (concatenate ⟨3, ![3, a, b]⟩ 0 [⟨⟨3, ![1, a, b]⟩, u⟩, ⟨⟨3, ![1, a, b]⟩, v⟩, ⟨⟨3, ![1, a, b]⟩, w⟩] h) f := by
  intro k r c
  have off : ∀ i : Fin 3, i.cast rfl ≠ (0 : Fin 3) → ((ix3 0 r c : (⟨3, ![1, a, b]⟩ : Shape).Idx) i).val
      = ((ix3 k r c : (⟨3, ![3, a, b]⟩ : Shape).Idx) (i.cast rfl)).val :=
    fun i hi => match i, hi with | ⟨0, _⟩, hi => absurd rfl hi | ⟨1, _⟩, _ => rfl | ⟨2, _⟩, _ => rfl
  match k with
  | ⟨0, _⟩ => exact (concatenate_apply_piece 0 [⟨⟨3, ![1, a, b]⟩, u⟩, ⟨⟨3, ![1, a, b]⟩, v⟩, ⟨⟨3, ![1, a, b]⟩, w⟩] h _ 0 (by simp) ⟨3, ![1, a, b]⟩ u
      rfl rfl 0 (by simp) (ix3 0 r c) off rfl).trans (hu 0 r c)
  | ⟨1, _⟩ => exact (concatenate_apply_piece 0 [⟨⟨3, ![1, a, b]⟩, u⟩, ⟨⟨3, ![1, a, b]⟩, v⟩, ⟨⟨3, ![1, a, b]⟩, w⟩] h _ 1 (by simp) ⟨3, ![1, a, b]⟩ v
      rfl rfl 1 (by simp) (ix3 0 r c) off rfl).trans (hv 0 r c)
  | ⟨2, _⟩ => exact (concatenate_apply_piece 0 [⟨⟨3, ![1, a, b]⟩, u⟩, ⟨⟨3, ![1, a, b]⟩, v⟩, ⟨⟨3, ![1, a, b]⟩, w⟩] h _ 2 (by simp) ⟨3, ![1, a, b]⟩ w
      rfl rfl 2 (by simp) (ix3 0 r c) off rfl).trans (hw 0 r c)

/-- An array given a leading unit axis. -/
theorem has_lift {z : FVec Ideal ⟨2, ![a, b]⟩ .f32} {f : ℕ → ℕ → EReal} (hz : Has2 z f) (ha : a ≠ 1) (hb : b ≠ 1)
    (h : (⟨2, ![a, b]⟩ : Shape).BroadcastsInDim ⟨3, ![1, a, b]⟩ ![1, 2]) :
    Has3 (φ := .f32) (broadcastInDim ⟨3, ![1, a, b]⟩ ![1, 2] h z) (fun _ => f) := fun k r c =>
  (broadcastInDim_apply _ h z (ix3 k r c) (ix2 r c) (fun i => match i with
    | ⟨0, _⟩ => by show r.val = if a = 1 then 0 else r.val; rw [if_neg ha]
    | ⟨1, _⟩ => by show c.val = if b = 1 then 0 else c.val; rw [if_neg hb])).trans (hz r c)

end choice

/-! ## The kernel's blocks -/

section blocks
variable {f : ℕ → ℕ → ℕ → EReal}

/-- One block of one slab. -/
theorem has_block1 {x : FVec Ideal ⟨3, ![N, A, B]⟩ .f32} (hx : Has3 x f) {p q s : ℕ} {n : Fin 3 → ℕ} (h0 : n 0 = p) (h1 : n 1 = q)
    (h2 : n 2 = s) {emb : (⟨3, ![1, a, b]⟩ : Shape).Idx → (⟨3, ![N, A, B]⟩ : Shape).Idx}
    (he : ∀ j k, (emb j k).val = n k * (![1, a, b] : Fin 3 → ℕ) k + (j k).val) :
    Has3 (φ := .f32) (a := 1) (b := a) (d := b) (fun j => x (emb j)) (fun _ r c => f p (q * a + r) (s * b + c)) := by
  intro k r c
  obtain rfl : k = 0 := Subsingleton.elim _ _
  refine (hx.at _).trans ?_
  have e0 : (emb (ix3 0 r c) 0).val = p := by
    rw [he, h0]; exact Nat.mul_one p
  have e1 : (emb (ix3 0 r c) 1).val = q * a + r.val := by
    rw [he, h1]; rfl
  have e2 : (emb (ix3 0 r c) 2).val = s * b + c.val := by
    rw [he, h2]; rfl
  rw [e0, e1, e2]

/-- An array each of whose slabs' blocks holds a function's values, shifted, holds the function's. -/
theorem has_of_blocks1 {ι : Type} {x : FVec Ideal ⟨3, ![N, A, B]⟩ φ} (ha : 0 < a) (hb : 0 < b) (n : ι → Fin 3 → ℕ)
    (emb : ι → (⟨3, ![1, a, b]⟩ : Shape).Idx → (⟨3, ![N, A, B]⟩ : Shape).Idx)
    (he : ∀ t j k, (emb t j k).val = n t k * (![1, a, b] : Fin 3 → ℕ) k + (j k).val)
    (hc : ∀ p q s, p < N → q * a < A → s * b < B → ∃ t, n t 0 = p ∧ n t 1 = q ∧ n t 2 = s)
    (hx : ∀ t, Has3 (φ := φ) (a := 1) (b := a) (d := b) (fun j => x (emb t j))
      (fun _ r c => f (n t 0) (n t 1 * a + r) (n t 2 * b + c))) : Has3 x f := by
  intro k r c
  have hk := k.isLt; have hr := r.isLt; have hs := c.isLt
  have dr := Nat.div_add_mod r.val a; have dc := Nat.div_add_mod c.val b
  rw [Nat.mul_comm] at dr dc
  obtain ⟨t, h0, h1, h2⟩ := hc k.val (r.val / a) (c.val / b) hk (by omega) (by omega)
  have h := hx t 0 ⟨r.val % a, Nat.mod_lt _ ha⟩ ⟨c.val % b, Nat.mod_lt _ hb⟩
  have hi : emb t (ix3 0 ⟨r.val % a, Nat.mod_lt _ ha⟩ ⟨c.val % b, Nat.mod_lt _ hb⟩) = ix3 k r c :=
    Cert.Weights.at3 (by rw [he, h0]; exact Nat.mul_one _) (by rw [he, h1]; exact dr) (by rw [he, h2]; exact dc)
  have e : x (ix3 k r c) = f (n t 0) (n t 1 * a + r.val % a) (n t 2 * b + c.val % b) := (congrArg x hi.symm).trans h
  rw [h0, h1, h2, dr, dc] at e
  exact e

/-- The sum of two blocks. -/
theorem has_sum {u v : FVec Ideal ⟨3, ![1, a, b]⟩ .f32} {f g : ℕ → ℕ → EReal} (hu : Has3 u fun _ => f) (hv : Has3 v fun _ => g)
    (h : (⟨3, ![1, a, b]⟩ : Shape).ShapeCasts ⟨2, ![a, b]⟩) :
    Has2 (φ := .f32) (addf (shapeCast ⟨2, ![a, b]⟩ u h) (shapeCast ⟨2, ![a, b]⟩ v h)) (fun r c => f r c + g r c) :=
  (hu.dropUnit h).addf (hv.dropUnit h)

/-- A block narrowed and given a leading unit axis. -/
theorem has_narrow {u : FVec Ideal ⟨2, ![a, b]⟩ .f32} {f : ℕ → ℕ → EReal} (hu : Has2 u f) (h : (⟨2, ![a, b]⟩ : Shape).ShapeCasts ⟨3, ![1, a, b]⟩)
    (hb : FTy.bits .bf16 < FTy.bits .f32) :
    Has3 (φ := .bf16) (shapeCast ⟨3, ![1, a, b]⟩ (truncf .bf16 u hb) h) (fun _ => f) := by
  intro k r c
  obtain rfl : k = 0 := Subsingleton.elim _ _
  rw [shapeCast_apply _ h (ix3 0 r c) (ix2 r c) (by
    rw [Shape.rowMajor_val_two, Shape.rowMajor_val_three]; show r.val * b + c.val = (0 * a + r.val) * b + c.val; rw [Nat.zero_mul, Nat.zero_add])]
  exact hu r c

/-- One store of the whole of a block with a leading unit axis. -/
theorem stored_one {sig : RefSig} {κ : Kind} {sp : Space} {v : View sig κ sp ⟨3, ![1, a, b]⟩ .bf16} (inb)
    {w : FVec Ideal ⟨3, ![1, a, b]⟩ .bf16} (hw : Has3 w f) :
    Has3 (φ := .bf16) (v.read (Elt Ideal) (v.writes (Elt Ideal) v.junk
      [(⟨Rect.unit (s := ⟨3, ![1, a, b]⟩) ![0, 0, 0] ![1, a, b] inb, w⟩ : View.Piece (Elt Ideal) ⟨3, ![1, a, b]⟩ .bf16)])) f := by
  intro k r c
  rw [View.read_writes_junk_eq_canon]
  have e : (ix3 k r c : (⟨3, ![1, a, b]⟩ : Shape).Idx) = (Rect.unit (s := ⟨3, ![1, a, b]⟩) ![0, 0, 0] ![1, a, b] inb).emb (ix3 k r c) := by
    funext i
    refine Fin.ext ?_
    rw [Rect.emb_apply]
    match i with
    | ⟨0, _⟩ => show k.val = 0 + 1 * k.val; omega
    | ⟨1, _⟩ => show r.val = 0 + 1 * r.val; omega
    | ⟨2, _⟩ => show c.val = 0 + 1 * c.val; omega
  rw [e, View.canon_cons_emb]
  exact hw k r c

end blocks

/-- A load of a whole block of one slab, of contents given by what the block's view reads of them. -/
theorem load_held {sig : RefSig} {κ : Kind} {sp : Space} (v : View sig κ sp ⟨3, ![1, a, b]⟩ .f32) {x : Vec Ideal ⟨3, ![1, a, b]⟩ .f32}
    {h : ℕ → ℕ → ℕ → EReal} (hx : Has3 (φ := .f32) x h)
    (inb : ∀ k, (![0, 0, 0] : Fin 3 → ℕ) k + (![1, a, b] : Fin 3 → ℕ) k ≤ (![1, a, b] : Fin 3 → ℕ) k) :
    Has3 (φ := .f32) (a := 1) (b := a) (d := b)
      (View.readAt (Elt Ideal) v (Rect.unit (s := ⟨3, ![1, a, b]⟩) ![0, 0, 0] ![1, a, b] inb).toLoadRect (v.rep x)) h :=
  fun k r c => (congrFun (View.readAt_rep_full v x inb) (ix3 k r c)).trans (hx k r c)

/-- A block of the sums for the cores' own chips, written at the first of a tile's four points, through all four. -/
theorem kept {M : ℕ} {x : (n : ℕ) → n < M → FVec Ideal ⟨2, ![a, b]⟩ .f32} {f : ℕ → ℕ → EReal}
    (hw : ∀ n hn, n % 4 = 0 → Has2 (x n hn) fun r c => f (n / 4 * a + r) c)
    (hk : ∀ n hn, (n + 1) % 4 ≠ 0 → x (n + 1) hn = x n (Nat.lt_of_succ_lt hn)) :
    ∀ n hn, Has2 (x n hn) fun r c => f (n / 4 * a + r) c
  | 0, hn => hw 0 hn rfl
  | n + 1, hn => by
    by_cases h : (n + 1) % 4 = 0
    · exact hw _ hn h
    · rw [hk n hn h, show (n + 1) / 4 = n / 4 by omega]
      exact kept hw hk n _

/-- Two arrays of three slabs with the same entries are equal. -/
theorem ext {x y : FVec Ideal ⟨3, ![N, a, b]⟩ φ} {f : ℕ → ℕ → ℕ → EReal} (hx : Has3 x f) (hy : Has3 y f) : x = y :=
  funext fun i => (hx.at i).trans (hy.at i).symm

end Cert.Pair

end
-- ==== Proof.PairDownResult.lean ====
/-
  The sum of the gradients of `w_down` over a chip's two cores: what the kernel leaves. It runs over the four chips,
  its own first: that sum goes into the first result, the three others one after another into the second.
-/
module

public import proofs.«01_k».proof.Proof.PairMath
public import proofs.«01_k».proof.Proof.Gen.PairDownIdeal.Flash

@[expose] public section

noncomputable section

namespace Cert.PairDownProof

open Idealize.ShloMosaic Idealize.ShloMosaic.TcCoe Idealize.SL.Sem Cert.Cells Cert.Adam Cert.Pair
open Cert.PairDownIdeal Cert.PairDownIdeal.Gen

/-! ## One point -/

section payloads
variable {x0 x1 : Vec Ideal S1x352x1024 .f32} {f g : ℕ → ℕ → EReal}
theorem has_pay1 (hx : Has3 (φ := .f32) x0 fun _ => f) (hy : Has3 (φ := .f32) x1 fun _ => g) :
    Has2 (φ := .f32) (k0_pay1 x0 x1) (fun r e => f r e + g r e) := has_sum hx hy _
theorem has_pay2 (hx : Has3 (φ := .f32) x0 fun _ => f) (hy : Has3 (φ := .f32) x1 fun _ => g) :
    Has3 (φ := .bf16) (k0_pay2 x0 x1) (fun _ r e => f r e + g r e) := has_narrow (has_pay1 hx hy) _ _
end payloads

section point
variable (c : Dev nD) (i : grid0.Coords)
  {arg3 : Memref sig .tc .vmem S1x352x1024 .f32} (harg3 : arg3.IsWhole) {arg4 : Memref sig .tc .vmem S1x352x1024 .f32} (harg4 : arg4.IsWhole)
  {arg5 : Memref sig .tc .vmem S352x1024 .f32} (harg5 : arg5.IsWhole) {arg6 : Memref sig .tc .vmem S1x352x1024 .bf16} (harg6 : arg6.IsWhole)
  {T0 : S2.Idx → BitVec 32} {x0 x1 : Vec Ideal S1x352x1024 .f32} {f g : ℕ → ℕ → EReal}

/-- The first point stores the sum of its two blocks, -/
theorem first_out (h1 : k0_cond1 i = 1#1) (h2 : ¬(k0_cond2 i = 1#1)) (hx : Has3 (φ := .f32) x0 fun _ => f) (hy : Has3 (φ := .f32) x1 fun _ => g) :
    Has2 (φ := .f32) (out0_A_2 c i arg3 harg3 arg4 harg4 arg5 harg5 arg6 harg6 T0 x0 x1 h1 h2) (fun r e => f r e + g r e) := by
  unfold out0_A_2 kernelRun0_A; dsimp only
  exact stored_wide _ (has_pay1 (load_held _ hx (by decide)) (load_held _ hy (by decide)))

/-- and so do the others, narrowed. -/
theorem other_out (h1 : ¬(k0_cond1 i = 1#1)) (h2 : k0_cond2 i = 1#1) (hx : Has3 (φ := .f32) x0 fun _ => f) (hy : Has3 (φ := .f32) x1 fun _ => g) :
    Has3 (φ := .bf16) (out0_B_3 c i arg3 harg3 arg4 harg4 arg5 harg5 arg6 harg6 T0 x0 x1 h1 h2) (fun _ r e => f r e + g r e) := by
  unfold out0_B_3 kernelRun0_B; dsimp only
  exact stored_one _ (has_pay2 (load_held _ hx (by decide)) (load_held _ hy (by decide)))

end point

/-! ## The arrays -/

/-- Which points are the first of a tile, and which blocks each window holds. -/
theorem first_point : ∀ t : Fin grid0.N, k0_cond1 (grid0.coords t) = 1#1 ↔ t.val = 0 := by decide +kernel
abbrev at0 (ch : Fin 8) (t : Fin (cfgA ch).N) : Fin 3 → ℕ := ((cfgA ch).win 0).index t
abbrev at1 (ch : Fin 8) (t : Fin (cfgA ch).N) : Fin 3 → ℕ := ((cfgA ch).win 1).index t
abbrev at2 (ch : Fin 8) (t : Fin (cfgA ch).N) : Fin 2 → ℕ := ((cfgA ch).win 2).index t
abbrev at3 (ch : Fin 8) (t : Fin (cfgA ch).N) : Fin 3 → ℕ := ((cfgA ch).win 3).index t
theorem index_grad : ∀ (ch : Fin 8) (t : Fin (cfgA ch).N), at0 ch t 0 = ch.val / 2 ^^^ t.val ∧ at0 ch t 1 = ch.val % 2 ∧ at0 ch t 2 = 0 := by
  decide +kernel
theorem index_sib : ∀ (ch : Fin 8) (t : Fin (cfgA ch).N), at1 ch t 0 = ch.val / 2 ^^^ t.val ∧ at1 ch t 1 = 0 ∧ at1 ch t 2 = 0 := by
  decide +kernel
theorem index_own : ∀ (ch : Fin 8) (t : Fin (cfgA ch).N), at2 ch t 0 = 0 ∧ at2 ch t 1 = 0 := by decide +kernel
theorem index_out : ∀ (ch : Fin 8) (t : Fin (cfgA ch).N), at3 ch t 0 = t.val - 1 ∧ at3 ch t 1 = 0 ∧ at3 ch t 2 = 0 := by decide +kernel
theorem flush_own : ∀ (ch : Fin 8) (t : Fin (cfgA ch).N), ((cfgA ch).win 2).flush t = true ↔ t.val = 3 := by decide +kernel

section arrays
variable (ch : Fin 8) (m : (ℓ : Loc nD τ sig) → Buf (Elt Ideal) ℓ) (ρ : Dev nD → PrngReg) (c : Dev nD)

abbrev grad : ℕ → ℕ → ℕ → EReal := entry3 (φ := .f32) (a := 4) (b := 704) (d := 1024) (m ((c : Thread nD τ).loc main_arg1))
abbrev sib : ℕ → ℕ → ℕ → EReal := entry3 (φ := .f32) (a := 4) (b := 352) (d := 1024) (m ((c : Thread nD τ).loc main_arg2))
/-- The sum for each chip. -/
abbrev sums : ℕ → ℕ → ℕ → EReal := both (ch.val % 2 * 352) (grad m c) (sib m c)

theorem blk0 (t : Fin (cfgA ch).N) : Has3 (φ := .f32) (iblk ch m ρ c 0 t : Vec Ideal S1x352x1024 .f32)
    (fun _ r e => grad m c (ch.val / 2 ^^^ t.val) (ch.val % 2 * 352 + r) (0 * 1024 + e)) :=
  has_block1 (has_entry3 (φ := .f32) (m ((c : Thread nD τ).loc main_arg1))) (index_grad ch t).1 (index_grad ch t).2.1 (index_grad ch t).2.2
    fun j k => ((cfgA ch).win 0).rect_emb_val t j k
theorem blk1 (t : Fin (cfgA ch).N) : Has3 (φ := .f32) (iblk ch m ρ c 1 t : Vec Ideal S1x352x1024 .f32)
    (fun _ r e => sib m c (ch.val / 2 ^^^ t.val) (0 * 352 + r) (0 * 1024 + e)) :=
  has_block1 (has_entry3 (φ := .f32) (m ((c : Thread nD τ).loc main_arg2))) (index_sib ch t).1 (index_sib ch t).2.1 (index_sib ch t).2.2
    fun j k => ((cfgA ch).win 1).rect_emb_val t j k

/-- What a step holds at the first point in the first result's block, -/
theorem step_own (t : Fin (cfgA ch).N) (q0 : P0_0 ch t) (prev : (S352x1024.Idx → Elt Ideal .f32) × (S1x352x1024.Idx → Elt Ideal .bf16)) :
    ∃ h1 h2, (step0 ch m ρ c t prev).1 = out0_A_2 c (crd ch t) (ms0_0 ch t) (hs0_0 ch t) (ms0_1 ch t) (hs0_1 ch t) (ms0_2 ch t) (hs0_2 ch t)
      (ms0_3 ch t) (hs0_3 ch t) (pinT_0 ch) (iblk ch m ρ c 0 t) (iblk ch m ρ c 1 t) h1 h2 := by
  obtain ⟨h1, h2, -⟩ := hypsR0_A ch t q0
  refine ⟨h1, h2, ?_⟩
  unfold step0
  rw [dif_pos q0]

/-- and at another in the second's. -/
theorem step_out (t : Fin (cfgA ch).N) (q0 : ¬P0_0 ch t) (prev : (S352x1024.Idx → Elt Ideal .f32) × (S1x352x1024.Idx → Elt Ideal .bf16)) :
    ∃ h1 h2, (step0 ch m ρ c t prev).2 = out0_B_3 c (crd ch t) (ms0_0 ch t) (hs0_0 ch t) (ms0_1 ch t) (hs0_1 ch t) (ms0_2 ch t) (hs0_2 ch t)
      (ms0_3 ch t) (hs0_3 ch t) (pinT_0 ch) (iblk ch m ρ c 0 t) (iblk ch m ρ c 1 t) h1 h2 := by
  obtain ⟨h1, h2, -⟩ := hypsR0_B ch t q0
  refine ⟨h1, h2, ?_⟩
  unfold step0
  rw [dif_neg q0]

/-- That is the sum for the core's own chip, -/
theorem point_own (t : Fin (cfgA ch).N) (ht : t.val = 0) (h1 h2) :
    Has2 (φ := .f32) (out0_A_2 c (crd ch t) (ms0_0 ch t) (hs0_0 ch t) (ms0_1 ch t) (hs0_1 ch t) (ms0_2 ch t) (hs0_2 ch t) (ms0_3 ch t) (hs0_3 ch t)
      (pinT_0 ch) (iblk ch m ρ c 0 t) (iblk ch m ρ c 1 t) h1 h2) (sums ch m c (ch.val / 2)) :=
  Has2.congr (first_out (x0 := iblk ch m ρ c 0 t) (x1 := iblk ch m ρ c 1 t) c (crd ch t) (hs0_0 ch t) (hs0_1 ch t) (hs0_2 ch t) (hs0_3 ch t) h1 h2
    (blk0 ch m ρ c t) (blk1 ch m ρ c t)) fun r e _ _ => by simp only [ht, Nat.xor_zero, Nat.zero_mul, Nat.zero_add, sums, both]

/-- and that for the chip the point is about. -/
theorem point_out (t : Fin (cfgA ch).N) (h1 h2) :
    Has3 (φ := .bf16) (out0_B_3 c (crd ch t) (ms0_0 ch t) (hs0_0 ch t) (ms0_1 ch t) (hs0_1 ch t) (ms0_2 ch t) (hs0_2 ch t) (ms0_3 ch t) (hs0_3 ch t)
      (pinT_0 ch) (iblk ch m ρ c 0 t) (iblk ch m ρ c 1 t) h1 h2) (fun _ => sums ch m c (ch.val / 2 ^^^ t.val)) := by
  have h := other_out (x0 := iblk ch m ρ c 0 t) (x1 := iblk ch m ρ c 1 t) (T0 := pinT_0 ch) c (crd ch t) (hs0_0 ch t) (hs0_1 ch t) (hs0_2 ch t) (hs0_3 ch t) h1 h2
    (blk0 ch m ρ c t) (blk1 ch m ρ c t)
  intro k r e
  refine (h k r e).trans ?_
  simp only [Nat.zero_mul, Nat.zero_add, sums, both]

/-- So the blocks hold after the first point -/
theorem left_own (t : Fin (cfgA ch).N) (ht : t.val = 0) : Has2 (φ := .f32) (traj0 ch m ρ c t.val t.isLt).1 (sums ch m c (ch.val / 2)) := by
  obtain ⟨h1, h2, e⟩ := step_own ch m ρ c t ((first_point t).mpr ht) (prev0 ch m ρ c t)
  rw [traj0_eq, e]
  exact point_own ch m ρ c t ht h1 h2

/-- and after each of the others. -/
theorem left_out (t : Fin (cfgA ch).N) (ht : t.val ≠ 0) :
    Has3 (φ := .bf16) (traj0 ch m ρ c t.val t.isLt).2 (fun _ => sums ch m c (ch.val / 2 ^^^ t.val)) := by
  obtain ⟨h1, h2, e⟩ := step_out ch m ρ c t (fun h => ht ((first_point t).mp h)) (prev0 ch m ρ c t)
  rw [traj0_eq, e]
  exact point_out ch m ρ c t h1 h2

/-- The first's block stays as it was at the others. -/
theorem kept_own : ∀ (n : ℕ) (hn : n < (cfgA ch).N), Has2 (φ := .f32) (traj0 ch m ρ c n hn).1 (sums ch m c (ch.val / 2))
  | 0, hn => left_own ch m ρ c ⟨0, hn⟩ rfl
  | n + 1, hn => by
    have q0 : ¬P0_0 ch ⟨n + 1, hn⟩ := fun h => absurd ((first_point _).mp h) (Nat.succ_ne_zero n)
    have e : (traj0 ch m ρ c (n + 1) hn).1 = (traj0 ch m ρ c n (Nat.lt_of_succ_lt hn)).1 := by
      rw [show traj0 ch m ρ c (n + 1) hn = step0 ch m ρ c ⟨n + 1, hn⟩ (traj0 ch m ρ c n (Nat.lt_of_succ_lt hn)) from rfl,
        step0_B ch m ρ c _ _ q0]
      simp only [(sched0_B ch ⟨n + 1, hn⟩ q0).2.1, Bool.false_eq_true, ↓reduceIte]
    rw [e]; exact kept_own n _

theorem points : (cfgA ch).N = 4 := rfl

/-- The arrays at the end: the sum for the core's own chip, and those for the three others. -/
theorem array2 : Has2 (φ := .f32) ((dats ch m ρ 0 c).arrAt 2 (cfgA ch).N : Vec Ideal S352x1024 .f32) (sums ch m c (ch.val / 2)) := by
  have hl : 3 < (cfgA ch).N := by rw [points]; decide
  refine has_of_blocks (N := 1) (a := 352) (b := 1024) (by decide) (by decide) (fun _ => at2 ch ⟨3, hl⟩)
    (fun _ => (((cfgA ch).win 2).blk ⟨3, hl⟩).view.emb) (fun _ j k => ((cfgA ch).win 2).rect_emb_val _ j k)
    (fun p q hp hq => ⟨0, by rw [(index_own ch _).1]; omega, by rw [(index_own ch _).2]; omega⟩) fun _ r e => ?_
  refine ((dats ch m ρ 0 c).arrAt_emb_eq_flushed 2 (fun t t' ht ht' hne => absurd (Fin.ext (((flush_own ch t).mp ht).trans
    ((flush_own ch t').mp ht').symm)) hne) ⟨3, hl⟩ ((flush_own ch _).mpr rfl) (ix2 r e)).trans ?_
  refine (congrFun (after0_2 ch m ρ c ⟨3, hl⟩) (ix2 r e)).trans ?_
  rw [(index_own ch _).1, (index_own ch _).2]
  simp only [Nat.zero_mul, Nat.zero_add]
  exact kept_own ch m ρ c 3 hl r e

theorem array3 : Has3 (φ := .bf16) ((dats ch m ρ 0 c).arrAt 3 (cfgA ch).N : Vec Ideal S3x352x1024 .bf16)
    (fun k => sums ch m c (ch.val / 2 ^^^ (k + 1))) := by
  have hl : ∀ k : Fin 3, k.val + 1 < (cfgA ch).N := fun k => by rw [points]; omega
  refine has_of_blocks1 (ι := Fin 3) (a := 352) (b := 1024) (by decide) (by decide) (fun k => at3 ch ⟨k.val + 1, hl k⟩)
    (fun k => (((cfgA ch).win 3).blk ⟨k.val + 1, hl k⟩).view.emb) (fun k j i => ((cfgA ch).win 3).rect_emb_val _ j i)
    (fun p q s hp hq hs => ⟨⟨p, hp⟩, by rw [(index_out ch _).1]; rfl, by rw [(index_out ch _).2.1]; omega,
      by rw [(index_out ch _).2.2]; omega⟩) fun k u r e => ?_
  have hn : ∀ t : Fin (cfgA ch).N, ((cfgA ch).win 3).flush t = true → t.val ≠ 0 := fun t ht h0 => by
    have h := (sched0_A ch t ((first_point t).mpr h0)).2.2.2.2.1
    exact absurd (ht.symm.trans h) (by decide)
  have q0 : ¬P0_0 ch ⟨k.val + 1, hl k⟩ := fun h => absurd ((first_point _).mp h) (Nat.succ_ne_zero k.val)
  refine ((dats ch m ρ 0 c).arrAt_emb_eq_flushed 3 (fun t t' ht ht' hne => ((cfgA ch).win 3).disjoint_blk fun h => hne (Fin.ext ?_))
    ⟨k.val + 1, hl k⟩ (sched0_B ch _ q0).2.2.2.1 (ix3 u r e)).trans ?_
  · have h' : at3 ch t 0 = at3 ch t' 0 := congrFun (f := at3 ch t) (g := at3 ch t') h 0
    have e1 := (index_out ch t).1; have e2 := (index_out ch t').1
    have n1 := hn t ht; have n2 := hn t' ht'
    have h'' : t.val - 1 = t'.val - 1 := e1.symm.trans (h'.trans e2)
    omega
  refine (congrFun (after0_3 ch m ρ c ⟨k.val + 1, hl k⟩) (ix3 u r e)).trans ?_
  rw [(index_out ch _).1, (index_out ch _).2.1, (index_out ch _).2.2]
  simp only [Nat.zero_mul, Nat.zero_add, Nat.add_sub_cancel]
  exact left_out ch m ρ c ⟨k.val + 1, hl k⟩ (Nat.succ_ne_zero k.val) u r e

end arrays

end Cert.PairDownProof

end
-- ==== Proof.PairDownClaims.lean ====
/-
  The claims about the sum of the gradients of `w_down` over a chip's two cores: the frames and the value.
-/
module

public import proofs.«01_k».proof.Defs
public import proofs.«01_k».proof.Proof.PairDownResult
public import proofs.«01_k».proof.Proof.Gen.PairDown.Flash
public import proofs.«01_k».proof.Proof.Gen.Pre_placed
public import proofs.«01_k».proof.Proof.Gen.PairDownReferenceIdeal.Run
public import proofs.«01_k».proof.Proof.Gen.PairDownReferenceIdeal.Read
public import Idealize.ShloMosaic.Adequacy
public import Idealize.ShloMosaic.Init

@[expose] public section

noncomputable section

namespace Cert.PairDownProof

open Idealize.ShloMosaic Idealize.SL.Sem Cert.Cells Cert.Adam Cert.Pair

/-! ## The place -/

/-- The two words of the table of core `ch`. -/
theorem pin_words : ∀ ch : Fin 8, Cert.PairDownIdeal.Gen.pinT_0 ch (ix1 0) = BitVec.ofNat 32 (ch.val / 2)
    ∧ Cert.PairDownIdeal.Gen.pinT_0 ch (ix1 1) = BitVec.ofNat 32 (ch.val % 2) := by decide
theorem pin_words_p : ∀ ch : Fin 8, Cert.PairDown.Gen.pinT_0 ch (ix1 0) = BitVec.ofNat 32 (ch.val / 2)
    ∧ Cert.PairDown.Gen.pinT_0 ch (ix1 1) = BitVec.ofNat 32 (ch.val % 2) := by decide

/-- The precondition says that the table is some core's. -/
theorem pinned (m : (ℓ : Loc Cert.PairDownIdeal.nD Cert.PairDownIdeal.τ Cert.PairDownIdeal.sig) → Buf (Elt Ideal) ℓ)
    (h : Cert.Pre_PairDownIdeal m) : ∃ ch, Cert.PairDownIdeal.Gen.Pinned ch m := by
  obtain ⟨ch, e0, e1⟩ := place_number (place_words (h 0))
  refine ⟨ch, fun c => ?_⟩
  obtain rfl : c = 0 := Subsingleton.elim _ _
  exact table_ext (e0.trans (pin_words ch).1.symm) (e1.trans (pin_words ch).2.symm)
theorem pinned_p (m : (ℓ : Loc Cert.PairDown.nD Cert.PairDown.τ Cert.PairDown.sig) → Buf (Elt Bits) ℓ)
    (h : Cert.Pre_PairDown m) : ∃ ch, Cert.PairDown.Gen.Pinned ch m := by
  obtain ⟨ch, e0, e1⟩ := place_number (place_words (h 0))
  refine ⟨ch, fun c => ?_⟩
  obtain rfl : c = 0 := Subsingleton.elim _ _
  exact table_ext (e0.trans (pin_words_p ch).1.symm) (e1.trans (pin_words_p ch).2.symm)

/-! ## The frames -/

/-- The kernel leaves its arguments as they were and every counter at zero. -/
theorem frame_p : Cert.quiescent_PairDown := fun m ρ h => (pinned_p m h).elim fun ch hp => Cert.PairDown.Gen.frame ch m ρ hp
theorem frame_pi : Cert.quiescent_PairDownIdeal := fun m ρ h => (pinned m h).elim fun ch hp => Cert.PairDownIdeal.Gen.frame ch m ρ hp

/-- So does the reference, which has no counter. -/
theorem frame_ri : Cert.quiescent_PairDownReferenceIdeal := fun m ρ _ =>
  (θ_run Cert.PairDownReferenceIdeal.defs _ _).mono (fun r h => ⟨fun c => (h c).2.2, sem_eq_zero_of_no_sems (by decide) r.2⟩)
    (Cert.PairDownReferenceIdeal.Value.run (F := Ideal) m ρ)
theorem frame_ri_placed : Cert.quiescent_PairDownReferenceIdeal_pre_placed := fun m ρ _ => frame_ri m ρ trivial

/-- The idealized kernel is the kernel's own text. -/
theorem preserves : Cert.preserves_PairDown_PairDownIdeal := trivial

/-! ## The reference -/

section reference
open Cert.PairDownReferenceIdeal Cert.PairDownReferenceIdeal.Gen Cert.PairDownReferenceIdeal.Read

variable {k : IVec ⟨1, ![2]⟩ 32} {n core : ℕ} (hn : n < 4) (hcore : core < 2) (k0 : k (ix1 0) = BitVec.ofNat 32 n)
  (k1 : k (ix1 1) = BitVec.ofNat 32 core) (x : FVec Ideal ⟨3, ![4, 704, 1024]⟩ .f32) (y : FVec Ideal ⟨3, ![4, 352, 1024]⟩ .f32)

include hcore k1 in
/-- The sums for the four chips. -/
theorem ref_sums : Has3 (φ := .f32) (val_main_v6 (F := Ideal) k x y) (both (core * 352) (entry3 x) (entry3 y)) := fun p r c =>
  congrArg₂ (fun u v : EReal => u + v)
    (has_half (A := 352) (f := entry3 x) bcast_S_S4x352x1024 hcore (fun i => (word k 1 _ _ i).trans k1)
      (has_rows (has_entry3 x) 0 slices_S4x704x1024_S4x352x1024_0_0_0)
      (has_rows (has_entry3 x) 352 slices_S4x704x1024_S4x352x1024_0_352_0) p r c)
    (has_entry3 y p r c)

include hn hcore k0 k1 in
/-- That for the core's own chip, -/
theorem ref_own : Has2 (φ := .f32) (val_main_v22 (F := Ideal) k x y) (both (core * 352) (entry3 x) (entry3 y) n) :=
  has_at (ref_sums hcore k1 x y) bcast_S_S352x1024 hn (fun i => (word k 0 _ _ i).trans k0) _ _ _ _ _

include hn hcore k0 k1 in
/-- and those for the three others. -/
theorem ref_out : Has3 (φ := .bf16) (val_main_v78 (F := Ideal) k x y)
    (fun s => both (core * 352) (entry3 x) (entry3 y) (n ^^^ (s + 1))) := by
  have at' : ∀ s : Fin 4, n ^^^ s.val < 4 := fun s => (other_chip ⟨n, hn⟩ s).2
  have h1 : Has2 (φ := .f32) (val_main_v39 (F := Ideal) k x y) _ :=
    has_at (ref_sums hcore k1 x y) bcast_S_S352x1024 (at' 1) (chosen k0 1 hn _ _) _ _ _ _ _
  have h2 : Has2 (φ := .f32) (val_main_v56 (F := Ideal) k x y) _ :=
    has_at (ref_sums hcore k1 x y) bcast_S_S352x1024 (at' 2) (chosen k0 2 hn _ _) _ _ _ _ _
  have h3 : Has2 (φ := .f32) (val_main_v73 (F := Ideal) k x y) _ :=
    has_at (ref_sums hcore k1 x y) bcast_S_S352x1024 (at' 3) (chosen k0 3 hn _ _) _ _ _ _ _
  have h : Has3 (φ := .f32) (val_main_v77 (F := Ideal) k x y) (fun s => both (core * 352) (entry3 x) (entry3 y) (n ^^^ (s + 1))) :=
    has_stack (has_lift h1 (by decide) (by decide) _) (has_lift h2 (by decide) (by decide) _) (has_lift h3 (by decide) (by decide) _) _
  exact h

end reference

/-! ## The value -/

section kernel
open Idealize.ShloMosaic.TcCoe Cert.PairDownIdeal Cert.PairDownIdeal.Gen

/-- What the kernel's run leaves. -/
theorem run (ch : Fin 8) (m : (ℓ : Loc nD τ sig) → Buf (Elt Ideal) ℓ) (ρ : Dev nD → PrngReg) (hp : Pinned ch m) :
    θ_run (defs (F := Ideal)) (onTc (τ := τ) (main (F := Ideal))) ⟨m, fun _ => 0, ρ⟩ fun r => ∀ c : Dev nD,
      r.2.mem ((c.tc : Thread nD τ).loc main_v0_0) = (dats ch m ρ 0 c).arrAt 2 (cfgA ch).N
      ∧ r.2.mem ((c.tc : Thread nD τ).loc main_v0_1) = (dats ch m ρ 0 c).arrAt 3 (cfgA ch).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h.1 c).1 2, (h.1 c).1 3, h.2 c⟩) (θ_run_and (run_main ch m ρ hp) (unchanged ch m ρ hp))
end kernel

/-- Kernel and reference leave the same sums. -/
theorem algebraic : Cert.algebraic_PairDownIdeal_PairDownReferenceIdeal := by
  intro m ρ m' ρ' hpre hag
  obtain ⟨ch, hp⟩ := pinned m hpre
  refine ⟨fun c => (Cert.PairDownIdeal.Gen.dats ch m ρ 0 c).arrAt 2 (Cert.PairDownIdeal.Gen.cfgA ch).N,
    fun c => (Cert.PairDownIdeal.Gen.dats ch m ρ 0 c).arrAt 3 (Cert.PairDownIdeal.Gen.cfgA ch).N, run ch m ρ hp, ?_⟩
  refine (θ_run Cert.PairDownReferenceIdeal.defs _ _).mono (fun r h c => ?_) (Cert.PairDownReferenceIdeal.Value.run (F := Ideal) m' ρ')
  obtain ⟨a0, a1, a2⟩ := hag c
  obtain ⟨h0, h1, hr⟩ := h c
  have e0 := h0.trans (Cert.PairDownReferenceIdeal.Read.val_main_v22_eq _ _ _)
  have e1 := h1.trans (Cert.PairDownReferenceIdeal.Read.val_main_v78_eq m' c)
  rw [a0, a1, a2, hp c] at e0 e1
  have hn : ch.val / 2 < 4 := by omega
  have hc : ch.val % 2 < 2 := by omega
  exact ⟨e0.trans (Cert.Chip.ext (ref_own hn hc (pin_words ch).1 (pin_words ch).2 _ _) (array2 ch m ρ c)),
    e1.trans (ext (ref_out hn hc (pin_words ch).1 (pin_words ch).2 _ _) (array3 ch m ρ c)), hr⟩

end Cert.PairDownProof

end
-- ==== Proof.PairGateUpResult.lean ====
/-
  The sum of the gradients of `w_gate_up` over a chip's two cores: what the kernel leaves. It takes the rows in two
  tiles and runs over the four chips for each, its own first: that sum goes into the first result, the three others one after another
  into the second.
-/
module

public import proofs.«01_k».proof.Proof.PairMath
public import proofs.«01_k».proof.Proof.Gen.PairGateUpIdeal.Flash

@[expose] public section

noncomputable section

namespace Cert.PairGateUpProof

open Idealize.ShloMosaic Idealize.ShloMosaic.TcCoe Idealize.SL.Sem Cert.Cells Cert.Adam Cert.Pair
open Cert.PairGateUpIdeal Cert.PairGateUpIdeal.Gen

/-! ## One point -/

section payloads
variable {x0 x1 : Vec Ideal S1x256x1408 .f32} {f g : ℕ → ℕ → EReal}
theorem has_pay1 (hx : Has3 (φ := .f32) x0 fun _ => f) (hy : Has3 (φ := .f32) x1 fun _ => g) :
    Has2 (φ := .f32) (k0_pay1 x0 x1) (fun r e => f r e + g r e) := has_sum hx hy _
theorem has_pay2 (hx : Has3 (φ := .f32) x0 fun _ => f) (hy : Has3 (φ := .f32) x1 fun _ => g) :
    Has3 (φ := .bf16) (k0_pay2 x0 x1) (fun _ r e => f r e + g r e) := has_narrow (has_pay1 hx hy) _ _
end payloads

section point
variable (c : Dev nD) (i : grid0.Coords)
  {arg3 : Memref sig .tc .vmem S1x256x1408 .f32} (harg3 : arg3.IsWhole) {arg4 : Memref sig .tc .vmem S1x256x1408 .f32} (harg4 : arg4.IsWhole)
  {arg5 : Memref sig .tc .vmem S256x1408 .f32} (harg5 : arg5.IsWhole) {arg6 : Memref sig .tc .vmem S1x256x1408 .bf16} (harg6 : arg6.IsWhole)
  {T0 : S2.Idx → BitVec 32} {x0 x1 : Vec Ideal S1x256x1408 .f32} {f g : ℕ → ℕ → EReal}

/-- The first point stores the sum of its two blocks, -/
theorem first_out (h1 : k0_cond1 i = 1#1) (h2 : ¬(k0_cond2 i = 1#1)) (hx : Has3 (φ := .f32) x0 fun _ => f) (hy : Has3 (φ := .f32) x1 fun _ => g) :
    Has2 (φ := .f32) (out0_A_2 c i arg3 harg3 arg4 harg4 arg5 harg5 arg6 harg6 T0 x0 x1 h1 h2) (fun r e => f r e + g r e) := by
  unfold out0_A_2 kernelRun0_A; dsimp only
  exact stored_wide _ (has_pay1 (load_held _ hx (by decide)) (load_held _ hy (by decide)))

/-- and so do the others, narrowed. -/
theorem other_out (h1 : ¬(k0_cond1 i = 1#1)) (h2 : k0_cond2 i = 1#1) (hx : Has3 (φ := .f32) x0 fun _ => f) (hy : Has3 (φ := .f32) x1 fun _ => g) :
    Has3 (φ := .bf16) (out0_B_3 c i arg3 harg3 arg4 harg4 arg5 harg5 arg6 harg6 T0 x0 x1 h1 h2) (fun _ r e => f r e + g r e) := by
  unfold out0_B_3 kernelRun0_B; dsimp only
  exact stored_one _ (has_pay2 (load_held _ hx (by decide)) (load_held _ hy (by decide)))

end point

/-! ## The arrays -/

/-- Which points are the first of a tile, and which blocks each window holds. -/
theorem first_point : ∀ t : Fin grid0.N, k0_cond1 (grid0.coords t) = 1#1 ↔ t.val % 4 = 0 := by decide +kernel
abbrev at0 (ch : Fin 8) (t : Fin (cfgA ch).N) : Fin 3 → ℕ := ((cfgA ch).win 0).index t
abbrev at1 (ch : Fin 8) (t : Fin (cfgA ch).N) : Fin 3 → ℕ := ((cfgA ch).win 1).index t
abbrev at2 (ch : Fin 8) (t : Fin (cfgA ch).N) : Fin 2 → ℕ := ((cfgA ch).win 2).index t
abbrev at3 (ch : Fin 8) (t : Fin (cfgA ch).N) : Fin 3 → ℕ := ((cfgA ch).win 3).index t
theorem index_grad : ∀ (ch : Fin 8) (t : Fin (cfgA ch).N),
    at0 ch t 0 = ch.val / 2 ^^^ (t.val % 4) ∧ at0 ch t 1 = ch.val % 2 * 2 + t.val / 4 ∧ at0 ch t 2 = 0 := by decide +kernel
theorem index_sib : ∀ (ch : Fin 8) (t : Fin (cfgA ch).N),
    at1 ch t 0 = ch.val / 2 ^^^ (t.val % 4) ∧ at1 ch t 1 = t.val / 4 ∧ at1 ch t 2 = 0 := by decide +kernel
theorem index_own : ∀ (ch : Fin 8) (t : Fin (cfgA ch).N), at2 ch t 0 = t.val / 4 ∧ at2 ch t 1 = 0 := by decide +kernel
theorem index_out : ∀ (ch : Fin 8) (t : Fin (cfgA ch).N), at3 ch t 0 = t.val % 4 - 1 ∧ at3 ch t 1 = t.val / 4 ∧ at3 ch t 2 = 0 := by
  decide +kernel
theorem flush_own : ∀ (ch : Fin 8) (t : Fin (cfgA ch).N), ((cfgA ch).win 2).flush t = true ↔ t.val % 4 = 3 := by decide +kernel

section arrays
variable (ch : Fin 8) (m : (ℓ : Loc nD τ sig) → Buf (Elt Ideal) ℓ) (ρ : Dev nD → PrngReg) (c : Dev nD)

abbrev grad : ℕ → ℕ → ℕ → EReal := entry3 (φ := .f32) (a := 4) (b := 1024) (d := 1408) (m ((c : Thread nD τ).loc main_arg1))
abbrev sib : ℕ → ℕ → ℕ → EReal := entry3 (φ := .f32) (a := 4) (b := 512) (d := 1408) (m ((c : Thread nD τ).loc main_arg2))
/-- The sum for each chip. -/
abbrev sums : ℕ → ℕ → ℕ → EReal := both (ch.val % 2 * 512) (grad m c) (sib m c)

theorem blk0 (t : Fin (cfgA ch).N) : Has3 (φ := .f32) (iblk ch m ρ c 0 t : Vec Ideal S1x256x1408 .f32)
    (fun _ r e => grad m c (ch.val / 2 ^^^ (t.val % 4)) ((ch.val % 2 * 2 + t.val / 4) * 256 + r) (0 * 1408 + e)) :=
  has_block1 (has_entry3 (φ := .f32) (m ((c : Thread nD τ).loc main_arg1))) (index_grad ch t).1 (index_grad ch t).2.1 (index_grad ch t).2.2
    fun j k => ((cfgA ch).win 0).rect_emb_val t j k
theorem blk1 (t : Fin (cfgA ch).N) : Has3 (φ := .f32) (iblk ch m ρ c 1 t : Vec Ideal S1x256x1408 .f32)
    (fun _ r e => sib m c (ch.val / 2 ^^^ (t.val % 4)) (t.val / 4 * 256 + r) (0 * 1408 + e)) :=
  has_block1 (has_entry3 (φ := .f32) (m ((c : Thread nD τ).loc main_arg2))) (index_sib ch t).1 (index_sib ch t).2.1 (index_sib ch t).2.2
    fun j k => ((cfgA ch).win 1).rect_emb_val t j k

/-- The two blocks of a point together are a block of the sums. -/
theorem tile (p t r e : ℕ) : grad m c p ((ch.val % 2 * 2 + t / 4) * 256 + r) (0 * 1408 + e) + sib m c p (t / 4 * 256 + r) (0 * 1408 + e)
    = sums ch m c p (t / 4 * 256 + r) e := by
  unfold sums both
  rw [Nat.zero_mul, Nat.zero_add, show (ch.val % 2 * 2 + t / 4) * 256 + r = ch.val % 2 * 512 + (t / 4 * 256 + r) by omega]

/-- What a step holds at the first point of a tile in the first result's block, -/
theorem step_own (t : Fin (cfgA ch).N) (q0 : P0_0 ch t) (prev : (S256x1408.Idx → Elt Ideal .f32) × (S1x256x1408.Idx → Elt Ideal .bf16)) :
    ∃ h1 h2, (step0 ch m ρ c t prev).1 = out0_A_2 c (crd ch t) (ms0_0 ch t) (hs0_0 ch t) (ms0_1 ch t) (hs0_1 ch t) (ms0_2 ch t) (hs0_2 ch t)
      (ms0_3 ch t) (hs0_3 ch t) (pinT_0 ch) (iblk ch m ρ c 0 t) (iblk ch m ρ c 1 t) h1 h2 := by
  obtain ⟨h1, h2, -⟩ := hypsR0_A ch t q0
  refine ⟨h1, h2, ?_⟩
  unfold step0
  rw [dif_pos q0]

/-- and at another in the second's. -/
theorem step_out (t : Fin (cfgA ch).N) (q0 : ¬P0_0 ch t) (prev : (S256x1408.Idx → Elt Ideal .f32) × (S1x256x1408.Idx → Elt Ideal .bf16)) :
    ∃ h1 h2, (step0 ch m ρ c t prev).2 = out0_B_3 c (crd ch t) (ms0_0 ch t) (hs0_0 ch t) (ms0_1 ch t) (hs0_1 ch t) (ms0_2 ch t) (hs0_2 ch t)
      (ms0_3 ch t) (hs0_3 ch t) (pinT_0 ch) (iblk ch m ρ c 0 t) (iblk ch m ρ c 1 t) h1 h2 := by
  obtain ⟨h1, h2, -⟩ := hypsR0_B ch t q0
  refine ⟨h1, h2, ?_⟩
  unfold step0
  rw [dif_neg q0]

/-- That is a block of the sum for the core's own chip, -/
theorem point_own (t : Fin (cfgA ch).N) (ht : t.val % 4 = 0) (h1 h2) :
    Has2 (φ := .f32) (out0_A_2 c (crd ch t) (ms0_0 ch t) (hs0_0 ch t) (ms0_1 ch t) (hs0_1 ch t) (ms0_2 ch t) (hs0_2 ch t) (ms0_3 ch t) (hs0_3 ch t)
      (pinT_0 ch) (iblk ch m ρ c 0 t) (iblk ch m ρ c 1 t) h1 h2) (fun r e => sums ch m c (ch.val / 2) (t.val / 4 * 256 + r) e) := by
  have h := first_out (x0 := iblk ch m ρ c 0 t) (x1 := iblk ch m ρ c 1 t) (T0 := pinT_0 ch) c (crd ch t) (hs0_0 ch t) (hs0_1 ch t) (hs0_2 ch t)
    (hs0_3 ch t) h1 h2 (blk0 ch m ρ c t) (blk1 ch m ρ c t)
  intro r e
  refine (h r e).trans ((tile ch m c _ t.val r e).trans ?_)
  rw [ht, Nat.xor_zero]

/-- and one of that for the chip the point is about. -/
theorem point_out (t : Fin (cfgA ch).N) (h1 h2) :
    Has3 (φ := .bf16) (out0_B_3 c (crd ch t) (ms0_0 ch t) (hs0_0 ch t) (ms0_1 ch t) (hs0_1 ch t) (ms0_2 ch t) (hs0_2 ch t) (ms0_3 ch t) (hs0_3 ch t)
      (pinT_0 ch) (iblk ch m ρ c 0 t) (iblk ch m ρ c 1 t) h1 h2)
      (fun _ r e => sums ch m c (ch.val / 2 ^^^ (t.val % 4)) (t.val / 4 * 256 + r) e) := by
  have h := other_out (x0 := iblk ch m ρ c 0 t) (x1 := iblk ch m ρ c 1 t) (T0 := pinT_0 ch) c (crd ch t) (hs0_0 ch t) (hs0_1 ch t) (hs0_2 ch t)
    (hs0_3 ch t) h1 h2 (blk0 ch m ρ c t) (blk1 ch m ρ c t)
  exact fun k r e => (h k r e).trans (tile ch m c _ t.val r e)

/-- So the blocks hold after the first point of a tile -/
theorem left_own (t : Fin (cfgA ch).N) (ht : t.val % 4 = 0) :
    Has2 (φ := .f32) (traj0 ch m ρ c t.val t.isLt).1 (fun r e => sums ch m c (ch.val / 2) (t.val / 4 * 256 + r) e) := by
  obtain ⟨h1, h2, e⟩ := step_own ch m ρ c t ((first_point t).mpr ht) (prev0 ch m ρ c t)
  rw [traj0_eq, e]
  exact point_own ch m ρ c t ht h1 h2

/-- and after each of the others. -/
theorem left_out (t : Fin (cfgA ch).N) (ht : t.val % 4 ≠ 0) :
    Has3 (φ := .bf16) (traj0 ch m ρ c t.val t.isLt).2 (fun _ r e => sums ch m c (ch.val / 2 ^^^ (t.val % 4)) (t.val / 4 * 256 + r) e) := by
  obtain ⟨h1, h2, e⟩ := step_out ch m ρ c t (fun h => ht ((first_point t).mp h)) (prev0 ch m ρ c t)
  rw [traj0_eq, e]
  exact point_out ch m ρ c t h1 h2

/-- The first's block stays as it was at the others. -/
theorem kept_own (n : ℕ) (hn : n < (cfgA ch).N) :
    Has2 (φ := .f32) (traj0 ch m ρ c n hn).1 (fun r e => sums ch m c (ch.val / 2) (n / 4 * 256 + r) e) :=
  kept (x := fun n hn => (traj0 ch m ρ c n hn).1) (fun n hn h => left_own ch m ρ c ⟨n, hn⟩ h) (fun n hn h => by
    have q0 : ¬P0_0 ch ⟨n + 1, hn⟩ := fun h' => h ((first_point _).mp h')
    show (step0 ch m ρ c ⟨n + 1, hn⟩ (traj0 ch m ρ c n (Nat.lt_of_succ_lt hn))).1 = _
    rw [step0_B ch m ρ c _ _ q0]
    simp only [(sched0_B ch ⟨n + 1, hn⟩ q0).2.1, Bool.false_eq_true, ↓reduceIte]) n hn

theorem points : (cfgA ch).N = 8 := rfl

/-- The arrays at the end: the sum for the core's own chip, and those for the three others. -/
theorem array2 : Has2 (φ := .f32) ((dats ch m ρ 0 c).arrAt 2 (cfgA ch).N : Vec Ideal S512x1408 .f32) (sums ch m c (ch.val / 2)) := by
  have hl : ∀ i : Fin 2, 4 * i.val + 3 < (cfgA ch).N := fun i => by rw [points]; omega
  have d4 : ∀ i : Fin 2, (4 * i.val + 3) / 4 = i.val := fun i => by omega
  refine has_of_blocks (N := 2) (a := 256) (b := 1408) (by decide) (by decide) (fun i => at2 ch ⟨4 * i.val + 3, hl i⟩)
    (fun i => (((cfgA ch).win 2).blk ⟨4 * i.val + 3, hl i⟩).view.emb) (fun _ j k => ((cfgA ch).win 2).rect_emb_val _ j k)
    (fun p q hp hq => ⟨⟨p, by omega⟩, by rw [(index_own ch _).1]; exact d4 ⟨p, by omega⟩, by rw [(index_own ch _).2]; omega⟩) fun i r e => ?_
  refine ((dats ch m ρ 0 c).arrAt_emb_eq_flushed 2 (fun t t' ht ht' hne => ((cfgA ch).win 2).disjoint_blk fun h => hne (Fin.ext ?_))
    ⟨4 * i.val + 3, hl i⟩ ((flush_own ch _).mpr (by show (4 * i.val + 3) % 4 = 3; omega)) (ix2 r e)).trans ?_
  · have h' : at2 ch t 0 = at2 ch t' 0 := congrFun (f := at2 ch t) (g := at2 ch t') h 0
    have h'' : t.val / 4 = t'.val / 4 := (index_own ch t).1.symm.trans (h'.trans (index_own ch t').1)
    have n1 := (flush_own ch t).mp ht; have n2 := (flush_own ch t').mp ht'
    omega
  refine (congrFun (after0_2 ch m ρ c ⟨4 * i.val + 3, hl i⟩) (ix2 r e)).trans ?_
  rw [(index_own ch _).1, (index_own ch _).2]
  simp only [Nat.zero_mul, Nat.zero_add]
  exact kept_own ch m ρ c _ (hl i) r e

theorem array3 : Has3 (φ := .bf16) ((dats ch m ρ 0 c).arrAt 3 (cfgA ch).N : Vec Ideal S3x512x1408 .bf16)
    (fun k => sums ch m c (ch.val / 2 ^^^ (k + 1))) := by
  have hl : ∀ k : Fin 3 × Fin 2, 4 * k.2.val + (k.1.val + 1) < (cfgA ch).N := fun k => by rw [points]; omega
  have m4 : ∀ k : Fin 3 × Fin 2, (4 * k.2.val + (k.1.val + 1)) % 4 = k.1.val + 1 := fun k => by omega
  have d4 : ∀ k : Fin 3 × Fin 2, (4 * k.2.val + (k.1.val + 1)) / 4 = k.2.val := fun k => by omega
  refine has_of_blocks1 (ι := Fin 3 × Fin 2) (a := 256) (b := 1408) (by decide) (by decide) (fun k => at3 ch ⟨_, hl k⟩)
    (fun k => (((cfgA ch).win 3).blk ⟨_, hl k⟩).view.emb) (fun k j i => ((cfgA ch).win 3).rect_emb_val _ j i)
    (fun p q s hp hq hs => ⟨(⟨p, hp⟩, ⟨q, by omega⟩), by rw [(index_out ch _).1]; show (4 * q + (p + 1)) % 4 - 1 = p; omega,
      by rw [(index_out ch _).2.1]; show (4 * q + (p + 1)) / 4 = q; omega,
      by rw [(index_out ch _).2.2]; omega⟩) fun k u r e => ?_
  have hn : ∀ t : Fin (cfgA ch).N, ((cfgA ch).win 3).flush t = true → t.val % 4 ≠ 0 := fun t ht h0 => by
    have h := (sched0_A ch t ((first_point t).mpr h0)).2.2.2.2.1
    exact absurd (ht.symm.trans h) (by decide)
  have hk : (4 * k.2.val + (k.1.val + 1)) % 4 ≠ 0 := by rw [m4]; exact Nat.succ_ne_zero _
  have q0 : ¬P0_0 ch ⟨_, hl k⟩ := fun h => hk ((first_point _).mp h)
  refine ((dats ch m ρ 0 c).arrAt_emb_eq_flushed 3 (fun t t' ht ht' hne => ((cfgA ch).win 3).disjoint_blk fun h => hne (Fin.ext ?_))
    ⟨_, hl k⟩ (sched0_B ch _ q0).2.2.2.1 (ix3 u r e)).trans ?_
  · have h' : at3 ch t = at3 ch t' := h
    have e1 : t.val % 4 - 1 = t'.val % 4 - 1 := (index_out ch t).1.symm.trans ((congrFun h' 0).trans (index_out ch t').1)
    have e2 : t.val / 4 = t'.val / 4 := (index_out ch t).2.1.symm.trans ((congrFun h' 1).trans (index_out ch t').2.1)
    have n1 := hn t ht; have n2 := hn t' ht'
    omega
  refine (congrFun (after0_3 ch m ρ c ⟨_, hl k⟩) (ix3 u r e)).trans ?_
  refine (left_out ch m ρ c ⟨_, hl k⟩ hk u r e).trans ?_
  rw [(index_out ch _).1, (index_out ch _).2.1, (index_out ch _).2.2]
  simp only [m4, d4, Nat.zero_mul, Nat.zero_add, Nat.add_sub_cancel]

end arrays

end Cert.PairGateUpProof

end
-- ==== Proof.PairGateUpClaims.lean ====
/-
  The claims about the sum of the gradients of `w_gate_up` over a chip's two cores: the frames and the value.
-/
module

public import proofs.«01_k».proof.Defs
public import proofs.«01_k».proof.Proof.PairGateUpResult
public import proofs.«01_k».proof.Proof.Gen.PairGateUp.Flash
public import proofs.«01_k».proof.Proof.Gen.Pre_placed_gate_up
public import proofs.«01_k».proof.Proof.Gen.PairGateUpReferenceIdeal.Run
public import proofs.«01_k».proof.Proof.Gen.PairGateUpReferenceIdeal.Read
public import Idealize.ShloMosaic.Adequacy
public import Idealize.ShloMosaic.Init

@[expose] public section

noncomputable section

namespace Cert.PairGateUpProof

open Idealize.ShloMosaic Idealize.SL.Sem Cert.Cells Cert.Adam Cert.Pair

/-! ## The place -/

/-- The two words of the table of core `ch`. -/
theorem pin_words : ∀ ch : Fin 8, Cert.PairGateUpIdeal.Gen.pinT_0 ch (ix1 0) = BitVec.ofNat 32 (ch.val / 2)
    ∧ Cert.PairGateUpIdeal.Gen.pinT_0 ch (ix1 1) = BitVec.ofNat 32 (ch.val % 2) := by decide
theorem pin_words_p : ∀ ch : Fin 8, Cert.PairGateUp.Gen.pinT_0 ch (ix1 0) = BitVec.ofNat 32 (ch.val / 2)
    ∧ Cert.PairGateUp.Gen.pinT_0 ch (ix1 1) = BitVec.ofNat 32 (ch.val % 2) := by decide

/-- The precondition says that the table is some core's. -/
theorem pinned (m : (ℓ : Loc Cert.PairGateUpIdeal.nD Cert.PairGateUpIdeal.τ Cert.PairGateUpIdeal.sig) → Buf (Elt Ideal) ℓ)
    (h : Cert.Pre_PairGateUpIdeal m) : ∃ ch, Cert.PairGateUpIdeal.Gen.Pinned ch m := by
  obtain ⟨ch, e0, e1⟩ := place_number (place_words (h 0))
  refine ⟨ch, fun c => ?_⟩
  obtain rfl : c = 0 := Subsingleton.elim _ _
  exact table_ext (e0.trans (pin_words ch).1.symm) (e1.trans (pin_words ch).2.symm)
theorem pinned_p (m : (ℓ : Loc Cert.PairGateUp.nD Cert.PairGateUp.τ Cert.PairGateUp.sig) → Buf (Elt Bits) ℓ)
    (h : Cert.Pre_PairGateUp m) : ∃ ch, Cert.PairGateUp.Gen.Pinned ch m := by
  obtain ⟨ch, e0, e1⟩ := place_number (place_words (h 0))
  refine ⟨ch, fun c => ?_⟩
  obtain rfl : c = 0 := Subsingleton.elim _ _
  exact table_ext (e0.trans (pin_words_p ch).1.symm) (e1.trans (pin_words_p ch).2.symm)

/-! ## The frames -/

/-- The kernel leaves its arguments as they were and every counter at zero. -/
theorem frame_p : Cert.quiescent_PairGateUp := fun m ρ h => (pinned_p m h).elim fun ch hp => Cert.PairGateUp.Gen.frame ch m ρ hp
theorem frame_pi : Cert.quiescent_PairGateUpIdeal := fun m ρ h => (pinned m h).elim fun ch hp => Cert.PairGateUpIdeal.Gen.frame ch m ρ hp

/-- So does the reference, which has no counter. -/
theorem frame_ri : Cert.quiescent_PairGateUpReferenceIdeal := fun m ρ _ =>
  (θ_run Cert.PairGateUpReferenceIdeal.defs _ _).mono (fun r h => ⟨fun c => (h c).2.2, sem_eq_zero_of_no_sems (by decide) r.2⟩)
    (Cert.PairGateUpReferenceIdeal.Value.run (F := Ideal) m ρ)
theorem frame_ri_placed : Cert.quiescent_PairGateUpReferenceIdeal_pre_placed_gate_up := fun m ρ _ => frame_ri m ρ trivial

/-- The idealized kernel is the kernel's own text. -/
theorem preserves : Cert.preserves_PairGateUp_PairGateUpIdeal := trivial

/-! ## The reference -/

section reference
open Cert.PairGateUpReferenceIdeal Cert.PairGateUpReferenceIdeal.Gen Cert.PairGateUpReferenceIdeal.Read

variable {k : IVec ⟨1, ![2]⟩ 32} {n core : ℕ} (hn : n < 4) (hcore : core < 2) (k0 : k (ix1 0) = BitVec.ofNat 32 n)
  (k1 : k (ix1 1) = BitVec.ofNat 32 core) (x : FVec Ideal ⟨3, ![4, 1024, 1408]⟩ .f32) (y : FVec Ideal ⟨3, ![4, 512, 1408]⟩ .f32)

include hcore k1 in
/-- The sums for the four chips. -/
theorem ref_sums : Has3 (φ := .f32) (val_main_v6 (F := Ideal) k x y) (both (core * 512) (entry3 x) (entry3 y)) := fun p r c =>
  congrArg₂ (fun u v : EReal => u + v)
    (has_half (A := 512) (f := entry3 x) bcast_S_S4x512x1408 hcore (fun i => (word k 1 _ _ i).trans k1)
      (has_rows (has_entry3 x) 0 slices_S4x1024x1408_S4x512x1408_0_0_0)
      (has_rows (has_entry3 x) 512 slices_S4x1024x1408_S4x512x1408_0_512_0) p r c)
    (has_entry3 y p r c)

include hn hcore k0 k1 in
/-- That for the core's own chip, -/
theorem ref_own : Has2 (φ := .f32) (val_main_v22 (F := Ideal) k x y) (both (core * 512) (entry3 x) (entry3 y) n) :=
  has_at (ref_sums hcore k1 x y) bcast_S_S512x1408 hn (fun i => (word k 0 _ _ i).trans k0) _ _ _ _ _

include hn hcore k0 k1 in
/-- and those for the three others. -/
theorem ref_out : Has3 (φ := .bf16) (val_main_v78 (F := Ideal) k x y)
    (fun s => both (core * 512) (entry3 x) (entry3 y) (n ^^^ (s + 1))) := by
  have at' : ∀ s : Fin 4, n ^^^ s.val < 4 := fun s => (other_chip ⟨n, hn⟩ s).2
  have h1 : Has2 (φ := .f32) (val_main_v39 (F := Ideal) k x y) _ :=
    has_at (ref_sums hcore k1 x y) bcast_S_S512x1408 (at' 1) (chosen k0 1 hn _ _) _ _ _ _ _
  have h2 : Has2 (φ := .f32) (val_main_v56 (F := Ideal) k x y) _ :=
    has_at (ref_sums hcore k1 x y) bcast_S_S512x1408 (at' 2) (chosen k0 2 hn _ _) _ _ _ _ _
  have h3 : Has2 (φ := .f32) (val_main_v73 (F := Ideal) k x y) _ :=
    has_at (ref_sums hcore k1 x y) bcast_S_S512x1408 (at' 3) (chosen k0 3 hn _ _) _ _ _ _ _
  have h : Has3 (φ := .f32) (val_main_v77 (F := Ideal) k x y) (fun s => both (core * 512) (entry3 x) (entry3 y) (n ^^^ (s + 1))) :=
    has_stack (has_lift h1 (by decide) (by decide) _) (has_lift h2 (by decide) (by decide) _) (has_lift h3 (by decide) (by decide) _) _
  exact h

end reference

/-! ## The value -/

section kernel
open Idealize.ShloMosaic.TcCoe Cert.PairGateUpIdeal Cert.PairGateUpIdeal.Gen

/-- What the kernel's run leaves. -/
theorem run (ch : Fin 8) (m : (ℓ : Loc nD τ sig) → Buf (Elt Ideal) ℓ) (ρ : Dev nD → PrngReg) (hp : Pinned ch m) :
    θ_run (defs (F := Ideal)) (onTc (τ := τ) (main (F := Ideal))) ⟨m, fun _ => 0, ρ⟩ fun r => ∀ c : Dev nD,
      r.2.mem ((c.tc : Thread nD τ).loc main_v0_0) = (dats ch m ρ 0 c).arrAt 2 (cfgA ch).N
      ∧ r.2.mem ((c.tc : Thread nD τ).loc main_v0_1) = (dats ch m ρ 0 c).arrAt 3 (cfgA ch).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h.1 c).1 2, (h.1 c).1 3, h.2 c⟩) (θ_run_and (run_main ch m ρ hp) (unchanged ch m ρ hp))
end kernel

/-- Kernel and reference leave the same sums. -/
theorem algebraic : Cert.algebraic_PairGateUpIdeal_PairGateUpReferenceIdeal := by
  intro m ρ m' ρ' hpre hag
  obtain ⟨ch, hp⟩ := pinned m hpre
  refine ⟨fun c => (Cert.PairGateUpIdeal.Gen.dats ch m ρ 0 c).arrAt 2 (Cert.PairGateUpIdeal.Gen.cfgA ch).N,
    fun c => (Cert.PairGateUpIdeal.Gen.dats ch m ρ 0 c).arrAt 3 (Cert.PairGateUpIdeal.Gen.cfgA ch).N, run ch m ρ hp, ?_⟩
  refine (θ_run Cert.PairGateUpReferenceIdeal.defs _ _).mono (fun r h c => ?_) (Cert.PairGateUpReferenceIdeal.Value.run (F := Ideal) m' ρ')
  obtain ⟨a0, a1, a2⟩ := hag c
  obtain ⟨h0, h1, hr⟩ := h c
  have e0 := h0.trans (Cert.PairGateUpReferenceIdeal.Read.val_main_v22_eq _ _ _)
  have e1 := h1.trans (Cert.PairGateUpReferenceIdeal.Read.val_main_v78_eq m' c)
  rw [a0, a1, a2, hp c] at e0 e1
  have hn : ch.val / 2 < 4 := by omega
  have hc : ch.val % 2 < 2 := by omega
  exact ⟨e0.trans (Cert.Chip.ext (ref_own hn hc (pin_words ch).1 (pin_words ch).2 _ _) (array2 ch m ρ c)),
    e1.trans (ext (ref_out hn hc (pin_words ch).1 (pin_words ch).2 _ _) (array3 ch m ρ c)), hr⟩

end Cert.PairGateUpProof

end
-- ==== Proof.PairInResult.lean ====
/-
  The sum of the gradients of `w_in` over a chip's two cores: what the kernel leaves. It takes the rows in two
  tiles and runs over the four chips for each, its own first: that sum goes into the first result, the three others one after another
  into the second.
-/
module

public import proofs.«01_k».proof.Proof.PairMath
public import proofs.«01_k».proof.Proof.Gen.PairInIdeal.Flash

@[expose] public section

noncomputable section

namespace Cert.PairInProof

open Idealize.ShloMosaic Idealize.ShloMosaic.TcCoe Idealize.SL.Sem Cert.Cells Cert.Adam Cert.Pair
open Cert.PairInIdeal Cert.PairInIdeal.Gen

/-! ## One point -/

section payloads
variable {x0 x1 : Vec Ideal S1x512x1024 .f32} {f g : ℕ → ℕ → EReal}
theorem has_pay1 (hx : Has3 (φ := .f32) x0 fun _ => f) (hy : Has3 (φ := .f32) x1 fun _ => g) :
    Has2 (φ := .f32) (k0_pay1 x0 x1) (fun r e => f r e + g r e) := has_sum hx hy _
theorem has_pay2 (hx : Has3 (φ := .f32) x0 fun _ => f) (hy : Has3 (φ := .f32) x1 fun _ => g) :
    Has3 (φ := .bf16) (k0_pay2 x0 x1) (fun _ r e => f r e + g r e) := has_narrow (has_pay1 hx hy) _ _
end payloads

section point
variable (c : Dev nD) (i : grid0.Coords)
  {arg3 : Memref sig .tc .vmem S1x512x1024 .f32} (harg3 : arg3.IsWhole) {arg4 : Memref sig .tc .vmem S1x512x1024 .f32} (harg4 : arg4.IsWhole)
  {arg5 : Memref sig .tc .vmem S512x1024 .f32} (harg5 : arg5.IsWhole) {arg6 : Memref sig .tc .vmem S1x512x1024 .bf16} (harg6 : arg6.IsWhole)
  {T0 : S2.Idx → BitVec 32} {x0 x1 : Vec Ideal S1x512x1024 .f32} {f g : ℕ → ℕ → EReal}

/-- The first point stores the sum of its two blocks, -/
theorem first_out (h1 : k0_cond1 i = 1#1) (h2 : ¬(k0_cond2 i = 1#1)) (hx : Has3 (φ := .f32) x0 fun _ => f) (hy : Has3 (φ := .f32) x1 fun _ => g) :
    Has2 (φ := .f32) (out0_A_2 c i arg3 harg3 arg4 harg4 arg5 harg5 arg6 harg6 T0 x0 x1 h1 h2) (fun r e => f r e + g r e) := by
  unfold out0_A_2 kernelRun0_A; dsimp only
  exact stored_wide _ (has_pay1 (load_held _ hx (by decide)) (load_held _ hy (by decide)))

/-- and so do the others, narrowed. -/
theorem other_out (h1 : ¬(k0_cond1 i = 1#1)) (h2 : k0_cond2 i = 1#1) (hx : Has3 (φ := .f32) x0 fun _ => f) (hy : Has3 (φ := .f32) x1 fun _ => g) :
    Has3 (φ := .bf16) (out0_B_3 c i arg3 harg3 arg4 harg4 arg5 harg5 arg6 harg6 T0 x0 x1 h1 h2) (fun _ r e => f r e + g r e) := by
  unfold out0_B_3 kernelRun0_B; dsimp only
  exact stored_one _ (has_pay2 (load_held _ hx (by decide)) (load_held _ hy (by decide)))

end point

/-! ## The arrays -/

/-- Which points are the first of a tile, and which blocks each window holds. -/
theorem first_point : ∀ t : Fin grid0.N, k0_cond1 (grid0.coords t) = 1#1 ↔ t.val % 4 = 0 := by decide +kernel
abbrev at0 (ch : Fin 8) (t : Fin (cfgA ch).N) : Fin 3 → ℕ := ((cfgA ch).win 0).index t
abbrev at1 (ch : Fin 8) (t : Fin (cfgA ch).N) : Fin 3 → ℕ := ((cfgA ch).win 1).index t
abbrev at2 (ch : Fin 8) (t : Fin (cfgA ch).N) : Fin 2 → ℕ := ((cfgA ch).win 2).index t
abbrev at3 (ch : Fin 8) (t : Fin (cfgA ch).N) : Fin 3 → ℕ := ((cfgA ch).win 3).index t
theorem index_grad : ∀ (ch : Fin 8) (t : Fin (cfgA ch).N),
    at0 ch t 0 = ch.val / 2 ^^^ (t.val % 4) ∧ at0 ch t 1 = t.val / 4 ∧ at0 ch t 2 = 0 := by decide +kernel
theorem index_sib : ∀ (ch : Fin 8) (t : Fin (cfgA ch).N),
    at1 ch t 0 = ch.val / 2 ^^^ (t.val % 4) ∧ at1 ch t 1 = t.val / 4 ∧ at1 ch t 2 = 0 := by decide +kernel
theorem index_own : ∀ (ch : Fin 8) (t : Fin (cfgA ch).N), at2 ch t 0 = t.val / 4 ∧ at2 ch t 1 = 0 := by decide +kernel
theorem index_out : ∀ (ch : Fin 8) (t : Fin (cfgA ch).N), at3 ch t 0 = t.val % 4 - 1 ∧ at3 ch t 1 = t.val / 4 ∧ at3 ch t 2 = 0 := by
  decide +kernel
theorem flush_own : ∀ (ch : Fin 8) (t : Fin (cfgA ch).N), ((cfgA ch).win 2).flush t = true ↔ t.val % 4 = 3 := by decide +kernel

section arrays
variable (ch : Fin 8) (m : (ℓ : Loc nD τ sig) → Buf (Elt Ideal) ℓ) (ρ : Dev nD → PrngReg) (c : Dev nD)

abbrev grad : ℕ → ℕ → ℕ → EReal := entry3 (φ := .f32) (a := 4) (b := 1024) (d := 1024) (m ((c : Thread nD τ).loc main_arg1))
abbrev sib : ℕ → ℕ → ℕ → EReal := entry3 (φ := .f32) (a := 4) (b := 1024) (d := 1024) (m ((c : Thread nD τ).loc main_arg2))
/-- The sum for each chip. -/
abbrev sums : ℕ → ℕ → ℕ → EReal := both 0 (grad m c) (sib m c)

theorem blk0 (t : Fin (cfgA ch).N) : Has3 (φ := .f32) (iblk ch m ρ c 0 t : Vec Ideal S1x512x1024 .f32)
    (fun _ r e => grad m c (ch.val / 2 ^^^ (t.val % 4)) (t.val / 4 * 512 + r) (0 * 1024 + e)) :=
  has_block1 (has_entry3 (φ := .f32) (m ((c : Thread nD τ).loc main_arg1))) (index_grad ch t).1 (index_grad ch t).2.1 (index_grad ch t).2.2
    fun j k => ((cfgA ch).win 0).rect_emb_val t j k
theorem blk1 (t : Fin (cfgA ch).N) : Has3 (φ := .f32) (iblk ch m ρ c 1 t : Vec Ideal S1x512x1024 .f32)
    (fun _ r e => sib m c (ch.val / 2 ^^^ (t.val % 4)) (t.val / 4 * 512 + r) (0 * 1024 + e)) :=
  has_block1 (has_entry3 (φ := .f32) (m ((c : Thread nD τ).loc main_arg2))) (index_sib ch t).1 (index_sib ch t).2.1 (index_sib ch t).2.2
    fun j k => ((cfgA ch).win 1).rect_emb_val t j k

/-- The two blocks of a point together are a block of the sums. -/
theorem tile (p t r e : ℕ) : grad m c p (t / 4 * 512 + r) (0 * 1024 + e) + sib m c p (t / 4 * 512 + r) (0 * 1024 + e)
    = sums m c p (t / 4 * 512 + r) e := by
  unfold sums both
  rw [Nat.zero_mul, Nat.zero_add, Nat.zero_add]

/-- What a step holds at the first point of a tile in the first result's block, -/
theorem step_own (t : Fin (cfgA ch).N) (q0 : P0_0 ch t) (prev : (S512x1024.Idx → Elt Ideal .f32) × (S1x512x1024.Idx → Elt Ideal .bf16)) :
    ∃ h1 h2, (step0 ch m ρ c t prev).1 = out0_A_2 c (crd ch t) (ms0_0 ch t) (hs0_0 ch t) (ms0_1 ch t) (hs0_1 ch t) (ms0_2 ch t) (hs0_2 ch t)
      (ms0_3 ch t) (hs0_3 ch t) (pinT_0 ch) (iblk ch m ρ c 0 t) (iblk ch m ρ c 1 t) h1 h2 := by
  obtain ⟨h1, h2, -⟩ := hypsR0_A ch t q0
  refine ⟨h1, h2, ?_⟩
  unfold step0
  rw [dif_pos q0]

/-- and at another in the second's. -/
theorem step_out (t : Fin (cfgA ch).N) (q0 : ¬P0_0 ch t) (prev : (S512x1024.Idx → Elt Ideal .f32) × (S1x512x1024.Idx → Elt Ideal .bf16)) :
    ∃ h1 h2, (step0 ch m ρ c t prev).2 = out0_B_3 c (crd ch t) (ms0_0 ch t) (hs0_0 ch t) (ms0_1 ch t) (hs0_1 ch t) (ms0_2 ch t) (hs0_2 ch t)
      (ms0_3 ch t) (hs0_3 ch t) (pinT_0 ch) (iblk ch m ρ c 0 t) (iblk ch m ρ c 1 t) h1 h2 := by
  obtain ⟨h1, h2, -⟩ := hypsR0_B ch t q0
  refine ⟨h1, h2, ?_⟩
  unfold step0
  rw [dif_neg q0]

/-- That is a block of the sum for the core's own chip, -/
theorem point_own (t : Fin (cfgA ch).N) (ht : t.val % 4 = 0) (h1 h2) :
    Has2 (φ := .f32) (out0_A_2 c (crd ch t) (ms0_0 ch t) (hs0_0 ch t) (ms0_1 ch t) (hs0_1 ch t) (ms0_2 ch t) (hs0_2 ch t) (ms0_3 ch t) (hs0_3 ch t)
      (pinT_0 ch) (iblk ch m ρ c 0 t) (iblk ch m ρ c 1 t) h1 h2) (fun r e => sums m c (ch.val / 2) (t.val / 4 * 512 + r) e) := by
  have h := first_out (x0 := iblk ch m ρ c 0 t) (x1 := iblk ch m ρ c 1 t) (T0 := pinT_0 ch) c (crd ch t) (hs0_0 ch t) (hs0_1 ch t) (hs0_2 ch t)
    (hs0_3 ch t) h1 h2 (blk0 ch m ρ c t) (blk1 ch m ρ c t)
  intro r e
  refine (h r e).trans ((tile m c _ t.val r e).trans ?_)
  rw [ht, Nat.xor_zero]

/-- and one of that for the chip the point is about. -/
theorem point_out (t : Fin (cfgA ch).N) (h1 h2) :
    Has3 (φ := .bf16) (out0_B_3 c (crd ch t) (ms0_0 ch t) (hs0_0 ch t) (ms0_1 ch t) (hs0_1 ch t) (ms0_2 ch t) (hs0_2 ch t) (ms0_3 ch t) (hs0_3 ch t)
      (pinT_0 ch) (iblk ch m ρ c 0 t) (iblk ch m ρ c 1 t) h1 h2)
      (fun _ r e => sums m c (ch.val / 2 ^^^ (t.val % 4)) (t.val / 4 * 512 + r) e) := by
  have h := other_out (x0 := iblk ch m ρ c 0 t) (x1 := iblk ch m ρ c 1 t) (T0 := pinT_0 ch) c (crd ch t) (hs0_0 ch t) (hs0_1 ch t) (hs0_2 ch t)
    (hs0_3 ch t) h1 h2 (blk0 ch m ρ c t) (blk1 ch m ρ c t)
  exact fun k r e => (h k r e).trans (tile m c _ t.val r e)

/-- So the blocks hold after the first point of a tile -/
theorem left_own (t : Fin (cfgA ch).N) (ht : t.val % 4 = 0) :
    Has2 (φ := .f32) (traj0 ch m ρ c t.val t.isLt).1 (fun r e => sums m c (ch.val / 2) (t.val / 4 * 512 + r) e) := by
  obtain ⟨h1, h2, e⟩ := step_own ch m ρ c t ((first_point t).mpr ht) (prev0 ch m ρ c t)
  rw [traj0_eq, e]
  exact point_own ch m ρ c t ht h1 h2

/-- and after each of the others. -/
theorem left_out (t : Fin (cfgA ch).N) (ht : t.val % 4 ≠ 0) :
    Has3 (φ := .bf16) (traj0 ch m ρ c t.val t.isLt).2 (fun _ r e => sums m c (ch.val / 2 ^^^ (t.val % 4)) (t.val / 4 * 512 + r) e) := by
  obtain ⟨h1, h2, e⟩ := step_out ch m ρ c t (fun h => ht ((first_point t).mp h)) (prev0 ch m ρ c t)
  rw [traj0_eq, e]
  exact point_out ch m ρ c t h1 h2

/-- The first's block stays as it was at the others. -/
theorem kept_own (n : ℕ) (hn : n < (cfgA ch).N) :
    Has2 (φ := .f32) (traj0 ch m ρ c n hn).1 (fun r e => sums m c (ch.val / 2) (n / 4 * 512 + r) e) :=
  kept (x := fun n hn => (traj0 ch m ρ c n hn).1) (fun n hn h => left_own ch m ρ c ⟨n, hn⟩ h) (fun n hn h => by
    have q0 : ¬P0_0 ch ⟨n + 1, hn⟩ := fun h' => h ((first_point _).mp h')
    show (step0 ch m ρ c ⟨n + 1, hn⟩ (traj0 ch m ρ c n (Nat.lt_of_succ_lt hn))).1 = _
    rw [step0_B ch m ρ c _ _ q0]
    simp only [(sched0_B ch ⟨n + 1, hn⟩ q0).2.1, Bool.false_eq_true, ↓reduceIte]) n hn

theorem points : (cfgA ch).N = 8 := rfl

/-- The arrays at the end: the sum for the core's own chip, and those for the three others. -/
theorem array2 : Has2 (φ := .f32) ((dats ch m ρ 0 c).arrAt 2 (cfgA ch).N : Vec Ideal S1024x1024 .f32) (sums m c (ch.val / 2)) := by
  have hl : ∀ i : Fin 2, 4 * i.val + 3 < (cfgA ch).N := fun i => by rw [points]; omega
  have d4 : ∀ i : Fin 2, (4 * i.val + 3) / 4 = i.val := fun i => by omega
  refine has_of_blocks (N := 2) (a := 512) (b := 1024) (by decide) (by decide) (fun i => at2 ch ⟨4 * i.val + 3, hl i⟩)
    (fun i => (((cfgA ch).win 2).blk ⟨4 * i.val + 3, hl i⟩).view.emb) (fun _ j k => ((cfgA ch).win 2).rect_emb_val _ j k)
    (fun p q hp hq => ⟨⟨p, by omega⟩, by rw [(index_own ch _).1]; exact d4 ⟨p, by omega⟩, by rw [(index_own ch _).2]; omega⟩) fun i r e => ?_
  refine ((dats ch m ρ 0 c).arrAt_emb_eq_flushed 2 (fun t t' ht ht' hne => ((cfgA ch).win 2).disjoint_blk fun h => hne (Fin.ext ?_))
    ⟨4 * i.val + 3, hl i⟩ ((flush_own ch _).mpr (by show (4 * i.val + 3) % 4 = 3; omega)) (ix2 r e)).trans ?_
  · have h' : at2 ch t 0 = at2 ch t' 0 := congrFun (f := at2 ch t) (g := at2 ch t') h 0
    have h'' : t.val / 4 = t'.val / 4 := (index_own ch t).1.symm.trans (h'.trans (index_own ch t').1)
    have n1 := (flush_own ch t).mp ht; have n2 := (flush_own ch t').mp ht'
    omega
  refine (congrFun (after0_2 ch m ρ c ⟨4 * i.val + 3, hl i⟩) (ix2 r e)).trans ?_
  rw [(index_own ch _).1, (index_own ch _).2]
  simp only [Nat.zero_mul, Nat.zero_add]
  exact kept_own ch m ρ c _ (hl i) r e

theorem array3 : Has3 (φ := .bf16) ((dats ch m ρ 0 c).arrAt 3 (cfgA ch).N : Vec Ideal S3x1024x1024 .bf16)
    (fun k => sums m c (ch.val / 2 ^^^ (k + 1))) := by
  have hl : ∀ k : Fin 3 × Fin 2, 4 * k.2.val + (k.1.val + 1) < (cfgA ch).N := fun k => by rw [points]; omega
  have m4 : ∀ k : Fin 3 × Fin 2, (4 * k.2.val + (k.1.val + 1)) % 4 = k.1.val + 1 := fun k => by omega
  have d4 : ∀ k : Fin 3 × Fin 2, (4 * k.2.val + (k.1.val + 1)) / 4 = k.2.val := fun k => by omega
  refine has_of_blocks1 (ι := Fin 3 × Fin 2) (a := 512) (b := 1024) (by decide) (by decide) (fun k => at3 ch ⟨_, hl k⟩)
    (fun k => (((cfgA ch).win 3).blk ⟨_, hl k⟩).view.emb) (fun k j i => ((cfgA ch).win 3).rect_emb_val _ j i)
    (fun p q s hp hq hs => ⟨(⟨p, hp⟩, ⟨q, by omega⟩), by rw [(index_out ch _).1]; show (4 * q + (p + 1)) % 4 - 1 = p; omega,
      by rw [(index_out ch _).2.1]; show (4 * q + (p + 1)) / 4 = q; omega,
      by rw [(index_out ch _).2.2]; omega⟩) fun k u r e => ?_
  have hn : ∀ t : Fin (cfgA ch).N, ((cfgA ch).win 3).flush t = true → t.val % 4 ≠ 0 := fun t ht h0 => by
    have h := (sched0_A ch t ((first_point t).mpr h0)).2.2.2.2.1
    exact absurd (ht.symm.trans h) (by decide)
  have hk : (4 * k.2.val + (k.1.val + 1)) % 4 ≠ 0 := by rw [m4]; exact Nat.succ_ne_zero _
  have q0 : ¬P0_0 ch ⟨_, hl k⟩ := fun h => hk ((first_point _).mp h)
  refine ((dats ch m ρ 0 c).arrAt_emb_eq_flushed 3 (fun t t' ht ht' hne => ((cfgA ch).win 3).disjoint_blk fun h => hne (Fin.ext ?_))
    ⟨_, hl k⟩ (sched0_B ch _ q0).2.2.2.1 (ix3 u r e)).trans ?_
  · have h' : at3 ch t = at3 ch t' := h
    have e1 : t.val % 4 - 1 = t'.val % 4 - 1 := (index_out ch t).1.symm.trans ((congrFun h' 0).trans (index_out ch t').1)
    have e2 : t.val / 4 = t'.val / 4 := (index_out ch t).2.1.symm.trans ((congrFun h' 1).trans (index_out ch t').2.1)
    have n1 := hn t ht; have n2 := hn t' ht'
    omega
  refine (congrFun (after0_3 ch m ρ c ⟨_, hl k⟩) (ix3 u r e)).trans ?_
  refine (left_out ch m ρ c ⟨_, hl k⟩ hk u r e).trans ?_
  rw [(index_out ch _).1, (index_out ch _).2.1, (index_out ch _).2.2]
  simp only [m4, d4, Nat.zero_mul, Nat.zero_add, Nat.add_sub_cancel]

end arrays

end Cert.PairInProof

end
-- ==== Proof.PairInClaims.lean ====
/-
  The claims about the sum of the gradients of `w_in` over a chip's two cores: the frames and the value.
-/
module

public import proofs.«01_k».proof.Defs
public import proofs.«01_k».proof.Proof.PairInResult
public import proofs.«01_k».proof.Proof.Gen.PairIn.Flash
public import proofs.«01_k».proof.Proof.Gen.Pre_placed_in
public import proofs.«01_k».proof.Proof.Gen.PairInReferenceIdeal.Run
public import proofs.«01_k».proof.Proof.Gen.PairInReferenceIdeal.Read
public import Idealize.ShloMosaic.Adequacy
public import Idealize.ShloMosaic.Init

@[expose] public section

noncomputable section

namespace Cert.PairInProof

open Idealize.ShloMosaic Idealize.SL.Sem Cert.Cells Cert.Adam Cert.Pair

/-! ## The place -/

/-- The two words of the table of core `ch`. -/
theorem pin_words : ∀ ch : Fin 8, Cert.PairInIdeal.Gen.pinT_0 ch (ix1 0) = BitVec.ofNat 32 (ch.val / 2)
    ∧ Cert.PairInIdeal.Gen.pinT_0 ch (ix1 1) = BitVec.ofNat 32 (ch.val % 2) := by decide
theorem pin_words_p : ∀ ch : Fin 8, Cert.PairIn.Gen.pinT_0 ch (ix1 0) = BitVec.ofNat 32 (ch.val / 2)
    ∧ Cert.PairIn.Gen.pinT_0 ch (ix1 1) = BitVec.ofNat 32 (ch.val % 2) := by decide

/-- The precondition says that the table is some core's. -/
theorem pinned (m : (ℓ : Loc Cert.PairInIdeal.nD Cert.PairInIdeal.τ Cert.PairInIdeal.sig) → Buf (Elt Ideal) ℓ)
    (h : Cert.Pre_PairInIdeal m) : ∃ ch, Cert.PairInIdeal.Gen.Pinned ch m := by
  obtain ⟨ch, e0, e1⟩ := place_number (place_words (h 0))
  refine ⟨ch, fun c => ?_⟩
  obtain rfl : c = 0 := Subsingleton.elim _ _
  exact table_ext (e0.trans (pin_words ch).1.symm) (e1.trans (pin_words ch).2.symm)
theorem pinned_p (m : (ℓ : Loc Cert.PairIn.nD Cert.PairIn.τ Cert.PairIn.sig) → Buf (Elt Bits) ℓ)
    (h : Cert.Pre_PairIn m) : ∃ ch, Cert.PairIn.Gen.Pinned ch m := by
  obtain ⟨ch, e0, e1⟩ := place_number (place_words (h 0))
  refine ⟨ch, fun c => ?_⟩
  obtain rfl : c = 0 := Subsingleton.elim _ _
  exact table_ext (e0.trans (pin_words_p ch).1.symm) (e1.trans (pin_words_p ch).2.symm)

/-! ## The frames -/

/-- The kernel leaves its arguments as they were and every counter at zero. -/
theorem frame_p : Cert.quiescent_PairIn := fun m ρ h => (pinned_p m h).elim fun ch hp => Cert.PairIn.Gen.frame ch m ρ hp
theorem frame_pi : Cert.quiescent_PairInIdeal := fun m ρ h => (pinned m h).elim fun ch hp => Cert.PairInIdeal.Gen.frame ch m ρ hp

/-- So does the reference, which has no counter. -/
theorem frame_ri : Cert.quiescent_PairInReferenceIdeal := fun m ρ _ =>
  (θ_run Cert.PairInReferenceIdeal.defs _ _).mono (fun r h => ⟨fun c => (h c).2.2, sem_eq_zero_of_no_sems (by decide) r.2⟩)
    (Cert.PairInReferenceIdeal.Value.run (F := Ideal) m ρ)
theorem frame_ri_placed : Cert.quiescent_PairInReferenceIdeal_pre_placed_in := fun m ρ _ => frame_ri m ρ trivial

/-- The idealized kernel is the kernel's own text. -/
theorem preserves : Cert.preserves_PairIn_PairInIdeal := trivial

/-! ## The reference -/

section reference
open Cert.PairInReferenceIdeal Cert.PairInReferenceIdeal.Gen Cert.PairInReferenceIdeal.Read

variable {k : IVec ⟨1, ![2]⟩ 32} {n : ℕ} (hn : n < 4) (k0 : k (ix1 0) = BitVec.ofNat 32 n)
  (x : FVec Ideal ⟨3, ![4, 1024, 1024]⟩ .f32) (y : FVec Ideal ⟨3, ![4, 1024, 1024]⟩ .f32)

/-- The sums for the four chips. -/
theorem ref_sums : Has3 (φ := .f32) (val_main_v0 (F := Ideal) x y) (both 0 (entry3 x) (entry3 y)) := fun p r c =>
  congrArg₂ (fun u v : EReal => u + v) ((has_entry3 x p r c).trans (congrArg (entry3 x p · c) (Nat.zero_add r).symm)) (has_entry3 y p r c)

include hn k0 in
/-- That for the core's own chip, -/
theorem ref_own : Has2 (φ := .f32) (val_main_v16 (F := Ideal) k x y) (both 0 (entry3 x) (entry3 y) n) :=
  has_at (ref_sums x y) bcast_S_S1024x1024 hn (fun i => (word k 0 _ _ i).trans k0) _ _ _ _ _

include hn k0 in
/-- and those for the three others. -/
theorem ref_out : Has3 (φ := .bf16) (val_main_v72 (F := Ideal) k x y)
    (fun s => both 0 (entry3 x) (entry3 y) (n ^^^ (s + 1))) := by
  have at' : ∀ s : Fin 4, n ^^^ s.val < 4 := fun s => (other_chip ⟨n, hn⟩ s).2
  have h1 : Has2 (φ := .f32) (val_main_v33 (F := Ideal) k x y) _ :=
    has_at (ref_sums x y) bcast_S_S1024x1024 (at' 1) (chosen k0 1 hn _ _) _ _ _ _ _
  have h2 : Has2 (φ := .f32) (val_main_v50 (F := Ideal) k x y) _ :=
    has_at (ref_sums x y) bcast_S_S1024x1024 (at' 2) (chosen k0 2 hn _ _) _ _ _ _ _
  have h3 : Has2 (φ := .f32) (val_main_v67 (F := Ideal) k x y) _ :=
    has_at (ref_sums x y) bcast_S_S1024x1024 (at' 3) (chosen k0 3 hn _ _) _ _ _ _ _
  have h : Has3 (φ := .f32) (val_main_v71 (F := Ideal) k x y) (fun s => both 0 (entry3 x) (entry3 y) (n ^^^ (s + 1))) :=
    has_stack (has_lift h1 (by decide) (by decide) _) (has_lift h2 (by decide) (by decide) _) (has_lift h3 (by decide) (by decide) _) _
  exact h

end reference

/-! ## The value -/

section kernel
open Idealize.ShloMosaic.TcCoe Cert.PairInIdeal Cert.PairInIdeal.Gen

/-- What the kernel's run leaves. -/
theorem run (ch : Fin 8) (m : (ℓ : Loc nD τ sig) → Buf (Elt Ideal) ℓ) (ρ : Dev nD → PrngReg) (hp : Pinned ch m) :
    θ_run (defs (F := Ideal)) (onTc (τ := τ) (main (F := Ideal))) ⟨m, fun _ => 0, ρ⟩ fun r => ∀ c : Dev nD,
      r.2.mem ((c.tc : Thread nD τ).loc main_v0_0) = (dats ch m ρ 0 c).arrAt 2 (cfgA ch).N
      ∧ r.2.mem ((c.tc : Thread nD τ).loc main_v0_1) = (dats ch m ρ 0 c).arrAt 3 (cfgA ch).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h.1 c).1 2, (h.1 c).1 3, h.2 c⟩) (θ_run_and (run_main ch m ρ hp) (unchanged ch m ρ hp))
end kernel

/-- Kernel and reference leave the same sums. -/
theorem algebraic : Cert.algebraic_PairInIdeal_PairInReferenceIdeal := by
  intro m ρ m' ρ' hpre hag
  obtain ⟨ch, hp⟩ := pinned m hpre
  refine ⟨fun c => (Cert.PairInIdeal.Gen.dats ch m ρ 0 c).arrAt 2 (Cert.PairInIdeal.Gen.cfgA ch).N,
    fun c => (Cert.PairInIdeal.Gen.dats ch m ρ 0 c).arrAt 3 (Cert.PairInIdeal.Gen.cfgA ch).N, run ch m ρ hp, ?_⟩
  refine (θ_run Cert.PairInReferenceIdeal.defs _ _).mono (fun r h c => ?_) (Cert.PairInReferenceIdeal.Value.run (F := Ideal) m' ρ')
  obtain ⟨a0, a1, a2⟩ := hag c
  obtain ⟨h0, h1, hr⟩ := h c
  have e0 := h0.trans (Cert.PairInReferenceIdeal.Read.val_main_v16_eq _ _ _)
  have e1 := h1.trans (Cert.PairInReferenceIdeal.Read.val_main_v72_eq m' c)
  rw [a0, a1, a2, hp c] at e0 e1
  have hn : ch.val / 2 < 4 := by omega
  exact ⟨e0.trans (Cert.Chip.ext (ref_own hn (pin_words ch).1 _ _) (array2 ch m ρ c)),
    e1.trans (ext (ref_out hn (pin_words ch).1 _ _) (array3 ch m ρ c)), hr⟩

end Cert.PairInProof

end
-- ==== Proof.lean ====
/- The proof of the claims about sixteen calls: the spatial gating branch's backward call (Proof/GmlpClaims.lean), the feed-forward
   call (Proof/FfnClaims.lean), three products that give weights' gradients (Proof/GateUpClaims.lean, Proof/DownClaims.lean,
   Proof/SquareClaims.lean), the merge of the two branches (Proof/MergeClaims.lean), the gating branch's forward call
   (Proof/GatingClaims.lean), the optimiser's update of the input projection's weight (Proof/AdamInClaims.lean), four sums of gradients over
   devices (Proof/ChipGateUpClaims.lean, Proof/ChipDownClaims.lean, Proof/ChipSquaresClaims.lean, Proof/ChipInClaims.lean), the
   optimiser's update of the three square weights (Proof/AdamSquaresClaims.lean) and three sums of gradients over a chip's two cores
   (Proof/PairDownClaims.lean, Proof/PairGateUpClaims.lean, Proof/PairInClaims.lean),
   behind the witnesses of the side conditions that the programs and the preconditions state. -/
module

public import proofs.«01_k».proof.Defs
public import proofs.«01_k».proof.Proof.GmlpClaims
public import proofs.«01_k».proof.Proof.FfnClaims
public import proofs.«01_k».proof.Proof.GateUpClaims
public import proofs.«01_k».proof.Proof.DownClaims
public import proofs.«01_k».proof.Proof.SquareClaims
public import proofs.«01_k».proof.Proof.MergeClaims
public import proofs.«01_k».proof.Proof.GatingClaims
public import proofs.«01_k».proof.Proof.AdamInClaims
public import proofs.«01_k».proof.Proof.ChipGateUpClaims
public import proofs.«01_k».proof.Proof.ChipDownClaims
public import proofs.«01_k».proof.Proof.ChipSquaresClaims
public import proofs.«01_k».proof.Proof.ChipInClaims
public import proofs.«01_k».proof.Proof.AdamSquaresClaims
public import proofs.«01_k».proof.Proof.PairDownClaims
public import proofs.«01_k».proof.Proof.PairGateUpClaims
public import proofs.«01_k».proof.Proof.PairInClaims

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Ffn.Gen.facts, Cert.FfnIdeal.Gen.facts, Cert.FfnReferenceIdeal.Gen.facts,
  Cert.GateUp.Gen.facts, Cert.GateUpIdeal.Gen.facts, Cert.GateUpReferenceIdeal.Gen.facts,
  Cert.Down.Gen.facts, Cert.DownIdeal.Gen.facts, Cert.DownReferenceIdeal.Gen.facts,
  Cert.Square.Gen.facts, Cert.SquareIdeal.Gen.facts, Cert.SquareReferenceIdeal.Gen.facts,
  Cert.Merge.Gen.facts, Cert.MergeIdeal.Gen.facts, Cert.MergeReferenceIdeal.Gen.facts,
  Cert.Gating.Gen.facts, Cert.GatingIdeal.Gen.facts, Cert.GatingReferenceIdeal.Gen.facts,
  Cert.AdamIn.Gen.facts, Cert.AdamInIdeal.Gen.facts, Cert.AdamInReferenceIdeal.Gen.facts,
  Cert.ChipGateUp.Gen.facts, Cert.ChipGateUpIdeal.Gen.facts, Cert.ChipGateUpReferenceIdeal.Gen.facts,
  Cert.ChipDown.Gen.facts, Cert.ChipDownIdeal.Gen.facts, Cert.ChipDownReferenceIdeal.Gen.facts,
  Cert.ChipSquares.Gen.facts, Cert.ChipSquaresIdeal.Gen.facts, Cert.ChipSquaresReferenceIdeal.Gen.facts,
  Cert.ChipIn.Gen.facts, Cert.ChipInIdeal.Gen.facts, Cert.ChipInReferenceIdeal.Gen.facts,
  Cert.AdamSquares.Gen.facts, Cert.AdamSquaresIdeal.Gen.facts, Cert.AdamSquaresReferenceIdeal.Gen.facts,
  Cert.PairDown.Gen.facts, Cert.PairDownIdeal.Gen.facts, Cert.PairDownReferenceIdeal.Gen.facts,
  Cert.PairGateUp.Gen.facts, Cert.PairGateUpIdeal.Gen.facts, Cert.PairGateUpReferenceIdeal.Gen.facts,
  Cert.PairIn.Gen.facts, Cert.PairInIdeal.Gen.facts, Cert.PairInReferenceIdeal.Gen.facts,
  Cert.Gmlp.finite_facts, Cert.FfnProof.ffn_finite_facts, Cert.Pre_placed.Gen.facts, Cert.Pre_placed_gate_up.Gen.facts,
  Cert.Pre_placed_in.Gen.facts,
  Cert.Gmlp.frame_p, Cert.Gmlp.frame_pi, Cert.Gmlp.frame_pi_finite, Cert.Gmlp.frame_ri, Cert.Gmlp.frame_ri_finite,
  Cert.FfnProof.frame_p, Cert.FfnProof.frame_pi, Cert.FfnProof.frame_pi_finite, Cert.FfnProof.frame_ri, Cert.FfnProof.frame_ri_finite,
  Cert.GateUpProof.frame_p, Cert.GateUpProof.frame_pi, Cert.GateUpProof.frame_ri,
  Cert.DownProof.frame_p, Cert.DownProof.frame_pi, Cert.DownProof.frame_ri,
  Cert.SquareProof.frame_p, Cert.SquareProof.frame_pi, Cert.SquareProof.frame_ri,
  Cert.MergeProof.frame_p, Cert.MergeProof.frame_pi, Cert.MergeProof.frame_ri,
  Cert.GatingProof.frame_p, Cert.GatingProof.frame_pi, Cert.GatingProof.frame_ri,
  Cert.AdamInProof.frame_p, Cert.AdamInProof.frame_pi, Cert.AdamInProof.frame_ri,
  Cert.ChipGateUpProof.frame_p, Cert.ChipGateUpProof.frame_pi, Cert.ChipGateUpProof.frame_ri,
  Cert.ChipDownProof.frame_p, Cert.ChipDownProof.frame_pi, Cert.ChipDownProof.frame_ri,
  Cert.ChipSquaresProof.frame_p, Cert.ChipSquaresProof.frame_pi, Cert.ChipSquaresProof.frame_ri,
  Cert.ChipInProof.frame_p, Cert.ChipInProof.frame_pi, Cert.ChipInProof.frame_ri,
  Cert.AdamSquaresProof.frame_p, Cert.AdamSquaresProof.frame_pi, Cert.AdamSquaresProof.frame_ri,
  Cert.PairDownProof.frame_p, Cert.PairDownProof.frame_pi, Cert.PairDownProof.frame_ri, Cert.PairDownProof.frame_ri_placed,
  Cert.PairGateUpProof.frame_p, Cert.PairGateUpProof.frame_pi, Cert.PairGateUpProof.frame_ri, Cert.PairGateUpProof.frame_ri_placed,
  Cert.PairInProof.frame_p, Cert.PairInProof.frame_pi, Cert.PairInProof.frame_ri, Cert.PairInProof.frame_ri_placed,
  Cert.Gmlp.preserves, Cert.Gmlp.algebraic, Cert.FfnProof.preserves, Cert.FfnProof.algebraic,
  Cert.GateUpProof.preserves, Cert.GateUpProof.algebraic, Cert.DownProof.preserves, Cert.DownProof.algebraic,
  Cert.SquareProof.preserves, Cert.SquareProof.algebraic, Cert.MergeProof.preserves, Cert.MergeProof.algebraic,
  Cert.GatingProof.preserves, Cert.GatingProof.algebraic,
  Cert.AdamInProof.preserves, Cert.AdamInProof.algebraic,
  Cert.ChipGateUpProof.preserves, Cert.ChipGateUpProof.algebraic, Cert.ChipDownProof.preserves, Cert.ChipDownProof.algebraic,
  Cert.ChipSquaresProof.preserves, Cert.ChipSquaresProof.algebraic, Cert.ChipInProof.preserves, Cert.ChipInProof.algebraic,
  Cert.AdamSquaresProof.preserves, Cert.AdamSquaresProof.algebraic,
  Cert.PairDownProof.preserves, Cert.PairDownProof.algebraic, Cert.PairGateUpProof.preserves, Cert.PairGateUpProof.algebraic,
  Cert.PairInProof.preserves, Cert.PairInProof.algebraic⟩

end Cert.Proof

end
